-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_pre [hPre_loss_pre : Cert.Pre_loss_pre.Facts] (m : (ℓ : Loc Cert.LossIdeal.nD Cert.LossIdeal.τ Cert.LossIdeal.sig) → Buf (Elt Ideal) ℓ) : Prop :=
  ∀ c : Dev Cert.LossIdeal.nD,
    (Cert.Pre_loss_pre.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_pre.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_pre.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_pre [hPre_loss_pre : Cert.Pre_loss_pre.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_pre.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_pre.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_pre.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Axb (m : (ℓ : Loc Cert.Axb.nD Cert.Axb.τ Cert.Axb.sig) → Buf (Elt Bits) ℓ) : Prop :=
  True

def Pre_AxbIdeal (m : (ℓ : Loc Cert.AxbIdeal.nD Cert.AxbIdeal.τ Cert.AxbIdeal.sig) → Buf (Elt Ideal) ℓ) : Prop :=
  True

def Pre_AxbIdeal_axb_pre [hPre_axb_pre : Cert.Pre_axb_pre.Facts] (m : (ℓ : Loc Cert.AxbIdeal.nD Cert.AxbIdeal.τ Cert.AxbIdeal.sig) → Buf (Elt Ideal) ℓ) : Prop :=
  ∀ c : Dev Cert.AxbIdeal.nD,
    (Cert.Pre_axb_pre.fn (F := Ideal) (m ((c.tc : Thread Cert.AxbIdeal.nD Cert.AxbIdeal.τ).loc Cert.AxbIdeal.main_arg0)) (m ((c.tc : Thread Cert.AxbIdeal.nD Cert.AxbIdeal.τ).loc Cert.AxbIdeal.main_arg1)) (m ((c.tc : Thread Cert.AxbIdeal.nD Cert.AxbIdeal.τ).loc Cert.AxbIdeal.main_arg2)) (m ((c.tc : Thread Cert.AxbIdeal.nD Cert.AxbIdeal.τ).loc Cert.AxbIdeal.main_arg3))).1 = (fun _ => 1#1)
    ∧ (Cert.Pre_axb_pre.fn (F := Ideal) (m ((c.tc : Thread Cert.AxbIdeal.nD Cert.AxbIdeal.τ).loc Cert.AxbIdeal.main_arg0)) (m ((c.tc : Thread Cert.AxbIdeal.nD Cert.AxbIdeal.τ).loc Cert.AxbIdeal.main_arg1)) (m ((c.tc : Thread Cert.AxbIdeal.nD Cert.AxbIdeal.τ).loc Cert.AxbIdeal.main_arg2)) (m ((c.tc : Thread Cert.AxbIdeal.nD Cert.AxbIdeal.τ).loc Cert.AxbIdeal.main_arg3))).2.1 = (fun _ => 1#1)
    ∧ (Cert.Pre_axb_pre.fn (F := Ideal) (m ((c.tc : Thread Cert.AxbIdeal.nD Cert.AxbIdeal.τ).loc Cert.AxbIdeal.main_arg0)) (m ((c.tc : Thread Cert.AxbIdeal.nD Cert.AxbIdeal.τ).loc Cert.AxbIdeal.main_arg1)) (m ((c.tc : Thread Cert.AxbIdeal.nD Cert.AxbIdeal.τ).loc Cert.AxbIdeal.main_arg2)) (m ((c.tc : Thread Cert.AxbIdeal.nD Cert.AxbIdeal.τ).loc Cert.AxbIdeal.main_arg3))).2.2.1 = (fun _ => 1#1)
    ∧ (Cert.Pre_axb_pre.fn (F := Ideal) (m ((c.tc : Thread Cert.AxbIdeal.nD Cert.AxbIdeal.τ).loc Cert.AxbIdeal.main_arg0)) (m ((c.tc : Thread Cert.AxbIdeal.nD Cert.AxbIdeal.τ).loc Cert.AxbIdeal.main_arg1)) (m ((c.tc : Thread Cert.AxbIdeal.nD Cert.AxbIdeal.τ).loc Cert.AxbIdeal.main_arg2)) (m ((c.tc : Thread Cert.AxbIdeal.nD Cert.AxbIdeal.τ).loc Cert.AxbIdeal.main_arg3))).2.2.2 = (fun _ => 1#1)

def Pre_AxbRefIdeal (m : (ℓ : Loc Cert.AxbRefIdeal.nD Cert.AxbRefIdeal.τ Cert.AxbRefIdeal.sig) → Buf (Elt Ideal) ℓ) : Prop :=
  True

def Pre_AxbRefIdeal_axb_pre [hPre_axb_pre : Cert.Pre_axb_pre.Facts] (m : (ℓ : Loc Cert.AxbRefIdeal.nD Cert.AxbRefIdeal.τ Cert.AxbRefIdeal.sig) → Buf (Elt Ideal) ℓ) : Prop :=
  ∀ c : Dev Cert.AxbRefIdeal.nD,
    (Cert.Pre_axb_pre.fn (F := Ideal) (m ((c.tc : Thread Cert.AxbRefIdeal.nD Cert.AxbRefIdeal.τ).loc Cert.AxbRefIdeal.main_arg0)) (m ((c.tc : Thread Cert.AxbRefIdeal.nD Cert.AxbRefIdeal.τ).loc Cert.AxbRefIdeal.main_arg1)) (m ((c.tc : Thread Cert.AxbRefIdeal.nD Cert.AxbRefIdeal.τ).loc Cert.AxbRefIdeal.main_arg2)) (m ((c.tc : Thread Cert.AxbRefIdeal.nD Cert.AxbRefIdeal.τ).loc Cert.AxbRefIdeal.main_arg3))).1 = (fun _ => 1#1)
    ∧ (Cert.Pre_axb_pre.fn (F := Ideal) (m ((c.tc : Thread Cert.AxbRefIdeal.nD Cert.AxbRefIdeal.τ).loc Cert.AxbRefIdeal.main_arg0)) (m ((c.tc : Thread Cert.AxbRefIdeal.nD Cert.AxbRefIdeal.τ).loc Cert.AxbRefIdeal.main_arg1)) (m ((c.tc : Thread Cert.AxbRefIdeal.nD Cert.AxbRefIdeal.τ).loc Cert.AxbRefIdeal.main_arg2)) (m ((c.tc : Thread Cert.AxbRefIdeal.nD Cert.AxbRefIdeal.τ).loc Cert.AxbRefIdeal.main_arg3))).2.1 = (fun _ => 1#1)
    ∧ (Cert.Pre_axb_pre.fn (F := Ideal) (m ((c.tc : Thread Cert.AxbRefIdeal.nD Cert.AxbRefIdeal.τ).loc Cert.AxbRefIdeal.main_arg0)) (m ((c.tc : Thread Cert.AxbRefIdeal.nD Cert.AxbRefIdeal.τ).loc Cert.AxbRefIdeal.main_arg1)) (m ((c.tc : Thread Cert.AxbRefIdeal.nD Cert.AxbRefIdeal.τ).loc Cert.AxbRefIdeal.main_arg2)) (m ((c.tc : Thread Cert.AxbRefIdeal.nD Cert.AxbRefIdeal.τ).loc Cert.AxbRefIdeal.main_arg3))).2.2.1 = (fun _ => 1#1)
    ∧ (Cert.Pre_axb_pre.fn (F := Ideal) (m ((c.tc : Thread Cert.AxbRefIdeal.nD Cert.AxbRefIdeal.τ).loc Cert.AxbRefIdeal.main_arg0)) (m ((c.tc : Thread Cert.AxbRefIdeal.nD Cert.AxbRefIdeal.τ).loc Cert.AxbRefIdeal.main_arg1)) (m ((c.tc : Thread Cert.AxbRefIdeal.nD Cert.AxbRefIdeal.τ).loc Cert.AxbRefIdeal.main_arg2)) (m ((c.tc : Thread Cert.AxbRefIdeal.nD Cert.AxbRefIdeal.τ).loc Cert.AxbRefIdeal.main_arg3))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_pre [hPre_inproj_pre : Cert.Pre_inproj_pre.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_pre.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).1 = (fun _ => 1#1)
    ∧ (Cert.Pre_inproj_pre.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.1 = (fun _ => 1#1)
    ∧ (Cert.Pre_inproj_pre.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.1 = (fun _ => 1#1)
    ∧ (Cert.Pre_inproj_pre.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.1 = (fun _ => 1#1)
    ∧ (Cert.Pre_inproj_pre.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6))).2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_pre [hPre_inproj_pre : Cert.Pre_inproj_pre.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_pre.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6))).1 = (fun _ => 1#1)
    ∧ (Cert.Pre_inproj_pre.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6))).2.1 = (fun _ => 1#1)
    ∧ (Cert.Pre_inproj_pre.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6))).2.2.1 = (fun _ => 1#1)
    ∧ (Cert.Pre_inproj_pre.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6))).2.2.2.1 = (fun _ => 1#1)
    ∧ (Cert.Pre_inproj_pre.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6))).2.2.2.2 = (fun _ => 1#1)

def Pre_Ffnb (m : (ℓ : Loc Cert.Ffnb.nD Cert.Ffnb.τ Cert.Ffnb.sig) → Buf (Elt Bits) ℓ) : Prop :=
  True

def Pre_FfnbIdeal (m : (ℓ : Loc Cert.FfnbIdeal.nD Cert.FfnbIdeal.τ Cert.FfnbIdeal.sig) → Buf (Elt Ideal) ℓ) : Prop :=
  True

def Pre_FfnbIdeal_ffnb_pre [hPre_ffnb_pre : Cert.Pre_ffnb_pre.Facts] (m : (ℓ : Loc Cert.FfnbIdeal.nD Cert.FfnbIdeal.τ Cert.FfnbIdeal.sig) → Buf (Elt Ideal) ℓ) : Prop :=
  ∀ c : Dev Cert.FfnbIdeal.nD,
    (Cert.Pre_ffnb_pre.fn (F := Ideal) (m ((c.tc : Thread Cert.FfnbIdeal.nD Cert.FfnbIdeal.τ).loc Cert.FfnbIdeal.main_arg0)) (m ((c.tc : Thread Cert.FfnbIdeal.nD Cert.FfnbIdeal.τ).loc Cert.FfnbIdeal.main_arg1)) (m ((c.tc : Thread Cert.FfnbIdeal.nD Cert.FfnbIdeal.τ).loc Cert.FfnbIdeal.main_arg2)) (m ((c.tc : Thread Cert.FfnbIdeal.nD Cert.FfnbIdeal.τ).loc Cert.FfnbIdeal.main_arg3)) (m ((c.tc : Thread Cert.FfnbIdeal.nD Cert.FfnbIdeal.τ).loc Cert.FfnbIdeal.main_arg4)) (m ((c.tc : Thread Cert.FfnbIdeal.nD Cert.FfnbIdeal.τ).loc Cert.FfnbIdeal.main_arg5)) (m ((c.tc : Thread Cert.FfnbIdeal.nD Cert.FfnbIdeal.τ).loc Cert.FfnbIdeal.main_arg6))).1 = (fun _ => 1#1)
    ∧ (Cert.Pre_ffnb_pre.fn (F := Ideal) (m ((c.tc : Thread Cert.FfnbIdeal.nD Cert.FfnbIdeal.τ).loc Cert.FfnbIdeal.main_arg0)) (m ((c.tc : Thread Cert.FfnbIdeal.nD Cert.FfnbIdeal.τ).loc Cert.FfnbIdeal.main_arg1)) (m ((c.tc : Thread Cert.FfnbIdeal.nD Cert.FfnbIdeal.τ).loc Cert.FfnbIdeal.main_arg2)) (m ((c.tc : Thread Cert.FfnbIdeal.nD Cert.FfnbIdeal.τ).loc Cert.FfnbIdeal.main_arg3)) (m ((c.tc : Thread Cert.FfnbIdeal.nD Cert.FfnbIdeal.τ).loc Cert.FfnbIdeal.main_arg4)) (m ((c.tc : Thread Cert.FfnbIdeal.nD Cert.FfnbIdeal.τ).loc Cert.FfnbIdeal.main_arg5)) (m ((c.tc : Thread Cert.FfnbIdeal.nD Cert.FfnbIdeal.τ).loc Cert.FfnbIdeal.main_arg6))).2.1 = (fun _ => 1#1)
    ∧ (Cert.Pre_ffnb_pre.fn (F := Ideal) (m ((c.tc : Thread Cert.FfnbIdeal.nD Cert.FfnbIdeal.τ).loc Cert.FfnbIdeal.main_arg0)) (m ((c.tc : Thread Cert.FfnbIdeal.nD Cert.FfnbIdeal.τ).loc Cert.FfnbIdeal.main_arg1)) (m ((c.tc : Thread Cert.FfnbIdeal.nD Cert.FfnbIdeal.τ).loc Cert.FfnbIdeal.main_arg2)) (m ((c.tc : Thread Cert.FfnbIdeal.nD Cert.FfnbIdeal.τ).loc Cert.FfnbIdeal.main_arg3)) (m ((c.tc : Thread Cert.FfnbIdeal.nD Cert.FfnbIdeal.τ).loc Cert.FfnbIdeal.main_arg4)) (m ((c.tc : Thread Cert.FfnbIdeal.nD Cert.FfnbIdeal.τ).loc Cert.FfnbIdeal.main_arg5)) (m ((c.tc : Thread Cert.FfnbIdeal.nD Cert.FfnbIdeal.τ).loc Cert.FfnbIdeal.main_arg6))).2.2.1 = (fun _ => 1#1)
    ∧ (Cert.Pre_ffnb_pre.fn (F := Ideal) (m ((c.tc : Thread Cert.FfnbIdeal.nD Cert.FfnbIdeal.τ).loc Cert.FfnbIdeal.main_arg0)) (m ((c.tc : Thread Cert.FfnbIdeal.nD Cert.FfnbIdeal.τ).loc Cert.FfnbIdeal.main_arg1)) (m ((c.tc : Thread Cert.FfnbIdeal.nD Cert.FfnbIdeal.τ).loc Cert.FfnbIdeal.main_arg2)) (m ((c.tc : Thread Cert.FfnbIdeal.nD Cert.FfnbIdeal.τ).loc Cert.FfnbIdeal.main_arg3)) (m ((c.tc : Thread Cert.FfnbIdeal.nD Cert.FfnbIdeal.τ).loc Cert.FfnbIdeal.main_arg4)) (m ((c.tc : Thread Cert.FfnbIdeal.nD Cert.FfnbIdeal.τ).loc Cert.FfnbIdeal.main_arg5)) (m ((c.tc : Thread Cert.FfnbIdeal.nD Cert.FfnbIdeal.τ).loc Cert.FfnbIdeal.main_arg6))).2.2.2.1 = (fun _ => 1#1)
    ∧ (Cert.Pre_ffnb_pre.fn (F := Ideal) (m ((c.tc : Thread Cert.FfnbIdeal.nD Cert.FfnbIdeal.τ).loc Cert.FfnbIdeal.main_arg0)) (m ((c.tc : Thread Cert.FfnbIdeal.nD Cert.FfnbIdeal.τ).loc Cert.FfnbIdeal.main_arg1)) (m ((c.tc : Thread Cert.FfnbIdeal.nD Cert.FfnbIdeal.τ).loc Cert.FfnbIdeal.main_arg2)) (m ((c.tc : Thread Cert.FfnbIdeal.nD Cert.FfnbIdeal.τ).loc Cert.FfnbIdeal.main_arg3)) (m ((c.tc : Thread Cert.FfnbIdeal.nD Cert.FfnbIdeal.τ).loc Cert.FfnbIdeal.main_arg4)) (m ((c.tc : Thread Cert.FfnbIdeal.nD Cert.FfnbIdeal.τ).loc Cert.FfnbIdeal.main_arg5)) (m ((c.tc : Thread Cert.FfnbIdeal.nD Cert.FfnbIdeal.τ).loc Cert.FfnbIdeal.main_arg6))).2.2.2.2 = (fun _ => 1#1)

def Pre_FfnbRefIdeal (m : (ℓ : Loc Cert.FfnbRefIdeal.nD Cert.FfnbRefIdeal.τ Cert.FfnbRefIdeal.sig) → Buf (Elt Ideal) ℓ) : Prop :=
  True

def Pre_FfnbRefIdeal_ffnb_pre [hPre_ffnb_pre : Cert.Pre_ffnb_pre.Facts] (m : (ℓ : Loc Cert.FfnbRefIdeal.nD Cert.FfnbRefIdeal.τ Cert.FfnbRefIdeal.sig) → Buf (Elt Ideal) ℓ) : Prop :=
  ∀ c : Dev Cert.FfnbRefIdeal.nD,
    (Cert.Pre_ffnb_pre.fn (F := Ideal) (m ((c.tc : Thread Cert.FfnbRefIdeal.nD Cert.FfnbRefIdeal.τ).loc Cert.FfnbRefIdeal.main_arg0)) (m ((c.tc : Thread Cert.FfnbRefIdeal.nD Cert.FfnbRefIdeal.τ).loc Cert.FfnbRefIdeal.main_arg1)) (m ((c.tc : Thread Cert.FfnbRefIdeal.nD Cert.FfnbRefIdeal.τ).loc Cert.FfnbRefIdeal.main_arg2)) (m ((c.tc : Thread Cert.FfnbRefIdeal.nD Cert.FfnbRefIdeal.τ).loc Cert.FfnbRefIdeal.main_arg3)) (m ((c.tc : Thread Cert.FfnbRefIdeal.nD Cert.FfnbRefIdeal.τ).loc Cert.FfnbRefIdeal.main_arg4)) (m ((c.tc : Thread Cert.FfnbRefIdeal.nD Cert.FfnbRefIdeal.τ).loc Cert.FfnbRefIdeal.main_arg5)) (m ((c.tc : Thread Cert.FfnbRefIdeal.nD Cert.FfnbRefIdeal.τ).loc Cert.FfnbRefIdeal.main_arg6))).1 = (fun _ => 1#1)
    ∧ (Cert.Pre_ffnb_pre.fn (F := Ideal) (m ((c.tc : Thread Cert.FfnbRefIdeal.nD Cert.FfnbRefIdeal.τ).loc Cert.FfnbRefIdeal.main_arg0)) (m ((c.tc : Thread Cert.FfnbRefIdeal.nD Cert.FfnbRefIdeal.τ).loc Cert.FfnbRefIdeal.main_arg1)) (m ((c.tc : Thread Cert.FfnbRefIdeal.nD Cert.FfnbRefIdeal.τ).loc Cert.FfnbRefIdeal.main_arg2)) (m ((c.tc : Thread Cert.FfnbRefIdeal.nD Cert.FfnbRefIdeal.τ).loc Cert.FfnbRefIdeal.main_arg3)) (m ((c.tc : Thread Cert.FfnbRefIdeal.nD Cert.FfnbRefIdeal.τ).loc Cert.FfnbRefIdeal.main_arg4)) (m ((c.tc : Thread Cert.FfnbRefIdeal.nD Cert.FfnbRefIdeal.τ).loc Cert.FfnbRefIdeal.main_arg5)) (m ((c.tc : Thread Cert.FfnbRefIdeal.nD Cert.FfnbRefIdeal.τ).loc Cert.FfnbRefIdeal.main_arg6))).2.1 = (fun _ => 1#1)
    ∧ (Cert.Pre_ffnb_pre.fn (F := Ideal) (m ((c.tc : Thread Cert.FfnbRefIdeal.nD Cert.FfnbRefIdeal.τ).loc Cert.FfnbRefIdeal.main_arg0)) (m ((c.tc : Thread Cert.FfnbRefIdeal.nD Cert.FfnbRefIdeal.τ).loc Cert.FfnbRefIdeal.main_arg1)) (m ((c.tc : Thread Cert.FfnbRefIdeal.nD Cert.FfnbRefIdeal.τ).loc Cert.FfnbRefIdeal.main_arg2)) (m ((c.tc : Thread Cert.FfnbRefIdeal.nD Cert.FfnbRefIdeal.τ).loc Cert.FfnbRefIdeal.main_arg3)) (m ((c.tc : Thread Cert.FfnbRefIdeal.nD Cert.FfnbRefIdeal.τ).loc Cert.FfnbRefIdeal.main_arg4)) (m ((c.tc : Thread Cert.FfnbRefIdeal.nD Cert.FfnbRefIdeal.τ).loc Cert.FfnbRefIdeal.main_arg5)) (m ((c.tc : Thread Cert.FfnbRefIdeal.nD Cert.FfnbRefIdeal.τ).loc Cert.FfnbRefIdeal.main_arg6))).2.2.1 = (fun _ => 1#1)
    ∧ (Cert.Pre_ffnb_pre.fn (F := Ideal) (m ((c.tc : Thread Cert.FfnbRefIdeal.nD Cert.FfnbRefIdeal.τ).loc Cert.FfnbRefIdeal.main_arg0)) (m ((c.tc : Thread Cert.FfnbRefIdeal.nD Cert.FfnbRefIdeal.τ).loc Cert.FfnbRefIdeal.main_arg1)) (m ((c.tc : Thread Cert.FfnbRefIdeal.nD Cert.FfnbRefIdeal.τ).loc Cert.FfnbRefIdeal.main_arg2)) (m ((c.tc : Thread Cert.FfnbRefIdeal.nD Cert.FfnbRefIdeal.τ).loc Cert.FfnbRefIdeal.main_arg3)) (m ((c.tc : Thread Cert.FfnbRefIdeal.nD Cert.FfnbRefIdeal.τ).loc Cert.FfnbRefIdeal.main_arg4)) (m ((c.tc : Thread Cert.FfnbRefIdeal.nD Cert.FfnbRefIdeal.τ).loc Cert.FfnbRefIdeal.main_arg5)) (m ((c.tc : Thread Cert.FfnbRefIdeal.nD Cert.FfnbRefIdeal.τ).loc Cert.FfnbRefIdeal.main_arg6))).2.2.2.1 = (fun _ => 1#1)
    ∧ (Cert.Pre_ffnb_pre.fn (F := Ideal) (m ((c.tc : Thread Cert.FfnbRefIdeal.nD Cert.FfnbRefIdeal.τ).loc Cert.FfnbRefIdeal.main_arg0)) (m ((c.tc : Thread Cert.FfnbRefIdeal.nD Cert.FfnbRefIdeal.τ).loc Cert.FfnbRefIdeal.main_arg1)) (m ((c.tc : Thread Cert.FfnbRefIdeal.nD Cert.FfnbRefIdeal.τ).loc Cert.FfnbRefIdeal.main_arg2)) (m ((c.tc : Thread Cert.FfnbRefIdeal.nD Cert.FfnbRefIdeal.τ).loc Cert.FfnbRefIdeal.main_arg3)) (m ((c.tc : Thread Cert.FfnbRefIdeal.nD Cert.FfnbRefIdeal.τ).loc Cert.FfnbRefIdeal.main_arg4)) (m ((c.tc : Thread Cert.FfnbRefIdeal.nD Cert.FfnbRefIdeal.τ).loc Cert.FfnbRefIdeal.main_arg5)) (m ((c.tc : Thread Cert.FfnbRefIdeal.nD Cert.FfnbRefIdeal.τ).loc Cert.FfnbRefIdeal.main_arg6))).2.2.2.2 = (fun _ => 1#1)

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojIdeal_oproj_pre [hPre_oproj_pre : Cert.Pre_oproj_pre.Facts] (m : (ℓ : Loc Cert.OprojIdeal.nD Cert.OprojIdeal.τ Cert.OprojIdeal.sig) → Buf (Elt Ideal) ℓ) : Prop :=
  ∀ c : Dev Cert.OprojIdeal.nD,
    (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.2.1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.2.2.1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.2.2.2.1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.2.2.2.2.1 = (fun _ => 1#1)
    ∧ (Cert.Pre_oproj_pre.fn (F := Ideal) (m ((c.tc : Thread Cert.OprojIdeal.nD Cert.OprojIdeal.τ).loc Cert.OprojIdeal.main_arg0)) (m ((c.tc : Thread Cert.OprojIdeal.nD Cert.OprojIdeal.τ).loc Cert.OprojIdeal.main_arg1)) (m ((c.tc : Thread Cert.OprojIdeal.nD Cert.OprojIdeal.τ).loc Cert.OprojIdeal.main_arg2)) (m ((c.tc : Thread Cert.OprojIdeal.nD Cert.OprojIdeal.τ).loc Cert.OprojIdeal.main_arg3)) (m ((c.tc : Thread Cert.OprojIdeal.nD Cert.OprojIdeal.τ).loc Cert.OprojIdeal.main_arg4)) (m ((c.tc : Thread Cert.OprojIdeal.nD Cert.OprojIdeal.τ).loc Cert.OprojIdeal.main_arg5)) (m ((c.tc : Thread Cert.OprojIdeal.nD Cert.OprojIdeal.τ).loc Cert.OprojIdeal.main_arg6)) (m ((c.tc : Thread Cert.OprojIdeal.nD Cert.OprojIdeal.τ).loc Cert.OprojIdeal.main_arg7))).2.2.2.2.2.2 = (fun _ => 1#1)

def Pre_OprojRefIdeal (m : (ℓ : Loc Cert.OprojRefIdeal.nD Cert.OprojRefIdeal.τ Cert.OprojRefIdeal.sig) → Buf (Elt Ideal) ℓ) : Prop :=
  True

def Pre_OprojRefIdeal_oproj_pre [hPre_oproj_pre : Cert.Pre_oproj_pre.Facts] (m : (ℓ : Loc Cert.OprojRefIdeal.nD Cert.OprojRefIdeal.τ Cert.OprojRefIdeal.sig) → Buf (Elt Ideal) ℓ) : Prop :=
  ∀ c : Dev Cert.OprojRefIdeal.nD,
    (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.2.1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.2.2.1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.2.2.2.1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.2.2.2.2.1 = (fun _ => 1#1)
    ∧ (Cert.Pre_oproj_pre.fn (F := Ideal) (m ((c.tc : Thread Cert.OprojRefIdeal.nD Cert.OprojRefIdeal.τ).loc Cert.OprojRefIdeal.main_arg0)) (m ((c.tc : Thread Cert.OprojRefIdeal.nD Cert.OprojRefIdeal.τ).loc Cert.OprojRefIdeal.main_arg1)) (m ((c.tc : Thread Cert.OprojRefIdeal.nD Cert.OprojRefIdeal.τ).loc Cert.OprojRefIdeal.main_arg2)) (m ((c.tc : Thread Cert.OprojRefIdeal.nD Cert.OprojRefIdeal.τ).loc Cert.OprojRefIdeal.main_arg3)) (m ((c.tc : Thread Cert.OprojRefIdeal.nD Cert.OprojRefIdeal.τ).loc Cert.OprojRefIdeal.main_arg4)) (m ((c.tc : Thread Cert.OprojRefIdeal.nD Cert.OprojRefIdeal.τ).loc Cert.OprojRefIdeal.main_arg5)) (m ((c.tc : Thread Cert.OprojRefIdeal.nD Cert.OprojRefIdeal.τ).loc Cert.OprojRefIdeal.main_arg6)) (m ((c.tc : Thread Cert.OprojRefIdeal.nD Cert.OprojRefIdeal.τ).loc Cert.OprojRefIdeal.main_arg7))).2.2.2.2.2.2 = (fun _ => 1#1)

def Pre_Dproj (m : (ℓ : Loc Cert.Dproj.nD Cert.Dproj.τ Cert.Dproj.sig) → Buf (Elt Bits) ℓ) : Prop :=
  True

def Pre_DprojIdeal (m : (ℓ : Loc Cert.DprojIdeal.nD Cert.DprojIdeal.τ Cert.DprojIdeal.sig) → Buf (Elt Ideal) ℓ) : Prop :=
  True

def Pre_DprojIdeal_dproj_pre [hPre_dproj_pre : Cert.Pre_dproj_pre.Facts] (m : (ℓ : Loc Cert.DprojIdeal.nD Cert.DprojIdeal.τ Cert.DprojIdeal.sig) → Buf (Elt Ideal) ℓ) : Prop :=
  ∀ c : Dev Cert.DprojIdeal.nD,
    (Cert.Pre_dproj_pre.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9)) (m ((c.tc : Thread Cert.DprojIdeal.nD Cert.DprojIdeal.τ).loc Cert.DprojIdeal.main_arg10)) (m ((c.tc : Thread Cert.DprojIdeal.nD Cert.DprojIdeal.τ).loc Cert.DprojIdeal.main_arg11)) (m ((c.tc : Thread Cert.DprojIdeal.nD Cert.DprojIdeal.τ).loc Cert.DprojIdeal.main_arg12)) (m ((c.tc : Thread Cert.DprojIdeal.nD Cert.DprojIdeal.τ).loc Cert.DprojIdeal.main_arg13)) (m ((c.tc : Thread Cert.DprojIdeal.nD Cert.DprojIdeal.τ).loc Cert.DprojIdeal.main_arg14)) (m ((c.tc : Thread Cert.DprojIdeal.nD Cert.DprojIdeal.τ).loc Cert.DprojIdeal.main_arg15))).1 = (fun _ => 1#1)
    ∧ (Cert.Pre_dproj_pre.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9)) (m ((c.tc : Thread Cert.DprojIdeal.nD Cert.DprojIdeal.τ).loc Cert.DprojIdeal.main_arg10)) (m ((c.tc : Thread Cert.DprojIdeal.nD Cert.DprojIdeal.τ).loc Cert.DprojIdeal.main_arg11)) (m ((c.tc : Thread Cert.DprojIdeal.nD Cert.DprojIdeal.τ).loc Cert.DprojIdeal.main_arg12)) (m ((c.tc : Thread Cert.DprojIdeal.nD Cert.DprojIdeal.τ).loc Cert.DprojIdeal.main_arg13)) (m ((c.tc : Thread Cert.DprojIdeal.nD Cert.DprojIdeal.τ).loc Cert.DprojIdeal.main_arg14)) (m ((c.tc : Thread Cert.DprojIdeal.nD Cert.DprojIdeal.τ).loc Cert.DprojIdeal.main_arg15))).2.1 = (fun _ => 1#1)
    ∧ (Cert.Pre_dproj_pre.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9)) (m ((c.tc : Thread Cert.DprojIdeal.nD Cert.DprojIdeal.τ).loc Cert.DprojIdeal.main_arg10)) (m ((c.tc : Thread Cert.DprojIdeal.nD Cert.DprojIdeal.τ).loc Cert.DprojIdeal.main_arg11)) (m ((c.tc : Thread Cert.DprojIdeal.nD Cert.DprojIdeal.τ).loc Cert.DprojIdeal.main_arg12)) (m ((c.tc : Thread Cert.DprojIdeal.nD Cert.DprojIdeal.τ).loc Cert.DprojIdeal.main_arg13)) (m ((c.tc : Thread Cert.DprojIdeal.nD Cert.DprojIdeal.τ).loc Cert.DprojIdeal.main_arg14)) (m ((c.tc : Thread Cert.DprojIdeal.nD Cert.DprojIdeal.τ).loc Cert.DprojIdeal.main_arg15))).2.2.1 = (fun _ => 1#1)
    ∧ (Cert.Pre_dproj_pre.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9)) (m ((c.tc : Thread Cert.DprojIdeal.nD Cert.DprojIdeal.τ).loc Cert.DprojIdeal.main_arg10)) (m ((c.tc : Thread Cert.DprojIdeal.nD Cert.DprojIdeal.τ).loc Cert.DprojIdeal.main_arg11)) (m ((c.tc : Thread Cert.DprojIdeal.nD Cert.DprojIdeal.τ).loc Cert.DprojIdeal.main_arg12)) (m ((c.tc : Thread Cert.DprojIdeal.nD Cert.DprojIdeal.τ).loc Cert.DprojIdeal.main_arg13)) (m ((c.tc : Thread Cert.DprojIdeal.nD Cert.DprojIdeal.τ).loc Cert.DprojIdeal.main_arg14)) (m ((c.tc : Thread Cert.DprojIdeal.nD Cert.DprojIdeal.τ).loc Cert.DprojIdeal.main_arg15))).2.2.2.1 = (fun _ => 1#1)
    ∧ (Cert.Pre_dproj_pre.fn (F := Ideal) (m ((c.tc : Thread Cert.DprojIdeal.nD Cert.DprojIdeal.τ).loc Cert.DprojIdeal.main_arg0)) (m ((c.tc : Thread Cert.DprojIdeal.nD Cert.DprojIdeal.τ).loc Cert.DprojIdeal.main_arg1)) (m ((c.tc : Thread Cert.DprojIdeal.nD Cert.DprojIdeal.τ).loc Cert.DprojIdeal.main_arg2)) (m ((c.tc : Thread Cert.DprojIdeal.nD Cert.DprojIdeal.τ).loc Cert.DprojIdeal.main_arg3)) (m ((c.tc : Thread Cert.DprojIdeal.nD Cert.DprojIdeal.τ).loc Cert.DprojIdeal.main_arg4)) (m ((c.tc : Thread Cert.DprojIdeal.nD Cert.DprojIdeal.τ).loc Cert.DprojIdeal.main_arg5)) (m ((c.tc : Thread Cert.DprojIdeal.nD Cert.DprojIdeal.τ).loc Cert.DprojIdeal.main_arg6)) (m ((c.tc : Thread Cert.DprojIdeal.nD Cert.DprojIdeal.τ).loc Cert.DprojIdeal.main_arg7)) (m ((c.tc : Thread Cert.DprojIdeal.nD Cert.DprojIdeal.τ).loc Cert.DprojIdeal.main_arg8)) (m ((c.tc : Thread Cert.DprojIdeal.nD Cert.DprojIdeal.τ).loc Cert.DprojIdeal.main_arg9)) (m ((c.tc : Thread Cert.DprojIdeal.nD Cert.DprojIdeal.τ).loc Cert.DprojIdeal.main_arg10)) (m ((c.tc : Thread Cert.DprojIdeal.nD Cert.DprojIdeal.τ).loc Cert.DprojIdeal.main_arg11)) (m ((c.tc : Thread Cert.DprojIdeal.nD Cert.DprojIdeal.τ).loc Cert.DprojIdeal.main_arg12)) (m ((c.tc : Thread Cert.DprojIdeal.nD Cert.DprojIdeal.τ).loc Cert.DprojIdeal.main_arg13)) (m ((c.tc : Thread Cert.DprojIdeal.nD Cert.DprojIdeal.τ).loc Cert.DprojIdeal.main_arg14)) (m ((c.tc : Thread Cert.DprojIdeal.nD Cert.DprojIdeal.τ).loc Cert.DprojIdeal.main_arg15))).2.2.2.2 = (fun _ => 1#1)

def Pre_DprojRefIdeal (m : (ℓ : Loc Cert.DprojRefIdeal.nD Cert.DprojRefIdeal.τ Cert.DprojRefIdeal.sig) → Buf (Elt Ideal) ℓ) : Prop :=
  True

def Pre_DprojRefIdeal_dproj_pre [hPre_dproj_pre : Cert.Pre_dproj_pre.Facts] (m : (ℓ : Loc Cert.DprojRefIdeal.nD Cert.DprojRefIdeal.τ Cert.DprojRefIdeal.sig) → Buf (Elt Ideal) ℓ) : Prop :=
  ∀ c : Dev Cert.DprojRefIdeal.nD,
    (Cert.Pre_dproj_pre.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9)) (m ((c.tc : Thread Cert.DprojRefIdeal.nD Cert.DprojRefIdeal.τ).loc Cert.DprojRefIdeal.main_arg10)) (m ((c.tc : Thread Cert.DprojRefIdeal.nD Cert.DprojRefIdeal.τ).loc Cert.DprojRefIdeal.main_arg11)) (m ((c.tc : Thread Cert.DprojRefIdeal.nD Cert.DprojRefIdeal.τ).loc Cert.DprojRefIdeal.main_arg12)) (m ((c.tc : Thread Cert.DprojRefIdeal.nD Cert.DprojRefIdeal.τ).loc Cert.DprojRefIdeal.main_arg13)) (m ((c.tc : Thread Cert.DprojRefIdeal.nD Cert.DprojRefIdeal.τ).loc Cert.DprojRefIdeal.main_arg14)) (m ((c.tc : Thread Cert.DprojRefIdeal.nD Cert.DprojRefIdeal.τ).loc Cert.DprojRefIdeal.main_arg15))).1 = (fun _ => 1#1)
    ∧ (Cert.Pre_dproj_pre.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9)) (m ((c.tc : Thread Cert.DprojRefIdeal.nD Cert.DprojRefIdeal.τ).loc Cert.DprojRefIdeal.main_arg10)) (m ((c.tc : Thread Cert.DprojRefIdeal.nD Cert.DprojRefIdeal.τ).loc Cert.DprojRefIdeal.main_arg11)) (m ((c.tc : Thread Cert.DprojRefIdeal.nD Cert.DprojRefIdeal.τ).loc Cert.DprojRefIdeal.main_arg12)) (m ((c.tc : Thread Cert.DprojRefIdeal.nD Cert.DprojRefIdeal.τ).loc Cert.DprojRefIdeal.main_arg13)) (m ((c.tc : Thread Cert.DprojRefIdeal.nD Cert.DprojRefIdeal.τ).loc Cert.DprojRefIdeal.main_arg14)) (m ((c.tc : Thread Cert.DprojRefIdeal.nD Cert.DprojRefIdeal.τ).loc Cert.DprojRefIdeal.main_arg15))).2.1 = (fun _ => 1#1)
    ∧ (Cert.Pre_dproj_pre.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9)) (m ((c.tc : Thread Cert.DprojRefIdeal.nD Cert.DprojRefIdeal.τ).loc Cert.DprojRefIdeal.main_arg10)) (m ((c.tc : Thread Cert.DprojRefIdeal.nD Cert.DprojRefIdeal.τ).loc Cert.DprojRefIdeal.main_arg11)) (m ((c.tc : Thread Cert.DprojRefIdeal.nD Cert.DprojRefIdeal.τ).loc Cert.DprojRefIdeal.main_arg12)) (m ((c.tc : Thread Cert.DprojRefIdeal.nD Cert.DprojRefIdeal.τ).loc Cert.DprojRefIdeal.main_arg13)) (m ((c.tc : Thread Cert.DprojRefIdeal.nD Cert.DprojRefIdeal.τ).loc Cert.DprojRefIdeal.main_arg14)) (m ((c.tc : Thread Cert.DprojRefIdeal.nD Cert.DprojRefIdeal.τ).loc Cert.DprojRefIdeal.main_arg15))).2.2.1 = (fun _ => 1#1)
    ∧ (Cert.Pre_dproj_pre.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9)) (m ((c.tc : Thread Cert.DprojRefIdeal.nD Cert.DprojRefIdeal.τ).loc Cert.DprojRefIdeal.main_arg10)) (m ((c.tc : Thread Cert.DprojRefIdeal.nD Cert.DprojRefIdeal.τ).loc Cert.DprojRefIdeal.main_arg11)) (m ((c.tc : Thread Cert.DprojRefIdeal.nD Cert.DprojRefIdeal.τ).loc Cert.DprojRefIdeal.main_arg12)) (m ((c.tc : Thread Cert.DprojRefIdeal.nD Cert.DprojRefIdeal.τ).loc Cert.DprojRefIdeal.main_arg13)) (m ((c.tc : Thread Cert.DprojRefIdeal.nD Cert.DprojRefIdeal.τ).loc Cert.DprojRefIdeal.main_arg14)) (m ((c.tc : Thread Cert.DprojRefIdeal.nD Cert.DprojRefIdeal.τ).loc Cert.DprojRefIdeal.main_arg15))).2.2.2.1 = (fun _ => 1#1)
    ∧ (Cert.Pre_dproj_pre.fn (F := Ideal) (m ((c.tc : Thread Cert.DprojRefIdeal.nD Cert.DprojRefIdeal.τ).loc Cert.DprojRefIdeal.main_arg0)) (m ((c.tc : Thread Cert.DprojRefIdeal.nD Cert.DprojRefIdeal.τ).loc Cert.DprojRefIdeal.main_arg1)) (m ((c.tc : Thread Cert.DprojRefIdeal.nD Cert.DprojRefIdeal.τ).loc Cert.DprojRefIdeal.main_arg2)) (m ((c.tc : Thread Cert.DprojRefIdeal.nD Cert.DprojRefIdeal.τ).loc Cert.DprojRefIdeal.main_arg3)) (m ((c.tc : Thread Cert.DprojRefIdeal.nD Cert.DprojRefIdeal.τ).loc Cert.DprojRefIdeal.main_arg4)) (m ((c.tc : Thread Cert.DprojRefIdeal.nD Cert.DprojRefIdeal.τ).loc Cert.DprojRefIdeal.main_arg5)) (m ((c.tc : Thread Cert.DprojRefIdeal.nD Cert.DprojRefIdeal.τ).loc Cert.DprojRefIdeal.main_arg6)) (m ((c.tc : Thread Cert.DprojRefIdeal.nD Cert.DprojRefIdeal.τ).loc Cert.DprojRefIdeal.main_arg7)) (m ((c.tc : Thread Cert.DprojRefIdeal.nD Cert.DprojRefIdeal.τ).loc Cert.DprojRefIdeal.main_arg8)) (m ((c.tc : Thread Cert.DprojRefIdeal.nD Cert.DprojRefIdeal.τ).loc Cert.DprojRefIdeal.main_arg9)) (m ((c.tc : Thread Cert.DprojRefIdeal.nD Cert.DprojRefIdeal.τ).loc Cert.DprojRefIdeal.main_arg10)) (m ((c.tc : Thread Cert.DprojRefIdeal.nD Cert.DprojRefIdeal.τ).loc Cert.DprojRefIdeal.main_arg11)) (m ((c.tc : Thread Cert.DprojRefIdeal.nD Cert.DprojRefIdeal.τ).loc Cert.DprojRefIdeal.main_arg12)) (m ((c.tc : Thread Cert.DprojRefIdeal.nD Cert.DprojRefIdeal.τ).loc Cert.DprojRefIdeal.main_arg13)) (m ((c.tc : Thread Cert.DprojRefIdeal.nD Cert.DprojRefIdeal.τ).loc Cert.DprojRefIdeal.main_arg14)) (m ((c.tc : Thread Cert.DprojRefIdeal.nD Cert.DprojRefIdeal.τ).loc Cert.DprojRefIdeal.main_arg15))).2.2.2.2 = (fun _ => 1#1)

def Pre_Axf (m : (ℓ : Loc Cert.Axf.nD Cert.Axf.τ Cert.Axf.sig) → Buf (Elt Bits) ℓ) : Prop :=
  True

def Pre_AxfIdeal (m : (ℓ : Loc Cert.AxfIdeal.nD Cert.AxfIdeal.τ Cert.AxfIdeal.sig) → Buf (Elt Ideal) ℓ) : Prop :=
  True

def Pre_AxfIdeal_axf_pre [hPre_axf_pre : Cert.Pre_axf_pre.Facts] (m : (ℓ : Loc Cert.AxfIdeal.nD Cert.AxfIdeal.τ Cert.AxfIdeal.sig) → Buf (Elt Ideal) ℓ) : Prop :=
  ∀ c : Dev Cert.AxfIdeal.nD,
    (Cert.Pre_axf_pre.fn (F := Ideal) (m ((c.tc : Thread Cert.AxfIdeal.nD Cert.AxfIdeal.τ).loc Cert.AxfIdeal.main_arg0)) (m ((c.tc : Thread Cert.AxfIdeal.nD Cert.AxfIdeal.τ).loc Cert.AxfIdeal.main_arg1)) (m ((c.tc : Thread Cert.AxfIdeal.nD Cert.AxfIdeal.τ).loc Cert.AxfIdeal.main_arg2)) (m ((c.tc : Thread Cert.AxfIdeal.nD Cert.AxfIdeal.τ).loc Cert.AxfIdeal.main_arg3))).1 = (fun _ => 1#1)
    ∧ (Cert.Pre_axf_pre.fn (F := Ideal) (m ((c.tc : Thread Cert.AxfIdeal.nD Cert.AxfIdeal.τ).loc Cert.AxfIdeal.main_arg0)) (m ((c.tc : Thread Cert.AxfIdeal.nD Cert.AxfIdeal.τ).loc Cert.AxfIdeal.main_arg1)) (m ((c.tc : Thread Cert.AxfIdeal.nD Cert.AxfIdeal.τ).loc Cert.AxfIdeal.main_arg2)) (m ((c.tc : Thread Cert.AxfIdeal.nD Cert.AxfIdeal.τ).loc Cert.AxfIdeal.main_arg3))).2.1 = (fun _ => 1#1)
    ∧ (Cert.Pre_axf_pre.fn (F := Ideal) (m ((c.tc : Thread Cert.AxfIdeal.nD Cert.AxfIdeal.τ).loc Cert.AxfIdeal.main_arg0)) (m ((c.tc : Thread Cert.AxfIdeal.nD Cert.AxfIdeal.τ).loc Cert.AxfIdeal.main_arg1)) (m ((c.tc : Thread Cert.AxfIdeal.nD Cert.AxfIdeal.τ).loc Cert.AxfIdeal.main_arg2)) (m ((c.tc : Thread Cert.AxfIdeal.nD Cert.AxfIdeal.τ).loc Cert.AxfIdeal.main_arg3))).2.2 = (fun _ => 1#1)

def Pre_AxfRefIdeal (m : (ℓ : Loc Cert.AxfRefIdeal.nD Cert.AxfRefIdeal.τ Cert.AxfRefIdeal.sig) → Buf (Elt Ideal) ℓ) : Prop :=
  True

def Pre_AxfRefIdeal_axf_pre [hPre_axf_pre : Cert.Pre_axf_pre.Facts] (m : (ℓ : Loc Cert.AxfRefIdeal.nD Cert.AxfRefIdeal.τ Cert.AxfRefIdeal.sig) → Buf (Elt Ideal) ℓ) : Prop :=
  ∀ c : Dev Cert.AxfRefIdeal.nD,
    (Cert.Pre_axf_pre.fn (F := Ideal) (m ((c.tc : Thread Cert.AxfRefIdeal.nD Cert.AxfRefIdeal.τ).loc Cert.AxfRefIdeal.main_arg0)) (m ((c.tc : Thread Cert.AxfRefIdeal.nD Cert.AxfRefIdeal.τ).loc Cert.AxfRefIdeal.main_arg1)) (m ((c.tc : Thread Cert.AxfRefIdeal.nD Cert.AxfRefIdeal.τ).loc Cert.AxfRefIdeal.main_arg2)) (m ((c.tc : Thread Cert.AxfRefIdeal.nD Cert.AxfRefIdeal.τ).loc Cert.AxfRefIdeal.main_arg3))).1 = (fun _ => 1#1)
    ∧ (Cert.Pre_axf_pre.fn (F := Ideal) (m ((c.tc : Thread Cert.AxfRefIdeal.nD Cert.AxfRefIdeal.τ).loc Cert.AxfRefIdeal.main_arg0)) (m ((c.tc : Thread Cert.AxfRefIdeal.nD Cert.AxfRefIdeal.τ).loc Cert.AxfRefIdeal.main_arg1)) (m ((c.tc : Thread Cert.AxfRefIdeal.nD Cert.AxfRefIdeal.τ).loc Cert.AxfRefIdeal.main_arg2)) (m ((c.tc : Thread Cert.AxfRefIdeal.nD Cert.AxfRefIdeal.τ).loc Cert.AxfRefIdeal.main_arg3))).2.1 = (fun _ => 1#1)
    ∧ (Cert.Pre_axf_pre.fn (F := Ideal) (m ((c.tc : Thread Cert.AxfRefIdeal.nD Cert.AxfRefIdeal.τ).loc Cert.AxfRefIdeal.main_arg0)) (m ((c.tc : Thread Cert.AxfRefIdeal.nD Cert.AxfRefIdeal.τ).loc Cert.AxfRefIdeal.main_arg1)) (m ((c.tc : Thread Cert.AxfRefIdeal.nD Cert.AxfRefIdeal.τ).loc Cert.AxfRefIdeal.main_arg2)) (m ((c.tc : Thread Cert.AxfRefIdeal.nD Cert.AxfRefIdeal.τ).loc Cert.AxfRefIdeal.main_arg3))).2.2 = (fun _ => 1#1)

def Pre_Axd (m : (ℓ : Loc Cert.Axd.nD Cert.Axd.τ Cert.Axd.sig) → Buf (Elt Bits) ℓ) : Prop :=
  True

def Pre_AxdIdeal (m : (ℓ : Loc Cert.AxdIdeal.nD Cert.AxdIdeal.τ Cert.AxdIdeal.sig) → Buf (Elt Ideal) ℓ) : Prop :=
  True

def Pre_AxdRefIdeal (m : (ℓ : Loc Cert.AxdRefIdeal.nD Cert.AxdRefIdeal.τ Cert.AxdRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_pre [hLossIdeal : Cert.LossIdeal.Facts] [hPre_loss_pre : Cert.Pre_loss_pre.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_pre m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_pre [hLossRefIdeal : Cert.LossRefIdeal.Facts] [hPre_loss_pre : Cert.Pre_loss_pre.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_pre m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Axb [hAxb : Cert.Axb.Facts] : Prop :=
  ∀ (m : (ℓ : Loc Cert.Axb.nD Cert.Axb.τ Cert.Axb.sig) → Buf (Elt Bits) ℓ) (g : Dev Cert.Axb.nD → PrngReg), Pre_Axb m →
    θ_run (Cert.Axb.defs (F := Bits)) (onTc (τ := Cert.Axb.τ) (Cert.Axb.main (F := Bits))) ⟨m, fun _ => 0, g⟩ (fun r => (∀ c : Dev Cert.Axb.nD,
      r.2.mem ((c.tc : Thread Cert.Axb.nD Cert.Axb.τ).loc Cert.Axb.main_arg0) = m ((c.tc : Thread Cert.Axb.nD Cert.Axb.τ).loc Cert.Axb.main_arg0)
      ∧ r.2.mem ((c.tc : Thread Cert.Axb.nD Cert.Axb.τ).loc Cert.Axb.main_arg1) = m ((c.tc : Thread Cert.Axb.nD Cert.Axb.τ).loc Cert.Axb.main_arg1)
      ∧ r.2.mem ((c.tc : Thread Cert.Axb.nD Cert.Axb.τ).loc Cert.Axb.main_arg2) = m ((c.tc : Thread Cert.Axb.nD Cert.Axb.τ).loc Cert.Axb.main_arg2)
      ∧ r.2.mem ((c.tc : Thread Cert.Axb.nD Cert.Axb.τ).loc Cert.Axb.main_arg3) = m ((c.tc : Thread Cert.Axb.nD Cert.Axb.τ).loc Cert.Axb.main_arg3))
      ∧ r.2.sem = fun _ => 0)

def quiescent_AxbIdeal [hAxbIdeal : Cert.AxbIdeal.Facts] : Prop :=
  ∀ (m : (ℓ : Loc Cert.AxbIdeal.nD Cert.AxbIdeal.τ Cert.AxbIdeal.sig) → Buf (Elt Ideal) ℓ) (g : Dev Cert.AxbIdeal.nD → PrngReg), Pre_AxbIdeal m →
    θ_run (Cert.AxbIdeal.defs (F := Ideal)) (onTc (τ := Cert.AxbIdeal.τ) (Cert.AxbIdeal.main (F := Ideal))) ⟨m, fun _ => 0, g⟩ (fun r => (∀ c : Dev Cert.AxbIdeal.nD,
      r.2.mem ((c.tc : Thread Cert.AxbIdeal.nD Cert.AxbIdeal.τ).loc Cert.AxbIdeal.main_arg0) = m ((c.tc : Thread Cert.AxbIdeal.nD Cert.AxbIdeal.τ).loc Cert.AxbIdeal.main_arg0)
      ∧ r.2.mem ((c.tc : Thread Cert.AxbIdeal.nD Cert.AxbIdeal.τ).loc Cert.AxbIdeal.main_arg1) = m ((c.tc : Thread Cert.AxbIdeal.nD Cert.AxbIdeal.τ).loc Cert.AxbIdeal.main_arg1)
      ∧ r.2.mem ((c.tc : Thread Cert.AxbIdeal.nD Cert.AxbIdeal.τ).loc Cert.AxbIdeal.main_arg2) = m ((c.tc : Thread Cert.AxbIdeal.nD Cert.AxbIdeal.τ).loc Cert.AxbIdeal.main_arg2)
      ∧ r.2.mem ((c.tc : Thread Cert.AxbIdeal.nD Cert.AxbIdeal.τ).loc Cert.AxbIdeal.main_arg3) = m ((c.tc : Thread Cert.AxbIdeal.nD Cert.AxbIdeal.τ).loc Cert.AxbIdeal.main_arg3))
      ∧ r.2.sem = fun _ => 0)

def quiescent_AxbIdeal_pre_axb_pre [hAxbIdeal : Cert.AxbIdeal.Facts] [hPre_axb_pre : Cert.Pre_axb_pre.Facts] : Prop :=
  ∀ (m : (ℓ : Loc Cert.AxbIdeal.nD Cert.AxbIdeal.τ Cert.AxbIdeal.sig) → Buf (Elt Ideal) ℓ) (g : Dev Cert.AxbIdeal.nD → PrngReg), Pre_AxbIdeal_axb_pre m →
    θ_run (Cert.AxbIdeal.defs (F := Ideal)) (onTc (τ := Cert.AxbIdeal.τ) (Cert.AxbIdeal.main (F := Ideal))) ⟨m, fun _ => 0, g⟩ (fun r => (∀ c : Dev Cert.AxbIdeal.nD,
      r.2.mem ((c.tc : Thread Cert.AxbIdeal.nD Cert.AxbIdeal.τ).loc Cert.AxbIdeal.main_arg0) = m ((c.tc : Thread Cert.AxbIdeal.nD Cert.AxbIdeal.τ).loc Cert.AxbIdeal.main_arg0)
      ∧ r.2.mem ((c.tc : Thread Cert.AxbIdeal.nD Cert.AxbIdeal.τ).loc Cert.AxbIdeal.main_arg1) = m ((c.tc : Thread Cert.AxbIdeal.nD Cert.AxbIdeal.τ).loc Cert.AxbIdeal.main_arg1)
      ∧ r.2.mem ((c.tc : Thread Cert.AxbIdeal.nD Cert.AxbIdeal.τ).loc Cert.AxbIdeal.main_arg2) = m ((c.tc : Thread Cert.AxbIdeal.nD Cert.AxbIdeal.τ).loc Cert.AxbIdeal.main_arg2)
      ∧ r.2.mem ((c.tc : Thread Cert.AxbIdeal.nD Cert.AxbIdeal.τ).loc Cert.AxbIdeal.main_arg3) = m ((c.tc : Thread Cert.AxbIdeal.nD Cert.AxbIdeal.τ).loc Cert.AxbIdeal.main_arg3))
      ∧ r.2.sem = fun _ => 0)

def quiescent_AxbRefIdeal [hAxbRefIdeal : Cert.AxbRefIdeal.Facts] : Prop :=
  ∀ (m : (ℓ : Loc Cert.AxbRefIdeal.nD Cert.AxbRefIdeal.τ Cert.AxbRefIdeal.sig) → Buf (Elt Ideal) ℓ) (g : Dev Cert.AxbRefIdeal.nD → PrngReg), Pre_AxbRefIdeal m →
    θ_run (Cert.AxbRefIdeal.defs (F := Ideal)) (onTc (τ := Cert.AxbRefIdeal.τ) (Cert.AxbRefIdeal.main (F := Ideal))) ⟨m, fun _ => 0, g⟩ (fun r => (∀ c : Dev Cert.AxbRefIdeal.nD,
      r.2.mem ((c.tc : Thread Cert.AxbRefIdeal.nD Cert.AxbRefIdeal.τ).loc Cert.AxbRefIdeal.main_arg0) = m ((c.tc : Thread Cert.AxbRefIdeal.nD Cert.AxbRefIdeal.τ).loc Cert.AxbRefIdeal.main_arg0)
      ∧ r.2.mem ((c.tc : Thread Cert.AxbRefIdeal.nD Cert.AxbRefIdeal.τ).loc Cert.AxbRefIdeal.main_arg1) = m ((c.tc : Thread Cert.AxbRefIdeal.nD Cert.AxbRefIdeal.τ).loc Cert.AxbRefIdeal.main_arg1)
      ∧ r.2.mem ((c.tc : Thread Cert.AxbRefIdeal.nD Cert.AxbRefIdeal.τ).loc Cert.AxbRefIdeal.main_arg2) = m ((c.tc : Thread Cert.AxbRefIdeal.nD Cert.AxbRefIdeal.τ).loc Cert.AxbRefIdeal.main_arg2)
      ∧ r.2.mem ((c.tc : Thread Cert.AxbRefIdeal.nD Cert.AxbRefIdeal.τ).loc Cert.AxbRefIdeal.main_arg3) = m ((c.tc : Thread Cert.AxbRefIdeal.nD Cert.AxbRefIdeal.τ).loc Cert.AxbRefIdeal.main_arg3))
      ∧ r.2.sem = fun _ => 0)

def quiescent_AxbRefIdeal_pre_axb_pre [hAxbRefIdeal : Cert.AxbRefIdeal.Facts] [hPre_axb_pre : Cert.Pre_axb_pre.Facts] : Prop :=
  ∀ (m : (ℓ : Loc Cert.AxbRefIdeal.nD Cert.AxbRefIdeal.τ Cert.AxbRefIdeal.sig) → Buf (Elt Ideal) ℓ) (g : Dev Cert.AxbRefIdeal.nD → PrngReg), Pre_AxbRefIdeal_axb_pre m →
    θ_run (Cert.AxbRefIdeal.defs (F := Ideal)) (onTc (τ := Cert.AxbRefIdeal.τ) (Cert.AxbRefIdeal.main (F := Ideal))) ⟨m, fun _ => 0, g⟩ (fun r => (∀ c : Dev Cert.AxbRefIdeal.nD,
      r.2.mem ((c.tc : Thread Cert.AxbRefIdeal.nD Cert.AxbRefIdeal.τ).loc Cert.AxbRefIdeal.main_arg0) = m ((c.tc : Thread Cert.AxbRefIdeal.nD Cert.AxbRefIdeal.τ).loc Cert.AxbRefIdeal.main_arg0)
      ∧ r.2.mem ((c.tc : Thread Cert.AxbRefIdeal.nD Cert.AxbRefIdeal.τ).loc Cert.AxbRefIdeal.main_arg1) = m ((c.tc : Thread Cert.AxbRefIdeal.nD Cert.AxbRefIdeal.τ).loc Cert.AxbRefIdeal.main_arg1)
      ∧ r.2.mem ((c.tc : Thread Cert.AxbRefIdeal.nD Cert.AxbRefIdeal.τ).loc Cert.AxbRefIdeal.main_arg2) = m ((c.tc : Thread Cert.AxbRefIdeal.nD Cert.AxbRefIdeal.τ).loc Cert.AxbRefIdeal.main_arg2)
      ∧ r.2.mem ((c.tc : Thread Cert.AxbRefIdeal.nD Cert.AxbRefIdeal.τ).loc Cert.AxbRefIdeal.main_arg3) = m ((c.tc : Thread Cert.AxbRefIdeal.nD Cert.AxbRefIdeal.τ).loc Cert.AxbRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojIdeal_pre_inproj_pre [hInprojIdeal : Cert.InprojIdeal.Facts] [hPre_inproj_pre : Cert.Pre_inproj_pre.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_pre m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_InprojRefIdeal_pre_inproj_pre [hInprojRefIdeal : Cert.InprojRefIdeal.Facts] [hPre_inproj_pre : Cert.Pre_inproj_pre.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_pre m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Ffnb [hFfnb : Cert.Ffnb.Facts] : Prop :=
  ∀ (m : (ℓ : Loc Cert.Ffnb.nD Cert.Ffnb.τ Cert.Ffnb.sig) → Buf (Elt Bits) ℓ) (g : Dev Cert.Ffnb.nD → PrngReg), Pre_Ffnb m →
    θ_run (Cert.Ffnb.defs (F := Bits)) (onTc (τ := Cert.Ffnb.τ) (Cert.Ffnb.main (F := Bits))) ⟨m, fun _ => 0, g⟩ (fun r => (∀ c : Dev Cert.Ffnb.nD,
      r.2.mem ((c.tc : Thread Cert.Ffnb.nD Cert.Ffnb.τ).loc Cert.Ffnb.main_arg0) = m ((c.tc : Thread Cert.Ffnb.nD Cert.Ffnb.τ).loc Cert.Ffnb.main_arg0)
      ∧ r.2.mem ((c.tc : Thread Cert.Ffnb.nD Cert.Ffnb.τ).loc Cert.Ffnb.main_arg1) = m ((c.tc : Thread Cert.Ffnb.nD Cert.Ffnb.τ).loc Cert.Ffnb.main_arg1)
      ∧ r.2.mem ((c.tc : Thread Cert.Ffnb.nD Cert.Ffnb.τ).loc Cert.Ffnb.main_arg2) = m ((c.tc : Thread Cert.Ffnb.nD Cert.Ffnb.τ).loc Cert.Ffnb.main_arg2)
      ∧ r.2.mem ((c.tc : Thread Cert.Ffnb.nD Cert.Ffnb.τ).loc Cert.Ffnb.main_arg3) = m ((c.tc : Thread Cert.Ffnb.nD Cert.Ffnb.τ).loc Cert.Ffnb.main_arg3)
      ∧ r.2.mem ((c.tc : Thread Cert.Ffnb.nD Cert.Ffnb.τ).loc Cert.Ffnb.main_arg4) = m ((c.tc : Thread Cert.Ffnb.nD Cert.Ffnb.τ).loc Cert.Ffnb.main_arg4)
      ∧ r.2.mem ((c.tc : Thread Cert.Ffnb.nD Cert.Ffnb.τ).loc Cert.Ffnb.main_arg5) = m ((c.tc : Thread Cert.Ffnb.nD Cert.Ffnb.τ).loc Cert.Ffnb.main_arg5)
      ∧ r.2.mem ((c.tc : Thread Cert.Ffnb.nD Cert.Ffnb.τ).loc Cert.Ffnb.main_arg6) = m ((c.tc : Thread Cert.Ffnb.nD Cert.Ffnb.τ).loc Cert.Ffnb.main_arg6))
      ∧ r.2.sem = fun _ => 0)

def quiescent_FfnbIdeal [hFfnbIdeal : Cert.FfnbIdeal.Facts] : Prop :=
  ∀ (m : (ℓ : Loc Cert.FfnbIdeal.nD Cert.FfnbIdeal.τ Cert.FfnbIdeal.sig) → Buf (Elt Ideal) ℓ) (g : Dev Cert.FfnbIdeal.nD → PrngReg), Pre_FfnbIdeal m →
    θ_run (Cert.FfnbIdeal.defs (F := Ideal)) (onTc (τ := Cert.FfnbIdeal.τ) (Cert.FfnbIdeal.main (F := Ideal))) ⟨m, fun _ => 0, g⟩ (fun r => (∀ c : Dev Cert.FfnbIdeal.nD,
      r.2.mem ((c.tc : Thread Cert.FfnbIdeal.nD Cert.FfnbIdeal.τ).loc Cert.FfnbIdeal.main_arg0) = m ((c.tc : Thread Cert.FfnbIdeal.nD Cert.FfnbIdeal.τ).loc Cert.FfnbIdeal.main_arg0)
      ∧ r.2.mem ((c.tc : Thread Cert.FfnbIdeal.nD Cert.FfnbIdeal.τ).loc Cert.FfnbIdeal.main_arg1) = m ((c.tc : Thread Cert.FfnbIdeal.nD Cert.FfnbIdeal.τ).loc Cert.FfnbIdeal.main_arg1)
      ∧ r.2.mem ((c.tc : Thread Cert.FfnbIdeal.nD Cert.FfnbIdeal.τ).loc Cert.FfnbIdeal.main_arg2) = m ((c.tc : Thread Cert.FfnbIdeal.nD Cert.FfnbIdeal.τ).loc Cert.FfnbIdeal.main_arg2)
      ∧ r.2.mem ((c.tc : Thread Cert.FfnbIdeal.nD Cert.FfnbIdeal.τ).loc Cert.FfnbIdeal.main_arg3) = m ((c.tc : Thread Cert.FfnbIdeal.nD Cert.FfnbIdeal.τ).loc Cert.FfnbIdeal.main_arg3)
      ∧ r.2.mem ((c.tc : Thread Cert.FfnbIdeal.nD Cert.FfnbIdeal.τ).loc Cert.FfnbIdeal.main_arg4) = m ((c.tc : Thread Cert.FfnbIdeal.nD Cert.FfnbIdeal.τ).loc Cert.FfnbIdeal.main_arg4)
      ∧ r.2.mem ((c.tc : Thread Cert.FfnbIdeal.nD Cert.FfnbIdeal.τ).loc Cert.FfnbIdeal.main_arg5) = m ((c.tc : Thread Cert.FfnbIdeal.nD Cert.FfnbIdeal.τ).loc Cert.FfnbIdeal.main_arg5)
      ∧ r.2.mem ((c.tc : Thread Cert.FfnbIdeal.nD Cert.FfnbIdeal.τ).loc Cert.FfnbIdeal.main_arg6) = m ((c.tc : Thread Cert.FfnbIdeal.nD Cert.FfnbIdeal.τ).loc Cert.FfnbIdeal.main_arg6))
      ∧ r.2.sem = fun _ => 0)

def quiescent_FfnbIdeal_pre_ffnb_pre [hFfnbIdeal : Cert.FfnbIdeal.Facts] [hPre_ffnb_pre : Cert.Pre_ffnb_pre.Facts] : Prop :=
  ∀ (m : (ℓ : Loc Cert.FfnbIdeal.nD Cert.FfnbIdeal.τ Cert.FfnbIdeal.sig) → Buf (Elt Ideal) ℓ) (g : Dev Cert.FfnbIdeal.nD → PrngReg), Pre_FfnbIdeal_ffnb_pre m →
    θ_run (Cert.FfnbIdeal.defs (F := Ideal)) (onTc (τ := Cert.FfnbIdeal.τ) (Cert.FfnbIdeal.main (F := Ideal))) ⟨m, fun _ => 0, g⟩ (fun r => (∀ c : Dev Cert.FfnbIdeal.nD,
      r.2.mem ((c.tc : Thread Cert.FfnbIdeal.nD Cert.FfnbIdeal.τ).loc Cert.FfnbIdeal.main_arg0) = m ((c.tc : Thread Cert.FfnbIdeal.nD Cert.FfnbIdeal.τ).loc Cert.FfnbIdeal.main_arg0)
      ∧ r.2.mem ((c.tc : Thread Cert.FfnbIdeal.nD Cert.FfnbIdeal.τ).loc Cert.FfnbIdeal.main_arg1) = m ((c.tc : Thread Cert.FfnbIdeal.nD Cert.FfnbIdeal.τ).loc Cert.FfnbIdeal.main_arg1)
      ∧ r.2.mem ((c.tc : Thread Cert.FfnbIdeal.nD Cert.FfnbIdeal.τ).loc Cert.FfnbIdeal.main_arg2) = m ((c.tc : Thread Cert.FfnbIdeal.nD Cert.FfnbIdeal.τ).loc Cert.FfnbIdeal.main_arg2)
      ∧ r.2.mem ((c.tc : Thread Cert.FfnbIdeal.nD Cert.FfnbIdeal.τ).loc Cert.FfnbIdeal.main_arg3) = m ((c.tc : Thread Cert.FfnbIdeal.nD Cert.FfnbIdeal.τ).loc Cert.FfnbIdeal.main_arg3)
      ∧ r.2.mem ((c.tc : Thread Cert.FfnbIdeal.nD Cert.FfnbIdeal.τ).loc Cert.FfnbIdeal.main_arg4) = m ((c.tc : Thread Cert.FfnbIdeal.nD Cert.FfnbIdeal.τ).loc Cert.FfnbIdeal.main_arg4)
      ∧ r.2.mem ((c.tc : Thread Cert.FfnbIdeal.nD Cert.FfnbIdeal.τ).loc Cert.FfnbIdeal.main_arg5) = m ((c.tc : Thread Cert.FfnbIdeal.nD Cert.FfnbIdeal.τ).loc Cert.FfnbIdeal.main_arg5)
      ∧ r.2.mem ((c.tc : Thread Cert.FfnbIdeal.nD Cert.FfnbIdeal.τ).loc Cert.FfnbIdeal.main_arg6) = m ((c.tc : Thread Cert.FfnbIdeal.nD Cert.FfnbIdeal.τ).loc Cert.FfnbIdeal.main_arg6))
      ∧ r.2.sem = fun _ => 0)

def quiescent_FfnbRefIdeal [hFfnbRefIdeal : Cert.FfnbRefIdeal.Facts] : Prop :=
  ∀ (m : (ℓ : Loc Cert.FfnbRefIdeal.nD Cert.FfnbRefIdeal.τ Cert.FfnbRefIdeal.sig) → Buf (Elt Ideal) ℓ) (g : Dev Cert.FfnbRefIdeal.nD → PrngReg), Pre_FfnbRefIdeal m →
    θ_run (Cert.FfnbRefIdeal.defs (F := Ideal)) (onTc (τ := Cert.FfnbRefIdeal.τ) (Cert.FfnbRefIdeal.main (F := Ideal))) ⟨m, fun _ => 0, g⟩ (fun r => (∀ c : Dev Cert.FfnbRefIdeal.nD,
      r.2.mem ((c.tc : Thread Cert.FfnbRefIdeal.nD Cert.FfnbRefIdeal.τ).loc Cert.FfnbRefIdeal.main_arg0) = m ((c.tc : Thread Cert.FfnbRefIdeal.nD Cert.FfnbRefIdeal.τ).loc Cert.FfnbRefIdeal.main_arg0)
      ∧ r.2.mem ((c.tc : Thread Cert.FfnbRefIdeal.nD Cert.FfnbRefIdeal.τ).loc Cert.FfnbRefIdeal.main_arg1) = m ((c.tc : Thread Cert.FfnbRefIdeal.nD Cert.FfnbRefIdeal.τ).loc Cert.FfnbRefIdeal.main_arg1)
      ∧ r.2.mem ((c.tc : Thread Cert.FfnbRefIdeal.nD Cert.FfnbRefIdeal.τ).loc Cert.FfnbRefIdeal.main_arg2) = m ((c.tc : Thread Cert.FfnbRefIdeal.nD Cert.FfnbRefIdeal.τ).loc Cert.FfnbRefIdeal.main_arg2)
      ∧ r.2.mem ((c.tc : Thread Cert.FfnbRefIdeal.nD Cert.FfnbRefIdeal.τ).loc Cert.FfnbRefIdeal.main_arg3) = m ((c.tc : Thread Cert.FfnbRefIdeal.nD Cert.FfnbRefIdeal.τ).loc Cert.FfnbRefIdeal.main_arg3)
      ∧ r.2.mem ((c.tc : Thread Cert.FfnbRefIdeal.nD Cert.FfnbRefIdeal.τ).loc Cert.FfnbRefIdeal.main_arg4) = m ((c.tc : Thread Cert.FfnbRefIdeal.nD Cert.FfnbRefIdeal.τ).loc Cert.FfnbRefIdeal.main_arg4)
      ∧ r.2.mem ((c.tc : Thread Cert.FfnbRefIdeal.nD Cert.FfnbRefIdeal.τ).loc Cert.FfnbRefIdeal.main_arg5) = m ((c.tc : Thread Cert.FfnbRefIdeal.nD Cert.FfnbRefIdeal.τ).loc Cert.FfnbRefIdeal.main_arg5)
      ∧ r.2.mem ((c.tc : Thread Cert.FfnbRefIdeal.nD Cert.FfnbRefIdeal.τ).loc Cert.FfnbRefIdeal.main_arg6) = m ((c.tc : Thread Cert.FfnbRefIdeal.nD Cert.FfnbRefIdeal.τ).loc Cert.FfnbRefIdeal.main_arg6))
      ∧ r.2.sem = fun _ => 0)

def quiescent_FfnbRefIdeal_pre_ffnb_pre [hFfnbRefIdeal : Cert.FfnbRefIdeal.Facts] [hPre_ffnb_pre : Cert.Pre_ffnb_pre.Facts] : Prop :=
  ∀ (m : (ℓ : Loc Cert.FfnbRefIdeal.nD Cert.FfnbRefIdeal.τ Cert.FfnbRefIdeal.sig) → Buf (Elt Ideal) ℓ) (g : Dev Cert.FfnbRefIdeal.nD → PrngReg), Pre_FfnbRefIdeal_ffnb_pre m →
    θ_run (Cert.FfnbRefIdeal.defs (F := Ideal)) (onTc (τ := Cert.FfnbRefIdeal.τ) (Cert.FfnbRefIdeal.main (F := Ideal))) ⟨m, fun _ => 0, g⟩ (fun r => (∀ c : Dev Cert.FfnbRefIdeal.nD,
      r.2.mem ((c.tc : Thread Cert.FfnbRefIdeal.nD Cert.FfnbRefIdeal.τ).loc Cert.FfnbRefIdeal.main_arg0) = m ((c.tc : Thread Cert.FfnbRefIdeal.nD Cert.FfnbRefIdeal.τ).loc Cert.FfnbRefIdeal.main_arg0)
      ∧ r.2.mem ((c.tc : Thread Cert.FfnbRefIdeal.nD Cert.FfnbRefIdeal.τ).loc Cert.FfnbRefIdeal.main_arg1) = m ((c.tc : Thread Cert.FfnbRefIdeal.nD Cert.FfnbRefIdeal.τ).loc Cert.FfnbRefIdeal.main_arg1)
      ∧ r.2.mem ((c.tc : Thread Cert.FfnbRefIdeal.nD Cert.FfnbRefIdeal.τ).loc Cert.FfnbRefIdeal.main_arg2) = m ((c.tc : Thread Cert.FfnbRefIdeal.nD Cert.FfnbRefIdeal.τ).loc Cert.FfnbRefIdeal.main_arg2)
      ∧ r.2.mem ((c.tc : Thread Cert.FfnbRefIdeal.nD Cert.FfnbRefIdeal.τ).loc Cert.FfnbRefIdeal.main_arg3) = m ((c.tc : Thread Cert.FfnbRefIdeal.nD Cert.FfnbRefIdeal.τ).loc Cert.FfnbRefIdeal.main_arg3)
      ∧ r.2.mem ((c.tc : Thread Cert.FfnbRefIdeal.nD Cert.FfnbRefIdeal.τ).loc Cert.FfnbRefIdeal.main_arg4) = m ((c.tc : Thread Cert.FfnbRefIdeal.nD Cert.FfnbRefIdeal.τ).loc Cert.FfnbRefIdeal.main_arg4)
      ∧ r.2.mem ((c.tc : Thread Cert.FfnbRefIdeal.nD Cert.FfnbRefIdeal.τ).loc Cert.FfnbRefIdeal.main_arg5) = m ((c.tc : Thread Cert.FfnbRefIdeal.nD Cert.FfnbRefIdeal.τ).loc Cert.FfnbRefIdeal.main_arg5)
      ∧ r.2.mem ((c.tc : Thread Cert.FfnbRefIdeal.nD Cert.FfnbRefIdeal.τ).loc Cert.FfnbRefIdeal.main_arg6) = m ((c.tc : Thread Cert.FfnbRefIdeal.nD Cert.FfnbRefIdeal.τ).loc Cert.FfnbRefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojIdeal_pre_oproj_pre [hOprojIdeal : Cert.OprojIdeal.Facts] [hPre_oproj_pre : Cert.Pre_oproj_pre.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal_oproj_pre m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_OprojRefIdeal_pre_oproj_pre [hOprojRefIdeal : Cert.OprojRefIdeal.Facts] [hPre_oproj_pre : Cert.Pre_oproj_pre.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal_oproj_pre m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_Dproj [hDproj : Cert.Dproj.Facts] : Prop :=
  ∀ (m : (ℓ : Loc Cert.Dproj.nD Cert.Dproj.τ Cert.Dproj.sig) → Buf (Elt Bits) ℓ) (g : Dev Cert.Dproj.nD → PrngReg), Pre_Dproj m →
    θ_run (Cert.Dproj.defs (F := Bits)) (onTc (τ := Cert.Dproj.τ) (Cert.Dproj.main (F := Bits))) ⟨m, fun _ => 0, g⟩ (fun r => (∀ c : Dev Cert.Dproj.nD,
      r.2.mem ((c.tc : Thread Cert.Dproj.nD Cert.Dproj.τ).loc Cert.Dproj.main_arg0) = m ((c.tc : Thread Cert.Dproj.nD Cert.Dproj.τ).loc Cert.Dproj.main_arg0)
      ∧ r.2.mem ((c.tc : Thread Cert.Dproj.nD Cert.Dproj.τ).loc Cert.Dproj.main_arg1) = m ((c.tc : Thread Cert.Dproj.nD Cert.Dproj.τ).loc Cert.Dproj.main_arg1)
      ∧ r.2.mem ((c.tc : Thread Cert.Dproj.nD Cert.Dproj.τ).loc Cert.Dproj.main_arg2) = m ((c.tc : Thread Cert.Dproj.nD Cert.Dproj.τ).loc Cert.Dproj.main_arg2)
      ∧ r.2.mem ((c.tc : Thread Cert.Dproj.nD Cert.Dproj.τ).loc Cert.Dproj.main_arg3) = m ((c.tc : Thread Cert.Dproj.nD Cert.Dproj.τ).loc Cert.Dproj.main_arg3)
      ∧ r.2.mem ((c.tc : Thread Cert.Dproj.nD Cert.Dproj.τ).loc Cert.Dproj.main_arg4) = m ((c.tc : Thread Cert.Dproj.nD Cert.Dproj.τ).loc Cert.Dproj.main_arg4)
      ∧ r.2.mem ((c.tc : Thread Cert.Dproj.nD Cert.Dproj.τ).loc Cert.Dproj.main_arg5) = m ((c.tc : Thread Cert.Dproj.nD Cert.Dproj.τ).loc Cert.Dproj.main_arg5)
      ∧ r.2.mem ((c.tc : Thread Cert.Dproj.nD Cert.Dproj.τ).loc Cert.Dproj.main_arg6) = m ((c.tc : Thread Cert.Dproj.nD Cert.Dproj.τ).loc Cert.Dproj.main_arg6)
      ∧ r.2.mem ((c.tc : Thread Cert.Dproj.nD Cert.Dproj.τ).loc Cert.Dproj.main_arg7) = m ((c.tc : Thread Cert.Dproj.nD Cert.Dproj.τ).loc Cert.Dproj.main_arg7)
      ∧ r.2.mem ((c.tc : Thread Cert.Dproj.nD Cert.Dproj.τ).loc Cert.Dproj.main_arg8) = m ((c.tc : Thread Cert.Dproj.nD Cert.Dproj.τ).loc Cert.Dproj.main_arg8)
      ∧ r.2.mem ((c.tc : Thread Cert.Dproj.nD Cert.Dproj.τ).loc Cert.Dproj.main_arg9) = m ((c.tc : Thread Cert.Dproj.nD Cert.Dproj.τ).loc Cert.Dproj.main_arg9)
      ∧ r.2.mem ((c.tc : Thread Cert.Dproj.nD Cert.Dproj.τ).loc Cert.Dproj.main_arg10) = m ((c.tc : Thread Cert.Dproj.nD Cert.Dproj.τ).loc Cert.Dproj.main_arg10)
      ∧ r.2.mem ((c.tc : Thread Cert.Dproj.nD Cert.Dproj.τ).loc Cert.Dproj.main_arg11) = m ((c.tc : Thread Cert.Dproj.nD Cert.Dproj.τ).loc Cert.Dproj.main_arg11)
      ∧ r.2.mem ((c.tc : Thread Cert.Dproj.nD Cert.Dproj.τ).loc Cert.Dproj.main_arg12) = m ((c.tc : Thread Cert.Dproj.nD Cert.Dproj.τ).loc Cert.Dproj.main_arg12)
      ∧ r.2.mem ((c.tc : Thread Cert.Dproj.nD Cert.Dproj.τ).loc Cert.Dproj.main_arg13) = m ((c.tc : Thread Cert.Dproj.nD Cert.Dproj.τ).loc Cert.Dproj.main_arg13)
      ∧ r.2.mem ((c.tc : Thread Cert.Dproj.nD Cert.Dproj.τ).loc Cert.Dproj.main_arg14) = m ((c.tc : Thread Cert.Dproj.nD Cert.Dproj.τ).loc Cert.Dproj.main_arg14)
      ∧ r.2.mem ((c.tc : Thread Cert.Dproj.nD Cert.Dproj.τ).loc Cert.Dproj.main_arg15) = m ((c.tc : Thread Cert.Dproj.nD Cert.Dproj.τ).loc Cert.Dproj.main_arg15))
      ∧ r.2.sem = fun _ => 0)

def quiescent_DprojIdeal [hDprojIdeal : Cert.DprojIdeal.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
      ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
      ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
      ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
      ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
      ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
      ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
      ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9)
      ∧ r.2.mem ((c.tc : Thread Cert.DprojIdeal.nD Cert.DprojIdeal.τ).loc Cert.DprojIdeal.main_arg10) = m ((c.tc : Thread Cert.DprojIdeal.nD Cert.DprojIdeal.τ).loc Cert.DprojIdeal.main_arg10)
      ∧ r.2.mem ((c.tc : Thread Cert.DprojIdeal.nD Cert.DprojIdeal.τ).loc Cert.DprojIdeal.main_arg11) = m ((c.tc : Thread Cert.DprojIdeal.nD Cert.DprojIdeal.τ).loc Cert.DprojIdeal.main_arg11)
      ∧ r.2.mem ((c.tc : Thread Cert.DprojIdeal.nD Cert.DprojIdeal.τ).loc Cert.DprojIdeal.main_arg12) = m ((c.tc : Thread Cert.DprojIdeal.nD Cert.DprojIdeal.τ).loc Cert.DprojIdeal.main_arg12)
      ∧ r.2.mem ((c.tc : Thread Cert.DprojIdeal.nD Cert.DprojIdeal.τ).loc Cert.DprojIdeal.main_arg13) = m ((c.tc : Thread Cert.DprojIdeal.nD Cert.DprojIdeal.τ).loc Cert.DprojIdeal.main_arg13)
      ∧ r.2.mem ((c.tc : Thread Cert.DprojIdeal.nD Cert.DprojIdeal.τ).loc Cert.DprojIdeal.main_arg14) = m ((c.tc : Thread Cert.DprojIdeal.nD Cert.DprojIdeal.τ).loc Cert.DprojIdeal.main_arg14)
      ∧ r.2.mem ((c.tc : Thread Cert.DprojIdeal.nD Cert.DprojIdeal.τ).loc Cert.DprojIdeal.main_arg15) = m ((c.tc : Thread Cert.DprojIdeal.nD Cert.DprojIdeal.τ).loc Cert.DprojIdeal.main_arg15))
      ∧ r.2.sem = fun _ => 0)

def quiescent_DprojIdeal_pre_dproj_pre [hDprojIdeal : Cert.DprojIdeal.Facts] [hPre_dproj_pre : Cert.Pre_dproj_pre.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal_dproj_pre m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
      ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
      ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
      ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
      ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
      ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
      ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
      ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9)
      ∧ r.2.mem ((c.tc : Thread Cert.DprojIdeal.nD Cert.DprojIdeal.τ).loc Cert.DprojIdeal.main_arg10) = m ((c.tc : Thread Cert.DprojIdeal.nD Cert.DprojIdeal.τ).loc Cert.DprojIdeal.main_arg10)
      ∧ r.2.mem ((c.tc : Thread Cert.DprojIdeal.nD Cert.DprojIdeal.τ).loc Cert.DprojIdeal.main_arg11) = m ((c.tc : Thread Cert.DprojIdeal.nD Cert.DprojIdeal.τ).loc Cert.DprojIdeal.main_arg11)
      ∧ r.2.mem ((c.tc : Thread Cert.DprojIdeal.nD Cert.DprojIdeal.τ).loc Cert.DprojIdeal.main_arg12) = m ((c.tc : Thread Cert.DprojIdeal.nD Cert.DprojIdeal.τ).loc Cert.DprojIdeal.main_arg12)
      ∧ r.2.mem ((c.tc : Thread Cert.DprojIdeal.nD Cert.DprojIdeal.τ).loc Cert.DprojIdeal.main_arg13) = m ((c.tc : Thread Cert.DprojIdeal.nD Cert.DprojIdeal.τ).loc Cert.DprojIdeal.main_arg13)
      ∧ r.2.mem ((c.tc : Thread Cert.DprojIdeal.nD Cert.DprojIdeal.τ).loc Cert.DprojIdeal.main_arg14) = m ((c.tc : Thread Cert.DprojIdeal.nD Cert.DprojIdeal.τ).loc Cert.DprojIdeal.main_arg14)
      ∧ r.2.mem ((c.tc : Thread Cert.DprojIdeal.nD Cert.DprojIdeal.τ).loc Cert.DprojIdeal.main_arg15) = m ((c.tc : Thread Cert.DprojIdeal.nD Cert.DprojIdeal.τ).loc Cert.DprojIdeal.main_arg15))
      ∧ r.2.sem = fun _ => 0)

def quiescent_DprojRefIdeal [hDprojRefIdeal : Cert.DprojRefIdeal.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1)
      ∧ r.2.mem ((c.tc : Thread Cert.DprojRefIdeal.nD Cert.DprojRefIdeal.τ).loc Cert.DprojRefIdeal.main_arg2) = m ((c.tc : Thread Cert.DprojRefIdeal.nD Cert.DprojRefIdeal.τ).loc Cert.DprojRefIdeal.main_arg2)
      ∧ r.2.mem ((c.tc : Thread Cert.DprojRefIdeal.nD Cert.DprojRefIdeal.τ).loc Cert.DprojRefIdeal.main_arg3) = m ((c.tc : Thread Cert.DprojRefIdeal.nD Cert.DprojRefIdeal.τ).loc Cert.DprojRefIdeal.main_arg3)
      ∧ r.2.mem ((c.tc : Thread Cert.DprojRefIdeal.nD Cert.DprojRefIdeal.τ).loc Cert.DprojRefIdeal.main_arg4) = m ((c.tc : Thread Cert.DprojRefIdeal.nD Cert.DprojRefIdeal.τ).loc Cert.DprojRefIdeal.main_arg4)
      ∧ r.2.mem ((c.tc : Thread Cert.DprojRefIdeal.nD Cert.DprojRefIdeal.τ).loc Cert.DprojRefIdeal.main_arg5) = m ((c.tc : Thread Cert.DprojRefIdeal.nD Cert.DprojRefIdeal.τ).loc Cert.DprojRefIdeal.main_arg5)
      ∧ r.2.mem ((c.tc : Thread Cert.DprojRefIdeal.nD Cert.DprojRefIdeal.τ).loc Cert.DprojRefIdeal.main_arg6) = m ((c.tc : Thread Cert.DprojRefIdeal.nD Cert.DprojRefIdeal.τ).loc Cert.DprojRefIdeal.main_arg6)
      ∧ r.2.mem ((c.tc : Thread Cert.DprojRefIdeal.nD Cert.DprojRefIdeal.τ).loc Cert.DprojRefIdeal.main_arg7) = m ((c.tc : Thread Cert.DprojRefIdeal.nD Cert.DprojRefIdeal.τ).loc Cert.DprojRefIdeal.main_arg7)
      ∧ r.2.mem ((c.tc : Thread Cert.DprojRefIdeal.nD Cert.DprojRefIdeal.τ).loc Cert.DprojRefIdeal.main_arg8) = m ((c.tc : Thread Cert.DprojRefIdeal.nD Cert.DprojRefIdeal.τ).loc Cert.DprojRefIdeal.main_arg8)
      ∧ r.2.mem ((c.tc : Thread Cert.DprojRefIdeal.nD Cert.DprojRefIdeal.τ).loc Cert.DprojRefIdeal.main_arg9) = m ((c.tc : Thread Cert.DprojRefIdeal.nD Cert.DprojRefIdeal.τ).loc Cert.DprojRefIdeal.main_arg9)
      ∧ r.2.mem ((c.tc : Thread Cert.DprojRefIdeal.nD Cert.DprojRefIdeal.τ).loc Cert.DprojRefIdeal.main_arg10) = m ((c.tc : Thread Cert.DprojRefIdeal.nD Cert.DprojRefIdeal.τ).loc Cert.DprojRefIdeal.main_arg10)
      ∧ r.2.mem ((c.tc : Thread Cert.DprojRefIdeal.nD Cert.DprojRefIdeal.τ).loc Cert.DprojRefIdeal.main_arg11) = m ((c.tc : Thread Cert.DprojRefIdeal.nD Cert.DprojRefIdeal.τ).loc Cert.DprojRefIdeal.main_arg11)
      ∧ r.2.mem ((c.tc : Thread Cert.DprojRefIdeal.nD Cert.DprojRefIdeal.τ).loc Cert.DprojRefIdeal.main_arg12) = m ((c.tc : Thread Cert.DprojRefIdeal.nD Cert.DprojRefIdeal.τ).loc Cert.DprojRefIdeal.main_arg12)
      ∧ r.2.mem ((c.tc : Thread Cert.DprojRefIdeal.nD Cert.DprojRefIdeal.τ).loc Cert.DprojRefIdeal.main_arg13) = m ((c.tc : Thread Cert.DprojRefIdeal.nD Cert.DprojRefIdeal.τ).loc Cert.DprojRefIdeal.main_arg13)
      ∧ r.2.mem ((c.tc : Thread Cert.DprojRefIdeal.nD Cert.DprojRefIdeal.τ).loc Cert.DprojRefIdeal.main_arg14) = m ((c.tc : Thread Cert.DprojRefIdeal.nD Cert.DprojRefIdeal.τ).loc Cert.DprojRefIdeal.main_arg14)
      ∧ r.2.mem ((c.tc : Thread Cert.DprojRefIdeal.nD Cert.DprojRefIdeal.τ).loc Cert.DprojRefIdeal.main_arg15) = m ((c.tc : Thread Cert.DprojRefIdeal.nD Cert.DprojRefIdeal.τ).loc Cert.DprojRefIdeal.main_arg15))
      ∧ r.2.sem = fun _ => 0)

def quiescent_DprojRefIdeal_pre_dproj_pre [hDprojRefIdeal : Cert.DprojRefIdeal.Facts] [hPre_dproj_pre : Cert.Pre_dproj_pre.Facts] : Prop :=
  ∀ (m : (ℓ : Loc Cert.DprojRefIdeal.nD Cert.DprojRefIdeal.τ Cert.DprojRefIdeal.sig) → Buf (Elt Ideal) ℓ) (g : Dev Cert.DprojRefIdeal.nD → PrngReg), Pre_DprojRefIdeal_dproj_pre m →
    θ_run (Cert.DprojRefIdeal.defs (F := Ideal)) (onTc (τ := Cert.DprojRefIdeal.τ) (Cert.DprojRefIdeal.main (F := Ideal))) ⟨m, fun _ => 0, g⟩ (fun r => (∀ c : Dev Cert.DprojRefIdeal.nD,
      r.2.mem ((c.tc : Thread Cert.DprojRefIdeal.nD Cert.DprojRefIdeal.τ).loc Cert.DprojRefIdeal.main_arg0) = m ((c.tc : Thread Cert.DprojRefIdeal.nD Cert.DprojRefIdeal.τ).loc Cert.DprojRefIdeal.main_arg0)
      ∧ r.2.mem ((c.tc : Thread Cert.DprojRefIdeal.nD Cert.DprojRefIdeal.τ).loc Cert.DprojRefIdeal.main_arg1) = m ((c.tc : Thread Cert.DprojRefIdeal.nD Cert.DprojRefIdeal.τ).loc Cert.DprojRefIdeal.main_arg1)
      ∧ r.2.mem ((c.tc : Thread Cert.DprojRefIdeal.nD Cert.DprojRefIdeal.τ).loc Cert.DprojRefIdeal.main_arg2) = m ((c.tc : Thread Cert.DprojRefIdeal.nD Cert.DprojRefIdeal.τ).loc Cert.DprojRefIdeal.main_arg2)
      ∧ r.2.mem ((c.tc : Thread Cert.DprojRefIdeal.nD Cert.DprojRefIdeal.τ).loc Cert.DprojRefIdeal.main_arg3) = m ((c.tc : Thread Cert.DprojRefIdeal.nD Cert.DprojRefIdeal.τ).loc Cert.DprojRefIdeal.main_arg3)
      ∧ r.2.mem ((c.tc : Thread Cert.DprojRefIdeal.nD Cert.DprojRefIdeal.τ).loc Cert.DprojRefIdeal.main_arg4) = m ((c.tc : Thread Cert.DprojRefIdeal.nD Cert.DprojRefIdeal.τ).loc Cert.DprojRefIdeal.main_arg4)
      ∧ r.2.mem ((c.tc : Thread Cert.DprojRefIdeal.nD Cert.DprojRefIdeal.τ).loc Cert.DprojRefIdeal.main_arg5) = m ((c.tc : Thread Cert.DprojRefIdeal.nD Cert.DprojRefIdeal.τ).loc Cert.DprojRefIdeal.main_arg5)
      ∧ r.2.mem ((c.tc : Thread Cert.DprojRefIdeal.nD Cert.DprojRefIdeal.τ).loc Cert.DprojRefIdeal.main_arg6) = m ((c.tc : Thread Cert.DprojRefIdeal.nD Cert.DprojRefIdeal.τ).loc Cert.DprojRefIdeal.main_arg6)
      ∧ r.2.mem ((c.tc : Thread Cert.DprojRefIdeal.nD Cert.DprojRefIdeal.τ).loc Cert.DprojRefIdeal.main_arg7) = m ((c.tc : Thread Cert.DprojRefIdeal.nD Cert.DprojRefIdeal.τ).loc Cert.DprojRefIdeal.main_arg7)
      ∧ r.2.mem ((c.tc : Thread Cert.DprojRefIdeal.nD Cert.DprojRefIdeal.τ).loc Cert.DprojRefIdeal.main_arg8) = m ((c.tc : Thread Cert.DprojRefIdeal.nD Cert.DprojRefIdeal.τ).loc Cert.DprojRefIdeal.main_arg8)
      ∧ r.2.mem ((c.tc : Thread Cert.DprojRefIdeal.nD Cert.DprojRefIdeal.τ).loc Cert.DprojRefIdeal.main_arg9) = m ((c.tc : Thread Cert.DprojRefIdeal.nD Cert.DprojRefIdeal.τ).loc Cert.DprojRefIdeal.main_arg9)
      ∧ r.2.mem ((c.tc : Thread Cert.DprojRefIdeal.nD Cert.DprojRefIdeal.τ).loc Cert.DprojRefIdeal.main_arg10) = m ((c.tc : Thread Cert.DprojRefIdeal.nD Cert.DprojRefIdeal.τ).loc Cert.DprojRefIdeal.main_arg10)
      ∧ r.2.mem ((c.tc : Thread Cert.DprojRefIdeal.nD Cert.DprojRefIdeal.τ).loc Cert.DprojRefIdeal.main_arg11) = m ((c.tc : Thread Cert.DprojRefIdeal.nD Cert.DprojRefIdeal.τ).loc Cert.DprojRefIdeal.main_arg11)
      ∧ r.2.mem ((c.tc : Thread Cert.DprojRefIdeal.nD Cert.DprojRefIdeal.τ).loc Cert.DprojRefIdeal.main_arg12) = m ((c.tc : Thread Cert.DprojRefIdeal.nD Cert.DprojRefIdeal.τ).loc Cert.DprojRefIdeal.main_arg12)
      ∧ r.2.mem ((c.tc : Thread Cert.DprojRefIdeal.nD Cert.DprojRefIdeal.τ).loc Cert.DprojRefIdeal.main_arg13) = m ((c.tc : Thread Cert.DprojRefIdeal.nD Cert.DprojRefIdeal.τ).loc Cert.DprojRefIdeal.main_arg13)
      ∧ r.2.mem ((c.tc : Thread Cert.DprojRefIdeal.nD Cert.DprojRefIdeal.τ).loc Cert.DprojRefIdeal.main_arg14) = m ((c.tc : Thread Cert.DprojRefIdeal.nD Cert.DprojRefIdeal.τ).loc Cert.DprojRefIdeal.main_arg14)
      ∧ r.2.mem ((c.tc : Thread Cert.DprojRefIdeal.nD Cert.DprojRefIdeal.τ).loc Cert.DprojRefIdeal.main_arg15) = m ((c.tc : Thread Cert.DprojRefIdeal.nD Cert.DprojRefIdeal.τ).loc Cert.DprojRefIdeal.main_arg15))
      ∧ r.2.sem = fun _ => 0)

def quiescent_Axf [hAxf : Cert.Axf.Facts] : Prop :=
  ∀ (m : (ℓ : Loc Cert.Axf.nD Cert.Axf.τ Cert.Axf.sig) → Buf (Elt Bits) ℓ) (g : Dev Cert.Axf.nD → PrngReg), Pre_Axf m →
    θ_run (Cert.Axf.defs (F := Bits)) (onTc (τ := Cert.Axf.τ) (Cert.Axf.main (F := Bits))) ⟨m, fun _ => 0, g⟩ (fun r => (∀ c : Dev Cert.Axf.nD,
      r.2.mem ((c.tc : Thread Cert.Axf.nD Cert.Axf.τ).loc Cert.Axf.main_arg0) = m ((c.tc : Thread Cert.Axf.nD Cert.Axf.τ).loc Cert.Axf.main_arg0)
      ∧ r.2.mem ((c.tc : Thread Cert.Axf.nD Cert.Axf.τ).loc Cert.Axf.main_arg1) = m ((c.tc : Thread Cert.Axf.nD Cert.Axf.τ).loc Cert.Axf.main_arg1)
      ∧ r.2.mem ((c.tc : Thread Cert.Axf.nD Cert.Axf.τ).loc Cert.Axf.main_arg2) = m ((c.tc : Thread Cert.Axf.nD Cert.Axf.τ).loc Cert.Axf.main_arg2)
      ∧ r.2.mem ((c.tc : Thread Cert.Axf.nD Cert.Axf.τ).loc Cert.Axf.main_arg3) = m ((c.tc : Thread Cert.Axf.nD Cert.Axf.τ).loc Cert.Axf.main_arg3))
      ∧ r.2.sem = fun _ => 0)

def quiescent_AxfIdeal [hAxfIdeal : Cert.AxfIdeal.Facts] : Prop :=
  ∀ (m : (ℓ : Loc Cert.AxfIdeal.nD Cert.AxfIdeal.τ Cert.AxfIdeal.sig) → Buf (Elt Ideal) ℓ) (g : Dev Cert.AxfIdeal.nD → PrngReg), Pre_AxfIdeal m →
    θ_run (Cert.AxfIdeal.defs (F := Ideal)) (onTc (τ := Cert.AxfIdeal.τ) (Cert.AxfIdeal.main (F := Ideal))) ⟨m, fun _ => 0, g⟩ (fun r => (∀ c : Dev Cert.AxfIdeal.nD,
      r.2.mem ((c.tc : Thread Cert.AxfIdeal.nD Cert.AxfIdeal.τ).loc Cert.AxfIdeal.main_arg0) = m ((c.tc : Thread Cert.AxfIdeal.nD Cert.AxfIdeal.τ).loc Cert.AxfIdeal.main_arg0)
      ∧ r.2.mem ((c.tc : Thread Cert.AxfIdeal.nD Cert.AxfIdeal.τ).loc Cert.AxfIdeal.main_arg1) = m ((c.tc : Thread Cert.AxfIdeal.nD Cert.AxfIdeal.τ).loc Cert.AxfIdeal.main_arg1)
      ∧ r.2.mem ((c.tc : Thread Cert.AxfIdeal.nD Cert.AxfIdeal.τ).loc Cert.AxfIdeal.main_arg2) = m ((c.tc : Thread Cert.AxfIdeal.nD Cert.AxfIdeal.τ).loc Cert.AxfIdeal.main_arg2)
      ∧ r.2.mem ((c.tc : Thread Cert.AxfIdeal.nD Cert.AxfIdeal.τ).loc Cert.AxfIdeal.main_arg3) = m ((c.tc : Thread Cert.AxfIdeal.nD Cert.AxfIdeal.τ).loc Cert.AxfIdeal.main_arg3))
      ∧ r.2.sem = fun _ => 0)

def quiescent_AxfIdeal_pre_axf_pre [hAxfIdeal : Cert.AxfIdeal.Facts] [hPre_axf_pre : Cert.Pre_axf_pre.Facts] : Prop :=
  ∀ (m : (ℓ : Loc Cert.AxfIdeal.nD Cert.AxfIdeal.τ Cert.AxfIdeal.sig) → Buf (Elt Ideal) ℓ) (g : Dev Cert.AxfIdeal.nD → PrngReg), Pre_AxfIdeal_axf_pre m →
    θ_run (Cert.AxfIdeal.defs (F := Ideal)) (onTc (τ := Cert.AxfIdeal.τ) (Cert.AxfIdeal.main (F := Ideal))) ⟨m, fun _ => 0, g⟩ (fun r => (∀ c : Dev Cert.AxfIdeal.nD,
      r.2.mem ((c.tc : Thread Cert.AxfIdeal.nD Cert.AxfIdeal.τ).loc Cert.AxfIdeal.main_arg0) = m ((c.tc : Thread Cert.AxfIdeal.nD Cert.AxfIdeal.τ).loc Cert.AxfIdeal.main_arg0)
      ∧ r.2.mem ((c.tc : Thread Cert.AxfIdeal.nD Cert.AxfIdeal.τ).loc Cert.AxfIdeal.main_arg1) = m ((c.tc : Thread Cert.AxfIdeal.nD Cert.AxfIdeal.τ).loc Cert.AxfIdeal.main_arg1)
      ∧ r.2.mem ((c.tc : Thread Cert.AxfIdeal.nD Cert.AxfIdeal.τ).loc Cert.AxfIdeal.main_arg2) = m ((c.tc : Thread Cert.AxfIdeal.nD Cert.AxfIdeal.τ).loc Cert.AxfIdeal.main_arg2)
      ∧ r.2.mem ((c.tc : Thread Cert.AxfIdeal.nD Cert.AxfIdeal.τ).loc Cert.AxfIdeal.main_arg3) = m ((c.tc : Thread Cert.AxfIdeal.nD Cert.AxfIdeal.τ).loc Cert.AxfIdeal.main_arg3))
      ∧ r.2.sem = fun _ => 0)

def quiescent_AxfRefIdeal [hAxfRefIdeal : Cert.AxfRefIdeal.Facts] : Prop :=
  ∀ (m : (ℓ : Loc Cert.AxfRefIdeal.nD Cert.AxfRefIdeal.τ Cert.AxfRefIdeal.sig) → Buf (Elt Ideal) ℓ) (g : Dev Cert.AxfRefIdeal.nD → PrngReg), Pre_AxfRefIdeal m →
    θ_run (Cert.AxfRefIdeal.defs (F := Ideal)) (onTc (τ := Cert.AxfRefIdeal.τ) (Cert.AxfRefIdeal.main (F := Ideal))) ⟨m, fun _ => 0, g⟩ (fun r => (∀ c : Dev Cert.AxfRefIdeal.nD,
      r.2.mem ((c.tc : Thread Cert.AxfRefIdeal.nD Cert.AxfRefIdeal.τ).loc Cert.AxfRefIdeal.main_arg0) = m ((c.tc : Thread Cert.AxfRefIdeal.nD Cert.AxfRefIdeal.τ).loc Cert.AxfRefIdeal.main_arg0)
      ∧ r.2.mem ((c.tc : Thread Cert.AxfRefIdeal.nD Cert.AxfRefIdeal.τ).loc Cert.AxfRefIdeal.main_arg1) = m ((c.tc : Thread Cert.AxfRefIdeal.nD Cert.AxfRefIdeal.τ).loc Cert.AxfRefIdeal.main_arg1)
      ∧ r.2.mem ((c.tc : Thread Cert.AxfRefIdeal.nD Cert.AxfRefIdeal.τ).loc Cert.AxfRefIdeal.main_arg2) = m ((c.tc : Thread Cert.AxfRefIdeal.nD Cert.AxfRefIdeal.τ).loc Cert.AxfRefIdeal.main_arg2)
      ∧ r.2.mem ((c.tc : Thread Cert.AxfRefIdeal.nD Cert.AxfRefIdeal.τ).loc Cert.AxfRefIdeal.main_arg3) = m ((c.tc : Thread Cert.AxfRefIdeal.nD Cert.AxfRefIdeal.τ).loc Cert.AxfRefIdeal.main_arg3))
      ∧ r.2.sem = fun _ => 0)

def quiescent_AxfRefIdeal_pre_axf_pre [hAxfRefIdeal : Cert.AxfRefIdeal.Facts] [hPre_axf_pre : Cert.Pre_axf_pre.Facts] : Prop :=
  ∀ (m : (ℓ : Loc Cert.AxfRefIdeal.nD Cert.AxfRefIdeal.τ Cert.AxfRefIdeal.sig) → Buf (Elt Ideal) ℓ) (g : Dev Cert.AxfRefIdeal.nD → PrngReg), Pre_AxfRefIdeal_axf_pre m →
    θ_run (Cert.AxfRefIdeal.defs (F := Ideal)) (onTc (τ := Cert.AxfRefIdeal.τ) (Cert.AxfRefIdeal.main (F := Ideal))) ⟨m, fun _ => 0, g⟩ (fun r => (∀ c : Dev Cert.AxfRefIdeal.nD,
      r.2.mem ((c.tc : Thread Cert.AxfRefIdeal.nD Cert.AxfRefIdeal.τ).loc Cert.AxfRefIdeal.main_arg0) = m ((c.tc : Thread Cert.AxfRefIdeal.nD Cert.AxfRefIdeal.τ).loc Cert.AxfRefIdeal.main_arg0)
      ∧ r.2.mem ((c.tc : Thread Cert.AxfRefIdeal.nD Cert.AxfRefIdeal.τ).loc Cert.AxfRefIdeal.main_arg1) = m ((c.tc : Thread Cert.AxfRefIdeal.nD Cert.AxfRefIdeal.τ).loc Cert.AxfRefIdeal.main_arg1)
      ∧ r.2.mem ((c.tc : Thread Cert.AxfRefIdeal.nD Cert.AxfRefIdeal.τ).loc Cert.AxfRefIdeal.main_arg2) = m ((c.tc : Thread Cert.AxfRefIdeal.nD Cert.AxfRefIdeal.τ).loc Cert.AxfRefIdeal.main_arg2)
      ∧ r.2.mem ((c.tc : Thread Cert.AxfRefIdeal.nD Cert.AxfRefIdeal.τ).loc Cert.AxfRefIdeal.main_arg3) = m ((c.tc : Thread Cert.AxfRefIdeal.nD Cert.AxfRefIdeal.τ).loc Cert.AxfRefIdeal.main_arg3))
      ∧ r.2.sem = fun _ => 0)

def quiescent_Axd [hAxd : Cert.Axd.Facts] : Prop :=
  ∀ (m : (ℓ : Loc Cert.Axd.nD Cert.Axd.τ Cert.Axd.sig) → Buf (Elt Bits) ℓ) (g : Dev Cert.Axd.nD → PrngReg), Pre_Axd m →
    θ_run (Cert.Axd.defs (F := Bits)) (onTc (τ := Cert.Axd.τ) (Cert.Axd.main (F := Bits))) ⟨m, fun _ => 0, g⟩ (fun r => (∀ c : Dev Cert.Axd.nD,
      r.2.mem ((c.tc : Thread Cert.Axd.nD Cert.Axd.τ).loc Cert.Axd.main_arg0) = m ((c.tc : Thread Cert.Axd.nD Cert.Axd.τ).loc Cert.Axd.main_arg0)
      ∧ r.2.mem ((c.tc : Thread Cert.Axd.nD Cert.Axd.τ).loc Cert.Axd.main_arg1) = m ((c.tc : Thread Cert.Axd.nD Cert.Axd.τ).loc Cert.Axd.main_arg1)
      ∧ r.2.mem ((c.tc : Thread Cert.Axd.nD Cert.Axd.τ).loc Cert.Axd.main_arg2) = m ((c.tc : Thread Cert.Axd.nD Cert.Axd.τ).loc Cert.Axd.main_arg2)
      ∧ r.2.mem ((c.tc : Thread Cert.Axd.nD Cert.Axd.τ).loc Cert.Axd.main_arg3) = m ((c.tc : Thread Cert.Axd.nD Cert.Axd.τ).loc Cert.Axd.main_arg3))
      ∧ r.2.sem = fun _ => 0)

def quiescent_AxdIdeal [hAxdIdeal : Cert.AxdIdeal.Facts] : Prop :=
  ∀ (m : (ℓ : Loc Cert.AxdIdeal.nD Cert.AxdIdeal.τ Cert.AxdIdeal.sig) → Buf (Elt Ideal) ℓ) (g : Dev Cert.AxdIdeal.nD → PrngReg), Pre_AxdIdeal m →
    θ_run (Cert.AxdIdeal.defs (F := Ideal)) (onTc (τ := Cert.AxdIdeal.τ) (Cert.AxdIdeal.main (F := Ideal))) ⟨m, fun _ => 0, g⟩ (fun r => (∀ c : Dev Cert.AxdIdeal.nD,
      r.2.mem ((c.tc : Thread Cert.AxdIdeal.nD Cert.AxdIdeal.τ).loc Cert.AxdIdeal.main_arg0) = m ((c.tc : Thread Cert.AxdIdeal.nD Cert.AxdIdeal.τ).loc Cert.AxdIdeal.main_arg0)
      ∧ r.2.mem ((c.tc : Thread Cert.AxdIdeal.nD Cert.AxdIdeal.τ).loc Cert.AxdIdeal.main_arg1) = m ((c.tc : Thread Cert.AxdIdeal.nD Cert.AxdIdeal.τ).loc Cert.AxdIdeal.main_arg1)
      ∧ r.2.mem ((c.tc : Thread Cert.AxdIdeal.nD Cert.AxdIdeal.τ).loc Cert.AxdIdeal.main_arg2) = m ((c.tc : Thread Cert.AxdIdeal.nD Cert.AxdIdeal.τ).loc Cert.AxdIdeal.main_arg2)
      ∧ r.2.mem ((c.tc : Thread Cert.AxdIdeal.nD Cert.AxdIdeal.τ).loc Cert.AxdIdeal.main_arg3) = m ((c.tc : Thread Cert.AxdIdeal.nD Cert.AxdIdeal.τ).loc Cert.AxdIdeal.main_arg3))
      ∧ r.2.sem = fun _ => 0)

def quiescent_AxdRefIdeal [hAxdRefIdeal : Cert.AxdRefIdeal.Facts] : Prop :=
  ∀ (m : (ℓ : Loc Cert.AxdRefIdeal.nD Cert.AxdRefIdeal.τ Cert.AxdRefIdeal.sig) → Buf (Elt Ideal) ℓ) (g : Dev Cert.AxdRefIdeal.nD → PrngReg), Pre_AxdRefIdeal m →
    θ_run (Cert.AxdRefIdeal.defs (F := Ideal)) (onTc (τ := Cert.AxdRefIdeal.τ) (Cert.AxdRefIdeal.main (F := Ideal))) ⟨m, fun _ => 0, g⟩ (fun r => (∀ c : Dev Cert.AxdRefIdeal.nD,
      r.2.mem ((c.tc : Thread Cert.AxdRefIdeal.nD Cert.AxdRefIdeal.τ).loc Cert.AxdRefIdeal.main_arg0) = m ((c.tc : Thread Cert.AxdRefIdeal.nD Cert.AxdRefIdeal.τ).loc Cert.AxdRefIdeal.main_arg0)
      ∧ r.2.mem ((c.tc : Thread Cert.AxdRefIdeal.nD Cert.AxdRefIdeal.τ).loc Cert.AxdRefIdeal.main_arg1) = m ((c.tc : Thread Cert.AxdRefIdeal.nD Cert.AxdRefIdeal.τ).loc Cert.AxdRefIdeal.main_arg1)
      ∧ r.2.mem ((c.tc : Thread Cert.AxdRefIdeal.nD Cert.AxdRefIdeal.τ).loc Cert.AxdRefIdeal.main_arg2) = m ((c.tc : Thread Cert.AxdRefIdeal.nD Cert.AxdRefIdeal.τ).loc Cert.AxdRefIdeal.main_arg2)
      ∧ r.2.mem ((c.tc : Thread Cert.AxdRefIdeal.nD Cert.AxdRefIdeal.τ).loc Cert.AxdRefIdeal.main_arg3) = m ((c.tc : Thread Cert.AxdRefIdeal.nD Cert.AxdRefIdeal.τ).loc Cert.AxdRefIdeal.main_arg3))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1)
      ∧ r.2.mem ((c.tc : Thread Cert.Dwgu.nD Cert.Dwgu.τ).loc Cert.Dwgu.main_arg2) = m ((c.tc : Thread Cert.Dwgu.nD Cert.Dwgu.τ).loc Cert.Dwgu.main_arg2)
      ∧ r.2.mem ((c.tc : Thread Cert.Dwgu.nD Cert.Dwgu.τ).loc Cert.Dwgu.main_arg3) = m ((c.tc : Thread Cert.Dwgu.nD Cert.Dwgu.τ).loc Cert.Dwgu.main_arg3)
      ∧ r.2.mem ((c.tc : Thread Cert.Dwgu.nD Cert.Dwgu.τ).loc Cert.Dwgu.main_arg4) = m ((c.tc : Thread Cert.Dwgu.nD Cert.Dwgu.τ).loc Cert.Dwgu.main_arg4))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
      ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2)
      ∧ r.2.mem ((c.tc : Thread Cert.DwguIdeal.nD Cert.DwguIdeal.τ).loc Cert.DwguIdeal.main_arg3) = m ((c.tc : Thread Cert.DwguIdeal.nD Cert.DwguIdeal.τ).loc Cert.DwguIdeal.main_arg3)
      ∧ r.2.mem ((c.tc : Thread Cert.DwguIdeal.nD Cert.DwguIdeal.τ).loc Cert.DwguIdeal.main_arg4) = m ((c.tc : Thread Cert.DwguIdeal.nD Cert.DwguIdeal.τ).loc Cert.DwguIdeal.main_arg4))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1)
      ∧ r.2.mem ((c.tc : Thread Cert.DwguRefIdeal.nD Cert.DwguRefIdeal.τ).loc Cert.DwguRefIdeal.main_arg2) = m ((c.tc : Thread Cert.DwguRefIdeal.nD Cert.DwguRefIdeal.τ).loc Cert.DwguRefIdeal.main_arg2)
      ∧ r.2.mem ((c.tc : Thread Cert.DwguRefIdeal.nD Cert.DwguRefIdeal.τ).loc Cert.DwguRefIdeal.main_arg3) = m ((c.tc : Thread Cert.DwguRefIdeal.nD Cert.DwguRefIdeal.τ).loc Cert.DwguRefIdeal.main_arg3)
      ∧ r.2.mem ((c.tc : Thread Cert.DwguRefIdeal.nD Cert.DwguRefIdeal.τ).loc Cert.DwguRefIdeal.main_arg4) = m ((c.tc : Thread Cert.DwguRefIdeal.nD Cert.DwguRefIdeal.τ).loc Cert.DwguRefIdeal.main_arg4))
      ∧ r.2.sem = fun _ => 0)

def preserves_Loss_LossIdeal : Prop :=
  True

def algebraic_LossIdeal_LossRefIdeal_pre_loss_pre [hLossIdeal : Cert.LossIdeal.Facts] [hLossRefIdeal : Cert.LossRefIdeal.Facts] [hPre_loss_pre : Cert.Pre_loss_pre.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_pre m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Axb_AxbIdeal : Prop :=
  True

def algebraic_AxbIdeal_AxbRefIdeal_pre_axb_pre [hAxbIdeal : Cert.AxbIdeal.Facts] [hAxbRefIdeal : Cert.AxbRefIdeal.Facts] [hPre_axb_pre : Cert.Pre_axb_pre.Facts] : Prop :=
  ∀ (m : (ℓ : Loc Cert.AxbIdeal.nD Cert.AxbIdeal.τ Cert.AxbIdeal.sig) → Buf (Elt Ideal) ℓ) (g : Dev Cert.AxbIdeal.nD → PrngReg)
    (m' : (ℓ : Loc Cert.AxbRefIdeal.nD Cert.AxbRefIdeal.τ Cert.AxbRefIdeal.sig) → Buf (Elt Ideal) ℓ) (g' : Dev Cert.AxbRefIdeal.nD → PrngReg), Pre_AxbIdeal_axb_pre m →
    (∀ c : Dev Cert.AxbIdeal.nD,
      m' ((c.tc : Thread Cert.AxbRefIdeal.nD Cert.AxbRefIdeal.τ).loc Cert.AxbRefIdeal.main_arg0) = m ((c.tc : Thread Cert.AxbIdeal.nD Cert.AxbIdeal.τ).loc Cert.AxbIdeal.main_arg0)
      ∧ m' ((c.tc : Thread Cert.AxbRefIdeal.nD Cert.AxbRefIdeal.τ).loc Cert.AxbRefIdeal.main_arg1) = m ((c.tc : Thread Cert.AxbIdeal.nD Cert.AxbIdeal.τ).loc Cert.AxbIdeal.main_arg1)
      ∧ m' ((c.tc : Thread Cert.AxbRefIdeal.nD Cert.AxbRefIdeal.τ).loc Cert.AxbRefIdeal.main_arg2) = m ((c.tc : Thread Cert.AxbIdeal.nD Cert.AxbIdeal.τ).loc Cert.AxbIdeal.main_arg2)
      ∧ m' ((c.tc : Thread Cert.AxbRefIdeal.nD Cert.AxbRefIdeal.τ).loc Cert.AxbRefIdeal.main_arg3) = m ((c.tc : Thread Cert.AxbIdeal.nD Cert.AxbIdeal.τ).loc Cert.AxbIdeal.main_arg3)) →
    ∃ (v0 : (c : Dev Cert.AxbIdeal.nD) → Buf (Elt Ideal) ((c.tc : Thread Cert.AxbIdeal.nD Cert.AxbIdeal.τ).loc Cert.AxbIdeal.main_v49_2)) (v1 : (c : Dev Cert.AxbIdeal.nD) → Buf (Elt Ideal) ((c.tc : Thread Cert.AxbIdeal.nD Cert.AxbIdeal.τ).loc Cert.AxbIdeal.main_v49_0)) (v2 : (c : Dev Cert.AxbIdeal.nD) → Buf (Elt Ideal) ((c.tc : Thread Cert.AxbIdeal.nD Cert.AxbIdeal.τ).loc Cert.AxbIdeal.main_v49_1)),
      θ_run (Cert.AxbIdeal.defs (F := Ideal)) (onTc (τ := Cert.AxbIdeal.τ) (Cert.AxbIdeal.main (F := Ideal))) ⟨m, fun _ => 0, g⟩ (fun r => ∀ c : Dev Cert.AxbIdeal.nD,
          r.2.mem ((c.tc : Thread Cert.AxbIdeal.nD Cert.AxbIdeal.τ).loc Cert.AxbIdeal.main_v49_2) = v0 c
          ∧ r.2.mem ((c.tc : Thread Cert.AxbIdeal.nD Cert.AxbIdeal.τ).loc Cert.AxbIdeal.main_v49_0) = v1 c
          ∧ r.2.mem ((c.tc : Thread Cert.AxbIdeal.nD Cert.AxbIdeal.τ).loc Cert.AxbIdeal.main_v49_1) = v2 c
          ∧ r.2.mem ((c.tc : Thread Cert.AxbIdeal.nD Cert.AxbIdeal.τ).loc Cert.AxbIdeal.main_arg0) = m ((c.tc : Thread Cert.AxbIdeal.nD Cert.AxbIdeal.τ).loc Cert.AxbIdeal.main_arg0)
          ∧ r.2.mem ((c.tc : Thread Cert.AxbIdeal.nD Cert.AxbIdeal.τ).loc Cert.AxbIdeal.main_arg1) = m ((c.tc : Thread Cert.AxbIdeal.nD Cert.AxbIdeal.τ).loc Cert.AxbIdeal.main_arg1)
          ∧ r.2.mem ((c.tc : Thread Cert.AxbIdeal.nD Cert.AxbIdeal.τ).loc Cert.AxbIdeal.main_arg2) = m ((c.tc : Thread Cert.AxbIdeal.nD Cert.AxbIdeal.τ).loc Cert.AxbIdeal.main_arg2)
          ∧ r.2.mem ((c.tc : Thread Cert.AxbIdeal.nD Cert.AxbIdeal.τ).loc Cert.AxbIdeal.main_arg3) = m ((c.tc : Thread Cert.AxbIdeal.nD Cert.AxbIdeal.τ).loc Cert.AxbIdeal.main_arg3))
      ∧ θ_run (Cert.AxbRefIdeal.defs (F := Ideal)) (onTc (τ := Cert.AxbRefIdeal.τ) (Cert.AxbRefIdeal.main (F := Ideal))) ⟨m', fun _ => 0, g'⟩ (fun r => ∀ c : Dev Cert.AxbRefIdeal.nD,
          r.2.mem ((c.tc : Thread Cert.AxbRefIdeal.nD Cert.AxbRefIdeal.τ).loc Cert.AxbRefIdeal.main_v64) = v0 c
          ∧ r.2.mem ((c.tc : Thread Cert.AxbRefIdeal.nD Cert.AxbRefIdeal.τ).loc Cert.AxbRefIdeal.main_v63) = v1 c
          ∧ r.2.mem ((c.tc : Thread Cert.AxbRefIdeal.nD Cert.AxbRefIdeal.τ).loc Cert.AxbRefIdeal.main_v43) = v2 c
          ∧ r.2.mem ((c.tc : Thread Cert.AxbRefIdeal.nD Cert.AxbRefIdeal.τ).loc Cert.AxbRefIdeal.main_arg0) = m' ((c.tc : Thread Cert.AxbRefIdeal.nD Cert.AxbRefIdeal.τ).loc Cert.AxbRefIdeal.main_arg0)
          ∧ r.2.mem ((c.tc : Thread Cert.AxbRefIdeal.nD Cert.AxbRefIdeal.τ).loc Cert.AxbRefIdeal.main_arg1) = m' ((c.tc : Thread Cert.AxbRefIdeal.nD Cert.AxbRefIdeal.τ).loc Cert.AxbRefIdeal.main_arg1)
          ∧ r.2.mem ((c.tc : Thread Cert.AxbRefIdeal.nD Cert.AxbRefIdeal.τ).loc Cert.AxbRefIdeal.main_arg2) = m' ((c.tc : Thread Cert.AxbRefIdeal.nD Cert.AxbRefIdeal.τ).loc Cert.AxbRefIdeal.main_arg2)
          ∧ r.2.mem ((c.tc : Thread Cert.AxbRefIdeal.nD Cert.AxbRefIdeal.τ).loc Cert.AxbRefIdeal.main_arg3) = m' ((c.tc : Thread Cert.AxbRefIdeal.nD Cert.AxbRefIdeal.τ).loc Cert.AxbRefIdeal.main_arg3))

def preserves_Inproj_InprojIdeal : Prop :=
  True

def algebraic_InprojIdeal_InprojRefIdeal_pre_inproj_pre [hInprojIdeal : Cert.InprojIdeal.Facts] [hInprojRefIdeal : Cert.InprojRefIdeal.Facts] [hPre_inproj_pre : Cert.Pre_inproj_pre.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_pre m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_3)) (v2 : (c : Dev Cert.InprojIdeal.nD) → Buf (Elt Ideal) ((c.tc : Thread Cert.InprojIdeal.nD Cert.InprojIdeal.τ).loc Cert.InprojIdeal.main_v4_2)) (v3 : (c : Dev Cert.InprojIdeal.nD) → Buf (Elt Ideal) ((c.tc : Thread Cert.InprojIdeal.nD Cert.InprojIdeal.τ).loc Cert.InprojIdeal.main_v4_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_3) = v1 c
          ∧ r.2.mem ((c.tc : Thread Cert.InprojIdeal.nD Cert.InprojIdeal.τ).loc Cert.InprojIdeal.main_v4_2) = v2 c
          ∧ r.2.mem ((c.tc : Thread Cert.InprojIdeal.nD Cert.InprojIdeal.τ).loc Cert.InprojIdeal.main_v4_1) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v55) = v0 c
          ∧ r.2.mem ((c.tc : Thread Cert.InprojRefIdeal.nD Cert.InprojRefIdeal.τ).loc Cert.InprojRefIdeal.main_v56) = v1 c
          ∧ r.2.mem ((c.tc : Thread Cert.InprojRefIdeal.nD Cert.InprojRefIdeal.τ).loc Cert.InprojRefIdeal.main_v57) = v2 c
          ∧ r.2.mem ((c.tc : Thread Cert.InprojRefIdeal.nD Cert.InprojRefIdeal.τ).loc Cert.InprojRefIdeal.main_v58) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Ffnb_FfnbIdeal : Prop :=
  True

def algebraic_FfnbIdeal_FfnbRefIdeal_pre_ffnb_pre [hFfnbIdeal : Cert.FfnbIdeal.Facts] [hFfnbRefIdeal : Cert.FfnbRefIdeal.Facts] [hPre_ffnb_pre : Cert.Pre_ffnb_pre.Facts] : Prop :=
  ∀ (m : (ℓ : Loc Cert.FfnbIdeal.nD Cert.FfnbIdeal.τ Cert.FfnbIdeal.sig) → Buf (Elt Ideal) ℓ) (g : Dev Cert.FfnbIdeal.nD → PrngReg)
    (m' : (ℓ : Loc Cert.FfnbRefIdeal.nD Cert.FfnbRefIdeal.τ Cert.FfnbRefIdeal.sig) → Buf (Elt Ideal) ℓ) (g' : Dev Cert.FfnbRefIdeal.nD → PrngReg), Pre_FfnbIdeal_ffnb_pre m →
    (∀ c : Dev Cert.FfnbIdeal.nD,
      m' ((c.tc : Thread Cert.FfnbRefIdeal.nD Cert.FfnbRefIdeal.τ).loc Cert.FfnbRefIdeal.main_arg0) = m ((c.tc : Thread Cert.FfnbIdeal.nD Cert.FfnbIdeal.τ).loc Cert.FfnbIdeal.main_arg0)
      ∧ m' ((c.tc : Thread Cert.FfnbRefIdeal.nD Cert.FfnbRefIdeal.τ).loc Cert.FfnbRefIdeal.main_arg1) = m ((c.tc : Thread Cert.FfnbIdeal.nD Cert.FfnbIdeal.τ).loc Cert.FfnbIdeal.main_arg1)
      ∧ m' ((c.tc : Thread Cert.FfnbRefIdeal.nD Cert.FfnbRefIdeal.τ).loc Cert.FfnbRefIdeal.main_arg2) = m ((c.tc : Thread Cert.FfnbIdeal.nD Cert.FfnbIdeal.τ).loc Cert.FfnbIdeal.main_arg2)
      ∧ m' ((c.tc : Thread Cert.FfnbRefIdeal.nD Cert.FfnbRefIdeal.τ).loc Cert.FfnbRefIdeal.main_arg3) = m ((c.tc : Thread Cert.FfnbIdeal.nD Cert.FfnbIdeal.τ).loc Cert.FfnbIdeal.main_arg3)
      ∧ m' ((c.tc : Thread Cert.FfnbRefIdeal.nD Cert.FfnbRefIdeal.τ).loc Cert.FfnbRefIdeal.main_arg4) = m ((c.tc : Thread Cert.FfnbIdeal.nD Cert.FfnbIdeal.τ).loc Cert.FfnbIdeal.main_arg4)
      ∧ m' ((c.tc : Thread Cert.FfnbRefIdeal.nD Cert.FfnbRefIdeal.τ).loc Cert.FfnbRefIdeal.main_arg5) = m ((c.tc : Thread Cert.FfnbIdeal.nD Cert.FfnbIdeal.τ).loc Cert.FfnbIdeal.main_arg5)
      ∧ m' ((c.tc : Thread Cert.FfnbRefIdeal.nD Cert.FfnbRefIdeal.τ).loc Cert.FfnbRefIdeal.main_arg6) = m ((c.tc : Thread Cert.FfnbIdeal.nD Cert.FfnbIdeal.τ).loc Cert.FfnbIdeal.main_arg6)) →
    ∃ (v0 : (c : Dev Cert.FfnbIdeal.nD) → Buf (Elt Ideal) ((c.tc : Thread Cert.FfnbIdeal.nD Cert.FfnbIdeal.τ).loc Cert.FfnbIdeal.main_v10_0)) (v1 : (c : Dev Cert.FfnbIdeal.nD) → Buf (Elt Ideal) ((c.tc : Thread Cert.FfnbIdeal.nD Cert.FfnbIdeal.τ).loc Cert.FfnbIdeal.main_v10_3)) (v2 : (c : Dev Cert.FfnbIdeal.nD) → Buf (Elt Ideal) ((c.tc : Thread Cert.FfnbIdeal.nD Cert.FfnbIdeal.τ).loc Cert.FfnbIdeal.main_v10_2)) (v3 : (c : Dev Cert.FfnbIdeal.nD) → Buf (Elt Ideal) ((c.tc : Thread Cert.FfnbIdeal.nD Cert.FfnbIdeal.τ).loc Cert.FfnbIdeal.main_v10_1)),
      θ_run (Cert.FfnbIdeal.defs (F := Ideal)) (onTc (τ := Cert.FfnbIdeal.τ) (Cert.FfnbIdeal.main (F := Ideal))) ⟨m, fun _ => 0, g⟩ (fun r => ∀ c : Dev Cert.FfnbIdeal.nD,
          r.2.mem ((c.tc : Thread Cert.FfnbIdeal.nD Cert.FfnbIdeal.τ).loc Cert.FfnbIdeal.main_v10_0) = v0 c
          ∧ r.2.mem ((c.tc : Thread Cert.FfnbIdeal.nD Cert.FfnbIdeal.τ).loc Cert.FfnbIdeal.main_v10_3) = v1 c
          ∧ r.2.mem ((c.tc : Thread Cert.FfnbIdeal.nD Cert.FfnbIdeal.τ).loc Cert.FfnbIdeal.main_v10_2) = v2 c
          ∧ r.2.mem ((c.tc : Thread Cert.FfnbIdeal.nD Cert.FfnbIdeal.τ).loc Cert.FfnbIdeal.main_v10_1) = v3 c
          ∧ r.2.mem ((c.tc : Thread Cert.FfnbIdeal.nD Cert.FfnbIdeal.τ).loc Cert.FfnbIdeal.main_arg0) = m ((c.tc : Thread Cert.FfnbIdeal.nD Cert.FfnbIdeal.τ).loc Cert.FfnbIdeal.main_arg0)
          ∧ r.2.mem ((c.tc : Thread Cert.FfnbIdeal.nD Cert.FfnbIdeal.τ).loc Cert.FfnbIdeal.main_arg1) = m ((c.tc : Thread Cert.FfnbIdeal.nD Cert.FfnbIdeal.τ).loc Cert.FfnbIdeal.main_arg1)
          ∧ r.2.mem ((c.tc : Thread Cert.FfnbIdeal.nD Cert.FfnbIdeal.τ).loc Cert.FfnbIdeal.main_arg2) = m ((c.tc : Thread Cert.FfnbIdeal.nD Cert.FfnbIdeal.τ).loc Cert.FfnbIdeal.main_arg2)
          ∧ r.2.mem ((c.tc : Thread Cert.FfnbIdeal.nD Cert.FfnbIdeal.τ).loc Cert.FfnbIdeal.main_arg3) = m ((c.tc : Thread Cert.FfnbIdeal.nD Cert.FfnbIdeal.τ).loc Cert.FfnbIdeal.main_arg3)
          ∧ r.2.mem ((c.tc : Thread Cert.FfnbIdeal.nD Cert.FfnbIdeal.τ).loc Cert.FfnbIdeal.main_arg4) = m ((c.tc : Thread Cert.FfnbIdeal.nD Cert.FfnbIdeal.τ).loc Cert.FfnbIdeal.main_arg4)
          ∧ r.2.mem ((c.tc : Thread Cert.FfnbIdeal.nD Cert.FfnbIdeal.τ).loc Cert.FfnbIdeal.main_arg5) = m ((c.tc : Thread Cert.FfnbIdeal.nD Cert.FfnbIdeal.τ).loc Cert.FfnbIdeal.main_arg5)
          ∧ r.2.mem ((c.tc : Thread Cert.FfnbIdeal.nD Cert.FfnbIdeal.τ).loc Cert.FfnbIdeal.main_arg6) = m ((c.tc : Thread Cert.FfnbIdeal.nD Cert.FfnbIdeal.τ).loc Cert.FfnbIdeal.main_arg6))
      ∧ θ_run (Cert.FfnbRefIdeal.defs (F := Ideal)) (onTc (τ := Cert.FfnbRefIdeal.τ) (Cert.FfnbRefIdeal.main (F := Ideal))) ⟨m', fun _ => 0, g'⟩ (fun r => ∀ c : Dev Cert.FfnbRefIdeal.nD,
          r.2.mem ((c.tc : Thread Cert.FfnbRefIdeal.nD Cert.FfnbRefIdeal.τ).loc Cert.FfnbRefIdeal.main_v55) = v0 c
          ∧ r.2.mem ((c.tc : Thread Cert.FfnbRefIdeal.nD Cert.FfnbRefIdeal.τ).loc Cert.FfnbRefIdeal.main_v56) = v1 c
          ∧ r.2.mem ((c.tc : Thread Cert.FfnbRefIdeal.nD Cert.FfnbRefIdeal.τ).loc Cert.FfnbRefIdeal.main_v57) = v2 c
          ∧ r.2.mem ((c.tc : Thread Cert.FfnbRefIdeal.nD Cert.FfnbRefIdeal.τ).loc Cert.FfnbRefIdeal.main_v58) = v3 c
          ∧ r.2.mem ((c.tc : Thread Cert.FfnbRefIdeal.nD Cert.FfnbRefIdeal.τ).loc Cert.FfnbRefIdeal.main_arg0) = m' ((c.tc : Thread Cert.FfnbRefIdeal.nD Cert.FfnbRefIdeal.τ).loc Cert.FfnbRefIdeal.main_arg0)
          ∧ r.2.mem ((c.tc : Thread Cert.FfnbRefIdeal.nD Cert.FfnbRefIdeal.τ).loc Cert.FfnbRefIdeal.main_arg1) = m' ((c.tc : Thread Cert.FfnbRefIdeal.nD Cert.FfnbRefIdeal.τ).loc Cert.FfnbRefIdeal.main_arg1)
          ∧ r.2.mem ((c.tc : Thread Cert.FfnbRefIdeal.nD Cert.FfnbRefIdeal.τ).loc Cert.FfnbRefIdeal.main_arg2) = m' ((c.tc : Thread Cert.FfnbRefIdeal.nD Cert.FfnbRefIdeal.τ).loc Cert.FfnbRefIdeal.main_arg2)
          ∧ r.2.mem ((c.tc : Thread Cert.FfnbRefIdeal.nD Cert.FfnbRefIdeal.τ).loc Cert.FfnbRefIdeal.main_arg3) = m' ((c.tc : Thread Cert.FfnbRefIdeal.nD Cert.FfnbRefIdeal.τ).loc Cert.FfnbRefIdeal.main_arg3)
          ∧ r.2.mem ((c.tc : Thread Cert.FfnbRefIdeal.nD Cert.FfnbRefIdeal.τ).loc Cert.FfnbRefIdeal.main_arg4) = m' ((c.tc : Thread Cert.FfnbRefIdeal.nD Cert.FfnbRefIdeal.τ).loc Cert.FfnbRefIdeal.main_arg4)
          ∧ r.2.mem ((c.tc : Thread Cert.FfnbRefIdeal.nD Cert.FfnbRefIdeal.τ).loc Cert.FfnbRefIdeal.main_arg5) = m' ((c.tc : Thread Cert.FfnbRefIdeal.nD Cert.FfnbRefIdeal.τ).loc Cert.FfnbRefIdeal.main_arg5)
          ∧ r.2.mem ((c.tc : Thread Cert.FfnbRefIdeal.nD Cert.FfnbRefIdeal.τ).loc Cert.FfnbRefIdeal.main_arg6) = m' ((c.tc : Thread Cert.FfnbRefIdeal.nD Cert.FfnbRefIdeal.τ).loc Cert.FfnbRefIdeal.main_arg6))

def preserves_Oproj_OprojIdeal : Prop :=
  True

def algebraic_OprojIdeal_OprojRefIdeal_pre_oproj_pre [hOprojIdeal : Cert.OprojIdeal.Facts] [hOprojRefIdeal : Cert.OprojRefIdeal.Facts] [hPre_oproj_pre : Cert.Pre_oproj_pre.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal_oproj_pre m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)) →
    ∃ (v0 : (c : Dev Cert.OprojIdeal.nD) → Buf (Elt Ideal) ((c.tc : Thread Cert.OprojIdeal.nD Cert.OprojIdeal.τ).loc Cert.OprojIdeal.main_v51_0)) (v1 : (c : Dev Cert.OprojIdeal.nD) → Buf (Elt Ideal) ((c.tc : Thread Cert.OprojIdeal.nD Cert.OprojIdeal.τ).loc Cert.OprojIdeal.main_v51_1)) (v2 : (c : Dev Cert.OprojIdeal.nD) → Buf (Elt Ideal) ((c.tc : Thread Cert.OprojIdeal.nD Cert.OprojIdeal.τ).loc Cert.OprojIdeal.main_v51_2)) (v3 : (c : Dev Cert.OprojIdeal.nD) → Buf (Elt Ideal) ((c.tc : Thread Cert.OprojIdeal.nD Cert.OprojIdeal.τ).loc Cert.OprojIdeal.main_v51_3)) (v4 : (c : Dev Cert.OprojIdeal.nD) → Buf (Elt Ideal) ((c.tc : Thread Cert.OprojIdeal.nD Cert.OprojIdeal.τ).loc Cert.OprojIdeal.main_v51_4)) (v5 : (c : Dev Cert.OprojIdeal.nD) → Buf (Elt Ideal) ((c.tc : Thread Cert.OprojIdeal.nD Cert.OprojIdeal.τ).loc Cert.OprojIdeal.main_v51_5)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v51_0) = v0 c
          ∧ r.2.mem ((c.tc : Thread Cert.OprojIdeal.nD Cert.OprojIdeal.τ).loc Cert.OprojIdeal.main_v51_1) = v1 c
          ∧ r.2.mem ((c.tc : Thread Cert.OprojIdeal.nD Cert.OprojIdeal.τ).loc Cert.OprojIdeal.main_v51_2) = v2 c
          ∧ r.2.mem ((c.tc : Thread Cert.OprojIdeal.nD Cert.OprojIdeal.τ).loc Cert.OprojIdeal.main_v51_3) = v3 c
          ∧ r.2.mem ((c.tc : Thread Cert.OprojIdeal.nD Cert.OprojIdeal.τ).loc Cert.OprojIdeal.main_v51_4) = v4 c
          ∧ r.2.mem ((c.tc : Thread Cert.OprojIdeal.nD Cert.OprojIdeal.τ).loc Cert.OprojIdeal.main_v51_5) = v5 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v132) = v0 c
          ∧ r.2.mem ((c.tc : Thread Cert.OprojRefIdeal.nD Cert.OprojRefIdeal.τ).loc Cert.OprojRefIdeal.main_v133) = v1 c
          ∧ r.2.mem ((c.tc : Thread Cert.OprojRefIdeal.nD Cert.OprojRefIdeal.τ).loc Cert.OprojRefIdeal.main_v134) = v2 c
          ∧ r.2.mem ((c.tc : Thread Cert.OprojRefIdeal.nD Cert.OprojRefIdeal.τ).loc Cert.OprojRefIdeal.main_v135) = v3 c
          ∧ r.2.mem ((c.tc : Thread Cert.OprojRefIdeal.nD Cert.OprojRefIdeal.τ).loc Cert.OprojRefIdeal.main_v136) = v4 c
          ∧ r.2.mem ((c.tc : Thread Cert.OprojRefIdeal.nD Cert.OprojRefIdeal.τ).loc Cert.OprojRefIdeal.main_v137) = v5 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7))

def preserves_Dproj_DprojIdeal : Prop :=
  True

def algebraic_DprojIdeal_DprojRefIdeal_pre_dproj_pre [hDprojIdeal : Cert.DprojIdeal.Facts] [hDprojRefIdeal : Cert.DprojRefIdeal.Facts] [hPre_dproj_pre : Cert.Pre_dproj_pre.Facts] : Prop :=
  ∀ (m : (ℓ : Loc Cert.DprojIdeal.nD Cert.DprojIdeal.τ Cert.DprojIdeal.sig) → Buf (Elt Ideal) ℓ) (g : Dev Cert.DprojIdeal.nD → PrngReg)
    (m' : (ℓ : Loc Cert.DprojRefIdeal.nD Cert.DprojRefIdeal.τ Cert.DprojRefIdeal.sig) → Buf (Elt Ideal) ℓ) (g' : Dev Cert.DprojRefIdeal.nD → PrngReg), Pre_DprojIdeal_dproj_pre m →
    (∀ c : Dev Cert.DprojIdeal.nD,
      m' ((c.tc : Thread Cert.DprojRefIdeal.nD Cert.DprojRefIdeal.τ).loc Cert.DprojRefIdeal.main_arg0) = m ((c.tc : Thread Cert.DprojIdeal.nD Cert.DprojIdeal.τ).loc Cert.DprojIdeal.main_arg0)
      ∧ m' ((c.tc : Thread Cert.DprojRefIdeal.nD Cert.DprojRefIdeal.τ).loc Cert.DprojRefIdeal.main_arg1) = m ((c.tc : Thread Cert.DprojIdeal.nD Cert.DprojIdeal.τ).loc Cert.DprojIdeal.main_arg1)
      ∧ m' ((c.tc : Thread Cert.DprojRefIdeal.nD Cert.DprojRefIdeal.τ).loc Cert.DprojRefIdeal.main_arg2) = m ((c.tc : Thread Cert.DprojIdeal.nD Cert.DprojIdeal.τ).loc Cert.DprojIdeal.main_arg2)
      ∧ m' ((c.tc : Thread Cert.DprojRefIdeal.nD Cert.DprojRefIdeal.τ).loc Cert.DprojRefIdeal.main_arg3) = m ((c.tc : Thread Cert.DprojIdeal.nD Cert.DprojIdeal.τ).loc Cert.DprojIdeal.main_arg3)
      ∧ m' ((c.tc : Thread Cert.DprojRefIdeal.nD Cert.DprojRefIdeal.τ).loc Cert.DprojRefIdeal.main_arg4) = m ((c.tc : Thread Cert.DprojIdeal.nD Cert.DprojIdeal.τ).loc Cert.DprojIdeal.main_arg4)
      ∧ m' ((c.tc : Thread Cert.DprojRefIdeal.nD Cert.DprojRefIdeal.τ).loc Cert.DprojRefIdeal.main_arg5) = m ((c.tc : Thread Cert.DprojIdeal.nD Cert.DprojIdeal.τ).loc Cert.DprojIdeal.main_arg5)
      ∧ m' ((c.tc : Thread Cert.DprojRefIdeal.nD Cert.DprojRefIdeal.τ).loc Cert.DprojRefIdeal.main_arg6) = m ((c.tc : Thread Cert.DprojIdeal.nD Cert.DprojIdeal.τ).loc Cert.DprojIdeal.main_arg6)
      ∧ m' ((c.tc : Thread Cert.DprojRefIdeal.nD Cert.DprojRefIdeal.τ).loc Cert.DprojRefIdeal.main_arg7) = m ((c.tc : Thread Cert.DprojIdeal.nD Cert.DprojIdeal.τ).loc Cert.DprojIdeal.main_arg7)
      ∧ m' ((c.tc : Thread Cert.DprojRefIdeal.nD Cert.DprojRefIdeal.τ).loc Cert.DprojRefIdeal.main_arg8) = m ((c.tc : Thread Cert.DprojIdeal.nD Cert.DprojIdeal.τ).loc Cert.DprojIdeal.main_arg8)
      ∧ m' ((c.tc : Thread Cert.DprojRefIdeal.nD Cert.DprojRefIdeal.τ).loc Cert.DprojRefIdeal.main_arg9) = m ((c.tc : Thread Cert.DprojIdeal.nD Cert.DprojIdeal.τ).loc Cert.DprojIdeal.main_arg9)
      ∧ m' ((c.tc : Thread Cert.DprojRefIdeal.nD Cert.DprojRefIdeal.τ).loc Cert.DprojRefIdeal.main_arg10) = m ((c.tc : Thread Cert.DprojIdeal.nD Cert.DprojIdeal.τ).loc Cert.DprojIdeal.main_arg10)
      ∧ m' ((c.tc : Thread Cert.DprojRefIdeal.nD Cert.DprojRefIdeal.τ).loc Cert.DprojRefIdeal.main_arg11) = m ((c.tc : Thread Cert.DprojIdeal.nD Cert.DprojIdeal.τ).loc Cert.DprojIdeal.main_arg11)
      ∧ m' ((c.tc : Thread Cert.DprojRefIdeal.nD Cert.DprojRefIdeal.τ).loc Cert.DprojRefIdeal.main_arg12) = m ((c.tc : Thread Cert.DprojIdeal.nD Cert.DprojIdeal.τ).loc Cert.DprojIdeal.main_arg12)
      ∧ m' ((c.tc : Thread Cert.DprojRefIdeal.nD Cert.DprojRefIdeal.τ).loc Cert.DprojRefIdeal.main_arg13) = m ((c.tc : Thread Cert.DprojIdeal.nD Cert.DprojIdeal.τ).loc Cert.DprojIdeal.main_arg13)
      ∧ m' ((c.tc : Thread Cert.DprojRefIdeal.nD Cert.DprojRefIdeal.τ).loc Cert.DprojRefIdeal.main_arg14) = m ((c.tc : Thread Cert.DprojIdeal.nD Cert.DprojIdeal.τ).loc Cert.DprojIdeal.main_arg14)
      ∧ m' ((c.tc : Thread Cert.DprojRefIdeal.nD Cert.DprojRefIdeal.τ).loc Cert.DprojRefIdeal.main_arg15) = m ((c.tc : Thread Cert.DprojIdeal.nD Cert.DprojIdeal.τ).loc Cert.DprojIdeal.main_arg15)) →
    ∃ (v0 : (c : Dev Cert.DprojIdeal.nD) → Buf (Elt Ideal) ((c.tc : Thread Cert.DprojIdeal.nD Cert.DprojIdeal.τ).loc Cert.DprojIdeal.main_v56_0)) (v1 : (c : Dev Cert.DprojIdeal.nD) → Buf (Elt Ideal) ((c.tc : Thread Cert.DprojIdeal.nD Cert.DprojIdeal.τ).loc Cert.DprojIdeal.main_v56_1)) (v2 : (c : Dev Cert.DprojIdeal.nD) → Buf (Elt Ideal) ((c.tc : Thread Cert.DprojIdeal.nD Cert.DprojIdeal.τ).loc Cert.DprojIdeal.main_v56_2)),
      θ_run (Cert.DprojIdeal.defs (F := Ideal)) (onTc (τ := Cert.DprojIdeal.τ) (Cert.DprojIdeal.main (F := Ideal))) ⟨m, fun _ => 0, g⟩ (fun r => ∀ c : Dev Cert.DprojIdeal.nD,
          r.2.mem ((c.tc : Thread Cert.DprojIdeal.nD Cert.DprojIdeal.τ).loc Cert.DprojIdeal.main_v56_0) = v0 c
          ∧ r.2.mem ((c.tc : Thread Cert.DprojIdeal.nD Cert.DprojIdeal.τ).loc Cert.DprojIdeal.main_v56_1) = v1 c
          ∧ r.2.mem ((c.tc : Thread Cert.DprojIdeal.nD Cert.DprojIdeal.τ).loc Cert.DprojIdeal.main_v56_2) = v2 c
          ∧ r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
          ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
          ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2)
          ∧ r.2.mem ((c.tc : Thread Cert.DprojIdeal.nD Cert.DprojIdeal.τ).loc Cert.DprojIdeal.main_arg3) = m ((c.tc : Thread Cert.DprojIdeal.nD Cert.DprojIdeal.τ).loc Cert.DprojIdeal.main_arg3)
          ∧ r.2.mem ((c.tc : Thread Cert.DprojIdeal.nD Cert.DprojIdeal.τ).loc Cert.DprojIdeal.main_arg4) = m ((c.tc : Thread Cert.DprojIdeal.nD Cert.DprojIdeal.τ).loc Cert.DprojIdeal.main_arg4)
          ∧ r.2.mem ((c.tc : Thread Cert.DprojIdeal.nD Cert.DprojIdeal.τ).loc Cert.DprojIdeal.main_arg5) = m ((c.tc : Thread Cert.DprojIdeal.nD Cert.DprojIdeal.τ).loc Cert.DprojIdeal.main_arg5)
          ∧ r.2.mem ((c.tc : Thread Cert.DprojIdeal.nD Cert.DprojIdeal.τ).loc Cert.DprojIdeal.main_arg6) = m ((c.tc : Thread Cert.DprojIdeal.nD Cert.DprojIdeal.τ).loc Cert.DprojIdeal.main_arg6)
          ∧ r.2.mem ((c.tc : Thread Cert.DprojIdeal.nD Cert.DprojIdeal.τ).loc Cert.DprojIdeal.main_arg7) = m ((c.tc : Thread Cert.DprojIdeal.nD Cert.DprojIdeal.τ).loc Cert.DprojIdeal.main_arg7)
          ∧ r.2.mem ((c.tc : Thread Cert.DprojIdeal.nD Cert.DprojIdeal.τ).loc Cert.DprojIdeal.main_arg8) = m ((c.tc : Thread Cert.DprojIdeal.nD Cert.DprojIdeal.τ).loc Cert.DprojIdeal.main_arg8)
          ∧ r.2.mem ((c.tc : Thread Cert.DprojIdeal.nD Cert.DprojIdeal.τ).loc Cert.DprojIdeal.main_arg9) = m ((c.tc : Thread Cert.DprojIdeal.nD Cert.DprojIdeal.τ).loc Cert.DprojIdeal.main_arg9)
          ∧ r.2.mem ((c.tc : Thread Cert.DprojIdeal.nD Cert.DprojIdeal.τ).loc Cert.DprojIdeal.main_arg10) = m ((c.tc : Thread Cert.DprojIdeal.nD Cert.DprojIdeal.τ).loc Cert.DprojIdeal.main_arg10)
          ∧ r.2.mem ((c.tc : Thread Cert.DprojIdeal.nD Cert.DprojIdeal.τ).loc Cert.DprojIdeal.main_arg11) = m ((c.tc : Thread Cert.DprojIdeal.nD Cert.DprojIdeal.τ).loc Cert.DprojIdeal.main_arg11)
          ∧ r.2.mem ((c.tc : Thread Cert.DprojIdeal.nD Cert.DprojIdeal.τ).loc Cert.DprojIdeal.main_arg12) = m ((c.tc : Thread Cert.DprojIdeal.nD Cert.DprojIdeal.τ).loc Cert.DprojIdeal.main_arg12)
          ∧ r.2.mem ((c.tc : Thread Cert.DprojIdeal.nD Cert.DprojIdeal.τ).loc Cert.DprojIdeal.main_arg13) = m ((c.tc : Thread Cert.DprojIdeal.nD Cert.DprojIdeal.τ).loc Cert.DprojIdeal.main_arg13)
          ∧ r.2.mem ((c.tc : Thread Cert.DprojIdeal.nD Cert.DprojIdeal.τ).loc Cert.DprojIdeal.main_arg14) = m ((c.tc : Thread Cert.DprojIdeal.nD Cert.DprojIdeal.τ).loc Cert.DprojIdeal.main_arg14)
          ∧ r.2.mem ((c.tc : Thread Cert.DprojIdeal.nD Cert.DprojIdeal.τ).loc Cert.DprojIdeal.main_arg15) = m ((c.tc : Thread Cert.DprojIdeal.nD Cert.DprojIdeal.τ).loc Cert.DprojIdeal.main_arg15))
      ∧ θ_run (Cert.DprojRefIdeal.defs (F := Ideal)) (onTc (τ := Cert.DprojRefIdeal.τ) (Cert.DprojRefIdeal.main (F := Ideal))) ⟨m', fun _ => 0, g'⟩ (fun r => ∀ c : Dev Cert.DprojRefIdeal.nD,
          r.2.mem ((c.tc : Thread Cert.DprojRefIdeal.nD Cert.DprojRefIdeal.τ).loc Cert.DprojRefIdeal.main_v275) = v0 c
          ∧ r.2.mem ((c.tc : Thread Cert.DprojRefIdeal.nD Cert.DprojRefIdeal.τ).loc Cert.DprojRefIdeal.main_v276) = v1 c
          ∧ r.2.mem ((c.tc : Thread Cert.DprojRefIdeal.nD Cert.DprojRefIdeal.τ).loc Cert.DprojRefIdeal.main_v277) = v2 c
          ∧ r.2.mem ((c.tc : Thread Cert.DprojRefIdeal.nD Cert.DprojRefIdeal.τ).loc Cert.DprojRefIdeal.main_arg0) = m' ((c.tc : Thread Cert.DprojRefIdeal.nD Cert.DprojRefIdeal.τ).loc Cert.DprojRefIdeal.main_arg0)
          ∧ r.2.mem ((c.tc : Thread Cert.DprojRefIdeal.nD Cert.DprojRefIdeal.τ).loc Cert.DprojRefIdeal.main_arg1) = m' ((c.tc : Thread Cert.DprojRefIdeal.nD Cert.DprojRefIdeal.τ).loc Cert.DprojRefIdeal.main_arg1)
          ∧ r.2.mem ((c.tc : Thread Cert.DprojRefIdeal.nD Cert.DprojRefIdeal.τ).loc Cert.DprojRefIdeal.main_arg2) = m' ((c.tc : Thread Cert.DprojRefIdeal.nD Cert.DprojRefIdeal.τ).loc Cert.DprojRefIdeal.main_arg2)
          ∧ r.2.mem ((c.tc : Thread Cert.DprojRefIdeal.nD Cert.DprojRefIdeal.τ).loc Cert.DprojRefIdeal.main_arg3) = m' ((c.tc : Thread Cert.DprojRefIdeal.nD Cert.DprojRefIdeal.τ).loc Cert.DprojRefIdeal.main_arg3)
          ∧ r.2.mem ((c.tc : Thread Cert.DprojRefIdeal.nD Cert.DprojRefIdeal.τ).loc Cert.DprojRefIdeal.main_arg4) = m' ((c.tc : Thread Cert.DprojRefIdeal.nD Cert.DprojRefIdeal.τ).loc Cert.DprojRefIdeal.main_arg4)
          ∧ r.2.mem ((c.tc : Thread Cert.DprojRefIdeal.nD Cert.DprojRefIdeal.τ).loc Cert.DprojRefIdeal.main_arg5) = m' ((c.tc : Thread Cert.DprojRefIdeal.nD Cert.DprojRefIdeal.τ).loc Cert.DprojRefIdeal.main_arg5)
          ∧ r.2.mem ((c.tc : Thread Cert.DprojRefIdeal.nD Cert.DprojRefIdeal.τ).loc Cert.DprojRefIdeal.main_arg6) = m' ((c.tc : Thread Cert.DprojRefIdeal.nD Cert.DprojRefIdeal.τ).loc Cert.DprojRefIdeal.main_arg6)
          ∧ r.2.mem ((c.tc : Thread Cert.DprojRefIdeal.nD Cert.DprojRefIdeal.τ).loc Cert.DprojRefIdeal.main_arg7) = m' ((c.tc : Thread Cert.DprojRefIdeal.nD Cert.DprojRefIdeal.τ).loc Cert.DprojRefIdeal.main_arg7)
          ∧ r.2.mem ((c.tc : Thread Cert.DprojRefIdeal.nD Cert.DprojRefIdeal.τ).loc Cert.DprojRefIdeal.main_arg8) = m' ((c.tc : Thread Cert.DprojRefIdeal.nD Cert.DprojRefIdeal.τ).loc Cert.DprojRefIdeal.main_arg8)
          ∧ r.2.mem ((c.tc : Thread Cert.DprojRefIdeal.nD Cert.DprojRefIdeal.τ).loc Cert.DprojRefIdeal.main_arg9) = m' ((c.tc : Thread Cert.DprojRefIdeal.nD Cert.DprojRefIdeal.τ).loc Cert.DprojRefIdeal.main_arg9)
          ∧ r.2.mem ((c.tc : Thread Cert.DprojRefIdeal.nD Cert.DprojRefIdeal.τ).loc Cert.DprojRefIdeal.main_arg10) = m' ((c.tc : Thread Cert.DprojRefIdeal.nD Cert.DprojRefIdeal.τ).loc Cert.DprojRefIdeal.main_arg10)
          ∧ r.2.mem ((c.tc : Thread Cert.DprojRefIdeal.nD Cert.DprojRefIdeal.τ).loc Cert.DprojRefIdeal.main_arg11) = m' ((c.tc : Thread Cert.DprojRefIdeal.nD Cert.DprojRefIdeal.τ).loc Cert.DprojRefIdeal.main_arg11)
          ∧ r.2.mem ((c.tc : Thread Cert.DprojRefIdeal.nD Cert.DprojRefIdeal.τ).loc Cert.DprojRefIdeal.main_arg12) = m' ((c.tc : Thread Cert.DprojRefIdeal.nD Cert.DprojRefIdeal.τ).loc Cert.DprojRefIdeal.main_arg12)
          ∧ r.2.mem ((c.tc : Thread Cert.DprojRefIdeal.nD Cert.DprojRefIdeal.τ).loc Cert.DprojRefIdeal.main_arg13) = m' ((c.tc : Thread Cert.DprojRefIdeal.nD Cert.DprojRefIdeal.τ).loc Cert.DprojRefIdeal.main_arg13)
          ∧ r.2.mem ((c.tc : Thread Cert.DprojRefIdeal.nD Cert.DprojRefIdeal.τ).loc Cert.DprojRefIdeal.main_arg14) = m' ((c.tc : Thread Cert.DprojRefIdeal.nD Cert.DprojRefIdeal.τ).loc Cert.DprojRefIdeal.main_arg14)
          ∧ r.2.mem ((c.tc : Thread Cert.DprojRefIdeal.nD Cert.DprojRefIdeal.τ).loc Cert.DprojRefIdeal.main_arg15) = m' ((c.tc : Thread Cert.DprojRefIdeal.nD Cert.DprojRefIdeal.τ).loc Cert.DprojRefIdeal.main_arg15))

def preserves_Axf_AxfIdeal : Prop :=
  IdealRules.named_const.Statement Cert.AxfIdeal.κ "inv_width" .f32 0x3B2AAAAB#32 ((1 / 384 : ℝ) : EReal)

def algebraic_AxfIdeal_AxfRefIdeal_pre_axf_pre [hAxfIdeal : Cert.AxfIdeal.Facts] [hAxfRefIdeal : Cert.AxfRefIdeal.Facts] [hPre_axf_pre : Cert.Pre_axf_pre.Facts] : Prop :=
  ∀ (m : (ℓ : Loc Cert.AxfIdeal.nD Cert.AxfIdeal.τ Cert.AxfIdeal.sig) → Buf (Elt Ideal) ℓ) (g : Dev Cert.AxfIdeal.nD → PrngReg)
    (m' : (ℓ : Loc Cert.AxfRefIdeal.nD Cert.AxfRefIdeal.τ Cert.AxfRefIdeal.sig) → Buf (Elt Ideal) ℓ) (g' : Dev Cert.AxfRefIdeal.nD → PrngReg), Pre_AxfIdeal_axf_pre m →
    (∀ c : Dev Cert.AxfIdeal.nD,
      m' ((c.tc : Thread Cert.AxfRefIdeal.nD Cert.AxfRefIdeal.τ).loc Cert.AxfRefIdeal.main_arg0) = m ((c.tc : Thread Cert.AxfIdeal.nD Cert.AxfIdeal.τ).loc Cert.AxfIdeal.main_arg0)
      ∧ m' ((c.tc : Thread Cert.AxfRefIdeal.nD Cert.AxfRefIdeal.τ).loc Cert.AxfRefIdeal.main_arg1) = m ((c.tc : Thread Cert.AxfIdeal.nD Cert.AxfIdeal.τ).loc Cert.AxfIdeal.main_arg1)
      ∧ m' ((c.tc : Thread Cert.AxfRefIdeal.nD Cert.AxfRefIdeal.τ).loc Cert.AxfRefIdeal.main_arg2) = m ((c.tc : Thread Cert.AxfIdeal.nD Cert.AxfIdeal.τ).loc Cert.AxfIdeal.main_arg2)
      ∧ m' ((c.tc : Thread Cert.AxfRefIdeal.nD Cert.AxfRefIdeal.τ).loc Cert.AxfRefIdeal.main_arg3) = m ((c.tc : Thread Cert.AxfIdeal.nD Cert.AxfIdeal.τ).loc Cert.AxfIdeal.main_arg3)) →
    ∃ (v0 : (c : Dev Cert.AxfIdeal.nD) → Buf (Elt Ideal) ((c.tc : Thread Cert.AxfIdeal.nD Cert.AxfIdeal.τ).loc Cert.AxfIdeal.main_v8_0)) (v1 : (c : Dev Cert.AxfIdeal.nD) → Buf (Elt Ideal) ((c.tc : Thread Cert.AxfIdeal.nD Cert.AxfIdeal.τ).loc Cert.AxfIdeal.main_v8_1)) (v2 : (c : Dev Cert.AxfIdeal.nD) → Buf (Elt Ideal) ((c.tc : Thread Cert.AxfIdeal.nD Cert.AxfIdeal.τ).loc Cert.AxfIdeal.main_v8_2)),
      θ_run (Cert.AxfIdeal.defs (F := Ideal)) (onTc (τ := Cert.AxfIdeal.τ) (Cert.AxfIdeal.main (F := Ideal))) ⟨m, fun _ => 0, g⟩ (fun r => ∀ c : Dev Cert.AxfIdeal.nD,
          r.2.mem ((c.tc : Thread Cert.AxfIdeal.nD Cert.AxfIdeal.τ).loc Cert.AxfIdeal.main_v8_0) = v0 c
          ∧ r.2.mem ((c.tc : Thread Cert.AxfIdeal.nD Cert.AxfIdeal.τ).loc Cert.AxfIdeal.main_v8_1) = v1 c
          ∧ r.2.mem ((c.tc : Thread Cert.AxfIdeal.nD Cert.AxfIdeal.τ).loc Cert.AxfIdeal.main_v8_2) = v2 c
          ∧ r.2.mem ((c.tc : Thread Cert.AxfIdeal.nD Cert.AxfIdeal.τ).loc Cert.AxfIdeal.main_arg0) = m ((c.tc : Thread Cert.AxfIdeal.nD Cert.AxfIdeal.τ).loc Cert.AxfIdeal.main_arg0)
          ∧ r.2.mem ((c.tc : Thread Cert.AxfIdeal.nD Cert.AxfIdeal.τ).loc Cert.AxfIdeal.main_arg1) = m ((c.tc : Thread Cert.AxfIdeal.nD Cert.AxfIdeal.τ).loc Cert.AxfIdeal.main_arg1)
          ∧ r.2.mem ((c.tc : Thread Cert.AxfIdeal.nD Cert.AxfIdeal.τ).loc Cert.AxfIdeal.main_arg2) = m ((c.tc : Thread Cert.AxfIdeal.nD Cert.AxfIdeal.τ).loc Cert.AxfIdeal.main_arg2)
          ∧ r.2.mem ((c.tc : Thread Cert.AxfIdeal.nD Cert.AxfIdeal.τ).loc Cert.AxfIdeal.main_arg3) = m ((c.tc : Thread Cert.AxfIdeal.nD Cert.AxfIdeal.τ).loc Cert.AxfIdeal.main_arg3))
      ∧ θ_run (Cert.AxfRefIdeal.defs (F := Ideal)) (onTc (τ := Cert.AxfRefIdeal.τ) (Cert.AxfRefIdeal.main (F := Ideal))) ⟨m', fun _ => 0, g'⟩ (fun r => ∀ c : Dev Cert.AxfRefIdeal.nD,
          r.2.mem ((c.tc : Thread Cert.AxfRefIdeal.nD Cert.AxfRefIdeal.τ).loc Cert.AxfRefIdeal.main_v35) = v0 c
          ∧ r.2.mem ((c.tc : Thread Cert.AxfRefIdeal.nD Cert.AxfRefIdeal.τ).loc Cert.AxfRefIdeal.main_v49) = v1 c
          ∧ r.2.mem ((c.tc : Thread Cert.AxfRefIdeal.nD Cert.AxfRefIdeal.τ).loc Cert.AxfRefIdeal.main_v50) = v2 c
          ∧ r.2.mem ((c.tc : Thread Cert.AxfRefIdeal.nD Cert.AxfRefIdeal.τ).loc Cert.AxfRefIdeal.main_arg0) = m' ((c.tc : Thread Cert.AxfRefIdeal.nD Cert.AxfRefIdeal.τ).loc Cert.AxfRefIdeal.main_arg0)
          ∧ r.2.mem ((c.tc : Thread Cert.AxfRefIdeal.nD Cert.AxfRefIdeal.τ).loc Cert.AxfRefIdeal.main_arg1) = m' ((c.tc : Thread Cert.AxfRefIdeal.nD Cert.AxfRefIdeal.τ).loc Cert.AxfRefIdeal.main_arg1)
          ∧ r.2.mem ((c.tc : Thread Cert.AxfRefIdeal.nD Cert.AxfRefIdeal.τ).loc Cert.AxfRefIdeal.main_arg2) = m' ((c.tc : Thread Cert.AxfRefIdeal.nD Cert.AxfRefIdeal.τ).loc Cert.AxfRefIdeal.main_arg2)
          ∧ r.2.mem ((c.tc : Thread Cert.AxfRefIdeal.nD Cert.AxfRefIdeal.τ).loc Cert.AxfRefIdeal.main_arg3) = m' ((c.tc : Thread Cert.AxfRefIdeal.nD Cert.AxfRefIdeal.τ).loc Cert.AxfRefIdeal.main_arg3))

def preserves_Axd_AxdIdeal : Prop :=
  True

def algebraic_AxdIdeal_AxdRefIdeal [hAxdIdeal : Cert.AxdIdeal.Facts] [hAxdRefIdeal : Cert.AxdRefIdeal.Facts] : Prop :=
  ∀ (m : (ℓ : Loc Cert.AxdIdeal.nD Cert.AxdIdeal.τ Cert.AxdIdeal.sig) → Buf (Elt Ideal) ℓ) (g : Dev Cert.AxdIdeal.nD → PrngReg)
    (m' : (ℓ : Loc Cert.AxdRefIdeal.nD Cert.AxdRefIdeal.τ Cert.AxdRefIdeal.sig) → Buf (Elt Ideal) ℓ) (g' : Dev Cert.AxdRefIdeal.nD → PrngReg), Pre_AxdIdeal m →
    (∀ c : Dev Cert.AxdIdeal.nD,
      m' ((c.tc : Thread Cert.AxdRefIdeal.nD Cert.AxdRefIdeal.τ).loc Cert.AxdRefIdeal.main_arg0) = m ((c.tc : Thread Cert.AxdIdeal.nD Cert.AxdIdeal.τ).loc Cert.AxdIdeal.main_arg0)
      ∧ m' ((c.tc : Thread Cert.AxdRefIdeal.nD Cert.AxdRefIdeal.τ).loc Cert.AxdRefIdeal.main_arg1) = m ((c.tc : Thread Cert.AxdIdeal.nD Cert.AxdIdeal.τ).loc Cert.AxdIdeal.main_arg1)
      ∧ m' ((c.tc : Thread Cert.AxdRefIdeal.nD Cert.AxdRefIdeal.τ).loc Cert.AxdRefIdeal.main_arg2) = m ((c.tc : Thread Cert.AxdIdeal.nD Cert.AxdIdeal.τ).loc Cert.AxdIdeal.main_arg2)
      ∧ m' ((c.tc : Thread Cert.AxdRefIdeal.nD Cert.AxdRefIdeal.τ).loc Cert.AxdRefIdeal.main_arg3) = m ((c.tc : Thread Cert.AxdIdeal.nD Cert.AxdIdeal.τ).loc Cert.AxdIdeal.main_arg3)) →
    ∃ (v0 : (c : Dev Cert.AxdIdeal.nD) → Buf (Elt Ideal) ((c.tc : Thread Cert.AxdIdeal.nD Cert.AxdIdeal.τ).loc Cert.AxdIdeal.main_v23)),
      θ_run (Cert.AxdIdeal.defs (F := Ideal)) (onTc (τ := Cert.AxdIdeal.τ) (Cert.AxdIdeal.main (F := Ideal))) ⟨m, fun _ => 0, g⟩ (fun r => ∀ c : Dev Cert.AxdIdeal.nD,
          r.2.mem ((c.tc : Thread Cert.AxdIdeal.nD Cert.AxdIdeal.τ).loc Cert.AxdIdeal.main_v23) = v0 c
          ∧ r.2.mem ((c.tc : Thread Cert.AxdIdeal.nD Cert.AxdIdeal.τ).loc Cert.AxdIdeal.main_arg0) = m ((c.tc : Thread Cert.AxdIdeal.nD Cert.AxdIdeal.τ).loc Cert.AxdIdeal.main_arg0)
          ∧ r.2.mem ((c.tc : Thread Cert.AxdIdeal.nD Cert.AxdIdeal.τ).loc Cert.AxdIdeal.main_arg1) = m ((c.tc : Thread Cert.AxdIdeal.nD Cert.AxdIdeal.τ).loc Cert.AxdIdeal.main_arg1)
          ∧ r.2.mem ((c.tc : Thread Cert.AxdIdeal.nD Cert.AxdIdeal.τ).loc Cert.AxdIdeal.main_arg2) = m ((c.tc : Thread Cert.AxdIdeal.nD Cert.AxdIdeal.τ).loc Cert.AxdIdeal.main_arg2)
          ∧ r.2.mem ((c.tc : Thread Cert.AxdIdeal.nD Cert.AxdIdeal.τ).loc Cert.AxdIdeal.main_arg3) = m ((c.tc : Thread Cert.AxdIdeal.nD Cert.AxdIdeal.τ).loc Cert.AxdIdeal.main_arg3))
      ∧ θ_run (Cert.AxdRefIdeal.defs (F := Ideal)) (onTc (τ := Cert.AxdRefIdeal.τ) (Cert.AxdRefIdeal.main (F := Ideal))) ⟨m', fun _ => 0, g'⟩ (fun r => ∀ c : Dev Cert.AxdRefIdeal.nD,
          r.2.mem ((c.tc : Thread Cert.AxdRefIdeal.nD Cert.AxdRefIdeal.τ).loc Cert.AxdRefIdeal.main_v25) = v0 c
          ∧ r.2.mem ((c.tc : Thread Cert.AxdRefIdeal.nD Cert.AxdRefIdeal.τ).loc Cert.AxdRefIdeal.main_arg0) = m' ((c.tc : Thread Cert.AxdRefIdeal.nD Cert.AxdRefIdeal.τ).loc Cert.AxdRefIdeal.main_arg0)
          ∧ r.2.mem ((c.tc : Thread Cert.AxdRefIdeal.nD Cert.AxdRefIdeal.τ).loc Cert.AxdRefIdeal.main_arg1) = m' ((c.tc : Thread Cert.AxdRefIdeal.nD Cert.AxdRefIdeal.τ).loc Cert.AxdRefIdeal.main_arg1)
          ∧ r.2.mem ((c.tc : Thread Cert.AxdRefIdeal.nD Cert.AxdRefIdeal.τ).loc Cert.AxdRefIdeal.main_arg2) = m' ((c.tc : Thread Cert.AxdRefIdeal.nD Cert.AxdRefIdeal.τ).loc Cert.AxdRefIdeal.main_arg2)
          ∧ r.2.mem ((c.tc : Thread Cert.AxdRefIdeal.nD Cert.AxdRefIdeal.τ).loc Cert.AxdRefIdeal.main_arg3) = m' ((c.tc : Thread Cert.AxdRefIdeal.nD Cert.AxdRefIdeal.τ).loc Cert.AxdRefIdeal.main_arg3))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)
      ∧ m' ((c.tc : Thread Cert.DwguRefIdeal.nD Cert.DwguRefIdeal.τ).loc Cert.DwguRefIdeal.main_arg2) = m ((c.tc : Thread Cert.DwguIdeal.nD Cert.DwguIdeal.τ).loc Cert.DwguIdeal.main_arg2)
      ∧ m' ((c.tc : Thread Cert.DwguRefIdeal.nD Cert.DwguRefIdeal.τ).loc Cert.DwguRefIdeal.main_arg3) = m ((c.tc : Thread Cert.DwguIdeal.nD Cert.DwguIdeal.τ).loc Cert.DwguIdeal.main_arg3)
      ∧ m' ((c.tc : Thread Cert.DwguRefIdeal.nD Cert.DwguRefIdeal.τ).loc Cert.DwguRefIdeal.main_arg4) = m ((c.tc : Thread Cert.DwguIdeal.nD Cert.DwguIdeal.τ).loc Cert.DwguIdeal.main_arg4)) →
    ∃ (v0 : (c : Dev Cert.DwguIdeal.nD) → Buf (Elt Ideal) ((c.tc : Thread Cert.DwguIdeal.nD Cert.DwguIdeal.τ).loc Cert.DwguIdeal.main_v23)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v23) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
          ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2)
          ∧ r.2.mem ((c.tc : Thread Cert.DwguIdeal.nD Cert.DwguIdeal.τ).loc Cert.DwguIdeal.main_arg3) = m ((c.tc : Thread Cert.DwguIdeal.nD Cert.DwguIdeal.τ).loc Cert.DwguIdeal.main_arg3)
          ∧ r.2.mem ((c.tc : Thread Cert.DwguIdeal.nD Cert.DwguIdeal.τ).loc Cert.DwguIdeal.main_arg4) = m ((c.tc : Thread Cert.DwguIdeal.nD Cert.DwguIdeal.τ).loc Cert.DwguIdeal.main_arg4))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v25) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1)
          ∧ r.2.mem ((c.tc : Thread Cert.DwguRefIdeal.nD Cert.DwguRefIdeal.τ).loc Cert.DwguRefIdeal.main_arg2) = m' ((c.tc : Thread Cert.DwguRefIdeal.nD Cert.DwguRefIdeal.τ).loc Cert.DwguRefIdeal.main_arg2)
          ∧ r.2.mem ((c.tc : Thread Cert.DwguRefIdeal.nD Cert.DwguRefIdeal.τ).loc Cert.DwguRefIdeal.main_arg3) = m' ((c.tc : Thread Cert.DwguRefIdeal.nD Cert.DwguRefIdeal.τ).loc Cert.DwguRefIdeal.main_arg3)
          ∧ r.2.mem ((c.tc : Thread Cert.DwguRefIdeal.nD Cert.DwguRefIdeal.τ).loc Cert.DwguRefIdeal.main_arg4) = m' ((c.tc : Thread Cert.DwguRefIdeal.nD Cert.DwguRefIdeal.τ).loc Cert.DwguRefIdeal.main_arg4))

def Claim : Prop :=
  ∃ (hLoss : Cert.Loss.Facts) (hLossIdeal : Cert.LossIdeal.Facts) (hLossRefIdeal : Cert.LossRefIdeal.Facts) (hAxb : Cert.Axb.Facts) (hAxbIdeal : Cert.AxbIdeal.Facts) (hAxbRefIdeal : Cert.AxbRefIdeal.Facts) (hInproj : Cert.Inproj.Facts) (hInprojIdeal : Cert.InprojIdeal.Facts) (hInprojRefIdeal : Cert.InprojRefIdeal.Facts) (hFfnb : Cert.Ffnb.Facts) (hFfnbIdeal : Cert.FfnbIdeal.Facts) (hFfnbRefIdeal : Cert.FfnbRefIdeal.Facts) (hOproj : Cert.Oproj.Facts) (hOprojIdeal : Cert.OprojIdeal.Facts) (hOprojRefIdeal : Cert.OprojRefIdeal.Facts) (hDproj : Cert.Dproj.Facts) (hDprojIdeal : Cert.DprojIdeal.Facts) (hDprojRefIdeal : Cert.DprojRefIdeal.Facts) (hAxf : Cert.Axf.Facts) (hAxfIdeal : Cert.AxfIdeal.Facts) (hAxfRefIdeal : Cert.AxfRefIdeal.Facts) (hAxd : Cert.Axd.Facts) (hAxdIdeal : Cert.AxdIdeal.Facts) (hAxdRefIdeal : Cert.AxdRefIdeal.Facts) (hDwgu : Cert.Dwgu.Facts) (hDwguIdeal : Cert.DwguIdeal.Facts) (hDwguRefIdeal : Cert.DwguRefIdeal.Facts) (hPre_loss_pre : Cert.Pre_loss_pre.Facts) (hPre_axb_pre : Cert.Pre_axb_pre.Facts) (hPre_inproj_pre : Cert.Pre_inproj_pre.Facts) (hPre_ffnb_pre : Cert.Pre_ffnb_pre.Facts) (hPre_oproj_pre : Cert.Pre_oproj_pre.Facts) (hPre_dproj_pre : Cert.Pre_dproj_pre.Facts) (hPre_axf_pre : Cert.Pre_axf_pre.Facts),
    quiescent_Loss (hLoss := hLoss)
    ∧ quiescent_LossIdeal (hLossIdeal := hLossIdeal)
    ∧ quiescent_LossIdeal_pre_loss_pre (hLossIdeal := hLossIdeal) (hPre_loss_pre := hPre_loss_pre)
    ∧ quiescent_LossRefIdeal (hLossRefIdeal := hLossRefIdeal)
    ∧ quiescent_LossRefIdeal_pre_loss_pre (hLossRefIdeal := hLossRefIdeal) (hPre_loss_pre := hPre_loss_pre)
    ∧ quiescent_Axb (hAxb := hAxb)
    ∧ quiescent_AxbIdeal (hAxbIdeal := hAxbIdeal)
    ∧ quiescent_AxbIdeal_pre_axb_pre (hAxbIdeal := hAxbIdeal) (hPre_axb_pre := hPre_axb_pre)
    ∧ quiescent_AxbRefIdeal (hAxbRefIdeal := hAxbRefIdeal)
    ∧ quiescent_AxbRefIdeal_pre_axb_pre (hAxbRefIdeal := hAxbRefIdeal) (hPre_axb_pre := hPre_axb_pre)
    ∧ quiescent_Inproj (hInproj := hInproj)
    ∧ quiescent_InprojIdeal (hInprojIdeal := hInprojIdeal)
    ∧ quiescent_InprojIdeal_pre_inproj_pre (hInprojIdeal := hInprojIdeal) (hPre_inproj_pre := hPre_inproj_pre)
    ∧ quiescent_InprojRefIdeal (hInprojRefIdeal := hInprojRefIdeal)
    ∧ quiescent_InprojRefIdeal_pre_inproj_pre (hInprojRefIdeal := hInprojRefIdeal) (hPre_inproj_pre := hPre_inproj_pre)
    ∧ quiescent_Ffnb (hFfnb := hFfnb)
    ∧ quiescent_FfnbIdeal (hFfnbIdeal := hFfnbIdeal)
    ∧ quiescent_FfnbIdeal_pre_ffnb_pre (hFfnbIdeal := hFfnbIdeal) (hPre_ffnb_pre := hPre_ffnb_pre)
    ∧ quiescent_FfnbRefIdeal (hFfnbRefIdeal := hFfnbRefIdeal)
    ∧ quiescent_FfnbRefIdeal_pre_ffnb_pre (hFfnbRefIdeal := hFfnbRefIdeal) (hPre_ffnb_pre := hPre_ffnb_pre)
    ∧ quiescent_Oproj (hOproj := hOproj)
    ∧ quiescent_OprojIdeal (hOprojIdeal := hOprojIdeal)
    ∧ quiescent_OprojIdeal_pre_oproj_pre (hOprojIdeal := hOprojIdeal) (hPre_oproj_pre := hPre_oproj_pre)
    ∧ quiescent_OprojRefIdeal (hOprojRefIdeal := hOprojRefIdeal)
    ∧ quiescent_OprojRefIdeal_pre_oproj_pre (hOprojRefIdeal := hOprojRefIdeal) (hPre_oproj_pre := hPre_oproj_pre)
    ∧ quiescent_Dproj (hDproj := hDproj)
    ∧ quiescent_DprojIdeal (hDprojIdeal := hDprojIdeal)
    ∧ quiescent_DprojIdeal_pre_dproj_pre (hDprojIdeal := hDprojIdeal) (hPre_dproj_pre := hPre_dproj_pre)
    ∧ quiescent_DprojRefIdeal (hDprojRefIdeal := hDprojRefIdeal)
    ∧ quiescent_DprojRefIdeal_pre_dproj_pre (hDprojRefIdeal := hDprojRefIdeal) (hPre_dproj_pre := hPre_dproj_pre)
    ∧ quiescent_Axf (hAxf := hAxf)
    ∧ quiescent_AxfIdeal (hAxfIdeal := hAxfIdeal)
    ∧ quiescent_AxfIdeal_pre_axf_pre (hAxfIdeal := hAxfIdeal) (hPre_axf_pre := hPre_axf_pre)
    ∧ quiescent_AxfRefIdeal (hAxfRefIdeal := hAxfRefIdeal)
    ∧ quiescent_AxfRefIdeal_pre_axf_pre (hAxfRefIdeal := hAxfRefIdeal) (hPre_axf_pre := hPre_axf_pre)
    ∧ quiescent_Axd (hAxd := hAxd)
    ∧ quiescent_AxdIdeal (hAxdIdeal := hAxdIdeal)
    ∧ quiescent_AxdRefIdeal (hAxdRefIdeal := hAxdRefIdeal)
    ∧ quiescent_Dwgu (hDwgu := hDwgu)
    ∧ quiescent_DwguIdeal (hDwguIdeal := hDwguIdeal)
    ∧ quiescent_DwguRefIdeal (hDwguRefIdeal := hDwguRefIdeal)
    ∧ preserves_Loss_LossIdeal
    ∧ algebraic_LossIdeal_LossRefIdeal_pre_loss_pre (hLossIdeal := hLossIdeal) (hLossRefIdeal := hLossRefIdeal) (hPre_loss_pre := hPre_loss_pre)
    ∧ preserves_Axb_AxbIdeal
    ∧ algebraic_AxbIdeal_AxbRefIdeal_pre_axb_pre (hAxbIdeal := hAxbIdeal) (hAxbRefIdeal := hAxbRefIdeal) (hPre_axb_pre := hPre_axb_pre)
    ∧ preserves_Inproj_InprojIdeal
    ∧ algebraic_InprojIdeal_InprojRefIdeal_pre_inproj_pre (hInprojIdeal := hInprojIdeal) (hInprojRefIdeal := hInprojRefIdeal) (hPre_inproj_pre := hPre_inproj_pre)
    ∧ preserves_Ffnb_FfnbIdeal
    ∧ algebraic_FfnbIdeal_FfnbRefIdeal_pre_ffnb_pre (hFfnbIdeal := hFfnbIdeal) (hFfnbRefIdeal := hFfnbRefIdeal) (hPre_ffnb_pre := hPre_ffnb_pre)
    ∧ preserves_Oproj_OprojIdeal
    ∧ algebraic_OprojIdeal_OprojRefIdeal_pre_oproj_pre (hOprojIdeal := hOprojIdeal) (hOprojRefIdeal := hOprojRefIdeal) (hPre_oproj_pre := hPre_oproj_pre)
    ∧ preserves_Dproj_DprojIdeal
    ∧ algebraic_DprojIdeal_DprojRefIdeal_pre_dproj_pre (hDprojIdeal := hDprojIdeal) (hDprojRefIdeal := hDprojRefIdeal) (hPre_dproj_pre := hPre_dproj_pre)
    ∧ preserves_Axf_AxfIdeal
    ∧ algebraic_AxfIdeal_AxfRefIdeal_pre_axf_pre (hAxfIdeal := hAxfIdeal) (hAxfRefIdeal := hAxfRefIdeal) (hPre_axf_pre := hPre_axf_pre)
    ∧ preserves_Axd_AxdIdeal
    ∧ algebraic_AxdIdeal_AxdRefIdeal (hAxdIdeal := hAxdIdeal) (hAxdRefIdeal := hAxdRefIdeal)
    ∧ preserves_Dwgu_DwguIdeal
    ∧ algebraic_DwguIdeal_DwguRefIdeal (hDwguIdeal := hDwguIdeal) (hDwguRefIdeal := hDwguRefIdeal)
-- ==== Pre_axb_pre.lean ====
abbrev S16384x384 : Shape := ⟨2, ![16384, 384]⟩
abbrev S16384x128 : Shape := ⟨2, ![16384, 128]⟩
abbrev S_ : Shape := ⟨0, ![]⟩

class Facts : Prop where
  bcast_S_S16384x384 : S_.BroadcastsInDim S16384x384 (![] : Fin 0 → Fin S16384x384.rank)
  bcast_S_S16384x128 : S_.BroadcastsInDim S16384x128 (![] : Fin 0 → Fin S16384x128.rank)

variable [Facts]

def fn {F : FTy → Type} [FloatOps F] (main_arg0 : FVec F S16384x384 .f32) (main_arg1 : FVec F S16384x128 .f32) (main_arg2 : FVec F S16384x128 .f32) (main_arg3 : FVec F S16384x384 .f32) : IVec S16384x384 1 × IVec S16384x128 1 × IVec S16384x128 1 × IVec S16384x384 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S16384x128 .f32 := Host.absf main_arg2
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  let main_v9 : FVec F S16384x384 .f32 := Host.absf main_arg3
  let main_cst_2 : FVec F S_ .f32 := constant S_ .f32 0x7F800000#32
  let main_v10 : FVec F S16384x384 .f32 := broadcastInDim S16384x384 ![] bcast_S_S16384x384 main_cst_2
  let main_v11 : IVec S16384x384 1 := cmpf .olt main_v9 main_v10
  (main_v2, main_v5, main_v8, main_v11)
-- ==== Pre_axf_pre.lean ====
abbrev S16384x384 : Shape := ⟨2, ![16384, 384]⟩
abbrev S16384x128 : Shape := ⟨2, ![16384, 128]⟩
abbrev S384 : Shape := ⟨1, ![384]⟩
abbrev S_ : Shape := ⟨0, ![]⟩

class Facts : Prop where
  bcast_S_S16384x384 : S_.BroadcastsInDim S16384x384 (![] : Fin 0 → Fin S16384x384.rank)
  bcast_S_S16384x128 : S_.BroadcastsInDim S16384x128 (![] : Fin 0 → Fin S16384x128.rank)

variable [Facts]

def fn {F : FTy → Type} [FloatOps F] (main_arg0 : FVec F S16384x384 .f32) (main_arg1 : FVec F S16384x128 .f32) (main_arg2 : FVec F S16384x128 .f32) (main_arg3 : FVec F S384 .f32) : IVec S16384x384 1 × IVec S16384x128 1 × IVec S16384x128 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S16384x128 .f32 := Host.absf main_arg2
  let main_cst_1 : FVec F S_ .f32 := constant S_ .f32 0x7F800000#32
  let main_v7 : FVec F S16384x128 .f32 := broadcastInDim S16384x128 ![] bcast_S_S16384x128 main_cst_1
  let main_v8 : IVec S16384x128 1 := cmpf .olt main_v6 main_v7
  (main_v2, main_v5, main_v8)
-- ==== Pre_dproj_pre.lean ====
abbrev S16384x2048 : Shape := ⟨2, ![16384, 2048]⟩
abbrev S64 : Shape := ⟨1, ![64]⟩
abbrev S16384x256 : Shape := ⟨2, ![16384, 256]⟩
abbrev S16384x384 : Shape := ⟨2, ![16384, 384]⟩
abbrev S16384x128 : Shape := ⟨2, ![16384, 128]⟩
abbrev S_ : Shape := ⟨0, ![]⟩

class Facts : Prop where
  bcast_S_S16384x2048 : S_.BroadcastsInDim S16384x2048 (![] : Fin 0 → Fin S16384x2048.rank)
  bcast_S_S64 : S_.BroadcastsInDim S64 (![] : Fin 0 → Fin S64.rank)
  bcast_S_S16384x384 : S_.BroadcastsInDim S16384x384 (![] : Fin 0 → Fin S16384x384.rank)
  bcast_S_S16384x128 : S_.BroadcastsInDim S16384x128 (![] : Fin 0 → Fin S16384x128.rank)

variable [Facts]

def fn {F : FTy → Type} [FloatOps F] (main_arg0 : FVec F S16384x2048 .f32) (main_arg1 : FVec F S64 .f32) (main_arg2 : FVec F S64 .f32) (main_arg3 : FVec F S16384x256 .f32) (main_arg4 : FVec F S16384x256 .f32) (main_arg5 : FVec F S16384x256 .f32) (main_arg6 : FVec F S16384x256 .f32) (main_arg7 : FVec F S16384x256 .f32) (main_arg8 : FVec F S16384x384 .f32) (main_arg9 : FVec F S16384x128 .f32) (main_arg10 : FVec F S16384x128 .f32) (main_arg11 : FVec F S16384x128 .f32) (main_arg12 : FVec F S16384x128 .f32) (main_arg13 : FVec F S16384x384 .f32) (main_arg14 : FVec F S16384x128 .f32) (main_arg15 : FVec F S16384x128 .f32) : IVec S16384x2048 1 × IVec S64 1 × IVec S64 1 × IVec S16384x384 1 × IVec S16384x128 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S16384x384 .f32 := Host.absf main_arg13
  let main_cst_2 : FVec F S_ .f32 := constant S_ .f32 0x7F800000#32
  let main_v10 : FVec F S16384x384 .f32 := broadcastInDim S16384x384 ![] bcast_S_S16384x384 main_cst_2
  let main_v11 : IVec S16384x384 1 := cmpf .olt main_v9 main_v10
  let main_v12 : FVec F S16384x128 .f32 := Host.absf main_arg14
  let main_cst_3 : FVec F S_ .f32 := constant S_ .f32 0x7F800000#32
  let main_v13 : FVec F S16384x128 .f32 := broadcastInDim S16384x128 ![] bcast_S_S16384x128 main_cst_3
  let main_v14 : IVec S16384x128 1 := cmpf .olt main_v12 main_v13
  (main_v2, main_v5, main_v8, main_v11, main_v14)
-- ==== Pre_ffnb_pre.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S16384x5632 : S_.BroadcastsInDim S16384x5632 (![] : Fin 0 → Fin S16384x5632.rank)

variable [Facts]

def fn {F : FTy → Type} [FloatOps F] (main_arg0 : FVec F S16384x1024 .f32) (main_arg1 : FVec F S1024 .f32) (main_arg2 : FVec F S1024 .f32) (main_arg3 : FVec F S1024 .f32) (main_arg4 : FVec F S1024x5632 .f32) (main_arg5 : FVec F S16384x1024 .f32) (main_arg6 : FVec F S16384x5632 .f32) : IVec S16384x1024 1 × IVec S1024 1 × IVec S1024 1 × IVec S1024x5632 1 × IVec S16384x5632 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg4
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S16384x5632 .f32 := Host.absf main_arg6
  let main_cst_3 : FVec F S_ .f32 := constant S_ .f32 0x7F800000#32
  let main_v13 : FVec F S16384x5632 .f32 := broadcastInDim S16384x5632 ![] bcast_S_S16384x5632 main_cst_3
  let main_v14 : IVec S16384x5632 1 := cmpf .olt main_v12 main_v13
  (main_v2, main_v5, main_v8, main_v11, main_v14)
-- ==== Pre_inproj_pre.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S16384x2048 : S_.BroadcastsInDim S16384x2048 (![] : Fin 0 → Fin S16384x2048.rank)

variable [Facts]

def fn {F : FTy → Type} [FloatOps F] (main_arg0 : FVec F S16384x1024 .f32) (main_arg1 : FVec F S1024 .f32) (main_arg2 : FVec F S1024 .f32) (main_arg3 : FVec F S1024 .f32) (main_arg4 : FVec F S1024x2048 .f32) (main_arg5 : FVec F S16384x1024 .f32) (main_arg6 : FVec F S16384x2048 .f32) : IVec S16384x1024 1 × IVec S1024 1 × IVec S1024 1 × IVec S1024x2048 1 × IVec S16384x2048 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2048 .f32 := Host.absf main_arg4
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S16384x2048 .f32 := Host.absf main_arg6
  let main_cst_3 : FVec F S_ .f32 := constant S_ .f32 0x7F800000#32
  let main_v13 : FVec F S16384x2048 .f32 := broadcastInDim S16384x2048 ![] bcast_S_S16384x2048 main_cst_3
  let main_v14 : IVec S16384x2048 1 := cmpf .olt main_v12 main_v13
  (main_v2, main_v5, main_v8, main_v11, main_v14)
-- ==== Pre_loss_pre.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S1024 .f32) (main_arg2 : FVec F S16384x1024 .f32) : IVec S16384x1024 1 × IVec S1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_oproj_pre.lean ====
abbrev S16384x1024 : Shape := ⟨2, ![16384, 1024]⟩
abbrev S16384x256 : Shape := ⟨2, ![16384, 256]⟩
abbrev S16384x384 : Shape := ⟨2, ![16384, 384]⟩
abbrev S1024 : Shape := ⟨1, ![1024]⟩
abbrev S1024x1024 : Shape := ⟨2, ![1024, 1024]⟩
abbrev S_ : Shape := ⟨0, ![]⟩

class Facts : Prop where
  bcast_S_S16384x256 : S_.BroadcastsInDim S16384x256 (![] : Fin 0 → Fin S16384x256.rank)
  bcast_S_S16384x384 : S_.BroadcastsInDim S16384x384 (![] : Fin 0 → Fin S16384x384.rank)
  bcast_S_S1024 : S_.BroadcastsInDim S1024 (![] : Fin 0 → Fin S1024.rank)
  bcast_S_S1024x1024 : S_.BroadcastsInDim S1024x1024 (![] : Fin 0 → Fin S1024x1024.rank)
  bcast_S_S16384x1024 : S_.BroadcastsInDim S16384x1024 (![] : Fin 0 → Fin S16384x1024.rank)

variable [Facts]

def fn_part1 {F : FTy → Type} [FloatOps F] (main_arg7 : FVec F S16384x1024 .f32) (main_v2 : IVec S16384x256 1) (main_v5 : IVec S16384x384 1) (main_v8 : IVec S16384x384 1) (main_v11 : IVec S1024 1) (main_v14 : IVec S1024x1024 1) (main_v17 : IVec S1024 1) : IVec S16384x256 1 × IVec S16384x384 1 × IVec S16384x384 1 × IVec S1024 1 × IVec S1024x1024 1 × IVec S1024 1 × IVec S16384x1024 1 :=
  let main_v18 : FVec F S16384x1024 .f32 := Host.absf main_arg7
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S16384x256 .f32) (main_arg2 : FVec F S16384x384 .f32) (main_arg3 : FVec F S16384x384 .f32) (main_arg4 : FVec F S1024 .f32) (main_arg5 : FVec F S1024x1024 .f32) (main_arg6 : FVec F S1024 .f32) (main_arg7 : FVec F S16384x1024 .f32) : IVec S16384x256 1 × IVec S16384x384 1 × IVec S16384x384 1 × IVec S1024 1 × IVec S1024x1024 1 × IVec S1024 1 × IVec S16384x1024 1 :=
  let main_v0 : FVec F S16384x256 .f32 := Host.absf main_arg1
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S16384x384 .f32 := Host.absf main_arg2
  let main_cst_0 : FVec F S_ .f32 := constant S_ .f32 0x7F800000#32
  let main_v4 : FVec F S16384x384 .f32 := broadcastInDim S16384x384 ![] bcast_S_S16384x384 main_cst_0
  let main_v5 : IVec S16384x384 1 := cmpf .olt main_v3 main_v4
  let main_v6 : FVec F S16384x384 .f32 := Host.absf main_arg3
  let main_cst_1 : FVec F S_ .f32 := constant S_ .f32 0x7F800000#32
  let main_v7 : FVec F S16384x384 .f32 := broadcastInDim S16384x384 ![] bcast_S_S16384x384 main_cst_1
  let main_v8 : IVec S16384x384 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg7 main_v2 main_v5 main_v8 main_v11 main_v14 main_v17
-- ==== Loss.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x128, .f32⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Axb.lean ====
abbrev S16384x384 : Shape := ⟨2, ![16384, 384]⟩
abbrev S16384x128 : Shape := ⟨2, ![16384, 128]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S16384x6x64 : Shape := ⟨3, ![16384, 6, 64]⟩
abbrev S16384x6 : Shape := ⟨2, ![16384, 6]⟩
abbrev S16384x1920 : Shape := ⟨2, ![16384, 1920]⟩
abbrev S16384x2048 : Shape := ⟨2, ![16384, 2048]⟩
abbrev S6x1x16384 : Shape := ⟨3, ![6, 1, 16384]⟩
abbrev S6x16384 : Shape := ⟨2, ![6, 16384]⟩
abbrev S512x384 : Shape := ⟨2, ![512, 384]⟩
abbrev S2048x128 : Shape := ⟨2, ![2048, 128]⟩
abbrev S6x1x512 : Shape := ⟨3, ![6, 1, 512]⟩
abbrev S32x512x384 : Shape := ⟨3, ![32, 512, 384]⟩
abbrev S1x512x384 : Shape := ⟨3, ![1, 512, 384]⟩
abbrev S512x128 : Shape := ⟨2, ![512, 128]⟩
abbrev S2048x512 : Shape := ⟨2, ![2048, 512]⟩
abbrev S1x1x512 : Shape := ⟨3, ![1, 1, 512]⟩
abbrev S1x512 : Shape := ⟨2, ![1, 512]⟩
abbrev S1x512x128 : Shape := ⟨3, ![1, 512, 128]⟩

abbrev nBuf : Space → Nat
  | .hbm => 66
  | .vmem => 17
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S16384x384, .f32⟩
  | .hbm, ⟨4, _⟩ => ⟨S16384x2x3x64, .f32⟩
  | .hbm, ⟨5, _⟩ => ⟨S16384x2x64, .f32⟩
  | .hbm, ⟨6, _⟩ => ⟨S2x16384x16384x3, .f32⟩
  | .hbm, ⟨7, _⟩ => ⟨S2x3x16384x16384, .f32⟩
  | .hbm, ⟨8, _⟩ => ⟨S_, .f32⟩
  | .hbm, ⟨9, _⟩ => ⟨S2x3x16384x16384, .f32⟩
  | .hbm, ⟨10, _⟩ => ⟨S2x3x16384x16384, .f32⟩
  | .hbm, ⟨11, _⟩ => ⟨S_, .f32⟩
  | .hbm, ⟨12, _⟩ => ⟨S2x3x16384, .f32⟩
  | .hbm, ⟨13, _⟩ => ⟨S2x3x16384x1, .f32⟩
  | .hbm, ⟨14, _⟩ => ⟨S2x3x16384x16384, .f32⟩
  | .hbm, ⟨15, _⟩ => ⟨S2x3x16384x16384, .f32⟩
  | .hbm, ⟨16, _⟩ => ⟨S2x3x16384x16384, .f32⟩
  | .hbm, ⟨17, _⟩ => ⟨S_, .f32⟩
  | .hbm, ⟨18, _⟩ => ⟨S2x3x16384, .f32⟩
  | .hbm, ⟨19, _⟩ => ⟨S2x3x16384, .f32⟩
  | .hbm, ⟨20, _⟩ => ⟨S2x3x16384, .f32⟩
  | .hbm, ⟨21, _⟩ => ⟨S16384x2x3x64, .f32⟩
  | .hbm, ⟨22, _⟩ => ⟨S16384x2x64, .f32⟩
  | .hbm, ⟨23, _⟩ => ⟨S2x16384x16384x3, .f32⟩
  | .hbm, ⟨24, _⟩ => ⟨S2x3x16384x16384, .f32⟩
  | .hbm, ⟨25, _⟩ => ⟨S_, .f32⟩
  | .hbm, ⟨26, _⟩ => ⟨S2x3x16384x16384, .f32⟩
  | .hbm, ⟨27, _⟩ => ⟨S2x3x16384x16384, .f32⟩
  | .hbm, ⟨28, _⟩ => ⟨S_, .f32⟩
  | .hbm, ⟨29, _⟩ => ⟨S2x3x16384, .f32⟩
  | .hbm, ⟨30, _⟩ => ⟨S_, .f32⟩
  | .hbm, ⟨31, _⟩ => ⟨S2x3x16384, .f32⟩
  | .hbm, ⟨32, _⟩ => ⟨S2x3x16384, .f32⟩
  | .hbm, ⟨33, _⟩ => ⟨S2x3x16384x1, .f32⟩
  | .hbm, ⟨34, _⟩ => ⟨S2x3x16384x16384, .f32⟩
  | .hbm, ⟨35, _⟩ => ⟨S2x3x16384x16384, .f32⟩
  | .hbm, ⟨36, _⟩ => ⟨S2x3x16384x16384, .f32⟩
  | .hbm, ⟨37, _⟩ => ⟨S_, .f32⟩
  | .hbm, ⟨38, _⟩ => ⟨S2x3x16384, .f32⟩
  | .hbm, ⟨39, _⟩ => ⟨S2x3x16384x1, .f32⟩
  | .hbm, ⟨40, _⟩ => ⟨S2x3x16384x16384, .f32⟩
  | .hbm, ⟨41, _⟩ => ⟨S2x3x16384x16384, .f32⟩
  | .hbm, ⟨42, _⟩ => ⟨S16384x2x64, .f32⟩
  | .hbm, ⟨43, _⟩ => ⟨S2x64x3x16384, .f32⟩
  | .hbm, ⟨44, _⟩ => ⟨S16384x2x3x64, .f32⟩
  | .hbm, ⟨45, _⟩ => ⟨S16384x384, .f32⟩
  | .hbm, ⟨46, _⟩ => ⟨S16384x384, .f32⟩
  | .hbm, ⟨47, _⟩ => ⟨S16384x6x64, .f32⟩
  | .hbm, ⟨48, _⟩ => ⟨S_, .f32⟩
  | .hbm, ⟨49, _⟩ => ⟨S16384x6, .f32⟩
  | .hbm, ⟨50, _⟩ => ⟨S_, .f32⟩
  | .hbm, ⟨51, _⟩ => ⟨S16384x384, .f32⟩
  | .hbm, ⟨52, _⟩ => ⟨S16384x384, .f32⟩
  | .hbm, ⟨53, _⟩ => ⟨S16384x384, .bf16⟩
  | .hbm, ⟨54, _⟩ => ⟨S16384x128, .bf16⟩
  | .hbm, ⟨55, _⟩ => ⟨S_, .f32⟩
  | .hbm, ⟨56, _⟩ => ⟨S16384x1920, .f32⟩
  | .hbm, ⟨57, _⟩ => ⟨S16384x2048, .f32⟩
  | .hbm, ⟨58, _⟩ => ⟨S16384x2048, .bf16⟩
  | .hbm, ⟨59, _⟩ => ⟨S16384x384, .bf16⟩
  | .hbm, ⟨60, _⟩ => ⟨S6x1x16384, .f32⟩
  | .hbm, ⟨61, _⟩ => ⟨S6x16384, .f32⟩
  | .hbm, ⟨62, _⟩ => ⟨S6x1x16384, .f32⟩
  | .hbm, ⟨63, _⟩ => ⟨S16384x128, .f32⟩
  | .hbm, ⟨64, _⟩ => ⟨S16384x128, .f32⟩
  | .hbm, ⟨65, _⟩ => ⟨S16384x384, .f32⟩
  | .local _ .vmem, ⟨0, _⟩ => ⟨S512x384, .bf16⟩
  | .local _ .vmem, ⟨1, _⟩ => ⟨S512x384, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x384, .bf16⟩
  | .local _ .vmem, ⟨7, _⟩ => ⟨S512x384, .bf16⟩
  | .local _ .vmem, ⟨8, _⟩ => ⟨S6x1x512, .f32⟩
  | .local _ .vmem, ⟨9, _⟩ => ⟨S6x1x512, .f32⟩
  | .local _ .vmem, ⟨10, _⟩ => ⟨S6x1x512, .f32⟩
  | .local _ .vmem, ⟨11, _⟩ => ⟨S6x1x512, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S32x512x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v231 : Index := Scalar.indexCast arg1
  let c0_119 : Index := 0#32
  let c0_120 : Index := 0#32
  ![v231.toNat, 0, 0]
def k0_off2 (i : grid0.Coords) : Fin 3 → Nat :=
  let arg1 : BitVec 32 := BitVec.ofNat 32 (i 1).val
  let v83 : Index := Scalar.indexCast arg1
  let c0_41 : Index := 0#32
  let c0_42 : Index := 0#32
  ![v83.toNat, 0, 0]
def k0_off3 (i : grid0.Coords) : Fin 3 → Nat :=
  let arg1 : BitVec 32 := BitVec.ofNat 32 (i 1).val
  let v146 : Index := Scalar.indexCast arg1
  let c0_72 : Index := 0#32
  let c128_73 : Index := 128#32
  ![v146.toNat, 0, 128]
def k0_off4 (i : grid0.Coords) : Fin 3 → Nat :=
  let arg1 : BitVec 32 := BitVec.ofNat 32 (i 1).val
  let v211 : Index := Scalar.indexCast arg1
  let c0_105 : Index := 0#32
  let c256_106 : Index := 256#32
  ![v211.toNat, 0, 256]
def k0_cond3 (i : grid0.Coords) : BitVec 1 :=
  let arg0 : BitVec 32 := BitVec.ofNat 32 (i 0).val
  let c7_i32 : BitVec 32 := 7#32
  let v227 : BitVec 1 := Scalar.cmpi .eq arg0 c7_i32
  let v228 : BitVec 32 := Scalar.extui v227
  let c0_i32_117 : BitVec 32 := 0#32
  let v229 : BitVec 1 := Scalar.cmpi .ne v228 c0_i32_117
  v229

def k0_off5 (i : grid0.Coords) : Fin 3 → Nat :=
  let arg1 : BitVec 32 := BitVec.ofNat 32 (i 1).val
  let v230 : Index := Scalar.indexCast arg1
  let c0_118 : Index := 0#32
  let c0_119 : Index := 0#32
  ![v230.toNat, 0, 0]
def k0_mult1 (i : grid0.Coords) : BitVec 32 :=
  let arg1 : BitVec 32 := BitVec.ofNat 32 (i 1).val
  let c512_i32 : BitVec 32 := 512#32
  let v239 : BitVec 32 := Scalar.muli arg1 c512_i32
  v239
def k0_off6 (i : grid0.Coords) : Fin 2 → Nat :=
  let arg1 : BitVec 32 := BitVec.ofNat 32 (i 1).val
  let c512_i32 : BitVec 32 := 512#32
  let v239 : BitVec 32 := Scalar.muli arg1 c512_i32
  let v240 : BitVec 32 := v239
  let c0_i32_123 : BitVec 32 := 0#32
  ![v240.toNat, 0]
def k0_off7 (i : grid0.Coords) : Fin 3 → Nat :=
  let arg1 : BitVec 32 := BitVec.ofNat 32 (i 1).val
  let c0_i32_124 : BitVec 32 := 0#32
  let c0_i32_125 : BitVec 32 := 0#32
  ![arg1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S6x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S6x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AxbRefIdeal.lean ====
abbrev S16384x384 : Shape := ⟨2, ![16384, 384]⟩
abbrev S16384x128 : Shape := ⟨2, ![16384, 128]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S2x64x16384 : Shape := ⟨3, ![2, 64, 16384]⟩
abbrev S2x16384x3x64 : Shape := ⟨4, ![2, 16384, 3, 64]⟩
abbrev S2x16384x64 : Shape := ⟨3, ![2, 16384, 64]⟩

abbrev nBuf : Space → Nat
  | .hbm => 83
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S16384x384, .f32⟩
  | .hbm, ⟨4, _⟩ => ⟨S16384x2x3x64, .f32⟩
  | .hbm, ⟨5, _⟩ => ⟨S16384x2x64, .f32⟩
  | .hbm, ⟨6, _⟩ => ⟨S2x16384x16384x3, .f32⟩
  | .hbm, ⟨7, _⟩ => ⟨S2x3x16384x16384, .f32⟩
  | .hbm, ⟨8, _⟩ => ⟨S_, .f32⟩
  | .hbm, ⟨9, _⟩ => ⟨S2x3x16384x16384, .f32⟩
  | .hbm, ⟨10, _⟩ => ⟨S2x3x16384x16384, .f32⟩
  | .hbm, ⟨11, _⟩ => ⟨S_, .f32⟩
  | .hbm, ⟨12, _⟩ => ⟨S2x3x16384, .f32⟩
  | .hbm, ⟨13, _⟩ => ⟨S2x3x16384x1, .f32⟩
  | .hbm, ⟨14, _⟩ => ⟨S2x3x16384x16384, .f32⟩
  | .hbm, ⟨15, _⟩ => ⟨S2x3x16384x16384, .i1⟩
  | .hbm, ⟨16, _⟩ => ⟨S2x3x16384x16384, .f32⟩
  | .hbm, ⟨17, _⟩ => ⟨S_, .f32⟩
  | .hbm, ⟨18, _⟩ => ⟨S2x3x16384, .f32⟩
  | .hbm, ⟨19, _⟩ => ⟨S_, .f32⟩
  | .hbm, ⟨20, _⟩ => ⟨S2x3x16384, .f32⟩
  | .hbm, ⟨21, _⟩ => ⟨S2x3x16384, .f32⟩
  | .hbm, ⟨22, _⟩ => ⟨S_, .f32⟩
  | .hbm, ⟨23, _⟩ => ⟨S2x3x16384, .f32⟩
  | .hbm, ⟨24, _⟩ => ⟨S2x3x16384, .i1⟩
  | .hbm, ⟨25, _⟩ => ⟨S_, .f32⟩
  | .hbm, ⟨26, _⟩ => ⟨S2x3x16384, .f32⟩
  | .hbm, ⟨27, _⟩ => ⟨S2x3x16384, .i1⟩
  | .hbm, ⟨28, _⟩ => ⟨S_, .f32⟩
  | .hbm, ⟨29, _⟩ => ⟨S2x3x16384, .f32⟩
  | .hbm, ⟨30, _⟩ => ⟨S_, .f32⟩
  | .hbm, ⟨31, _⟩ => ⟨S2x3x16384, .f32⟩
  | .hbm, ⟨32, _⟩ => ⟨S_, .f32⟩
  | .hbm, ⟨33, _⟩ => ⟨S2x3x16384, .f32⟩
  | .hbm, ⟨34, _⟩ => ⟨S2x3x16384, .f32⟩
  | .hbm, ⟨35, _⟩ => ⟨S2x3x16384, .f32⟩
  | .hbm, ⟨36, _⟩ => ⟨S2x3x16384x1, .f32⟩
  | .hbm, ⟨37, _⟩ => ⟨S2x3x16384x16384, .f32⟩
  | .hbm, ⟨38, _⟩ => ⟨S2x3x16384x16384, .f32⟩
  | .hbm, ⟨39, _⟩ => ⟨S2x3x16384x16384, .f32⟩
  | .hbm, ⟨40, _⟩ => ⟨S_, .f32⟩
  | .hbm, ⟨41, _⟩ => ⟨S2x3x16384, .f32⟩
  | .hbm, ⟨42, _⟩ => ⟨S2x3x16384x1, .f32⟩
  | .hbm, ⟨43, _⟩ => ⟨S2x3x16384x16384, .f32⟩
  | .hbm, ⟨44, _⟩ => ⟨S2x3x16384x16384, .f32⟩
  | .hbm, ⟨45, _⟩ => ⟨S2x3x16384x1, .f32⟩
  | .hbm, ⟨46, _⟩ => ⟨S_, .f32⟩
  | .hbm, ⟨47, _⟩ => ⟨S2x3x16384x1, .f32⟩
  | .hbm, ⟨48, _⟩ => ⟨S2x3x16384x1, .f32⟩
  | .hbm, ⟨49, _⟩ => ⟨S16384x2x64, .f32⟩
  | .hbm, ⟨50, _⟩ => ⟨S2x64x3x16384, .f32⟩
  | .hbm, ⟨51, _⟩ => ⟨S16384x2x3x64, .f32⟩
  | .hbm, ⟨52, _⟩ => ⟨S16384x384, .f32⟩
  | .hbm, ⟨53, _⟩ => ⟨S16384x2x3x64, .f32⟩
  | .hbm, ⟨54, _⟩ => ⟨S2x64x3x16384, .f32⟩
  | .hbm, ⟨55, _⟩ => ⟨S2x3x16384x16384, .f32⟩
  | .hbm, ⟨56, _⟩ => ⟨S2x64x16384, .f32⟩
  | .hbm, ⟨57, _⟩ => ⟨S16384x2x64, .f32⟩
  | .hbm, ⟨58, _⟩ => ⟨S16384x128, .f32⟩
  | .hbm, ⟨59, _⟩ => ⟨S2x3x16384x16384, .f32⟩
  | .hbm, ⟨60, _⟩ => ⟨S2x3x16384x16384, .f32⟩
  | .hbm, ⟨61, _⟩ => ⟨S2x3x16384x16384, .f32⟩
  | .hbm, ⟨62, _⟩ => ⟨S_, .f32⟩
  | .hbm, ⟨63, _⟩ => ⟨S2x3x16384, .f32⟩
  | .hbm, ⟨64, _⟩ => ⟨S2x3x16384x1, .f32⟩
  | .hbm, ⟨65, _⟩ => ⟨S2x3x16384x1, .f32⟩
  | .hbm, ⟨66, _⟩ => ⟨S2x3x16384x16384, .f32⟩
  | .hbm, ⟨67, _⟩ => ⟨S2x3x16384x16384, .f32⟩
  | .hbm, ⟨68, _⟩ => ⟨S_, .f32⟩
  | .hbm, ⟨69, _⟩ => ⟨S2x3x16384, .f32⟩
  | .hbm, ⟨70, _⟩ => ⟨S2x3x16384x16384, .f32⟩
  | .hbm, ⟨71, _⟩ => ⟨S2x3x16384x16384, .f32⟩
  | .hbm, ⟨72, _⟩ => ⟨S2x3x16384x16384, .f32⟩
  | .hbm, ⟨73, _⟩ => ⟨S_, .f32⟩
  | .hbm, ⟨74, _⟩ => ⟨S2x3x16384x16384, .f32⟩
  | .hbm, ⟨75, _⟩ => ⟨S2x3x16384x16384, .f32⟩
  | .hbm, ⟨76, _⟩ => ⟨S2x16384x16384x3, .f32⟩
  | .hbm, ⟨77, _⟩ => ⟨S2x16384x3x64, .f32⟩
  | .hbm, ⟨78, _⟩ => ⟨S16384x2x3x64, .f32⟩
  | .hbm, ⟨79, _⟩ => ⟨S2x16384x64, .f32⟩
  | .hbm, ⟨80, _⟩ => ⟨S16384x2x64, .f32⟩
  | .hbm, ⟨81, _⟩ => ⟨S16384x128, .f32⟩
  | .hbm, ⟨82, _⟩ => ⟨S16384x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S16384x1024, .f32⟩
  | .hbm, ⟨6, _⟩ => ⟨S16384x2048, .f32⟩
  | .hbm, ⟨7, _⟩ => ⟨S16384x2048, .bf16⟩
  | .hbm, ⟨8, _⟩ => ⟨S1024x2048, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InprojRefIdeal.lean ====
abbrev S16384x1024 : Shape := ⟨2, ![16384, 1024]⟩
abbrev S1024 : Shape := ⟨1, ![1024]⟩
abbrev S1024x2048 : Shape := ⟨2, ![1024, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S16384x1024, .f32⟩
  | .hbm, ⟨6, _⟩ => ⟨S16384x2048, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x2048, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S1x1024, .f32⟩
  | .hbm, ⟨79, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Ffnb.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S1024x2x2x1408 : Shape := ⟨4, ![1024, 2, 2, 1408]⟩
abbrev S2x1024x2x1408 : Shape := ⟨4, ![2, 1024, 2, 1408]⟩
abbrev S2x1024x2816 : Shape := ⟨3, ![2, 1024, 2816]⟩
abbrev S16384x2x2x1408 : Shape := ⟨4, ![16384, 2, 2, 1408]⟩
abbrev S1x1024 : Shape := ⟨2, ![1, 1024]⟩
abbrev S512x5632 : Shape := ⟨2, ![512, 5632]⟩
abbrev S512x1024 : Shape := ⟨2, ![512, 1024]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S1024x5632, .bf16⟩
  | .hbm, ⟨8, _⟩ => ⟨S1024x2x2x1408, .bf16⟩
  | .hbm, ⟨9, _⟩ => ⟨S2x1024x2x1408, .bf16⟩
  | .hbm, ⟨10, _⟩ => ⟨S2x1024x2816, .bf16⟩
  | .hbm, ⟨11, _⟩ => ⟨S16384x5632, .bf16⟩
  | .hbm, ⟨12, _⟩ => ⟨S16384x2x2x1408, .bf16⟩
  | .hbm, ⟨13, _⟩ => ⟨S16384x2x2x1408, .bf16⟩
  | .hbm, ⟨14, _⟩ => ⟨S16384x5632, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S2x1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnbRefIdeal.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x5632, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S1x1024, .f32⟩
  | .hbm, ⟨79, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Oproj.lean ====
abbrev S16384x1024 : Shape := ⟨2, ![16384, 1024]⟩
abbrev S16384x256 : Shape := ⟨2, ![16384, 256]⟩
abbrev S16384x384 : Shape := ⟨2, ![16384, 384]⟩
abbrev S1024 : Shape := ⟨1, ![1024]⟩
abbrev S1024x1024 : Shape := ⟨2, ![1024, 1024]⟩
abbrev S256 : Shape := ⟨1, ![256]⟩
abbrev S384 : Shape := ⟨1, ![384]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S1x384 : Shape := ⟨2, ![1, 384]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩
abbrev S512 : Shape := ⟨1, ![512]⟩
abbrev S512x1 : Shape := ⟨2, ![512, 1]⟩

abbrev nBuf : Space → Nat
  | .hbm => 74
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S256, .f32⟩
  | .hbm, ⟨9, _⟩ => ⟨S384, .f32⟩
  | .hbm, ⟨10, _⟩ => ⟨S384, .f32⟩
  | .hbm, ⟨11, _⟩ => ⟨S16384x256, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S1x256, .f32⟩
  | .hbm, ⟨25, _⟩ => ⟨S16384x256, .f32⟩
  | .hbm, ⟨26, _⟩ => ⟨S16384x256, .f32⟩
  | .hbm, ⟨27, _⟩ => ⟨S16384x384, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x384, .f32⟩
  | .hbm, ⟨39, _⟩ => ⟨S16384x384, .f32⟩
  | .hbm, ⟨40, _⟩ => ⟨S1x384, .f32⟩
  | .hbm, ⟨41, _⟩ => ⟨S16384x384, .f32⟩
  | .hbm, ⟨42, _⟩ => ⟨S16384x384, .f32⟩
  | .hbm, ⟨43, _⟩ => ⟨S16384x384, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x384, .f32⟩
  | .hbm, ⟨55, _⟩ => ⟨S16384x384, .f32⟩
  | .hbm, ⟨56, _⟩ => ⟨S1x384, .f32⟩
  | .hbm, ⟨57, _⟩ => ⟨S16384x384, .f32⟩
  | .hbm, ⟨58, _⟩ => ⟨S16384x384, .f32⟩
  | .hbm, ⟨59, _⟩ => ⟨S16384x1024, .f32⟩
  | .hbm, ⟨60, _⟩ => ⟨S16384x1024, .f32⟩
  | .hbm, ⟨61, _⟩ => ⟨S16384x1024, .bf16⟩
  | .hbm, ⟨62, _⟩ => ⟨S1x1024, .f32⟩
  | .hbm, ⟨63, _⟩ => ⟨S1024x1024, .bf16⟩
  | .hbm, ⟨64, _⟩ => ⟨S16384x256, .bf16⟩
  | .hbm, ⟨65, _⟩ => ⟨S16384x384, .bf16⟩
  | .hbm, ⟨66, _⟩ => ⟨S16384x384, .bf16⟩
  | .hbm, ⟨67, _⟩ => ⟨S1x1024, .f32⟩
  | .hbm, ⟨68, _⟩ => ⟨S16384x1024, .bf16⟩
  | .hbm, ⟨69, _⟩ => ⟨S16384x256, .bf16⟩
  | .hbm, ⟨70, _⟩ => ⟨S16384x384, .bf16⟩
  | .hbm, ⟨71, _⟩ => ⟨S16384x384, .bf16⟩
  | .hbm, ⟨72, _⟩ => ⟨S1x1024, .f32⟩
  | .hbm, ⟨73, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x256, .bf16⟩
  | .local _ .vmem, ⟨7, _⟩ => ⟨S512x256, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S1x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51_0 : Ref sig .tc := ⟨.hbm, 68, rfl⟩
abbrev main_v51_1 : Ref sig .tc := ⟨.hbm, 69, rfl⟩
abbrev main_v51_2 : Ref sig .tc := ⟨.hbm, 70, rfl⟩
abbrev main_v51_3 : Ref sig .tc := ⟨.hbm, 71, rfl⟩
abbrev main_v51_4 : Ref sig .tc := ⟨.hbm, 72, rfl⟩
abbrev main_v51_5 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OprojRefIdeal.lean ====
abbrev S16384x1024 : Shape := ⟨2, ![16384, 1024]⟩
abbrev S16384x256 : Shape := ⟨2, ![16384, 256]⟩
abbrev S16384x384 : Shape := ⟨2, ![16384, 384]⟩
abbrev S1024 : Shape := ⟨1, ![1024]⟩
abbrev S1024x1024 : Shape := ⟨2, ![1024, 1024]⟩
abbrev S256 : Shape := ⟨1, ![256]⟩
abbrev S384 : Shape := ⟨1, ![384]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S1x384 : Shape := ⟨2, ![1, 384]⟩
abbrev S1x1024 : Shape := ⟨2, ![1, 1024]⟩

abbrev nBuf : Space → Nat
  | .hbm => 178
  | .vmem => 0
  | .smem => 0
  | _ => 0

abbrev hbmTy0_0 (i : Nat) : BufTy := match i % 128 with
  | 0 => ⟨S16384x1024, .f32⟩
  | 1 => ⟨S16384x256, .f32⟩
  | 2 => ⟨S16384x384, .f32⟩
  | 3 => ⟨S16384x384, .f32⟩
  | 4 => ⟨S1024, .f32⟩
  | 5 => ⟨S1024x1024, .f32⟩
  | 6 => ⟨S1024, .f32⟩
  | 7 => ⟨S16384x1024, .f32⟩
  | 8 => ⟨S256, .f32⟩
  | 9 => ⟨S384, .f32⟩
  | 10 => ⟨S384, .f32⟩
  | 11 => ⟨S16384x256, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x256, .f32⟩
  | 27 => ⟨S16384x256, .f32⟩
  | 28 => ⟨S1x256, .f32⟩
  | 29 => ⟨S16384x256, .f32⟩
  | 30 => ⟨S16384x256, .f32⟩
  | 31 => ⟨S16384x384, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x384, .f32⟩
  | 47 => ⟨S16384x384, .f32⟩
  | 48 => ⟨S1x384, .f32⟩
  | 49 => ⟨S16384x384, .f32⟩
  | 50 => ⟨S16384x384, .f32⟩
  | 51 => ⟨S16384x384, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x384, .f32⟩
  | 67 => ⟨S16384x384, .f32⟩
  | 68 => ⟨S1x384, .f32⟩
  | 69 => ⟨S16384x384, .f32⟩
  | 70 => ⟨S16384x384, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | 76 => ⟨S16384x1024, .f32⟩
  | 77 => ⟨S16384x1024, .f32⟩
  | 78 => ⟨S16384x1024, .f32⟩
  | 79 => ⟨S16384x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S16384x1024, .f32⟩
  | 86 => ⟨S16384x256, .f32⟩
  | 87 => ⟨S16384x384, .f32⟩
  | 88 => ⟨S16384x384, .f32⟩
  | 89 => ⟨S16384x384, .f32⟩
  | 90 => ⟨S_, .f32⟩
  | 91 => ⟨S384, .f32⟩
  | 92 => ⟨S1x384, .f32⟩
  | 93 => ⟨S16384x384, .f32⟩
  | 94 => ⟨S16384x384, .f32⟩
  | 95 => ⟨S_, .f32⟩
  | 96 => ⟨S384, .f32⟩
  | 97 => ⟨S16384x384, .f32⟩
  | 98 => ⟨S_, .f32⟩
  | 99 => ⟨S16384, .f32⟩
  | 100 => ⟨S16384x1, .f32⟩
  | 101 => ⟨S16384x384, .f32⟩
  | 102 => ⟨S16384x384, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x384, .f32⟩
  | 110 => ⟨S16384x384, .f32⟩
  | 111 => ⟨S16384x384, .f32⟩
  | 112 => ⟨S16384x384, .f32⟩
  | 113 => ⟨S16384x384, .f32⟩
  | 114 => ⟨S16384x384, .f32⟩
  | 115 => ⟨S_, .f32⟩
  | 116 => ⟨S384, .f32⟩
  | 117 => ⟨S1x384, .f32⟩
  | 118 => ⟨S16384x384, .f32⟩
  | 119 => ⟨S16384x384, .f32⟩
  | 120 => ⟨S_, .f32⟩
  | 121 => ⟨S384, .f32⟩
  | 122 => ⟨S16384x384, .f32⟩
  | 123 => ⟨S_, .f32⟩
  | 124 => ⟨S16384, .f32⟩
  | 125 => ⟨S16384x1, .f32⟩
  | 126 => ⟨S16384x384, .f32⟩
  | 127 => ⟨S16384x384, .f32⟩
  | _ => ⟨S16384x1024, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384, .f32⟩
  | 6 => ⟨S16384x384, .f32⟩
  | 7 => ⟨S16384x384, .f32⟩
  | 8 => ⟨S16384x384, .f32⟩
  | 9 => ⟨S16384x384, .f32⟩
  | 10 => ⟨S16384x384, .f32⟩
  | 11 => ⟨S16384x256, .f32⟩
  | 12 => ⟨S_, .f32⟩
  | 13 => ⟨S256, .f32⟩
  | 14 => ⟨S1x256, .f32⟩
  | 15 => ⟨S16384x256, .f32⟩
  | 16 => ⟨S16384x256, .f32⟩
  | 17 => ⟨S_, .f32⟩
  | 18 => ⟨S256, .f32⟩
  | 19 => ⟨S16384x256, .f32⟩
  | 20 => ⟨S_, .f32⟩
  | 21 => ⟨S16384, .f32⟩
  | 22 => ⟨S16384x1, .f32⟩
  | 23 => ⟨S16384x256, .f32⟩
  | 24 => ⟨S16384x256, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S_, .f32⟩
  | 37 => ⟨S1024, .f32⟩
  | 38 => ⟨S_, .f32⟩
  | 39 => ⟨S1024, .f32⟩
  | 40 => ⟨S1024, .f32⟩
  | 41 => ⟨S_, .f32⟩
  | 42 => ⟨S1024, .f32⟩
  | 43 => ⟨S1024, .f32⟩
  | 44 => ⟨S16384x1024, .bf16⟩
  | 45 => ⟨S16384x256, .bf16⟩
  | 46 => ⟨S16384x384, .bf16⟩
  | 47 => ⟨S16384x384, .bf16⟩
  | 48 => ⟨S1x1024, .f32⟩
  | 49 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_cst_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_18 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_cst_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_21 : Ref sig .tc := ⟨.hbm, 129, rfl⟩
abbrev main_v99 : Ref sig .tc := ⟨.hbm, 130, rfl⟩
abbrev main_v100 : Ref sig .tc := ⟨.hbm, 131, rfl⟩
abbrev main_cst_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_24 : Ref sig .tc := ⟨.hbm, 145, rfl⟩
abbrev main_v112 : Ref sig .tc := ⟨.hbm, 146, rfl⟩
abbrev main_v113 : Ref sig .tc := ⟨.hbm, 147, rfl⟩
abbrev main_cst_25 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_26 : Ref sig .tc := ⟨.hbm, 154, rfl⟩
abbrev main_v119 : Ref sig .tc := ⟨.hbm, 155, rfl⟩
abbrev main_v120 : Ref sig .tc := ⟨.hbm, 156, rfl⟩
abbrev main_cst_27 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_28 : Ref sig .tc := ⟨.hbm, 164, rfl⟩
abbrev main_v127 : Ref sig .tc := ⟨.hbm, 165, rfl⟩
abbrev main_cst_29 : Ref sig .tc := ⟨.hbm, 166, rfl⟩
abbrev main_v128 : Ref sig .tc := ⟨.hbm, 167, rfl⟩
abbrev main_v129 : Ref sig .tc := ⟨.hbm, 168, rfl⟩
abbrev main_cst_30 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩

abbrev nD : Nat := 1
abbrev τ : Topo := Topo.v7x

variable {F : FTy → Type} [FloatOps F]
-- ==== Dproj.lean ====
abbrev S16384x2048 : Shape := ⟨2, ![16384, 2048]⟩
abbrev S64 : Shape := ⟨1, ![64]⟩
abbrev S16384x256 : Shape := ⟨2, ![16384, 256]⟩
abbrev S16384x384 : Shape := ⟨2, ![16384, 384]⟩
abbrev S16384x128 : Shape := ⟨2, ![16384, 128]⟩
abbrev S128 : Shape := ⟨1, ![128]⟩
abbrev S1x128 : Shape := ⟨2, ![1, 128]⟩
abbrev S_ : Shape := ⟨0, ![]⟩
abbrev S1x1x128 : Shape := ⟨3, ![1, 1, 128]⟩
abbrev S256 : Shape := ⟨1, ![256]⟩
abbrev S256x1 : Shape := ⟨2, ![256, 1]⟩
abbrev S256x128 : Shape := ⟨2, ![256, 128]⟩
abbrev S64x1 : Shape := ⟨2, ![64, 1]⟩
abbrev S64x128 : Shape := ⟨2, ![64, 128]⟩
abbrev S256x1x128 : Shape := ⟨3, ![256, 1, 128]⟩
abbrev S1x64x128 : Shape := ⟨3, ![1, 64, 128]⟩
abbrev S256x64x128 : Shape := ⟨3, ![256, 64, 128]⟩
abbrev S512x2048 : Shape := ⟨2, ![512, 2048]⟩
abbrev S512x256 : Shape := ⟨2, ![512, 256]⟩
abbrev S512x384 : Shape := ⟨2, ![512, 384]⟩
abbrev S512x128 : Shape := ⟨2, ![512, 128]⟩
abbrev S512 : Shape := ⟨1, ![512]⟩
abbrev S512x1 : Shape := ⟨2, ![512, 1]⟩

abbrev nBuf : Space → Nat
  | .hbm => 168
  | .vmem => 40
  | .smem => 0
  | _ => 0

abbrev hbmTy0_0 (i : Nat) : BufTy := match i % 128 with
  | 0 => ⟨S16384x2048, .f32⟩
  | 1 => ⟨S64, .f32⟩
  | 2 => ⟨S64, .f32⟩
  | 3 => ⟨S16384x256, .f32⟩
  | 4 => ⟨S16384x256, .f32⟩
  | 5 => ⟨S16384x256, .f32⟩
  | 6 => ⟨S16384x256, .f32⟩
  | 7 => ⟨S16384x256, .f32⟩
  | 8 => ⟨S16384x384, .f32⟩
  | 9 => ⟨S16384x128, .f32⟩
  | 10 => ⟨S16384x128, .f32⟩
  | 11 => ⟨S16384x128, .f32⟩
  | 12 => ⟨S16384x128, .f32⟩
  | 13 => ⟨S16384x384, .f32⟩
  | 14 => ⟨S16384x128, .f32⟩
  | 15 => ⟨S16384x128, .f32⟩
  | 16 => ⟨S16384x2048, .bf16⟩
  | 17 => ⟨S128, .f32⟩
  | 18 => ⟨S1x128, .f32⟩
  | 19 => ⟨S128, .f32⟩
  | 20 => ⟨S1x128, .f32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S128, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S1x128, .f32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S128, .i32⟩
  | 63 => ⟨S128, .i32⟩
  | 64 => ⟨S_, .i32⟩
  | 65 => ⟨S128, .i32⟩
  | 66 => ⟨S128, .i1⟩
  | 67 => ⟨S_, .i32⟩
  | 68 => ⟨S128, .i32⟩
  | 69 => ⟨S128, .i1⟩
  | 70 => ⟨S_, .i32⟩
  | 71 => ⟨S_, .i1⟩
  | 72 => ⟨S128, .i1⟩
  | 73 => ⟨S128, .i1⟩
  | 74 => ⟨S128, .i1⟩
  | 75 => ⟨S128, .i32⟩
  | 76 => ⟨S128, .i32⟩
  | 77 => ⟨S128, .i32⟩
  | 78 => ⟨S_, .i32⟩
  | 79 => ⟨S128, .i32⟩
  | 80 => ⟨S128, .i1⟩
  | 81 => ⟨S1x1x128, .i1⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S128, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i1⟩
  | 96 => ⟨S_, .i32⟩
  | 97 => ⟨S_, .i1⟩
  | 98 => ⟨S128, .i1⟩
  | 99 => ⟨S128, .i1⟩
  | 100 => ⟨S128, .i1⟩
  | 101 => ⟨S128, .i32⟩
  | 102 => ⟨S128, .i32⟩
  | 103 => ⟨S128, .i32⟩
  | 104 => ⟨S_, .i32⟩
  | 105 => ⟨S128, .i32⟩
  | 106 => ⟨S128, .i1⟩
  | 107 => ⟨S1x128, .i1⟩
  | 108 => ⟨S256, .f32⟩
  | 109 => ⟨S256x1, .f32⟩
  | 110 => ⟨S256x128, .f32⟩
  | 111 => ⟨S256x128, .f32⟩
  | 112 => ⟨S256x128, .f32⟩
  | 113 => ⟨S64, .f32⟩
  | 114 => ⟨S64x1, .f32⟩
  | 115 => ⟨S64x128, .f32⟩
  | 116 => ⟨S64x128, .f32⟩
  | 117 => ⟨S64x128, .f32⟩
  | 118 => ⟨S256x128, .f32⟩
  | 119 => ⟨S64x128, .f32⟩
  | 120 => ⟨S256x128, .f32⟩
  | 121 => ⟨S64x128, .f32⟩
  | 122 => ⟨S256x1x128, .f32⟩
  | 123 => ⟨S1x64x128, .f32⟩
  | 124 => ⟨S256x64x128, .i1⟩
  | 125 => ⟨S256x64x128, .f32⟩
  | 126 => ⟨S256x64x128, .f32⟩
  | 127 => ⟨S256x64x128, .f32⟩
  | _ => ⟨S16384x2048, .f32⟩

abbrev hbmTy0_1 (i : Nat) : BufTy := match i % 128 with
  | 0 => ⟨S16384x128, .f32⟩
  | 1 => ⟨S256x128, .f32⟩
  | 2 => ⟨S_, .f32⟩
  | 3 => ⟨S_, .f32⟩
  | 4 => ⟨S256x128, .i1⟩
  | 5 => ⟨S256x128, .f32⟩
  | 6 => ⟨S256x128, .f32⟩
  | 7 => ⟨S64x128, .f32⟩
  | 8 => ⟨S_, .f32⟩
  | 9 => ⟨S_, .f32⟩
  | 10 => ⟨S64x128, .i1⟩
  | 11 => ⟨S64x128, .f32⟩
  | 12 => ⟨S64x128, .f32⟩
  | 13 => ⟨S256x1x128, .f32⟩
  | 14 => ⟨S1x64x128, .f32⟩
  | 15 => ⟨S256x64x128, .i1⟩
  | 16 => ⟨S256x64x128, .f32⟩
  | 17 => ⟨S256x64x128, .f32⟩
  | 18 => ⟨S256x64x128, .f32⟩
  | 19 => ⟨S16384x128, .f32⟩
  | 20 => ⟨S_, .f32⟩
  | 21 => ⟨S_, .f32⟩
  | 22 => ⟨S256x128, .i1⟩
  | 23 => ⟨S256x128, .f32⟩
  | 24 => ⟨S256x128, .f32⟩
  | 25 => ⟨S_, .f32⟩
  | 26 => ⟨S_, .f32⟩
  | 27 => ⟨S64x128, .i1⟩
  | 28 => ⟨S64x128, .f32⟩
  | 29 => ⟨S64x128, .f32⟩
  | 30 => ⟨S256x1x128, .f32⟩
  | 31 => ⟨S1x64x128, .f32⟩
  | 32 => ⟨S256x64x128, .i1⟩
  | 33 => ⟨S256x64x128, .f32⟩
  | 34 => ⟨S256x64x128, .f32⟩
  | 35 => ⟨S256x64x128, .f32⟩
  | 36 => ⟨S16384x128, .f32⟩
  | 37 => ⟨S16384x2048, .bf16⟩
  | 38 => ⟨S1x128, .f32⟩
  | 39 => ⟨S1x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x384, .f32⟩
  | .local _ .vmem, ⟨13, _⟩ => ⟨S512x384, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x384, .f32⟩
  | .local _ .vmem, ⟨23, _⟩ => ⟨S512x384, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S1x128, .f32⟩
  | .local _ .vmem, ⟨29, _⟩ => ⟨S1x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x2048, .bf16⟩
  | .local _ .vmem, ⟨37, _⟩ => ⟨S512x2048, .bf16⟩
  | .local _ .vmem, ⟨38, _⟩ => ⟨S1x128, .f32⟩
  | .local _ .vmem, ⟨39, _⟩ => ⟨S1x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v6 : Ref sig .tc := ⟨.hbm, 43, rfl⟩
abbrev main_c_0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_v11 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c_2 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v16 : Ref sig .tc := ⟨.hbm, 77, rfl⟩
abbrev main_c_3 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_4 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_1 : Ref sig .tc := ⟨.hbm, 90, rfl⟩
abbrev main_call2_v5 : Ref sig .tc := ⟨.hbm, 91, rfl⟩
abbrev main_call2_v6 : Ref sig .tc := ⟨.hbm, 92, rfl⟩
abbrev main_call2_c_2 : Ref sig .tc := ⟨.hbm, 93, rfl⟩
abbrev main_call2_v7 : Ref sig .tc := ⟨.hbm, 94, rfl⟩
abbrev main_call2_v8 : Ref sig .tc := ⟨.hbm, 95, rfl⟩
abbrev main_call2_c_3 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_v20 : Ref sig .tc := ⟨.hbm, 103, rfl⟩
abbrev main_c_5 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_cst_6 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v43 : Ref sig .tc := ⟨.hbm, 134, rfl⟩
abbrev main_v44 : Ref sig .tc := ⟨.hbm, 135, rfl⟩
abbrev main_cst_7 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_v48 : Ref sig .tc := ⟨.hbm, 146, rfl⟩
abbrev main_v49 : Ref sig .tc := ⟨.hbm, 147, rfl⟩
abbrev main_cst_8 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_v50 : Ref sig .tc := ⟨.hbm, 152, rfl⟩
abbrev main_cst_9 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_v54 : Ref sig .tc := ⟨.hbm, 163, rfl⟩
abbrev main_v55 : Ref sig .tc := ⟨.hbm, 164, rfl⟩
abbrev main_v56_0 : Ref sig .tc := ⟨.hbm, 165, rfl⟩
abbrev main_v56_1 : Ref sig .tc := ⟨.hbm, 166, rfl⟩
abbrev main_v56_2 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg21_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem21_0 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== DprojRefIdeal.lean ====
abbrev S16384x2048 : Shape := ⟨2, ![16384, 2048]⟩
abbrev S64 : Shape := ⟨1, ![64]⟩
abbrev S16384x256 : Shape := ⟨2, ![16384, 256]⟩
abbrev S16384x384 : Shape := ⟨2, ![16384, 384]⟩
abbrev S16384x128 : Shape := ⟨2, ![16384, 128]⟩
abbrev S16384 : Shape := ⟨1, ![16384]⟩
abbrev S_ : Shape := ⟨0, ![]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x1x16 : Shape := ⟨3, ![16384, 1, 16]⟩
abbrev S16384x2x16 : Shape := ⟨3, ![16384, 2, 16]⟩
abbrev S1x64 : Shape := ⟨2, ![1, 64]⟩
abbrev S2x64 : Shape := ⟨2, ![2, 64]⟩
abbrev S16384x3x2x64 : Shape := ⟨4, ![16384, 3, 2, 64]⟩
abbrev S16384x3x2 : Shape := ⟨3, ![16384, 3, 2]⟩
abbrev S16384x3x2x1 : Shape := ⟨4, ![16384, 3, 2, 1]⟩
abbrev S1x1x2x64 : Shape := ⟨4, ![1, 1, 2, 64]⟩
abbrev S16384x3x2x16 : Shape := ⟨4, ![16384, 3, 2, 16]⟩
abbrev S16384x1x1x16 : Shape := ⟨4, ![16384, 1, 1, 16]⟩
abbrev S16384x1x2x64 : Shape := ⟨4, ![16384, 1, 2, 64]⟩
abbrev S16384x1x2 : Shape := ⟨3, ![16384, 1, 2]⟩
abbrev S16384x1x2x1 : Shape := ⟨4, ![16384, 1, 2, 1]⟩
abbrev S16384x1x2x16 : Shape := ⟨4, ![16384, 1, 2, 16]⟩
abbrev S1x2x64 : Shape := ⟨3, ![1, 2, 64]⟩
abbrev S16384x2 : Shape := ⟨2, ![16384, 2]⟩
abbrev S1x128 : Shape := ⟨2, ![1, 128]⟩

abbrev nBuf : Space → Nat
  | .hbm => 363
  | .vmem => 0
  | .smem => 0
  | _ => 0

abbrev hbmTy0_0 (i : Nat) : BufTy := match i % 128 with
  | 0 => ⟨S16384x2048, .f32⟩
  | 1 => ⟨S64, .f32⟩
  | 2 => ⟨S64, .f32⟩
  | 3 => ⟨S16384x256, .f32⟩
  | 4 => ⟨S16384x256, .f32⟩
  | 5 => ⟨S16384x256, .f32⟩
  | 6 => ⟨S16384x256, .f32⟩
  | 7 => ⟨S16384x256, .f32⟩
  | 8 => ⟨S16384x384, .f32⟩
  | 9 => ⟨S16384x128, .f32⟩
  | 10 => ⟨S16384x128, .f32⟩
  | 11 => ⟨S16384x128, .f32⟩
  | 12 => ⟨S16384x128, .f32⟩
  | 13 => ⟨S16384x384, .f32⟩
  | 14 => ⟨S16384x128, .f32⟩
  | 15 => ⟨S16384x128, .f32⟩
  | 16 => ⟨S16384, .i32⟩
  | 17 => ⟨S_, .i32⟩
  | 18 => ⟨S_, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i1⟩
  | 25 => ⟨S16384, .i32⟩
  | 26 => ⟨S16384, .i32⟩
  | 27 => ⟨S_, .i32⟩
  | 28 => ⟨S16384, .i32⟩
  | 29 => ⟨S16384, .i1⟩
  | 30 => ⟨S16384, .i1⟩
  | 31 => ⟨S_, .i32⟩
  | 32 => ⟨S16384, .i32⟩
  | 33 => ⟨S16384, .i32⟩
  | 34 => ⟨S16384, .i32⟩
  | 35 => ⟨S16384, .f32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S16384, .i32⟩
  | 49 => ⟨S16384, .i1⟩
  | 50 => ⟨S_, .i32⟩
  | 51 => ⟨S_, .i1⟩
  | 52 => ⟨S16384, .i1⟩
  | 53 => ⟨S16384, .i1⟩
  | 54 => ⟨S16384, .i1⟩
  | 55 => ⟨S16384, .i32⟩
  | 56 => ⟨S16384, .i32⟩
  | 57 => ⟨S16384, .i32⟩
  | 58 => ⟨S16384, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16384x1, .f32⟩
  | 74 => ⟨S1x16, .f32⟩
  | 75 => ⟨S16384x16, .f32⟩
  | 76 => ⟨S16384x16, .f32⟩
  | 77 => ⟨S16384x16, .f32⟩
  | 78 => ⟨S16384x1, .f32⟩
  | 79 => ⟨S1x16, .f32⟩
  | 80 => ⟨S16384x16, .f32⟩
  | 81 => ⟨S16384x16, .f32⟩
  | 82 => ⟨S16384x16, .f32⟩
  | 83 => ⟨S16384x1x16, .f32⟩
  | 84 => ⟨S16384x1x16, .f32⟩
  | 85 => ⟨S16384x2x16, .f32⟩
  | 86 => ⟨S16384x2x16, .f32⟩
  | 87 => ⟨S16384x2x16, .f32⟩
  | 88 => ⟨S1x64, .f32⟩
  | 89 => ⟨S1x64, .f32⟩
  | 90 => ⟨S2x64, .f32⟩
  | 91 => ⟨S1x64, .f32⟩
  | 92 => ⟨S1x64, .f32⟩
  | 93 => ⟨S2x64, .f32⟩
  | 94 => ⟨S16384x256, .f32⟩
  | 95 => ⟨S16384x256, .f32⟩
  | 96 => ⟨S16384x256, .f32⟩
  | 97 => ⟨S16384x384, .f32⟩
  | 98 => ⟨S16384x128, .f32⟩
  | 99 => ⟨S16384x128, .f32⟩
  | 100 => ⟨S16384x384, .f32⟩
  | 101 => ⟨S16384x128, .f32⟩
  | 102 => ⟨S16384x128, .f32⟩
  | 103 => ⟨S16384x3x2x64, .f32⟩
  | 104 => ⟨S16384x3x2x64, .f32⟩
  | 105 => ⟨S_, .f32⟩
  | 106 => ⟨S16384x3x2, .f32⟩
  | 107 => ⟨S16384x3x2x1, .f32⟩
  | 108 => ⟨S_, .f32⟩
  | 109 => ⟨S16384x3x2x1, .f32⟩
  | 110 => ⟨S16384x3x2x1, .f32⟩
  | 111 => ⟨S_, .f32⟩
  | 112 => ⟨S16384x3x2x1, .f32⟩
  | 113 => ⟨S16384x3x2x1, .f32⟩
  | 114 => ⟨S16384x3x2x1, .f32⟩
  | 115 => ⟨S16384x3x2x1, .f32⟩
  | 116 => ⟨S_, .f32⟩
  | 117 => ⟨S16384x3x2x1, .f32⟩
  | 118 => ⟨S16384x3x2x1, .f32⟩
  | 119 => ⟨S16384x3x2x64, .f32⟩
  | 120 => ⟨S16384x3x2x64, .f32⟩
  | 121 => ⟨S1x1x2x64, .f32⟩
  | 122 => ⟨S16384x3x2x64, .f32⟩
  | 123 => ⟨S16384x3x2x64, .f32⟩
  | 124 => ⟨S16384x3x2x16, .f32⟩
  | 125 => ⟨S16384x3x2x16, .f32⟩
  | 126 => ⟨S16384x3x2x16, .f32⟩
  | 127 => ⟨S16384x3x2x16, .f32⟩
  | _ => ⟨S16384x2048, .f32⟩

abbrev hbmTy0_1 (i : Nat) : BufTy := match i % 128 with
  | 0 => ⟨S16384x1x16, .f32⟩
  | 1 => ⟨S16384x16, .f32⟩
  | 2 => ⟨S16384x1x1x16, .f32⟩
  | 3 => ⟨S16384x1x16, .f32⟩
  | 4 => ⟨S16384x16, .f32⟩
  | 5 => ⟨S16384x1x1x16, .f32⟩
  | 6 => ⟨S16384x3x2x16, .f32⟩
  | 7 => ⟨S16384x3x2x16, .f32⟩
  | 8 => ⟨S16384x3x2x16, .f32⟩
  | 9 => ⟨S16384x3x2x16, .f32⟩
  | 10 => ⟨S16384x3x2x16, .f32⟩
  | 11 => ⟨S16384x3x2x16, .f32⟩
  | 12 => ⟨S16384x3x2x16, .f32⟩
  | 13 => ⟨S16384x3x2x16, .f32⟩
  | 14 => ⟨S16384x3x2x16, .f32⟩
  | 15 => ⟨S16384x3x2x16, .f32⟩
  | 16 => ⟨S16384x1x16, .f32⟩
  | 17 => ⟨S16384x16, .f32⟩
  | 18 => ⟨S16384x1x1x16, .f32⟩
  | 19 => ⟨S16384x1x16, .f32⟩
  | 20 => ⟨S16384x16, .f32⟩
  | 21 => ⟨S16384x1x1x16, .f32⟩
  | 22 => ⟨S16384x3x2x16, .f32⟩
  | 23 => ⟨S16384x3x2x16, .f32⟩
  | 24 => ⟨S16384x3x2x16, .f32⟩
  | 25 => ⟨S16384x3x2x16, .f32⟩
  | 26 => ⟨S16384x3x2x16, .f32⟩
  | 27 => ⟨S16384x3x2x16, .f32⟩
  | 28 => ⟨S16384x3x2x16, .f32⟩
  | 29 => ⟨S16384x3x2x16, .f32⟩
  | 30 => ⟨S16384x3x2x16, .f32⟩
  | 31 => ⟨S16384x3x2x16, .f32⟩
  | 32 => ⟨S16384x3x2x64, .f32⟩
  | 33 => ⟨S16384x384, .f32⟩
  | 34 => ⟨S16384x1x2x64, .f32⟩
  | 35 => ⟨S16384x1x2x64, .f32⟩
  | 36 => ⟨S_, .f32⟩
  | 37 => ⟨S16384x1x2, .f32⟩
  | 38 => ⟨S16384x1x2x1, .f32⟩
  | 39 => ⟨S_, .f32⟩
  | 40 => ⟨S16384x1x2x1, .f32⟩
  | 41 => ⟨S16384x1x2x1, .f32⟩
  | 42 => ⟨S_, .f32⟩
  | 43 => ⟨S16384x1x2x1, .f32⟩
  | 44 => ⟨S16384x1x2x1, .f32⟩
  | 45 => ⟨S16384x1x2x1, .f32⟩
  | 46 => ⟨S16384x1x2x1, .f32⟩
  | 47 => ⟨S_, .f32⟩
  | 48 => ⟨S16384x1x2x1, .f32⟩
  | 49 => ⟨S16384x1x2x1, .f32⟩
  | 50 => ⟨S16384x1x2x64, .f32⟩
  | 51 => ⟨S16384x1x2x64, .f32⟩
  | 52 => ⟨S1x1x2x64, .f32⟩
  | 53 => ⟨S16384x1x2x64, .f32⟩
  | 54 => ⟨S16384x1x2x64, .f32⟩
  | 55 => ⟨S16384x1x2x16, .f32⟩
  | 56 => ⟨S16384x1x2x16, .f32⟩
  | 57 => ⟨S16384x1x2x16, .f32⟩
  | 58 => ⟨S16384x1x2x16, .f32⟩
  | 59 => ⟨S16384x1x16, .f32⟩
  | 60 => ⟨S16384x16, .f32⟩
  | 61 => ⟨S16384x1x1x16, .f32⟩
  | 62 => ⟨S16384x1x16, .f32⟩
  | 63 => ⟨S16384x16, .f32⟩
  | 64 => ⟨S16384x1x1x16, .f32⟩
  | 65 => ⟨S16384x1x2x16, .f32⟩
  | 66 => ⟨S16384x1x2x16, .f32⟩
  | 67 => ⟨S16384x1x2x16, .f32⟩
  | 68 => ⟨S16384x1x2x16, .f32⟩
  | 69 => ⟨S16384x1x2x16, .f32⟩
  | 70 => ⟨S16384x1x2x16, .f32⟩
  | 71 => ⟨S16384x1x2x16, .f32⟩
  | 72 => ⟨S16384x1x2x16, .f32⟩
  | 73 => ⟨S16384x1x2x16, .f32⟩
  | 74 => ⟨S16384x1x2x16, .f32⟩
  | 75 => ⟨S16384x1x16, .f32⟩
  | 76 => ⟨S16384x16, .f32⟩
  | 77 => ⟨S16384x1x1x16, .f32⟩
  | 78 => ⟨S16384x1x16, .f32⟩
  | 79 => ⟨S16384x16, .f32⟩
  | 80 => ⟨S16384x1x1x16, .f32⟩
  | 81 => ⟨S16384x1x2x16, .f32⟩
  | 82 => ⟨S16384x1x2x16, .f32⟩
  | 83 => ⟨S16384x1x2x16, .f32⟩
  | 84 => ⟨S16384x1x2x16, .f32⟩
  | 85 => ⟨S16384x1x2x16, .f32⟩
  | 86 => ⟨S16384x1x2x16, .f32⟩
  | 87 => ⟨S16384x1x2x16, .f32⟩
  | 88 => ⟨S16384x1x2x16, .f32⟩
  | 89 => ⟨S16384x1x2x16, .f32⟩
  | 90 => ⟨S16384x1x2x16, .f32⟩
  | 91 => ⟨S16384x1x2x64, .f32⟩
  | 92 => ⟨S16384x128, .f32⟩
  | 93 => ⟨S16384x256, .f32⟩
  | 94 => ⟨S16384x256, .f32⟩
  | 95 => ⟨S16384x128, .f32⟩
  | 96 => ⟨S16384x128, .f32⟩
  | 97 => ⟨S16384x1x2x64, .f32⟩
  | 98 => ⟨S16384x1x2x16, .f32⟩
  | 99 => ⟨S16384x1x2x16, .f32⟩
  | 100 => ⟨S16384x1x2x16, .f32⟩
  | 101 => ⟨S16384x1x2x16, .f32⟩
  | 102 => ⟨S16384x1x2x16, .f32⟩
  | 103 => ⟨S16384x1x2x16, .f32⟩
  | 104 => ⟨S16384x1x2x16, .f32⟩
  | 105 => ⟨S16384x1x2x16, .f32⟩
  | 106 => ⟨S16384x1x2x16, .f32⟩
  | 107 => ⟨S16384x1x2x16, .f32⟩
  | 108 => ⟨S16384x1x2x16, .f32⟩
  | 109 => ⟨S16384x1x2x16, .f32⟩
  | 110 => ⟨S16384x1x2x16, .f32⟩
  | 111 => ⟨S16384x1x2x16, .f32⟩
  | 112 => ⟨S16384x1x2x16, .f32⟩
  | 113 => ⟨S16384x1x2x16, .f32⟩
  | 114 => ⟨S16384x1x2x16, .f32⟩
  | 115 => ⟨S16384x1x2x16, .f32⟩
  | 116 => ⟨S16384x1x2x16, .f32⟩
  | 117 => ⟨S16384x1x2x16, .f32⟩
  | 118 => ⟨S16384x1x2x16, .f32⟩
  | 119 => ⟨S16384x1x2x16, .f32⟩
  | 120 => ⟨S16384x1x2x16, .f32⟩
  | 121 => ⟨S16384x1x2x16, .f32⟩
  | 122 => ⟨S16384x1x2x16, .f32⟩
  | 123 => ⟨S16384x1x2x16, .f32⟩
  | 124 => ⟨S16384x1x2x64, .f32⟩
  | 125 => ⟨S16384x1x2x64, .f32⟩
  | 126 => ⟨S_, .f32⟩
  | 127 => ⟨S1x2x64, .f32⟩
  | _ => ⟨S16384x2048, .f32⟩

abbrev hbmTy0_2 (i : Nat) : BufTy := match i % 128 with
  | 0 => ⟨S1x1x2x64, .f32⟩
  | 1 => ⟨S16384x1x2x64, .f32⟩
  | 2 => ⟨S16384x1x2x64, .f32⟩
  | 3 => ⟨S_, .f32⟩
  | 4 => ⟨S2x64, .f32⟩
  | 5 => ⟨S16384x1x2x64, .f32⟩
  | 6 => ⟨S_, .f32⟩
  | 7 => ⟨S16384x1x2, .f32⟩
  | 8 => ⟨S16384x1x2x1, .f32⟩
  | 9 => ⟨S16384x1x2x64, .f32⟩
  | 10 => ⟨S16384x1x2x64, .f32⟩
  | 11 => ⟨S16384x1x2x1, .f32⟩
  | 12 => ⟨S_, .f32⟩
  | 13 => ⟨S16384x1x2x1, .f32⟩
  | 14 => ⟨S16384x1x2x1, .f32⟩
  | 15 => ⟨S_, .f32⟩
  | 16 => ⟨S16384x2, .f32⟩
  | 17 => ⟨S16384x1x2, .f32⟩
  | 18 => ⟨S16384x1x2x64, .f32⟩
  | 19 => ⟨S16384x1x2x64, .f32⟩
  | 20 => ⟨S16384x1x2x64, .f32⟩
  | 21 => ⟨S16384x1x2x64, .f32⟩
  | 22 => ⟨S16384x1x2x64, .f32⟩
  | 23 => ⟨S16384x128, .f32⟩
  | 24 => ⟨S16384x3x2x64, .f32⟩
  | 25 => ⟨S16384x3x2x16, .f32⟩
  | 26 => ⟨S16384x3x2x16, .f32⟩
  | 27 => ⟨S16384x3x2x16, .f32⟩
  | 28 => ⟨S16384x3x2x16, .f32⟩
  | 29 => ⟨S16384x3x2x16, .f32⟩
  | 30 => ⟨S16384x3x2x16, .f32⟩
  | 31 => ⟨S16384x3x2x16, .f32⟩
  | 32 => ⟨S16384x3x2x16, .f32⟩
  | 33 => ⟨S16384x3x2x16, .f32⟩
  | 34 => ⟨S16384x3x2x16, .f32⟩
  | 35 => ⟨S16384x3x2x16, .f32⟩
  | 36 => ⟨S16384x3x2x16, .f32⟩
  | 37 => ⟨S16384x3x2x16, .f32⟩
  | 38 => ⟨S16384x3x2x16, .f32⟩
  | 39 => ⟨S16384x3x2x16, .f32⟩
  | 40 => ⟨S16384x3x2x16, .f32⟩
  | 41 => ⟨S16384x3x2x16, .f32⟩
  | 42 => ⟨S16384x3x2x16, .f32⟩
  | 43 => ⟨S16384x3x2x16, .f32⟩
  | 44 => ⟨S16384x3x2x16, .f32⟩
  | 45 => ⟨S16384x3x2x16, .f32⟩
  | 46 => ⟨S16384x3x2x16, .f32⟩
  | 47 => ⟨S16384x3x2x16, .f32⟩
  | 48 => ⟨S16384x3x2x16, .f32⟩
  | 49 => ⟨S16384x3x2x16, .f32⟩
  | 50 => ⟨S16384x3x2x16, .f32⟩
  | 51 => ⟨S16384x3x2x64, .f32⟩
  | 52 => ⟨S16384x3x2x64, .f32⟩
  | 53 => ⟨S_, .f32⟩
  | 54 => ⟨S2x64, .f32⟩
  | 55 => ⟨S1x1x2x64, .f32⟩
  | 56 => ⟨S16384x3x2x64, .f32⟩
  | 57 => ⟨S16384x3x2x64, .f32⟩
  | 58 => ⟨S_, .f32⟩
  | 59 => ⟨S2x64, .f32⟩
  | 60 => ⟨S16384x3x2x64, .f32⟩
  | 61 => ⟨S_, .f32⟩
  | 62 => ⟨S16384x3x2, .f32⟩
  | 63 => ⟨S16384x3x2x1, .f32⟩
  | 64 => ⟨S16384x3x2x64, .f32⟩
  | 65 => ⟨S16384x3x2x64, .f32⟩
  | 66 => ⟨S16384x3x2x1, .f32⟩
  | 67 => ⟨S_, .f32⟩
  | 68 => ⟨S16384x3x2x1, .f32⟩
  | 69 => ⟨S16384x3x2x1, .f32⟩
  | 70 => ⟨S_, .f32⟩
  | 71 => ⟨S16384x3x2, .f32⟩
  | 72 => ⟨S16384x3x2x64, .f32⟩
  | 73 => ⟨S16384x3x2x64, .f32⟩
  | 74 => ⟨S16384x3x2x64, .f32⟩
  | 75 => ⟨S16384x3x2x64, .f32⟩
  | 76 => ⟨S16384x3x2x64, .f32⟩
  | 77 => ⟨S16384x384, .f32⟩
  | 78 => ⟨S_, .f32⟩
  | 79 => ⟨S16384x2048, .f32⟩
  | 80 => ⟨S_, .f32⟩
  | 81 => ⟨S16384x2048, .f32⟩
  | 82 => ⟨S16384x2048, .f32⟩
  | 83 => ⟨S_, .f32⟩
  | 84 => ⟨S16384x2048, .f32⟩
  | 85 => ⟨S16384x2048, .f32⟩
  | 86 => ⟨S_, .f32⟩
  | 87 => ⟨S16384x2048, .f32⟩
  | 88 => ⟨S16384x2048, .f32⟩
  | 89 => ⟨S_, .f32⟩
  | 90 => ⟨S16384x2048, .f32⟩
  | 91 => ⟨S16384x2048, .f32⟩
  | 92 => ⟨S_, .f32⟩
  | 93 => ⟨S16384x2048, .f32⟩
  | 94 => ⟨S16384x2048, .f32⟩
  | 95 => ⟨S_, .f32⟩
  | 96 => ⟨S16384x2048, .f32⟩
  | 97 => ⟨S16384x2048, .f32⟩
  | 98 => ⟨S_, .f32⟩
  | 99 => ⟨S16384x2048, .f32⟩
  | 100 => ⟨S16384x2048, .f32⟩
  | 101 => ⟨S_, .f32⟩
  | 102 => ⟨S16384x2048, .f32⟩
  | 103 => ⟨S16384x2048, .f32⟩
  | 104 => ⟨S16384x2048, .bf16⟩
  | 105 => ⟨S1x128, .f32⟩
  | 106 => ⟨S1x128, .f32⟩
  | _ => ⟨S16384x2048, .f32⟩

abbrev hbmTy (i : Nat) : BufTy := match i / 128 with
  | 0 => hbmTy0_0 i
  | 1 => hbmTy0_1 i
  | 2 => hbmTy0_2 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_cst : Ref sig .tc := ⟨.hbm, 60, rfl⟩
abbrev main_v6 : Ref sig .tc := ⟨.hbm, 61, rfl⟩
abbrev main_v7 : Ref sig .tc := ⟨.hbm, 62, rfl⟩
abbrev main_cst_1 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_2 : Ref sig .tc := ⟨.hbm, 67, rfl⟩
abbrev main_v11 : Ref sig .tc := ⟨.hbm, 68, rfl⟩
abbrev main_v12 : Ref sig .tc := ⟨.hbm, 69, rfl⟩
abbrev main_cst_3 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_4 : Ref sig .tc := ⟨.hbm, 105, rfl⟩
abbrev main_v47 : Ref sig .tc := ⟨.hbm, 106, rfl⟩
abbrev main_v48 : Ref sig .tc := ⟨.hbm, 107, rfl⟩
abbrev main_cst_5 : Ref sig .tc := ⟨.hbm, 108, rfl⟩
abbrev main_v49 : Ref sig .tc := ⟨.hbm, 109, rfl⟩
abbrev main_v50 : Ref sig .tc := ⟨.hbm, 110, rfl⟩
abbrev main_cst_6 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_7 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_8 : Ref sig .tc := ⟨.hbm, 164, rfl⟩
abbrev main_v102 : Ref sig .tc := ⟨.hbm, 165, rfl⟩
abbrev main_v103 : Ref sig .tc := ⟨.hbm, 166, rfl⟩
abbrev main_cst_9 : Ref sig .tc := ⟨.hbm, 167, rfl⟩
abbrev main_v104 : Ref sig .tc := ⟨.hbm, 168, rfl⟩
abbrev main_v105 : Ref sig .tc := ⟨.hbm, 169, rfl⟩
abbrev main_cst_10 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_11 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_12 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_cst_13 : Ref sig .tc := ⟨.hbm, 259, rfl⟩
abbrev main_v192 : Ref sig .tc := ⟨.hbm, 260, rfl⟩
abbrev main_v193 : Ref sig .tc := ⟨.hbm, 261, rfl⟩
abbrev main_cst_14 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_15 : Ref sig .tc := ⟨.hbm, 268, rfl⟩
abbrev main_v199 : Ref sig .tc := ⟨.hbm, 269, rfl⟩
abbrev main_v200 : Ref sig .tc := ⟨.hbm, 270, rfl⟩
abbrev main_cst_16 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_cst_17 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_cst_18 : Ref sig .tc := ⟨.hbm, 314, rfl⟩
abbrev main_v242 : Ref sig .tc := ⟨.hbm, 315, rfl⟩
abbrev main_v243 : Ref sig .tc := ⟨.hbm, 316, rfl⟩
abbrev main_cst_19 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_cst_20 : Ref sig .tc := ⟨.hbm, 323, rfl⟩
abbrev main_v249 : Ref sig .tc := ⟨.hbm, 324, rfl⟩
abbrev main_v250 : Ref sig .tc := ⟨.hbm, 325, rfl⟩
abbrev main_cst_21 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_cst_22 : Ref sig .tc := ⟨.hbm, 334, rfl⟩
abbrev main_v258 : Ref sig .tc := ⟨.hbm, 335, rfl⟩
abbrev main_cst_23 : Ref sig .tc := ⟨.hbm, 336, rfl⟩
abbrev main_v259 : Ref sig .tc := ⟨.hbm, 337, rfl⟩
abbrev main_v260 : Ref sig .tc := ⟨.hbm, 338, rfl⟩
abbrev main_cst_24 : Ref sig .tc := ⟨.hbm, 339, rfl⟩
abbrev main_v261 : Ref sig .tc := ⟨.hbm, 340, rfl⟩
abbrev main_v262 : Ref sig .tc := ⟨.hbm, 341, rfl⟩
abbrev main_cst_25 : Ref sig .tc := ⟨.hbm, 342, rfl⟩
abbrev main_v263 : Ref sig .tc := ⟨.hbm, 343, rfl⟩
abbrev main_v264 : Ref sig .tc := ⟨.hbm, 344, rfl⟩
abbrev main_cst_26 : Ref sig .tc := ⟨.hbm, 345, rfl⟩
abbrev main_v265 : Ref sig .tc := ⟨.hbm, 346, rfl⟩
abbrev main_v266 : Ref sig .tc := ⟨.hbm, 347, rfl⟩
abbrev main_cst_27 : Ref sig .tc := ⟨.hbm, 348, rfl⟩
abbrev main_v267 : Ref sig .tc := ⟨.hbm, 349, rfl⟩
abbrev main_v268 : Ref sig .tc := ⟨.hbm, 350, rfl⟩
abbrev main_cst_28 : Ref sig .tc := ⟨.hbm, 351, rfl⟩
abbrev main_v269 : Ref sig .tc := ⟨.hbm, 352, rfl⟩
abbrev main_v270 : Ref sig .tc := ⟨.hbm, 353, rfl⟩
abbrev main_cst_29 : Ref sig .tc := ⟨.hbm, 354, rfl⟩
abbrev main_v271 : Ref sig .tc := ⟨.hbm, 355, rfl⟩
abbrev main_v272 : Ref sig .tc := ⟨.hbm, 356, rfl⟩
abbrev main_cst_30 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩

abbrev nD : Nat := 1
abbrev τ : Topo := Topo.v7x

variable {F : FTy → Type} [FloatOps F]
-- ==== Axf.lean ====
abbrev S16384x384 : Shape := ⟨2, ![16384, 384]⟩
abbrev S16384x128 : Shape := ⟨2, ![16384, 128]⟩
abbrev S384 : Shape := ⟨1, ![384]⟩
abbrev S_ : Shape := ⟨0, ![]⟩
abbrev S16384x1920 : Shape := ⟨2, ![16384, 1920]⟩
abbrev S16384x2048 : Shape := ⟨2, ![16384, 2048]⟩
abbrev S1x384 : Shape := ⟨2, ![1, 384]⟩
abbrev S6x1x16384 : Shape := ⟨3, ![6, 1, 16384]⟩
abbrev S1024x384 : Shape := ⟨2, ![1024, 384]⟩
abbrev S2048x128 : Shape := ⟨2, ![2048, 128]⟩
abbrev S6x1x1024 : Shape := ⟨3, ![6, 1, 1024]⟩
abbrev S6x1024x128 : Shape := ⟨3, ![6, 1024, 128]⟩
abbrev S1024x128 : Shape := ⟨2, ![1024, 128]⟩
abbrev S1024x2048 : Shape := ⟨2, ![1024, 2048]⟩
abbrev S1x1024x128 : Shape := ⟨3, ![1, 1024, 128]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩
abbrev S1x1x1024 : Shape := ⟨3, ![1, 1, 1024]⟩
abbrev S1x128 : Shape := ⟨2, ![1, 128]⟩

abbrev nBuf : Space → Nat
  | .hbm => 17
  | .vmem => 15
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S384, .f32⟩
  | .hbm, ⟨4, _⟩ => ⟨S_, .f32⟩
  | .hbm, ⟨5, _⟩ => ⟨S16384x1920, .f32⟩
  | .hbm, ⟨6, _⟩ => ⟨S16384x2048, .f32⟩
  | .hbm, ⟨7, _⟩ => ⟨S16384x2048, .bf16⟩
  | .hbm, ⟨8, _⟩ => ⟨S_, .f32⟩
  | .hbm, ⟨9, _⟩ => ⟨S16384x384, .f32⟩
  | .hbm, ⟨10, _⟩ => ⟨S16384x384, .f32⟩
  | .hbm, ⟨11, _⟩ => ⟨S16384x384, .bf16⟩
  | .hbm, ⟨12, _⟩ => ⟨S16384x128, .bf16⟩
  | .hbm, ⟨13, _⟩ => ⟨S1x384, .f32⟩
  | .hbm, ⟨14, _⟩ => ⟨S16384x384, .bf16⟩
  | .hbm, ⟨15, _⟩ => ⟨S16384x384, .bf16⟩
  | .hbm, ⟨16, _⟩ => ⟨S6x1x16384, .f32⟩
  | .local _ .vmem, ⟨0, _⟩ => ⟨S1024x384, .bf16⟩
  | .local _ .vmem, ⟨1, _⟩ => ⟨S1024x384, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x384, .f32⟩
  | .local _ .vmem, ⟨7, _⟩ => ⟨S1024x384, .bf16⟩
  | .local _ .vmem, ⟨8, _⟩ => ⟨S1024x384, .bf16⟩
  | .local _ .vmem, ⟨9, _⟩ => ⟨S1024x384, .bf16⟩
  | .local _ .vmem, ⟨10, _⟩ => ⟨S1024x384, .bf16⟩
  | .local _ .vmem, ⟨11, _⟩ => ⟨S6x1x1024, .f32⟩
  | .local _ .vmem, ⟨12, _⟩ => ⟨S6x1x1024, .f32⟩
  | .local _ .vmem, ⟨13, _⟩ => ⟨S6x1024x128, .f32⟩
  | .local _ .vmem, ⟨14, _⟩ => ⟨S6x1024x128, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v175 : BitVec 1 := Scalar.cmpi .eq arg1 c7_i32
  let v176 : BitVec 32 := Scalar.extui v175
  let c0_i32_97 : BitVec 32 := 0#32
  let v177 : BitVec 1 := Scalar.cmpi .ne v176 c0_i32_97
  v177

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg1.toNat, c15_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S6x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AxfIdeal.lean ====
variable {F : FTy → Type} [FloatOps F] [Named F]
def κ : String → Option EReal := fun
  | "inv_width" => some ((1 / 384 : ℝ) : EReal)
  | _ => none
-- ==== AxfRefIdeal.lean ====
abbrev S16384x384 : Shape := ⟨2, ![16384, 384]⟩
abbrev S16384x128 : Shape := ⟨2, ![16384, 128]⟩
abbrev S384 : Shape := ⟨1, ![384]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S16384 : Shape := ⟨1, ![16384]⟩
abbrev S16384x1 : Shape := ⟨2, ![16384, 1]⟩
abbrev S1x384 : Shape := ⟨2, ![1, 384]⟩
abbrev S6x1x16384 : Shape := ⟨3, ![6, 1, 16384]⟩

abbrev nBuf : Space → Nat
  | .hbm => 65
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S384, .f32⟩
  | .hbm, ⟨4, _⟩ => ⟨S16384x2x3x64, .f32⟩
  | .hbm, ⟨5, _⟩ => ⟨S16384x2x64, .f32⟩
  | .hbm, ⟨6, _⟩ => ⟨S2x16384x16384x3, .f32⟩
  | .hbm, ⟨7, _⟩ => ⟨S2x3x16384x16384, .f32⟩
  | .hbm, ⟨8, _⟩ => ⟨S_, .f32⟩
  | .hbm, ⟨9, _⟩ => ⟨S2x3x16384x16384, .f32⟩
  | .hbm, ⟨10, _⟩ => ⟨S2x3x16384x16384, .f32⟩
  | .hbm, ⟨11, _⟩ => ⟨S_, .f32⟩
  | .hbm, ⟨12, _⟩ => ⟨S2x3x16384, .f32⟩
  | .hbm, ⟨13, _⟩ => ⟨S2x3x16384x1, .f32⟩
  | .hbm, ⟨14, _⟩ => ⟨S2x3x16384x16384, .f32⟩
  | .hbm, ⟨15, _⟩ => ⟨S2x3x16384x16384, .f32⟩
  | .hbm, ⟨16, _⟩ => ⟨S2x3x16384x16384, .f32⟩
  | .hbm, ⟨17, _⟩ => ⟨S_, .f32⟩
  | .hbm, ⟨18, _⟩ => ⟨S2x3x16384, .f32⟩
  | .hbm, ⟨19, _⟩ => ⟨S2x3x16384, .f32⟩
  | .hbm, ⟨20, _⟩ => ⟨S2x3x16384, .f32⟩
  | .hbm, ⟨21, _⟩ => ⟨S16384x2x3x64, .f32⟩
  | .hbm, ⟨22, _⟩ => ⟨S16384x2x64, .f32⟩
  | .hbm, ⟨23, _⟩ => ⟨S2x16384x16384x3, .f32⟩
  | .hbm, ⟨24, _⟩ => ⟨S2x3x16384x16384, .f32⟩
  | .hbm, ⟨25, _⟩ => ⟨S_, .f32⟩
  | .hbm, ⟨26, _⟩ => ⟨S2x3x16384x16384, .f32⟩
  | .hbm, ⟨27, _⟩ => ⟨S2x3x16384x16384, .f32⟩
  | .hbm, ⟨28, _⟩ => ⟨S_, .f32⟩
  | .hbm, ⟨29, _⟩ => ⟨S2x3x16384, .f32⟩
  | .hbm, ⟨30, _⟩ => ⟨S_, .f32⟩
  | .hbm, ⟨31, _⟩ => ⟨S2x3x16384, .f32⟩
  | .hbm, ⟨32, _⟩ => ⟨S2x3x16384, .f32⟩
  | .hbm, ⟨33, _⟩ => ⟨S2x3x16384x1, .f32⟩
  | .hbm, ⟨34, _⟩ => ⟨S2x3x16384x16384, .f32⟩
  | .hbm, ⟨35, _⟩ => ⟨S2x3x16384x16384, .f32⟩
  | .hbm, ⟨36, _⟩ => ⟨S2x3x16384x16384, .f32⟩
  | .hbm, ⟨37, _⟩ => ⟨S_, .f32⟩
  | .hbm, ⟨38, _⟩ => ⟨S2x3x16384, .f32⟩
  | .hbm, ⟨39, _⟩ => ⟨S2x3x16384x1, .f32⟩
  | .hbm, ⟨40, _⟩ => ⟨S2x3x16384x16384, .f32⟩
  | .hbm, ⟨41, _⟩ => ⟨S2x3x16384x16384, .f32⟩
  | .hbm, ⟨42, _⟩ => ⟨S16384x2x64, .f32⟩
  | .hbm, ⟨43, _⟩ => ⟨S2x64x3x16384, .f32⟩
  | .hbm, ⟨44, _⟩ => ⟨S16384x2x3x64, .f32⟩
  | .hbm, ⟨45, _⟩ => ⟨S16384x384, .f32⟩
  | .hbm, ⟨46, _⟩ => ⟨S16384x384, .bf16⟩
  | .hbm, ⟨47, _⟩ => ⟨S16384x384, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x384, .f32⟩
  | .hbm, ⟨59, _⟩ => ⟨S16384x384, .f32⟩
  | .hbm, ⟨60, _⟩ => ⟨S1x384, .f32⟩
  | .hbm, ⟨61, _⟩ => ⟨S16384x384, .f32⟩
  | .hbm, ⟨62, _⟩ => ⟨S16384x384, .f32⟩
  | .hbm, ⟨63, _⟩ => ⟨S16384x384, .bf16⟩
  | .hbm, ⟨64, _⟩ => ⟨S6x1x16384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Axd.lean ====
abbrev S16384x384 : Shape := ⟨2, ![16384, 384]⟩
abbrev S16384x128 : Shape := ⟨2, ![16384, 128]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S6x1x16384 : Shape := ⟨3, ![6, 1, 16384]⟩
abbrev S512x384 : Shape := ⟨2, ![512, 384]⟩
abbrev S6x1x512 : Shape := ⟨3, ![6, 1, 512]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩

abbrev nBuf : Space → Nat
  | .hbm => 32
  | .vmem => 6
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S16384x384, .f32⟩
  | .hbm, ⟨4, _⟩ => ⟨S16384x384, .bf16⟩
  | .hbm, ⟨5, _⟩ => ⟨S16384x2x3x64, .f32⟩
  | .hbm, ⟨6, _⟩ => ⟨S16384x2x64, .f32⟩
  | .hbm, ⟨7, _⟩ => ⟨S2x16384x16384x3, .f32⟩
  | .hbm, ⟨8, _⟩ => ⟨S2x3x16384x16384, .f32⟩
  | .hbm, ⟨9, _⟩ => ⟨S_, .f32⟩
  | .hbm, ⟨10, _⟩ => ⟨S2x3x16384x16384, .f32⟩
  | .hbm, ⟨11, _⟩ => ⟨S2x3x16384x16384, .f32⟩
  | .hbm, ⟨12, _⟩ => ⟨S_, .f32⟩
  | .hbm, ⟨13, _⟩ => ⟨S2x3x16384, .f32⟩
  | .hbm, ⟨14, _⟩ => ⟨S_, .f32⟩
  | .hbm, ⟨15, _⟩ => ⟨S2x3x16384, .f32⟩
  | .hbm, ⟨16, _⟩ => ⟨S2x3x16384, .f32⟩
  | .hbm, ⟨17, _⟩ => ⟨S2x3x16384x1, .f32⟩
  | .hbm, ⟨18, _⟩ => ⟨S2x3x16384x16384, .f32⟩
  | .hbm, ⟨19, _⟩ => ⟨S2x3x16384x16384, .f32⟩
  | .hbm, ⟨20, _⟩ => ⟨S2x3x16384x16384, .f32⟩
  | .hbm, ⟨21, _⟩ => ⟨S_, .f32⟩
  | .hbm, ⟨22, _⟩ => ⟨S2x3x16384, .f32⟩
  | .hbm, ⟨23, _⟩ => ⟨S2x3x16384x1, .f32⟩
  | .hbm, ⟨24, _⟩ => ⟨S2x3x16384x16384, .f32⟩
  | .hbm, ⟨25, _⟩ => ⟨S2x3x16384x16384, .f32⟩
  | .hbm, ⟨26, _⟩ => ⟨S16384x2x64, .f32⟩
  | .hbm, ⟨27, _⟩ => ⟨S2x64x3x16384, .f32⟩
  | .hbm, ⟨28, _⟩ => ⟨S16384x2x3x64, .f32⟩
  | .hbm, ⟨29, _⟩ => ⟨S16384x384, .f32⟩
  | .hbm, ⟨30, _⟩ => ⟨S16384x384, .bf16⟩
  | .hbm, ⟨31, _⟩ => ⟨S6x1x16384, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S6x1x512, .f32⟩
  | .local _ .vmem, ⟨5, _⟩ => ⟨S6x1x512, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AxdRefIdeal.lean ====
abbrev S16384x384 : Shape := ⟨2, ![16384, 384]⟩
abbrev S16384x128 : Shape := ⟨2, ![16384, 128]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S16384x6x64 : Shape := ⟨3, ![16384, 6, 64]⟩
abbrev S16384x6 : Shape := ⟨2, ![16384, 6]⟩
abbrev S6x16384 : Shape := ⟨2, ![6, 16384]⟩
abbrev S6x1x16384 : Shape := ⟨3, ![6, 1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x128, .f32⟩
  | .hbm, ⟨3, _⟩ => ⟨S16384x384, .f32⟩
  | .hbm, ⟨4, _⟩ => ⟨S16384x2x3x64, .f32⟩
  | .hbm, ⟨5, _⟩ => ⟨S16384x2x64, .f32⟩
  | .hbm, ⟨6, _⟩ => ⟨S2x16384x16384x3, .f32⟩
  | .hbm, ⟨7, _⟩ => ⟨S2x3x16384x16384, .f32⟩
  | .hbm, ⟨8, _⟩ => ⟨S_, .f32⟩
  | .hbm, ⟨9, _⟩ => ⟨S2x3x16384x16384, .f32⟩
  | .hbm, ⟨10, _⟩ => ⟨S2x3x16384x16384, .f32⟩
  | .hbm, ⟨11, _⟩ => ⟨S_, .f32⟩
  | .hbm, ⟨12, _⟩ => ⟨S2x3x16384, .f32⟩
  | .hbm, ⟨13, _⟩ => ⟨S_, .f32⟩
  | .hbm, ⟨14, _⟩ => ⟨S2x3x16384, .f32⟩
  | .hbm, ⟨15, _⟩ => ⟨S2x3x16384, .f32⟩
  | .hbm, ⟨16, _⟩ => ⟨S2x3x16384x1, .f32⟩
  | .hbm, ⟨17, _⟩ => ⟨S2x3x16384x16384, .f32⟩
  | .hbm, ⟨18, _⟩ => ⟨S2x3x16384x16384, .f32⟩
  | .hbm, ⟨19, _⟩ => ⟨S2x3x16384x16384, .f32⟩
  | .hbm, ⟨20, _⟩ => ⟨S_, .f32⟩
  | .hbm, ⟨21, _⟩ => ⟨S2x3x16384, .f32⟩
  | .hbm, ⟨22, _⟩ => ⟨S2x3x16384x1, .f32⟩
  | .hbm, ⟨23, _⟩ => ⟨S2x3x16384x16384, .f32⟩
  | .hbm, ⟨24, _⟩ => ⟨S2x3x16384x16384, .f32⟩
  | .hbm, ⟨25, _⟩ => ⟨S16384x2x64, .f32⟩
  | .hbm, ⟨26, _⟩ => ⟨S2x64x3x16384, .f32⟩
  | .hbm, ⟨27, _⟩ => ⟨S16384x2x3x64, .f32⟩
  | .hbm, ⟨28, _⟩ => ⟨S16384x384, .f32⟩
  | .hbm, ⟨29, _⟩ => ⟨S16384x384, .f32⟩
  | .hbm, ⟨30, _⟩ => ⟨S16384x6x64, .f32⟩
  | .hbm, ⟨31, _⟩ => ⟨S_, .f32⟩
  | .hbm, ⟨32, _⟩ => ⟨S16384x6, .f32⟩
  | .hbm, ⟨33, _⟩ => ⟨S6x16384, .f32⟩
  | .hbm, ⟨34, _⟩ => ⟨S6x1x16384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Dwgu.lean ====
abbrev S16384x1024 : Shape := ⟨2, ![16384, 1024]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 33
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S16384x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .bf16⟩
  | .hbm, ⟨31, _⟩ => ⟨S16384x5632, .bf16⟩
  | .hbm, ⟨32, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S16384x1024 : Shape := ⟨2, ![16384, 1024]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x5632 : Shape := ⟨2, ![1024, 5632]⟩
abbrev S5632x1024 : Shape := ⟨2, ![5632, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S16384x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024x5632, .f32⟩
  | .hbm, ⟨32, _⟩ => ⟨S16384x5632, .f32⟩
  | .hbm, ⟨33, _⟩ => ⟨S5632x1024, .f32⟩
  | .hbm, ⟨34, _⟩ => ⟨S1024x5632, .f32⟩
  | .hbm, ⟨35, _⟩ => ⟨S1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Finite.lean ====
/- Finite values: the operations of the ideal reading, met at real numbers, are the real operations.
   Each equation moves the embedding of the reals in the extended reals outwards, so that a program read at an index with
   finite inputs becomes ordinary real arithmetic. -/
module

public import Idealize.ShloMosaic.Lib.Pointwise
public import Idealize.ShloMosaic.Lib.IdealHost

@[expose] public section

noncomputable section

namespace Cert.Finite

open Idealize.ShloMosaic

/-- A finite sum of real numbers, taken in the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real number divided by a real number that is not zero. -/
theorem div_real {y : ℝ} (x : ℝ) (h : y ≠ 0) : Ideal.div (x : EReal) (y : EReal) = ((x / y : ℝ) : EReal) := by
  rw [Ideal.div_coe h, ← EReal.coe_mul, mul_one_div]

/-- The reciprocal square root of a positive real number. -/
theorem rsqrt_real {x : ℝ} (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg h.le.not_gt, if_neg h.ne']

/-- The absolute value of an extended real is below +∞ exactly when the extended real is a real number. -/
theorem real_of_abs_lt {x : EReal} (h : max x (-x) < ⊤) : ∃ r : ℝ, x = r := by
  induction x using EReal.rec with
  | bot => simp at h
  | top => simp at h
  | coe r => exact ⟨r, rfl⟩

/-- An array of extended reals without infinite entries is an array of real numbers. -/
theorem reals_of_forall {ι : Type} {v : ι → EReal} (h : ∀ i, max (v i) (-v i) < ⊤) : ∃ r : ι → ℝ, v = fun i => (r i : EReal) :=
  ⟨fun i => (real_of_abs_lt (h i)).choose, funext fun i => (real_of_abs_lt (h i)).choose_spec⟩

/-- An array whose magnitudes all compare below infinity is an array of real numbers. -/
theorem reals_of_mask {S : Shape} {ty : FTy} (v B : FVec Ideal S ty) (hB : ∀ i, (B i : EReal) = ⊤)
    (h : cmpf .olt (Host.absf v) B = fun _ => 1#1) : ∃ r : S.Idx → ℝ, v = fun i => (r i : EReal) := by
  refine reals_of_forall fun i => ?_
  have h1 := congrFun h i
  have h2 : Ideal.cmp .olt (max (v i : EReal) (-(v i : EReal))) (B i) = 1#1 := h1
  rw [hB i] at h2
  by_contra hn
  simp [Ideal.cmp, hn] at h2

/-- The word of infinity. -/
theorem ofBits_inf : Ideal.ofBits .f32 0x7F800000#32 = ⊤ := by
  simp [Ideal.ofBits, Ideal.ieee]

/-- The maximum of finitely many real numbers, begun at −∞, is a real number when there is one at least. -/
theorem real_fold_max {ι : Type} [Fintype ι] [Nonempty ι] (f : ι → EReal) (hf : ∀ i, ∃ r : ℝ, f i = r) :
    ∃ r : ℝ, Finset.univ.fold max (⊥ : EReal) f = r := by
  classical
  have key : ∀ s : Finset ι, s.Nonempty → ∃ r : ℝ, s.fold max (⊥ : EReal) f = r := by
    intro s hs
    induction hs using Finset.Nonempty.cons_induction with
    | singleton a => obtain ⟨r, hr⟩ := hf a; exact ⟨r, by rw [Finset.fold_singleton, hr]; exact max_bot_right _⟩
    | cons a s ha _ ih =>
      obtain ⟨r, hr⟩ := hf a
      obtain ⟨r', hr'⟩ := ih
      exact ⟨max r r', by rw [Finset.fold_cons, hr, hr']; exact (EReal.coe_strictMono.monotone.map_max).symm⟩
  exact key _ Finset.univ_nonempty

/-- The word of minus infinity. -/
theorem ofBits_ninf : Ideal.ofBits .f32 0xFF800000#32 = ⊥ := by
  simp [Ideal.ofBits, Ideal.ieee]
theorem ofBits_eighth : Ideal.ofBits .f32 0x3E000000#32 = ((1 / 8 : ℝ) : EReal) := by
  simp [Ideal.ofBits, Ideal.ieee, -EReal.coe_mul]; norm_num

/-- The literal `9.99999997E-7` is a positive rational. -/
def eps : ℝ := (Ideal.ofBits .f32 0x358637BD#32).toReal

theorem ofBits_eps : Ideal.ofBits .f32 0x358637BD#32 = (eps : EReal) ∧ 0 < eps := by
  have h : Ideal.ofBits .f32 0x358637BD#32 = ((8796093 / 8796093022208 : ℝ) : EReal) := by
    simp [Ideal.ofBits, Ideal.ieee, -EReal.coe_mul]; norm_num
  unfold eps
  rw [h]
  exact ⟨rfl, by rw [EReal.toReal_coe]; norm_num⟩

theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp
theorem ofBits_zero : Ideal.ofBits .f32 0x00000000#32 = ((0 : ℝ) : EReal) := by
  simp

/-- Division by the literal `1024`. -/
theorem div_1024 (x : ℝ) : Ideal.div (x : EReal) ((1024 : ℝ) : EReal) = ((x / 1024 : ℝ) : EReal) := div_real x (by norm_num)

/-- The mean of the squares of a row of 1024 numbers, and the literal that keeps it away from zero. -/
def ms (u : Fin 1024 → ℝ) : ℝ := (∑ k, u k * u k) / 1024 + eps

theorem ms_pos (u : Fin 1024 → ℝ) : 0 < ms u :=
  add_pos_of_nonneg_of_pos (div_nonneg (Finset.sum_nonneg fun k _ => mul_self_nonneg (u k)) (by norm_num)) ofBits_eps.2

/-- The reciprocal of a row's root mean square. -/
def rms (u : Fin 1024 → ℝ) : ℝ := (Real.sqrt (ms u))⁻¹

/-- The reciprocal root mean square of a row of real numbers. -/
theorem rsqrt_ms (u : Fin 1024 → ℝ) : Ideal.rsqrt (((∑ k, u k * u k) / 1024 + eps : ℝ) : EReal) = (rms u : EReal) :=
  rsqrt_real (ms_pos u)

/-- Division by a row's mean square. -/
theorem div_ms (x : ℝ) (u : Fin 1024 → ℝ) :
    Ideal.div (x : EReal) (((∑ k, u k * u k) / 1024 + eps : ℝ) : EReal) = ((x / ms u : ℝ) : EReal) :=
  div_real x (ms_pos u).ne'

/-- `1/√M` divided by `M` is the cube of `1/√M`. -/
theorem rms_div_ms (u : Fin 1024 → ℝ) : rms u / ms u = rms u * rms u * rms u := by
  have h := ms_pos u
  have h2 : rms u * rms u = (ms u)⁻¹ := by
    unfold rms; rw [← mul_inv, Real.mul_self_sqrt h.le]
  rw [h2]; field_simp

end Cert.Finite

end
-- ==== Proof.LossSpec.lean ====
module
public import proofs.«01_k».proof.Proof.Finite

@[expose] public section
noncomputable section
namespace Cert.LossSpec
open Cert.Finite Idealize.ShloMosaic

variable (u γ τ : Fin 1024 → ℝ)

/-- The prediction of a row, less its target. -/
def err (k : Fin 1024) : ℝ := u k * rms u * γ k - τ k
/-- A row's part of the loss. -/
def loss : ℝ := (∑ k, err u γ τ k * err u γ τ k) / 1024
/-- A row's part of the gain's gradient. -/
def dg (k : Fin 1024) : ℝ := err u γ τ k * (1 / 1024) * (u k * rms u)
/-- A row's gradient. -/
def dx (j : Fin 1024) : ℝ :=
  rms u * (err u γ τ j * (1 / 1024) * γ j - u j * rms u * ((∑ k, err u γ τ k * (1 / 1024) * γ k * (u k * rms u)) / 1024))

/-! ## The three results -/

variable (x t : Shape.Idx ⟨2, ![16384, 1024]⟩ → ℝ) (g : Shape.Idx ⟨1, ![1024]⟩ → ℝ)

/-- The gradient of the activations. -/
def outDx : Shape.Idx ⟨2, ![16384, 1024]⟩ → EReal :=
  fun i => (dx (fun k => x (ix2 (i 0) k)) (fun k => g (ix1 k)) (fun k => t (ix2 (i 0) k)) (i 1) : ℝ)

/-- The loss, one number in every lane. -/
def outLoss : Shape.Idx ⟨2, ![1, 128]⟩ → EReal :=
  fun _ => (1 / 2 * ∑ r : Fin 16384, loss (fun k => x (ix2 r k)) (fun k => g (ix1 k)) (fun k => t (ix2 r k)) : ℝ)

/-- The gradient of the gain. -/
def outDg : Shape.Idx ⟨2, ![1, 1024]⟩ → EReal :=
  fun i => (∑ r : Fin 16384, dg (fun k => x (ix2 r k)) (fun k => g (ix1 k)) (fun k => t (ix2 r k)) (i 1) : ℝ)

end Cert.LossSpec
end
-- ==== Proof.LossRef.lean ====
module
public import proofs.«01_k».proof.Proof.LossSpec
public import proofs.«01_k».proof.Proof.Gen.LossRefIdeal.Run

@[expose] public section

set_option maxRecDepth 16384

noncomputable section

namespace Cert.LossRefIdeal.Value
open Cert.LossRefIdeal Cert.LossRefIdeal.Gen Idealize.ShloMosaic Idealize.ShloMosaic.TcCoe Idealize.SL.Sem Idealize.ShloMosaic.StableHlo Cert.Finite
open LossSpec (err)

set_option maxHeartbeats 4000000 in
theorem dx_eq (m : (ℓ : Loc nD τ sig) → Buf (Elt Ideal) ℓ) (c : Dev nD) (x t : S16384x1024.Idx → ℝ) (g : S1024.Idx → ℝ)
  (hx : m ((c.tc : Thread nD τ).loc main_arg0) = fun i => (x i : EReal)) (hg : m ((c.tc : Thread nD τ).loc main_arg1) = fun i => (g i : EReal))
  (ht : m ((c.tc : Thread nD τ).loc main_arg2) = fun i => (t i : EReal)) (i : Fin 16384) (j : Fin 1024) :
  res_main_v50 m c (ix2 i j) = (LossSpec.dx (fun k => x (ix2 i k)) (fun k => g (ix1 k)) (fun k => t (ix2 i k)) j : EReal) := by
  unfold res_main_v50
  rw [hx, hg, ht]
  pointwise
  simp only [ofBits_half, ofBits_two, ofBits_neg_half, ofBits_1024, ofBits_eps.1, ← EReal.coe_mul, ← EReal.coe_add, ← EReal.coe_sub, sum_coe, div_1024, rsqrt_ms, div_ms,
    rms_div_ms]
  refine congrArg _ ?_
  unfold LossSpec.dx
  have hs : (∑ k, err (fun k => x (ix2 i k)) (fun k => g (ix1 k)) (fun k => t (ix2 i k)) k * (1 / 1024) * g (ix1 k)
        * (x (ix2 i k) * rms fun k => x (ix2 i k)))
      = (∑ k, x (ix2 i k) * (1 / 2 / 1024 * (2 * (x (ix2 i k) * (rms fun k => x (ix2 i k)) * g (ix1 k) - t (ix2 i k))) * g (ix1 k)))
        * rms fun k => x (ix2 i k) := by
    rw [Finset.sum_mul]
    refine Finset.sum_congr rfl fun k _ => ?_
    unfold err; ring
  rw [hs]
  simp only [Finset.sum_const, Finset.card_univ, Fintype.card_fin, one_smul]
  unfold err; ring

set_option maxHeartbeats 4000000 in
theorem run_real (m : (ℓ : Loc nD τ sig) → Buf (Elt Ideal) ℓ) (ρ : Dev nD → PrngReg) (x t : Dev nD → S16384x1024.Idx → ℝ)
  (g : Dev nD → S1024.Idx → ℝ)
  (hx : ∀ c : Dev nD, m ((c.tc : Thread nD τ).loc main_arg0) = fun i => (x c i : EReal))
  (hg : ∀ c : Dev nD, m ((c.tc : Thread nD τ).loc main_arg1) = fun i => (g c i : EReal))
  (ht : ∀ c : Dev nD, m ((c.tc : Thread nD τ).loc main_arg2) = fun i => (t c i : EReal)) :
  θ_run (defs (F := Ideal)) (onTc (τ := τ) (main (F := Ideal))) ⟨m, fun _ => 0, ρ⟩ fun r => ∀ c : Dev nD,
    r.2.mem ((c.tc : Thread nD τ).loc main_v50) = LossSpec.outDx (x c) (t c) (g c)
    ∧ r.2.mem ((c.tc : Thread nD τ).loc main_v51) = LossSpec.outLoss (x c) (t c) (g c)
    ∧ r.2.mem ((c.tc : Thread nD τ).loc main_v52) = LossSpec.outDg (x c) (t c) (g c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run (defs (F := Ideal)) _ _).mono (fun r h c => ?_) (run m ρ)
  obtain ⟨h0, h1, h2, ha⟩ := h c
  refine ⟨h0.trans ?_, h1.trans ?_, h2.trans ?_, ha⟩
  · change (_ : S16384x1024.Idx → EReal) = _
    funext i
    idx_vars i
    exact dx_eq m c (x c) (t c) (g c) (hx c) (hg c) (ht c) _ _
  · change (_ : S1x128.Idx → EReal) = _
    rw [hx c, hg c, ht c]
    funext i
    idx_vars i
    pointwise
    simp only [ofBits_half, ofBits_two, ofBits_neg_half, ofBits_1024, ofBits_eps.1, ← EReal.coe_mul, ← EReal.coe_add, ← EReal.coe_sub,
      sum_coe, div_1024, rsqrt_ms, div_ms, rms_div_ms]
    rfl
  · change (_ : S1x1024.Idx → EReal) = _
    rw [hx c, hg c, ht c]
    funext i
    idx_vars i
    pointwise
    simp only [ofBits_half, ofBits_two, ofBits_neg_half, ofBits_1024, ofBits_eps.1, ← EReal.coe_mul, ← EReal.coe_add, ← EReal.coe_sub,
      sum_coe, div_1024, rsqrt_ms, div_ms, rms_div_ms]
    refine congrArg _ ?_
    simp only [Finset.sum_const, Finset.card_univ, Fintype.card_fin, one_smul]
    refine Finset.sum_congr rfl fun k _ => ?_
    unfold LossSpec.dg err
    change _ = (x c (ix2 k i1) * (rms fun k_1 => x c (ix2 k k_1)) * g c (ix1 i1) - t c (ix2 k i1)) * (1 / 1024)
      * (x c (ix2 k i1) * rms fun k_1 => x c (ix2 k k_1))
    ring
end Cert.LossRefIdeal.Value
end
-- ==== Proof.LossKer.lean ====
module
public import proofs.«01_k».proof.Proof.LossSpec
public import proofs.«01_k».proof.Proof.Gen.LossIdeal.Value
public import Idealize.ShloMosaic.Lib.Pipeline.ValueKit

@[expose] public section

set_option maxRecDepth 16384

noncomputable section

namespace Cert.LossIdeal.Value
open Cert.LossIdeal Cert.LossIdeal.Gen Idealize.ShloMosaic Idealize.ShloMosaic.TcCoe Idealize.SL.Sem Cert.Finite
open LossSpec (err)

/-- Row `r` of the block that point `n` works on. -/
def row (n : Fin cfg0.N) (r : Fin 512) : Fin 16384 :=
  ⟨n.val * 512 + r.val, by have h : n.val < 32 := lt_of_lt_of_eq n.isLt N_0; omega⟩

section payloads
variable (X T : S512x1024.Idx → ℝ) (γ : S1x1024.Idx → ℝ)

theorem pay_dx (i : Fin 512) (j : Fin 1024) :
    k0_pay2 (F := Ideal) (k0_pay5 fun i => (X i : EReal)) (k0_pay6 fun i => (X i : EReal))
      (k0_pay9 (fun i => (X i : EReal)) (fun i => (γ i : EReal)) fun i => (T i : EReal)) (fun i => (γ i : EReal)) (ix2 i j)
    = (LossSpec.dx (fun k => X (ix2 i k)) (fun k => γ (ix2 0 k)) (fun k => T (ix2 i k)) j : EReal) := by
  pointwise [k0_pay2, k0_pay6, k0_pay5, k0_pay9, k0_pay7]
  simp only [ofBits_inv1024, ofBits_1024, ofBits_eps.1, ← EReal.coe_mul, ← EReal.coe_add, ← EReal.coe_sub,
      sum_coe, div_1024, rsqrt_ms, div_ms]
  rfl

theorem pay_loss (v : Vec Ideal S1x128 .f32) (z : Fin 1) (i : Fin 128) :
    k0_pay8 (F := Ideal) (fun i => (X i : EReal)) (fun i => (γ i : EReal)) (fun i => (T i : EReal)) v (ix2 z i)
    = v (ix2 z i) + (1 / 2 * ∑ r : Fin 512, LossSpec.loss (fun k => X (ix2 r k)) (fun k => γ (ix2 0 k)) (fun k => T (ix2 r k)) : ℝ) := by
  pointwise [k0_pay8, k0_pay6, k0_pay5, k0_pay9, k0_pay7]
  simp only [ofBits_half, ofBits_inv1024, ofBits_1024, ofBits_eps.1, ← EReal.coe_mul, ← EReal.coe_add, ← EReal.coe_sub,
      sum_coe, div_1024, rsqrt_ms, div_ms]
  rfl

theorem pay_dg (v : Vec Ideal S1x1024 .f32) (z : Fin 1) (i : Fin 1024) :
    k0_pay1 (F := Ideal) (k0_pay6 fun i => (X i : EReal)) (k0_pay9 (fun i => (X i : EReal)) (fun i => (γ i : EReal)) fun i => (T i : EReal)) v (ix2 z i)
    = v (ix2 z i) + (∑ r : Fin 512, LossSpec.dg (fun k => X (ix2 r k)) (fun k => γ (ix2 0 k)) (fun k => T (ix2 r k)) i : ℝ) := by
  pointwise [k0_pay1, k0_pay6, k0_pay5, k0_pay9, k0_pay7]
  simp only [ofBits_half, ofBits_inv1024, ofBits_1024, ofBits_eps.1, ← EReal.coe_mul, ← EReal.coe_add, ← EReal.coe_sub,
      sum_coe, div_1024, rsqrt_ms, div_ms]
  rfl

end payloads

variable (m : (ℓ : Loc nD τ sig) → Buf (Elt Ideal) ℓ) (c : Dev nD) (x t : S16384x1024.Idx → ℝ) (g : S1024.Idx → ℝ)
  (hx : m ((c.tc : Thread nD τ).loc main_arg0) = fun i => (x i : EReal)) (hg : m ((c.tc : Thread nD τ).loc main_arg1) = fun i => (g i : EReal))
  (ht : m ((c.tc : Thread nD τ).loc main_arg2) = fun i => (t i : EReal))

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The index of the gradient that an index of the block of point `n` is written to. -/
theorem emb3 (n : Fin cfg0.N) (i : Fin 512) (j : Fin 1024) : (win0_3.blk n).view.emb (ix2 i j) = ix2 (row n i) j := by
  unfold row
  blk_ext [idx n]

/-- The last point of the grid. -/
def last : Fin cfg0.N := ⟨31, lt_of_lt_of_eq (by decide) N_0.symm⟩

include hx in
theorem block0 (n : Fin cfg0.N) : iblk m c 0 n = fun y => ((x (ix2 (row n (y 0)) (y 1)) : ℝ) : EReal) := by
  change (_ : S512x1024.Idx → EReal) = _
  funext y
  idx_vars y
  have e := congrFun hx
  rw [← e]
  unfold row
  blk_ext [iblk, V, idx n]

include ht in
theorem block2 (n : Fin cfg0.N) : iblk m c 2 n = fun y => ((t (ix2 (row n (y 0)) (y 1)) : ℝ) : EReal) := by
  change (_ : S512x1024.Idx → EReal) = _
  funext y
  idx_vars y
  have e := congrFun ht
  rw [← e]
  unfold row
  blk_ext [iblk, V, idx n]

include hg in
theorem block1 (n : Fin cfg0.N) : iblk m c 1 n = fun y => ((g (ix1 (y 1)) : ℝ) : EReal) := by
  change (_ : S1x1024.Idx → EReal) = _
  funext y
  idx_vars y
  have e := congrFun hg
  rw [← e]
  unfold iblk
  entry_read
  blk_simp [idx n]
  pointwise
  blk_ext! [iblk, V, idx n]

include hx hg ht

set_option maxHeartbeats 400000 in
/-- The array of the activations' gradient after the run. -/
theorem dx_eq : (dats m 0 c).arrAt 3 (cfgs 0).N = LossSpec.outDx x t g := by
  refine (dats m 0 c).arrAt_eq_of_covers 3 _ (by decide +kernel) fun n hf y => ?_
  blk_simp
  rw [after0_3]
  revert y
  change ∀ y : S512x1024.Idx, _
  intro y
  idx_vars y
  by_cases h0 : n.val % 32 = 0
  · rw [outsAt0_A m c n h0]
    frame_out
    rw [block0 m c x hx, block1 m c g hg, block2 m c t ht]
    refine (pay_dx _ _ _ _ _).trans ?_
    rw [emb3]
    rfl
  · rw [outsAt0_B m c n h0]
    frame_out
    rw [block0 m c x hx, block1 m c g hg, block2 m c t ht]
    refine (pay_dx _ _ _ _ _).trans ?_
    rw [emb3]
    rfl

/-- What the block of point `n` adds to the loss. -/
def lossAt (n : Fin cfg0.N) : ℝ :=
  1 / 2 * ∑ r : Fin 512, LossSpec.loss (fun k => x (ix2 (row n r) k)) (fun k => g (ix1 k)) (fun k => t (ix2 (row n r) k))

/-- What the block of point `n` adds to a lane of the gain's gradient. -/
def dgAt (n : Fin cfg0.N) (k : Fin 1024) : ℝ :=
  ∑ r : Fin 512, LossSpec.dg (fun k => x (ix2 (row n r) k)) (fun k => g (ix1 k)) (fun k => t (ix2 (row n r) k)) k

/-- The first point starts the loss from zero. -/
theorem loss_first (n : Fin cfg0.N) (h : n.val % 32 = 0) (j : S1x128.Idx) :
    (outsAt0 m c n.val n.isLt).2.1 j = 0 + (lossAt x t g n : EReal) := by
  rw [outsAt0_A m c n h]
  frame_out
  rw [block0 m c x hx, block1 m c g hg, block2 m c t ht]
  idx_vars j
  refine (pay_loss _ _ _ _ _ _).trans ?_
  pointwise [k0_pay3]
  rfl

/-- Every other point adds its block's part to what the point before left. -/
theorem loss_next (n : Fin cfg0.N) (h : ¬n.val % 32 = 0) (j : S1x128.Idx) :
    (outsAt0 m c n.val n.isLt).2.1 j
      = (outsAt0 m c (n.val - 1) (Nat.lt_of_le_of_lt (Nat.sub_le _ _) n.isLt)).2.1 j + (lossAt x t g n : EReal) := by
  rw [outsAt0_B m c n h]
  frame_out
  rw [block0 m c x hx, block1 m c g hg, block2 m c t ht]
  idx_vars j
  exact pay_loss _ _ _ _ _ _

/-- The first point starts the gain's gradient from zero. -/
theorem dg_first (n : Fin cfg0.N) (h : n.val % 32 = 0) (j : S1x1024.Idx) :
    (outsAt0 m c n.val n.isLt).2.2 j = 0 + (dgAt x t g n (j 1) : EReal) := by
  rw [outsAt0_A m c n h]
  frame_out
  rw [block0 m c x hx, block1 m c g hg, block2 m c t ht]
  idx_vars j
  refine (pay_dg _ _ _ _ _ _).trans ?_
  pointwise [k0_pay4]
  rfl

/-- Every other point adds its block's part to what the point before left. -/
theorem dg_next (n : Fin cfg0.N) (h : ¬n.val % 32 = 0) (j : S1x1024.Idx) :
    (outsAt0 m c n.val n.isLt).2.2 j
      = (outsAt0 m c (n.val - 1) (Nat.lt_of_le_of_lt (Nat.sub_le _ _) n.isLt)).2.2 j + (dgAt x t g n (j 1) : EReal) := by
  rw [outsAt0_B m c n h]
  frame_out
  rw [block0 m c x hx, block1 m c g hg, block2 m c t ht]
  idx_vars j
  exact pay_dg _ _ _ _ _ _

/-- The array of the loss after the run: the blocks' losses summed over the grid. -/
theorem loss_eq : (dats m 0 c).arrAt 4 (cfgs 0).N = LossSpec.outLoss x t g := by
  refine (dats m 0 c).arrAt_eq_of_after_last 4 last (by decide +kernel) _ fun j => ?_
  blk_simp
  revert j
  change ∀ j : S1x128.Idx, _
  intro j
  rw [after0_4, Pipeline.eq_sum_fin_of_reset_step_apply_last (fun n h => (outsAt0 m c n h).2.1) 32 (fun _ => 0)
    (fun n _ => (lossAt x t g n : EReal)) (loss_first m c x t g hx hg ht) (loss_next m c x t g hx hg ht)
    (le_of_eq N_0) last N_0.symm j, zero_add, sum_coe]
  refine congrArg _ ?_
  unfold lossAt
  rw [← Finset.mul_sum]
  refine congrArg _ ?_
  exact Fin.sum_mul_add_congr fun n r hl => rfl

/-- The array of the gain's gradient after the run: the blocks' parts summed over the grid. -/
theorem dg_eq : (dats m 0 c).arrAt 5 (cfgs 0).N = LossSpec.outDg x t g := by
  refine (dats m 0 c).arrAt_eq_of_after_last 5 last (by decide +kernel) _ fun j => ?_
  blk_simp
  revert j
  change ∀ j : S1x1024.Idx, _
  intro j
  rw [after0_5, Pipeline.eq_sum_fin_of_reset_step_apply_last (fun n h => (outsAt0 m c n h).2.2) 32 (fun _ => 0)
    (fun n j => (dgAt x t g n (j 1) : EReal)) (dg_first m c x t g hx hg ht) (dg_next m c x t g hx hg ht)
    (le_of_eq N_0) last N_0.symm j, zero_add, sum_coe]
  refine congrArg _ ?_
  unfold dgAt
  exact Fin.sum_mul_add_congr fun n r hl => rfl

omit hx hg ht in
/-- The kernel's run on finite inputs: the three results and the unchanged arguments. -/
theorem run_real (ρ : Dev nD → PrngReg) (x t : Dev nD → S16384x1024.Idx → ℝ) (g : Dev nD → S1024.Idx → ℝ)
    (hx : ∀ c : Dev nD, m ((c.tc : Thread nD τ).loc main_arg0) = fun i => (x c i : EReal))
    (hg : ∀ c : Dev nD, m ((c.tc : Thread nD τ).loc main_arg1) = fun i => (g c i : EReal))
    (ht : ∀ c : Dev nD, m ((c.tc : Thread nD τ).loc main_arg2) = fun i => (t c i : EReal)) :
    θ_run (defs (F := Ideal)) (onTc (τ := τ) (main (F := Ideal))) ⟨m, fun _ => 0, ρ⟩ fun r => ∀ c : Dev nD,
      r.2.mem ((c.tc : Thread nD τ).loc main_v1_0) = LossSpec.outDx (x c) (t c) (g c)
      ∧ r.2.mem ((c.tc : Thread nD τ).loc main_v1_1) = LossSpec.outLoss (x c) (t c) (g c)
      ∧ r.2.mem ((c.tc : Thread nD τ).loc main_v1_2) = LossSpec.outDg (x c) (t c) (g c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (run_blocks m ρ)
  obtain ⟨h0, h1, h2, ha⟩ := h c
  exact ⟨h0.trans (dx_eq m c (x c) (t c) (g c) (hx c) (hg c) (ht c)),
    h1.trans (loss_eq m c (x c) (t c) (g c) (hx c) (hg c) (ht c)),
    h2.trans (dg_eq m c (x c) (t c) (g c) (hx c) (hg c) (ht c)), ha⟩

end Cert.LossIdeal.Value
end
-- ==== Proof.LossPair.lean ====
module
public import proofs.«01_k».proof.Defs
public import proofs.«01_k».proof.Proof.Gen.Pre_loss_pre
public import proofs.«01_k».proof.Proof.LossRef
public import proofs.«01_k».proof.Proof.LossKer

@[expose] public section

noncomputable section

namespace Cert.LossPair
open Idealize.ShloMosaic Idealize.ShloMosaic.TcCoe Idealize.SL.Sem Cert.Finite

/-- Where the precondition holds, the three arguments are arrays of real numbers. -/
theorem reals (X T : FVec Ideal Cert.Pre_loss_pre.S16384x1024 .f32) (G : FVec Ideal Cert.Pre_loss_pre.S1024 .f32)
    (h : (Cert.Pre_loss_pre.fn (F := Ideal) X G T).1 = (fun _ => 1#1) ∧ (Cert.Pre_loss_pre.fn (F := Ideal) X G T).2.1 = (fun _ => 1#1)
      ∧ (Cert.Pre_loss_pre.fn (F := Ideal) X G T).2.2 = (fun _ => 1#1)) :
    (∃ x : Cert.Pre_loss_pre.S16384x1024.Idx → ℝ, X = fun i => (x i : EReal))
    ∧ (∃ g : Cert.Pre_loss_pre.S1024.Idx → ℝ, G = fun i => (g i : EReal))
    ∧ ∃ t : Cert.Pre_loss_pre.S16384x1024.Idx → ℝ, T = fun i => (t i : EReal) :=
  ⟨reals_of_mask X _ (fun _ => ofBits_inf) h.1, reals_of_mask G _ (fun _ => ofBits_inf) h.2.1,
    reals_of_mask T _ (fun _ => ofBits_inf) h.2.2⟩

/-- The reference runs to its end, leaves its arguments as they were and every semaphore at zero. -/
theorem frame_ref : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run m ρ)

/-- The last normalisation, the loss and their backward pass: kernel and reference compute the same three arrays. -/
theorem algebraic : Cert.algebraic_LossIdeal_LossRefIdeal_pre_loss_pre := by
  intro m ρ m' ρ' hp ha
  choose hx hg ht using fun c => reals _ _ _ (hp c)
  choose x hx using hx
  choose g hg using hg
  choose t ht using ht
  exact ⟨fun c => LossSpec.outDx (x c) (t c) (g c), fun c => LossSpec.outLoss (x c) (t c) (g c), fun c => LossSpec.outDg (x c) (t c) (g c),
    Cert.LossIdeal.Value.run_real m ρ x t g hx hg ht,
    Cert.LossRefIdeal.Value.run_real m' ρ' x t g (fun c => (ha c).1.trans (hx c)) (fun c => (ha c).2.1.trans (hg c))
      (fun c => (ha c).2.2.trans (ht c))⟩

end Cert.LossPair
end
-- ==== Proof.DwguKer.lean ====
module
public import proofs.«01_k».proof.Proof.Gen.DwguIdeal.Value
public import Idealize.ShloMosaic.Lib.Pipeline.ValueKit
public import Idealize.ShloMosaic.Lib.Pipeline.ReadBack
public import Idealize.ShloMosaic.Lib.StableHlo.RunRead

/-! The gradient of the gate's and the up product's weight: a product over all the rows, which the kernel adds up eight
    blocks of rows by eight. -/

@[expose] public section

set_option maxRecDepth 16384

noncomputable section

namespace Cert.DwguIdeal.Value
open Cert.DwguIdeal Cert.DwguIdeal.Gen Idealize.ShloMosaic Idealize.ShloMosaic.TcCoe Idealize.SL.Sem
open Idealize.ShloMosaic.StableHlo

/-- Row `r` of the `k`-th block of rows. -/
def row (k : ℕ) (r : Fin 2048) : Fin 16384 := ⟨(k * 2048 + r.val) % 16384, Nat.mod_lt _ (by decide)⟩
/-- Column `e` of the `j`-th block of columns. -/
def col (j : ℕ) (e : Fin 1408) : Fin 5632 := ⟨(j * 1408 + e.val) % 5632, Nat.mod_lt _ (by decide)⟩

/-- The transpose of the first array times the second. -/
def prod (A : S16384x1024.Idx → EReal) (B : S16384x5632.Idx → EReal) : S1024x5632.Idx → EReal := fun i => ∑ n, A (ix2 n (i 0)) * B (ix2 n (i 1))
/-- The rows of one block in that product. -/
def part (A : S16384x1024.Idx → EReal) (B : S16384x5632.Idx → EReal) (k : ℕ) (a : Fin 1024) (b : Fin 5632) : EReal :=
  ∑ r, A (ix2 (row k r) a) * B (ix2 (row k r) b)

theorem part_all (A : S16384x1024.Idx → EReal) (B : S16384x5632.Idx → EReal) (a : Fin 1024) (b : Fin 5632) :
    ∑ k ∈ Finset.range 8, part A B k a b = prod A B (ix2 a b) := by
  rw [Finset.sum_range]
  unfold part prod
  refine Fin.sum_mul_add_congr fun k r hl => ?_
  have hk : row k.val r = (⟨k.val * 2048 + r.val, hl⟩ : Fin 16384) := Fin.ext (Nat.mod_eq_of_lt hl)
  rw [hk]
  rfl

variable (m : (ℓ : Loc nD τ sig) → Buf (Elt Ideal) ℓ) (c : Dev nD)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)
theorem row_val (n : Fin cfg0.N) (r : Fin 2048) : (row (n.val % 8) r).val = n.val % 8 * 2048 + r.val := Nat.mod_eq_of_lt (by omega)
theorem col_val (n : Fin cfg0.N) (e : Fin 1408) : (col (n.val / 8) e).val = n.val / 8 * 1408 + e.val := by
  have := lt_of_lt_of_eq n.isLt N_0
  exact Nat.mod_eq_of_lt (by omega)
theorem emb0 (n : Fin cfg0.N) (r : Fin 2048) (d : Fin 1024) : (win0_0.blk n).view.emb (ix2 r d) = ix2 (row (n.val % 8) r) d := by
  have e := row_val n r
  blk_ext [idx n, e]
theorem emb1 (n : Fin cfg0.N) (r : Fin 2048) (d : Fin 1408) : (win0_1.blk n).view.emb (ix2 r d) = ix2 (row (n.val % 8) r) (col (n.val / 8) d) := by
  have e := row_val n r
  have e' := col_val n d
  blk_ext [idx n, e, e']
theorem emb2 (n : Fin cfg0.N) (a : Fin 1024) (d : Fin 1408) : (win0_2.blk n).view.emb (ix2 a d) = ix2 a (col (n.val / 8) d) := by
  have e := col_val n d
  blk_ext [idx n, e]

/-! ## The blocks -/

theorem read0 (f : (b : Ref sig .tc) → Buf (Elt Ideal) ((c : Thread nD τ).loc b)) (t : Fin cfg0.N) (z : S2048x1024.Idx) :
    (((cfg0.win 0).blk t).view.read (Elt Ideal) (f (Pipeline.arrRef spec0 0)) : S2048x1024.Idx → EReal) z = (f main_v21 : S16384x1024.Idx → EReal) ((win0_0.blk t).view.emb z) := rfl
theorem read1 (f : (b : Ref sig .tc) → Buf (Elt Ideal) ((c : Thread nD τ).loc b)) (t : Fin cfg0.N) (z : S2048x1408.Idx) :
    (((cfg0.win 1).blk t).view.read (Elt Ideal) (f (Pipeline.arrRef spec0 1)) : S2048x1408.Idx → EReal) z = (f main_v22 : S16384x5632.Idx → EReal) ((win0_1.blk t).view.emb z) := rfl

/-- The rows' norm, scaled and shifted: the product's left factor. -/
def hid (x : FVec Ideal S16384x1024 .f32) (g s b : FVec Ideal S1024 .f32) : FVec Ideal S16384x1024 .f32 :=
  addf (mulf (mulf (mulf x (broadcastInDim S16384x1024 ![0, 1] bcast_S16384x1_S16384x1024_0_1 (Host.rsqrt (addf (Host.divf (broadcastInDim S16384x1 ![0] bcast_S16384_S16384x1_0
      (Host.reduceAdd (mulf x x) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 (addf (broadcastInDim S1024 ![] bcast_S_S1024 (constant S_ .f32 0x3F800000#32)) s))))
    (broadcastInDim S16384x1024 ![0, 1] bcast_S1x1024_S16384x1024_0_1 (broadcastInDim S1x1024 ![1] bcast_S1024_S1x1024_1 b))

/-- The two factors on a device. -/
abbrev hA : S16384x1024.Idx → EReal := hid (m ((c.tc : Thread nD τ).loc main_arg0)) (m ((c.tc : Thread nD τ).loc main_arg1)) (m ((c.tc : Thread nD τ).loc main_arg2)) (m ((c.tc : Thread nD τ).loc main_arg3))
@[inherit_doc hA] abbrev dA : S16384x5632.Idx → EReal := (m ((c.tc : Thread nD τ).loc main_arg4) : S16384x5632.Idx → EReal)

theorem V_21 : (V m c main_v21 : S16384x1024.Idx → EReal) = hA m c := by
  after_reads_simp
  rfl
theorem V_22 : (V m c main_v22 : S16384x5632.Idx → EReal) = dA m c := by
  after_reads_simp
  rfl

theorem block0 (n : Fin cfg0.N) : iblk m c 0 n = fun y : S2048x1024.Idx => hA m c (ix2 (row (n.val % 8) (y 0)) (y 1)) := by
  change (_ : S2048x1024.Idx → EReal) = _
  funext y
  idx_vars y
  refine (read0 c (V m c) n _).trans ?_
  rw [emb0, V_21]
theorem block1 (n : Fin cfg0.N) : iblk m c 1 n = fun y : S2048x1408.Idx => dA m c (ix2 (row (n.val % 8) (y 0)) (col (n.val / 8) (y 1))) := by
  change (_ : S2048x1408.Idx → EReal) = _
  funext y
  idx_vars y
  refine (read1 c (V m c) n _).trans ?_
  rw [emb1, V_22]

/-! ## The running sum -/

/-- The running sum's change at a point. -/
theorem step_eq (s : S1024x1408.Idx → EReal) (a : S2048x1024.Idx → EReal) (b : S2048x1408.Idx → EReal) :
    (k0_pay2 (F := Ideal) s a b : S1024x1408.Idx → EReal) = fun i => s i + ∑ r : Fin 2048, a (ix2 r (i 0)) * b (ix2 r (i 1)) := by
  funext i
  idx_vars i
  unfold k0_pay2
  pointwise

theorem step_A (n : Fin cfg0.N) (h0 : n.val % 8 = 0) (h1 : ¬n.val % 8 = 7) :
    (outsAt0 m c n n.isLt).2 = k0_pay2 (F := Ideal) (k0_pay1 (F := Ideal)) (iblk m c 0 n) (iblk m c 1 n) := by
  rw [outsAt0_A m c n h0 h1]
  frame_out

/-- The running sum the point before left. -/
abbrev old (n : Fin cfg0.N) : FVec Ideal S1024x1408 .f32 := (outsAt0 m c (n.val - 1) (Nat.lt_of_le_of_lt (Nat.sub_le _ _) n.isLt)).2

theorem step_B (n : Fin cfg0.N) (h0 : ¬n.val % 8 = 0) (h1 : ¬n.val % 8 = 7) :
    (outsAt0 m c n n.isLt).2 = k0_pay2 (F := Ideal) (old m c n) (iblk m c 0 n) (iblk m c 1 n) := by
  rw [outsAt0_B m c n h0 h1]
  frame_out
  simp only [read_unread_whole]

theorem out_C (n : Fin cfg0.N) (h0 : ¬n.val % 8 = 0) (h1 : n.val % 8 = 7) :
    (outsAt0 m c n n.isLt).1 = k0_pay3 (F := Ideal) (k0_pay2 (F := Ideal) (old m c n) (iblk m c 0 n) (iblk m c 1 n)) := by
  rw [outsAt0_C m c n h0 h1]
  frame_out
  simp only [read_unread_whole]

/-- The blocks of rows so far. -/
abbrev upTo (j k : ℕ) : S1024x1408.Idx → EReal := fun i => ∑ q ∈ Finset.range k, part (hA m c) (dA m c) q (i 0) (col j (i 1))

/-- One more block of rows. -/
theorem next (n : Fin cfg0.N) (s : S1024x1408.Idx → EReal) (hs : s = upTo m c (n.val / 8) (n.val % 8)) :
    (k0_pay2 (F := Ideal) s (iblk m c 0 n) (iblk m c 1 n) : S1024x1408.Idx → EReal) = upTo m c (n.val / 8) (n.val % 8 + 1) := by
  rw [block0, block1, hs]
  refine (step_eq _ _ _).trans (funext fun i => ?_)
  exact (Finset.sum_range_succ _ _).symm

theorem zero_eq : (k0_pay1 (F := Ideal) : S1024x1408.Idx → EReal) = fun _ => 0 := by
  funext i
  unfold k0_pay1
  rw [shapeCast_self]
  exact Ideal.ofBits_zero .f32

theorem prev_eq (n : Fin cfg0.N) (h0 : ¬n.val % 8 = 0)
    (hp : ((outsAt0 m c (n.val - 1) (Nat.lt_of_le_of_lt (Nat.sub_le _ _) n.isLt)).2 : S1024x1408.Idx → EReal) = upTo m c ((n.val - 1) / 8) ((n.val - 1) % 8 + 1)) :
    (old m c n : S1024x1408.Idx → EReal) = upTo m c (n.val / 8) (n.val % 8) := by
  have e1 : (n.val - 1) / 8 = n.val / 8 := by omega
  have e2 : (n.val - 1) % 8 + 1 = n.val % 8 := by omega
  rw [e1, e2] at hp
  exact hp

/-- The running sum after every point but the last of a column block's. -/
theorem good : ∀ (j : ℕ) (n : Fin cfg0.N), n.val % 8 = j → j < 7 →
    ((outsAt0 m c n n.isLt).2 : S1024x1408.Idx → EReal) = upTo m c (n.val / 8) (n.val % 8 + 1) := by
  intro j
  induction j with
  | zero =>
    intro n hn _
    rw [step_A m c n hn (by omega)]
    refine next m c n _ (zero_eq.trans ?_)
    rw [hn]
    rfl
  | succ j ih =>
    intro n hn hj
    rw [step_B m c n (by omega) (by omega)]
    exact next m c n _ (prev_eq m c n (by omega) (ih ⟨n.val - 1, Nat.lt_of_le_of_lt (Nat.sub_le _ _) n.isLt⟩ (by show (n.val - 1) % 8 = j; omega) (by omega)))

theorem out_at (n : Fin cfg0.N) (h1 : n.val % 8 = 7) (a : Fin 1024) (b : Fin 1408) :
    ((outsAt0 m c n n.isLt).1 : S1024x1408.Idx → EReal) (ix2 a b) = prod (hA m c) (dA m c) (ix2 a (col (n.val / 8) b)) := by
  rw [out_C m c n (by omega) h1]
  have e := next m c n _ (prev_eq m c n (by omega) (good m c 6 ⟨n.val - 1, Nat.lt_of_le_of_lt (Nat.sub_le _ _) n.isLt⟩ (by show (n.val - 1) % 8 = 6; omega) (by decide)))
  refine (congrFun e (ix2 a b)).trans ?_
  rw [h1]
  exact part_all (hA m c) (dA m c) a (col (n.val / 8) b)

/-- The array of the product after the run. -/
theorem final : (dats m 0 c).arrAt 2 cfg0.N = prod (hA m c) (dA m c) := by
  refine (dats m 0 c).arrAt_eq_of_covers 2 _ (by decide +kernel) fun t hf y => ?_
  have ht := (flush0_2 t).mp hf
  blk_simp
  rw [after0_2]
  revert y
  change ∀ y : S1024x1408.Idx, _
  intro y
  idx_vars y
  refine (out_at m c t ht y0 y1).trans ?_
  refine Eq.trans (b := prod (hA m c) (dA m c) (ix2 y0 (col (t.val / 8) y1) : S1024x5632.Idx)) rfl ?_
  exact congrArg (prod (hA m c) (dA m c)) (emb2 t y0 y1).symm

end Cert.DwguIdeal.Value
end
-- ==== Proof.DwguPair.lean ====
module
public import proofs.«01_k».proof.Defs
public import proofs.«01_k».proof.Proof.DwguKer
public import proofs.«01_k».proof.Proof.Gen.DwguRefIdeal.Run

/-! The gradient of the gate's and the up product's weight: the reference's frame, and kernel and reference computing the same array. -/

@[expose] public section

set_option maxRecDepth 16384

noncomputable section

namespace Cert.DwguPair
open Idealize.ShloMosaic Idealize.ShloMosaic.TcCoe Idealize.SL.Sem
open Cert.DwguIdeal.Value (prod hid)

/-- The reference runs to its end, leaves its arguments as they were and every semaphore at zero. -/
theorem frame_ref : Cert.quiescent_DwguRefIdeal := fun m ρ _ =>
  (θ_run Cert.DwguRefIdeal.defs _ _).mono (fun r h => ⟨fun c => (h c).2, sem_eq_zero_of_no_sems (by decide) r.2⟩)
    (Cert.DwguRefIdeal.Value.run m ρ)

section ref
open Cert.DwguRefIdeal Cert.DwguRefIdeal.Gen

/-- The reference's last lines: the cotangent's transpose times the left factor, transposed. -/
def prodV (A : FVec Ideal S16384x1024 .f32) (B : FVec Ideal S16384x5632 .f32) : FVec Ideal S1024x5632 .bf16 :=
  truncf .bf16 (transpose S1024x5632 [1, 0] (Host.dotGeneral dot_S16384x5632_S16384x1024_S5632x1024_0_0_1_1_n_n none B A : FVec Ideal S5632x1024 .f32)
    transposes_S5632x1024_S1024x5632_1_0) bitsLt_bf16_f32

theorem prodV_eq (A : FVec Ideal S16384x1024 .f32) (B : FVec Ideal S16384x5632 .f32) : prodV A B = prod A B := by
  change (_ : S1024x5632.Idx → EReal) = _
  funext i
  idx_vars i
  unfold prodV
  pointwise
  exact Finset.sum_congr rfl fun n _ => mul_comm _ _

/-- The reference's run: its result from the two factors, and the unchanged arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = prod (hid (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r h c => ?_) (Value.run m ρ)
  refine ⟨(h c).1.trans ?_, (h c).2⟩
  exact prodV_eq (hid (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg4))
end ref

/-- The weight's gradient: kernel and reference compute the same array. -/
theorem algebraic : Cert.algebraic_DwguIdeal_DwguRefIdeal := by
  intro m ρ m' ρ' _ ha
  refine ⟨fun c => prod (Cert.DwguIdeal.Value.hA m c) (Cert.DwguIdeal.Value.dA m c), (θ_run (Cert.DwguIdeal.defs (F := Ideal)) _ _).mono (fun r h c => ?_) (Cert.DwguIdeal.Value.run_blocks m ρ),
    (θ_run (Cert.DwguRefIdeal.defs (F := Ideal)) _ _).mono (fun r h c => ?_) (ref_run m' ρ')⟩
  · exact ⟨(h c).1.trans (Cert.DwguIdeal.Value.final m c), (h c).2⟩
  · refine ⟨(h c).1.trans ?_, (h c).2⟩
    rw [(ha c).1, (ha c).2.1, (ha c).2.2.1, (ha c).2.2.2.1, (ha c).2.2.2.2]

end Cert.DwguPair
end
-- ==== Proof.NormSpec.lean ====
module
public import proofs.«01_k».proof.Proof.Finite

/-! The backward pass of a normalisation `h = xhat · g · (1 + s) + shift`, `xhat = x / rms(x)`, on real rows of 1024 numbers:
    what one row adds to each of the four gradients, and the four arrays these make. -/

@[expose] public section
noncomputable section
namespace Cert.NormSpec
open Cert.Finite Idealize.ShloMosaic

/-- An array of real numbers, seen as an array of extended reals. -/
def up {S : Shape} (x : S.Idx → ℝ) : S.Idx → EReal := fun i => ((x i : ℝ) : EReal)

variable (u γ σ δ : Fin 1024 → ℝ)

/-- A row's part of the gradient of the scale. -/
def dsc (k : Fin 1024) : ℝ := δ k * (u k * rms u * γ k)
/-- A row's part of the gradient of the gain. -/
def dg (k : Fin 1024) : ℝ := δ k * (1 + σ k) * (u k * rms u)
/-- The gradient of a row through the normalisation. -/
def dx (j : Fin 1024) : ℝ :=
  rms u * (δ j * (1 + σ j) * γ j - u j * rms u * ((∑ k, δ k * (1 + σ k) * γ k * (u k * rms u)) / 1024))

/-! ## The four results -/

variable (x d : Shape.Idx ⟨2, ![16384, 1024]⟩ → ℝ) (g s : Shape.Idx ⟨1, ![1024]⟩ → ℝ) (res : Shape.Idx ⟨2, ![16384, 1024]⟩ → EReal)

/-- The gradient of the activations, to which the gradient that passes the block by is added. -/
def outDx : Shape.Idx ⟨2, ![16384, 1024]⟩ → EReal :=
  fun i => res i + (dx (fun k => x (ix2 (i 0) k)) (fun k => g (ix1 k)) (fun k => s (ix1 k)) (fun k => d (ix2 (i 0) k)) (i 1) : ℝ)

/-- The gradient of the gain. -/
def outDg : Shape.Idx ⟨2, ![1, 1024]⟩ → EReal :=
  fun i => (∑ r : Fin 16384, dg (fun k => x (ix2 r k)) (fun k => s (ix1 k)) (fun k => d (ix2 r k)) (i 1) : ℝ)

/-- The gradient of the scale. -/
def outDsc : Shape.Idx ⟨2, ![1, 1024]⟩ → EReal :=
  fun i => (∑ r : Fin 16384, dsc (fun k => x (ix2 r k)) (fun k => g (ix1 k)) (fun k => d (ix2 r k)) (i 1) : ℝ)

/-- The gradient of the shift. -/
def outDsh : Shape.Idx ⟨2, ![1, 1024]⟩ → EReal :=
  fun i => (∑ r : Fin 16384, d (ix2 r (i 1)) : ℝ)

/-- The gradient of a product `h · w` with respect to `h`. -/
def prod {K : ℕ} (dy : Shape.Idx ⟨2, ![16384, K]⟩ → ℝ) (w : Shape.Idx ⟨2, ![1024, K]⟩ → ℝ) : Shape.Idx ⟨2, ![16384, 1024]⟩ → ℝ :=
  fun i => ∑ k : Fin K, dy (ix2 (i 0) k) * w (ix2 (i 1) k)

end Cert.NormSpec
end
-- ==== Proof.GroupSpec.lean ====
module
public import proofs.«01_k».proof.Proof.NormSpec

/-! The backward pass of the three group norms that stand before the output product, on real rows: what a row passes back
    and what it adds to the gradient of the gain, for a row of any length. -/

@[expose] public section
noncomputable section
namespace Cert.GroupSpec
open Cert.Finite Idealize.ShloMosaic

section rows
variable {n : ℕ} (c : ℝ) (u γ δ : Fin n → ℝ)

/-- A row's mean square over its length `c`, kept away from zero. -/
def ms : ℝ := (∑ k, u k * u k) / c + eps
/-- The reciprocal of a row's root mean square. -/
def rms : ℝ := (Real.sqrt (ms c u))⁻¹
/-- The gradient of a row through its norm. -/
def dy (j : Fin n) : ℝ := rms c u * (δ j * γ j - u j * rms c u * ((∑ k, δ k * γ k * (u k * rms c u)) / c))
/-- A row's part of the gradient of the gain. -/
def dg (j : Fin n) : ℝ := δ j * (u j * rms c u)
/-- The factor with which a row enters its own gradient through the mean square. -/
def co : ℝ := (∑ k, u k * (δ k * γ k)) * (-(1 / 2) * (rms c u * rms c u * rms c u)) / c

variable {c} (hc : 0 < c)
include hc

/-- The kept-away mean square is positive. -/
theorem ms_pos : 0 < ms c u :=
  add_pos_of_nonneg_of_pos (div_nonneg (Finset.sum_nonneg fun k _ => mul_self_nonneg (u k)) hc.le) ofBits_eps.2

/-- The reciprocal square root of the mean square. -/
theorem rsqrt_ms : Ideal.rsqrt (((∑ k, u k * u k) / c + eps : ℝ) : EReal) = (rms c u : EReal) := rsqrt_real (ms_pos u hc)

/-- `1/√M` divided by `M` is the cube of `1/√M`. -/
theorem rms_div_ms : rms c u / ms c u = rms c u * rms c u * rms c u := by
  have h := ms_pos u hc
  have h2 : rms c u * rms c u = (ms c u)⁻¹ := by
    unfold rms; rw [← mul_inv, Real.mul_self_sqrt h.le]
  rw [h2]; field_simp

omit hc in
/-- The two ways to write a row's gradient. -/
theorem dy_split (j : Fin n) : δ j * γ j * rms c u + (u j * co c u γ δ + co c u γ δ * u j) = dy c u γ δ j := by
  unfold dy co
  have hs : (∑ k, δ k * γ k * (u k * rms c u)) = (∑ k, u k * (δ k * γ k)) * rms c u := by
    rw [Finset.sum_mul]
    exact Finset.sum_congr rfl fun k _ => by ring
  rw [hs]
  ring

end rows

/-- The literal `256`. -/
theorem ofBits_256 : Ideal.ofBits .f32 0x43800000#32 = ((256 : ℝ) : EReal) := by
  simp [Ideal.ofBits, Ideal.ieee, -EReal.coe_mul]; norm_num
/-- The literal `384`. -/
theorem ofBits_384 : Ideal.ofBits .f32 0x43C00000#32 = ((384 : ℝ) : EReal) := by
  simp [Ideal.ofBits, Ideal.ieee, -EReal.coe_mul]; norm_num
/-- Division by the literal `256`. -/
theorem div_256 (x : ℝ) : Ideal.div (x : EReal) ((256 : ℝ) : EReal) = ((x / 256 : ℝ) : EReal) := div_real x (by norm_num)
/-- Division by the literal `384`. -/
theorem div_384 (x : ℝ) : Ideal.div (x : EReal) ((384 : ℝ) : EReal) = ((x / 384 : ℝ) : EReal) := div_real x (by norm_num)

/-! ## The columns of the three groups -/

/-- The columns of the first group. -/
def colA (k : Fin 256) : Fin 1024 := ⟨k.val, by omega⟩
/-- The columns of the second group. -/
def colB (k : Fin 384) : Fin 1024 := ⟨256 + k.val, by omega⟩
/-- The columns of the third group. -/
def colC (k : Fin 384) : Fin 1024 := ⟨640 + k.val, by omega⟩

/-- Three pieces of a row, one after the other. -/
def join {α : Type} (a : Fin 256 → α) (b e : Fin 384 → α) (j : Fin 1024) : α :=
  if h : j.val < 256 then a ⟨j.val, h⟩ else if h' : j.val < 640 then b ⟨j.val - 256, by omega⟩ else e ⟨j.val - 640, by omega⟩

/-- A function of the pieces' elements, applied to the whole row. -/
theorem join_map {α β : Type} (f : α → β) (a : Fin 256 → α) (b e : Fin 384 → α) (j : Fin 1024) :
    join (fun k => f (a k)) (fun k => f (b k)) (fun k => f (e k)) j = f (join a b e j) := by
  unfold join
  split_ifs <;> rfl

/-- A row plus three pieces. -/
theorem join_add (v : Fin 1024 → EReal) (a : Fin 256 → ℝ) (b e : Fin 384 → ℝ) (j : Fin 1024) :
    join (fun k => v (colA k) + (a k : EReal)) (fun k => v (colB k) + (b k : EReal)) (fun k => v (colC k) + (e k : EReal)) j
      = v j + ((join a b e j : ℝ) : EReal) := by
  unfold join
  split_ifs with h h'
  · rfl
  · have q : colB ⟨j.val - 256, by omega⟩ = j := Fin.ext (by show 256 + (j.val - 256) = j.val; omega)
    exact congrArg (fun k => v k + _) q
  · have q : colC ⟨j.val - 640, by omega⟩ = j := Fin.ext (by show 640 + (j.val - 640) = j.val; omega)
    exact congrArg (fun k => v k + _) q

/-- A sum of joined rows. -/
theorem join_sum {ι : Type} (s : Finset ι) (a : ι → Fin 256 → ℝ) (b e : ι → Fin 384 → ℝ) (j : Fin 1024) :
    ∑ r ∈ s, join (a r) (b r) (e r) j = join (fun k => ∑ r ∈ s, a r k) (fun k => ∑ r ∈ s, b r k) (fun k => ∑ r ∈ s, e r k) j := by
  unfold join
  split_ifs <;> rfl

/-! ## The six results -/

variable (a : Shape.Idx ⟨2, ![16384, 256]⟩ → ℝ) (b e : Shape.Idx ⟨2, ![16384, 384]⟩ → ℝ) (g t : Shape.Idx ⟨1, ![1024]⟩ → ℝ)
  (w : Shape.Idx ⟨2, ![1024, 1024]⟩ → ℝ) (d δ : Shape.Idx ⟨2, ![16384, 1024]⟩ → ℝ) (A : Shape.Idx ⟨2, ![16384, 1024]⟩ → EReal)

/-- The gradient of the output product's result: the cotangent times the residual's gate. -/
def dao : Shape.Idx ⟨2, ![16384, 1024]⟩ → ℝ := fun i => d i * t (ix1 (i 1))
/-- The gradient of the joined groups. -/
def dn : Shape.Idx ⟨2, ![16384, 1024]⟩ → ℝ := NormSpec.prod (dao t d) w
/-- The gradient of the first group. -/
def dya : Shape.Idx ⟨2, ![16384, 256]⟩ → ℝ :=
  fun i => dy 256 (fun k => a (ix2 (i 0) k)) (fun k => g (ix1 (colA k))) (fun k => δ (ix2 (i 0) (colA k))) (i 1)
/-- The gradient of the second group. -/
def dyb : Shape.Idx ⟨2, ![16384, 384]⟩ → ℝ :=
  fun i => dy 384 (fun k => b (ix2 (i 0) k)) (fun k => g (ix1 (colB k))) (fun k => δ (ix2 (i 0) (colB k))) (i 1)
/-- The gradient of the third group. -/
def dyc : Shape.Idx ⟨2, ![16384, 384]⟩ → ℝ :=
  fun i => dy 384 (fun k => e (ix2 (i 0) k)) (fun k => g (ix1 (colC k))) (fun k => δ (ix2 (i 0) (colC k))) (i 1)
/-- A row's part of the gradient of the gains. -/
def dgRow (r : Fin 16384) : Fin 1024 → ℝ :=
  join (dg 256 (fun k => a (ix2 r k)) (fun k => δ (ix2 r (colA k)))) (dg 384 (fun k => b (ix2 r k)) (fun k => δ (ix2 r (colB k))))
    (dg 384 (fun k => e (ix2 r k)) (fun k => δ (ix2 r (colC k))))
/-- The gradient of the gains. -/
def dgg : Shape.Idx ⟨2, ![1, 1024]⟩ → ℝ := fun i => ∑ r : Fin 16384, dgRow a b e δ r (i 1)
/-- The gradient of the residual's gate, from the output product's result `A`. -/
def dgt : Shape.Idx ⟨2, ![1, 1024]⟩ → EReal := fun i => ∑ r : Fin 16384, (d (ix2 r (i 1)) : EReal) * A (ix2 r (i 1))

end Cert.GroupSpec
end
-- ==== Proof.DprojSpec.lean ====
module
public import proofs.«01_k».proof.Proof.GroupSpec

/-! The backward pass of the rotary positions and of the norms of queries and keys, on real rows. A head has 64 columns;
    128 lanes hold two heads side by side. -/

@[expose] public section
noncomputable section
namespace Cert.DprojSpec
open Cert.Finite Idealize.ShloMosaic GroupSpec

/-- The literal `64`. -/
theorem ofBits_64 : Ideal.ofBits .f32 0x42800000#32 = ((64 : ℝ) : EReal) := by
  simp [Ideal.ofBits, Ideal.ieee, -EReal.coe_mul]; norm_num
/-- The literal `1/64`. -/
theorem ofBits_64inv : Ideal.ofBits .f32 0x3C800000#32 = ((1 / 64 : ℝ) : EReal) := by
  simp [Ideal.ofBits, Ideal.ieee, -EReal.coe_mul]; norm_num
/-- Division by the literal `64`. -/
theorem div_64 (x : ℝ) : Ideal.div (x : EReal) ((64 : ℝ) : EReal) = ((x / 64 : ℝ) : EReal) := div_real x (by norm_num)

/-! ## The angles -/

/-- The frequency of a pair of columns. -/
def freq (k : Fin 16) : ℝ := Real.rpow 10000 (-(2 * (k.val : ℝ)) / 32)
/-- The row (axis 0) or column (axis 1) of a token on the grid, 64 tokens to a row. -/
def pos (s : Fin 16384) (a : Fin 2) : ℝ := if a.val = 0 then ((s.val / 64 : ℕ) : ℝ) else ((s.val % 64 : ℕ) : ℝ)
/-- The cosine of a token's angle, -/
def cosT (s : Fin 16384) (a : Fin 2) (k : Fin 16) : ℝ := Real.cos (pos s a * freq k)
/-- and its sine. -/
def sinT (s : Fin 16384) (a : Fin 2) (k : Fin 16) : ℝ := Real.sin (pos s a * freq k)

/-- The axis of a head's column. -/
def ax (k : Fin 64) : Fin 2 := ⟨k.val / 32, by omega⟩
/-- The pair of a head's column. -/
def fr (k : Fin 64) : Fin 16 := ⟨k.val % 16, by omega⟩

/-- The rotation undone: the cotangent of a head before the rotary positions. -/
def rot (s : Fin 16384) (δ : Fin 64 → ℝ) (k : Fin 64) : ℝ :=
  if h : k.val % 32 < 16 then δ k * cosT s (ax k) (fr k) + δ ⟨k.val + 16, by omega⟩ * sinT s (ax k) (fr k)
  else δ k * cosT s (ax k) (fr k) - δ ⟨k.val - 16, by omega⟩ * sinT s (ax k) (fr k)

/-! ## Two heads in 128 lanes -/

/-- The head a lane belongs to. -/
def half {α : Type} (u : Fin 128 → α) (l : Fin 128) (k : Fin 64) : α := u ⟨64 * (l.val / 64) + k.val, by omega⟩
/-- A lane's place in its head. -/
def pl (l : Fin 128) : Fin 64 := ⟨l.val % 64, by omega⟩

theorem half_pl {α : Type} (u : Fin 128 → α) (l : Fin 128) : half u l (pl l) = u l :=
  congrArg u (Fin.ext (by show 64 * (l.val / 64) + l.val % 64 = l.val; omega))

/-- A sum over the lower lanes is the lower head's. -/
theorem sum_low (v : Fin 128 → ℝ) : (∑ l : Fin 128, if l.val < 64 then v l else 0) = ∑ k : Fin 64, v ⟨k.val, by omega⟩ := by
  rw [show (∑ l : Fin 128, if l.val < 64 then v l else 0) = _ from Fin.sum_univ_add (a := 64) (b := 64) _]
  have h : ∑ i : Fin 64, (if (Fin.natAdd 64 i).val < 64 then v (Fin.natAdd 64 i) else 0) = 0 :=
    Finset.sum_eq_zero fun i _ => if_neg (by show ¬64 + i.val < 64; omega)
  rw [h, add_zero]
  exact Finset.sum_congr rfl fun i _ => if_pos i.isLt

/-- A sum over the upper lanes is the upper head's. -/
theorem sum_high (v : Fin 128 → ℝ) : (∑ l : Fin 128, if l.val < 64 then 0 else v l) = ∑ k : Fin 64, v ⟨64 + k.val, by omega⟩ := by
  rw [show (∑ l : Fin 128, if l.val < 64 then 0 else v l) = _ from Fin.sum_univ_add (a := 64) (b := 64) _]
  have h : ∑ i : Fin 64, (if (Fin.castAdd 64 i).val < 64 then 0 else v (Fin.castAdd 64 i)) = 0 :=
    Finset.sum_eq_zero fun i _ => if_pos i.isLt
  rw [h, zero_add]
  exact Finset.sum_congr rfl fun i _ => if_neg (by show ¬64 + i.val < 64; omega)

/-- The masked sums select the sum over a lane's head. -/
theorem sum_half (v : Fin 128 → ℝ) (l : Fin 128) :
    (if l.val < 64 then ∑ j : Fin 128, (if j.val < 64 then v j else 0) else ∑ j : Fin 128, (if j.val < 64 then 0 else v j))
      = ∑ k : Fin 64, half v l k := by
  split_ifs with h
  · rw [sum_low]
    exact Finset.sum_congr rfl fun k _ => congrArg v (Fin.ext (by show k.val = 64 * (l.val / 64) + k.val; omega))
  · rw [sum_high]
    exact Finset.sum_congr rfl fun k _ => congrArg v (Fin.ext (by show 64 + k.val = 64 * (l.val / 64) + k.val; omega))

/-- A lane's cosine. -/
def cosL (s : Fin 16384) (l : Fin 128) : ℝ := cosT s (ax (pl l)) (fr (pl l))
/-- A lane's sine, negated, in the first half of each axis, and zero in the second. -/
def sinA (s : Fin 16384) (l : Fin 128) : ℝ := if l.val % 32 < 16 then -sinT s (ax (pl l)) (fr (pl l)) else 0
/-- A lane's sine in the second half of each axis, and zero in the first. -/
def sinB (s : Fin 16384) (l : Fin 128) : ℝ := if l.val % 32 < 16 then 0 else sinT s (ax (pl l)) (fr (pl l))

/-- The rotation undone on lanes, by shifting the products left and right by 16 lanes. -/
theorem rot_lanes (s : Fin 16384) (δ : Fin 128 → ℝ) (l m n : Fin 128) (hm : m.val = (l.val + 112) % 128) (hn : n.val = (l.val + 16) % 128) :
    δ l * cosL s l + δ m * sinA s m + δ n * sinB s n = rot s (half δ l) (pl l) := by
  unfold rot
  have hl : (pl l).val = l.val % 64 := rfl
  split_ifs with h
  · have e1 : sinA s m = 0 := if_neg (by omega)
    have e2 : sinB s n = sinT s (ax (pl n)) (fr (pl n)) := if_neg (by omega)
    have a : ax (pl n) = ax (pl l) := Fin.ext (by show n.val % 64 / 32 = l.val % 64 / 32; omega)
    have b : fr (pl n) = fr (pl l) := Fin.ext (by show n.val % 64 % 16 = l.val % 64 % 16; omega)
    have d : half δ l ⟨(pl l).val + 16, by omega⟩ = δ n :=
      congrArg δ (Fin.ext (by show 64 * (l.val / 64) + (l.val % 64 + 16) = n.val; omega))
    rw [half_pl, e1, e2, a, b, d, mul_zero, add_zero]
    rfl
  · have e1 : sinA s m = -sinT s (ax (pl m)) (fr (pl m)) := if_pos (by omega)
    have e2 : sinB s n = 0 := if_pos (by omega)
    have a : ax (pl m) = ax (pl l) := Fin.ext (by show m.val % 64 / 32 = l.val % 64 / 32; omega)
    have b : fr (pl m) = fr (pl l) := Fin.ext (by show m.val % 64 % 16 = l.val % 64 % 16; omega)
    have d : half δ l ⟨(pl l).val - 16, by omega⟩ = δ m :=
      congrArg δ (Fin.ext (by show 64 * (l.val / 64) + (l.val % 64 - 16) = m.val; omega))
    rw [half_pl, e1, e2, a, b, d, mul_zero, add_zero, mul_neg]
    rfl

/-- The gradient of a lane of queries or keys: the rotation undone, then the norm's. -/
def dLane (s : Fin 16384) (u γ δ : Fin 128 → ℝ) (l : Fin 128) : ℝ :=
  dy 64 (half u l) (half γ l) (rot s (half δ l)) (pl l)
/-- A lane's part of the gradient of the gains. -/
def gLane (s : Fin 16384) (u δ : Fin 128 → ℝ) (l : Fin 128) : ℝ :=
  dg 64 (half u l) (rot s (half δ l)) (pl l)

/-! ## The results -/

variable (P : Shape.Idx ⟨2, ![16384, 2048]⟩ → ℝ) (gq gk : Shape.Idx ⟨1, ![64]⟩ → ℝ) (dq : Shape.Idx ⟨2, ![16384, 384]⟩ → ℝ)
  (dk : Shape.Idx ⟨2, ![16384, 128]⟩ → ℝ)

/-- The lanes of two query heads. -/
def uq (p : Fin 3) (s : Fin 16384) (l : Fin 128) : ℝ := P (ix2 s ⟨1408 + (128 * p.val + l.val), by omega⟩)
/-- The lanes of the two key heads. -/
def uk (s : Fin 16384) (l : Fin 128) : ℝ := P (ix2 s ⟨1792 + l.val, by omega⟩)
/-- The cotangent's lanes of two query heads. -/
def δq (p : Fin 3) (s : Fin 16384) (l : Fin 128) : ℝ := dq (ix2 s ⟨128 * p.val + l.val, by omega⟩)
/-- The cotangent's lanes of the two key heads. -/
def δk (s : Fin 16384) (l : Fin 128) : ℝ := dk (ix2 s l)
/-- A gain on every lane. -/
def two (g : Shape.Idx ⟨1, ![64]⟩ → ℝ) (l : Fin 128) : ℝ := g (ix1 (pl l))

/-- The gradient of the queries' columns. -/
def dQ (s : Fin 16384) (j : Fin 384) : ℝ :=
  dLane s (uq P ⟨j.val / 128, by omega⟩ s) (two gq) (δq dq ⟨j.val / 128, by omega⟩ s) ⟨j.val % 128, by omega⟩
/-- The gradient of the keys' columns. -/
def dK (s : Fin 16384) (j : Fin 128) : ℝ := dLane s (uk P s) (two gk) (δk dk s) j
/-- The gradient of the queries' gains, apart for even and odd heads. -/
def dGq : Shape.Idx ⟨2, ![1, 128]⟩ → ℝ := fun i => ∑ s : Fin 16384, ∑ p : Fin 3, gLane s (uq P p s) (δq dq p s) (i 1)
/-- The gradient of the keys' gains, apart for the two heads. -/
def dGk : Shape.Idx ⟨2, ![1, 128]⟩ → ℝ := fun i => ∑ s : Fin 16384, gLane s (uk P s) (δk dk s) (i 1)

/-- A piece of a row of 2048 columns: `w` columns from column `lo` on, zero elsewhere. -/
def piece (lo w : ℕ) (v : Fin w → EReal) (j : Fin 2048) : EReal := if h : lo ≤ j.val ∧ j.val - lo < w then v ⟨j.val - lo, h.2⟩ else 0

theorem piece_out {lo w : ℕ} (v : Fin w → EReal) (j : Fin 2048) (h : ¬(lo ≤ j.val ∧ j.val - lo < w)) : piece lo w v j = 0 := dif_neg h

/-- The gradient of the projections: every part in its columns, zero apart from them, all added up. -/
def dP (a b c : Fin 16384 → Fin 256 → EReal) (e : Fin 16384 → Fin 384 → EReal) (f g : Fin 16384 → Fin 128 → EReal)
    (q : Fin 16384 → Fin 384 → ℝ) (k : Fin 16384 → Fin 128 → ℝ) (v : Fin 16384 → Fin 128 → EReal) : Shape.Idx ⟨2, ![16384, 2048]⟩ → EReal :=
  fun i => piece 1920 128 (v (i 0)) (i 1) + piece 1792 128 (fun j => (k (i 0) j : EReal)) (i 1)
    + piece 1408 384 (fun j => (q (i 0) j : EReal)) (i 1) + piece 1280 128 (g (i 0)) (i 1) + piece 1152 128 (f (i 0)) (i 1)
    + piece 768 384 (e (i 0)) (i 1) + piece 512 256 (c (i 0)) (i 1) + piece 256 256 (b (i 0)) (i 1) + piece 0 256 (a (i 0)) (i 1)

end Cert.DprojSpec
end
-- ==== Proof.DprojBody.lean ====
module
public import proofs.«01_k».proof.Proof.DprojSpec
public import proofs.«01_k».proof.Proof.NormSpec
public import proofs.«01_k».proof.Proof.Gen.DprojIdeal.Value
public import Idealize.ShloMosaic.Lib.Pipeline.ValueKit

/-! One pair of heads of the kernel of the rotary positions and norms, read on real numbers. -/

@[expose] public section

set_option maxRecDepth 16384

noncomputable section

namespace Cert.DprojIdeal.Value
open Cert.DprojIdeal Cert.DprojIdeal.Gen Idealize.ShloMosaic Idealize.ShloMosaic.TcCoe Idealize.SL.Sem Cert.Finite Cert.GroupSpec Cert.DprojSpec
open NormSpec (up)

section stages
variable (x d c sa sb v : FVec Ideal S512x128 .f32) (g : FVec Ideal S1x128 .f32)

/-- Which lanes belong to the lower head. -/
def laneV : IVec S512x128 1 := cmpi .slt (iota .tc S512x128 32 [1] iota_S512x128_d1_w32) (broadcast S512x128 64#32)
/-- A row of lanes summed up, on every lane. -/
def sumV : FVec Ideal S512x128 .f32 :=
  broadcastTo S512x128 (shapeCast S512x1 (shapeCast S512x1 (multiReduction .add [1] S512 v 0x00000000#32 reduces_S512x128_S512 (.inl rfl) rfl : FVec Ideal S512 .f32)
    shapeCasts_S512_S512x1) shapeCasts_S512x1_S512x1) broadcasts_S512x1_S512x128
/-- The sum over a lane's head, on every lane. -/
def pairV : FVec Ideal S512x128 .f32 :=
  select laneV (sumV (select laneV v (broadcast S512x128 (Scalar.ofBits .f32 0x00000000#32))))
    (sumV (select laneV (broadcast S512x128 (Scalar.ofBits .f32 0x00000000#32)) v))
/-- The reciprocal of the root mean square of a lane's head. -/
def rV : FVec Ideal S512x128 .f32 :=
  rsqrt (addf (mulf (pairV (mulf x x)) (broadcast S512x128 (Scalar.ofBits .f32 0x3C800000#32))) (broadcast S512x128 (Scalar.ofBits .f32 0x358637BD#32)))
/-- The normalised lanes. -/
def hatV : FVec Ideal S512x128 .f32 := mulf x (rV x)
/-- The cotangent with the rotation undone. -/
def dnV : FVec Ideal S512x128 .f32 :=
  addf (addf (mulf d c) (dynamicRotate 1 16#32 none (mulf d sa) rotates_S512x128_d1)) (dynamicRotate 1 112#32 none (mulf d sb) rotates_S512x128_d1)
/-- The same times the gain. -/
def dsV : FVec Ideal S512x128 .f32 := mulf (dnV d c sa sb) (broadcastTo S512x128 g broadcasts_S1x128_S512x128)
/-- The gradient of the lanes. -/
def dxV : FVec Ideal S512x128 .bf16 :=
  truncf .bf16 (mulf (rV x) (subf (dsV d c sa sb g) (mulf (hatV x)
    (mulf (pairV (mulf (dsV d c sa sb g) (hatV x))) (broadcast S512x128 (Scalar.ofBits .f32 0x3C800000#32)))))) bitsLt_bf16_f32
/-- A block's part of the gradient of the gains. -/
def dgV : FVec Ideal S1x128 .f32 :=
  shapeCast S1x128 (multiReduction .add [0] S128 (mulf (dnV d c sa sb) (hatV x)) 0x00000000#32 reduces_S512x128_S128 (.inl rfl) rfl : FVec Ideal S128 .f32) shapeCasts_S128_S1x128

end stages

section reals
variable (V U Δ C A B : S512x128.Idx → ℝ) (Γ : S1x128.Idx → ℝ)

theorem lane_select (i : Fin 512) (j : Fin 128) (a b : EReal) :
    Scalar.select (laneV (ix2 i j)) a b = if j.val < 64 then a else b := by
  have e : laneV (ix2 i j) = IntOp.cmpi .slt (BitVec.ofNat 32 j.val) 64#32 := by
    unfold laneV
    pointwise
  have k : ∀ j : Fin 128, IntOp.cmpi .slt (BitVec.ofNat 32 j.val) 64#32 = if j.val < 64 then 1#1 else 0#1 := by decide +kernel
  rw [e, k]
  split_ifs <;> rfl

theorem sumV_up : sumV (up V) = up (S := S512x128) fun i => ∑ k : Fin 128, V (ix2 (i 0) k) := by
  change (_ : S512x128.Idx → EReal) = _
  funext i
  idx_vars i
  unfold sumV
  pointwise
  simp only [up, sum_coe]
  rfl

theorem select_low : (select laneV (up V) (broadcast S512x128 (Scalar.ofBits .f32 0x00000000#32)) : FVec Ideal S512x128 .f32)
    = up (S := S512x128) fun i => if (i 1).val < 64 then V i else 0 := by
  change (_ : S512x128.Idx → EReal) = _
  funext i
  idx_vars i
  pointwise
  rw [lane_select]
  show _ = (((if i1.val < 64 then V (ix2 i0 i1) else 0 : ℝ)) : EReal)
  split_ifs
  · rfl
  · rfl

theorem select_high : (select laneV (broadcast S512x128 (Scalar.ofBits .f32 0x00000000#32)) (up V) : FVec Ideal S512x128 .f32)
    = up (S := S512x128) fun i => if (i 1).val < 64 then 0 else V i := by
  change (_ : S512x128.Idx → EReal) = _
  funext i
  idx_vars i
  pointwise
  rw [lane_select]
  show _ = (((if i1.val < 64 then 0 else V (ix2 i0 i1) : ℝ)) : EReal)
  split_ifs
  · rfl
  · rfl

theorem select_up (L M : S512x128.Idx → ℝ) :
    (select laneV (up L) (up M) : FVec Ideal S512x128 .f32) = up (S := S512x128) fun i => if (i 1).val < 64 then L i else M i := by
  change (_ : S512x128.Idx → EReal) = _
  funext i
  idx_vars i
  pointwise
  rw [lane_select]
  show _ = (((if i1.val < 64 then L (ix2 i0 i1) else M (ix2 i0 i1) : ℝ)) : EReal)
  split_ifs
  · rfl
  · rfl

theorem pairV_up : pairV (up V) = up (S := S512x128) fun i => ∑ k : Fin 64, half (fun l => V (ix2 (i 0) l)) (i 1) k := by
  unfold pairV
  rw [select_low, select_high, sumV_up, sumV_up, select_up]
  change (_ : S512x128.Idx → EReal) = _
  funext i
  idx_vars i
  exact congrArg (fun r : ℝ => (r : EReal)) (sum_half (fun l => V (ix2 i0 l)) i1)

theorem rV_up : rV (up U) = up (S := S512x128) fun i => rms 64 (half (fun l => U (ix2 (i 0) l)) (i 1)) := by
  unfold rV
  have e : (mulf (up U) (up U) : FVec Ideal S512x128 .f32) = up (S := S512x128) fun i => U i * U i := by
    change (_ : S512x128.Idx → EReal) = _
    funext i
    exact (EReal.coe_mul _ _).symm
  rw [e, pairV_up]
  change (_ : S512x128.Idx → EReal) = _
  funext i
  idx_vars i
  pointwise
  simp only [up, ofBits_64inv, ofBits_eps.1, ← EReal.coe_mul, ← EReal.coe_add]
  refine Eq.trans ?_ (rsqrt_ms (c := 64) (half (fun l => U (ix2 i0 l)) i1) (by norm_num))
  refine congrArg (fun r : ℝ => Ideal.rsqrt (r : EReal)) (congrArg (· + eps) ?_)
  exact (div_eq_mul_one_div _ _).symm

theorem hatV_up : hatV (up U) = up (S := S512x128) fun i => U i * rms 64 (half (fun l => U (ix2 (i 0) l)) (i 1)) := by
  unfold hatV
  rw [rV_up]
  change (_ : S512x128.Idx → EReal) = _
  funext i
  idx_vars i
  pointwise
  exact (EReal.coe_mul _ _).symm

/-- The rows' tables are the lanes' cosines and sines of row `s`. -/
theorem dnV_up (s : Fin 512 → Fin 16384) :
    dnV (up Δ) (up fun i => cosL (s (i 0)) (i 1)) (up fun i => sinA (s (i 0)) (i 1)) (up fun i => sinB (s (i 0)) (i 1))
      = up (S := S512x128) fun i => rot (s (i 0)) (half (fun l => Δ (ix2 (i 0) l)) (i 1)) (pl (i 1)) := by
  change (_ : S512x128.Idx → EReal) = _
  funext i
  idx_vars i
  unfold dnV
  pointwise
  simp only [up, ← EReal.coe_mul, ← EReal.coe_add]
  refine congrArg (fun r : ℝ => (r : EReal)) ?_
  refine rot_lanes (s i0) (fun l => Δ (ix2 i0 l)) i1 _ _ ?_ ?_
  · show (i1.val + 128 - 16) % 128 = (i1.val + 112) % 128
    omega
  · show (i1.val + 128 - 112) % 128 = (i1.val + 16) % 128
    omega

variable (s : Fin 512 → Fin 16384)

theorem dsV_up : dsV (up Δ) (up fun i => cosL (s (i 0)) (i 1)) (up fun i => sinA (s (i 0)) (i 1)) (up fun i => sinB (s (i 0)) (i 1)) (up Γ)
      = up (S := S512x128) fun i => rot (s (i 0)) (half (fun l => Δ (ix2 (i 0) l)) (i 1)) (pl (i 1)) * Γ (ix2 0 (i 1)) := by
  unfold dsV
  rw [dnV_up]
  change (_ : S512x128.Idx → EReal) = _
  funext i
  idx_vars i
  pointwise
  simp only [up, ← EReal.coe_mul]
  rfl

/-- The gradient of a block's lanes. -/
theorem dxV_up : dxV (up U) (up Δ) (up fun i => cosL (s (i 0)) (i 1)) (up fun i => sinA (s (i 0)) (i 1)) (up fun i => sinB (s (i 0)) (i 1)) (up Γ)
      = up (S := S512x128) fun i => dLane (s (i 0)) (fun l => U (ix2 (i 0) l)) (fun l => Γ (ix2 0 l)) (fun l => Δ (ix2 (i 0) l)) (i 1) := by
  unfold dxV
  rw [dsV_up, hatV_up, rV_up]
  have e : (mulf (up fun i => rot (s (i 0)) (half (fun l => Δ (ix2 (i 0) l)) (i 1)) (pl (i 1)) * Γ (ix2 0 (i 1)))
        (up fun i => U i * rms 64 (half (fun l => U (ix2 (i 0) l)) (i 1))) : FVec Ideal S512x128 .f32)
      = up (S := S512x128) fun i => rot (s (i 0)) (half (fun l => Δ (ix2 (i 0) l)) (i 1)) (pl (i 1)) * Γ (ix2 0 (i 1)) * (U i * rms 64 (half (fun l => U (ix2 (i 0) l)) (i 1))) := by
    change (_ : S512x128.Idx → EReal) = _
    funext i
    exact (EReal.coe_mul _ _).symm
  rw [e, pairV_up]
  change (_ : S512x128.Idx → EReal) = _
  funext i
  idx_vars i
  pointwise
  simp only [up, ofBits_64inv, ← EReal.coe_mul, ← EReal.coe_sub]
  refine congrArg (fun r : ℝ => (r : EReal)) ?_
  show _ = dy 64 _ _ _ _
  unfold dy
  have hh : ∀ (l : Fin 128) (k : Fin 64), (⟨64 * (l.val / 64) + k.val, by omega⟩ : Fin 128).val / 64 = l.val / 64 := fun l k => by
    show (64 * (l.val / 64) + k.val) / 64 = l.val / 64
    omega
  have hu : ∀ (u : Fin 128 → ℝ) (l : Fin 128) (k : Fin 64), half u (⟨64 * (l.val / 64) + k.val, by omega⟩ : Fin 128) = half u l := fun u l k => by
    funext q
    unfold half
    exact congrArg u (Fin.ext (by show 64 * ((64 * (l.val / 64) + k.val) / 64) + q.val = 64 * (l.val / 64) + q.val; omega))
  have hp : ∀ (l : Fin 128) (k : Fin 64), pl (⟨64 * (l.val / 64) + k.val, by omega⟩ : Fin 128) = k := fun l k =>
    Fin.ext (by show (64 * (l.val / 64) + k.val) % 64 = k.val; omega)
  show rms 64 (half (fun l => U (ix2 i0 l)) i1) * (rot (s i0) (half (fun l => Δ (ix2 i0 l)) i1) (pl i1) * Γ (ix2 0 i1)
      - U (ix2 i0 i1) * rms 64 (half (fun l => U (ix2 i0 l)) i1) * ((∑ k, half (fun l => rot (s i0) (half (fun l => Δ (ix2 i0 l)) l) (pl l) * Γ (ix2 0 l)
        * (U (ix2 i0 l) * rms 64 (half (fun l => U (ix2 i0 l)) l))) i1 k) * (1 / 64)))
    = rms 64 (half (fun l => U (ix2 i0 l)) i1) * (rot (s i0) (half (fun l => Δ (ix2 i0 l)) i1) (pl i1) * half (fun l => Γ (ix2 0 l)) i1 (pl i1)
      - half (fun l => U (ix2 i0 l)) i1 (pl i1) * rms 64 (half (fun l => U (ix2 i0 l)) i1) * ((∑ k, rot (s i0) (half (fun l => Δ (ix2 i0 l)) i1) k * half (fun l => Γ (ix2 0 l)) i1 k
        * (half (fun l => U (ix2 i0 l)) i1 k * rms 64 (half (fun l => U (ix2 i0 l)) i1))) / 64))
  rw [half_pl, half_pl, div_eq_mul_one_div (∑ k, _)]
  refine congrArg₂ (· * ·) rfl (congrArg₂ (· - ·) rfl (congrArg₂ (· * ·) rfl (congrArg (· * (1 / 64 : ℝ)) (Finset.sum_congr rfl fun k _ => ?_))))
  · show rot (s i0) (half (fun l => Δ (ix2 i0 l)) ⟨64 * (i1.val / 64) + k.val, _⟩) (pl ⟨64 * (i1.val / 64) + k.val, _⟩) * half (fun l => Γ (ix2 0 l)) i1 k
      * (half (fun l => U (ix2 i0 l)) i1 k * rms 64 (half (fun l => U (ix2 i0 l)) ⟨64 * (i1.val / 64) + k.val, _⟩)) = _
    rw [hu, hu, hp]

/-- A block's part of the gradient of the gains. -/
theorem dgV_apply (z : Fin 1) (l : Fin 128) :
    (dgV (up U) (up Δ) (up fun i => cosL (s (i 0)) (i 1)) (up fun i => sinA (s (i 0)) (i 1)) (up fun i => sinB (s (i 0)) (i 1)) (ix2 z l) : EReal)
      = ((∑ r : Fin 512, gLane (s r) (fun l => U (ix2 r l)) (fun l => Δ (ix2 r l)) l : ℝ) : EReal) := by
  unfold dgV
  rw [dnV_up, hatV_up]
  pointwise
  simp only [up, ← EReal.coe_mul, sum_coe]
  refine congrArg (fun r : ℝ => (r : EReal)) (Finset.sum_congr rfl fun r _ => ?_)
  show _ = dg 64 _ _ _
  unfold dg
  rw [half_pl]
  rfl

end reals

end Cert.DprojIdeal.Value
end
-- ==== Proof.AxbRun.lean ====
module

public import proofs.«01_k».proof.Proof.Gen.AxbIdeal.Frame
public import proofs.«01_k».proof.Proof.Gen.AxbIdeal.Skeleton
public import proofs.«01_k».proof.Proof.Gen.AxbIdeal.Points
public import Idealize.ShloMosaic.Lib.Pipeline.FrameBody
public import Idealize.ShloMosaic.Lib.Pipeline.FrameValue
public import Idealize.ShloMosaic.Lib.Tactic

/-! One grid point of the axial attention gradient kernel, run as a program over separation logic.

The statement is generic over the arithmetic. At a grid point the body reads its six input blocks, adds one term to the two
output blocks `dk` and `dv`, adds one term to the slab of the carried query gradient belonging to the query block, and at
the last key block copies that slab to the result array by a transfer of its own. -/

@[expose] public section

set_option maxRecDepth 16384

noncomputable section

namespace Cert.AxbRun

open Cert.AxbIdeal Cert.AxbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The carried query gradient, one slab per query block. -/
abbrev scr : Memref sig .tc .vmem S32x512x384 .f32 := Memref.whole cc0_scratch0
/-- The result array the body writes by its own transfers. -/
abbrev dqm : Memref sig .tc .hbm S16384x384 .f32 := Memref.whole main_v49_2

/-- The contents of a memref's buffer on core `c`. -/
abbrev Cont (c : Dev nD) {sp : Space} {S : Shape} {e : EltTy} (M : Memref sig .tc sp S e) : Type := Buf (Elt F) (M.view.loc (c : Thread nD τ))
/-- The whole buffer of a memref held at contents `f`. -/
abbrev pts (c : Dev nD) {sp : Space} {S : Shape} {e : EltTy} (M : Memref sig .tc sp S e) (f : Cont (F := F) c M) : sProp 𝕄 :=
  M.view.loc (c : Thread nD τ) ↦{fullShare} f

set_option maxHeartbeats 4000000 in
/-- The body away from the last key block, at the first query block or not and the first key block or not. -/
noncomputable def runMid (c : Dev nD) (i : grid0.Coords)
    (arg2 : Memref sig .tc .vmem S512x384 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x384 .bf16) (harg5 : arg5.IsWhole)
    (arg6 : Memref sig .tc .vmem S6x1x512 .f32) (harg6 : arg6.IsWhole) (arg7 : Memref sig .tc .vmem S6x1x512 .f32) (harg7 : arg7.IsWhole)
    (arg8 : Memref sig .tc .vmem S2048x128 .f32) (harg8 : arg8.IsWhole) (arg9 : Memref sig .tc .vmem S2048x128 .f32) (harg9 : arg9.IsWhole)
    (hc3 : ¬ k0_cond3 i = 1#1)
    (x2 : Vec F S512x384 .bf16) (x3 x4 : Vec F S2048x128 .bf16) (x5 : Vec F S512x384 .bf16) (x6 x7 : Vec F S6x1x512 .f32)
    (y8 y9 : Vec F S2048x128 .f32) (fs : Cont (F := F) c scr) :
    Σ' (L8 : Cont (F := F) c arg8) (L9 : Cont (F := F) c arg9), { S : Cont (F := F) c scr //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare y8 ∗ owns (c : Thread nD τ) arg9 fullShare y9 ∗ pts c scr fs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (arg8.view.loc (c : Thread nD τ) ↦[arg8.view.set]{fullShare} L8) ∗ (arg9.view.loc (c : Thread nD τ) ↦[arg9.view.set]{fullShare} L9)
                ∗ pts c scr S) -∗ K ⟨⟩))
          ⊢ wp frame (wpE (defs₀ (F := F)) Variants.none c none) E
            (cc0_ax_bwd i arg2 harg2 arg3 harg3 arg4 harg4 arg5 harg5 arg6 harg6 arg7 harg7 arg8 harg8 arg9 harg9
              dqm (Memref.isWhole_whole _) scr (Memref.isWhole_whole _) cc0_scratch1) K } := by
  refine ⟨?_, ?_, ?_, fun E K => ?run⟩
  case run =>
    simp only [cc0_ax_bwd_eq_skeleton]; unfold cc0_ax_bwd_skel
    simp only [k0_part1_eq_skeleton, k0_part2_eq_skeleton, k0_part3_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HS, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    sl_exec (disch := first | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    iexact HS

set_option maxHeartbeats 4000000 in
/-- The body at the last key block, at the first query block or not and the first key block or not. -/
noncomputable def runLast (c : Dev nD) (i : grid0.Coords)
    (arg2 : Memref sig .tc .vmem S512x384 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x384 .bf16) (harg5 : arg5.IsWhole)
    (arg6 : Memref sig .tc .vmem S6x1x512 .f32) (harg6 : arg6.IsWhole) (arg7 : Memref sig .tc .vmem S6x1x512 .f32) (harg7 : arg7.IsWhole)
    (arg8 : Memref sig .tc .vmem S2048x128 .f32) (harg8 : arg8.IsWhole) (arg9 : Memref sig .tc .vmem S2048x128 .f32) (harg9 : arg9.IsWhole)
    (hc3 : k0_cond3 i = 1#1)
    (x2 : Vec F S512x384 .bf16) (x3 x4 : Vec F S2048x128 .bf16) (x5 : Vec F S512x384 .bf16) (x6 x7 : Vec F S6x1x512 .f32)
    (y8 y9 : Vec F S2048x128 .f32) (fs : Cont (F := F) c scr) (fd : Cont (F := F) c dqm) :
    Σ' (L8 : Cont (F := F) c arg8) (L9 : Cont (F := F) c arg9), Σ' (S : Cont (F := F) c scr), { D : Cont (F := F) c dqm //
      ∀ (W : Waits sig Unit) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare y8 ∗ owns (c : Thread nD τ) arg9 fullShare y9 ∗ pts c scr fs
            ∗ pts c dqm fd ∗ semVal ((c : Thread nD τ), SemLoc.dma 16) 0 ∗ owes (c : Thread nD τ) 0 W
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ (arg8.view.loc (c : Thread nD τ) ↦[arg8.view.set]{fullShare} L8) ∗ (arg9.view.loc (c : Thread nD τ) ↦[arg9.view.set]{fullShare} L9)
                ∗ pts c scr S ∗ pts c dqm D ∗ semVal ((c : Thread nD τ), SemLoc.dma 16) 0 ∗ (∃ W', owes (c : Thread nD τ) 0 W')) -∗ K ⟨⟩))
          ⊢ wp frame (wpE (defs₀ (F := F)) Variants.none c none) Set.univ
            (cc0_ax_bwd i arg2 harg2 arg3 harg3 arg4 harg4 arg5 harg5 arg6 harg6 arg7 harg7 arg8 harg8 arg9 harg9
              dqm (Memref.isWhole_whole _) scr (Memref.isWhole_whole _) cc0_scratch1) K } := by
  refine ⟨?_, ?_, ?_, ?_, fun W K => ?run⟩
  case run =>
    simp only [cc0_ax_bwd_eq_skeleton]; unfold cc0_ax_bwd_skel
    simp only [k0_part1_eq_skeleton, k0_part2_eq_skeleton, k0_part3_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HS, HD, Hq, HW, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9
    sl_exec (disch := first | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexact H8
    isplitl [H9]; · iexact H9
    isplitl [HS]; · iexact HS
    isplitl [HD]; · iexact HD
    isplitl [Hq]; · iexact Hq
    iexists _; iexact HW

end Cert.AxbRun

end
-- ==== Proof.AxbVal.lean ====
module

public import proofs.«01_k».proof.Proof.AxbRun
public import Idealize.ShloMosaic.Lib.Pipeline.ReadBack
public import Idealize.ShloMosaic.Lib.Pipeline.ValueKit
public import Idealize.ShloMosaic.Lib.VecWindow
public import Idealize.ShloMosaic.Lib.ValueLayout

@[expose] public section

set_option maxRecDepth 16384

noncomputable section

namespace Cert.AxbRun

open Cert.AxbIdeal Cert.AxbIdeal.Gen
open Idealize.ShloMosaic Idealize.ShloMosaic.TcCoe Idealize.ShloMosaic.Tactic
open Idealize.SL Idealize.SL.RA Idealize.SL.BI
open Idealize.ShloMosaic.Rounds

variable {F : FTy → Type} [FloatOps F]

section Steps
variable (x2 : Vec F S512x384 .bf16) (x3 x4 : Vec F S2048x128 .bf16) (x5 : Vec F S512x384 .bf16) (x6 x7 : Vec F S6x1x512 .f32)

/-- A pair of heads' columns of a query-shaped block: the first, second and third 128 columns. -/
abbrev col0 (x : Vec F S512x384 .bf16) : Vec F S512x128 .bf16 := View.ld x (Rect.unit (s := S512x384) ![0, 0] S512x128.size inb_S512x384_S512x128_0_0)
@[inherit_doc col0]
abbrev col1 (x : Vec F S512x384 .bf16) : Vec F S512x128 .bf16 := View.ld x (Rect.unit (s := S512x384) ![0, 128] S512x128.size inb_S512x384_S512x128_0_128)
@[inherit_doc col0]
abbrev col2 (x : Vec F S512x384 .bf16) : Vec F S512x128 .bf16 := View.ld x (Rect.unit (s := S512x384) ![0, 256] S512x128.size inb_S512x384_S512x128_0_256)
/-- A head's row of a block of row statistics. -/
abbrev st0 (x : Vec F S6x1x512 .f32) : Vec F S1x1x512 .f32 := View.ld x (Rect.unit (s := S6x1x512) ![0, 0, 0] S1x1x512.size inb_S6x1x512_S1x1x512_0_0_0)
@[inherit_doc st0]
abbrev st1 (x : Vec F S6x1x512 .f32) : Vec F S1x1x512 .f32 := View.ld x (Rect.unit (s := S6x1x512) ![1, 0, 0] S1x1x512.size inb_S6x1x512_S1x1x512_1_0_0)
@[inherit_doc st0]
abbrev st2 (x : Vec F S6x1x512 .f32) : Vec F S1x1x512 .f32 := View.ld x (Rect.unit (s := S6x1x512) ![2, 0, 0] S1x1x512.size inb_S6x1x512_S1x1x512_2_0_0)
@[inherit_doc st0]
abbrev st3 (x : Vec F S6x1x512 .f32) : Vec F S1x1x512 .f32 := View.ld x (Rect.unit (s := S6x1x512) ![3, 0, 0] S1x1x512.size inb_S6x1x512_S1x1x512_3_0_0)
@[inherit_doc st0]
abbrev st4 (x : Vec F S6x1x512 .f32) : Vec F S1x1x512 .f32 := View.ld x (Rect.unit (s := S6x1x512) ![4, 0, 0] S1x1x512.size inb_S6x1x512_S1x1x512_4_0_0)
@[inherit_doc st0]
abbrev st5 (x : Vec F S6x1x512 .f32) : Vec F S1x1x512 .f32 := View.ld x (Rect.unit (s := S6x1x512) ![5, 0, 0] S1x1x512.size inb_S6x1x512_S1x1x512_5_0_0)

/-- The first pair's probabilities of the second head. -/
def p1 : FVec F S2048x512 .f32 := k0_pay34 (k0_pay10 x3) (k0_pay21 (col0 x2)) (st1 x6)
/-- The second pair's probabilities of its first head. -/
def p2 : FVec F S2048x512 .f32 := k0_pay51 (k0_pay9 x3) (col1 x2) (st2 x6)

/-- The output block `dv` after a point, from the blocks read and what it held. -/
def dvS (y : Vec F S2048x128 .f32) : Vec F S2048x128 .f32 :=
  k0_pay75 (k0_pay12 x3)
    (k0_pay55 (k0_pay12 x3)
      (k0_pay38 (k0_pay28 (k0_pay22 (col0 x5))) (k0_pay31 (k0_pay9 x3) (k0_pay21 (col0 x2)) (k0_pay22 (col0 x5)) (st0 x6)) (p1 x2 x3 x6))
      (k0_pay41 (col1 x2)) (k0_pay49 (col1 x5)) (k0_pay50 (col1 x5)) (p2 x2 x3 x6) (st3 x6))
    (k0_pay59 (col2 x2)) (k0_pay66 (col2 x5)) (k0_pay69 (k0_pay11 x3) (col2 x2) (col2 x5) (st4 x6)) (st5 x6) y

/-- The output block `dk` after a point, from the blocks read and what it held. -/
def dkS (y : Vec F S2048x128 .f32) : Vec F S2048x128 .f32 :=
  k0_pay76 (k0_pay12 x3) (k0_pay20 x4)
    (k0_pay56 (k0_pay12 x3) (k0_pay17 x4) (k0_pay20 x4)
      (k0_pay39 (k0_pay25 (k0_pay21 (col0 x2)) k0_pay23 (k0_pay24 (F := F)))
        (k0_pay32 (k0_pay9 x3) (k0_pay17 x4) (k0_pay21 (col0 x2)) (k0_pay22 (col0 x5)) k0_pay23 (k0_pay24 (F := F)) (st0 x6) (st0 x7))
        (p1 x2 x3 x6) (k0_pay35 (k0_pay18 x4) (k0_pay22 (col0 x5))) (k0_pay36 (st1 x7)))
      (k0_pay41 (col1 x2)) (k0_pay42 (col1 x5)) (k0_pay45 (col1 x2)) (k0_pay46 (col1 x2)) (p2 x2 x3 x6) (st2 x7) (st3 x6) (st3 x7))
    (k0_pay59 (col2 x2)) (k0_pay60 (col2 x5)) (k0_pay63 (col2 x2))
    (k0_pay70 (k0_pay11 x3) (k0_pay19 x4) (col2 x2) (col2 x5) (st4 x6) (st4 x7)) (st5 x6) (st5 x7) y

/-- The first 128 columns of the query block's slab after a point. -/
def sl0 (w : Vec F S1x512x128 .f32) : Vec F S1x512x128 .f32 :=
  k0_pay40 (k0_pay10 x3) (k0_pay33 (k0_pay9 x3) (k0_pay17 x4) (k0_pay21 (col0 x2)) (k0_pay22 (col0 x5)) (st0 x6) (st0 x7))
    (p1 x2 x3 x6) (k0_pay35 (k0_pay18 x4) (k0_pay22 (col0 x5))) (k0_pay36 (st1 x7)) w
/-- The second 128 columns of the query block's slab after a point. -/
def sl1 (w : Vec F S1x512x128 .f32) : Vec F S1x512x128 .f32 :=
  k0_pay58 (k0_pay57 (k0_pay9 x3) (k0_pay12 x3) (k0_pay17 x4) (k0_pay20 x4) (k0_pay41 (col1 x2)) (k0_pay42 (col1 x5))
    (p2 x2 x3 x6) (st2 x7) (st3 x6) (st3 x7) w)
/-- The third 128 columns of the query block's slab after a point. -/
def sl2 (w : Vec F S1x512x128 .f32) : Vec F S1x512x128 .f32 :=
  k0_pay74 (k0_pay12 x3) (k0_pay20 x4) (k0_pay59 (col2 x2)) (k0_pay60 (col2 x5))
    (k0_pay71 (k0_pay11 x3) (k0_pay19 x4) (col2 x2) (col2 x5) (st4 x6) (st4 x7)) (st5 x6) (st5 x7) w

end Steps

/-- One query block's slab of the carried query gradient. -/
def slabOf (s : Vec F S32x512x384 .f32) (a : Fin 32) : Vec F S512x384 .f32 := fun y => s (ix3 a (y 0) (y 1))

/-- 128 columns of a slab, from column `o`. -/
def piece (o : ℕ) (ho : o + 128 ≤ 384) (d : Vec F S512x384 .f32) : Vec F S1x512x128 .f32 :=
  fun z => d (ix2 (z 1) (⟨o + (z 2).val, by have h : (z 2).val < 128 := (z 2).isLt; omega⟩ : Fin 384))

/-- A slab from its three blocks of columns. -/
def glue (w0 w1 w2 : Vec F S1x512x128 .f32) : Vec F S512x384 .f32 := fun y =>
  if h0 : (y 1).val < 128 then w0 (ix3 (0 : Fin 1) (y 0) (⟨(y 1).val, h0⟩ : Fin 128))
  else if h1 : (y 1).val < 256 then w1 (ix3 (0 : Fin 1) (y 0) (⟨(y 1).val - 128, by omega⟩ : Fin 128))
  else w2 (ix3 (0 : Fin 1) (y 0) (⟨(y 1).val - 256, by have h : (y 1).val < 384 := (y 1).isLt; omega⟩ : Fin 128))

/-- The query block's slab after a point, from the blocks read and what it held. -/
def slabS (x2 : Vec F S512x384 .bf16) (x3 x4 : Vec F S2048x128 .bf16) (x5 : Vec F S512x384 .bf16) (x6 x7 : Vec F S6x1x512 .f32)
    (d : Vec F S512x384 .f32) : Vec F S512x384 .f32 :=
  glue (sl0 x2 x3 x4 x5 x6 x7 (piece 0 (by omega) d)) (sl1 x2 x3 x4 x5 x6 x7 (piece 128 (by omega) d)) (sl2 x2 x3 x4 x5 x6 x7 (piece 256 (by omega) d))

/-- A slab as a block with a leading axis of one, and back. -/
def lift1 (d : Vec F S512x384 .f32) : Vec F S1x512x384 .f32 := fun z => d (ix2 (z 1) (z 2))
@[inherit_doc lift1]
def drop1 (w : Vec F S1x512x384 .f32) : Vec F S512x384 .f32 := fun y => w (ix3 (0 : Fin 1) (y 0) (y 1))

/-- The scaled slab of the last key block. -/
def slabF (d : Vec F S512x384 .f32) : Vec F S512x384 .f32 := drop1 (k0_pay1 (lift1 d))

/-- The slab a point starts from: zero at the first key block. -/
def slabIn (b : Prop) [Decidable b] (d : Vec F S512x384 .f32) : Vec F S512x384 .f32 := if b then drop1 (k0_pay4 (F := F)) else d

/-- The query block of a grid point. -/
def qb (i : grid0.Coords) : Fin 32 := i 1

/-- The grid point is the first of its key block. -/
abbrev cond1 (i : grid0.Coords) : BitVec 1 := Scalar.cmpi .ne ((Scalar.extui (Scalar.cmpi .eq (BitVec.ofNat 32 (i 1).val) 0#32) : BitVec 32)) 0#32

section
variable (c : Dev nD) (i : grid0.Coords)
    (arg2 : Memref sig .tc .vmem S512x384 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S512x384 .bf16) (harg5 : arg5.IsWhole)
    (arg6 : Memref sig .tc .vmem S6x1x512 .f32) (harg6 : arg6.IsWhole) (arg7 : Memref sig .tc .vmem S6x1x512 .f32) (harg7 : arg7.IsWhole)
    (arg8 : Memref sig .tc .vmem S2048x128 .f32) (harg8 : arg8.IsWhole) (arg9 : Memref sig .tc .vmem S2048x128 .f32) (harg9 : arg9.IsWhole)
    (hc3 : ¬ k0_cond3 i = 1#1) (hc3' : k0_cond3 i = 1#1)
    (x2 : Vec F S512x384 .bf16) (x3 x4 : Vec F S2048x128 .bf16) (x5 : Vec F S512x384 .bf16) (x6 x7 : Vec F S6x1x512 .f32)
    (y8 y9 : Vec F S2048x128 .f32) (fs : Cont (F := F) c scr) (fd : Cont (F := F) c dqm)

theorem zeroed (V : View sig .tc .vmem S2048x128 .f32) (b : Prop) [Decidable b] (f : V.ty.Contents (Elt F)) (w : Vec F S2048x128 .f32) :
    V.read (Elt F) (if _ : b then V.writes (Elt F) f [⟨Rect.unit ![0, 0] S2048x128.size inb_S2048x128_S2048x128_0_0, w⟩] else f)
      = if b then w else V.read (Elt F) f := by
  by_cases h : b
  · rw [dif_pos h, if_pos h]; exact View.read_writes_full _ _ _ _ _
  · rw [dif_neg h, if_neg h]

theorem mid8 : arg8.view.read (Elt F) (runMid c i arg2 harg2 arg3 harg3 arg4 harg4 arg5 harg5 arg6 harg6 arg7 harg7 arg8 harg8 arg9 harg9 hc3 x2 x3 x4 x5 x6 x7 y8 y9 fs).1
    = dkS x2 x3 x4 x5 x6 x7 (if cond1 i = 1#1 then k0_pay2 (F := F) else y8) := by
  frame_open
  refine (View.read_writes_full _ _ _ _ _).trans ?_
  simp (disch := decide) only [View.readAt_eq_ld, View.ld_unit_lit', Memref.IsWhole.read_unread]
  refine (congrArg (dkS x2 x3 x4 x5 x6 x7) (zeroed arg8.view _ _ _)).trans ?_
  rw [Memref.IsWhole.read_unread]

theorem mid9 : arg9.view.read (Elt F) (runMid c i arg2 harg2 arg3 harg3 arg4 harg4 arg5 harg5 arg6 harg6 arg7 harg7 arg8 harg8 arg9 harg9 hc3 x2 x3 x4 x5 x6 x7 y8 y9 fs).2.1
    = dvS x2 x3 x5 x6 (if cond1 i = 1#1 then k0_pay3 (F := F) else y9) := by
  frame_open
  refine (View.read_writes_full _ _ _ _ _).trans ?_
  simp (disch := decide) only [View.readAt_eq_ld, View.ld_unit_lit', Memref.IsWhole.read_unread]
  refine (congrArg (dvS x2 x3 x5 x6) (zeroed arg9.view _ _ _)).trans ?_
  rw [Memref.IsWhole.read_unread]

theorem last8 : arg8.view.read (Elt F) (runLast c i arg2 harg2 arg3 harg3 arg4 harg4 arg5 harg5 arg6 harg6 arg7 harg7 arg8 harg8 arg9 harg9 hc3' x2 x3 x4 x5 x6 x7 y8 y9 fs fd).1
    = dkS x2 x3 x4 x5 x6 x7 (if cond1 i = 1#1 then k0_pay2 (F := F) else y8) := by
  frame_open
  refine (View.read_writes_full _ _ _ _ _).trans ?_
  simp (disch := decide) only [View.readAt_eq_ld, View.ld_unit_lit', Memref.IsWhole.read_unread]
  refine (congrArg (dkS x2 x3 x4 x5 x6 x7) (zeroed arg8.view _ _ _)).trans ?_
  rw [Memref.IsWhole.read_unread]

theorem last9 : arg9.view.read (Elt F) (runLast c i arg2 harg2 arg3 harg3 arg4 harg4 arg5 harg5 arg6 harg6 arg7 harg7 arg8 harg8 arg9 harg9 hc3' x2 x3 x4 x5 x6 x7 y8 y9 fs fd).2.1
    = dvS x2 x3 x5 x6 (if cond1 i = 1#1 then k0_pay3 (F := F) else y9) := by
  frame_open
  refine (View.read_writes_full _ _ _ _ _).trans ?_
  simp (disch := decide) only [View.readAt_eq_ld, View.ld_unit_lit', Memref.IsWhole.read_unread]
  refine (congrArg (dvS x2 x3 x5 x6) (zeroed arg9.view _ _ _)).trans ?_
  rw [Memref.IsWhole.read_unread]

theorem word (a : Fin 32) : (BitVec.ofNat 32 a.val).toNat = a.val := by revert a; decide
theorem off1 : k0_off1 i = ![(i 1).val, 0, 0] := congrArg (fun n => ![n, 0, 0]) (word (i 1))
theorem off2 : k0_off2 i = ![(i 1).val, 0, 0] := congrArg (fun n => ![n, 0, 0]) (word (i 1))
theorem off3 : k0_off3 i = ![(i 1).val, 0, 128] := congrArg (fun n => ![n, 0, 128]) (word (i 1))
theorem off4 : k0_off4 i = ![(i 1).val, 0, 256] := congrArg (fun n => ![n, 0, 256]) (word (i 1))
theorem off5 : k0_off5 i = ![(i 1).val, 0, 0] := congrArg (fun n => ![n, 0, 0]) (word (i 1))
theorem off7 : k0_off7 i = ![(i 1).val, 0, 0] := congrArg (fun n => ![n, 0, 0]) (word (i 1))
theorem word512 (a : Fin 32) : (Scalar.muli (BitVec.ofNat 32 a.val) 512#32).toNat = a.val * 512 := by revert a; decide
theorem off6 : k0_off6 i = ![(i 1).val * 512, 0] := congrArg (fun n => ![n, 0]) (word512 (i 1))

theorem put_slab (s : Vec F S32x512x384 .f32) (n o sz : ℕ) (w : (⟨3, ![1, 512, sz]⟩ : Shape).Idx → Elt F .f32) (a : Fin 32) (r : Fin 512) (l : Fin 384) :
    VecWindow.put s ![n, 0, o] ![1, 512, sz] w (ix3 a r l)
      = if h : a.val = n ∧ o ≤ l.val ∧ l.val < o + sz then w (ix3 (0 : Fin 1) r (⟨l.val - o, by omega⟩ : Fin sz)) else s (ix3 a r l) := by
  unfold VecWindow.put
  by_cases h : a.val = n ∧ o ≤ l.val ∧ l.val < o + sz
  · obtain ⟨h1, h2, h3⟩ := h
    have hall : ∀ q : Fin 3, (![n, 0, o] : Fin 3 → ℕ) q ≤ ((ix3 a r l) q).val ∧ ((ix3 a r l) q).val < (![n, 0, o] : Fin 3 → ℕ) q + (![1, 512, sz] : Fin 3 → ℕ) q := by
      intro q; fin_cases q
      · show n ≤ a.val ∧ a.val < n + 1; omega
      · show 0 ≤ r.val ∧ r.val < 0 + 512; omega
      · show o ≤ l.val ∧ l.val < o + sz; omega
    refine (dif_pos hall).trans (Eq.trans ?_ (dif_pos (⟨h1, h2, h3⟩ : a.val = n ∧ o ≤ l.val ∧ l.val < o + sz)).symm)
    refine congrArg w (funext fun q => Fin.ext ?_)
    fin_cases q
    · show a.val - n = 0; omega
    · show r.val - 0 = r.val; omega
    · show l.val - o = l.val - o; rfl
  · rw [dif_neg h]
    refine dif_neg fun hall => h ?_
    have q0 : n ≤ a.val ∧ a.val < n + 1 := hall 0
    have q2 : o ≤ l.val ∧ l.val < o + sz := hall 2
    omega

theorem ld_slab (s : Vec F S32x512x384 .f32) (a : Fin 32) (o : ℕ) (ho : o + 128 ≤ 384) {off : Fin 3 → ℕ} (h : off = ![a.val, 0, o])
    (inb : ∀ q, off q + (![1, 512, 128] : Fin 3 → ℕ) q ≤ S32x512x384.size q) :
    (View.ld (Val := Elt F) (e' := .f32) s (Rect.unit off ![1, 512, 128] inb) : Vec F S1x512x128 .f32) = piece o ho (slabOf s a) := by
  subst h
  funext z
  refine congrArg s (funext fun q => Fin.ext ?_)
  fin_cases q
  · show a.val + 1 * (z 0).val = a.val
    have : (z 0).val < 1 := (z 0).isLt
    omega
  · show 0 + 1 * (z 1).val = (z 1).val; omega
  · show o + 1 * (z 2).val = o + (z 2).val; omega

theorem slabOf_put3 (s : Vec F S32x512x384 .f32) (a b : Fin 32) (w0 w1 w2 : Vec F S1x512x128 .f32) :
    slabOf (VecWindow.put (VecWindow.put (VecWindow.put s ![a.val, 0, 0] ![1, 512, 128] w0) ![a.val, 0, 128] ![1, 512, 128] w1) ![a.val, 0, 256] ![1, 512, 128] w2) b
      = if b = a then glue w0 w1 w2 else slabOf s b := by
  funext y
  idx_vars y
  refine (put_slab _ _ _ _ _ b y0 y1).trans ?_
  rw [put_slab, put_slab]
  have hl : y1.val < 384 := y1.isLt
  by_cases hb : b = a
  · subst hb
    rw [if_pos rfl]
    change _ = if h0 : y1.val < 128 then w0 (ix3 (0 : Fin 1) y0 (⟨y1.val, h0⟩ : Fin 128)) else if h1 : y1.val < 256 then w1 (ix3 (0 : Fin 1) y0 (⟨y1.val - 128, by omega⟩ : Fin 128)) else w2 (ix3 (0 : Fin 1) y0 (⟨y1.val - 256, by omega⟩ : Fin 128))
    by_cases h0 : y1.val < 128
    · rw [dif_neg (by omega), dif_neg (by omega), dif_pos (by omega), dif_pos h0]; rfl
    · by_cases h1 : y1.val < 256
      · rw [dif_neg (by omega), dif_pos (by omega), dif_neg h0, dif_pos h1]
      · rw [dif_pos (by omega), dif_neg h0, dif_neg h1]
  · have hv : b.val ≠ a.val := fun e => hb (Fin.ext e)
    rw [if_neg hb, dif_neg (by omega), dif_neg (by omega), dif_neg (by omega)]; rfl

theorem slabOf_put1 (s : Vec F S32x512x384 .f32) (a b : Fin 32) (w : Vec F S1x512x384 .f32) :
    slabOf (VecWindow.put s ![a.val, 0, 0] ![1, 512, 384] w) b = if b = a then drop1 w else slabOf s b := by
  funext y
  idx_vars y
  refine (put_slab _ _ _ _ _ b y0 y1).trans ?_
  have hl : y1.val < 384 := y1.isLt
  by_cases hb : b = a
  · subst hb; rw [if_pos rfl, dif_pos (by omega)]; rfl
  · have hv : b.val ≠ a.val := fun e => hb (Fin.ext e)
    rw [if_neg hb, dif_neg (by omega)]; rfl

theorem midS (b : Fin 32) : slabOf (scr.view.read (Elt F) (runMid c i arg2 harg2 arg3 harg3 arg4 harg4 arg5 harg5 arg6 harg6 arg7 harg7 arg8 harg8 arg9 harg9 hc3 x2 x3 x4 x5 x6 x7 y8 y9 fs).2.2.1) b
    = if b = qb i then slabS x2 x3 x4 x5 x6 x7 (slabIn (k0_cond2 i = 1#1) (slabOf (scr.view.read (Elt F) fs) (qb i)))
      else slabOf (scr.view.read (Elt F) fs) b := by
  frame_open
  refine (congrArg (fun s => slabOf s b) ((View.read_writes_cons_put _ _ _ _ _ (off4 i)).trans (congrArg (fun s => VecWindow.put s _ _ _) ((View.read_writes_cons_put _ _ _ _ _ (off3 i)).trans (congrArg (fun s => VecWindow.put s _ _ _) ((View.read_writes_cons_put _ _ _ _ _ (off2 i)))))))).trans ?_
  simp (disch := decide) only [View.readAt_eq_ld, View.ld_unit_lit', Memref.IsWhole.read_unread, View.writes_nil]
  refine (slabOf_put3 _ (qb i) b _ _ _).trans ?_
  rw [ld_slab _ (qb i) 0 (by omega) (off2 i), ld_slab _ (qb i) 128 (by omega) (off3 i), ld_slab _ (qb i) 256 (by omega) (off4 i)]
  by_cases h2 : k0_cond2 i = 1#1
  · simp only [dif_pos h2, slabIn, if_pos h2]
    have e : ∀ b', slabOf (View.read (Elt F) (View.whole cc0_scratch0) ((View.whole cc0_scratch0).writes (Elt F) fs [⟨Rect.unit (k0_off1 i) ![1, 512, 384] (k0_off1_inb i h2), k0_pay4⟩])) b'
        = if b' = qb i then drop1 (k0_pay4 (F := F)) else slabOf (View.read (Elt F) (View.whole cc0_scratch0) fs) b' := fun b' =>
      (congrArg (fun s => slabOf s b') (View.read_writes_cons_put _ _ _ _ _ (off1 i))).trans (slabOf_put1 _ (qb i) b' _)
    rw [e, e, if_pos rfl]
    by_cases hb : b = qb i
    · rw [if_pos hb, if_pos hb]; rfl
    · rw [if_neg hb, if_neg hb, if_neg hb]
  · simp only [dif_neg h2, slabIn, if_neg h2]
    rfl

theorem base_slab (b : Fin 32) : slabOf (scr.view.read (Elt F) (if h : k0_cond2 i = 1#1 then
        scr.view.writes (Elt F) fs [⟨Rect.unit (s := S32x512x384) (k0_off1 i) S1x512x384.size (k0_off1_inb i h), k0_pay4 (F := F)⟩] else fs)) b
    = if b = qb i then slabIn (k0_cond2 i = 1#1) (slabOf (scr.view.read (Elt F) fs) (qb i)) else slabOf (scr.view.read (Elt F) fs) b := by
  by_cases h2 : k0_cond2 i = 1#1
  · rw [dif_pos h2]
    refine (congrArg (fun s => slabOf s b) (View.read_writes_cons_put _ _ _ _ _ (off1 i))).trans ?_
    refine (slabOf_put1 _ (qb i) b _).trans ?_
    unfold slabIn
    by_cases hb : b = qb i
    · rw [if_pos hb, if_pos hb, if_pos h2]
    · rw [if_neg hb, if_neg hb]; rfl
  · rw [dif_neg h2]
    unfold slabIn
    by_cases hb : b = qb i
    · rw [if_pos hb, if_neg h2, hb]
    · rw [if_neg hb]

theorem ld_lift (s : Vec F S32x512x384 .f32) (a : Fin 32) {off : Fin 3 → ℕ} (h : off = ![a.val, 0, 0])
    (inb : ∀ q, off q + (![1, 512, 384] : Fin 3 → ℕ) q ≤ S32x512x384.size q) :
    (View.ld (Val := Elt F) (e' := .f32) s (Rect.unit off ![1, 512, 384] inb) : Vec F S1x512x384 .f32) = lift1 (slabOf s a) := by
  subst h
  funext z
  refine congrArg s (funext fun q => Fin.ext ?_)
  fin_cases q
  · show a.val + 1 * (z 0).val = a.val
    have : (z 0).val < 1 := (z 0).isLt
    omega
  · show 0 + 1 * (z 1).val = (z 1).val; omega
  · show 0 + 1 * (z 2).val = (z 2).val; omega

variable (f0 : Cont (F := F) c scr) (u0 u1 u2 : Vec F S1x512x128 .f32)

/-- The three stores of a point's slab, newest first. -/
abbrev three : List (View.Piece (Elt F) S32x512x384 .f32) :=
  [⟨Rect.unit (s := S32x512x384) (k0_off4 i) S1x512x128.size (k0_off4_inb i), u2⟩, ⟨Rect.unit (s := S32x512x384) (k0_off3 i) S1x512x128.size (k0_off3_inb i), u1⟩,
    ⟨Rect.unit (s := S32x512x384) (k0_off2 i) S1x512x128.size (k0_off2_inb i), u0⟩]

theorem three_slab (b : Fin 32) : slabOf (scr.view.read (Elt F) (scr.view.writes (Elt F) f0 (three i u0 u1 u2))) b
    = if b = qb i then glue u0 u1 u2 else slabOf (scr.view.read (Elt F) f0) b := by
  refine (congrArg (fun s => slabOf s b) ((View.read_writes_cons_put _ _ _ _ _ (off4 i)).trans (congrArg (fun s => VecWindow.put s _ _ _) ((View.read_writes_cons_put _ _ _ _ _ (off3 i)).trans (congrArg (fun s => VecWindow.put s _ _ _) ((View.read_writes_cons_put _ _ _ _ _ (off2 i)))))))).trans ?_
  exact slabOf_put3 _ (qb i) b _ _ _

include c in
theorem three_cov (hc3' : k0_cond3 i = 1#1) : (scr.view.readCov (Val := Elt F) (three i u0 u1 u2) (Rect.unit (s := S32x512x384) (k0_off5 i) S1x512x384.size (k0_off5_inb i hc3')).toLoadRect : Vec F S1x512x384 .f32)
    = lift1 (glue u0 u1 u2) := by
  refine (ld_lift _ (qb i) (off5 i) _).trans ?_
  refine congrArg lift1 ((three_slab (F := F) c i _ u0 u1 u2 (qb i)).trans (if_pos rfl))

theorem four_slab (hc3' : k0_cond3 i = 1#1) (b : Fin 32) : slabOf (scr.view.read (Elt F) (scr.view.writes (Elt F) f0
      (⟨Rect.unit (s := S32x512x384) (k0_off5 i) S1x512x384.size (k0_off5_inb i hc3'), k0_pay1 (scr.view.readCov (Val := Elt F) (three i u0 u1 u2) (Rect.unit (s := S32x512x384) (k0_off5 i) S1x512x384.size (k0_off5_inb i hc3')).toLoadRect)⟩ :: three i u0 u1 u2))) b
    = if b = qb i then slabF (glue u0 u1 u2) else slabOf (scr.view.read (Elt F) f0) b := by
  rw [three_cov c i u0 u1 u2 hc3']
  refine (congrArg (fun s => slabOf s b) (View.read_writes_cons_put _ _ _ _ _ (off5 i))).trans ?_
  refine (slabOf_put1 _ (qb i) b _).trans ?_
  rw [three_slab]
  by_cases hb : b = qb i
  · rw [if_pos hb, if_pos hb]; rfl
  · rw [if_neg hb, if_neg hb, if_neg hb]

theorem lastS (b : Fin 32) : slabOf (scr.view.read (Elt F) (runLast c i arg2 harg2 arg3 harg3 arg4 harg4 arg5 harg5 arg6 harg6 arg7 harg7 arg8 harg8 arg9 harg9 hc3' x2 x3 x4 x5 x6 x7 y8 y9 fs fd).2.2.1) b
    = if b = qb i then slabF (slabS x2 x3 x4 x5 x6 x7 (slabIn (k0_cond2 i = 1#1) (slabOf (scr.view.read (Elt F) fs) (qb i))))
      else slabOf (scr.view.read (Elt F) fs) b := by
  frame_open
  refine (four_slab c i _ _ _ _ hc3' b).trans ?_
  simp (disch := decide) only [View.readAt_eq_ld, View.ld_unit_lit', Memref.IsWhole.read_unread, View.writes_nil]
  rw [ld_slab _ (qb i) 0 (by omega) (off2 i), ld_slab _ (qb i) 128 (by omega) (off3 i), ld_slab _ (qb i) 256 (by omega) (off4 i)]
  have e := base_slab (F := F) c i fs
  by_cases hb : b = qb i
  · rw [if_pos hb, if_pos hb]
    have e2 := (e (qb i)).trans (if_pos rfl)
    refine congrArg slabF ?_
    rw [← e2]; rfl
  · rw [if_neg hb, if_neg hb]
    exact (e b).trans (if_neg hb)

/-- One query block's rows of the result array. -/
def rowsOf (s : Vec F S16384x384 .f32) (a : Fin 32) : Vec F S512x384 .f32 :=
  fun y => s (ix2 (⟨a.val * 512 + (y 0).val, by have h : (y 0).val < 512 := (y 0).isLt; omega⟩ : Fin 16384) (y 1))

theorem rowsOf_put (s : Vec F S16384x384 .f32) (a b : Fin 32) (w : Vec F S512x384 .f32) :
    rowsOf (VecWindow.put s ![a.val * 512, 0] ![512, 384] w) b = if b = a then w else rowsOf s b := by
  funext y
  idx_vars y
  have h0 : y0.val < 512 := y0.isLt
  have h1 : y1.val < 384 := y1.isLt
  by_cases hb : b = a
  · subst hb
    rw [if_pos rfl]
    have hall : ∀ q : Fin 2, (![b.val * 512, 0] : Fin 2 → ℕ) q ≤ ((ix2 (⟨b.val * 512 + y0.val, by omega⟩ : Fin 16384) y1) q).val
        ∧ ((ix2 (⟨b.val * 512 + y0.val, by omega⟩ : Fin 16384) y1) q).val < (![b.val * 512, 0] : Fin 2 → ℕ) q + (![512, 384] : Fin 2 → ℕ) q := by
      intro q; fin_cases q
      · show b.val * 512 ≤ b.val * 512 + y0.val ∧ b.val * 512 + y0.val < b.val * 512 + 512; omega
      · show 0 ≤ y1.val ∧ y1.val < 0 + 384; omega
    refine (dif_pos hall).trans (congrArg w (funext fun q => Fin.ext ?_))
    fin_cases q
    · show b.val * 512 + y0.val - b.val * 512 = y0.val; omega
    · show y1.val - 0 = y1.val; omega
  · have hv : b.val ≠ a.val := fun e => hb (Fin.ext e)
    rw [if_neg hb]
    refine dif_neg fun hall => ?_
    have q0 : a.val * 512 ≤ b.val * 512 + y0.val ∧ b.val * 512 + y0.val < a.val * 512 + 512 := hall 0
    omega

theorem lastD (b : Fin 32) : rowsOf (dqm.view.read (Elt F) (runLast c i arg2 harg2 arg3 harg3 arg4 harg4 arg5 harg5 arg6 harg6 arg7 harg7 arg8 harg8 arg9 harg9 hc3' x2 x3 x4 x5 x6 x7 y8 y9 fs fd).2.2.2.1) b
    = if b = qb i then slabF (slabS x2 x3 x4 x5 x6 x7 (slabIn (k0_cond2 i = 1#1) (slabOf (scr.view.read (Elt F) fs) (qb i))))
      else rowsOf (dqm.view.read (Elt F) fd) b := by
  have hS := (lastS c i arg2 harg2 arg3 harg3 arg4 harg4 arg5 harg5 arg6 harg6 arg7 harg7 arg8 harg8 arg9 harg9 hc3' x2 x3 x4 x5 x6 x7 y8 y9 fs fd (qb i)).trans (if_pos rfl)
  rw [← hS]
  frame_open
  refine (congrArg (fun s => rowsOf s b) (((congrArg (dqm.view.read (Elt F)) (View.writes_singleton _ _ _ _).symm)).trans (View.read_writes_cons_put _ _ _ _ _ (off6 i)))).trans ?_
  refine (rowsOf_put _ (qb i) b _).trans ?_
  refine if_congr Iff.rfl ?_ rfl
  funext y
  idx_vars y
  refine congrArg (scr.view.read (Elt F) _) ?_
  refine (congrArg (Rect.unit (s := S32x512x384) (k0_off7 i) S1x512x384.size (k0_off7_inb i hc3')).emb (ValueIdx.reshapeEquiv_ix2_1ab _ y0 y1)).trans ?_
  refine funext fun q => Fin.ext ?_
  have e7 := off7 i
  fin_cases q
  · show k0_off7 i 0 + 1 * 0 = (qb i).val
    rw [e7]; rfl
  · show k0_off7 i 1 + 1 * y0.val = y0.val
    rw [e7]; show 0 + 1 * y0.val = y0.val; omega
  · show k0_off7 i 2 + 1 * y1.val = y1.val
    rw [e7]; show 0 + 1 * y1.val = y1.val; omega

end
end Cert.AxbRun
end
-- ==== Proof.AxbFrame.lean ====
module

public import proofs.«01_k».proof.Proof.AxbVal

/-! The axial attention gradient kernel as a whole: it terminates, and what it leaves in its three results.

The carried query gradient is described slab by slab: after point `32 j + a`, slab `a` holds the sum of the terms of the
key blocks up to `j`, from zero (`slabAt`). The two output blocks of a key block hold the sum of the terms of the query
blocks so far (`dkAt`, `dvAt`). At the last key block the scaled slabs are the rows of the third result. -/

@[expose] public section

set_option maxRecDepth 16384

noncomputable section

namespace Cert.AxbRun

open Cert.AxbIdeal Cert.AxbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The grid -/

/-- The query block of a point. -/
theorem qb_at : ∀ t : Fin cfg0.N, (qb (grid0.coords t)).val = t.val % 32 := (by decide +kernel : ∀ t : Fin grid0.N, _)
theorem cond1_at : ∀ t : Fin cfg0.N, cond1 (grid0.coords t) = 1#1 ↔ t.val % 32 = 0 := (by decide +kernel : ∀ t : Fin grid0.N, _)
theorem cond2_at : ∀ t : Fin cfg0.N, k0_cond2 (grid0.coords t) = 1#1 ↔ t.val < 32 := (by decide +kernel : ∀ t : Fin grid0.N, _)
theorem cond3_at : ∀ t : Fin cfg0.N, k0_cond3 (grid0.coords t) = 1#1 ↔ 224 ≤ t.val := (by decide +kernel : ∀ t : Fin grid0.N, _)

/-- The grid point of a number. -/
def tp (n : ℕ) : Fin cfg0.N := ⟨n % 256, lt_of_lt_of_eq (Nat.mod_lt _ (by decide)) N_0.symm⟩
theorem tp_val (t : Fin cfg0.N) : tp t.val = t :=
  Fin.ext (Nat.mod_eq_of_lt (lt_of_lt_of_eq t.isLt N_0))

/-! ## What the points leave -/

/-- The block `dk` after point `t`, from the block before. -/
def dkPt (c : Dev nD) (t : Fin cfg0.N) (y : Vec F S2048x128 .f32) : Vec F S2048x128 .f32 :=
  dkS (iblk m c 0 t) (iblk m c 1 t) (iblk m c 2 t) (iblk m c 3 t) (iblk m c 4 t) (iblk m c 5 t) y
/-- The block `dv` after point `t`, from the block before. -/
def dvPt (c : Dev nD) (t : Fin cfg0.N) (y : Vec F S2048x128 .f32) : Vec F S2048x128 .f32 :=
  dvS (iblk m c 0 t) (iblk m c 1 t) (iblk m c 3 t) (iblk m c 4 t) y
/-- The query block's slab after point `t`, from the slab before. -/
def slabPt (c : Dev nD) (t : Fin cfg0.N) (d : Vec F S512x384 .f32) : Vec F S512x384 .f32 :=
  slabS (iblk m c 0 t) (iblk m c 1 t) (iblk m c 2 t) (iblk m c 3 t) (iblk m c 4 t) (iblk m c 5 t) d

/-- The block `dk` after point `n`. -/
def dkAt (c : Dev nD) : ℕ → Vec F S2048x128 .f32
  | 0 => dkPt m c (tp 0) (k0_pay2 (F := F))
  | n + 1 => dkPt m c (tp (n + 1)) (if (n + 1) % 32 = 0 then k0_pay2 (F := F) else dkAt c n)
/-- The block `dv` after point `n`. -/
def dvAt (c : Dev nD) : ℕ → Vec F S2048x128 .f32
  | 0 => dvPt m c (tp 0) (k0_pay3 (F := F))
  | n + 1 => dvPt m c (tp (n + 1)) (if (n + 1) % 32 = 0 then k0_pay3 (F := F) else dvAt c n)
/-- Query block `a`'s slab after key block `j`. -/
def slabAt (c : Dev nD) (a : ℕ) : ℕ → Vec F S512x384 .f32
  | 0 => slabPt m c (tp a) (drop1 (k0_pay4 (F := F)))
  | j + 1 => slabPt m c (tp (32 * (j + 1) + a)) (slabAt c a j)

/-- The carried array before point `t`. -/
def ScrOK (c : Dev nD) (t : ℕ) (s : Vec F S32x512x384 .f32) : Prop :=
  ∀ (a : Fin 32) (j : ℕ), j < 8 → 32 * j + a.val < t → t ≤ 32 * (j + 1) + a.val →
    slabOf s a = if j = 7 then slabF (slabAt m c a.val 7) else slabAt m c a.val j
/-- The third result before point `t`. -/
def HbmOK (c : Dev nD) (t : ℕ) (s : Vec F S16384x384 .f32) : Prop :=
  ∀ a : Fin 32, 224 + a.val < t → rowsOf s a = slabF (slabAt m c a.val 7)

/-- The slab a point leaves in its query block's place, unscaled. -/
theorem slab_at (c : Dev nD) (t : Fin cfg0.N) (s : Vec F S32x512x384 .f32) (hs : ScrOK m c t.val s) :
    slabPt m c t (slabIn (k0_cond2 (grid0.coords t) = 1#1) (slabOf s (qb (grid0.coords t)))) = slabAt m c (t.val % 32) (t.val / 32) := by
  have hN : t.val < 256 := lt_of_lt_of_eq t.isLt N_0
  have hq := qb_at t
  unfold slabIn
  rcases hj : t.val / 32 with _ | j
  · rw [if_pos ((cond2_at t).mpr (by omega))]
    show _ = slabPt m c (tp (t.val % 32)) _
    rw [show t.val % 32 = t.val by omega, tp_val]
  · rw [if_neg (fun h => by have := (cond2_at t).mp h; omega)]
    rw [hs (qb (grid0.coords t)) j (by omega) (by omega) (by omega), if_neg (by omega), hq]
    show _ = slabPt m c (tp (32 * (j + 1) + t.val % 32)) _
    rw [show 32 * (j + 1) + t.val % 32 = t.val by omega, tp_val]

/-- The carried array's description moves past a point. -/
theorem scrOK_step (c : Dev nD) (t : Fin cfg0.N) (s s' : Vec F S32x512x384 .f32) (hs : ScrOK m c t.val s)
    (h : ∀ b, slabOf s' b = if b = qb (grid0.coords t)
      then (if 224 ≤ t.val then slabF (slabAt m c (t.val % 32) (t.val / 32)) else slabAt m c (t.val % 32) (t.val / 32)) else slabOf s b) :
    ScrOK m c (t.val + 1) s' := by
  intro a j hj h1 h2
  have hN : t.val < 256 := lt_of_lt_of_eq t.isLt N_0
  have hq := qb_at t
  rw [h a]
  by_cases ha : a = qb (grid0.coords t)
  · have e : a.val = t.val % 32 := by rw [ha, hq]
    rw [if_pos ha]
    obtain rfl : j = t.val / 32 := by omega
    rw [e]
    by_cases h7 : 224 ≤ t.val
    · rw [if_pos h7, if_pos (by omega), show t.val / 32 = 7 by omega]
    · rw [if_neg h7, if_neg (by omega)]
  · have e : a.val ≠ t.val % 32 := fun e => ha (Fin.ext (e.trans hq.symm))
    rw [if_neg ha]
    exact hs a j hj (by omega) (by omega)

/-- The third result's description moves past a point of the last key block. -/
theorem hbmOK_step (c : Dev nD) (t : Fin cfg0.N) (ht : 224 ≤ t.val) (s s' : Vec F S16384x384 .f32) (hs : HbmOK m c t.val s)
    (h : ∀ b, rowsOf s' b = if b = qb (grid0.coords t) then slabF (slabAt m c (t.val % 32) (t.val / 32)) else rowsOf s b) :
    HbmOK m c (t.val + 1) s' := by
  intro a ha
  have hN : t.val < 256 := lt_of_lt_of_eq t.isLt N_0
  have hq := qb_at t
  rw [h a]
  by_cases hb : a = qb (grid0.coords t)
  · rw [if_pos hb, hb, hq, show t.val / 32 = 7 by omega]
  · have e : a.val ≠ t.val % 32 := fun e => hb (Fin.ext (e.trans hq.symm))
    rw [if_neg hb]
    exact hs a (by omega)

/-! ## The launch -/

/-- The buffer the body writes by its own transfers. -/
def R0 : Finset (Ref sig .tc) := {main_v49_2}
/-- No buffer outside the windows is read by a transfer. -/
def H0 : Finset (Ref sig .tc) := ∅
theorem H0_sub : H0 ⊆ Pipeline.restRefs sig spec0 := by decide
theorem R0_sub : R0 ⊆ Pipeline.restRefs sig spec0 \ H0 := by decide
/-- The body's one semaphore. -/
abbrev osem0 : Fin 1 → SemLoc sig := fun j => (![SemLoc.dma 16] : Fin 1 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 16) 0 := by
  rw [Pipeline.ownSems0_eq_of_list c osem0 [0] (by decide) (by decide)]; rfl

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The third result as the kernel leaves it: the scaled slabs, one after the other. -/
def dqAll (c : Dev nD) : Vec F S16384x384 .f32 := fun y =>
  slabF (slabAt m c ((y 0).val / 512) 7) (ix2 (⟨(y 0).val % 512, Nat.mod_lt _ (by decide)⟩ : Fin 512) (y 1))

/-- The buffers outside the windows as the kernel leaves them. -/
def G (c : Dev nD) (b : Ref sig .tc) : Buf (Elt F) ((c : Thread nD τ).loc b) :=
  Function.update (V m c) main_v49_2 (dqAll m c) b

theorem G_dq (c : Dev nD) : G m c main_v49_2 = dqAll m c := by
  unfold G; rw [Function.update_self]

/-- What the points carry besides the windows: the scratch array, the generator's register, the semaphore at zero and the
    third result. -/
def carry (c : Dev nD) (t : ℕ) : sProp 𝕄 :=
  iprop((∃ D : Cont (F := F) c scr, ⌜ScrOK m c t (scr.view.read (Elt F) D)⌝ ∗ pts c scr D) ∗ (∃ r, prngReg c r)
    ∗ semVal ((c : Thread nD τ), SemLoc.dma 16) 0
    ∗ (∃ Q : Cont (F := F) c dqm, ⌜HbmOK m c t (dqm.view.read (Elt F) Q)⌝ ∗ pts c dqm Q))

/-- The proof data: the arrays as the region finds them, the blocks after each point, the carried invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => dkAt m c t.val | ⟨7, _⟩ => dvAt m c t.val
    | ⟨_ + 8, h⟩ => absurd h (Nat.not_lt.2 (Nat.le_add_left _ _))
  Φ t := carry m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dkAt m c t.val := by dsimp only [dats]
theorem after7 (c : Dev nD) (t : Fin cfg0.N) : (dats m 0 c).after 7 t = dvAt m c t.val := by dsimp only [dats]

/-- An input window's buffer holds the window's block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
@[inherit_doc before0]
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
@[inherit_doc before0]
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
@[inherit_doc before0]
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
@[inherit_doc before0]
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
@[inherit_doc before0]
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The block `dk` after a point, whatever the output buffer held at the first query block. -/
theorem dk_at (c : Dev nD) (t : Fin cfg0.N) (d) :
    dkPt m c t (if cond1 (grid0.coords t) = 1#1 then k0_pay2 (F := F) else (dats m 0 c).before 6 t d) = dkAt m c t.val := by
  have hN : t.val < 256 := lt_of_lt_of_eq t.isLt N_0
  by_cases h : t.val % 32 = 0
  · rw [if_pos ((cond1_at t).mpr h)]
    rcases hn : t.val with _ | n
    · show _ = dkPt m c (tp 0) _
      rw [← hn, tp_val]
    · show _ = dkPt m c (tp (n + 1)) _
      rw [if_pos (by omega), ← hn, tp_val]
  · rw [if_neg (fun e => h ((cond1_at t).mp e))]
    rw [Dat.before_out_kept _ 6 rfl t (by omega) (Bool.eq_false_iff.mpr fun e => by have := (flush0_6 _).mp e; dsimp only at this; omega)
      (fun _ => rfl) (fun _ _ => rfl)]
    rw [after6]
    show dkPt m c t (dkAt m c (t.val - 1)) = _
    obtain ⟨n, hn⟩ : ∃ n, t.val = n + 1 := ⟨t.val - 1, by omega⟩
    rw [hn]
    show dkPt m c t (dkAt m c n) = dkPt m c (tp (n + 1)) _
    rw [if_neg (by omega), ← hn, tp_val]
/-- The block `dv` after a point, whatever the output buffer held at the first query block. -/
theorem dv_at (c : Dev nD) (t : Fin cfg0.N) (d) :
    dvPt m c t (if cond1 (grid0.coords t) = 1#1 then k0_pay3 (F := F) else (dats m 0 c).before 7 t d) = dvAt m c t.val := by
  have hN : t.val < 256 := lt_of_lt_of_eq t.isLt N_0
  by_cases h : t.val % 32 = 0
  · rw [if_pos ((cond1_at t).mpr h)]
    rcases hn : t.val with _ | n
    · show _ = dvPt m c (tp 0) _
      rw [← hn, tp_val]
    · show _ = dvPt m c (tp (n + 1)) _
      rw [if_pos (by omega), ← hn, tp_val]
  · rw [if_neg (fun e => h ((cond1_at t).mp e))]
    rw [Dat.before_out_kept _ 7 rfl t (by omega) (Bool.eq_false_iff.mpr fun e => by have := (flush0_7 _).mp e; dsimp only at this; omega)
      (fun _ => rfl) (fun _ _ => rfl)]
    rw [after7]
    show dvPt m c t (dvAt m c (t.val - 1)) = _
    obtain ⟨n, hn⟩ : ∃ n, t.val = n + 1 := ⟨t.val - 1, by omega⟩
    rw [hn]
    show dvPt m c t (dvAt m c n) = dvPt m c (tp (n + 1)) _
    rw [if_neg (by omega), ← hn, tp_val]

/-! ## The body at a point -/

/-- What a point finds. -/
def bodyPre (c : Dev nD) (t : Fin cfg0.N) : sProp 𝕄 :=
  iprop(carry m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
/-- What a point leaves. -/
def bodyPost (c : Dev nD) (t : Fin cfg0.N) : sProp 𝕄 :=
  iprop(carry m c (t.val + 1) ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

set_option maxHeartbeats 1000000 in
/-- A point away from the last key block. -/
theorem sound_mid (c : Dev nD) (t : Fin cfg0.N) (hc3 : ¬ k0_cond3 (grid0.coords t) = 1#1) :
    bodyPre m c t ⊢ wp frame (wpE (defs₀ (F := F)) Variants.none c none) Set.univ (bodyAt0 t) (fun _ => bodyPost m c t) := by
  unfold bodyPre bodyPost carry
  simp only [before0, before1, before2, before3, before4, before5, after0, after1, after2, after3, after4, after5, after6, after7]
  unfold Dat.owesAt Pipeline.owesWithin
  rw [show (dats m 0 c).owed t.castSucc = 0 from rfl, show (dats m 0 c).owed t.succ = 0 from rfl]
  iintro ⟨⟨⟨%D, %hD, HS⟩, Hg, Hq, ⟨%Q, %hQ, HD⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((runMid c (grid0.coords t) _ _ _ _ _ _ _ _ _ _ _ _ _ _ _ _ hc3 (iblk m c 0 t) (iblk m c 1 t) (iblk m c 2 t) (iblk m c 3 t) (iblk m c 4 t) (iblk m c 5 t)
    ((dats m 0 c).before 6 t d6) ((dats m 0 c).before 7 t d7) D).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg Hq HD]
  · isplitl [HS]
    · iexists _; isplitr
      swap; · iexact HS
      ipureintro
      refine scrOK_step m c t _ _ hD fun b => ?_
      refine (midS c _ _ _ _ _ _ _ _ _ _ _ _ _ _ _ _ _ hc3 _ _ _ _ _ _ _ _ _ b).trans ?_
      rw [if_neg (fun h => hc3 ((cond3_at t).mpr h))]
      refine if_congr Iff.rfl ?_ rfl
      exact slab_at m c t _ hD
    isplitl [Hg]; · iexact Hg
    isplitl [Hq]; · iexact Hq
    iexists _; isplitr
    swap; · iexact HD
    ipureintro
    intro a ha
    exact absurd ((cond3_at t).mpr (by omega)) hc3
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (mid8 c _ _ _ _ _ _ _ _ _ _ _ _ _ _ _ _ _ hc3 _ _ _ _ _ _ _ _ _).trans (dk_at m c t d6)
  unfold owns; iexists _; isplitr
  swap; · iexact H7
  ipureintro
  exact (mid9 c _ _ _ _ _ _ _ _ _ _ _ _ _ _ _ _ _ hc3 _ _ _ _ _ _ _ _ _).trans (dv_at m c t d7)

set_option maxHeartbeats 1000000 in
/-- A point of the last key block. -/
theorem sound_last (c : Dev nD) (t : Fin cfg0.N) (hc3 : k0_cond3 (grid0.coords t) = 1#1) :
    bodyPre m c t ⊢ wp frame (wpE (defs₀ (F := F)) Variants.none c none) Set.univ (bodyAt0 t) (fun _ => bodyPost m c t) := by
  unfold bodyPre bodyPost carry
  simp only [before0, before1, before2, before3, before4, before5, after0, after1, after2, after3, after4, after5, after6, after7]
  unfold Dat.owesAt Pipeline.owesWithin
  rw [show (dats m 0 c).owed t.castSucc = 0 from rfl, show (dats m 0 c).owed t.succ = 0 from rfl]
  iintro ⟨⟨⟨%D, %hD, HS⟩, Hg, Hq, ⟨%Q, %hQ, HD⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply ((runLast c (grid0.coords t) _ _ _ _ _ _ _ _ _ _ _ _ _ _ _ _ hc3 (iblk m c 0 t) (iblk m c 1 t) (iblk m c 2 t) (iblk m c 3 t) (iblk m c 4 t) (iblk m c 5 t)
    ((dats m 0 c).before 6 t d6) ((dats m 0 c).before 7 t d7) D Q).2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HD]; · iexact HD
  isplitl [Hq]; · iexact Hq
  isplitl [HW]; · iexact HW
  iintro ⟨H0, H1, H2, H3, H4, H5, H6, H7, HS, HD, Hq, ⟨%W', HW⟩⟩
  isplitl [HS Hg Hq HD]
  · isplitl [HS]
    · iexists _; isplitr
      swap; · iexact HS
      ipureintro
      refine scrOK_step m c t _ _ hD fun b => ?_
      refine (lastS c _ _ _ _ _ _ _ _ _ _ _ _ _ _ _ _ _ hc3 _ _ _ _ _ _ _ _ _ _ b).trans ?_
      rw [if_pos ((cond3_at t).mp hc3)]
      refine if_congr Iff.rfl ?_ rfl
      exact congrArg slabF (slab_at m c t _ hD)
    isplitl [Hg]; · iexact Hg
    isplitl [Hq]; · iexact Hq
    iexists _; isplitr
    swap; · iexact HD
    ipureintro
    refine hbmOK_step m c t ((cond3_at t).mp hc3) _ _ hQ fun b => ?_
    refine (lastD c _ _ _ _ _ _ _ _ _ _ _ _ _ _ _ _ _ hc3 _ _ _ _ _ _ _ _ _ _ b).trans ?_
    refine if_congr Iff.rfl ?_ rfl
    exact congrArg slabF (slab_at m c t _ hD)
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (last8 c _ _ _ _ _ _ _ _ _ _ _ _ _ _ _ _ _ hc3 _ _ _ _ _ _ _ _ _ _).trans (dk_at m c t d6)
  unfold owns; iexists _; isplitr
  swap; · iexact H7
  ipureintro
  exact (last9 c _ _ _ _ _ _ _ _ _ _ _ _ _ _ _ _ _ hc3 _ _ _ _ _ _ _ _ _ _).trans (dv_at m c t d7)

theorem sound_body (c : Dev nD) (t : Fin cfg0.N) :
    bodyPre m c t ⊢ wp frame (wpE (defs₀ (F := F)) Variants.none c none) Set.univ (bodyAt0 t) (fun _ => bodyPost m c t) := by
  by_cases hc3 : k0_cond3 (grid0.coords t) = 1#1
  · exact sound_last m c t hc3
  · exact sound_mid m c t hc3

theorem defs₀_row (t : Fin cfg0.N) : defs₀ (F := F) .tc cfg0.body (cfg0.bodyArgs t (cfg0.slots t)) = bodyAt0 t := by
  unfold defs₀; rw [Defs.onTc_tc]

/-- The launch theorem's obligation on the body. -/
theorem body_obligation (c : Dev nD) : BodyObligation (dats m 0 c) defs₀ Variants.none () Set.univ := fun t => by
  rw [bigSep_W0, bigSep_W0, defs₀_row]
  exact triple_restated (sound_body m c t) rfl .rfl fun _ => .rfl

/-! ## The run -/

theorem routed_eq (c : Dev nD) (g : (b : Ref sig .tc) → Buf (Elt F) ((c : Thread nD τ).loc b)) :
    (Pipeline.routed R0 c g : sProp 𝕄) = pts c dqm (g main_v49_2) := by
  unfold Pipeline.routed
  rw [BI.bigSep_eq_bigSepL_of_eq [main_v49_2] (by decide) (by decide)]
  rfl

theorem hbm_eq (c : Dev nD) (f : (b : Ref sig .tc) → Buf (Elt F) ((c : Thread nD τ).loc b)) :
    (bigSep H0 (fun b => ((c : Thread nD τ).loc b) ↦{fullShare} f b) : sProp 𝕄) = iprop(emp) := by
  rw [BI.bigSep_eq_bigSepL_of_eq [] (by decide) (by decide)]; rfl

/-- The invariant at the first point is what the launch hands over. -/
theorem carry_in (c : Dev nD) :
    Pipeline.ΦDRG osem0 spec0 H0 R0 (V m) (V m) c ⊢ (carry m c 0 : sProp 𝕄) := by
  rw [Pipeline.ΦDRG_eq, scopedRest0_eq, ownSems_eq, routed_eq, hbm_eq]
  unfold carry
  iintro ⟨⟨%f, HS⟩, Hg, Hq, -, HD⟩
  isplitl [HS]
  · iexists _; isplitr
    swap; · iexact HS
    ipureintro; intro a j _ h; omega
  isplitl [Hg]; · iexact Hg
  isplitl [Hq]; · iexact Hq
  iexists _; isplitr
  swap; · iexact HD
  ipureintro; intro a h; omega

/-- The third result after the last point. -/
theorem hbmOK_end (c : Dev nD) (s : Vec F S16384x384 .f32) (h : HbmOK m c 256 s) : s = dqAll m c := by
  funext y
  have h0 : (y 0).val < 16384 := (y 0).isLt
  have e := congrFun (h ⟨(y 0).val / 512, by omega⟩ (by show 224 + (y 0).val / 512 < 256; omega))
    (ix2 (⟨(y 0).val % 512, Nat.mod_lt _ (by decide)⟩ : Fin 512) (y 1))
  refine Eq.trans (congrArg s ?_) e
  refine (Idealize.ShloMosaic.ValueIdx.eq_ix2 y).trans (congrArg (fun a => ix2 a (y 1)) (Fin.ext ?_))
  show (y 0).val = (y 0).val / 512 * 512 + (y 0).val % 512
  omega

/-- The invariant after the last point is what the launch takes back. -/
theorem carry_out (c : Dev nD) :
    (carry m c 256 : sProp 𝕄) ⊢ Pipeline.ΦDRG osem0 spec0 H0 R0 (V m) (G m) c := by
  rw [Pipeline.ΦDRG_eq, scopedRest0_eq, ownSems_eq, routed_eq, hbm_eq]
  unfold carry
  iintro ⟨⟨%D, -, HS⟩, Hg, Hq, ⟨%Q, %hQ, HD⟩⟩
  have e : Q = G m c main_v49_2 := (hbmOK_end m c _ hQ).trans (G_dq m c).symm
  subst e
  isplitl [HS]; · iexists _; iexact HS
  isplitl [Hg]; · iexact Hg
  isplitl [Hq]; · iexact Hq
  isplitr; · iempintro
  iexact HD

set_option backward.isDefEq.respectTransparency.types false in
/-- The program's run: every window's array at the blocks after the points, the third result at `dqAll`. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := carry_in m) (hout := fun c => carry_out m c)

/-- The frame: the program terminates without a fault, its arguments end unchanged, its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩) (run_main m ρ)

end Cert.AxbRun

end
-- ==== Proof.AxbSpec.lean ====
/- The axial attention's gradient in real arithmetic.
   Six query heads in two groups of three share two key and value heads; a head is 64 columns wide. Every query sees every key. -/
module
public import proofs.«01_k».proof.Proof.Finite

@[expose] public section

noncomputable section

namespace AxbSpec

/-- The query columns of head `r` of group `g`. -/
def hc (g : Fin 2) (r : Fin 3) (d : Fin 64) : Fin 384 := ⟨g.val * 192 + r.val * 64 + d.val, by omega⟩

/-- The key columns of group `g`. -/
def gc (g : Fin 2) (d : Fin 64) : Fin 128 := ⟨g.val * 64 + d.val, by omega⟩

/-- Group, head of the group and column of the head, of a query column. -/
def qg (c : Fin 384) : Fin 2 := ⟨c.val / 192, by omega⟩
def qr (c : Fin 384) : Fin 3 := ⟨c.val / 64 % 3, by omega⟩
def qd (c : Fin 384) : Fin 64 := ⟨c.val % 64, by omega⟩

/-- Group and column of the head, of a key column. -/
def kg (c : Fin 128) : Fin 2 := ⟨c.val / 64, by omega⟩
def kd (c : Fin 128) : Fin 64 := ⟨c.val % 64, by omega⟩

variable (q y : Fin 16384 → Fin 384 → ℝ) (k v : Fin 16384 → Fin 128 → ℝ)

/-- The score of query `n` and key `j`. -/
def sc (g : Fin 2) (r : Fin 3) (n j : Fin 16384) : ℝ := (∑ d, k j (gc g d) * q n (hc g r d)) * (1 / 8)

/-- The softmax's normaliser. -/
def den (g : Fin 2) (r : Fin 3) (n : Fin 16384) : ℝ := ∑ j, Real.exp (sc q k g r n j)

/-- The attention's probability. -/
def pr (g : Fin 2) (r : Fin 3) (n j : Fin 16384) : ℝ := Real.exp (sc q k g r n j) / den q k g r n

/-- The gradient that reaches a probability. -/
def dp (g : Fin 2) (r : Fin 3) (n j : Fin 16384) : ℝ := ∑ d, y n (hc g r d) * v j (gc g d)

/-- The row's mean of these gradients under the probabilities. -/
def dl (g : Fin 2) (r : Fin 3) (n : Fin 16384) : ℝ := ∑ j, pr q k g r n j * dp y v g r n j

/-- The gradient of a score. -/
def ds (g : Fin 2) (r : Fin 3) (n j : Fin 16384) : ℝ := pr q k g r n j * (dp y v g r n j - dl q y k v g r n)

/-- The gradient of the queries. -/
def dq (n : Fin 16384) (c : Fin 384) : ℝ := (∑ j, ds q y k v (qg c) (qr c) n j * k j (gc (qg c) (qd c))) * (1 / 8)

/-- The gradient of the keys. -/
def dk (j : Fin 16384) (c : Fin 128) : ℝ := ∑ n, ∑ r, ds q y k v (kg c) r n j * (1 / 8) * q n (hc (kg c) r (kd c))

/-- The gradient of the values. -/
def dv (j : Fin 16384) (c : Fin 128) : ℝ := ∑ n, ∑ r, pr q k (kg c) r n j * y n (hc (kg c) r (kd c))

theorem den_pos (g : Fin 2) (r : Fin 3) (n : Fin 16384) : 0 < den q k g r n :=
  Finset.sum_pos (fun _ _ => Real.exp_pos _) ⟨0, Finset.mem_univ _⟩

/-- A shift of a row's scores leaves its probabilities as they are. -/
theorem pr_shift (g : Fin 2) (r : Fin 3) (n j : Fin 16384) (M : ℝ) :
    Real.exp (sc q k g r n j - M) / (∑ j, Real.exp (sc q k g r n j - M)) = pr q k g r n j := by
  simp only [Real.exp_sub, ← Finset.sum_div]
  exact div_div_div_cancel_right₀ (Real.exp_pos M).ne' _ _

theorem shift_pos (g : Fin 2) (r : Fin 3) (n : Fin 16384) (M : ℝ) : 0 < ∑ j, Real.exp (sc q k g r n j - M) :=
  Finset.sum_pos (fun _ _ => Real.exp_pos _) ⟨0, Finset.mem_univ _⟩

end AxbSpec

end
-- ==== Proof.AxbBlk.lean ====
module

public import proofs.«01_k».proof.Proof.AxbVal
public import proofs.«01_k».proof.Proof.AxbSpec

/-! One grid point of the axial attention gradient in real arithmetic.

A point multiplies blocks that keep one head's 64 columns and hold zeros in the other 64, so a product over 128 columns is the
head's product over 64. The six heads' terms of the keys' and values' gradients fall in their group's columns. -/

@[expose] public section

set_option maxRecDepth 16384

noncomputable section

namespace Cert.AxbRun

open Cert.AxbIdeal Cert.AxbIdeal.Gen
open Idealize.ShloMosaic Idealize.ShloMosaic.TcCoe Idealize.ShloMosaic.Tactic
open Cert.Finite AxbSpec

/-- A real array as an array of extended reals. -/
abbrev up {s : Shape} (x : s.Idx → ℝ) : s.Idx → EReal := fun i => ((x i : ℝ) : EReal)

/-! ## The operations of a point -/

abbrev KB := FVec Ideal S2048x128 .bf16
abbrev QB := FVec Ideal S512x128 .bf16
abbrev KF := FVec Ideal S2048x128 .f32

/-- The probabilities of a head. -/
def pv (k : KB) (q : QB) (l : Vec Ideal S1x1x512 .f32) : FVec Ideal S2048x512 .f32 := k0_pay29 k q l
/-- The gradients of a head's scores. -/
def sv (v : KB) (y : QB) (p : FVec Ideal S2048x512 .f32) (l : Vec Ideal S1x1x512 .f32) : FVec Ideal S2048x512 .bf16 := k0_pay52 v y p l
/-- A head's term of the keys' or values' gradient. -/
def mb (d : FVec Ideal S2048x512 .bf16) (x : QB) : KF :=
  matmul dot_S2048x512_S512x128_S2048x128_1_0_0_1_n_n none d x (constant S2048x128 .f32 0x00000000#32)
/-- A head's term of the queries' gradient. -/
def mc (d : FVec Ideal S2048x512 .bf16) (x : KB) : FVec Ideal S512x128 .f32 :=
  matmul dot_S2048x512_S2048x128_S512x128_0_0_1_1_n_n none d x (constant S512x128 .f32 0x00000000#32)
def pb (p : FVec Ideal S2048x512 .f32) : FVec Ideal S2048x512 .bf16 := truncf .bf16 p bitsLt_bf16_f32

def ql (x : QB) : QB := select k0_pay23 x (k0_pay24 (F := Ideal))
def qh (x : QB) : QB := select k0_pay23 (k0_pay24 (F := Ideal)) x
def qlr (x : QB) : QB := select k0_pay23 (dynamicRotate 1 64#32 none x rotates_S512x128_d1) (k0_pay24 (F := Ideal))
def qhr (x : QB) : QB := select k0_pay23 (k0_pay24 (F := Ideal)) (dynamicRotate 1 64#32 none x rotates_S512x128_d1)

section
variable (x2 : Vec Ideal S512x384 .bf16) (x3 x4 : Vec Ideal S2048x128 .bf16) (x5 : Vec Ideal S512x384 .bf16) (x6 x7 : Vec Ideal S6x1x512 .f32)

def P0 := pv (k0_pay9 x3) (k0_pay21 (col0 x2)) (st0 x6)
def P1 := pv (k0_pay10 x3) (k0_pay21 (col0 x2)) (st1 x6)
def P2 := pv (k0_pay9 x3) (k0_pay21 (col1 x2)) (st2 x6)
def P3 := pv (k0_pay12 x3) (k0_pay21 (col1 x2)) (st3 x6)
def P4 := pv (k0_pay11 x3) (k0_pay21 (col2 x2)) (st4 x6)
def P5 := pv (k0_pay12 x3) (k0_pay21 (col2 x2)) (st5 x6)
def D0 := sv (k0_pay17 x4) (k0_pay21 (col0 x5)) (P0 x2 x3 x6) (st0 x7)
def D1 := sv (k0_pay18 x4) (k0_pay21 (col0 x5)) (P1 x2 x3 x6) (st1 x7)
def D2 := sv (k0_pay17 x4) (k0_pay21 (col1 x5)) (P2 x2 x3 x6) (st2 x7)
def D3 := sv (k0_pay20 x4) (k0_pay21 (col1 x5)) (P3 x2 x3 x6) (st3 x7)
def D4 := sv (k0_pay19 x4) (k0_pay21 (col2 x5)) (P4 x2 x3 x6) (st4 x7)
def D5 := sv (k0_pay20 x4) (k0_pay21 (col2 x5)) (P5 x2 x3 x6) (st5 x7)

theorem dvS_split (y : KF) : dvS x2 x3 x5 x6 y
    = addf (shapeCast S2048x128 y shapeCasts_S2048x128_S2048x128) (addf (addf (addf (addf (addf
        (mb (pb (P0 x2 x3 x6)) (ql (k0_pay21 (col0 x5)))) (mb (pb (P1 x2 x3 x6)) (qlr (k0_pay21 (col0 x5)))))
        (mb (pb (P2 x2 x3 x6)) (ql (k0_pay21 (col1 x5))))) (mb (pb (P3 x2 x3 x6)) (qh (k0_pay21 (col1 x5)))))
        (mb (pb (P4 x2 x3 x6)) (qhr (k0_pay21 (col2 x5))))) (mb (pb (P5 x2 x3 x6)) (qh (k0_pay21 (col2 x5))))) := rfl

theorem dkS_split (y : KF) : dkS x2 x3 x4 x5 x6 x7 y
    = addf (shapeCast S2048x128 y shapeCasts_S2048x128_S2048x128) (addf (addf (addf (addf (addf
        (mb (D0 x2 x3 x4 x5 x6 x7) (ql (k0_pay21 (col0 x2)))) (mb (D1 x2 x3 x4 x5 x6 x7) (qlr (k0_pay21 (col0 x2)))))
        (mb (D2 x2 x3 x4 x5 x6 x7) (ql (k0_pay21 (col1 x2))))) (mb (D3 x2 x3 x4 x5 x6 x7) (qh (k0_pay21 (col1 x2)))))
        (mb (D4 x2 x3 x4 x5 x6 x7) (qhr (k0_pay21 (col2 x2))))) (mb (D5 x2 x3 x4 x5 x6 x7) (qh (k0_pay21 (col2 x2))))) := rfl

/-- A slab's 128 columns and two heads' terms. -/
def acc (w : Vec Ideal S1x512x128 .f32) (a b : FVec Ideal S512x128 .f32) : Vec Ideal S1x512x128 .f32 :=
  shapeCast S1x512x128 (addf (shapeCast S512x128 w shapeCasts_S1x512x128_S512x128) (addf a b)) shapeCasts_S512x128_S1x512x128

theorem sl0_split (w : Vec Ideal S1x512x128 .f32) : sl0 x2 x3 x4 x5 x6 x7 w
    = acc w (mc (D0 x2 x3 x4 x5 x6 x7) (k0_pay9 x3)) (mc (D1 x2 x3 x4 x5 x6 x7) (k0_pay10 x3)) := rfl
theorem sl1_split (w : Vec Ideal S1x512x128 .f32) : sl1 x2 x3 x4 x5 x6 x7 w
    = acc w (mc (D2 x2 x3 x4 x5 x6 x7) (k0_pay9 x3)) (mc (D3 x2 x3 x4 x5 x6 x7) (k0_pay12 x3)) := rfl
theorem sl2_split (w : Vec Ideal S1x512x128 .f32) : sl2 x2 x3 x4 x5 x6 x7 w
    = acc w (mc (D4 x2 x3 x4 x5 x6 x7) (k0_pay11 x3)) (mc (D5 x2 x3 x4 x5 x6 x7) (k0_pay12 x3)) := rfl
end

/-! ## The same at real numbers -/

/-- The first 64 columns and zeros; zeros and the last 64 columns; the last 64 columns and zeros; zeros and the first 64 columns. -/
def lo {a : ℕ} (x : Fin a → Fin 128 → ℝ) (i : Fin a) (e : Fin 128) : ℝ := if e.val < 64 then x i e else 0
@[inherit_doc lo] def hi {a : ℕ} (x : Fin a → Fin 128 → ℝ) (i : Fin a) (e : Fin 128) : ℝ := if e.val < 64 then 0 else x i e
@[inherit_doc lo] def lor {a : ℕ} (x : Fin a → Fin 128 → ℝ) (i : Fin a) (e : Fin 128) : ℝ :=
  if h : e.val < 64 then x i ⟨e.val + 64, by omega⟩ else 0
@[inherit_doc lo] def hir {a : ℕ} (x : Fin a → Fin 128 → ℝ) (i : Fin a) (e : Fin 128) : ℝ :=
  if h : e.val < 64 then 0 else x i ⟨e.val - 64, by omega⟩

theorem lo_up {a : ℕ} (x : Fin a → Fin 128 → ℝ) (i : Fin a) (e : Fin 128) : (if e.val < 64 then ((x i e : ℝ) : EReal) else 0) = ((lo x i e : ℝ) : EReal) := by
  unfold lo; split <;> rfl
theorem hi_up {a : ℕ} (x : Fin a → Fin 128 → ℝ) (i : Fin a) (e : Fin 128) : (if e.val < 64 then 0 else ((x i e : ℝ) : EReal)) = ((hi x i e : ℝ) : EReal) := by
  unfold hi; split <;> rfl
theorem lor_up {a : ℕ} (x : Fin a → Fin 128 → ℝ) (i : Fin a) (e : Fin 128) :
    (if e.val < 64 then ((x i ⟨(e.val + 128 - 64) % 128, Nat.mod_lt _ (by decide)⟩ : ℝ) : EReal) else 0) = ((lor x i e : ℝ) : EReal) := by
  unfold lor
  by_cases h : e.val < 64
  · rw [if_pos h, dif_pos h]
    exact congrArg (fun l : Fin 128 => ((x i l : ℝ) : EReal)) (Fin.ext (by show (e.val + 128 - 64) % 128 = e.val + 64; omega))
  · rw [if_neg h, dif_neg h]; rfl
theorem hir_up {a : ℕ} (x : Fin a → Fin 128 → ℝ) (i : Fin a) (e : Fin 128) :
    (if e.val < 64 then 0 else ((x i ⟨(e.val + 128 - 64) % 128, Nat.mod_lt _ (by decide)⟩ : ℝ) : EReal)) = ((hir x i e : ℝ) : EReal) := by
  unfold hir
  by_cases h : e.val < 64
  · rw [if_pos h, dif_pos h]; rfl
  · rw [if_neg h, dif_neg h]
    exact congrArg (fun l : Fin 128 => ((x i l : ℝ) : EReal)) (Fin.ext (by show (e.val + 128 - 64) % 128 = e.val - 64; omega))

/-- A matrix as a real array. -/
abbrev mat {a b : ℕ} (x : Fin a → Fin b → ℝ) : (⟨2, ![a, b]⟩ : Shape).Idx → ℝ := fun i => x (i 0) (i 1)

/-- The mask of the first 64 columns. -/
theorem mask (e : Fin 128) (a b : EReal) : Scalar.select (IntOp.cmpi CmpIPredicate.slt (BitVec.ofNat 32 e.val) 64#32) a b = if e.val < 64 then a else b := by
  have h : ∀ e : Fin 128, IntOp.cmpi CmpIPredicate.slt (BitVec.ofNat 32 e.val) 64#32 = if e.val < 64 then 1#1 else 0#1 := by decide
  rw [h]
  split <;> rfl

section
variable (k v : Fin 2048 → Fin 128 → ℝ) (q y : Fin 512 → Fin 128 → ℝ)

theorem pay21_real : k0_pay21 (F := Ideal) (up (mat q)) = up (mat q) := by
  change (_ : S512x128.Idx → EReal) = _
  funext i
  idx_vars i
  pointwise [k0_pay21]
theorem pay9_real : k0_pay9 (F := Ideal) (up (mat k)) = up (mat (lo k)) := by
  change (_ : S2048x128.Idx → EReal) = _
  funext i
  idx_vars i
  pointwise [k0_pay9, k0_pay5, k0_pay6, k0_pay7]
  rw [mask]
  exact lo_up k i0 i1
theorem pay10_real : k0_pay10 (F := Ideal) (up (mat k)) = up (mat (hir k)) := by
  change (_ : S2048x128.Idx → EReal) = _
  funext i
  idx_vars i
  pointwise [k0_pay10, k0_pay5, k0_pay6, k0_pay7, k0_pay8]
  rw [mask]
  exact hir_up k i0 i1
theorem pay11_real : k0_pay11 (F := Ideal) (up (mat k)) = up (mat (lor k)) := by
  change (_ : S2048x128.Idx → EReal) = _
  funext i
  idx_vars i
  pointwise [k0_pay11, k0_pay5, k0_pay6, k0_pay7, k0_pay8]
  rw [mask]
  exact lor_up k i0 i1
theorem pay12_real : k0_pay12 (F := Ideal) (up (mat k)) = up (mat (hi k)) := by
  change (_ : S2048x128.Idx → EReal) = _
  funext i
  idx_vars i
  pointwise [k0_pay12, k0_pay5, k0_pay6, k0_pay7]
  rw [mask]
  exact hi_up k i0 i1
theorem pay17_real : k0_pay17 (F := Ideal) (up (mat k)) = up (mat (lo k)) := by
  change (_ : S2048x128.Idx → EReal) = _
  funext i
  idx_vars i
  pointwise [k0_pay17, k0_pay13, k0_pay14, k0_pay15]
  rw [mask]
  exact lo_up k i0 i1
theorem pay18_real : k0_pay18 (F := Ideal) (up (mat k)) = up (mat (hir k)) := by
  change (_ : S2048x128.Idx → EReal) = _
  funext i
  idx_vars i
  pointwise [k0_pay18, k0_pay13, k0_pay14, k0_pay15, k0_pay16]
  rw [mask]
  exact hir_up k i0 i1
theorem pay19_real : k0_pay19 (F := Ideal) (up (mat k)) = up (mat (lor k)) := by
  change (_ : S2048x128.Idx → EReal) = _
  funext i
  idx_vars i
  pointwise [k0_pay19, k0_pay13, k0_pay14, k0_pay15, k0_pay16]
  rw [mask]
  exact lor_up k i0 i1
theorem pay20_real : k0_pay20 (F := Ideal) (up (mat k)) = up (mat (hi k)) := by
  change (_ : S2048x128.Idx → EReal) = _
  funext i
  idx_vars i
  pointwise [k0_pay20, k0_pay13, k0_pay14, k0_pay15]
  rw [mask]
  exact hi_up k i0 i1
theorem ql_real : ql (up (mat q)) = up (mat (lo q)) := by
  change (_ : S512x128.Idx → EReal) = _
  funext i
  idx_vars i
  pointwise [ql, k0_pay23, k0_pay24]
  rw [mask]
  exact lo_up q i0 i1
theorem qh_real : qh (up (mat q)) = up (mat (hi q)) := by
  change (_ : S512x128.Idx → EReal) = _
  funext i
  idx_vars i
  pointwise [qh, k0_pay23, k0_pay24]
  rw [mask]
  exact hi_up q i0 i1
theorem qlr_real : qlr (up (mat q)) = up (mat (lor q)) := by
  change (_ : S512x128.Idx → EReal) = _
  funext i
  idx_vars i
  pointwise [qlr, k0_pay23, k0_pay24]
  rw [mask]
  exact lor_up q i0 i1
theorem qhr_real : qhr (up (mat q)) = up (mat (hir q)) := by
  change (_ : S512x128.Idx → EReal) = _
  funext i
  idx_vars i
  pointwise [qhr, k0_pay23, k0_pay24]
  rw [mask]
  exact hir_up q i0 i1

theorem pv_real (l : Fin 512 → ℝ) : pv (up (mat k)) (up (mat q)) (up (s := S1x1x512) fun i => l (i 2))
    = up (mat fun j n => Real.exp ((∑ e, k j e * q n e) - l n)) := by
  change (_ : S2048x512.Idx → EReal) = _
  funext i
  idx_vars i
  pointwise [pv, k0_pay29]
  simp only [up, ← EReal.coe_mul, sum_coe, ← EReal.coe_sub]
  rfl
theorem sv_real (p : Fin 2048 → Fin 512 → ℝ) (l : Fin 512 → ℝ) :
    sv (up (mat k)) (up (mat q)) (up (mat p)) (up (s := S1x1x512) fun i => l (i 2)) = up (mat fun j n => p j n * ((∑ e, k j e * q n e) - l n)) := by
  change (_ : S2048x512.Idx → EReal) = _
  funext i
  idx_vars i
  pointwise [sv, k0_pay52]
  simp only [up, ← EReal.coe_mul, sum_coe, ← EReal.coe_sub]
  rfl
theorem pb_real (p : Fin 2048 → Fin 512 → ℝ) : pb (up (mat p)) = up (mat p) := by
  change (_ : S2048x512.Idx → EReal) = _
  funext i
  idx_vars i
  pointwise [pb]
theorem mb_real (p : Fin 2048 → Fin 512 → ℝ) : mb (up (mat p)) (up (mat q)) = up (mat fun j c => ∑ n, p j n * q n c) := by
  change (_ : S2048x128.Idx → EReal) = _
  funext i
  idx_vars i
  pointwise [mb]
  simp only [up, ← EReal.coe_mul, sum_coe]
  rfl
theorem mc_real (p : Fin 2048 → Fin 512 → ℝ) : mc (up (mat p)) (up (mat k)) = up (mat fun n c => ∑ j, p j n * k j c) := by
  change (_ : S512x128.Idx → EReal) = _
  funext i
  idx_vars i
  pointwise [mc]
  simp only [up, ← EReal.coe_mul, sum_coe]
  rfl
theorem acc_real (w : Vec Ideal S1x512x128 .f32) (a b : Fin 512 → Fin 128 → ℝ) (n : Fin 512) (c : Fin 128) :
   acc w (up (mat a)) (up (mat b)) (ix3 0 n c) = w (ix3 0 n c) + ((a n c + b n c : ℝ) : EReal) := by
  pointwise [acc]
  rw [EReal.coe_add]
  rfl
theorem sum_real (y : KF) (a b c d e f : Fin 2048 → Fin 128 → ℝ) (j : Fin 2048) (l : Fin 128) :
    (addf (shapeCast S2048x128 y shapeCasts_S2048x128_S2048x128) (addf (F := Ideal) (φ := .f32) (addf (F := Ideal) (φ := .f32) (addf (F := Ideal) (φ := .f32) (addf (F := Ideal) (φ := .f32) (addf (F := Ideal) (φ := .f32) (up (mat a)) (up (mat b))) (up (mat c))) (up (mat d))) (up (mat e))) (up (mat f)))) (ix2 j l)
      = (y (ix2 j l) : EReal) + ((a j l + b j l + c j l + d j l + e j l + f j l : ℝ) : EReal) := by
  pointwise
  simp only [EReal.coe_add]
  rfl

/-- A pair of heads' columns. -/
def pair (x : Fin 512 → Fin 384 → ℝ) (p : Fin 3) (n : Fin 512) (e : Fin 128) : ℝ := x n ⟨e.val + 128 * p.val, by omega⟩

theorem col0_real (x : Fin 512 → Fin 384 → ℝ) : col0 (F := Ideal) (up (mat x)) = up (mat (pair x 0)) := by
  change (_ : S512x128.Idx → EReal) = _
  funext i
  idx_vars i
  refine congrArg (fun r : ℝ => (r : EReal)) (congrArg₂ x (Fin.ext ?_) (Fin.ext ?_))
  · show 0 + 1 * i0.val = i0.val; omega
  · show 0 + 1 * i1.val = i1.val + 128 * 0; omega
theorem col1_real (x : Fin 512 → Fin 384 → ℝ) : col1 (F := Ideal) (up (mat x)) = up (mat (pair x 1)) := by
  change (_ : S512x128.Idx → EReal) = _
  funext i
  idx_vars i
  refine congrArg (fun r : ℝ => (r : EReal)) (congrArg₂ x (Fin.ext ?_) (Fin.ext ?_))
  · show 0 + 1 * i0.val = i0.val; omega
  · show 128 + 1 * i1.val = i1.val + 128 * 1; omega
theorem col2_real (x : Fin 512 → Fin 384 → ℝ) : col2 (F := Ideal) (up (mat x)) = up (mat (pair x 2)) := by
  change (_ : S512x128.Idx → EReal) = _
  funext i
  idx_vars i
  refine congrArg (fun r : ℝ => (r : EReal)) (congrArg₂ x (Fin.ext ?_) (Fin.ext ?_))
  · show 0 + 1 * i0.val = i0.val; omega
  · show 256 + 1 * i1.val = i1.val + 128 * 2; omega
theorem st0_real (l : Fin 6 → Fin 512 → ℝ) : st0 (F := Ideal) (up (s := S6x1x512) fun i => l (i 0) (i 2)) = up (s := S1x1x512) fun i => l 0 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 0 + 1 * i0.val = 0; omega
  · show 0 + 1 * i2.val = i2.val; omega
theorem st1_real (l : Fin 6 → Fin 512 → ℝ) : st1 (F := Ideal) (up (s := S6x1x512) fun i => l (i 0) (i 2)) = up (s := S1x1x512) fun i => l 1 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 1 + 1 * i0.val = 1; omega
  · show 0 + 1 * i2.val = i2.val; omega
theorem st2_real (l : Fin 6 → Fin 512 → ℝ) : st2 (F := Ideal) (up (s := S6x1x512) fun i => l (i 0) (i 2)) = up (s := S1x1x512) fun i => l 2 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 2 + 1 * i0.val = 2; omega
  · show 0 + 1 * i2.val = i2.val; omega
theorem st3_real (l : Fin 6 → Fin 512 → ℝ) : st3 (F := Ideal) (up (s := S6x1x512) fun i => l (i 0) (i 2)) = up (s := S1x1x512) fun i => l 3 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 3 + 1 * i0.val = 3; omega
  · show 0 + 1 * i2.val = i2.val; omega
theorem st4_real (l : Fin 6 → Fin 512 → ℝ) : st4 (F := Ideal) (up (s := S6x1x512) fun i => l (i 0) (i 2)) = up (s := S1x1x512) fun i => l 4 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 4 + 1 * i0.val = 4; omega
  · show 0 + 1 * i2.val = i2.val; omega
theorem st5_real (l : Fin 6 → Fin 512 → ℝ) : st5 (F := Ideal) (up (s := S6x1x512) fun i => l (i 0) (i 2)) = up (s := S1x1x512) fun i => l 5 (i 2) := by
  change (_ : S1x1x512.Idx → EReal) = _
  funext i
  idx_vars i
  have hi0 : i0.val < 1 := i0.isLt
  refine congrArg (fun r : ℝ => (r : EReal)) (congrArg₂ l (Fin.ext ?_) (Fin.ext ?_))
  · show 5 + 1 * i0.val = 5; omega
  · show 0 + 1 * i2.val = i2.val; omega
end

/-! ## A point's terms -/

/-- The number of head `r` of group `g`. -/
def hd (g : Fin 2) (r : Fin 3) : Fin 6 := ⟨g.val * 3 + r.val, by omega⟩

theorem sum_halves (f : Fin 128 → ℝ) : ∑ e, f e = (∑ d : Fin 64, f ⟨d.val, by omega⟩) + ∑ d : Fin 64, f ⟨d.val + 64, by omega⟩ := by
  refine (Fin.sum_univ_add (a := 64) (b := 64) f).trans (congrArg₂ (· + ·) rfl (Finset.sum_congr rfl fun d _ => congrArg f (Fin.ext ?_)))
  show 64 + d.val = d.val + 64
  omega

section
variable {a : ℕ} (k : Fin a → Fin 128 → ℝ) (x : Fin 128 → ℝ) (j : Fin a)
theorem lo_sum : ∑ e, lo k j e * x e = ∑ d : Fin 64, k j ⟨d.val, by omega⟩ * x ⟨d.val, by omega⟩ := by
  rw [sum_halves]; simp [lo]
theorem hi_sum : ∑ e, hi k j e * x e = ∑ d : Fin 64, k j ⟨d.val + 64, by omega⟩ * x ⟨d.val + 64, by omega⟩ := by
  rw [sum_halves]; simp [hi]
theorem lor_sum : ∑ e, lor k j e * x e = ∑ d : Fin 64, k j ⟨d.val + 64, by omega⟩ * x ⟨d.val, by omega⟩ := by
  rw [sum_halves]; simp [lor]
theorem hir_sum : ∑ e, hir k j e * x e = ∑ d : Fin 64, k j ⟨d.val, by omega⟩ * x ⟨d.val + 64, by omega⟩ := by
  rw [sum_halves]; simp [hir]
end

section
variable (Q Y : Fin 512 → Fin 384 → ℝ) (K V : Fin 2048 → Fin 128 → ℝ) (L D : Fin 6 → Fin 512 → ℝ)

/-- A head's product of a key-shaped and a query-shaped block. -/
def hsum (g : Fin 2) (r : Fin 3) (j : Fin 2048) (n : Fin 512) : ℝ := ∑ d, K j (gc g d) * Q n (hc g r d)
/-- A head's probabilities, from the row statistic `L`. -/
def prob (g : Fin 2) (r : Fin 3) (j : Fin 2048) (n : Fin 512) : ℝ := Real.exp (hsum Q K g r j n - L (hd g r) n)
/-- The gradients of a head's scores, from the row statistics `L` and `D`. -/
def grad (g : Fin 2) (r : Fin 3) (j : Fin 2048) (n : Fin 512) : ℝ := prob Q K L g r j n * (hsum Y V g r j n - D (hd g r) n)
/-- The terms of a key-shaped gradient. -/
def toK (w : Fin 2 → Fin 3 → Fin 2048 → Fin 512 → ℝ) (j : Fin 2048) (c : Fin 128) : ℝ := ∑ n, ∑ r, w (kg c) r j n * Q n (hc (kg c) r (kd c))
/-- The terms of a query-shaped gradient. -/
def toQ (w : Fin 2 → Fin 3 → Fin 2048 → Fin 512 → ℝ) (n : Fin 512) (c : Fin 384) : ℝ := ∑ j, w (qg c) (qr c) j n * K j (gc (qg c) (qd c))

theorem hsum0 (j : Fin 2048) (n : Fin 512) : ∑ e, lo K j e * pair Q 0 n e = hsum Q K 0 0 j n := by
  rw [lo_sum]
  refine Finset.sum_congr rfl fun d _ => congrArg₂ (· * ·) (congrArg (K j) (Fin.ext ?_)) (congrArg (Q n) (Fin.ext ?_))
  · show d.val = 0 * 64 + d.val; omega
  · show d.val + 128 * 0 = 0 * 192 + 0 * 64 + d.val; omega
theorem hsum1 (j : Fin 2048) (n : Fin 512) : ∑ e, hir K j e * pair Q 0 n e = hsum Q K 0 1 j n := by
  rw [hir_sum]
  refine Finset.sum_congr rfl fun d _ => congrArg₂ (· * ·) (congrArg (K j) (Fin.ext ?_)) (congrArg (Q n) (Fin.ext ?_))
  · show d.val = 0 * 64 + d.val; omega
  · show d.val + 64 + 128 * 0 = 0 * 192 + 1 * 64 + d.val; omega
theorem hsum2 (j : Fin 2048) (n : Fin 512) : ∑ e, lo K j e * pair Q 1 n e = hsum Q K 0 2 j n := by
  rw [lo_sum]
  refine Finset.sum_congr rfl fun d _ => congrArg₂ (· * ·) (congrArg (K j) (Fin.ext ?_)) (congrArg (Q n) (Fin.ext ?_))
  · show d.val = 0 * 64 + d.val; omega
  · show d.val + 128 * 1 = 0 * 192 + 2 * 64 + d.val; omega
theorem hsum3 (j : Fin 2048) (n : Fin 512) : ∑ e, hi K j e * pair Q 1 n e = hsum Q K 1 0 j n := by
  rw [hi_sum]
  refine Finset.sum_congr rfl fun d _ => congrArg₂ (· * ·) (congrArg (K j) (Fin.ext ?_)) (congrArg (Q n) (Fin.ext ?_))
  · show d.val + 64 = 1 * 64 + d.val; omega
  · show d.val + 64 + 128 * 1 = 1 * 192 + 0 * 64 + d.val; omega
theorem hsum4 (j : Fin 2048) (n : Fin 512) : ∑ e, lor K j e * pair Q 2 n e = hsum Q K 1 1 j n := by
  rw [lor_sum]
  refine Finset.sum_congr rfl fun d _ => congrArg₂ (· * ·) (congrArg (K j) (Fin.ext ?_)) (congrArg (Q n) (Fin.ext ?_))
  · show d.val + 64 = 1 * 64 + d.val; omega
  · show d.val + 128 * 2 = 1 * 192 + 1 * 64 + d.val; omega
theorem hsum5 (j : Fin 2048) (n : Fin 512) : ∑ e, hi K j e * pair Q 2 n e = hsum Q K 1 2 j n := by
  rw [hi_sum]
  refine Finset.sum_congr rfl fun d _ => congrArg₂ (· * ·) (congrArg (K j) (Fin.ext ?_)) (congrArg (Q n) (Fin.ext ?_))
  · show d.val + 64 = 1 * 64 + d.val; omega
  · show d.val + 64 + 128 * 2 = 1 * 192 + 2 * 64 + d.val; omega
theorem P0_real : P0 (up (mat Q)) (up (mat K)) (up (s := S6x1x512) fun i => L (i 0) (i 2)) = up (mat (prob Q K L 0 0)) := by
  unfold P0
  rw [col0_real, st0_real, pay21_real, pay9_real, pv_real]
  simp only [hsum0]
  rfl
theorem D0_real : D0 (up (mat Q)) (up (mat K)) (up (mat V)) (up (mat Y)) (up (s := S6x1x512) fun i => L (i 0) (i 2)) (up (s := S6x1x512) fun i => D (i 0) (i 2))
    = up (mat (grad Q Y K V L D 0 0)) := by
  unfold D0
  rw [P0_real, col0_real, st0_real, pay21_real, pay17_real, sv_real]
  simp only [hsum0]
  rfl
theorem P1_real : P1 (up (mat Q)) (up (mat K)) (up (s := S6x1x512) fun i => L (i 0) (i 2)) = up (mat (prob Q K L 0 1)) := by
  unfold P1
  rw [col0_real, st1_real, pay21_real, pay10_real, pv_real]
  simp only [hsum1]
  rfl
theorem D1_real : D1 (up (mat Q)) (up (mat K)) (up (mat V)) (up (mat Y)) (up (s := S6x1x512) fun i => L (i 0) (i 2)) (up (s := S6x1x512) fun i => D (i 0) (i 2))
    = up (mat (grad Q Y K V L D 0 1)) := by
  unfold D1
  rw [P1_real, col0_real, st1_real, pay21_real, pay18_real, sv_real]
  simp only [hsum1]
  rfl
theorem P2_real : P2 (up (mat Q)) (up (mat K)) (up (s := S6x1x512) fun i => L (i 0) (i 2)) = up (mat (prob Q K L 0 2)) := by
  unfold P2
  rw [col1_real, st2_real, pay21_real, pay9_real, pv_real]
  simp only [hsum2]
  rfl
theorem D2_real : D2 (up (mat Q)) (up (mat K)) (up (mat V)) (up (mat Y)) (up (s := S6x1x512) fun i => L (i 0) (i 2)) (up (s := S6x1x512) fun i => D (i 0) (i 2))
    = up (mat (grad Q Y K V L D 0 2)) := by
  unfold D2
  rw [P2_real, col1_real, st2_real, pay21_real, pay17_real, sv_real]
  simp only [hsum2]
  rfl
theorem P3_real : P3 (up (mat Q)) (up (mat K)) (up (s := S6x1x512) fun i => L (i 0) (i 2)) = up (mat (prob Q K L 1 0)) := by
  unfold P3
  rw [col1_real, st3_real, pay21_real, pay12_real, pv_real]
  simp only [hsum3]
  rfl
theorem D3_real : D3 (up (mat Q)) (up (mat K)) (up (mat V)) (up (mat Y)) (up (s := S6x1x512) fun i => L (i 0) (i 2)) (up (s := S6x1x512) fun i => D (i 0) (i 2))
    = up (mat (grad Q Y K V L D 1 0)) := by
  unfold D3
  rw [P3_real, col1_real, st3_real, pay21_real, pay20_real, sv_real]
  simp only [hsum3]
  rfl
theorem P4_real : P4 (up (mat Q)) (up (mat K)) (up (s := S6x1x512) fun i => L (i 0) (i 2)) = up (mat (prob Q K L 1 1)) := by
  unfold P4
  rw [col2_real, st4_real, pay21_real, pay11_real, pv_real]
  simp only [hsum4]
  rfl
theorem D4_real : D4 (up (mat Q)) (up (mat K)) (up (mat V)) (up (mat Y)) (up (s := S6x1x512) fun i => L (i 0) (i 2)) (up (s := S6x1x512) fun i => D (i 0) (i 2))
    = up (mat (grad Q Y K V L D 1 1)) := by
  unfold D4
  rw [P4_real, col2_real, st4_real, pay21_real, pay19_real, sv_real]
  simp only [hsum4]
  rfl
theorem P5_real : P5 (up (mat Q)) (up (mat K)) (up (s := S6x1x512) fun i => L (i 0) (i 2)) = up (mat (prob Q K L 1 2)) := by
  unfold P5
  rw [col2_real, st5_real, pay21_real, pay12_real, pv_real]
  simp only [hsum5]
  rfl
theorem D5_real : D5 (up (mat Q)) (up (mat K)) (up (mat V)) (up (mat Y)) (up (s := S6x1x512) fun i => L (i 0) (i 2)) (up (s := S6x1x512) fun i => D (i 0) (i 2))
    = up (mat (grad Q Y K V L D 1 2)) := by
  unfold D5
  rw [P5_real, col2_real, st5_real, pay21_real, pay20_real, sv_real]
  simp only [hsum5]
  rfl

theorem toK_eq (w : Fin 2 → Fin 3 → Fin 2048 → Fin 512 → ℝ) (j : Fin 2048) (c : Fin 128) :
    (∑ n, w 0 0 j n * lo (pair Q 0) n c) + (∑ n, w 0 1 j n * lor (pair Q 0) n c) + (∑ n, w 0 2 j n * lo (pair Q 1) n c)
      + (∑ n, w 1 0 j n * hi (pair Q 1) n c) + (∑ n, w 1 1 j n * hir (pair Q 2) n c) + (∑ n, w 1 2 j n * hi (pair Q 2) n c) = toK Q w j c := by
  unfold toK
  simp only [← Finset.sum_add_distrib]
  refine Finset.sum_congr rfl fun n _ => ?_
  rw [Fin.sum_univ_three]
  by_cases h : c.val < 64
  · have e : kg c = 0 := Fin.ext (by show c.val / 64 = 0; omega)
    have e0 : hc 0 0 (kd c) = ⟨c.val + 128 * 0, by omega⟩ := Fin.ext (by show 0 * 192 + 0 * 64 + c.val % 64 = c.val + 128 * 0; omega)
    have e1 : hc 0 1 (kd c) = ⟨c.val + 64 + 128 * 0, by omega⟩ := Fin.ext (by show 0 * 192 + 1 * 64 + c.val % 64 = c.val + 64 + 128 * 0; omega)
    have e2 : hc 0 2 (kd c) = ⟨c.val + 128 * 1, by omega⟩ := Fin.ext (by show 0 * 192 + 2 * 64 + c.val % 64 = c.val + 128 * 1; omega)
    rw [e, e0, e1, e2]
    simp [lo, hi, lor, hir, h, pair]
  · have e : kg c = 1 := Fin.ext (by show c.val / 64 = 1; omega)
    have e0 : hc 1 0 (kd c) = ⟨c.val + 128 * 1, by omega⟩ := Fin.ext (by show 1 * 192 + 0 * 64 + c.val % 64 = c.val + 128 * 1; omega)
    have e1 : hc 1 1 (kd c) = ⟨c.val - 64 + 128 * 2, by omega⟩ := Fin.ext (by show 1 * 192 + 1 * 64 + c.val % 64 = c.val - 64 + 128 * 2; omega)
    have e2 : hc 1 2 (kd c) = ⟨c.val + 128 * 2, by omega⟩ := Fin.ext (by show 1 * 192 + 2 * 64 + c.val % 64 = c.val + 128 * 2; omega)
    rw [e, e0, e1, e2]
    simp [lo, hi, lor, hir, h, pair]

/-- What a point adds to the values' gradient. -/
theorem dvS_real (z : KF) (j : Fin 2048) (c : Fin 128) :
    dvS (F := Ideal) (up (mat Q)) (up (mat K)) (up (mat Y)) (up (s := S6x1x512) fun i => L (i 0) (i 2)) z (ix2 j c)
      = (z (ix2 j c) : EReal) + ((toK Y (prob Q K L) j c : ℝ) : EReal) := by
  rw [dvS_split]
  simp only [P0_real, P1_real, P2_real, P3_real, P4_real, P5_real, pb_real, col0_real, col1_real, col2_real, pay21_real, ql_real, qh_real, qlr_real, qhr_real, mb_real]
  rw [← toK_eq]
  exact sum_real _ _ _ _ _ _ _ j c

/-- What a point adds to the keys' gradient. -/
theorem dkS_real (z : KF) (j : Fin 2048) (c : Fin 128) :
    dkS (F := Ideal) (up (mat Q)) (up (mat K)) (up (mat V)) (up (mat Y)) (up (s := S6x1x512) fun i => L (i 0) (i 2)) (up (s := S6x1x512) fun i => D (i 0) (i 2)) z (ix2 j c)
      = (z (ix2 j c) : EReal) + ((toK Q (grad Q Y K V L D) j c : ℝ) : EReal) := by
  rw [dkS_split]
  simp only [D0_real, D1_real, D2_real, D3_real, D4_real, D5_real, col0_real, col1_real, col2_real, pay21_real, ql_real, qh_real, qlr_real, qhr_real, mb_real]
  rw [← toK_eq]
  exact sum_real _ _ _ _ _ _ _ j c

theorem toQ0 (w : Fin 2 → Fin 3 → Fin 2048 → Fin 512 → ℝ) (n : Fin 512) (c : Fin 384) (e : Fin 128) (h : c.val = e.val + 0) :
    (∑ j, w 0 0 j n * lo K j e) + (∑ j, w 0 1 j n * hir K j e) = toQ K w n c := by
  unfold toQ
  rw [← Finset.sum_add_distrib]
  refine Finset.sum_congr rfl fun j _ => ?_
  by_cases he : e.val < 64
  · have e1 : qg c = 0 := Fin.ext (by show c.val / 192 = 0; omega)
    have e2 : qr c = 0 := Fin.ext (by show c.val / 64 % 3 = 0; omega)
    have e3 : gc 0 (qd c) = ⟨e.val, by omega⟩ := Fin.ext (by show 0 * 64 + c.val % 64 = e.val; omega)
    rw [e1, e2, e3]
    simp [lo, hi, lor, hir, he]
  · have e1 : qg c = 0 := Fin.ext (by show c.val / 192 = 0; omega)
    have e2 : qr c = 1 := Fin.ext (by show c.val / 64 % 3 = 1; omega)
    have e3 : gc 0 (qd c) = ⟨e.val - 64, by omega⟩ := Fin.ext (by show 0 * 64 + c.val % 64 = e.val - 64; omega)
    rw [e1, e2, e3]
    simp [lo, hi, lor, hir, he]
theorem toQ1 (w : Fin 2 → Fin 3 → Fin 2048 → Fin 512 → ℝ) (n : Fin 512) (c : Fin 384) (e : Fin 128) (h : c.val = e.val + 128) :
    (∑ j, w 0 2 j n * lo K j e) + (∑ j, w 1 0 j n * hi K j e) = toQ K w n c := by
  unfold toQ
  rw [← Finset.sum_add_distrib]
  refine Finset.sum_congr rfl fun j _ => ?_
  by_cases he : e.val < 64
  · have e1 : qg c = 0 := Fin.ext (by show c.val / 192 = 0; omega)
    have e2 : qr c = 2 := Fin.ext (by show c.val / 64 % 3 = 2; omega)
    have e3 : gc 0 (qd c) = ⟨e.val, by omega⟩ := Fin.ext (by show 0 * 64 + c.val % 64 = e.val; omega)
    rw [e1, e2, e3]
    simp [lo, hi, lor, hir, he]
  · have e1 : qg c = 1 := Fin.ext (by show c.val / 192 = 1; omega)
    have e2 : qr c = 0 := Fin.ext (by show c.val / 64 % 3 = 0; omega)
    have e3 : gc 1 (qd c) = ⟨e.val, by omega⟩ := Fin.ext (by show 1 * 64 + c.val % 64 = e.val; omega)
    rw [e1, e2, e3]
    simp [lo, hi, lor, hir, he]
theorem toQ2 (w : Fin 2 → Fin 3 → Fin 2048 → Fin 512 → ℝ) (n : Fin 512) (c : Fin 384) (e : Fin 128) (h : c.val = e.val + 256) :
    (∑ j, w 1 1 j n * lor K j e) + (∑ j, w 1 2 j n * hi K j e) = toQ K w n c := by
  unfold toQ
  rw [← Finset.sum_add_distrib]
  refine Finset.sum_congr rfl fun j _ => ?_
  by_cases he : e.val < 64
  · have e1 : qg c = 1 := Fin.ext (by show c.val / 192 = 1; omega)
    have e2 : qr c = 1 := Fin.ext (by show c.val / 64 % 3 = 1; omega)
    have e3 : gc 1 (qd c) = ⟨e.val + 64, by omega⟩ := Fin.ext (by show 1 * 64 + c.val % 64 = e.val + 64; omega)
    rw [e1, e2, e3]
    simp [lo, hi, lor, hir, he]
  · have e1 : qg c = 1 := Fin.ext (by show c.val / 192 = 1; omega)
    have e2 : qr c = 2 := Fin.ext (by show c.val / 64 % 3 = 2; omega)
    have e3 : gc 1 (qd c) = ⟨e.val, by omega⟩ := Fin.ext (by show 1 * 64 + c.val % 64 = e.val; omega)
    rw [e1, e2, e3]
    simp [lo, hi, lor, hir, he]

/-- What a point adds to the queries' gradient. -/
theorem slabS_real (d : Vec Ideal S512x384 .f32) (n : Fin 512) (c : Fin 384) :
    slabS (up (mat Q)) (up (mat K)) (up (mat V)) (up (mat Y)) (up (s := S6x1x512) fun i => L (i 0) (i 2)) (up (s := S6x1x512) fun i => D (i 0) (i 2)) d (ix2 n c)
      = (d (ix2 n c) : EReal) + ((toQ K (grad Q Y K V L D) n c : ℝ) : EReal) := by
  unfold slabS
  rw [sl0_split, sl1_split, sl2_split]
  simp only [D0_real, D1_real, D2_real, D3_real, D4_real, D5_real, pay9_real, pay10_real, pay11_real, pay12_real, mc_real]
  unfold glue
  have hc : c.val < 384 := c.isLt
  by_cases h0 : c.val < 128
  · refine (dif_pos h0).trans ((acc_real _ _ _ n ⟨c.val, h0⟩).trans (congrArg₂ (· + ·) ?_ (congrArg (fun r : ℝ => (r : EReal)) (toQ0 K _ n c ⟨c.val, h0⟩ rfl))))
    exact congrArg d (congrArg (ix2 n) (Fin.ext (by show 0 + c.val = c.val; omega)))
  · refine (dif_neg h0).trans ?_
    by_cases h1 : c.val < 256
    · refine (dif_pos h1).trans ((acc_real _ _ _ n ⟨c.val - 128, by omega⟩).trans (congrArg₂ (· + ·) ?_ (congrArg (fun r : ℝ => (r : EReal)) (toQ1 K _ n c ⟨c.val - 128, by omega⟩ (by show c.val = c.val - 128 + 128; omega)))))
      exact congrArg d (congrArg (ix2 n) (Fin.ext (by show 128 + (c.val - 128) = c.val; omega)))
    · refine (dif_neg h1).trans ((acc_real _ _ _ n ⟨c.val - 256, by omega⟩).trans (congrArg₂ (· + ·) ?_ (congrArg (fun r : ℝ => (r : EReal)) (toQ2 K _ n c ⟨c.val - 256, by omega⟩ (by show c.val = c.val - 256 + 256; omega)))))
      exact congrArg d (congrArg (ix2 n) (Fin.ext (by show 256 + (c.val - 256) = c.val; omega)))
end

end Cert.AxbRun
end
-- ==== Proof.AxbRef.lean ====
module
public import proofs.«01_k».proof.Proof.AxbSpec
public import proofs.«01_k».proof.Proof.Gen.AxbRefIdeal.Run

@[expose] public section
set_option maxRecDepth 16384
noncomputable section
namespace Cert.AxbRef
open Cert.AxbRefIdeal Cert.AxbRefIdeal.Gen Idealize.ShloMosaic Idealize.ShloMosaic.TcCoe Idealize.SL.Sem Idealize.ShloMosaic.StableHlo Cert.Finite

/-- A vector of scores-shape, and the argument shapes. -/
abbrev B4 := FVec Ideal S2x3x16384x16384 .f32
abbrev B3 := FVec Ideal S2x3x16384 .f32
abbrev A2 := FVec Ideal S16384x384 .f32
abbrev K2 := FVec Ideal S16384x128 .f32

def q4 (q : A2) : FVec Ideal S16384x2x3x64 .f32 := shapeCast _ q shapeCasts_S16384x384_S16384x2x3x64
def k3 (k : K2) : FVec Ideal S16384x2x64 .f32 := shapeCast _ k shapeCasts_S16384x128_S16384x2x64
def scoreV (q : A2) (k : K2) : B4 :=
  mulf (transpose S2x3x16384x16384 [0, 3, 2, 1] (Host.dotGeneral dot_S16384x2x64_S16384x2x3x64_S2x16384x16384x3_2_3_0_02_1_1 none (k3 k) (q4 q)) transposes_S2x16384x16384x3_S2x3x16384x16384_0_3_2_1)
    (broadcastInDim S2x3x16384x16384 ![] bcast_S_S2x3x16384x16384 (constant S_ .f32 0x3E000000#32))
def maxV (s : B4) : B3 := maximumf (broadcastInDim S2x3x16384 ![] bcast_S_S2x3x16384 (constant S_ .f32 0xFF800000#32)) (Host.reduce FloatOps.maximumf s (constant S_ .f32 0xFF800000#32) reducesTo_S2x3x16384x16384_S2x3x16384_d3 h_S_)
def bc (x : FVec Ideal S2x3x16384x1 .f32) : B4 := broadcastInDim S2x3x16384x16384 ![0, 1, 2, 3] bcast_S2x3x16384x1_S2x3x16384x16384_0_1_2_3 x
def b1 (x : B3) : FVec Ideal S2x3x16384x1 .f32 := broadcastInDim S2x3x16384x1 ![0, 1, 2] bcast_S2x3x16384_S2x3x16384x1_0_1_2 x
def expV (s : B4) : B4 := Host.exp (subf s (bc (b1 (maxV s))))
def sumV (x : B4) : B3 := Host.reduceAdd x (constant S_ .f32 0x00000000#32) reducesTo_S2x3x16384x16384_S2x3x16384_d3 h_S_
def dpV (y : A2) (v : K2) : B4 := Host.dotGeneral dot_S2x64x3x16384_S16384x2x64_S2x3x16384x16384_1_2_23_0_0_1 none (transpose S2x64x3x16384 [1, 3, 2, 0] (q4 y) transposes_S16384x2x3x64_S2x64x3x16384_1_3_2_0) (k3 v)
def probV (e : B4) : B4 := Host.divf e (bc (b1 (sumV e)))
def negV (e d : B4) : B3 :=
  Host.reduceAdd (Host.negf (shapeCast _ (sumV (mulf (mulf d (bc (Host.divf (broadcastInDim S2x3x16384x1 ![] bcast_S_S2x3x16384x1 (constant S_ .f32 0x3F800000#32)) (mulf (b1 (sumV e)) (b1 (sumV e)))))) e)) shapeCasts_S2x3x16384_S2x3x16384x1)) (constant S_ .f32 0x00000000#32) reducesTo_S2x3x16384x1_S2x3x16384_d3 h_S_
def dsV (e d : B4) : B4 :=
  mulf (mulf (addf (Host.divf d (bc (b1 (sumV e)))) (broadcastInDim S2x3x16384x16384 ![0, 1, 2] bcast_S2x3x16384_S2x3x16384x16384_0_1_2 (negV e d))) e)
    (broadcastInDim S2x3x16384x16384 ![] bcast_S_S2x3x16384x16384 (constant S_ .f32 0x3E000000#32))
def dqV (ds : B4) (k : K2) : A2 :=
  shapeCast _ (transpose S16384x2x3x64 [1, 0, 2, 3] (Host.dotGeneral dot_S2x16384x16384x3_S16384x2x64_S2x16384x3x64_1_0_23_2_0_1 none (transpose S2x16384x16384x3 [0, 3, 2, 1] ds transposes_S2x3x16384x16384_S2x16384x16384x3_0_3_2_1) (k3 k)) transposes_S2x16384x3x64_S16384x2x3x64_1_0_2_3) shapeCasts_S16384x2x3x64_S16384x384
def dkV (ds : B4) (q : A2) : K2 :=
  shapeCast _ (transpose S16384x2x64 [1, 0, 2] (Host.dotGeneral dot_S2x16384x16384x3_S16384x2x3x64_S2x16384x64_23_02_1_3_0_1 none (transpose S2x16384x16384x3 [0, 3, 2, 1] ds transposes_S2x3x16384x16384_S2x16384x16384x3_0_3_2_1) (q4 q)) transposes_S2x16384x64_S16384x2x64_1_0_2) shapeCasts_S16384x2x64_S16384x128
def dvV (p : B4) (y : A2) : K2 :=
  shapeCast _ (transpose S16384x2x64 [2, 0, 1] (Host.dotGeneral dot_S2x64x3x16384_S2x3x16384x16384_S2x64x16384_23_12_1_3_0_0 none (transpose S2x64x3x16384 [1, 3, 2, 0] (q4 y) transposes_S16384x2x3x64_S2x64x3x16384_1_3_2_0) p) transposes_S2x64x16384_S16384x2x64_2_0_1) shapeCasts_S16384x2x64_S16384x128

/-- A real array as an array of extended reals. -/
abbrev up {s : Shape} (x : s.Idx → ℝ) : FVec Ideal s .f32 := fun i => ((x i : ℝ) : EReal)

variable (m : (ℓ : Loc nD τ sig) → Buf (Elt Ideal) ℓ) (c : Dev nD)

/-- The program's gradient of the keys, by its stages. -/
theorem v63 : Value.res_main_v63 m c = dkV (dsV (expV (scoreV (m ((c.tc : Thread nD τ).loc main_arg0)) (m ((c.tc : Thread nD τ).loc main_arg1))))
    (dpV (m ((c.tc : Thread nD τ).loc main_arg3)) (m ((c.tc : Thread nD τ).loc main_arg2)))) (m ((c.tc : Thread nD τ).loc main_arg0)) := rfl

/-- The program's gradient of the queries, by its stages. -/
theorem v64 : Value.res_main_v64 m c = dqV (dsV (expV (scoreV (m ((c.tc : Thread nD τ).loc main_arg0)) (m ((c.tc : Thread nD τ).loc main_arg1))))
    (dpV (m ((c.tc : Thread nD τ).loc main_arg3)) (m ((c.tc : Thread nD τ).loc main_arg2)))) (m ((c.tc : Thread nD τ).loc main_arg1)) := rfl

variable (q y : S16384x384.Idx → ℝ) (k v : S16384x128.Idx → ℝ)

/-- The rows of an array. -/
abbrev rw2 {a b : ℕ} (x : (⟨2, ![a, b]⟩ : Shape).Idx → ℝ) : Fin a → Fin b → ℝ := fun i j => x (ix2 i j)

open AxbSpec

theorem score_eq : scoreV (up q) (up k) = up fun i => sc (rw2 q) (rw2 k) (i 0) (i 1) (i 2) (i 3) := by
  change (_ : S2x3x16384x16384.Idx → EReal) = _
  funext i
  idx_vars i
  unfold scoreV q4 k3
  pointwise
  simp only [up, ofBits_eighth, ← EReal.coe_mul, sum_coe]
  rfl

theorem dp_eq : dpV (up y) (up v) = up fun i => dp (rw2 y) (rw2 v) (i 0) (i 1) (i 2) (i 3) := by
  change (_ : S2x3x16384x16384.Idx → EReal) = _
  funext i
  idx_vars i
  unfold dpV q4 k3
  pointwise
  simp only [up, ← EReal.coe_mul, sum_coe]
  rfl

/-- The maximum of a row of real scores is a real number. -/
theorem max_row (x : B4) (hx : ∀ i, ∃ r : ℝ, x i = r) (i : S2x3x16384.Idx) :
    ∃ r : ℝ, (Host.reduce (FloatOps.maximumf (F := Ideal) (φ := .f32)) x (constant S_ .f32 0xFF800000#32) reducesTo_S2x3x16384x16384_S2x3x16384_d3 h_S_ : B3) i = r := by
  have h : S2x3x16384x16384.Reduces [3] S2x3x16384 := by decide
  have e := Host.reduce_eq_fold_single (FloatOps.maximumf (F := Ideal) (φ := .f32)) x (constant S_ .f32 0xFF800000#32) reducesTo_S2x3x16384x16384_S2x3x16384_d3 h h_S_ i
  have hb : ((constant S_ .f32 0xFF800000#32 : FVec Ideal S_ .f32) (Shape.Idx.first h_S_)) = (⊥ : EReal) := ofBits_ninf
  rw [e, hb]
  have : Nonempty (Fin (S2x3x16384x16384.size 3)) := ⟨⟨0, by decide⟩⟩
  exact real_fold_max _ fun k => hx _

theorem max_bot (x : B3) (i : S2x3x16384.Idx) (h : ∃ r : ℝ, x i = r) :
    ∃ r : ℝ, (maximumf (broadcastInDim S2x3x16384 ![] bcast_S_S2x3x16384 (constant S_ .f32 0xFF800000#32)) x) i = r := by
  obtain ⟨r, h⟩ := h
  refine ⟨r, Eq.trans (?_ : _ = max (Ideal.ofBits .f32 0xFF800000#32) (x i)) ?_⟩
  · rfl
  · rw [ofBits_ninf, h]; exact max_bot_left _

theorem max_eq (s : S2x3x16384x16384.Idx → ℝ) : ∃ M : S2x3x16384.Idx → ℝ, maxV (up s) = up M := by
  have h : ∀ i : S2x3x16384.Idx, ∃ r : ℝ, maxV (up s) i = r := fun i => max_bot _ i (max_row _ (fun j => ⟨s j, rfl⟩) i)
  choose M hM using h
  exact ⟨M, funext hM⟩

/-- The exponentials of a row, shifted by any real number. -/
theorem exp_eq : ∃ M : S2x3x16384.Idx → ℝ, expV (up fun i => sc (rw2 q) (rw2 k) (i 0) (i 1) (i 2) (i 3))
    = up fun i => Real.exp (sc (rw2 q) (rw2 k) (i 0) (i 1) (i 2) (i 3) - M (ix3 (i 0) (i 1) (i 2))) := by
  obtain ⟨M, hM⟩ := max_eq fun i => sc (rw2 q) (rw2 k) (i 0) (i 1) (i 2) (i 3)
  refine ⟨M, ?_⟩
  unfold expV
  rw [hM]
  change (_ : S2x3x16384x16384.Idx → EReal) = _
  funext i
  idx_vars i
  unfold bc b1
  pointwise
  simp only [up, ← EReal.coe_sub]
  rfl

/-- A row of exponentials over its sum. -/
theorem prob_eq (e : S2x3x16384x16384.Idx → ℝ) (h : ∀ g r n, 0 < ∑ j, e (ix4 g r n j)) :
    probV (up e) = up fun i => e i / ∑ j, e (ix4 (i 0) (i 1) (i 2) j) := by
  change (_ : S2x3x16384x16384.Idx → EReal) = _
  funext i
  idx_vars i
  unfold probV bc b1 sumV
  pointwise
  simp only [up, ofBits_zero, zero_add, sum_coe]
  exact div_real _ (h _ _ _).ne'

/-- The gradient of a row's scores, as the quotient rule gives it and as probabilities give it. -/
theorem quotient (e d : Fin 16384 → ℝ) (D : ℝ) (h : 0 < D) (j : Fin 16384) :
    (d j / D + ∑ _x : Fin 1, -∑ k, d k * (1 / (D * D)) * e k) * e j * (1 / 8) = e j / D * (d j - ∑ k, e k / D * d k) * (1 / 8) := by
  have e1 : ∑ k, d k * (1 / (D * D)) * e k = (∑ k, e k / D * d k) / D := by
    rw [Finset.sum_div]
    exact Finset.sum_congr rfl fun k _ => by field_simp
  rw [e1]
  simp only [Finset.sum_const, Finset.card_univ, Fintype.card_fin, one_smul]
  field_simp
  ring

/-- The gradient of the scores, with the scale of the scores. -/
theorem ds_eq (e d : S2x3x16384x16384.Idx → ℝ) (h : ∀ g r n, 0 < ∑ j, e (ix4 g r n j)) :
    dsV (up e) (up d) = up fun i => e i / (∑ j, e (ix4 (i 0) (i 1) (i 2) j))
      * (d i - ∑ k, e (ix4 (i 0) (i 1) (i 2) k) / (∑ j, e (ix4 (i 0) (i 1) (i 2) j)) * d (ix4 (i 0) (i 1) (i 2) k)) * (1 / 8) := by
  change (_ : S2x3x16384x16384.Idx → EReal) = _
  funext i
  idx_vars i
  unfold dsV negV bc b1 sumV
  pointwise
  have hp := h i0 i1 i2
  have h1 : (1 : EReal) = ((1 : ℝ) : EReal) := rfl
  simp only [up, ofBits_zero, zero_add, sum_coe, ofBits_eighth, h1, ← EReal.coe_mul, div_real _ hp.ne', div_real _ (mul_pos hp hp).ne', ← EReal.coe_neg, ← EReal.coe_add]
  exact congrArg _ (quotient (fun k => e (ix4 i0 i1 i2 k)) (fun k => d (ix4 i0 i1 i2 k)) _ hp i3)

/-- The probabilities of the arguments. -/
theorem prob_arg : probV (expV (scoreV (up q) (up k))) = up fun i => pr (rw2 q) (rw2 k) (i 0) (i 1) (i 2) (i 3) := by
  rw [score_eq]
  obtain ⟨M, hM⟩ := exp_eq q k
  rw [hM, prob_eq]
  · exact congrArg (fun f : S2x3x16384x16384.Idx → ℝ => up f) (funext fun i => pr_shift (rw2 q) (rw2 k) (i 0) (i 1) (i 2) (i 3) (M (ix3 (i 0) (i 1) (i 2))))
  · intro g r n
    exact shift_pos (rw2 q) (rw2 k) g r n (M (ix3 g r n))

/-- The gradients of the scores of the arguments. -/
theorem ds_arg : dsV (expV (scoreV (up q) (up k))) (dpV (up y) (up v))
    = up fun i => ds (rw2 q) (rw2 y) (rw2 k) (rw2 v) (i 0) (i 1) (i 2) (i 3) * (1 / 8) := by
  rw [score_eq, dp_eq]
  obtain ⟨M, hM⟩ := exp_eq q k
  rw [hM, ds_eq]
  · refine congrArg (fun f : S2x3x16384x16384.Idx → ℝ => up f) (funext fun i => ?_)
    have e : ∀ (g : Fin 2) (r : Fin 3) (n j : Fin 16384) (N : ℝ), ds (rw2 q) (rw2 y) (rw2 k) (rw2 v) g r n j
        = Real.exp (sc (rw2 q) (rw2 k) g r n j - N) / (∑ j, Real.exp (sc (rw2 q) (rw2 k) g r n j - N))
          * (dp (rw2 y) (rw2 v) g r n j - ∑ k', Real.exp (sc (rw2 q) (rw2 k) g r n k' - N)
            / (∑ j, Real.exp (sc (rw2 q) (rw2 k) g r n j - N)) * dp (rw2 y) (rw2 v) g r n k') := by
      intro g r n j N
      simp only [pr_shift]
      rfl
    exact congrArg (· * (1 / 8 : ℝ)) (e (i 0) (i 1) (i 2) (i 3) (M (ix3 (i 0) (i 1) (i 2)))).symm
  · intro g r n
    exact shift_pos (rw2 q) (rw2 k) g r n (M (ix3 g r n))

theorem dq_arg (d : S2x3x16384x16384.Idx → ℝ) : dqV (up d) (up k)
    = up fun i => ∑ j, d (ix4 (qg (i 1)) (qr (i 1)) (i 0) j) * k (ix2 j (gc (qg (i 1)) (qd (i 1)))) := by
  change (_ : S16384x384.Idx → EReal) = _
  funext i
  idx_vars i
  unfold dqV k3
  pointwise
  simp only [up, ← EReal.coe_mul, sum_coe]
  rfl

theorem dk_arg (d : S2x3x16384x16384.Idx → ℝ) : dkV (up d) (up q)
    = up fun i => ∑ n, ∑ r, d (ix4 (kg (i 1)) r n (i 0)) * q (ix2 n (hc (kg (i 1)) r (kd (i 1)))) := by
  change (_ : S16384x128.Idx → EReal) = _
  funext i
  idx_vars i
  unfold dkV q4
  pointwise
  simp only [up, ← EReal.coe_mul, sum_coe]
  rfl

theorem dv_arg (p : S2x3x16384x16384.Idx → ℝ) : dvV (up p) (up y)
    = up fun i => ∑ n, ∑ r, p (ix4 (kg (i 1)) r n (i 0)) * y (ix2 n (hc (kg (i 1)) r (kd (i 1)))) := by
  change (_ : S16384x128.Idx → EReal) = _
  funext i
  idx_vars i
  unfold dvV q4
  pointwise
  simp only [up, ← EReal.coe_mul, sum_coe]
  rw [Finset.sum_comm]
  refine congrArg _ (Finset.sum_congr rfl fun n _ => Finset.sum_congr rfl fun r _ => ?_)
  rw [mul_comm]
  rfl

/-- The gradient of the queries as an array. -/
def outQ : S16384x384.Idx → EReal := fun i => ((dq (rw2 q) (rw2 y) (rw2 k) (rw2 v) (i 0) (i 1) : ℝ) : EReal)
/-- The gradient of the keys as an array. -/
def outK : S16384x128.Idx → EReal := fun i => ((dk (rw2 q) (rw2 y) (rw2 k) (rw2 v) (i 0) (i 1) : ℝ) : EReal)
/-- The gradient of the values as an array. -/
def outV : S16384x128.Idx → EReal := fun i => ((dv (rw2 q) (rw2 y) (rw2 k) (i 0) (i 1) : ℝ) : EReal)

theorem dq_out : dqV (dsV (expV (scoreV (up q) (up k))) (dpV (up y) (up v))) (up k) = outQ q y k v := by
  rw [ds_arg, dq_arg]
  have e : ∀ (n : Fin 16384) (c : Fin 384), ∑ j, ds (rw2 q) (rw2 y) (rw2 k) (rw2 v) (qg c) (qr c) n j * (1 / 8) * k (ix2 j (gc (qg c) (qd c)))
      = dq (rw2 q) (rw2 y) (rw2 k) (rw2 v) n c := by
    intro n c
    unfold dq
    rw [Finset.sum_mul]
    exact Finset.sum_congr rfl fun j _ => mul_right_comm _ _ _
  change (_ : S16384x384.Idx → EReal) = _
  funext i
  exact congrArg (fun r : ℝ => (r : EReal)) (e (i 0) (i 1))

theorem dk_out : dkV (dsV (expV (scoreV (up q) (up k))) (dpV (up y) (up v))) (up q) = outK q y k v := by
  rw [ds_arg, dk_arg]
  unfold outK dk
  rfl

theorem dv_out : dvV (probV (expV (scoreV (up q) (up k)))) (up y) = outV q y k := by
  rw [prob_arg, dv_arg]
  rfl

end Cert.AxbRef

namespace Cert.AxbRefIdeal.Value
open Cert.AxbRefIdeal Cert.AxbRefIdeal.Gen Idealize.ShloMosaic Idealize.ShloMosaic.TcCoe Idealize.SL.Sem Idealize.ShloMosaic.StableHlo Cert.AxbRef

/-- The reference's results at real arguments. -/
theorem run_real (m : (ℓ : Loc nD τ sig) → Buf (Elt Ideal) ℓ) (ρ : Dev nD → PrngReg) (q y : Dev nD → S16384x384.Idx → ℝ)
  (k v : Dev nD → S16384x128.Idx → ℝ)
  (hq : ∀ c : Dev nD, m ((c.tc : Thread nD τ).loc main_arg0) = fun i => (q c i : EReal))
  (hk : ∀ c : Dev nD, m ((c.tc : Thread nD τ).loc main_arg1) = fun i => (k c i : EReal))
  (hv : ∀ c : Dev nD, m ((c.tc : Thread nD τ).loc main_arg2) = fun i => (v c i : EReal))
  (hy : ∀ c : Dev nD, m ((c.tc : Thread nD τ).loc main_arg3) = fun i => (y c i : EReal)) :
  θ_run (defs (F := Ideal)) (onTc (τ := τ) (main (F := Ideal))) ⟨m, fun _ => 0, ρ⟩ fun r => ∀ c : Dev nD,
    r.2.mem ((c.tc : Thread nD τ).loc main_v64) = outQ (q c) (y c) (k c) (v c)
    ∧ r.2.mem ((c.tc : Thread nD τ).loc main_v63) = outK (q c) (y c) (k c) (v c)
    ∧ r.2.mem ((c.tc : Thread nD τ).loc main_v43) = outV (q c) (y c) (k c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run (defs (F := Ideal)) _ _).mono (fun r h c => ?_) (run m ρ)
  obtain ⟨h0, h1, h2, ha⟩ := h c
  refine ⟨h0.trans ?_, h1.trans ?_, h2.trans ?_, ha⟩
  · rw [v64, hq c, hk c, hv c, hy c]
    exact dq_out (q c) (y c) (k c) (v c)
  · rw [v63, hq c, hk c, hv c, hy c]
    exact dk_out (q c) (y c) (k c) (v c)
  · rw [hq c, hk c, hy c]
    exact dv_out (q c) (y c) (k c)

end Cert.AxbRefIdeal.Value
end
-- ==== Proof.AxbHost.lean ====
module

public import proofs.«01_k».proof.Proof.AxbFrame
public import proofs.«01_k».proof.Proof.AxbBlk
public import proofs.«01_k».proof.Proof.AxbRef

/-! What the host hands to the axial attention gradient: the scaled queries, the row statistics of the forward pass
(the logarithm of each row's normaliser, and the product of the output's gradient with the output), in real arithmetic. -/

@[expose] public section

set_option maxRecDepth 16384

noncomputable section

namespace Cert.AxbRun

open Cert.AxbIdeal Cert.AxbIdeal.Gen
open Idealize.ShloMosaic Idealize.ShloMosaic.TcCoe Idealize.ShloMosaic.Tactic
open Idealize.SL.Sem
open Cert.Finite AxbSpec
open Cert.AxbRef (scoreV expV probV sumV bc b1 k3 rw2 B4 B3 A2 K2)

/-! ## The stages of the host's program -/

/-- The maxima of the rows of scores. -/
def mxV (s : B4) : B3 := Host.reduce FloatOps.maximumf s (constant S_ .f32 0xFF800000#32) reducesTo_S2x3x16384x16384_S2x3x16384_d3 h_S_
/-- The logarithms of the rows' normalisers. -/
def lseV (s : B4) : B3 := addf (mxV s) (Host.log (sumV (Host.exp (subf s (bc (b1 (mxV s)))))))
/-- The rows' products of the output's gradient with the output. -/
def delV (p : B4) (v : K2) (y : A2) : FVec Ideal S6x1x16384 .f32 :=
  shapeCast S6x1x16384 (transpose S6x16384 [1, 0] (Host.reduceAdd (shapeCast S16384x6x64 (mulf y (shapeCast S16384x384
    (transpose S16384x2x3x64 [3, 0, 2, 1] (Host.dotGeneral dot_S16384x2x64_S2x3x16384x16384_S2x64x3x16384_0_3_2_12_1_0 none (k3 v) p)
      transposes_S2x64x3x16384_S16384x2x3x64_3_0_2_1) shapeCasts_S16384x2x3x64_S16384x384)) shapeCasts_S16384x384_S16384x6x64)
    (constant S_ .f32 0x00000000#32) reducesTo_S16384x6x64_S16384x6_d2 h_S_) transposes_S16384x6_S6x16384_1_0) shapeCasts_S6x16384_S6x1x16384

variable (m : (ℓ : Loc nD τ sig) → Buf (Elt Ideal) ℓ) (c : Dev nD)

/-- The rows' statistics, by the stages. -/
theorem V_v46 : (V m c main_v46 : S6x1x16384.Idx → EReal) = shapeCast S6x1x16384 (lseV (scoreV (m ((c.tc : Thread nD τ).loc main_arg0)) (m ((c.tc : Thread nD τ).loc main_arg1)))) shapeCasts_S2x3x16384_S6x1x16384 := by
  entry_read
  rfl
/-- The rows' products, by the stages. -/
theorem V_v48 : (V m c main_v48 : S6x1x16384.Idx → EReal) = delV (probV (expV (scoreV (m ((c.tc : Thread nD τ).loc main_arg0)) (m ((c.tc : Thread nD τ).loc main_arg1)))))
    (m ((c.tc : Thread nD τ).loc main_arg2)) (m ((c.tc : Thread nD τ).loc main_arg3)) := by
  entry_read
  rfl

variable (q y : S16384x384.Idx → ℝ) (k v : S16384x128.Idx → ℝ)

theorem mx_eq (s : S2x3x16384x16384.Idx → ℝ) : ∃ M : S2x3x16384.Idx → ℝ, mxV (up s) = up M := by
  have h : ∀ i : S2x3x16384.Idx, ∃ r : ℝ, mxV (up s) i = r := fun i => Cert.AxbRef.max_row _ (fun j => ⟨s j, rfl⟩) i
  choose M hM using h
  exact ⟨M, funext hM⟩

theorem log_real {x : ℝ} (h : 0 < x) : Ideal.log (x : EReal) = ((Real.log x : ℝ) : EReal) := by
  show (if x ≤ 0 then (⊥ : EReal) else ((Real.log x : ℝ) : EReal)) = _
  rw [if_neg h.not_ge]

theorem lse_eq (s : S2x3x16384x16384.Idx → ℝ) : ∃ M : S2x3x16384.Idx → ℝ, lseV (up s)
    = up fun i => M i + Real.log (∑ j, Real.exp (s (ix4 (i 0) (i 1) (i 2) j) - M i)) := by
  obtain ⟨M, hM⟩ := mx_eq s
  refine ⟨M, ?_⟩
  unfold lseV
  rw [hM]
  change (_ : S2x3x16384.Idx → EReal) = _
  funext i
  idx_vars i
  unfold bc b1 sumV
  pointwise
  have e : ∀ x, Ideal.exp (up s (ix4 i0 i1 i2 x) - up M (ix3 i0 i1 i2)) = ((Real.exp (s (ix4 i0 i1 i2 x) - M (ix3 i0 i1 i2)) : ℝ) : EReal) := by
    intro x
    simp only [up, ← EReal.coe_sub]
    rfl
  simp only [e, sum_coe]
  have hp : 0 < ∑ x, Real.exp (s (ix4 i0 i1 i2 x) - M (ix3 i0 i1 i2)) := Finset.sum_pos (fun _ _ => Real.exp_pos _) ⟨0, Finset.mem_univ _⟩
  rw [log_real hp]
  simp only [up, ← EReal.coe_add]
  rfl

theorem del_eq (p : S2x3x16384x16384.Idx → ℝ) : delV (up p) (up v) (up y)
    = up fun i => ∑ d : Fin 64, y (ix2 (i 2) ⟨(i 0).val * 64 + d.val, by have h : (i 0).val < 6 := (i 0).isLt; omega⟩)
        * ∑ j, v (ix2 j (gc (⟨(i 0).val / 3, by have h : (i 0).val < 6 := (i 0).isLt; omega⟩) d)) * p (ix4 ⟨(i 0).val / 3, by have h : (i 0).val < 6 := (i 0).isLt; omega⟩ ⟨(i 0).val % 3, Nat.mod_lt _ (by decide)⟩ (i 2) j) := by
  change (_ : S6x1x16384.Idx → EReal) = _
  funext i
  idx_vars i
  unfold delV k3
  pointwise
  simp only [up, ← EReal.coe_mul, sum_coe]
  refine congrArg (fun r : ℝ => (r : EReal)) (Finset.sum_congr rfl fun d _ => congrArg (_ * ·) (Finset.sum_congr rfl fun j _ => ?_))
  have h : i0.val < 6 := i0.isLt
  refine congrArg₂ (· * ·) (congrArg v (congrArg (ix2 j) (Fin.ext ?_))) (congrArg p (congr (congrFun (congrArg₂ ix4 (Fin.ext ?_) (Fin.ext ?_)) i2) rfl))
  · show (i0.val * 64 + d.val) / 192 * 64 + d.val = i0.val / 3 * 64 + d.val
    omega
  · show (i0.val * 64 + d.val) / 192 = i0.val / 3
    omega
  · show (i0.val * 64 + d.val) / 64 % 3 = i0.val % 3
    omega

/-- Group and position in the group of a head. -/
def hg (h : Fin 6) : Fin 2 := ⟨h.val / 3, by omega⟩
@[inherit_doc hg] def hr (h : Fin 6) : Fin 3 := ⟨h.val % 3, Nat.mod_lt _ (by decide)⟩

theorem hg_hd (g : Fin 2) (r : Fin 3) : hg (hd g r) = g := Fin.ext (by show (g.val * 3 + r.val) / 3 = g.val; omega)
theorem hr_hd (g : Fin 2) (r : Fin 3) : hr (hd g r) = r := Fin.ext (by show (g.val * 3 + r.val) % 3 = r.val; omega)

section host
variable (hq : m ((c.tc : Thread nD τ).loc main_arg0) = fun i => (q i : EReal)) (hk : m ((c.tc : Thread nD τ).loc main_arg1) = fun i => (k i : EReal))
  (hv : m ((c.tc : Thread nD τ).loc main_arg2) = fun i => (v i : EReal)) (hy : m ((c.tc : Thread nD τ).loc main_arg3) = fun i => (y i : EReal))

include hq hk in
/-- The rows' statistics that the host computes turn scores into probabilities. -/
theorem lse_host : ∃ L : Fin 6 → Fin 16384 → ℝ, (V m c main_v46 : S6x1x16384.Idx → EReal) = up (s := S6x1x16384) (fun i => L (i 0) (i 2))
    ∧ ∀ g r n j, Real.exp (sc (rw2 q) (rw2 k) g r n j - L (hd g r) n) = pr (rw2 q) (rw2 k) g r n j := by
  obtain ⟨M, hM⟩ := lse_eq fun i => sc (rw2 q) (rw2 k) (i 0) (i 1) (i 2) (i 3)
  refine ⟨fun h n => M (ix3 (hg h) (hr h) n) + Real.log (∑ j, Real.exp (sc (rw2 q) (rw2 k) (hg h) (hr h) n j - M (ix3 (hg h) (hr h) n))), ?_, ?_⟩
  · rw [V_v46, hq, hk]
    have e := Cert.AxbRef.score_eq q k
    refine (congrArg (fun s => shapeCast S6x1x16384 (lseV s) shapeCasts_S2x3x16384_S6x1x16384) e).trans ?_
    rw [hM]
    change (_ : S6x1x16384.Idx → EReal) = _
    funext i
    idx_vars i
    pointwise
    rfl
  · intro g r n j
    simp only [hg_hd, hr_hd]
    rw [← sub_sub, Real.exp_sub, Real.exp_log (shift_pos (rw2 q) (rw2 k) g r n _)]
    exact pr_shift (rw2 q) (rw2 k) g r n j _

include hq hk hv hy in
/-- The rows' products of the output's gradient with the output are the means of the probabilities' gradients. -/
theorem del_host : (V m c main_v48 : S6x1x16384.Idx → EReal)
    = up (s := S6x1x16384) fun i => dl (rw2 q) (rw2 y) (rw2 k) (rw2 v) (hg (i 0)) (hr (i 0)) (i 2) := by
  rw [V_v48, hq, hk, hv, hy]
  have e := Cert.AxbRef.prob_arg q k
  refine (congrArg (fun s => delV s (up v) (up y)) e).trans ?_
  rw [del_eq]
  refine congrArg (fun f : S6x1x16384.Idx → ℝ => up f) (funext fun i => ?_)
  have sw : ∀ (g : Fin 2) (r : Fin 3) (n : Fin 16384), ∑ d, rw2 y n (hc g r d) * ∑ j, rw2 v j (gc g d) * pr (rw2 q) (rw2 k) g r n j
      = dl (rw2 q) (rw2 y) (rw2 k) (rw2 v) g r n := by
    intro g r n
    unfold dl dp
    simp only [Finset.mul_sum]
    rw [Finset.sum_comm]
    exact Finset.sum_congr rfl fun j _ => Finset.sum_congr rfl fun d _ => by ring
  refine Eq.trans ?_ (sw (hg (i 0)) (hr (i 0)) (i 2))
  refine Finset.sum_congr rfl fun d _ => congrArg (· * _) (congrArg y (congrArg (ix2 (i 2)) (Fin.ext ?_)))
  have h : (i 0).val < 6 := (i 0).isLt
  show (i 0).val * 64 + d.val = (i 0).val / 3 * 192 + (i 0).val % 3 * 64 + d.val
  omega

end host

end Cert.AxbRun
end
-- ==== Proof.InprojRef.lean ====
module
public import proofs.«01_k».proof.Proof.NormSpec
public import proofs.«01_k».proof.Proof.Gen.InprojRefIdeal.Run

/-! The reference of the attention block's first normalisation and projection, read on real numbers. -/

@[expose] public section

set_option maxRecDepth 16384

noncomputable section

namespace Cert.InprojRefIdeal.Value
open Cert.InprojRefIdeal Cert.InprojRefIdeal.Gen Idealize.ShloMosaic Idealize.ShloMosaic.TcCoe Idealize.SL.Sem Idealize.ShloMosaic.StableHlo Cert.Finite
open NormSpec (up)

/-! ## The stages of the printed program -/

section stages
variable {F : FTy → Type} [FloatOps F]
variable (X D R : FVec F S16384x1024 .f32) (G S : FVec F S1024 .f32)

/-- A row's mean square. -/
def msV : FVec F S16384x1 .f32 :=
  addf (Host.divf (broadcastInDim S16384x1 ![0] bcast_S16384_S16384x1_0 (Host.reduceAdd (mulf X X) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))
/-- The reciprocal of a row's root mean square. -/
def rmsV : FVec F S16384x1 .f32 := Host.rsqrt (msV X)
/-- The normalised rows. -/
def xhatV : FVec F S16384x1024 .f32 := mulf X (broadcastInDim S16384x1024 ![0, 1] bcast_S16384x1_S16384x1024_0_1 (rmsV X))
/-- The gain in every row. -/
def rowsV : FVec F S16384x1024 .f32 :=
  broadcastInDim S16384x1024 ![0, 1] bcast_S1x1024_S16384x1024_0_1 (broadcastInDim S1x1024 ![1] bcast_S1024_S1x1024_1 G)
/-- The gradient behind the scale. -/
def dnV : FVec F S16384x1024 .f32 := mulf D (rowsV (addf (broadcastInDim S1024 ![] bcast_S_S1024 (constant S_ .f32 0x3F800000#32)) S))
/-- The gradient of the normalised rows. -/
def dxhV : FVec F S16384x1024 .f32 := mulf (dnV D S) (rowsV G)
/-- The inner product of a row with its gradient. -/
def dotV : FVec F S16384x1 .f32 :=
  shapeCast _ (Host.reduceAdd (mulf X (dxhV D G S)) (constant S_ .f32 0x00000000#32) reducesTo_S16384x1024_S16384_d1 h_S_) shapeCasts_S16384_S16384x1
/-- What a row is multiplied by in the gradient through its mean square, as a column. -/
def colV : FVec F S16384x1 .f32 :=
  Host.divf (mulf (dotV X D G S)
      (mulf (broadcastInDim S16384x1 ![] bcast_S_S16384x1 (constant S_ .f32 0xBF000000#32)) (Host.divf (rmsV X) (msV X))))
    (broadcastInDim S16384x1 ![] bcast_S_S16384x1 (constant S_ .f32 0x44800000#32))
/-- The same without the column's axis. -/
def coV : FVec F S16384 .f32 := Host.reduceAdd (colV X D G S) (constant S_ .f32 0x00000000#32) reducesTo_S16384x1_S16384_d1 h_S_
/-- The gradient of the activations. -/
def outDxV : FVec F S16384x1024 .f32 :=
  addf (addf (addf R (mulf (dxhV D G S) (broadcastInDim S16384x1024 ![0, 1] bcast_S16384x1_S16384x1024_0_1 (rmsV X))))
    (mulf X (broadcastInDim S16384x1024 ![0] bcast_S16384_S16384x1024_0 (coV X D G S))))
    (mulf (broadcastInDim S16384x1024 ![0] bcast_S16384_S16384x1024_0 (coV X D G S)) X)
/-- The sum of an array's rows. -/
def rowSumV : FVec F S1x1024 .f32 :=
  broadcastInDim S1x1024 ![1] bcast_S1024_S1x1024_1 (Host.reduceAdd (shapeCast _ (Host.reduceAdd X (constant S_ .f32 0x00000000#32) reducesTo_S16384x1024_S1024_d0 h_S_) shapeCasts_S1024_S1x1024) (constant S_ .f32 0x00000000#32) reducesTo_S1x1024_S1024_d0 h_S_)
/-- The gradient of the product's left factor. -/
def dhV (P : FVec F S16384x2048 .f32) (W : FVec F S1024x2048 .f32) : FVec F S16384x1024 .f32 :=
  Host.dotGeneral dot_S16384x2048_S1024x2048_S16384x1024_1_1_0_0_n_n none P W

end stages

/-! ## The stages on real numbers -/

variable (x d y : S16384x1024.Idx → ℝ) (g s : S1024.Idx → ℝ)

theorem ms_up : msV (F := Ideal) (up (S := S16384x1024) x) = up (S := S16384x1) fun i => ms fun k => x (ix2 (i 0) k) := by
  change (_ : S16384x1.Idx → EReal) = _
  funext i
  idx_vars i
  unfold msV
  pointwise
  simp only [up, ofBits_1024, ofBits_eps.1, ← EReal.coe_mul, ← EReal.coe_add, sum_coe, div_1024]
  rfl

theorem rms_up : rmsV (F := Ideal) (up (S := S16384x1024) x) = up (S := S16384x1) fun i => rms fun k => x (ix2 (i 0) k) := by
  change (_ : S16384x1.Idx → EReal) = _
  funext i
  unfold rmsV
  rw [ms_up]
  exact rsqrt_real (ms_pos _)

theorem xhat_up : xhatV (F := Ideal) (up (S := S16384x1024) x)
    = up (S := S16384x1024) fun i => x i * rms fun k => x (ix2 (i 0) k) := by
  change (_ : S16384x1024.Idx → EReal) = _
  funext i
  idx_vars i
  unfold xhatV
  rw [rms_up]
  pointwise
  simp only [up, ← EReal.coe_mul]
  rfl

theorem rows_up : rowsV (F := Ideal) (up (S := S1024) g) = up (S := S16384x1024) fun i => g (ix1 (i 1)) := by
  change (_ : S16384x1024.Idx → EReal) = _
  funext i
  idx_vars i
  unfold rowsV
  pointwise
  rfl

theorem dn_up : dnV (F := Ideal) (up (S := S16384x1024) d) (up (S := S1024) s)
    = up (S := S16384x1024) fun i => d i * (1 + s (ix1 (i 1))) := by
  change (_ : S16384x1024.Idx → EReal) = _
  funext i
  idx_vars i
  unfold dnV rowsV
  pointwise
  simp only [up, ofBits_one, ← EReal.coe_mul, ← EReal.coe_add]
  rfl

theorem dxh_up : dxhV (F := Ideal) (up (S := S16384x1024) d) (up (S := S1024) g) (up (S := S1024) s)
    = up (S := S16384x1024) fun i => d i * (1 + s (ix1 (i 1))) * g (ix1 (i 1)) := by
  change (_ : S16384x1024.Idx → EReal) = _
  funext i
  unfold dxhV
  rw [dn_up, rows_up]
  exact (EReal.coe_mul _ _).symm

theorem dot_up : dotV (F := Ideal) (up (S := S16384x1024) x) (up (S := S16384x1024) d) (up (S := S1024) g) (up (S := S1024) s)
    = up (S := S16384x1) fun i => ∑ k, x (ix2 (i 0) k) * (d (ix2 (i 0) k) * (1 + s (ix1 k)) * g (ix1 k)) := by
  change (_ : S16384x1.Idx → EReal) = _
  funext i
  idx_vars i
  unfold dotV
  rw [dxh_up]
  pointwise
  simp only [up, ← EReal.coe_mul, sum_coe]
  rfl

/-- The factor of a row in its gradient through the mean square. -/
def co (u γ σ δ : Fin 1024 → ℝ) : ℝ :=
  (∑ k, u k * (δ k * (1 + σ k) * γ k)) * (-(1 / 2) * (rms u * rms u * rms u)) / 1024

theorem col_up : colV (F := Ideal) (up (S := S16384x1024) x) (up (S := S16384x1024) d) (up (S := S1024) g) (up (S := S1024) s)
    = up (S := S16384x1) fun i => co (fun k => x (ix2 (i 0) k)) (fun k => g (ix1 k)) (fun k => s (ix1 k)) fun k => d (ix2 (i 0) k) := by
  change (_ : S16384x1.Idx → EReal) = _
  funext i
  idx_vars i
  unfold colV
  rw [dot_up, rms_up, ms_up]
  pointwise
  simp only [up, ofBits_neg_half, ofBits_1024, div_real _ (ms_pos _).ne', rms_div_ms, ← EReal.coe_mul, div_1024]
  rfl

theorem co_up : coV (F := Ideal) (up (S := S16384x1024) x) (up (S := S16384x1024) d) (up (S := S1024) g) (up (S := S1024) s)
    = up (S := S16384) fun i => co (fun k => x (ix2 (i 0) k)) (fun k => g (ix1 k)) (fun k => s (ix1 k)) fun k => d (ix2 (i 0) k) := by
  change (_ : S16384.Idx → EReal) = _
  funext i
  idx_vars i
  unfold coV
  rw [col_up]
  pointwise
  exact Fin.sum_univ_one _

/-- The two ways to write a row's gradient. -/
theorem dx_split (u γ σ δ : Fin 1024 → ℝ) (j : Fin 1024) :
    δ j * (1 + σ j) * γ j * rms u + (u j * co u γ σ δ + co u γ σ δ * u j) = NormSpec.dx u γ σ δ j := by
  unfold NormSpec.dx co
  have hs : (∑ k, δ k * (1 + σ k) * γ k * (u k * rms u)) = (∑ k, u k * (δ k * (1 + σ k) * γ k)) * rms u := by
    rw [Finset.sum_mul]
    exact Finset.sum_congr rfl fun k _ => by ring
  rw [hs]
  ring

theorem outDx_up (R : S16384x1024.Idx → EReal) :
    outDxV (F := Ideal) (up (S := S16384x1024) x) (up (S := S16384x1024) d) R (up (S := S1024) g) (up (S := S1024) s)
    = NormSpec.outDx x d g s R := by
  change (_ : S16384x1024.Idx → EReal) = _
  funext i
  idx_vars i
  unfold outDxV
  rw [dxh_up, co_up, rms_up]
  pointwise
  refine Eq.trans ?_ (congrArg (fun r : ℝ => R (ix2 i0 i1) + (r : EReal)) (dx_split (fun k => x (ix2 i0 k)) (fun k => g (ix1 k))
    (fun k => s (ix1 k)) (fun k => d (ix2 i0 k)) i1))
  simp only [up, EReal.coe_add, EReal.coe_mul, add_assoc]
  rfl

theorem rowSum_up : rowSumV (F := Ideal) (up (S := S16384x1024) y) = up (S := S1x1024) fun i => ∑ r, y (ix2 r (i 1)) := by
  change (_ : S1x1024.Idx → EReal) = _
  funext i
  idx_vars i
  unfold rowSumV
  pointwise
  simp only [up, sum_coe, Finset.sum_const, Finset.card_univ, Fintype.card_fin, one_smul]
  rfl

theorem outDg_up : rowSumV (F := Ideal) (mulf (xhatV (up (S := S16384x1024) x)) (dnV (up (S := S16384x1024) d) (up (S := S1024) s)))
    = NormSpec.outDg x d s := by
  rw [xhat_up, dn_up]
  have e : (mulf (up (S := S16384x1024) fun i => x i * rms fun k => x (ix2 (i 0) k)) (up (S := S16384x1024) fun i => d i * (1 + s (ix1 (i 1)))) : FVec Ideal S16384x1024 .f32)
      = up (S := S16384x1024) fun i => x i * (rms fun k => x (ix2 (i 0) k)) * (d i * (1 + s (ix1 (i 1)))) :=
    funext fun i => (EReal.coe_mul _ _).symm
  rw [e, rowSum_up]
  funext i
  refine congrArg (fun r : ℝ => (r : EReal)) (Finset.sum_congr rfl fun r _ => ?_)
  unfold NormSpec.dg
  exact mul_comm _ _

theorem outDsc_up : rowSumV (F := Ideal) (mulf (mulf (xhatV (up (S := S16384x1024) x)) (rowsV (up (S := S1024) g))) (up (S := S16384x1024) d))
    = NormSpec.outDsc x d g := by
  rw [xhat_up, rows_up]
  have e : (mulf (mulf (up (S := S16384x1024) fun i => x i * rms fun k => x (ix2 (i 0) k)) (up (S := S16384x1024) fun i => g (ix1 (i 1)))) (up (S := S16384x1024) d) : FVec Ideal S16384x1024 .f32)
      = up (S := S16384x1024) fun i => x i * (rms fun k => x (ix2 (i 0) k)) * g (ix1 (i 1)) * d i :=
    funext fun i => (congrArg (· * ((d i : ℝ) : EReal)) (EReal.coe_mul _ _).symm).trans (EReal.coe_mul _ _).symm
  rw [e, rowSum_up]
  funext i
  refine congrArg (fun r : ℝ => (r : EReal)) (Finset.sum_congr rfl fun r _ => ?_)
  unfold NormSpec.dsc
  exact mul_comm _ _

theorem outDsh_up : rowSumV (F := Ideal) (up (S := S16384x1024) d) = NormSpec.outDsh d := by
  rw [rowSum_up]
  rfl

theorem dh_up (p : S16384x2048.Idx → ℝ) (w : S1024x2048.Idx → ℝ) :
    dhV (F := Ideal) (up (S := S16384x2048) p) (up (S := S1024x2048) w) = up (S := S16384x1024) (NormSpec.prod p w) := by
  change (_ : S16384x1024.Idx → EReal) = _
  funext i
  idx_vars i
  unfold dhV
  pointwise
  simp only [up, ← EReal.coe_mul, sum_coe]
  rfl

/-! ## The run -/

set_option maxHeartbeats 4000000 in
/-- The reference's run on finite inputs: the four results and the unchanged arguments. -/
theorem run_real (m : (ℓ : Loc nD τ sig) → Buf (Elt Ideal) ℓ) (ρ : Dev nD → PrngReg) (x : Dev nD → S16384x1024.Idx → ℝ)
  (g s : Dev nD → S1024.Idx → ℝ) (w : Dev nD → S1024x2048.Idx → ℝ) (p : Dev nD → S16384x2048.Idx → ℝ) (R : Dev nD → S16384x1024.Idx → EReal)
  (hx : ∀ c : Dev nD, m ((c.tc : Thread nD τ).loc main_arg0) = up (S := S16384x1024) (x c))
  (hg : ∀ c : Dev nD, m ((c.tc : Thread nD τ).loc main_arg1) = up (S := S1024) (g c))
  (hs : ∀ c : Dev nD, m ((c.tc : Thread nD τ).loc main_arg2) = up (S := S1024) (s c))
  (hw : ∀ c : Dev nD, m ((c.tc : Thread nD τ).loc main_arg4) = up (S := S1024x2048) (w c))
  (hR : ∀ c : Dev nD, m ((c.tc : Thread nD τ).loc main_arg5) = R c)
  (hp : ∀ c : Dev nD, m ((c.tc : Thread nD τ).loc main_arg6) = up (S := S16384x2048) (p c)) :
  θ_run (defs (F := Ideal)) (onTc (τ := τ) (main (F := Ideal))) ⟨m, fun _ => 0, ρ⟩ fun r => ∀ c : Dev nD,
    r.2.mem ((c.tc : Thread nD τ).loc main_v55) = NormSpec.outDx (x c) (NormSpec.prod (p c) (w c)) (g c) (s c) (R c)
    ∧ r.2.mem ((c.tc : Thread nD τ).loc main_v56) = NormSpec.outDg (x c) (NormSpec.prod (p c) (w c)) (s c)
    ∧ r.2.mem ((c.tc : Thread nD τ).loc main_v57) = NormSpec.outDsc (x c) (NormSpec.prod (p c) (w c)) (g c)
    ∧ r.2.mem ((c.tc : Thread nD τ).loc main_v58) = NormSpec.outDsh (NormSpec.prod (p c) (w c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run (defs (F := Ideal)) _ _).mono (fun r h c => ?_) (run m ρ)
  obtain ⟨h0, h1, h2, h3, ha⟩ := h c
  refine ⟨h0.trans ?_, h1.trans ?_, h2.trans ?_, h3.trans ?_, ha⟩
  · unfold res_main_v55
    rw [hx c, hg c, hs c, hw c, hp c, hR c]
    refine Eq.trans ?_ (outDx_up (x c) (NormSpec.prod (p c) (w c)) (g c) (s c) (R c))
    rw [← dh_up]
    rfl
  · rw [hx c, hs c, hw c, hp c]
    refine Eq.trans ?_ (outDg_up (x c) (NormSpec.prod (p c) (w c)) (s c))
    rw [← dh_up]
    rfl
  · rw [hx c, hg c, hw c, hp c]
    refine Eq.trans ?_ (outDsc_up (x c) (NormSpec.prod (p c) (w c)) (g c))
    rw [← dh_up]
    rfl
  · rw [hw c, hp c]
    refine Eq.trans ?_ (outDsh_up (NormSpec.prod (p c) (w c)))
    rw [← dh_up]
    rfl

end Cert.InprojRefIdeal.Value
end
-- ==== Proof.OprojRef.lean ====
module
public import proofs.«01_k».proof.Proof.GroupSpec
public import proofs.«01_k».proof.Proof.InprojRef
public import proofs.«01_k».proof.Proof.Gen.OprojRefIdeal.Run
public import proofs.«01_k».proof.Proof.Gen.OprojIdeal.Launch
public import Idealize.ShloMosaic.Lib.Pipeline.ValueKit

/-! The reference of the three group norms, the output product and the gate, read on real numbers. -/

@[expose] public section

set_option maxRecDepth 16384

noncomputable section

namespace Cert.OprojRefIdeal.Value
open Cert.OprojRefIdeal Cert.OprojRefIdeal.Gen Idealize.ShloMosaic Idealize.ShloMosaic.TcCoe Idealize.SL.Sem Idealize.ShloMosaic.StableHlo
open Cert.Finite Cert.GroupSpec
open NormSpec (up)

/-- The literal `-1/2`. -/
theorem ofBits_nhalf : Ideal.ofBits .f32 0xBF000000#32 = ((-(1 / 2) : ℝ) : EReal) := by
  simp [Ideal.ofBits, Ideal.ieee, -EReal.coe_mul]; norm_num

/-! ## A group of 256 columns -/

section A
variable (u : FVec Ideal S16384x256 .f32) (γ : FVec Ideal S256 .f32) (δ : FVec Ideal S16384x256 .f32)

/-- The mean squares. -/
def msA : FVec Ideal S16384x1 .f32 :=
  addf (Host.divf (broadcastInDim S16384x1 ![0] bcast_S16384_S16384x1_0
      (Host.reduceAdd (mulf u u) (constant S_ .f32 0x00000000#32) reducesTo_S16384x256_S16384_d1 h_S_))
    (broadcastInDim S16384x1 ![] bcast_S_S16384x1 (constant S_ .f32 0x43800000#32)))
    (broadcastInDim S16384x1 ![] bcast_S_S16384x1 (constant S_ .f32 0x358637BD#32))
/-- The derivative of the root's reciprocal by the mean square. -/
def facA : FVec Ideal S16384x1 .f32 :=
  mulf (broadcastInDim S16384x1 ![] bcast_S_S16384x1 (constant S_ .f32 0xBF000000#32)) (Host.divf (Host.rsqrt (msA u)) (msA u))
/-- The normalised rows. -/
def hatA : FVec Ideal S16384x256 .f32 := mulf u (broadcastInDim S16384x256 ![0, 1] bcast_S16384x1_S16384x256_0_1 (Host.rsqrt (msA u)))
/-- The cotangent of the normalised rows. -/
def dhatA : FVec Ideal S16384x256 .f32 :=
  mulf δ (broadcastInDim S16384x256 ![0, 1] bcast_S1x256_S16384x256_0_1 (broadcastInDim S1x256 ![1] bcast_S256_S1x256_1 γ))
/-- The cotangent of the mean square's sum. -/
def coA : FVec Ideal S16384x1 .f32 :=
  Host.divf (mulf (shapeCast S16384x1 (Host.reduceAdd (mulf u (dhatA γ δ)) (constant S_ .f32 0x00000000#32) reducesTo_S16384x256_S16384_d1 h_S_)
    shapeCasts_S16384_S16384x1) (facA u)) (broadcastInDim S16384x1 ![] bcast_S_S16384x1 (constant S_ .f32 0x43800000#32))
/-- The same without its last axis. -/
def co1A : FVec Ideal S16384 .f32 := Host.reduceAdd (coA u γ δ) (constant S_ .f32 0x00000000#32) reducesTo_S16384x1_S16384_d1 h_S_
/-- The gradient of the rows. -/
def dyA : FVec Ideal S16384x256 .f32 :=
  addf (addf (mulf (dhatA γ δ) (broadcastInDim S16384x256 ![0, 1] bcast_S16384x1_S16384x256_0_1 (Host.rsqrt (msA u))))
    (mulf u (broadcastInDim S16384x256 ![0] bcast_S16384_S16384x256_0 (co1A u γ δ))))
    (mulf (broadcastInDim S16384x256 ![0] bcast_S16384_S16384x256_0 (co1A u γ δ)) u)
/-- The gradient of the gains, with a first axis of size one. -/
def dgA : FVec Ideal S1x256 .f32 :=
  shapeCast S1x256 (Host.reduceAdd (mulf (hatA u) δ) (constant S_ .f32 0x00000000#32) reducesTo_S16384x256_S256_d0 h_S_) shapeCasts_S256_S1x256
/-- The gradient of the gains. -/
def dg1A : FVec Ideal S256 .f32 := Host.reduceAdd (dgA u δ) (constant S_ .f32 0x00000000#32) reducesTo_S1x256_S256_d0 h_S_

variable (U : S16384x256.Idx → ℝ) (Γ : S256.Idx → ℝ) (Δ : S16384x256.Idx → ℝ)

theorem msA_up : msA (up U) = up (S := S16384x1) fun i => ms 256 fun k => U (ix2 (i 0) k) := by
  change (_ : S16384x1.Idx → EReal) = _
  funext i
  idx_vars i
  unfold msA
  pointwise
  simp only [up, ofBits_256, ofBits_eps.1, ← EReal.coe_mul, ← EReal.coe_add, sum_coe, div_256]
  rfl

theorem rsA_up : (Host.rsqrt (msA (up U)) : FVec Ideal S16384x1 .f32) = up (S := S16384x1) fun i => rms 256 fun k => U (ix2 (i 0) k) := by
  rw [msA_up]
  change (_ : S16384x1.Idx → EReal) = _
  funext i
  idx_vars i
  pointwise
  simp only [up]
  exact rsqrt_ms (c := 256) _ (by norm_num)

theorem facA_up : facA (up U) = up (S := S16384x1) fun i =>
    -(1 / 2) * (rms 256 (fun k => U (ix2 (i 0) k)) * rms 256 (fun k => U (ix2 (i 0) k)) * rms 256 (fun k => U (ix2 (i 0) k))) := by
  unfold facA
  rw [rsA_up, msA_up]
  change (_ : S16384x1.Idx → EReal) = _
  funext i
  idx_vars i
  pointwise
  simp only [up, ofBits_nhalf]
  rw [div_real _ (ms_pos (c := 256) _ (by norm_num)).ne', rms_div_ms _ (by norm_num), ← EReal.coe_mul]

theorem hatA_up : hatA (up U) = up (S := S16384x256) fun i => U i * rms 256 fun k => U (ix2 (i 0) k) := by
  unfold hatA
  rw [rsA_up]
  change (_ : S16384x256.Idx → EReal) = _
  funext i
  idx_vars i
  pointwise
  simp only [up, ← EReal.coe_mul]
  rfl

theorem dhatA_up : dhatA (up Γ) (up Δ) = up (S := S16384x256) fun i => Δ i * Γ (ix1 (i 1)) := by
  change (_ : S16384x256.Idx → EReal) = _
  funext i
  idx_vars i
  unfold dhatA
  pointwise
  simp only [up, ← EReal.coe_mul]
  rfl

theorem coA_up : coA (up U) (up Γ) (up Δ)
    = up (S := S16384x1) fun i => co 256 (fun k => U (ix2 (i 0) k)) (fun k => Γ (ix1 k)) (fun k => Δ (ix2 (i 0) k)) := by
  unfold coA
  rw [facA_up, dhatA_up]
  change (_ : S16384x1.Idx → EReal) = _
  funext i
  idx_vars i
  pointwise
  simp only [up, ofBits_256, ← EReal.coe_mul, sum_coe, div_256]
  rfl

theorem co1A_up : co1A (up U) (up Γ) (up Δ)
    = up (S := S16384) fun i => co 256 (fun k => U (ix2 (i 0) k)) (fun k => Γ (ix1 k)) (fun k => Δ (ix2 (i 0) k)) := by
  unfold co1A
  rw [coA_up]
  change (_ : S16384.Idx → EReal) = _
  funext i
  idx_vars i
  pointwise
  exact Fin.sum_univ_one _

theorem dyA_up : dyA (up U) (up Γ) (up Δ)
    = up (S := S16384x256) fun i => dy 256 (fun k => U (ix2 (i 0) k)) (fun k => Γ (ix1 k)) (fun k => Δ (ix2 (i 0) k)) (i 1) := by
  unfold dyA
  rw [co1A_up, rsA_up, dhatA_up]
  change (_ : S16384x256.Idx → EReal) = _
  funext i
  idx_vars i
  pointwise
  refine Eq.trans ?_ (congrArg (fun r : ℝ => (r : EReal)) (dy_split (c := 256) (fun k => U (ix2 i0 k)) (fun k => Γ (ix1 k)) (fun k => Δ (ix2 i0 k)) i1))
  simp only [up, EReal.coe_add, EReal.coe_mul, add_assoc]
  rfl

theorem dgA_up : dgA (up U) (up Δ)
    = up (S := S1x256) fun i => ∑ r : Fin 16384, dg 256 (fun k => U (ix2 r k)) (fun k => Δ (ix2 r k)) (i 1) := by
  unfold dgA
  rw [hatA_up]
  change (_ : S1x256.Idx → EReal) = _
  funext i
  idx_vars i
  pointwise
  simp only [up, ← EReal.coe_mul, sum_coe]
  exact congrArg (fun r : ℝ => (r : EReal)) (Finset.sum_congr rfl fun r _ => mul_comm _ _)

theorem dg1A_up : dg1A (up U) (up Δ)
    = up (S := S256) fun i => ∑ r : Fin 16384, dg 256 (fun k => U (ix2 r k)) (fun k => Δ (ix2 r k)) (i 0) := by
  unfold dg1A
  rw [dgA_up]
  change (_ : S256.Idx → EReal) = _
  funext i
  idx_vars i
  pointwise
  exact Fin.sum_univ_one _

end A
/-! ## A group of 384 columns -/

section B
variable (u : FVec Ideal S16384x384 .f32) (γ : FVec Ideal S384 .f32) (δ : FVec Ideal S16384x384 .f32)

/-- The mean squares. -/
def msB : FVec Ideal S16384x1 .f32 :=
  addf (Host.divf (broadcastInDim S16384x1 ![0] bcast_S16384_S16384x1_0
      (Host.reduceAdd (mulf u u) (constant S_ .f32 0x00000000#32) reducesTo_S16384x384_S16384_d1 h_S_))
    (broadcastInDim S16384x1 ![] bcast_S_S16384x1 (constant S_ .f32 0x43C00000#32)))
    (broadcastInDim S16384x1 ![] bcast_S_S16384x1 (constant S_ .f32 0x358637BD#32))
/-- The derivative of the root's reciprocal by the mean square. -/
def facB : FVec Ideal S16384x1 .f32 :=
  mulf (broadcastInDim S16384x1 ![] bcast_S_S16384x1 (constant S_ .f32 0xBF000000#32)) (Host.divf (Host.rsqrt (msB u)) (msB u))
/-- The normalised rows. -/
def hatB : FVec Ideal S16384x384 .f32 := mulf u (broadcastInDim S16384x384 ![0, 1] bcast_S16384x1_S16384x384_0_1 (Host.rsqrt (msB u)))
/-- The cotangent of the normalised rows. -/
def dhatB : FVec Ideal S16384x384 .f32 :=
  mulf δ (broadcastInDim S16384x384 ![0, 1] bcast_S1x384_S16384x384_0_1 (broadcastInDim S1x384 ![1] bcast_S384_S1x384_1 γ))
/-- The cotangent of the mean square's sum. -/
def coB : FVec Ideal S16384x1 .f32 :=
  Host.divf (mulf (shapeCast S16384x1 (Host.reduceAdd (mulf u (dhatB γ δ)) (constant S_ .f32 0x00000000#32) reducesTo_S16384x384_S16384_d1 h_S_)
    shapeCasts_S16384_S16384x1) (facB u)) (broadcastInDim S16384x1 ![] bcast_S_S16384x1 (constant S_ .f32 0x43C00000#32))
/-- The same without its last axis. -/
def co1B : FVec Ideal S16384 .f32 := Host.reduceAdd (coB u γ δ) (constant S_ .f32 0x00000000#32) reducesTo_S16384x1_S16384_d1 h_S_
/-- The gradient of the rows. -/
def dyB : FVec Ideal S16384x384 .f32 :=
  addf (addf (mulf (dhatB γ δ) (broadcastInDim S16384x384 ![0, 1] bcast_S16384x1_S16384x384_0_1 (Host.rsqrt (msB u))))
    (mulf u (broadcastInDim S16384x384 ![0] bcast_S16384_S16384x384_0 (co1B u γ δ))))
    (mulf (broadcastInDim S16384x384 ![0] bcast_S16384_S16384x384_0 (co1B u γ δ)) u)
/-- The gradient of the gains, with a first axis of size one. -/
def dgB : FVec Ideal S1x384 .f32 :=
  shapeCast S1x384 (Host.reduceAdd (mulf (hatB u) δ) (constant S_ .f32 0x00000000#32) reducesTo_S16384x384_S384_d0 h_S_) shapeCasts_S384_S1x384
/-- The gradient of the gains. -/
def dg1B : FVec Ideal S384 .f32 := Host.reduceAdd (dgB u δ) (constant S_ .f32 0x00000000#32) reducesTo_S1x384_S384_d0 h_S_

variable (U : S16384x384.Idx → ℝ) (Γ : S384.Idx → ℝ) (Δ : S16384x384.Idx → ℝ)

theorem msB_up : msB (up U) = up (S := S16384x1) fun i => ms 384 fun k => U (ix2 (i 0) k) := by
  change (_ : S16384x1.Idx → EReal) = _
  funext i
  idx_vars i
  unfold msB
  pointwise
  simp only [up, ofBits_384, ofBits_eps.1, ← EReal.coe_mul, ← EReal.coe_add, sum_coe, div_384]
  rfl

theorem rsB_up : (Host.rsqrt (msB (up U)) : FVec Ideal S16384x1 .f32) = up (S := S16384x1) fun i => rms 384 fun k => U (ix2 (i 0) k) := by
  rw [msB_up]
  change (_ : S16384x1.Idx → EReal) = _
  funext i
  idx_vars i
  pointwise
  simp only [up]
  exact rsqrt_ms (c := 384) _ (by norm_num)

theorem facB_up : facB (up U) = up (S := S16384x1) fun i =>
    -(1 / 2) * (rms 384 (fun k => U (ix2 (i 0) k)) * rms 384 (fun k => U (ix2 (i 0) k)) * rms 384 (fun k => U (ix2 (i 0) k))) := by
  unfold facB
  rw [rsB_up, msB_up]
  change (_ : S16384x1.Idx → EReal) = _
  funext i
  idx_vars i
  pointwise
  simp only [up, ofBits_nhalf]
  rw [div_real _ (ms_pos (c := 384) _ (by norm_num)).ne', rms_div_ms _ (by norm_num), ← EReal.coe_mul]

theorem hatB_up : hatB (up U) = up (S := S16384x384) fun i => U i * rms 384 fun k => U (ix2 (i 0) k) := by
  unfold hatB
  rw [rsB_up]
  change (_ : S16384x384.Idx → EReal) = _
  funext i
  idx_vars i
  pointwise
  simp only [up, ← EReal.coe_mul]
  rfl

theorem dhatB_up : dhatB (up Γ) (up Δ) = up (S := S16384x384) fun i => Δ i * Γ (ix1 (i 1)) := by
  change (_ : S16384x384.Idx → EReal) = _
  funext i
  idx_vars i
  unfold dhatB
  pointwise
  simp only [up, ← EReal.coe_mul]
  rfl

theorem coB_up : coB (up U) (up Γ) (up Δ)
    = up (S := S16384x1) fun i => co 384 (fun k => U (ix2 (i 0) k)) (fun k => Γ (ix1 k)) (fun k => Δ (ix2 (i 0) k)) := by
  unfold coB
  rw [facB_up, dhatB_up]
  change (_ : S16384x1.Idx → EReal) = _
  funext i
  idx_vars i
  pointwise
  simp only [up, ofBits_384, ← EReal.coe_mul, sum_coe, div_384]
  rfl

theorem co1B_up : co1B (up U) (up Γ) (up Δ)
    = up (S := S16384) fun i => co 384 (fun k => U (ix2 (i 0) k)) (fun k => Γ (ix1 k)) (fun k => Δ (ix2 (i 0) k)) := by
  unfold co1B
  rw [coB_up]
  change (_ : S16384.Idx → EReal) = _
  funext i
  idx_vars i
  pointwise
  exact Fin.sum_univ_one _

theorem dyB_up : dyB (up U) (up Γ) (up Δ)
    = up (S := S16384x384) fun i => dy 384 (fun k => U (ix2 (i 0) k)) (fun k => Γ (ix1 k)) (fun k => Δ (ix2 (i 0) k)) (i 1) := by
  unfold dyB
  rw [co1B_up, rsB_up, dhatB_up]
  change (_ : S16384x384.Idx → EReal) = _
  funext i
  idx_vars i
  pointwise
  refine Eq.trans ?_ (congrArg (fun r : ℝ => (r : EReal)) (dy_split (c := 384) (fun k => U (ix2 i0 k)) (fun k => Γ (ix1 k)) (fun k => Δ (ix2 i0 k)) i1))
  simp only [up, EReal.coe_add, EReal.coe_mul, add_assoc]
  rfl

theorem dgB_up : dgB (up U) (up Δ)
    = up (S := S1x384) fun i => ∑ r : Fin 16384, dg 384 (fun k => U (ix2 r k)) (fun k => Δ (ix2 r k)) (i 1) := by
  unfold dgB
  rw [hatB_up]
  change (_ : S1x384.Idx → EReal) = _
  funext i
  idx_vars i
  pointwise
  simp only [up, ← EReal.coe_mul, sum_coe]
  exact congrArg (fun r : ℝ => (r : EReal)) (Finset.sum_congr rfl fun r _ => mul_comm _ _)

theorem dg1B_up : dg1B (up U) (up Δ)
    = up (S := S384) fun i => ∑ r : Fin 16384, dg 384 (fun k => U (ix2 r k)) (fun k => Δ (ix2 r k)) (i 0) := by
  unfold dg1B
  rw [dgB_up]
  change (_ : S384.Idx → EReal) = _
  funext i
  idx_vars i
  pointwise
  exact Fin.sum_univ_one _

end B
/-! ## The whole part -/

section whole
variable (a : FVec Ideal S16384x256 .f32) (b e : FVec Ideal S16384x384 .f32) (g t : FVec Ideal S1024 .f32) (w : FVec Ideal S1024x1024 .f32)
  (d δ : FVec Ideal S16384x1024 .f32)

/-- The gains of the three groups. -/
def gA : FVec Ideal S256 .f32 := extractStridedSlice S256 ![0] g slices_S1024_S256_0
def gB : FVec Ideal S384 .f32 := extractStridedSlice S384 ![256] g slices_S1024_S384_256
def gC : FVec Ideal S384 .f32 := extractStridedSlice S384 ![640] g slices_S1024_S384_640
/-- The cotangents of the three groups. -/
def δA : FVec Ideal S16384x256 .f32 := extractStridedSlice S16384x256 ![0, 0] δ slices_S16384x1024_S16384x256_0_0
def δB : FVec Ideal S16384x384 .f32 := extractStridedSlice S16384x384 ![0, 256] δ slices_S16384x1024_S16384x384_0_256
def δC : FVec Ideal S16384x384 .f32 := extractStridedSlice S16384x384 ![0, 640] δ slices_S16384x1024_S16384x384_0_640
/-- The output product of the joined, normalised groups. -/
def ao : FVec Ideal S16384x1024 .f32 :=
  Host.dotGeneral dot_S16384x1024_S1024x1024_S16384x1024_1_0_0_1_n_n none
    (concatenate S16384x1024 1
      [⟨S16384x256, mulf (hatA a) (broadcastInDim S16384x256 ![0, 1] bcast_S1x256_S16384x256_0_1 (broadcastInDim S1x256 ![1] bcast_S256_S1x256_1 (gA g)))⟩,
       ⟨S16384x384, mulf (hatB b) (broadcastInDim S16384x384 ![0, 1] bcast_S1x384_S16384x384_0_1 (broadcastInDim S1x384 ![1] bcast_S384_S1x384_1 (gB g)))⟩,
       ⟨S16384x384, mulf (hatB e) (broadcastInDim S16384x384 ![0, 1] bcast_S1x384_S16384x384_0_1 (broadcastInDim S1x384 ![1] bcast_S384_S1x384_1 (gC g)))⟩]
      concatenates_S16384x256_S16384x384_S16384x384_S16384x1024_d1) w
/-- The cotangent of the output product. -/
def daoV : FVec Ideal S16384x1024 .f32 :=
  mulf (broadcastInDim S16384x1024 ![0, 1] bcast_S1x1024_S16384x1024_0_1 (broadcastInDim S1x1024 ![1] bcast_S1024_S1x1024_1 t)) d
/-- The cotangent of the joined groups. -/
def dnV : FVec Ideal S16384x1024 .f32 :=
  Host.dotGeneral dot_S16384x1024_S1024x1024_S16384x1024_1_1_0_0_n_n none (daoV t d) w
/-- The gradient of the gate. -/
def dgt1V (o : FVec Ideal S16384x1024 .f32) : FVec Ideal S1x1024 .f32 :=
  shapeCast S1x1024 (Host.reduceAdd (mulf d o) (constant S_ .f32 0x00000000#32) reducesTo_S16384x1024_S1024_d0 h_S_) shapeCasts_S1024_S1x1024
/-- The same, through one more sum over an axis of size one. -/
def dgt2V (o : FVec Ideal S16384x1024 .f32) : FVec Ideal S1024 .f32 :=
  Host.reduceAdd (dgt1V d o) (constant S_ .f32 0x00000000#32) reducesTo_S1x1024_S1024_d0 h_S_
def dgtV (o : FVec Ideal S16384x1024 .f32) : FVec Ideal S1x1024 .f32 := broadcastInDim S1x1024 ![1] bcast_S1024_S1x1024_1 (dgt2V d o)
/-- The three pieces of the gains' gradient, each padded to the whole row. -/
def padA (v : FVec Ideal S256 .f32) : FVec Ideal S1024 .f32 := pad S1024 ![0] ![768] ![0] v (constant (F := Ideal) S_ .f32 0x00000000#32) pads_S256_S1024_07680 h_S_
def padB (v : FVec Ideal S384 .f32) : FVec Ideal S1024 .f32 := pad S1024 ![256] ![384] ![0] v (constant (F := Ideal) S_ .f32 0x00000000#32) pads_S384_S1024_2563840 h_S_
def padC (v : FVec Ideal S384 .f32) : FVec Ideal S1024 .f32 := pad S1024 ![640] ![0] ![0] v (constant (F := Ideal) S_ .f32 0x00000000#32) pads_S384_S1024_64000 h_S_
/-- The gains' gradient from its three pieces. -/
def dggV (p : FVec Ideal S256 .f32) (q r : FVec Ideal S384 .f32) : FVec Ideal S1x1024 .f32 :=
  broadcastInDim S1x1024 ![1] bcast_S1024_S1x1024_1 (addf (addf (padC r) (padB q)) (padA p))

variable (D Δ : S16384x1024.Idx → ℝ) (τt G : S1024.Idx → ℝ) (W : S1024x1024.Idx → ℝ)

theorem daoV_up : daoV (up τt) (up D) = up (S := S16384x1024) (GroupSpec.dao τt D) := by
  change (_ : S16384x1024.Idx → EReal) = _
  funext i
  idx_vars i
  unfold daoV
  pointwise
  simp only [up, ← EReal.coe_mul]
  exact congrArg (fun r : ℝ => (r : EReal)) (mul_comm _ _)

theorem dnV_up : dnV (up τt) (up W) (up D) = up (S := S16384x1024) (GroupSpec.dn τt W D) := by
  unfold dnV
  rw [daoV_up]
  change (_ : S16384x1024.Idx → EReal) = _
  funext i
  idx_vars i
  pointwise
  simp only [up, ← EReal.coe_mul, sum_coe]
  rfl

theorem gA_up : gA (up G) = up (S := S256) fun i => G (ix1 (colA (i 0))) := by
  change (_ : S256.Idx → EReal) = _
  funext i
  idx_vars i
  unfold gA
  pointwise
  rfl
theorem gB_up : gB (up G) = up (S := S384) fun i => G (ix1 (colB (i 0))) := by
  change (_ : S384.Idx → EReal) = _
  funext i
  idx_vars i
  unfold gB
  pointwise
  rfl
theorem gC_up : gC (up G) = up (S := S384) fun i => G (ix1 (colC (i 0))) := by
  change (_ : S384.Idx → EReal) = _
  funext i
  idx_vars i
  unfold gC
  pointwise
  rfl
theorem δA_up : δA (up Δ) = up (S := S16384x256) fun i => Δ (ix2 (i 0) (colA (i 1))) := by
  change (_ : S16384x256.Idx → EReal) = _
  funext i
  idx_vars i
  unfold δA
  pointwise
  rfl
theorem δB_up : δB (up Δ) = up (S := S16384x384) fun i => Δ (ix2 (i 0) (colB (i 1))) := by
  change (_ : S16384x384.Idx → EReal) = _
  funext i
  idx_vars i
  unfold δB
  pointwise
  rfl
theorem δC_up : δC (up Δ) = up (S := S16384x384) fun i => Δ (ix2 (i 0) (colC (i 1))) := by
  change (_ : S16384x384.Idx → EReal) = _
  funext i
  idx_vars i
  unfold δC
  pointwise
  rfl

theorem dgt1V_eq (O : S16384x1024.Idx → EReal) : (dgt1V (up D) O : S1x1024.Idx → EReal) = GroupSpec.dgt D O := by
  funext i
  idx_vars i
  unfold dgt1V
  pointwise
  rfl
theorem dgt2V_eq (O : S16384x1024.Idx → EReal) : (dgt2V (up D) O : S1024.Idx → EReal) = fun i => GroupSpec.dgt D O (ix2 0 (i 0)) := by
  unfold dgt2V
  rw [dgt1V_eq]
  funext i
  idx_vars i
  pointwise
  exact Fin.sum_univ_one _
theorem dgtV_eq (O : S16384x1024.Idx → EReal) : (dgtV (up D) O : S1x1024.Idx → EReal) = GroupSpec.dgt D O := by
  unfold dgtV
  rw [dgt2V_eq]
  funext i
  idx_vars i
  pointwise
  rfl

theorem padA_apply (v : S256.Idx → EReal) (j : Fin 1024) :
    (padA v (ix1 j) : EReal) = if h : j.val < 256 then v (ix1 ⟨j.val, h⟩) else 0 := by
  unfold padA
  pointwise
theorem padB_apply (v : S384.Idx → EReal) (j : Fin 1024) :
    (padB v (ix1 j) : EReal) = if h : 256 ≤ j.val ∧ j.val - 256 < 384 then v (ix1 ⟨j.val - 256, by omega⟩) else 0 := by
  unfold padB
  pointwise
theorem padC_apply (v : S384.Idx → EReal) (j : Fin 1024) :
    (padC v (ix1 j) : EReal) = if h : 640 ≤ j.val ∧ j.val - 640 < 384 then v (ix1 ⟨j.val - 640, by omega⟩) else 0 := by
  unfold padC
  pointwise

theorem dggV_up (p : Fin 256 → ℝ) (q r : Fin 384 → ℝ) :
    (dggV (up (S := S256) fun i => p (i 0)) (up (S := S384) fun i => q (i 0)) (up (S := S384) fun i => r (i 0)) : S1x1024.Idx → EReal)
      = up (S := S1x1024) fun i => join p q r (i 1) := by
  funext i
  idx_vars i
  have e : (dggV (up (S := S256) fun i => p (i 0)) (up (S := S384) fun i => q (i 0)) (up (S := S384) fun i => r (i 0)) (ix2 i0 i1) : EReal)
      = (padC (up (S := S384) fun i => r (i 0)) (ix1 i1) : EReal) + padB (up (S := S384) fun i => q (i 0)) (ix1 i1)
        + padA (up (S := S256) fun i => p (i 0)) (ix1 i1) := by
    unfold dggV
    pointwise
  rw [e, padA_apply, padB_apply, padC_apply]
  show _ = ((join p q r i1 : ℝ) : EReal)
  unfold join
  by_cases h : i1.val < 256
  · rw [dif_neg (by omega), dif_neg (by omega), dif_pos h, dif_pos h, zero_add, zero_add]
    rfl
  · by_cases h' : i1.val < 640
    · rw [dif_neg (by omega), dif_pos (by omega), dif_neg h, dif_neg h, dif_pos h', zero_add, add_zero]
      rfl
    · rw [dif_pos (by omega), dif_neg (by omega), dif_neg h, dif_neg h, dif_neg h', add_zero, add_zero]
      rfl

end whole

/-! ## The run -/

set_option maxHeartbeats 4000000 in
/-- The reference's run on finite inputs: the six results and the unchanged arguments. -/
theorem run_real (m : (ℓ : Loc nD τ sig) → Buf (Elt Ideal) ℓ) (ρ : Dev nD → PrngReg) (a : Dev nD → S16384x256.Idx → ℝ)
  (b e : Dev nD → S16384x384.Idx → ℝ) (g t : Dev nD → S1024.Idx → ℝ) (w : Dev nD → S1024x1024.Idx → ℝ) (d : Dev nD → S16384x1024.Idx → ℝ)
  (O : Dev nD → S16384x1024.Idx → EReal)
  (ha : ∀ c : Dev nD, m ((c.tc : Thread nD τ).loc main_arg1) = up (S := S16384x256) (a c))
  (hb : ∀ c : Dev nD, m ((c.tc : Thread nD τ).loc main_arg2) = up (S := S16384x384) (b c))
  (he : ∀ c : Dev nD, m ((c.tc : Thread nD τ).loc main_arg3) = up (S := S16384x384) (e c))
  (hg : ∀ c : Dev nD, m ((c.tc : Thread nD τ).loc main_arg4) = up (S := S1024) (g c))
  (hw : ∀ c : Dev nD, m ((c.tc : Thread nD τ).loc main_arg5) = up (S := S1024x1024) (w c))
  (ht : ∀ c : Dev nD, m ((c.tc : Thread nD τ).loc main_arg6) = up (S := S1024) (t c))
  (hd : ∀ c : Dev nD, m ((c.tc : Thread nD τ).loc main_arg7) = up (S := S16384x1024) (d c))
  (hO : ∀ c : Dev nD, ao (up (a c)) (up (b c)) (up (e c)) (up (g c)) (up (w c)) = O c) :
  θ_run (defs (F := Ideal)) (onTc (τ := τ) (main (F := Ideal))) ⟨m, fun _ => 0, ρ⟩ fun r => ∀ c : Dev nD,
    r.2.mem ((c.tc : Thread nD τ).loc main_v132) = up (S := S16384x1024) (GroupSpec.dao (t c) (d c))
    ∧ r.2.mem ((c.tc : Thread nD τ).loc main_v133) = up (S := S16384x256) (GroupSpec.dya (a c) (g c) (GroupSpec.dn (t c) (w c) (d c)))
    ∧ r.2.mem ((c.tc : Thread nD τ).loc main_v134) = up (S := S16384x384) (GroupSpec.dyb (b c) (g c) (GroupSpec.dn (t c) (w c) (d c)))
    ∧ r.2.mem ((c.tc : Thread nD τ).loc main_v135) = up (S := S16384x384) (GroupSpec.dyc (e c) (g c) (GroupSpec.dn (t c) (w c) (d c)))
    ∧ r.2.mem ((c.tc : Thread nD τ).loc main_v136) = GroupSpec.dgt (d c) (O c)
    ∧ r.2.mem ((c.tc : Thread nD τ).loc main_v137) = up (S := S1x1024) (GroupSpec.dgg (a c) (b c) (e c) (GroupSpec.dn (t c) (w c) (d c)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run (defs (F := Ideal)) _ _).mono (fun r h c => ?_) (run m ρ)
  obtain ⟨h0, h1, h2, h3, h4, h5, hA⟩ := h c
  refine ⟨h0.trans ?_, h1.trans ?_, h2.trans ?_, h3.trans ?_, h4.trans ?_, h5.trans ?_, hA⟩
  · rw [ht c, hd c]
    exact daoV_up (d c) (t c)
  · unfold res_main_v133
    rw [ha c, hg c, hw c, ht c, hd c]
    refine Eq.trans ?_ (dyA_up (a c) (fun i => g c (ix1 (colA (i 0)))) (fun i => GroupSpec.dn (t c) (w c) (d c) (ix2 (i 0) (colA (i 1)))))
    rw [← gA_up, ← δA_up, ← dnV_up]
    rfl
  · unfold res_main_v134
    rw [hb c, hg c, hw c, ht c, hd c]
    refine Eq.trans ?_ (dyB_up (b c) (fun i => g c (ix1 (colB (i 0)))) (fun i => GroupSpec.dn (t c) (w c) (d c) (ix2 (i 0) (colB (i 1)))))
    rw [← gB_up, ← δB_up, ← dnV_up]
    rfl
  · unfold res_main_v135
    rw [he c, hg c, hw c, ht c, hd c]
    refine Eq.trans ?_ (dyB_up (e c) (fun i => g c (ix1 (colC (i 0)))) (fun i => GroupSpec.dn (t c) (w c) (d c) (ix2 (i 0) (colC (i 1)))))
    rw [← gC_up, ← δC_up, ← dnV_up]
    rfl
  · rw [ha c, hb c, he c, hg c, hw c, hd c, ← hO c]
    exact dgtV_eq (d c) (ao (up (a c)) (up (b c)) (up (e c)) (up (g c)) (up (w c)))
  · rw [ha c, hb c, he c, hw c, ht c, hd c]
    have q : up (S := S1x1024) (GroupSpec.dgg (a c) (b c) (e c) (GroupSpec.dn (t c) (w c) (d c)))
        = up (S := S1x1024) fun i => join (fun k => ∑ r, dg 256 (fun k => a c (ix2 r k)) (fun k => GroupSpec.dn (t c) (w c) (d c) (ix2 r (colA k))) k)
          (fun k => ∑ r, dg 384 (fun k => b c (ix2 r k)) (fun k => GroupSpec.dn (t c) (w c) (d c) (ix2 r (colB k))) k)
          (fun k => ∑ r, dg 384 (fun k => e c (ix2 r k)) (fun k => GroupSpec.dn (t c) (w c) (d c) (ix2 r (colC k))) k) (i 1) :=
      congrArg (up (S := S1x1024)) (funext fun i => join_sum Finset.univ _ _ _ _)
    rw [q]
    refine Eq.trans ?_ (dggV_up _ _ _)
    have e1 := dg1A_up (a c) (fun i => GroupSpec.dn (t c) (w c) (d c) (ix2 (i 0) (colA (i 1))))
    have e2 := dg1B_up (b c) (fun i => GroupSpec.dn (t c) (w c) (d c) (ix2 (i 0) (colB (i 1))))
    have e3 := dg1B_up (e c) (fun i => GroupSpec.dn (t c) (w c) (d c) (ix2 (i 0) (colC (i 1))))
    rw [← δA_up, ← dnV_up] at e1
    rw [← δB_up, ← dnV_up] at e2
    rw [← δC_up, ← dnV_up] at e3
    refine Eq.trans ?_ (congrArg₂ (fun x y => x y) (congrArg₂ dggV e1 e2) e3)
    rfl

end Cert.OprojRefIdeal.Value
end
-- ==== Proof.AxfRef.lean ====
module
public import proofs.«01_k».proof.Proof.AxbHost
public import proofs.«01_k».proof.Proof.OprojRef
public import proofs.«01_k».proof.Proof.Gen.AxfRefIdeal.Run

/-! The attention's forward pass: its three results in real arithmetic, and the reference program's results, which are these. -/

@[expose] public section

set_option maxRecDepth 16384

noncomputable section

namespace Cert.AxfRef
open Cert.AxfRefIdeal Cert.AxfRefIdeal.Gen Idealize.ShloMosaic Idealize.ShloMosaic.TcCoe Idealize.SL.Sem Idealize.ShloMosaic.StableHlo
open Cert.Finite AxbSpec
open Cert.AxbRef (up scoreV expV probV k3 rw2 B4 K2 score_eq prob_arg)
open Cert.AxbRun (lseV lse_eq hg hr)
open Cert.OprojRefIdeal.Value (hatB hatB_up)

/-- The attention's output: every value of the head's group, weighted by the probabilities. -/
def ao (q : Fin 16384 → Fin 384 → ℝ) (k v : Fin 16384 → Fin 128 → ℝ) (n : Fin 16384) (c : Fin 384) : ℝ :=
  ∑ j, pr q k (qg c) (qr c) n j * v j (gc (qg c) (qd c))

section out
variable (q : S16384x384.Idx → ℝ) (k v : S16384x128.Idx → ℝ) (g : S384.Idx → EReal)
/-- The output as an array. -/
def outY : S16384x384.Idx → EReal := fun i => ((ao (rw2 q) (rw2 k) (rw2 v) (i 0) (i 1) : ℝ) : EReal)
/-- The output after the norm over its 384 columns, times the gains. -/
def outN : S16384x384.Idx → EReal := fun i =>
  ((ao (rw2 q) (rw2 k) (rw2 v) (i 0) (i 1) * Cert.GroupSpec.rms 384 (ao (rw2 q) (rw2 k) (rw2 v) (i 0)) : ℝ) : EReal) * g (ix1 (i 1))
/-- The logarithm of each row's normaliser. -/
def outL : S6x1x16384.Idx → EReal := fun i => ((Real.log (den (rw2 q) (rw2 k) (hg (i 0)) (hr (i 0)) (i 2)) : ℝ) : EReal)
end out

/-! ## The reference program -/

/-- The output, from the probabilities. -/
def yV (p : B4) (v : K2) : FVec Ideal S16384x384 .f32 :=
  shapeCast S16384x384 (transpose S16384x2x3x64 [3, 0, 2, 1] (Host.dotGeneral dot_S16384x2x64_S2x3x16384x16384_S2x64x3x16384_0_3_2_12_1_0 none (k3 v) p)
    transposes_S2x64x3x16384_S16384x2x3x64_3_0_2_1) shapeCasts_S16384x2x3x64_S16384x384
/-- The norm with its gains. -/
def nV (y : FVec Ideal S16384x384 .f32) (g : FVec Ideal S384 .f32) : FVec Ideal S16384x384 .f32 :=
  mulf (hatB y) (broadcastInDim S16384x384 ![0, 1] bcast_S1x384_S16384x384_0_1 (broadcastInDim S1x384 ![1] bcast_S384_S1x384_1 g))

variable (m : (ℓ : Loc nD τ sig) → Buf (Elt Ideal) ℓ) (c : Dev nD)

/-- The program's normed output, by its stages. -/
theorem v49 : Value.res_main_v49 m c = nV (yV (probV (expV (scoreV (m ((c.tc : Thread nD τ).loc main_arg0)) (m ((c.tc : Thread nD τ).loc main_arg1)))))
    (m ((c.tc : Thread nD τ).loc main_arg2))) (m ((c.tc : Thread nD τ).loc main_arg3)) := rfl

variable (q : S16384x384.Idx → ℝ) (k v : S16384x128.Idx → ℝ) (g : S384.Idx → EReal)

theorem y_eq (p : S2x3x16384x16384.Idx → ℝ) : yV (up p) (up v)
    = up fun i => ∑ j, v (ix2 j (gc (qg (i 1)) (qd (i 1)))) * p (ix4 (qg (i 1)) (qr (i 1)) (i 0) j) := by
  change (_ : S16384x384.Idx → EReal) = _
  funext i
  idx_vars i
  unfold yV k3
  pointwise
  simp only [up, ← EReal.coe_mul, sum_coe]
  rfl

theorem y_arg : yV (probV (expV (scoreV (up q) (up k)))) (up v) = outY q k v := by
  rw [prob_arg, y_eq]
  change (_ : S16384x384.Idx → EReal) = _
  funext i
  exact congrArg (fun r : ℝ => (r : EReal)) (Finset.sum_congr rfl fun j _ => mul_comm _ _)

theorem n_arg : nV (yV (probV (expV (scoreV (up q) (up k)))) (up v)) g = outN q k v g := by
  rw [y_arg]
  have e := hatB_up (fun i : S16384x384.Idx => ao (rw2 q) (rw2 k) (rw2 v) (i 0) (i 1))
  have e' : hatB (outY q k v) = up (s := S16384x384) fun i => ao (rw2 q) (rw2 k) (rw2 v) (i 0) (i 1) * Cert.GroupSpec.rms 384 (ao (rw2 q) (rw2 k) (rw2 v) (i 0)) := e
  change (_ : S16384x384.Idx → EReal) = _
  funext i
  idx_vars i
  unfold nV
  rw [e']
  pointwise
  rfl

theorem l_arg : shapeCast S6x1x16384 (lseV (scoreV (up q) (up k))) shapeCasts_S2x3x16384_S6x1x16384 = outL q k := by
  rw [score_eq]
  obtain ⟨M, hM⟩ := lse_eq fun i => sc (rw2 q) (rw2 k) (i 0) (i 1) (i 2) (i 3)
  rw [hM]
  change (_ : S6x1x16384.Idx → EReal) = _
  have e : ∀ (a : Fin 2) (b : Fin 3) (n : Fin 16384) (N : ℝ), N + Real.log (∑ j, Real.exp (sc (rw2 q) (rw2 k) a b n j - N)) = Real.log (den (rw2 q) (rw2 k) a b n) := by
    intro a b n N
    have h : ∑ j, Real.exp (sc (rw2 q) (rw2 k) a b n j - N) = den (rw2 q) (rw2 k) a b n / Real.exp N := by
      simp only [Real.exp_sub, ← Finset.sum_div]; rfl
    rw [h, Real.log_div (den_pos _ _ _ _ _).ne' (Real.exp_pos N).ne', Real.log_exp]
    ring
  funext i
  idx_vars i
  pointwise
  exact congrArg (fun r : ℝ => (r : EReal)) (e (hg i0) (hr i0) i2 _)

section run
variable (hq : m ((c.tc : Thread nD τ).loc main_arg0) = fun i => (q i : EReal)) (hk : m ((c.tc : Thread nD τ).loc main_arg1) = fun i => (k i : EReal))
  (hv : m ((c.tc : Thread nD τ).loc main_arg2) = fun i => (v i : EReal))
include hq hk
/-- The reference's row statistics. -/
theorem ref_l : shapeCast S6x1x16384 (lseV (scoreV (m ((c.tc : Thread nD τ).loc main_arg0)) (m ((c.tc : Thread nD τ).loc main_arg1)))) shapeCasts_S2x3x16384_S6x1x16384
    = outL q k := by
  rw [hq, hk]; exact l_arg q k
include hv
/-- The reference's output. -/
theorem ref_y : yV (probV (expV (scoreV (m ((c.tc : Thread nD τ).loc main_arg0)) (m ((c.tc : Thread nD τ).loc main_arg1))))) (m ((c.tc : Thread nD τ).loc main_arg2))
    = outY q k v := by
  rw [hq, hk, hv]; exact y_arg q k v
/-- The reference's normed output. -/
theorem ref_n : Value.res_main_v49 m c = outN q k v (m ((c.tc : Thread nD τ).loc main_arg3)) := by
  rw [v49, hq, hk, hv]; exact n_arg q k v _
end run

end Cert.AxfRef
end
-- ==== Proof.AxdKer.lean ====
module
public import proofs.«01_k».proof.Proof.DprojBody
public import proofs.«01_k».proof.Proof.AxfRef
public import proofs.«01_k».proof.Proof.Gen.AxdIdeal.Value
public import Idealize.ShloMosaic.Lib.Pipeline.ValueKit
public import Idealize.ShloMosaic.Lib.StableHlo.RunRead

/-! The rows' sums of the attention's output times its cotangent: what the kernel leaves, head by head. -/

@[expose] public section

set_option maxRecDepth 16384

noncomputable section

namespace Cert.AxdIdeal.Value
open Cert.AxdIdeal Cert.AxdIdeal.Gen Idealize.ShloMosaic Idealize.ShloMosaic.TcCoe Idealize.SL.Sem Cert.Finite
open Idealize.ShloMosaic.StableHlo

/-- Column `e` of head `h`. -/
def hcol (h : Fin 6) (e : Fin 64) : Fin 384 := ⟨h.val * 64 + e.val, by omega⟩
/-- Each head's sum, over its 64 columns, of the products of two arrays' entries. -/
def sums (D Y : S16384x384.Idx → EReal) : S6x1x16384.Idx → EReal := fun i => ∑ e, D (ix2 (i 2) (hcol (i 0) e)) * Y (ix2 (i 2) (hcol (i 0) e))

/-- The attention's output, by the stages of the forward lines. -/
def attn (q : S16384x384.Idx → EReal) (k v : S16384x128.Idx → EReal) : S16384x384.Idx → EReal :=
  Cert.AxfRef.yV (Cert.AxbRef.probV (Cert.AxbRef.expV (Cert.AxbRef.scoreV q k))) v

/-! ## The body -/

/-- A block of rows, and 128 of its columns. -/
abbrev BL := S512x384.Idx → EReal
@[inherit_doc BL] abbrev BC := S512x128.Idx → EReal

/-- A sum over a pair's lanes that skips the right head's. -/
theorem sum_left (f : Fin 128 → EReal) : (∑ l : Fin 128, if l.val < 64 then f l else 0) = ∑ e : Fin 64, f ⟨e.val, by omega⟩ := by
  refine (Fin.sum_univ_add (a := 64) (b := 64) fun l : Fin (64 + 64) => if l.val < 64 then f l else 0).trans ?_
  rw [Finset.sum_congr rfl fun e _ => if_pos (show (Fin.castAdd 64 e : Fin (64 + 64)).val < 64 from e.isLt),
    Finset.sum_congr rfl fun e _ => if_neg (show ¬(Fin.natAdd 64 e : Fin (64 + 64)).val < 64 by simp), Finset.sum_const_zero, add_zero]
  rfl
/-- A sum over a pair's lanes that skips the left head's. -/
theorem sum_right (f : Fin 128 → EReal) : (∑ l : Fin 128, if l.val < 64 then 0 else f l) = ∑ e : Fin 64, f ⟨64 + e.val, by omega⟩ := by
  refine (Fin.sum_univ_add (a := 64) (b := 64) fun l : Fin (64 + 64) => if l.val < 64 then 0 else f l).trans ?_
  rw [Finset.sum_congr rfl fun e _ => if_pos (show (Fin.castAdd 64 e : Fin (64 + 64)).val < 64 from e.isLt),
    Finset.sum_congr rfl fun e _ => if_neg (show ¬(Fin.natAdd 64 e : Fin (64 + 64)).val < 64 by simp), Finset.sum_const_zero, zero_add]
  rfl

/-- A selection by the lane, which the first 64 lanes take from the left. -/
theorem lane_select (j : Fin 128) (a b : EReal) :
    Scalar.select (IntOp.cmpi .slt (BitVec.ofNat 32 j.val) 64#32) a b = if j.val < 64 then a else b := by
  have k : ∀ j : Fin 128, IntOp.cmpi .slt (BitVec.ofNat 32 j.val) 64#32 = if j.val < 64 then 1#1 else 0#1 := by decide +kernel
  rw [k]
  split_ifs <;> rfl

/-- The left head's row from a pair's columns. -/
theorem left_at (A B : BC) (z : Fin 1) (r : Fin 512) : (k0_pay5 (F := Ideal) A B : S1x1x512.Idx → EReal) (ix3 0 z r)
    = ∑ e : Fin 64, A (ix2 r ⟨e.val, by omega⟩) * B (ix2 r ⟨e.val, by omega⟩) := by
  pointwise [k0_pay5, k0_pay3, k0_pay4]
  exact (Finset.sum_congr rfl fun j _ => lane_select j _ _).trans (sum_left fun l => A (ix2 r l) * B (ix2 r l))
/-- The right head's row from a pair's columns. -/
theorem right_at (A B : BC) (z : Fin 1) (r : Fin 512) : (k0_pay6 (F := Ideal) A B : S1x1x512.Idx → EReal) (ix3 0 z r)
    = ∑ e : Fin 64, A (ix2 r ⟨64 + e.val, by omega⟩) * B (ix2 r ⟨64 + e.val, by omega⟩) := by
  pointwise [k0_pay6, k0_pay3, k0_pay4]
  exact (Finset.sum_congr rfl fun j _ => lane_select j _ _).trans (sum_right fun l => A (ix2 r l) * B (ix2 r l))

/-- A head's row of the result's block. -/
abbrev RR (h : ℕ) (hb : ∀ a, (![h, 0, 0] : Fin 3 → ℕ) a + (![1, 1, 512] : Fin 3 → ℕ) a ≤ S6x1x512.size a) : Rect S6x1x512 := Rect.unit ![h, 0, 0] ![1, 1, 512] hb
/-- A pair's columns of a block. -/
abbrev cols (X : BL) (b : ℕ) (hb : ∀ a, (![0, b] : Fin 2 → ℕ) a + (![512, 128] : Fin 2 → ℕ) a ≤ S512x384.size a) : BC :=
  (View.ld (Val := Elt Ideal) (e' := .bf16) X (Rect.unit (s := S512x384) ![0, b] ![512, 128] hb) : S512x128.Idx → EReal)

theorem cols_at (X : BL) (b : ℕ) (hb) (r : Fin 512) (l : Fin 128) (j : Fin 384) (e : j.val = b + l.val) : cols X b hb (ix2 r l) = X (ix2 r j) := by
  refine congrArg X (funext fun a => Fin.ext ?_)
  match a with
  | 0 => show 0 + 1 * r.val = r.val; omega
  | 1 => show b + 1 * l.val = j.val; omega

/-- The left and the right head's row of a pair. -/
def leftB (X Y : BL) (b : ℕ) (hb : ∀ a, (![0, b] : Fin 2 → ℕ) a + (![512, 128] : Fin 2 → ℕ) a ≤ S512x384.size a) : S1x1x512.Idx → Elt Ideal .f32 :=
  k0_pay5 (F := Ideal) (cols X b hb) (cols Y b hb)
@[inherit_doc leftB] def rightB (X Y : BL) (b : ℕ) (hb : ∀ a, (![0, b] : Fin 2 → ℕ) a + (![512, 128] : Fin 2 → ℕ) a ≤ S512x384.size a) : S1x1x512.Idx → Elt Ideal .f32 :=
  k0_pay6 (F := Ideal) (cols X b hb) (cols Y b hb)

section rows
variable (h : ℕ) (hb : ∀ a, (![h, 0, 0] : Fin 3 → ℕ) a + (![1, 1, 512] : Fin 3 → ℕ) a ≤ S6x1x512.size a) (k : Fin 6) (z : Fin 1) (r : Fin 512)
  (p : S1x1x512.Idx → Elt Ideal .f32) (L : List (View.Piece (Elt Ideal) S6x1x512 .f32))
theorem row_at (e : k.val = h) : View.canon (⟨RR h hb, p⟩ :: L) (ix3 k z r : S6x1x512.Idx) = p (ix3 0 z r) := by
  have h : ((RR h hb).emb (ix3 0 z r) : S6x1x512.Idx) = ix3 k z r := by
    funext a; refine Fin.ext ?_
    match a with
    | 0 => show h + 1 * 0 = k.val; omega
    | 1 => show 0 + 1 * z.val = z.val; omega
    | 2 => show 0 + 1 * r.val = r.val; omega
  rw [← h]
  exact View.canon_cons_emb _ _ _ _
theorem row_past (e : k.val ≠ h) : View.canon (⟨RR h hb, p⟩ :: L) (ix3 k z r : S6x1x512.Idx) = View.canon L (ix3 k z r) := by
  refine View.canon_cons_of_not_mem ⟨RR h hb, p⟩ L ?_
  rw [Rect.mem_set_unit]
  intro q
  have q1 : h ≤ k.val ∧ k.val < h + 1 := q 0
  omega
end rows

/-- The body's result, head by head. -/
theorem out_eq (X Y : BL) : (out0_2 (F := Ideal) X Y : S6x1x512.Idx → EReal)
    = View.canon (Val := Elt Ideal) (e := .f32) [⟨RR 5 inb_S6x1x512_S1x1x512_5_0_0, rightB X Y 256 inb_S512x384_S512x128_0_256⟩,
        ⟨RR 4 inb_S6x1x512_S1x1x512_4_0_0, leftB X Y 256 inb_S512x384_S512x128_0_256⟩,
        ⟨RR 3 inb_S6x1x512_S1x1x512_3_0_0, rightB X Y 128 inb_S512x384_S512x128_0_128⟩,
        ⟨RR 2 inb_S6x1x512_S1x1x512_2_0_0, leftB X Y 128 inb_S512x384_S512x128_0_128⟩,
        ⟨RR 1 inb_S6x1x512_S1x1x512_1_0_0, rightB X Y 0 inb_S512x384_S512x128_0_0⟩,
        ⟨RR 0 inb_S6x1x512_S1x1x512_0_0_0, leftB X Y 0 inb_S512x384_S512x128_0_0⟩] := rfl

/-- The left and the right head's row of pair `p`. -/
theorem left_head (X Y : BL) (b : ℕ) (hb) (h : Fin 6) (e : b = h.val * 64) (z : Fin 1) (r : Fin 512) :
    (leftB X Y b hb : S1x1x512.Idx → EReal) (ix3 0 z r) = ∑ e, X (ix2 r (hcol h e)) * Y (ix2 r (hcol h e)) := by
  refine (left_at _ _ z r).trans (Finset.sum_congr rfl fun d _ => ?_)
  rw [cols_at X b hb r _ (hcol h d) (by subst e; rfl), cols_at Y b hb r _ (hcol h d) (by subst e; rfl)]
@[inherit_doc left_head] theorem right_head (X Y : BL) (b : ℕ) (hb) (h : Fin 6) (e : b + 64 = h.val * 64) (z : Fin 1) (r : Fin 512) :
    (rightB X Y b hb : S1x1x512.Idx → EReal) (ix3 0 z r) = ∑ e, X (ix2 r (hcol h e)) * Y (ix2 r (hcol h e)) := by
  refine (right_at _ _ z r).trans (Finset.sum_congr rfl fun d _ => ?_)
  have i : (hcol h d).val = b + (64 + d.val) := by show h.val * 64 + d.val = _; omega
  rw [cols_at X b hb r _ (hcol h d) i, cols_at Y b hb r _ (hcol h d) i]

theorem out_at (X Y : BL) (h : Fin 6) (z : Fin 1) (r : Fin 512) :
    (out0_2 (F := Ideal) X Y : S6x1x512.Idx → EReal) (ix3 h z r) = ∑ e, X (ix2 r (hcol h e)) * Y (ix2 r (hcol h e)) := by
  rw [out_eq]
  fin_cases h
  · rw [row_past 5 _ _ _ _ _ _ (by decide), row_past 4 _ _ _ _ _ _ (by decide), row_past 3 _ _ _ _ _ _ (by decide), row_past 2 _ _ _ _ _ _ (by decide), row_past 1 _ _ _ _ _ _ (by decide)]
    exact (row_at 0 _ 0 z r _ _ rfl).trans (left_head X Y 0 _ 0 rfl z r)
  · rw [row_past 5 _ _ _ _ _ _ (by decide), row_past 4 _ _ _ _ _ _ (by decide), row_past 3 _ _ _ _ _ _ (by decide), row_past 2 _ _ _ _ _ _ (by decide)]
    exact (row_at 1 _ 1 z r _ _ rfl).trans (right_head X Y 0 _ 1 rfl z r)
  · rw [row_past 5 _ _ _ _ _ _ (by decide), row_past 4 _ _ _ _ _ _ (by decide), row_past 3 _ _ _ _ _ _ (by decide)]
    exact (row_at 2 _ 2 z r _ _ rfl).trans (left_head X Y 128 _ 2 rfl z r)
  · rw [row_past 5 _ _ _ _ _ _ (by decide), row_past 4 _ _ _ _ _ _ (by decide)]
    exact (row_at 3 _ 3 z r _ _ rfl).trans (right_head X Y 128 _ 3 rfl z r)
  · rw [row_past 5 _ _ _ _ _ _ (by decide)]
    exact (row_at 4 _ 4 z r _ _ rfl).trans (left_head X Y 256 _ 4 rfl z r)
  · exact (row_at 5 _ 5 z r _ _ rfl).trans (right_head X Y 256 _ 5 rfl z r)

/-! ## The blocks and the array -/

variable (m : (ℓ : Loc nD τ sig) → Buf (Elt Ideal) ℓ) (c : Dev nD)

/-- The cotangent, as launched. -/
abbrev dyA : S16384x384.Idx → EReal := (m ((c.tc : Thread nD τ).loc main_arg3) : S16384x384.Idx → EReal)
/-- The attention's output, of the arguments as launched. -/
abbrev attnA : S16384x384.Idx → EReal :=
  attn (m ((c.tc : Thread nD τ).loc main_arg0)) (m ((c.tc : Thread nD τ).loc main_arg1)) (m ((c.tc : Thread nD τ).loc main_arg2))

theorem V_0 : (V m c main_v0 : S16384x384.Idx → EReal) = dyA m c := by
  after_reads_simp
  rfl
theorem V_22 : (V m c main_v22 : S16384x384.Idx → EReal) = attnA m c := by
  after_reads_simp
  rfl

/-- Row `r` of the block that point `n` works on. -/
def row (n : Fin cfg0.N) (r : Fin 512) : Fin 16384 :=
  ⟨n.val * 512 + r.val, by have h : n.val < 32 := lt_of_lt_of_eq n.isLt N_0; omega⟩

theorem idx : ∀ t : Fin cfg0.N, win0_0.index t = ![t.val, 0] ∧ win0_1.index t = ![t.val, 0] ∧ win0_2.index t = ![0, 0, t.val] :=
  (by decide +kernel : ∀ t : Fin grid0.N, _)
theorem emb0 (n : Fin cfg0.N) (r : Fin 512) (d : Fin 384) : (win0_0.blk n).view.emb (ix2 r d) = ix2 (row n r) d := by
  have e : (row n r).val = n.val * 512 + r.val := rfl
  blk_ext [idx n, e]
theorem emb1 (n : Fin cfg0.N) (r : Fin 512) (d : Fin 384) : (win0_1.blk n).view.emb (ix2 r d) = ix2 (row n r) d := by
  have e : (row n r).val = n.val * 512 + r.val := rfl
  blk_ext [idx n, e]
theorem emb2 (n : Fin cfg0.N) (h : Fin 6) (z : Fin 1) (r : Fin 512) : (win0_2.blk n).view.emb (ix3 h z r) = ix3 h z (row n r) := by
  have e : (row n r).val = n.val * 512 + r.val := rfl
  blk_ext [idx n, e]

theorem read0 (f : (b : Ref sig .tc) → Buf (Elt Ideal) ((c : Thread nD τ).loc b)) (t : Fin cfg0.N) (z : S512x384.Idx) :
    (((cfg0.win 0).blk t).view.read (Elt Ideal) (f (Pipeline.arrRef spec0 0)) : S512x384.Idx → EReal) z = (f main_v0 : S16384x384.Idx → EReal) ((win0_0.blk t).view.emb z) := rfl
theorem read1 (f : (b : Ref sig .tc) → Buf (Elt Ideal) ((c : Thread nD τ).loc b)) (t : Fin cfg0.N) (z : S512x384.Idx) :
    (((cfg0.win 1).blk t).view.read (Elt Ideal) (f (Pipeline.arrRef spec0 1)) : S512x384.Idx → EReal) z = (f main_v22 : S16384x384.Idx → EReal) ((win0_1.blk t).view.emb z) := rfl

theorem block0 (n : Fin cfg0.N) (r : Fin 512) (d : Fin 384) : (iblk m c 0 n : S512x384.Idx → EReal) (ix2 r d) = dyA m c (ix2 (row n r) d) := by
  refine (read0 c (V m c) n _).trans ?_
  rw [emb0, V_0]
theorem block1 (n : Fin cfg0.N) (r : Fin 512) (d : Fin 384) : (iblk m c 1 n : S512x384.Idx → EReal) (ix2 r d) = attnA m c (ix2 (row n r) d) := by
  refine (read1 c (V m c) n _).trans ?_
  rw [emb1, V_22]

/-- The array of the heads' sums after the run. -/
theorem final : (dats m 0 c).arrAt 2 cfg0.N = sums (dyA m c) (attnA m c) := by
  refine (dats m 0 c).arrAt_eq_of_covers 2 _ (by decide +kernel) fun t hf y => ?_
  blk_simp
  rw [after0_2]
  revert y
  change ∀ y : S6x1x512.Idx, _
  intro y
  idx_vars y
  refine (out_at (iblk m c 0 t) (iblk m c 1 t) y0 y1 y2).trans ?_
  refine Eq.trans (b := sums (dyA m c) (attnA m c) (ix3 y0 y1 (row t y2) : S6x1x16384.Idx)) ?_ (congrArg (sums (dyA m c) (attnA m c)) (emb2 t y0 y1 y2).symm)
  exact Finset.sum_congr rfl fun e _ => congrArg₂ (· * ·) (block0 m c t y2 _) (block1 m c t y2 _)

end Cert.AxdIdeal.Value
end
-- ==== Proof.AxdPair.lean ====
module
public import proofs.«01_k».proof.Defs
public import proofs.«01_k».proof.Proof.AxdKer
public import proofs.«01_k».proof.Proof.Gen.AxdRefIdeal.Run

/-! The rows' sums that the attention's gradient subtracts: the reference's frame, and kernel and reference computing the same array. -/

@[expose] public section

set_option maxRecDepth 16384

noncomputable section

namespace Cert.AxdPair
open Idealize.ShloMosaic Idealize.ShloMosaic.TcCoe Idealize.SL.Sem Cert.Finite
open Cert.AxdIdeal.Value (sums attn)

/-- The reference runs to its end, leaves its arguments as they were and every semaphore at zero. -/
theorem frame_ref : Cert.quiescent_AxdRefIdeal := fun m ρ _ =>
  (θ_run Cert.AxdRefIdeal.defs _ _).mono (fun r h => ⟨fun c => (h c).2, sem_eq_zero_of_no_sems (by decide) r.2⟩)
    (Cert.AxdRefIdeal.Value.run m ρ)

section ref
open Cert.AxdRefIdeal Cert.AxdRefIdeal.Gen

/-- The reference's last lines: the products, summed over each head's columns and laid out head by head. -/
def sumsV (D Y : FVec Ideal S16384x384 .f32) : FVec Ideal S6x1x16384 .f32 :=
  shapeCast S6x1x16384 (transpose S6x16384 [1, 0] (Host.reduceAdd (shapeCast S16384x6x64 (mulf D Y) shapeCasts_S16384x384_S16384x6x64)
    (constant (F := Ideal) S_ .f32 0x00000000#32) reducesTo_S16384x6x64_S16384x6_d2 h_S_) transposes_S16384x6_S6x16384_1_0) shapeCasts_S6x16384_S6x1x16384

theorem sumsV_eq (D Y : FVec Ideal S16384x384 .f32) : sumsV D Y = sums D Y := by
  change (_ : S6x1x16384.Idx → EReal) = _
  funext i
  idx_vars i
  unfold sumsV
  pointwise
  rfl

/-- The reference's run: its result from the attention's output, and the unchanged arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = sums (m ((c.tc : Thread nD τ).loc main_arg3))
        (attn (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  refine ⟨(h c).1.trans ?_, (h c).2⟩
  exact sumsV_eq (m ((c.tc : Thread nD τ).loc main_arg3))
    (attn (m ((c.tc : Thread nD τ).loc main_arg0)) (m ((c.tc : Thread nD τ).loc main_arg1)) (m ((c.tc : Thread nD τ).loc main_arg2)))
end ref

/-- The rows' sums: kernel and reference compute the same array. -/
theorem algebraic : Cert.algebraic_AxdIdeal_AxdRefIdeal := by
  intro m ρ m' ρ' _ ha
  refine ⟨fun c => sums (Cert.AxdIdeal.Value.dyA m c) (Cert.AxdIdeal.Value.attnA m c), (θ_run (Cert.AxdIdeal.defs (F := Ideal)) _ _).mono (fun r h c => ?_) (Cert.AxdIdeal.Value.run_blocks m ρ),
    (θ_run (Cert.AxdRefIdeal.defs (F := Ideal)) _ _).mono (fun r h c => ?_) (ref_run m' ρ')⟩
  · exact ⟨(h c).1.trans (Cert.AxdIdeal.Value.final m c), (h c).2⟩
  · refine ⟨(h c).1.trans ?_, (h c).2⟩
    rw [(ha c).1, (ha c).2.1, (ha c).2.2.1, (ha c).2.2.2]

end Cert.AxdPair
end
-- ==== Proof.AxfStep.lean ====
module
public import proofs.«01_k».proof.Proof.AxbBlk
public import proofs.«01_k».proof.Proof.Gen.AxfIdeal.Value
public import Idealize.ShloMosaic.Lib.Pipeline.ValueKit

/-! One step of the attention's forward kernel, read on real numbers: a head's scores of one block of keys, the new row
    shift, and the sums carried from block to block. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Cert.AxbRun (up mat lo hi lor hir lo_up hi_up lor_up hir_up mask)

/-! ## The stages of one head's step -/

abbrev KB := FVec Ideal S2048x128 .bf16
abbrev QB := FVec Ideal S1024x128 .bf16
abbrev QF := FVec Ideal S1024x128 .f32
abbrev HB := FVec Ideal S1x1024x128 .f32

/-- The scores of a block of queries and a block of keys. -/
def sB (kz : KB) (q : QB) : FVec Ideal S1024x2048 .f32 := k0_pay66 (F := Ideal) kz q
/-- The greatest score of each row. -/
def xB (s : FVec Ideal S1024x2048 .f32) : FVec Ideal S1024 .f32 :=
  multiReduction .maximumf [1] S1024 s 0xFF800000#32 reduces_S1024x2048_S1024 (.inl rfl) rfl
/-- The new shift of each row, in every lane. -/
def mB (x : FVec Ideal S1024 .f32) (m : HB) : QF :=
  maximumf (k0_pay67 (F := Ideal) m) (broadcastTo S1024x128 (shapeCast S1024x1 x shapeCasts_S1024_S1024x1) broadcasts_S1024x1_S1024x128)
/-- The shift repeated along the block's keys. -/
def tB (n : QF) : FVec Ideal S1024x2048 .f32 :=
  concatenate S1024x2048 1 [⟨S1024x128, n⟩, ⟨S1024x128, n⟩, ⟨S1024x128, n⟩, ⟨S1024x128, n⟩, ⟨S1024x128, n⟩, ⟨S1024x128, n⟩, ⟨S1024x128, n⟩,
    ⟨S1024x128, n⟩, ⟨S1024x128, n⟩, ⟨S1024x128, n⟩, ⟨S1024x128, n⟩, ⟨S1024x128, n⟩, ⟨S1024x128, n⟩, ⟨S1024x128, n⟩, ⟨S1024x128, n⟩, ⟨S1024x128, n⟩]
    concatenates_S1024x128_S1024x128_S1024x128_S1024x128_S1024x128_S1024x128_S1024x128_S1024x128_S1024x128_S1024x128_S1024x128_S1024x128_S1024x128_S1024x128_S1024x128_S1024x128_S1024x2048_d1
/-- The sums carried on: the old ones at the new shift, and this block's. -/
def aB (vz : KB) (s t : FVec Ideal S1024x2048 .f32) (n : QF) (m a : HB) : HB :=
  shapeCast S1x1024x128 (addf (mulf (exp (subf (k0_pay67 (F := Ideal) m) n)) (shapeCast S1024x128 a shapeCasts_S1x1024x128_S1024x128))
    (matmul dot_S1024x2048_S2048x128_S1024x128_1_0_0_1_n_n none (truncf .bf16 (exp (subf s t)) bitsLt_bf16_f32) vz
      (constant S1024x128 .f32 0x00000000#32))) shapeCasts_S1024x128_S1x1024x128

/-- The new shift of a head. -/
def newM (kz : KB) (q : QB) (m : HB) : QF := mB (xB (sB kz q)) m
/-- The new sums of a head. -/
def newA (kz vz : KB) (q : QB) (m a : HB) : HB := aB vz (sB kz q) (tB (newM kz q m)) (newM kz q m) m a

theorem pay68_eq (kz : KB) (q : QB) (m : HB) : k0_pay68 (F := Ideal) kz q m = newM kz q m := rfl
theorem pay69_eq (kz vz : KB) (q : QB) (m a : HB) : k0_pay69 (F := Ideal) kz vz q m a = newA kz vz q m a := rfl

/-! ## The stages at real numbers -/

section real
variable (K V : Fin 2048 → Fin 128 → ℝ) (Q : Fin 1024 → Fin 128 → ℝ) (A : Fin 1024 → Fin 128 → ℝ) (M N : Fin 1024 → ℝ)

theorem sB_real : sB (up (mat K)) (up (mat Q)) = up (mat fun r e => ∑ d, Q r d * K e d) := by
  change (_ : S1024x2048.Idx → EReal) = _
  funext i
  idx_vars i
  pointwise [sB, k0_pay66]
  simp only [up, ← EReal.coe_mul, sum_coe]
  rfl

theorem xB_real (s : S1024x2048.Idx → ℝ) : ∃ X : S1024.Idx → ℝ, xB (up s) = up X := by
  have h : ∀ i : S1024.Idx, ∃ r : ℝ, xB (up s) i = r := by
    intro i
    have e := Ideal.multiReduction_maximumf_single (φ := .f32) (up (s := S1024x2048) s) 0xFF800000#32 reduces_S1024x2048_S1024 (.inl rfl) rfl i
    have hb : (FloatOps.ofBits (F := Ideal) .f32 0xFF800000#32 : EReal) = ⊥ := ofBits_ninf
    rw [hb] at e
    have : Nonempty (Fin (S1024x2048.size 1)) := ⟨⟨0, by decide⟩⟩
    obtain ⟨r, hr⟩ := real_fold_max (up (s := S1024x2048) s ∘ reduces_S1024x2048_S1024.lift i) fun k => ⟨_, rfl⟩
    exact ⟨r, e.trans hr⟩
  choose X hX using h
  exact ⟨X, funext hX⟩

theorem mB_real (X : S1024.Idx → ℝ) : mB (up X) (up fun i => M (i 1)) = up fun i => max (M (i 0)) (X (ix1 (i 0))) := by
  change (_ : S1024x128.Idx → EReal) = _
  funext i
  idx_vars i
  pointwise [mB, k0_pay67]
  exact (EReal.coe_strictMono.monotone.map_max).symm

theorem tB_real : tB (up fun i => N (i 0)) = up (s := S1024x2048) fun i => N (i 0) := by
  change (_ : S1024x2048.Idx → EReal) = _
  funext j
  idx_vars j
  refine (concatenate_replicate_apply (t := S1024x2048) (s₁ := S1024x128) 1 16 (up fun i => N (i 0)) _ rfl (ix2 j0 j1)
    (ix2 j0 (⟨j1.val % 128, Nat.mod_lt _ (by decide)⟩ : Fin 128)) rfl fun b hb => ?_).trans rfl
  have h : b = 0 := by revert hb; revert b; decide
  subst h
  rfl

theorem aB_real (s : S1024x2048.Idx → ℝ) : aB (up (mat V)) (up s) (up fun i => N (i 0)) (up fun i => N (i 0)) (up fun i => M (i 1)) (up fun i => A (i 1) (i 2))
    = up fun i => Real.exp (M (i 1) - N (i 1)) * A (i 1) (i 2) + ∑ e, Real.exp (s (ix2 (i 1) e) - N (i 1)) * V e (i 2) := by
  change (_ : S1x1024x128.Idx → EReal) = _
  funext i
  idx_vars i
  pointwise [aB, k0_pay67]
  have e1 : ∀ x y : ℝ, Ideal.exp ((x : EReal) - (y : EReal)) = ((Real.exp (x - y) : ℝ) : EReal) := fun x y => by
    rw [← EReal.coe_sub]; rfl
  simp only [up, e1, ← EReal.coe_mul, sum_coe, ← EReal.coe_add]
  rfl

/-- One step of a head on real blocks. -/
theorem step_real : ∃ N : Fin 1024 → ℝ, newM (up (mat K)) (up (mat Q)) (up fun i => M (i 1)) = up (fun i => N (i 0))
    ∧ newA (up (mat K)) (up (mat V)) (up (mat Q)) (up fun i => M (i 1)) (up fun i => A (i 1) (i 2))
      = up fun i => Real.exp (M (i 1) - N (i 1)) * A (i 1) (i 2) + ∑ e, Real.exp ((∑ d, Q (i 1) d * K e d) - N (i 1)) * V e (i 2) := by
  obtain ⟨X, hX⟩ := xB_real (mat fun r e => ∑ d, Q r d * K e d)
  have hn : newM (up (mat K)) (up (mat Q)) (up fun i => M (i 1)) = up (fun i => max (M (i 0)) (X (ix1 (i 0)))) := by
    unfold newM
    rw [sB_real, hX, mB_real]
  refine ⟨fun r => max (M r) (X (ix1 r)), hn, ?_⟩
  unfold newA
  rw [hn, sB_real, tB_real fun r => max (M r) (X (ix1 r))]
  exact aB_real V A M (fun r => max (M r) (X (ix1 r))) (mat fun r e => ∑ d, Q r d * K e d)
end real

end Cert.AxfIdeal.Value
end
-- ==== Proof.AxfHead.lean ====
module
public import proofs.«01_k».proof.Proof.AxfStep
public import proofs.«01_k».proof.Proof.AxbHost

/-! The six heads of the attention's forward kernel, read on real numbers: which half of a block each head works on, its
    scores, and one step of all heads. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Cert.AxbRun (up mat lo hi lor hir lo_up hi_up lor_up hir_up mask lo_sum hi_sum lor_sum hir_sum hg hr hd)
open AxbSpec (hc gc)

/-! ## The halves of the value blocks, with ones in the other half -/

/-- The first 64 columns and ones; ones and the last 64 columns; the last 64 columns and ones; ones and the first 64 columns. -/
def lo1 {a : ℕ} (x : Fin a → Fin 128 → ℝ) (i : Fin a) (e : Fin 128) : ℝ := if e.val < 64 then x i e else 1
@[inherit_doc lo1] def hi1 {a : ℕ} (x : Fin a → Fin 128 → ℝ) (i : Fin a) (e : Fin 128) : ℝ := if e.val < 64 then 1 else x i e
@[inherit_doc lo1] def lor1 {a : ℕ} (x : Fin a → Fin 128 → ℝ) (i : Fin a) (e : Fin 128) : ℝ :=
  if h : e.val < 64 then x i ⟨e.val + 64, by omega⟩ else 1
@[inherit_doc lo1] def hir1 {a : ℕ} (x : Fin a → Fin 128 → ℝ) (i : Fin a) (e : Fin 128) : ℝ :=
  if h : e.val < 64 then 1 else x i ⟨e.val - 64, by omega⟩

theorem lo1_up {a : ℕ} (x : Fin a → Fin 128 → ℝ) (i : Fin a) (e : Fin 128) : (if e.val < 64 then ((x i e : ℝ) : EReal) else 1) = ((lo1 x i e : ℝ) : EReal) := by
  unfold lo1; split <;> rfl
theorem hi1_up {a : ℕ} (x : Fin a → Fin 128 → ℝ) (i : Fin a) (e : Fin 128) : (if e.val < 64 then 1 else ((x i e : ℝ) : EReal)) = ((hi1 x i e : ℝ) : EReal) := by
  unfold hi1; split <;> rfl
theorem lor1_up {a : ℕ} (x : Fin a → Fin 128 → ℝ) (i : Fin a) (e : Fin 128) :
    (if e.val < 64 then ((x i ⟨(e.val + 128 - 64) % 128, Nat.mod_lt _ (by decide)⟩ : ℝ) : EReal) else 1) = ((lor1 x i e : ℝ) : EReal) := by
  unfold lor1
  by_cases h : e.val < 64
  · rw [if_pos h, dif_pos h]
    exact congrArg (fun l : Fin 128 => ((x i l : ℝ) : EReal)) (Fin.ext (by show (e.val + 128 - 64) % 128 = e.val + 64; omega))
  · rw [if_neg h, dif_neg h]; rfl
theorem hir1_up {a : ℕ} (x : Fin a → Fin 128 → ℝ) (i : Fin a) (e : Fin 128) :
    (if e.val < 64 then 1 else ((x i ⟨(e.val + 128 - 64) % 128, Nat.mod_lt _ (by decide)⟩ : ℝ) : EReal)) = ((hir1 x i e : ℝ) : EReal) := by
  unfold hir1
  by_cases h : e.val < 64
  · rw [if_pos h, dif_pos h]; rfl
  · rw [if_neg h, dif_neg h]
    exact congrArg (fun l : Fin 128 => ((x i l : ℝ) : EReal)) (Fin.ext (by show (e.val + 128 - 64) % 128 = e.val - 64; omega))

/-- The key block that head `h` multiplies by: its group's columns in its own half, zeros in the other. -/
def KZ (h : Fin 6) (k : Fin 2048 → Fin 128 → ℝ) : Fin 2048 → Fin 128 → ℝ := ![lo k, hir k, lo k, hi k, lor k, hi k] h
/-- The value block that head `h` multiplies by: its group's columns in its own half, ones in the other. -/
def VZ (h : Fin 6) (v : Fin 2048 → Fin 128 → ℝ) : Fin 2048 → Fin 128 → ℝ := ![lo1 v, hir1 v, lo1 v, hi1 v, lor1 v, hi1 v] h
/-- These blocks as the kernel builds them. -/
def kzB (h : Fin 6) (x : KB) : KB := ![k0_pay46 (F := Ideal) x, k0_pay47 (F := Ideal) x, k0_pay46 (F := Ideal) x, k0_pay49 (F := Ideal) x, k0_pay48 (F := Ideal) x, k0_pay49 (F := Ideal) x] h
@[inherit_doc kzB] def vzB (h : Fin 6) (x : KB) : KB := ![k0_pay54 (F := Ideal) x, k0_pay55 (F := Ideal) x, k0_pay54 (F := Ideal) x, k0_pay57 (F := Ideal) x, k0_pay56 (F := Ideal) x, k0_pay57 (F := Ideal) x] h

section variants
variable (k : Fin 2048 → Fin 128 → ℝ)
theorem pay46_real : k0_pay46 (F := Ideal) (up (mat k)) = up (mat (lo k)) := by
  change (_ : S2048x128.Idx → EReal) = _
  funext i
  idx_vars i
  pointwise [k0_pay46, k0_pay42, k0_pay43, k0_pay44]
  rw [mask]
  exact lo_up k i0 i1
theorem pay47_real : k0_pay47 (F := Ideal) (up (mat k)) = up (mat (hir k)) := by
  change (_ : S2048x128.Idx → EReal) = _
  funext i
  idx_vars i
  pointwise [k0_pay47, k0_pay42, k0_pay43, k0_pay44, k0_pay45]
  rw [mask]
  exact hir_up k i0 i1
theorem pay48_real : k0_pay48 (F := Ideal) (up (mat k)) = up (mat (lor k)) := by
  change (_ : S2048x128.Idx → EReal) = _
  funext i
  idx_vars i
  pointwise [k0_pay48, k0_pay42, k0_pay43, k0_pay44, k0_pay45]
  rw [mask]
  exact lor_up k i0 i1
theorem pay49_real : k0_pay49 (F := Ideal) (up (mat k)) = up (mat (hi k)) := by
  change (_ : S2048x128.Idx → EReal) = _
  funext i
  idx_vars i
  pointwise [k0_pay49, k0_pay42, k0_pay43, k0_pay44]
  rw [mask]
  exact hi_up k i0 i1
theorem pay54_real : k0_pay54 (F := Ideal) (up (mat k)) = up (mat (lo1 k)) := by
  change (_ : S2048x128.Idx → EReal) = _
  funext i
  idx_vars i
  pointwise [k0_pay54, k0_pay50, k0_pay51, k0_pay52]
  rw [mask]
  exact lo1_up k i0 i1
theorem pay55_real : k0_pay55 (F := Ideal) (up (mat k)) = up (mat (hir1 k)) := by
  change (_ : S2048x128.Idx → EReal) = _
  funext i
  idx_vars i
  pointwise [k0_pay55, k0_pay50, k0_pay51, k0_pay52, k0_pay53]
  rw [mask]
  exact hir1_up k i0 i1
theorem pay56_real : k0_pay56 (F := Ideal) (up (mat k)) = up (mat (lor1 k)) := by
  change (_ : S2048x128.Idx → EReal) = _
  funext i
  idx_vars i
  pointwise [k0_pay56, k0_pay50, k0_pay51, k0_pay52, k0_pay53]
  rw [mask]
  exact lor1_up k i0 i1
theorem pay57_real : k0_pay57 (F := Ideal) (up (mat k)) = up (mat (hi1 k)) := by
  change (_ : S2048x128.Idx → EReal) = _
  funext i
  idx_vars i
  pointwise [k0_pay57, k0_pay50, k0_pay51, k0_pay52]
  rw [mask]
  exact hi1_up k i0 i1

theorem kzB_real (h : Fin 6) : kzB h (up (mat k)) = up (mat (KZ h k)) := by
  fin_cases h
  · exact pay46_real k
  · exact pay47_real k
  · exact pay46_real k
  · exact pay49_real k
  · exact pay48_real k
  · exact pay49_real k
theorem vzB_real (h : Fin 6) : vzB h (up (mat k)) = up (mat (VZ h k)) := by
  fin_cases h
  · exact pay54_real k
  · exact pay55_real k
  · exact pay54_real k
  · exact pay57_real k
  · exact pay56_real k
  · exact pay57_real k
end variants

/-! ## The query columns of a head -/

/-- The pair of heads that head `h` belongs to. -/
def hp (h : Fin 6) : Fin 3 := ⟨h.val / 2, by omega⟩
/-- A pair of heads' columns. -/
def qpair (x : Fin 1024 → Fin 384 → ℝ) (p : Fin 3) (n : Fin 1024) (e : Fin 128) : ℝ := x n ⟨e.val + 128 * p.val, by omega⟩
/-- 128 columns of a query block, from column `b` on. -/
def ldq (b : ℕ) (inb : ∀ a, (![0, b] : Fin 2 → ℕ) a + (![1024, 128] : Fin 2 → ℕ) a ≤ S1024x384.size a) (x : FVec Ideal S1024x384 .bf16) : QB :=
  k0_pay58 (F := Ideal) (View.ld (Val := Elt Ideal) (e' := .bf16) x (Rect.unit (s := S1024x384) ![0, b] ![1024, 128] inb) : S1024x128.Idx → EReal)
/-- The columns that head `h` reads of a query block. -/
def qzB (h : Fin 6) (x : FVec Ideal S1024x384 .bf16) : QB :=
  ![ldq 0 inb_S1024x384_S1024x128_0_0 x, ldq 0 inb_S1024x384_S1024x128_0_0 x, ldq 128 inb_S1024x384_S1024x128_0_128 x,
    ldq 128 inb_S1024x384_S1024x128_0_128 x, ldq 256 inb_S1024x384_S1024x128_0_256 x, ldq 256 inb_S1024x384_S1024x128_0_256 x] h

theorem ldq_real (x : Fin 1024 → Fin 384 → ℝ) (p : Fin 3) (b : ℕ) (hb : b = 128 * p.val)
    (inb : ∀ a, (![0, b] : Fin 2 → ℕ) a + (![1024, 128] : Fin 2 → ℕ) a ≤ S1024x384.size a) :
    ldq b inb (up (s := S1024x384) (mat x)) = up (mat (qpair x p)) := by
  change (_ : S1024x128.Idx → EReal) = _
  funext i
  idx_vars i
  unfold ldq k0_pay58
  rw [shapeCast_self]
  refine congrArg (fun r : ℝ => (r : EReal)) (congrArg₂ x (Fin.ext ?_) (Fin.ext ?_))
  · show 0 + 1 * i0.val = i0.val; omega
  · show b + 1 * i1.val = i1.val + 128 * p.val; omega

theorem qzB_real (x : Fin 1024 → Fin 384 → ℝ) (h : Fin 6) : qzB h (up (s := S1024x384) (mat x)) = up (mat (qpair x (hp h))) := by
  fin_cases h
  · exact ldq_real x 0 0 rfl _
  · exact ldq_real x 0 0 rfl _
  · exact ldq_real x 1 128 rfl _
  · exact ldq_real x 1 128 rfl _
  · exact ldq_real x 2 256 rfl _
  · exact ldq_real x 2 256 rfl _

/-- A head's product of a query row and a key row. -/
def dotq (Q : Fin 1024 → Fin 384 → ℝ) (K : Fin 2048 → Fin 128 → ℝ) (h : Fin 6) (n : Fin 1024) (j : Fin 2048) : ℝ :=
  ∑ d, K j (gc (hg h) d) * Q n (hc (hg h) (hr h) d)

theorem dotq_eq (Q : Fin 1024 → Fin 384 → ℝ) (K : Fin 2048 → Fin 128 → ℝ) (h : Fin 6) (n : Fin 1024) (j : Fin 2048) :
    ∑ d, qpair Q (hp h) n d * KZ h K j d = dotq Q K h n j := by
  refine (Finset.sum_congr rfl fun d _ => mul_comm _ _).trans ?_
  fin_cases h
  · refine (lo_sum K _ j).trans (Finset.sum_congr rfl fun d _ => congrArg₂ (· * ·) (congrArg (K j) (Fin.ext ?_)) (congrArg (Q n) (Fin.ext ?_)))
    · first | rfl | (show d.val = 0 * 64 + d.val; omega) | (show d.val + 64 = 0 * 64 + d.val; omega)
    · first
        | (show d.val + 128 * 0 = 0 * 192 + 0 * 64 + d.val; omega)
        | (show d.val + 64 + 128 * 0 = 0 * 192 + 0 * 64 + d.val; omega)
  · refine (hir_sum K _ j).trans (Finset.sum_congr rfl fun d _ => congrArg₂ (· * ·) (congrArg (K j) (Fin.ext ?_)) (congrArg (Q n) (Fin.ext ?_)))
    · first | rfl | (show d.val = 0 * 64 + d.val; omega) | (show d.val + 64 = 0 * 64 + d.val; omega)
    · first
        | (show d.val + 128 * 0 = 0 * 192 + 1 * 64 + d.val; omega)
        | (show d.val + 64 + 128 * 0 = 0 * 192 + 1 * 64 + d.val; omega)
  · refine (lo_sum K _ j).trans (Finset.sum_congr rfl fun d _ => congrArg₂ (· * ·) (congrArg (K j) (Fin.ext ?_)) (congrArg (Q n) (Fin.ext ?_)))
    · first | rfl | (show d.val = 0 * 64 + d.val; omega) | (show d.val + 64 = 0 * 64 + d.val; omega)
    · first
        | (show d.val + 128 * 1 = 0 * 192 + 2 * 64 + d.val; omega)
        | (show d.val + 64 + 128 * 1 = 0 * 192 + 2 * 64 + d.val; omega)
  · refine (hi_sum K _ j).trans (Finset.sum_congr rfl fun d _ => congrArg₂ (· * ·) (congrArg (K j) (Fin.ext ?_)) (congrArg (Q n) (Fin.ext ?_)))
    · first | rfl | (show d.val = 1 * 64 + d.val; omega) | (show d.val + 64 = 1 * 64 + d.val; omega)
    · first
        | (show d.val + 128 * 1 = 1 * 192 + 0 * 64 + d.val; omega)
        | (show d.val + 64 + 128 * 1 = 1 * 192 + 0 * 64 + d.val; omega)
  · refine (lor_sum K _ j).trans (Finset.sum_congr rfl fun d _ => congrArg₂ (· * ·) (congrArg (K j) (Fin.ext ?_)) (congrArg (Q n) (Fin.ext ?_)))
    · first | rfl | (show d.val = 1 * 64 + d.val; omega) | (show d.val + 64 = 1 * 64 + d.val; omega)
    · first
        | (show d.val + 128 * 2 = 1 * 192 + 1 * 64 + d.val; omega)
        | (show d.val + 64 + 128 * 2 = 1 * 192 + 1 * 64 + d.val; omega)
  · refine (hi_sum K _ j).trans (Finset.sum_congr rfl fun d _ => congrArg₂ (· * ·) (congrArg (K j) (Fin.ext ?_)) (congrArg (Q n) (Fin.ext ?_)))
    · first | rfl | (show d.val = 1 * 64 + d.val; omega) | (show d.val + 64 = 1 * 64 + d.val; omega)
    · first
        | (show d.val + 128 * 2 = 1 * 192 + 2 * 64 + d.val; omega)
        | (show d.val + 64 + 128 * 2 = 1 * 192 + 2 * 64 + d.val; omega)

/-! ## One step of all heads -/

/-- The new shift and the new sums of head `h`, from the blocks the point reads. -/
def nm (x0 : FVec Ideal S1024x384 .bf16) (x1 : KB) (h : Fin 6) (m : HB) : QF := newM (kzB h x1) (qzB h x0) m
@[inherit_doc nm] def na (x0 : FVec Ideal S1024x384 .bf16) (x1 x2 : KB) (h : Fin 6) (m a : HB) : HB := newA (kzB h x1) (vzB h x2) (qzB h x0) m a

theorem heads_real (Q : Fin 1024 → Fin 384 → ℝ) (K V : Fin 2048 → Fin 128 → ℝ) (M : Fin 6 → Fin 1024 → ℝ) (A : Fin 6 → Fin 1024 → Fin 128 → ℝ) :
    ∃ N : Fin 6 → Fin 1024 → ℝ, ∀ h, nm (up (s := S1024x384) (mat Q)) (up (mat K)) h (up fun i => M h (i 1)) = up (fun i => N h (i 0))
      ∧ na (up (s := S1024x384) (mat Q)) (up (mat K)) (up (mat V)) h (up fun i => M h (i 1)) (up fun i => A h (i 1) (i 2))
        = up fun i => Real.exp (M h (i 1) - N h (i 1)) * A h (i 1) (i 2) + ∑ e, Real.exp (dotq Q K h (i 1) e - N h (i 1)) * VZ h V e (i 2) := by
  have H := fun h : Fin 6 => step_real (KZ h K) (VZ h V) (qpair Q (hp h)) (A h) (M h)
  choose N hN using H
  refine ⟨N, fun h => ?_⟩
  unfold nm na
  rw [kzB_real, vzB_real, qzB_real]
  obtain ⟨h1, h2⟩ := hN h
  refine ⟨h1, h2.trans (congrArg up (funext fun i => ?_))⟩
  exact congrArg (Real.exp (M h (i 1) - N h (i 1)) * A h (i 1) (i 2) + ·)
    (Finset.sum_congr rfl fun e _ => congrArg (fun s => Real.exp (s - N h (i 1)) * VZ h V e (i 2)) (dotq_eq Q K h (i 1) e))

end Cert.AxfIdeal.Value
end
-- ==== Proof.AxfScr.lean ====
module
public import proofs.«01_k».proof.Proof.AxfHead

/-! The two scratch arrays of the attention's forward kernel: six heads' row shifts and six heads' sums, each written and
    read a head at a time, and what a point of the grid makes of them. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Cert.AxbRun (up mat)

/-! ## Reading and writing one head -/

abbrev SB := FVec Ideal S6x1024x128 .f32

/-- The places of head `h`. -/
abbrev RH (h : ℕ) (hb : ∀ a, (![h, 0, 0] : Fin 3 → ℕ) a + (![1, 1024, 128] : Fin 3 → ℕ) a ≤ S6x1024x128.size a) : Rect S6x1024x128 :=
  Rect.unit ![h, 0, 0] ![1, 1024, 128] hb
/-- All places. -/
abbrev RW (hb : ∀ a, (![0, 0, 0] : Fin 3 → ℕ) a + (![6, 1024, 128] : Fin 3 → ℕ) a ≤ S6x1024x128.size a) : Rect S6x1024x128 :=
  Rect.unit ![0, 0, 0] ![6, 1024, 128] hb

section places
variable (h : ℕ) (hb : ∀ a, (![h, 0, 0] : Fin 3 → ℕ) a + (![1, 1024, 128] : Fin 3 → ℕ) a ≤ S6x1024x128.size a) (k : Fin 6) (r : Fin 1024) (l : Fin 128)

theorem embH (z : Fin 1) (e : k.val = h) : ((RH h hb).emb (ix3 z r l) : S6x1024x128.Idx) = ix3 k r l := by
  funext a; refine Fin.ext ?_
  match a with
  | 0 => show h + 1 * z.val = k.val; omega
  | 1 => show 0 + 1 * r.val = r.val; omega
  | 2 => show 0 + 1 * l.val = l.val; omega

theorem embAll (hb) : ((RW hb).emb (ix3 k r l) : S6x1024x128.Idx) = ix3 k r l := by
  funext a; refine Fin.ext ?_
  match a with
  | 0 => show 0 + 1 * k.val = k.val; omega
  | 1 => show 0 + 1 * r.val = r.val; omega
  | 2 => show 0 + 1 * l.val = l.val; omega

theorem not_memH (e : k.val ≠ h) : (ix3 k r l : S6x1024x128.Idx) ∉ (RH h hb).set := by
  rw [Rect.mem_set_unit]
  intro q
  have q1 : h ≤ k.val ∧ k.val < h + 1 := q 0
  omega

variable (p : S1x1024x128.Idx → Elt Ideal .f32) (w : S6x1024x128.Idx → Elt Ideal .f32) (L : List (View.Piece (Elt Ideal) S6x1024x128 .f32))

theorem canon_at (e : k.val = h) : View.canon (⟨RH h hb, p⟩ :: L) (ix3 k r l : S6x1024x128.Idx) = p (ix3 0 r l) := by
  rw [← embH h hb k r l 0 e]
  exact View.canon_cons_emb _ _ _ _
theorem canon_past (e : k.val ≠ h) : View.canon (⟨RH h hb, p⟩ :: L) (ix3 k r l : S6x1024x128.Idx) = View.canon L (ix3 k r l) :=
  View.canon_cons_of_not_mem ⟨RH h hb, p⟩ L (not_memH h hb k r l e)
theorem canon_all (hb) : View.canon (⟨RW hb, w⟩ :: L) (ix3 k r l : S6x1024x128.Idx) = w (ix3 k r l) := by
  rw [← embAll k r l hb]
  refine (View.canon_cons_emb _ _ _ _).trans ?_
  rw [embAll k r l hb]

/-- One head read out of the whole. -/
def ldH (s : SB) (k : Fin 6) : HB := fun i => s (ix3 k (i 1) (i 2))

theorem ld_eq (s : S6x1024x128.Idx → Elt Ideal .f32) (e : k.val = h) : (View.ld s (RH h hb) : S1x1024x128.Idx → EReal) = ldH s k := by
  funext i
  idx_vars i
  show s ((RH h hb).emb _) = _
  rw [embH h hb k i1 i2 i0 e]
  rfl

/-- The same, of an array given by the pieces last written. -/
theorem rcov_eq (v : View sig .tc .vmem S6x1024x128 .f32) (e : k.val = h) :
    (v.readCov L (RH h hb).toLoadRect : S1x1024x128.Idx → EReal) = ldH (View.canon L : S6x1024x128.Idx → Elt Ideal .f32) k := by
  rw [View.readCov_eq_canon']
  funext i
  idx_vars i
  show View.canon L ((RH h hb).emb _) = _
  rw [embH h hb k i1 i2 i0 e]
  rfl

theorem eta3 (p : S1x1024x128.Idx → Elt Ideal .f32) : (fun i : S1x1024x128.Idx => p (ix3 0 (i 1) (i 2))) = p := by
  funext i
  idx_vars i
  obtain rfl : i0 = 0 := Subsingleton.elim _ _
  rfl

/-- The array that a list of pieces leaves. -/
abbrev cn (L : List (View.Piece (Elt Ideal) S6x1024x128 .f32)) : SB := View.canon L

theorem ldH_at (p : HB) (e : k.val = h) : ldH (cn (⟨RH h hb, p⟩ :: L)) k = p := by
  unfold ldH
  funext i
  idx_vars i
  obtain rfl : i0 = 0 := Subsingleton.elim _ _
  have q := canon_at h hb k i1 i2 p L e
  exact q
theorem ldH_past (p : HB) (e : k.val ≠ h) : ldH (cn (⟨RH h hb, p⟩ :: L)) k = ldH (cn L) k := by
  unfold ldH
  funext i
  exact canon_past h hb k (i 1) (i 2) p L e
theorem ldH_all (w : SB) (hb) : ldH (cn (⟨RW hb, w⟩ :: L)) k = ldH w k := by
  unfold ldH
  exact funext fun i => canon_all k (i 1) (i 2) w L hb
end places

/-- Six heads, one after the other. -/
def stack (p : Fin 6 → HB) : SB := fun i => p (i 0) (ix3 0 (i 1) (i 2))

theorem canon_stack (h0 h1 h2 h3 h4 h5) (p0 p1 p2 p3 p4 p5 : S1x1024x128.Idx → Elt Ideal .f32) (L : List (View.Piece (Elt Ideal) S6x1024x128 .f32)) :
    View.canon (⟨RH 5 h5, p5⟩ :: ⟨RH 4 h4, p4⟩ :: ⟨RH 3 h3, p3⟩ :: ⟨RH 2 h2, p2⟩ :: ⟨RH 1 h1, p1⟩ :: ⟨RH 0 h0, p0⟩ :: L)
      = stack ![p0, p1, p2, p3, p4, p5] := by
  change (_ : S6x1024x128.Idx → EReal) = _
  funext i
  obtain ⟨k, r, l, rfl⟩ : ∃ k r l, i = ix3 k r l := ⟨i 0, i 1, i 2, by funext a; match a with | 0 => rfl | 1 => rfl | 2 => rfl⟩
  fin_cases k
  · rw [canon_past 5 _ _ _ _ _ _ (by decide), canon_past 4 _ _ _ _ _ _ (by decide), canon_past 3 _ _ _ _ _ _ (by decide), canon_past 2 _ _ _ _ _ _ (by decide), canon_past 1 _ _ _ _ _ _ (by decide)]
    exact canon_at 0 h0 0 r l p0 L rfl
  · rw [canon_past 5 _ _ _ _ _ _ (by decide), canon_past 4 _ _ _ _ _ _ (by decide), canon_past 3 _ _ _ _ _ _ (by decide), canon_past 2 _ _ _ _ _ _ (by decide)]
    exact canon_at 1 h1 1 r l p1 _ rfl
  · rw [canon_past 5 _ _ _ _ _ _ (by decide), canon_past 4 _ _ _ _ _ _ (by decide), canon_past 3 _ _ _ _ _ _ (by decide)]
    exact canon_at 2 h2 2 r l p2 _ rfl
  · rw [canon_past 5 _ _ _ _ _ _ (by decide), canon_past 4 _ _ _ _ _ _ (by decide)]
    exact canon_at 3 h3 3 r l p3 _ rfl
  · rw [canon_past 5 _ _ _ _ _ _ (by decide)]
    exact canon_at 4 h4 4 r l p4 _ rfl
  · exact canon_at 5 h5 5 r l p5 _ rfl

/-! ## What a point makes of the scratch -/

/-- A block as a head of the scratch. -/
def up3 (x : QF) : HB := shapeCast S1x1024x128 x shapeCasts_S1024x128_S1x1024x128

/-- The shifts after a point. -/
def newS (x0 : FVec Ideal S1024x384 .bf16) (x1 : KB) (s : SB) : SB := stack fun h => up3 (nm x0 x1 h (ldH s h))
/-- The sums after a point. -/
def newT (x0 : FVec Ideal S1024x384 .bf16) (x1 x2 : KB) (s t : SB) : SB := stack fun h => na x0 x1 x2 h (ldH s h) (ldH t h)

section heads
variable (x0 : FVec Ideal S1024x384 .bf16) (x1 x2 : KB) (s t : SB)
/-- A query block's columns of the first, second and third pair of heads. -/
abbrev qc0 : S1024x128.Idx → Elt Ideal .bf16 := View.ld x0 (Rect.unit (s := S1024x384) ![0, 0] ![1024, 128] inb_S1024x384_S1024x128_0_0)
@[inherit_doc qc0] abbrev qc1 : S1024x128.Idx → Elt Ideal .bf16 := View.ld x0 (Rect.unit (s := S1024x384) ![0, 128] ![1024, 128] inb_S1024x384_S1024x128_0_128)
@[inherit_doc qc0] abbrev qc2 : S1024x128.Idx → Elt Ideal .bf16 := View.ld x0 (Rect.unit (s := S1024x384) ![0, 256] ![1024, 128] inb_S1024x384_S1024x128_0_256)

/-- The shifts, as the program writes them. -/
theorem newS_eq : stack ![k0_pay65 (F := Ideal) (k0_pay61 x1 (qc0 x0) (ldH s 0)), k0_pay70 (k0_pay68 (k0_pay47 x1) (k0_pay58 (qc0 x0)) (ldH s 1)),
      k0_pay76 (k0_pay46 x1) (qc1 x0) (ldH s 2), k0_pay82 (k0_pay78 (ldH s 3)) (k0_pay79 (k0_pay49 x1) (qc1 x0)),
      k0_pay90 (k0_pay86 (k0_pay48 x1) (qc2 x0) (ldH s 4)), k0_pay95 (k0_pay49 x1) (k0_pay83 (qc2 x0)) (ldH s 5)]
    = newS x0 x1 s := by
  unfold newS
  refine congrArg stack (funext fun h => ?_)
  fin_cases h <;> rfl

/-- The sums, as the program writes them. -/
theorem newT_eq : stack ![k0_pay64 (F := Ideal) (k0_pay54 x2) (k0_pay62 x1 (qc0 x0) (ldH s 0)) (k0_pay63 x1 (qc0 x0) (ldH s 0)) (ldH t 0),
      k0_pay69 (k0_pay47 x1) (k0_pay55 x2) (k0_pay58 (qc0 x0)) (ldH s 1) (ldH t 1), k0_pay75 (k0_pay46 x1) (k0_pay54 x2) (qc1 x0) (ldH s 2) (ldH t 2),
      k0_pay81 (k0_pay57 x2) (k0_pay77 (k0_pay49 x1) (qc1 x0)) (k0_pay78 (ldH s 3)) (k0_pay79 (k0_pay49 x1) (qc1 x0)) (ldH t 3),
      k0_pay89 (k0_pay56 x2) (k0_pay87 (k0_pay48 x1) (qc2 x0) (ldH s 4) (ldH t 4)) (k0_pay88 (k0_pay48 x1) (qc2 x0) (ldH s 4)),
      k0_pay94 (k0_pay49 x1) (k0_pay57 x2) (k0_pay83 (qc2 x0)) (ldH s 5) (ldH t 5)]
    = newT x0 x1 x2 s t := by
  unfold newT
  refine congrArg stack (funext fun h => ?_)
  fin_cases h <;> rfl
end heads

section folded
variable (x0 : FVec Ideal S1024x384 .bf16) (x1 x2 : KB) (s t : SB)
/-- A head's shifts after a point. -/
def hS (h : Fin 6) : HB := up3 (nm x0 x1 h (ldH s h))
/-- A head's sums after a point. -/
def hT (h : Fin 6) : HB := na x0 x1 x2 h (ldH s h) (ldH t h)
theorem s_0 : k0_pay65 (F := Ideal) (k0_pay61 x1 (qc0 x0) (ldH s 0)) = hS x0 x1 s 0 := rfl
theorem s_1 : k0_pay70 (F := Ideal) (k0_pay68 (k0_pay47 x1) (k0_pay58 (qc0 x0)) (ldH s 1)) = hS x0 x1 s 1 := rfl
theorem s_2 : k0_pay76 (F := Ideal) (k0_pay46 x1) (qc1 x0) (ldH s 2) = hS x0 x1 s 2 := rfl
theorem s_3 : k0_pay82 (F := Ideal) (k0_pay78 (ldH s 3)) (k0_pay79 (k0_pay49 x1) (qc1 x0)) = hS x0 x1 s 3 := rfl
theorem s_4 : k0_pay90 (F := Ideal) (k0_pay86 (k0_pay48 x1) (qc2 x0) (ldH s 4)) = hS x0 x1 s 4 := rfl
theorem s_5 : k0_pay95 (F := Ideal) (k0_pay49 x1) (k0_pay83 (qc2 x0)) (ldH s 5) = hS x0 x1 s 5 := rfl
theorem t_0 : k0_pay64 (F := Ideal) (k0_pay54 x2) (k0_pay62 x1 (qc0 x0) (ldH s 0)) (k0_pay63 x1 (qc0 x0) (ldH s 0)) (ldH t 0) = hT x0 x1 x2 s t 0 := rfl
theorem t_1 : k0_pay69 (F := Ideal) (k0_pay47 x1) (k0_pay55 x2) (k0_pay58 (qc0 x0)) (ldH s 1) (ldH t 1) = hT x0 x1 x2 s t 1 := rfl
theorem t_2 : k0_pay75 (F := Ideal) (k0_pay46 x1) (k0_pay54 x2) (qc1 x0) (ldH s 2) (ldH t 2) = hT x0 x1 x2 s t 2 := rfl
theorem t_3 : k0_pay81 (F := Ideal) (k0_pay57 x2) (k0_pay77 (k0_pay49 x1) (qc1 x0)) (k0_pay78 (ldH s 3)) (k0_pay79 (k0_pay49 x1) (qc1 x0)) (ldH t 3) = hT x0 x1 x2 s t 3 := rfl
theorem t_4 : k0_pay89 (F := Ideal) (k0_pay56 x2) (k0_pay87 (k0_pay48 x1) (qc2 x0) (ldH s 4) (ldH t 4)) (k0_pay88 (k0_pay48 x1) (qc2 x0) (ldH s 4)) = hT x0 x1 x2 s t 4 := rfl
theorem t_5 : k0_pay94 (F := Ideal) (k0_pay49 x1) (k0_pay57 x2) (k0_pay83 (qc2 x0)) (ldH s 5) (ldH t 5) = hT x0 x1 x2 s t 5 := rfl
end folded

theorem ld_0 (s : S6x1024x128.Idx → Elt Ideal .f32) (hb) : (View.ld s (RH 0 hb) : S1x1024x128.Idx → EReal) = ldH s 0 := ld_eq 0 hb 0 s rfl
theorem ld_1 (s : S6x1024x128.Idx → Elt Ideal .f32) (hb) : (View.ld s (RH 1 hb) : S1x1024x128.Idx → EReal) = ldH s 1 := ld_eq 1 hb 1 s rfl
theorem ld_2 (s : S6x1024x128.Idx → Elt Ideal .f32) (hb) : (View.ld s (RH 2 hb) : S1x1024x128.Idx → EReal) = ldH s 2 := ld_eq 2 hb 2 s rfl
theorem ld_3 (s : S6x1024x128.Idx → Elt Ideal .f32) (hb) : (View.ld s (RH 3 hb) : S1x1024x128.Idx → EReal) = ldH s 3 := ld_eq 3 hb 3 s rfl
theorem ld_4 (s : S6x1024x128.Idx → Elt Ideal .f32) (hb) : (View.ld s (RH 4 hb) : S1x1024x128.Idx → EReal) = ldH s 4 := ld_eq 4 hb 4 s rfl
theorem ld_5 (s : S6x1024x128.Idx → Elt Ideal .f32) (hb) : (View.ld s (RH 5 hb) : S1x1024x128.Idx → EReal) = ldH s 5 := ld_eq 5 hb 5 s rfl

section rcov
variable (v : View sig .tc .vmem S6x1024x128 .f32) (L : List (View.Piece (Elt Ideal) S6x1024x128 .f32))
theorem rcov_0 (hb) : (v.readCov L (RH 0 hb).toLoadRect : S1x1024x128.Idx → EReal) = ldH (cn L) 0 := rcov_eq 0 hb 0 L v rfl
theorem rcov_1 (hb) : (v.readCov L (RH 1 hb).toLoadRect : S1x1024x128.Idx → EReal) = ldH (cn L) 1 := rcov_eq 1 hb 1 L v rfl
theorem rcov_2 (hb) : (v.readCov L (RH 2 hb).toLoadRect : S1x1024x128.Idx → EReal) = ldH (cn L) 2 := rcov_eq 2 hb 2 L v rfl
theorem rcov_3 (hb) : (v.readCov L (RH 3 hb).toLoadRect : S1x1024x128.Idx → EReal) = ldH (cn L) 3 := rcov_eq 3 hb 3 L v rfl
theorem rcov_4 (hb) : (v.readCov L (RH 4 hb).toLoadRect : S1x1024x128.Idx → EReal) = ldH (cn L) 4 := rcov_eq 4 hb 4 L v rfl
theorem rcov_5 (hb) : (v.readCov L (RH 5 hb).toLoadRect : S1x1024x128.Idx → EReal) = ldH (cn L) 5 := rcov_eq 5 hb 5 L v rfl
end rcov

variable (m : (ℓ : Loc nD τ sig) → Buf (Elt Ideal) ℓ) (c : Dev nD) (n : Fin cfg0.N)

/-- The shifts and the sums after the point before. -/
abbrev oldS : SB := (outsAt0 m c (n.val - 1) (Nat.lt_of_le_of_lt (Nat.sub_le _ _) n.isLt)).2.2.2.1
@[inherit_doc oldS] abbrev oldT : SB := (outsAt0 m c (n.val - 1) (Nat.lt_of_le_of_lt (Nat.sub_le _ _) n.isLt)).2.2.2.2

theorem shift_B (h0 : ¬n.val % 8 = 0) (h1 : ¬n.val % 8 = 7) : (outsAt0 m c n n.isLt).2.2.2.1 = newS (iblk m c 0 n) (iblk m c 1 n) (oldS m c n) := by
  rw [outsAt0_B m c n h0 h1]
  frame_out
  simp only [read_unread_whole]
  rw [ld_0, ld_1, ld_2, ld_3, ld_4, ld_5]
  exact (canon_stack _ _ _ _ _ _ _ _ _ _ _ _ _).trans (newS_eq _ _ _)

theorem sum_B (h0 : ¬n.val % 8 = 0) (h1 : ¬n.val % 8 = 7) : (outsAt0 m c n n.isLt).2.2.2.2 = newT (iblk m c 0 n) (iblk m c 1 n) (iblk m c 2 n) (oldS m c n) (oldT m c n) := by
  rw [outsAt0_B m c n h0 h1]
  frame_out
  simp only [read_unread_whole]
  simp only [ld_0, ld_1, ld_2, ld_3, ld_4, ld_5]
  exact (canon_stack _ _ _ _ _ _ _ _ _ _ _ _ _).trans (newT_eq _ _ _ _ _)

theorem shift_A (h0 : n.val % 8 = 0) (h1 : ¬n.val % 8 = 7) : (outsAt0 m c n n.isLt).2.2.2.1 = newS (iblk m c 0 n) (iblk m c 1 n) (k0_pay40 (F := Ideal)) := by
  rw [outsAt0_A m c n h0 h1]
  frame_out
  simp only [rcov_0, rcov_1, rcov_2, rcov_3, rcov_4, rcov_5]
  simp (disch := decide) only [ldH_past, ldH_all]
  exact (canon_stack _ _ _ _ _ _ _ _ _ _ _ _ _).trans (newS_eq _ _ _)

theorem sum_A (h0 : n.val % 8 = 0) (h1 : ¬n.val % 8 = 7) : (outsAt0 m c n n.isLt).2.2.2.2
    = newT (iblk m c 0 n) (iblk m c 1 n) (iblk m c 2 n) (k0_pay40 (F := Ideal)) (k0_pay41 (F := Ideal)) := by
  rw [outsAt0_A m c n h0 h1]
  frame_out
  simp only [rcov_0, rcov_1, rcov_2, rcov_3, rcov_4, rcov_5]
  simp (disch := decide) only [ldH_past, ldH_all]
  exact (canon_stack _ _ _ _ _ _ _ _ _ _ _ _ _).trans (newT_eq _ _ _ _ _)

end Cert.AxfIdeal.Value
end
-- ==== Proof.AxfFin.lean ====
module
public import proofs.«01_k».proof.Proof.AxfScr
public import proofs.«01_k».proof.Proof.GroupSpec

/-! What the attention's forward kernel writes at the last block of keys: the output as the carried sums divided by the
    normaliser that stands in the other half of their lanes, its norm over the 384 columns, and the rows' statistics. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Cert.AxbRun (up mat mask)
open Cert.GroupSpec (rms rsqrt_ms)

/-! ## The stages -/

/-- A pair of heads' output, from the two heads' sums. -/
def oB (a b : HB) : QF := k0_pay13 (F := Ideal) a b
/-- The sum of the squares of each row. -/
def qB (o : QF) : FVec Ideal S1024x1 .f32 :=
  shapeCast S1024x1 (multiReduction .add [1] S1024 (mulf o o) 0x00000000#32 reduces_S1024x128_S1024 (.inl rfl) rfl) shapeCasts_S1024_S1024x1
/-- The factor of each row's norm over the three pairs of heads. -/
def rB (o0 o1 o2 : QF) : FVec Ideal S1024x1 .f32 :=
  rsqrt (addf (mulf (addf (addf (addf (k0_pay6 (F := Ideal)) (qB o0)) (qB o1)) (qB o2)) (broadcast S1024x1 (Named.named κ "inv_width" 0x3B2AAAAB#32 : Ideal .f32)))
    (broadcast S1024x1 (Scalar.ofBits (F := Ideal) .f32 0x358637BD#32)))
/-- A pair's normed output with its gains. -/
def nB (o : QF) (r : FVec Ideal S1024x1 .f32) (g : FVec Ideal S1x128 .f32) : QB := k0_pay4 (F := Ideal) r (up3 o) g
/-- A pair's output as it is stored. -/
def yB (o : QF) : QB := k0_pay3 (F := Ideal) (up3 o)
/-- The row statistics of an even head and of an odd one. -/
def lB0 (a s : HB) : FVec Ideal S1x1x1024 .f32 := k0_pay11 (F := Ideal) a s
@[inherit_doc lB0] def lB1 (a s : HB) : FVec Ideal S1x1x1024 .f32 := k0_pay12 (F := Ideal) a s

/-! ## The stages at real numbers -/

/-- The lane half a block away. -/
def rl (l : Fin 128) : Fin 128 := ⟨(l.val + 128 - 64) % 128, Nat.mod_lt _ (by decide)⟩

section real
variable (A B : Fin 1024 → Fin 128 → ℝ) (N : Fin 1024 → ℝ) (hA : ∀ r (l : Fin 128), ¬l.val < 64 → 0 < A r l) (hB : ∀ r (l : Fin 128), l.val < 64 → 0 < B r l)

include hA hB in
theorem oB_real : oB (up fun i => A (i 1) (i 2)) (up fun i => B (i 1) (i 2))
    = up (mat fun r l => if l.val < 64 then A r l / A r (rl l) else B r l / B r (rl l)) := by
  change (_ : S1024x128.Idx → EReal) = _
  funext i
  idx_vars i
  pointwise [oB, k0_pay13, k0_pay5, k0_pay7, k0_pay8, k0_pay9, k0_pay10]
  rw [mask]
  by_cases h : i1.val < 64
  · rw [if_pos h]
    refine (div_real _ (hA i0 (rl i1) (by show ¬(i1.val + 128 - 64) % 128 < 64; omega)).ne').trans ?_
    exact congrArg (fun r : ℝ => (r : EReal)) (if_pos h).symm
  · rw [if_neg h]
    refine (div_real _ (hB i0 (rl i1) (by show (i1.val + 128 - 64) % 128 < 64; omega)).ne').trans ?_
    exact congrArg (fun r : ℝ => (r : EReal)) (if_neg h).symm

include hA in
theorem lB0_real : lB0 (up fun i => A (i 1) (i 2)) (up fun i => N (i 1)) = up (s := S1x1x1024) fun i => N (i 2) + Real.log (A (i 2) 64) := by
  change (_ : S1x1x1024.Idx → EReal) = _
  funext i
  idx_vars i
  pointwise [lB0, k0_pay11, k0_pay5, k0_pay7, k0_pay9]
  exact congrArg (fun x : EReal => ((N i2 : ℝ) : EReal) + x) (Cert.AxbRun.log_real (hA i2 64 (by decide)))

include hB in
theorem lB1_real : lB1 (up fun i => B (i 1) (i 2)) (up fun i => N (i 1)) = up (s := S1x1x1024) fun i => N (i 2) + Real.log (B (i 2) 0) := by
  change (_ : S1x1x1024.Idx → EReal) = _
  funext i
  idx_vars i
  pointwise [lB1, k0_pay12, k0_pay5, k0_pay8, k0_pay10]
  exact congrArg (fun x : EReal => ((N i2 : ℝ) : EReal) + x) (Cert.AxbRun.log_real (hB i2 0 (by decide)))

theorem qB_real : qB (up (mat A)) = up (s := S1024x1) fun i => ∑ l, A (i 0) l * A (i 0) l := by
  change (_ : S1024x1.Idx → EReal) = _
  funext i
  idx_vars i
  unfold qB
  pointwise
  simp only [up, ← EReal.coe_mul, sum_coe]
  rfl

theorem yB_eq (o : QF) : (yB o : S1024x128.Idx → EReal) = o := by
  funext i
  idx_vars i
  pointwise [yB, k0_pay3, k0_pay2, up3]

theorem nB_real (g : FVec Ideal S1x128 .f32) : (nB (up (mat A)) (up fun i => N (i 0)) g : S1024x128.Idx → EReal)
    = fun i => ((A (i 0) (i 1) * N (i 0) : ℝ) : EReal) * g (ix2 0 (i 1)) := by
  funext i
  idx_vars i
  unfold nB k0_pay4
  rw [shapeCast_self]
  pointwise [k0_pay2, up3]
  rfl
end real

/-- A sum over 384 columns, pair of heads by pair of heads. -/
theorem sum_384 (f : Fin 384 → ℝ) : ∑ c, f c
    = (∑ l : Fin 128, f ⟨l.val + 128 * 0, by omega⟩) + (∑ l : Fin 128, f ⟨l.val + 128 * 1, by omega⟩) + ∑ l : Fin 128, f ⟨l.val + 128 * 2, by omega⟩ := by
  refine ((Equiv.sum_comp (finProdFinEquiv : Fin 3 × Fin 128 ≃ Fin (3 * 128)) f).symm.trans (Fintype.sum_prod_type _)).trans ?_
  rw [Fin.sum_univ_three]
  rfl

theorem rB_real (O : Fin 1024 → Fin 384 → ℝ) : rB (up (mat (qpair O 0))) (up (mat (qpair O 1))) (up (mat (qpair O 2)))
    = up (s := S1024x1) fun i => rms 384 (O (i 0)) := by
  unfold rB
  rw [qB_real, qB_real, qB_real]
  change (_ : S1024x1.Idx → EReal) = _
  funext i
  idx_vars i
  pointwise [k0_pay6]
  have hk : ((Named.named κ "inv_width" 0x3B2AAAAB#32 : Ideal .f32) : EReal) = ((1 / 384 : ℝ) : EReal) := IdealRules.named_const.ideal_named_scalar _ _ _ _ rfl
  rw [hk]
  simp only [up, ofBits_zero, zero_add, ofBits_eps.1, ← EReal.coe_mul, ← EReal.coe_add]
  refine Eq.trans ?_ (rsqrt_ms (c := 384) (O i0) (by norm_num))
  refine congrArg (fun r : ℝ => Ideal.rsqrt (r : EReal)) (congrArg (· + eps) ?_)
  rw [sum_384]
  exact (div_eq_mul_one_div _ _).symm

/-! ## The places of the pieces -/

/-- 128 columns of an output block, from column `b` on. -/
abbrev RC (b : ℕ) (hb : ∀ a, (![0, b] : Fin 2 → ℕ) a + (![1024, 128] : Fin 2 → ℕ) a ≤ S1024x384.size a) : Rect S1024x384 := Rect.unit ![0, b] ![1024, 128] hb
/-- A head's row of the statistics' block. -/
abbrev RR (h : ℕ) (hb : ∀ a, (![h, 0, 0] : Fin 3 → ℕ) a + (![1, 1, 1024] : Fin 3 → ℕ) a ≤ S6x1x1024.size a) : Rect S6x1x1024 := Rect.unit ![h, 0, 0] ![1, 1, 1024] hb

section cols
variable (b : ℕ) (hb : ∀ a, (![0, b] : Fin 2 → ℕ) a + (![1024, 128] : Fin 2 → ℕ) a ≤ S1024x384.size a) (r : Fin 1024) (j : Fin 384)
  (p : S1024x128.Idx → Elt Ideal .bf16) (L : List (View.Piece (Elt Ideal) S1024x384 .bf16))

theorem colC_at (l : Fin 128) (e : j.val = l.val + b) : View.canon (⟨RC b hb, p⟩ :: L) (ix2 r j : S1024x384.Idx) = p (ix2 r l) := by
  have h : ((RC b hb).emb (ix2 r l) : S1024x384.Idx) = ix2 r j := by
    funext a; refine Fin.ext ?_
    match a with
    | 0 => show 0 + 1 * r.val = r.val; omega
    | 1 => show b + 1 * l.val = j.val; omega
  rw [← h]
  exact View.canon_cons_emb _ _ _ _
theorem colC_past (e : j.val < b) : View.canon (⟨RC b hb, p⟩ :: L) (ix2 r j : S1024x384.Idx) = View.canon L (ix2 r j) := by
  refine View.canon_cons_of_not_mem ⟨RC b hb, p⟩ L ?_
  rw [Rect.mem_set_unit]
  intro q
  have q1 : b ≤ j.val ∧ j.val < b + 128 := q 1
  omega
end cols

/-- An output block written pair of heads by pair of heads. -/
theorem canon_cols (h0 h1 h2) (p0 p1 p2 : S1024x128.Idx → Elt Ideal .bf16) (r : Fin 1024) (p : Fin 3) (l : Fin 128) :
    View.canon [⟨RC 256 h2, p2⟩, ⟨RC 128 h1, p1⟩, ⟨RC 0 h0, p0⟩] (ix2 r ⟨l.val + 128 * p.val, by omega⟩ : S1024x384.Idx)
      = (![p0, p1, p2] : Fin 3 → S1024x128.Idx → Elt Ideal .bf16) p (ix2 r l) := by
  fin_cases p
  · rw [colC_past 256 _ _ _ _ _ (by show l.val + 128 * 0 < 256; omega), colC_past 128 _ _ _ _ _ (by show l.val + 128 * 0 < 128; omega)]
    exact colC_at 0 h0 r _ p0 _ l rfl
  · rw [colC_past 256 _ _ _ _ _ (by show l.val + 128 * 1 < 256; omega)]
    exact colC_at 128 h1 r _ p1 _ l rfl
  · exact colC_at 256 h2 r _ p2 _ l rfl

section rows
variable (h : ℕ) (hb : ∀ a, (![h, 0, 0] : Fin 3 → ℕ) a + (![1, 1, 1024] : Fin 3 → ℕ) a ≤ S6x1x1024.size a) (k : Fin 6) (z : Fin 1) (r : Fin 1024)
  (p : S1x1x1024.Idx → Elt Ideal .f32) (L : List (View.Piece (Elt Ideal) S6x1x1024 .f32))

theorem rowR_at (e : k.val = h) : View.canon (⟨RR h hb, p⟩ :: L) (ix3 k z r : S6x1x1024.Idx) = p (ix3 0 z r) := by
  have h : ((RR h hb).emb (ix3 0 z r) : S6x1x1024.Idx) = ix3 k z r := by
    funext a; refine Fin.ext ?_
    match a with
    | 0 => show h + 1 * 0 = k.val; omega
    | 1 => show 0 + 1 * z.val = z.val; omega
    | 2 => show 0 + 1 * r.val = r.val; omega
  rw [← h]
  exact View.canon_cons_emb _ _ _ _
theorem rowR_past (e : k.val ≠ h) : View.canon (⟨RR h hb, p⟩ :: L) (ix3 k z r : S6x1x1024.Idx) = View.canon L (ix3 k z r) := by
  refine View.canon_cons_of_not_mem ⟨RR h hb, p⟩ L ?_
  rw [Rect.mem_set_unit]
  intro q
  have q1 : h ≤ k.val ∧ k.val < h + 1 := q 0
  omega
end rows

/-- The statistics' block written head by head. -/
theorem canon_rows (h0 h1 h2 h3 h4 h5) (p0 p1 p2 p3 p4 p5 : S1x1x1024.Idx → Elt Ideal .f32) (k : Fin 6) (z : Fin 1) (r : Fin 1024) :
    View.canon [⟨RR 5 h5, p5⟩, ⟨RR 4 h4, p4⟩, ⟨RR 3 h3, p3⟩, ⟨RR 2 h2, p2⟩, ⟨RR 1 h1, p1⟩, ⟨RR 0 h0, p0⟩] (ix3 k z r : S6x1x1024.Idx)
      = (![p0, p1, p2, p3, p4, p5] : Fin 6 → S1x1x1024.Idx → Elt Ideal .f32) k (ix3 0 z r) := by
  fin_cases k
  · rw [rowR_past 5 _ _ _ _ _ _ (by decide), rowR_past 4 _ _ _ _ _ _ (by decide), rowR_past 3 _ _ _ _ _ _ (by decide), rowR_past 2 _ _ _ _ _ _ (by decide), rowR_past 1 _ _ _ _ _ _ (by decide)]
    exact rowR_at 0 h0 0 z r p0 _ rfl
  · rw [rowR_past 5 _ _ _ _ _ _ (by decide), rowR_past 4 _ _ _ _ _ _ (by decide), rowR_past 3 _ _ _ _ _ _ (by decide), rowR_past 2 _ _ _ _ _ _ (by decide)]
    exact rowR_at 1 h1 1 z r p1 _ rfl
  · rw [rowR_past 5 _ _ _ _ _ _ (by decide), rowR_past 4 _ _ _ _ _ _ (by decide), rowR_past 3 _ _ _ _ _ _ (by decide)]
    exact rowR_at 2 h2 2 z r p2 _ rfl
  · rw [rowR_past 5 _ _ _ _ _ _ (by decide), rowR_past 4 _ _ _ _ _ _ (by decide)]
    exact rowR_at 3 h3 3 z r p3 _ rfl
  · rw [rowR_past 5 _ _ _ _ _ _ (by decide)]
    exact rowR_at 4 h4 4 z r p4 _ rfl
  · exact rowR_at 5 h5 5 z r p5 _ rfl

end Cert.AxfIdeal.Value
end
-- ==== Proof.AxfOut.lean ====
module
public import proofs.«01_k».proof.Proof.AxfFin

/-! What the last block of keys leaves in the three output windows, in terms of the heads' new shifts and sums. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
variable (m : (ℓ : Loc nD τ sig) → Buf (Elt Ideal) ℓ) (c : Dev nD) (n : Fin cfg0.N)

/-- The heads' shifts and sums after the point. -/
abbrev SS (h : Fin 6) : HB := hS (iblk m c 0 n) (iblk m c 1 n) (oldS m c n) h
@[inherit_doc SS] abbrev TT (h : Fin 6) : HB := hT (iblk m c 0 n) (iblk m c 1 n) (iblk m c 2 n) (oldS m c n) (oldT m c n) h
/-- The three pairs' outputs. -/
abbrev OO (p : Fin 3) : QF := oB (TT m c n ⟨2 * p.val, by omega⟩) (TT m c n ⟨2 * p.val + 1, by omega⟩)
/-- The factor of each row's norm. -/
abbrev RN : FVec Ideal S1024x1 .f32 := rB (OO m c n 0) (OO m c n 1) (OO m c n 2)
/-- 128 columns of the gains, from column `b` on. -/
abbrev gB (b : ℕ) (hb : ∀ a, (![0, b] : Fin 2 → ℕ) a + (![1, 128] : Fin 2 → ℕ) a ≤ S1x384.size a) : FVec Ideal S1x128 .f32 :=
  (View.ld (Val := Elt Ideal) (e' := .f32) (iblk m c 3 n) (Rect.unit (s := S1x384) ![0, b] ![1, 128] hb) : S1x128.Idx → EReal)

theorem out4_C (h0 : ¬n.val % 8 = 0) (h1 : n.val % 8 = 7) : (outsAt0 m c n n.isLt).1
    = View.canon [⟨RC 256 inb_S1024x384_S1024x128_0_256, yB (OO m c n 2)⟩, ⟨RC 128 inb_S1024x384_S1024x128_0_128, yB (OO m c n 1)⟩,
        ⟨RC 0 inb_S1024x384_S1024x128_0_0, yB (OO m c n 0)⟩] := by
  rw [outsAt0_C m c n h0 h1]
  frame_out
  simp only [read_unread_whole]
  simp only [ld_0, ld_1, ld_2, ld_3, ld_4, ld_5, rcov_0, rcov_1, rcov_2, rcov_3, rcov_4, rcov_5]
  simp (disch := decide) only [ldH_past, ldH_all, ldH_at]
  simp only [s_0, s_1, s_2, s_3, s_4, s_5, t_0, t_1, t_2, t_3, t_4, t_5]
  rfl

theorem out5_C (h0 : ¬n.val % 8 = 0) (h1 : n.val % 8 = 7) : (outsAt0 m c n n.isLt).2.1
    = View.canon [⟨RC 256 inb_S1024x384_S1024x128_0_256, nB (OO m c n 2) (RN m c n) (gB m c n 256 inb_S1x384_S1x128_0_256)⟩,
        ⟨RC 128 inb_S1024x384_S1024x128_0_128, nB (OO m c n 1) (RN m c n) (gB m c n 128 inb_S1x384_S1x128_0_128)⟩,
        ⟨RC 0 inb_S1024x384_S1024x128_0_0, nB (OO m c n 0) (RN m c n) (gB m c n 0 inb_S1x384_S1x128_0_0)⟩] := by
  rw [outsAt0_C m c n h0 h1]
  frame_out
  simp only [read_unread_whole]
  simp only [ld_0, ld_1, ld_2, ld_3, ld_4, ld_5, rcov_0, rcov_1, rcov_2, rcov_3, rcov_4, rcov_5]
  simp (disch := decide) only [ldH_past, ldH_all, ldH_at]
  simp only [s_0, s_1, s_2, s_3, s_4, s_5, t_0, t_1, t_2, t_3, t_4, t_5]
  rfl

theorem out6_C (h0 : ¬n.val % 8 = 0) (h1 : n.val % 8 = 7) : (outsAt0 m c n n.isLt).2.2.1
    = View.canon [⟨RR 5 inb_S6x1x1024_S1x1x1024_5_0_0, lB1 (TT m c n 5) (SS m c n 5)⟩, ⟨RR 4 inb_S6x1x1024_S1x1x1024_4_0_0, lB0 (TT m c n 4) (SS m c n 4)⟩,
        ⟨RR 3 inb_S6x1x1024_S1x1x1024_3_0_0, lB1 (TT m c n 3) (SS m c n 3)⟩, ⟨RR 2 inb_S6x1x1024_S1x1x1024_2_0_0, lB0 (TT m c n 2) (SS m c n 2)⟩,
        ⟨RR 1 inb_S6x1x1024_S1x1x1024_1_0_0, lB1 (TT m c n 1) (SS m c n 1)⟩, ⟨RR 0 inb_S6x1x1024_S1x1x1024_0_0_0, lB0 (TT m c n 0) (SS m c n 0)⟩] := by
  rw [outsAt0_C m c n h0 h1]
  frame_out
  simp only [read_unread_whole]
  simp only [ld_0, ld_1, ld_2, ld_3, ld_4, ld_5, rcov_0, rcov_1, rcov_2, rcov_3, rcov_4, rcov_5]
  simp (disch := decide) only [ldH_past, ldH_all, ldH_at]
  simp only [s_0, s_1, s_2, s_3, s_4, s_5, t_0, t_1, t_2, t_3, t_4, t_5]
  rfl

end Cert.AxfIdeal.Value
end
-- ==== Proof.AxfSum.lean ====
module
public import proofs.«01_k».proof.Proof.AxfOut
public import proofs.«01_k».proof.Proof.AxfRef

/-! The sums the attention's forward kernel carries from block to block of keys, and what they are after the last one: a
    head's weighted values and its normaliser, both at the head's last shift, so that their quotient is the attention. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Cert.AxbRun (up mat hg hr)
open Cert.AxbRef (rw2)
open Cert.AxfRef (ao)
open AxbSpec

/-- A row of the query block `i`, and a row of the key block `j`, as rows of the whole arrays. -/
def rown (i : ℕ) (r : Fin 1024) : Fin 16384 := ⟨(i * 1024 + r.val) % 16384, Nat.mod_lt _ (by decide)⟩
@[inherit_doc rown] def key (j : ℕ) (e : Fin 2048) : Fin 16384 := ⟨(j * 2048 + e.val) % 16384, Nat.mod_lt _ (by decide)⟩

section sums
variable (q : S16384x384.Idx → ℝ) (k v : S16384x128.Idx → ℝ)

/-- The scaled queries of a block, and the rows of a block of keys or values. -/
def Qb (i : ℕ) : Fin 1024 → Fin 384 → ℝ := fun r d => q (ix2 (rown i r) d) * (1 / 8)
@[inherit_doc Qb] def Kb (j : ℕ) : Fin 2048 → Fin 128 → ℝ := fun e d => k (ix2 (key j e) d)

/-- What key block `j` adds to the sums of a row, at the shift `M`. -/
def part (i j : ℕ) (M : ℝ) (h : Fin 6) (r : Fin 1024) (l : Fin 128) : ℝ :=
  ∑ e, Real.exp (dotq (Qb q i) (Kb k j) h r e - M) * VZ h (Kb v j) e l

theorem part_shift (i j : ℕ) (M N : ℝ) (h : Fin 6) (r : Fin 1024) (l : Fin 128) : Real.exp (M - N) * part q k v i j M h r l = part q k v i j N h r l := by
  unfold part
  rw [Finset.mul_sum]
  refine Finset.sum_congr rfl fun e _ => ?_
  rw [← mul_assoc, ← Real.exp_add]
  exact congrArg (fun s => Real.exp s * _) (by ring)

/-- The sums over the first blocks, moved to a new shift, with one more block. -/
theorem part_next (i b : ℕ) (M N : ℝ) (h : Fin 6) (r : Fin 1024) (l : Fin 128) :
    Real.exp (M - N) * (∑ j ∈ Finset.range b, part q k v i j M h r l) + part q k v i b N h r l = ∑ j ∈ Finset.range (b + 1), part q k v i j N h r l := by
  rw [Finset.sum_range_succ, Finset.mul_sum]
  exact congrArg (· + _) (Finset.sum_congr rfl fun j _ => part_shift q k v i j M N h r l)

/-- The lanes of a value row that head `h` multiplies by. -/
def wv (h : Fin 6) (x : Fin 128 → ℝ) (l : Fin 128) : ℝ := VZ h (fun _ => x) 0 l

theorem VZ_row (h : Fin 6) (V : Fin 2048 → Fin 128 → ℝ) (e : Fin 2048) (l : Fin 128) : VZ h V e l = wv h (V e) l := by
  fin_cases h <;> rfl

/-- In a head's own half the lane is a value of its group, in the other it is 1. -/
theorem wv_own (h : Fin 6) (x : Fin 128 → ℝ) (l : Fin 128) (e : l.val < 64 ↔ h.val % 2 = 0) : wv h x l = x (gc (hg h) ⟨l.val % 64, Nat.mod_lt _ (by decide)⟩) := by
  have c64 : ∀ a b : Fin 128, a.val = b.val → x a = x b := fun a b h => congrArg x (Fin.ext h)
  fin_cases h
  · have hl : l.val < 64 := e.2 rfl
    exact (if_pos hl).trans (c64 _ _ (by show l.val = 0 * 64 + l.val % 64; omega))
  · have hl : ¬l.val < 64 := fun q => absurd (e.1 q) (by decide)
    exact (dif_neg hl).trans (c64 _ _ (by show l.val - 64 = 0 * 64 + l.val % 64; omega))
  · have hl : l.val < 64 := e.2 rfl
    exact (if_pos hl).trans (c64 _ _ (by show l.val = 0 * 64 + l.val % 64; omega))
  · have hl : ¬l.val < 64 := fun q => absurd (e.1 q) (by decide)
    exact (if_neg hl).trans (c64 _ _ (by show l.val = 1 * 64 + l.val % 64; omega))
  · have hl : l.val < 64 := e.2 rfl
    exact (dif_pos hl).trans (c64 _ _ (by show l.val + 64 = 1 * 64 + l.val % 64; omega))
  · have hl : ¬l.val < 64 := fun q => absurd (e.1 q) (by decide)
    exact (if_neg hl).trans (c64 _ _ (by show l.val = 1 * 64 + l.val % 64; omega))

theorem wv_one (h : Fin 6) (x : Fin 128 → ℝ) (l : Fin 128) (e : ¬(l.val < 64 ↔ h.val % 2 = 0)) : wv h x l = 1 := by
  fin_cases h
  · exact if_neg fun q => e ⟨fun _ => rfl, fun _ => q⟩
  · exact dif_pos (by by_contra q; exact e ⟨fun a => absurd a q, fun a => absurd a (by decide)⟩)
  · exact if_neg fun q => e ⟨fun _ => rfl, fun _ => q⟩
  · exact if_pos (by by_contra q; exact e ⟨fun a => absurd a q, fun a => absurd a (by decide)⟩)
  · exact dif_neg fun q => e ⟨fun _ => rfl, fun _ => q⟩
  · exact if_pos (by by_contra q; exact e ⟨fun a => absurd a q, fun a => absurd a (by decide)⟩)

/-- The kernel's score is the attention's. -/
theorem dotq_sc (i j : ℕ) (h : Fin 6) (r : Fin 1024) (e : Fin 2048) :
    dotq (Qb q i) (Kb k j) h r e = sc (rw2 q) (rw2 k) (hg h) (hr h) (rown i r) (key j e) := by
  unfold dotq sc
  rw [Finset.sum_mul]
  exact Finset.sum_congr rfl fun d _ => (mul_assoc _ _ _).symm

/-- A row's sums over all the keys, at the shift `N`. -/
def tot (i : ℕ) (N : ℝ) (h : Fin 6) (r : Fin 1024) (l : Fin 128) : ℝ :=
  ∑ a, Real.exp (sc (rw2 q) (rw2 k) (hg h) (hr h) (rown i r) a - N) * wv h (rw2 v a) l

theorem part_all (i : ℕ) (N : ℝ) (h : Fin 6) (r : Fin 1024) (l : Fin 128) : ∑ j ∈ Finset.range 8, part q k v i j N h r l = tot q k v i N h r l := by
  rw [Finset.sum_range]
  unfold part tot
  refine Fin.sum_mul_add_congr fun j e hl => ?_
  have hk : key j.val e = (⟨j.val * 2048 + e.val, hl⟩ : Fin 16384) := Fin.ext (Nat.mod_eq_of_lt hl)
  rw [dotq_sc, VZ_row, hk]
  unfold Kb
  rw [hk]

theorem tot_one (i : ℕ) (N : ℝ) (h : Fin 6) (r : Fin 1024) (l : Fin 128) (e : ¬(l.val < 64 ↔ h.val % 2 = 0)) :
    tot q k v i N h r l = ∑ a, Real.exp (sc (rw2 q) (rw2 k) (hg h) (hr h) (rown i r) a - N) :=
  Finset.sum_congr rfl fun a _ => by rw [wv_one h _ l e, mul_one]

theorem tot_pos (i : ℕ) (N : ℝ) (h : Fin 6) (r : Fin 1024) (l : Fin 128) (e : ¬(l.val < 64 ↔ h.val % 2 = 0)) : 0 < tot q k v i N h r l := by
  rw [tot_one q k v i N h r l e]; exact shift_pos _ _ _ _ _ _

/-- The quotient of a head's two halves is its output. -/
theorem tot_div (i : ℕ) (N : ℝ) (h : Fin 6) (r : Fin 1024) (l : Fin 128) (e : l.val < 64 ↔ h.val % 2 = 0) (c : Fin 384) (hc : c.val = h.val * 64 + l.val % 64) :
    tot q k v i N h r l / tot q k v i N h r (rl l) = ao (rw2 q) (rw2 k) (rw2 v) (rown i r) c := by
  have e' : ¬((rl l).val < 64 ↔ h.val % 2 = 0) := by
    have : (rl l).val = (l.val + 128 - 64) % 128 := rfl
    by_cases hl : l.val < 64
    · rw [← e]; omega
    · rw [← e]; omega
  rw [tot_one q k v i N h r _ e']
  unfold tot ao
  rw [Finset.sum_div]
  have hG : qg c = hg h := Fin.ext (by show c.val / 192 = h.val / 3; omega)
  have hR : qr c = hr h := Fin.ext (by show c.val / 64 % 3 = h.val % 3; omega)
  have hD : qd c = ⟨l.val % 64, Nat.mod_lt _ (by decide)⟩ := Fin.ext (by show c.val % 64 = l.val % 64; omega)
  rw [hG, hR, hD]
  refine Finset.sum_congr rfl fun a _ => ?_
  rw [wv_own h _ l e, mul_div_right_comm, pr_shift]

/-- The shift and the logarithm of the sum at it make the logarithm of the normaliser. -/
theorem tot_log (i : ℕ) (N : ℝ) (h : Fin 6) (r : Fin 1024) (l : Fin 128) (e : ¬(l.val < 64 ↔ h.val % 2 = 0)) :
    N + Real.log (tot q k v i N h r l) = Real.log (den (rw2 q) (rw2 k) (hg h) (hr h) (rown i r)) := by
  rw [tot_one q k v i N h r l e]
  have hs : ∑ a, Real.exp (sc (rw2 q) (rw2 k) (hg h) (hr h) (rown i r) a - N) = den (rw2 q) (rw2 k) (hg h) (hr h) (rown i r) / Real.exp N := by
    simp only [Real.exp_sub, ← Finset.sum_div]; rfl
  rw [hs, Real.log_div (den_pos _ _ _ _ _).ne' (Real.exp_pos N).ne', Real.log_exp]
  ring

/-! ## The last point's outputs -/

variable (i : ℕ) (N : Fin 6 → Fin 1024 → ℝ)

/-- A head's sums after the last block. -/
abbrev tots (h : Fin 6) : HB := up fun y => tot q k v i (N h (y 1)) h (y 1) (y 2)

theorem oB_tot (p : Fin 3) (a b : Fin 6) (ha : a.val = 2 * p.val) (hb : b.val = 2 * p.val + 1) :
    oB (tots q k v i N a) (tots q k v i N b) = up (mat (qpair (fun r c => ao (rw2 q) (rw2 k) (rw2 v) (rown i r) c) p)) := by
  refine (oB_real (fun r l => tot q k v i (N a r) a r l) (fun r l => tot q k v i (N b r) b r l)
    (fun r l h => tot_pos q k v i _ _ _ _ (by omega)) (fun r l h => tot_pos q k v i _ _ _ _ (by omega))).trans ?_
  refine congrArg up (funext fun y => ?_)
  obtain ⟨r, l, rfl⟩ : ∃ r l, y = ix2 r l := ⟨y 0, y 1, by funext a; match a with | 0 => rfl | 1 => rfl⟩
  show (if l.val < 64 then _ else _) = _
  by_cases h : l.val < 64
  · rw [if_pos h]
    exact tot_div q k v i (N a r) a r l (by omega) ⟨l.val + 128 * p.val, by omega⟩ (by show l.val + 128 * p.val = _; omega)
  · rw [if_neg h]
    exact tot_div q k v i (N b r) b r l (by omega) ⟨l.val + 128 * p.val, by omega⟩ (by show l.val + 128 * p.val = _; omega)

/-- The rows' statistics of an even head and of an odd one. -/
theorem lB0_tot (h : Fin 6) (e : h.val % 2 = 0) : lB0 (tots q k v i N h) (up fun y => N h (y 1))
    = up (s := S1x1x1024) fun y => Real.log (den (rw2 q) (rw2 k) (hg h) (hr h) (rown i (y 2))) := by
  refine (lB0_real (fun r l => tot q k v i (N h r) h r l) (N h) fun r l hl => tot_pos q k v i _ _ _ _ (by omega)).trans ?_
  exact congrArg up (funext fun y => tot_log q k v i (N h (y 2)) h (y 2) 64 (by show ¬(64 < 64 ↔ h.val % 2 = 0); omega))
theorem lB1_tot (h : Fin 6) (e : h.val % 2 = 1) : lB1 (tots q k v i N h) (up fun y => N h (y 1))
    = up (s := S1x1x1024) fun y => Real.log (den (rw2 q) (rw2 k) (hg h) (hr h) (rown i (y 2))) := by
  refine (lB1_real (fun r l => tot q k v i (N h r) h r l) (N h) fun r l hl => tot_pos q k v i _ _ _ _ (by omega)).trans ?_
  exact congrArg up (funext fun y => tot_log q k v i (N h (y 2)) h (y 2) 0 (by show ¬(0 < 64 ↔ h.val % 2 = 0); omega))
end sums

end Cert.AxfIdeal.Value
end
-- ==== Proof.AxfKer.lean ====
module
public import proofs.«01_k».proof.Proof.AxfSum
public import Idealize.ShloMosaic.Lib.StableHlo.RunRead

/-! The attention's forward kernel on finite inputs: its blocks, what it carries along a row of the grid, and the three
    arrays it leaves. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Idealize.ShloMosaic.StableHlo
open Cert.AxbRun (up mat hg hr)
open Cert.AxbRef (rw2)
open Cert.AxfRef (ao outY outN outL)
open Cert.GroupSpec (rms)
open AxbSpec

variable (m : (ℓ : Loc nD τ sig) → Buf (Elt Ideal) ℓ) (c : Dev nD)

/-- The queries, the keys and the values are finite. -/
structure Inputs where
  q : S16384x384.Idx → ℝ
  k : S16384x128.Idx → ℝ
  v : S16384x128.Idx → ℝ
  hq : m ((c.tc : Thread nD τ).loc main_arg0) = up (s := S16384x384) q
  hk : m ((c.tc : Thread nD τ).loc main_arg1) = up (s := S16384x128) k
  hv : m ((c.tc : Thread nD τ).loc main_arg2) = up (s := S16384x128) v

/-- The gains. -/
abbrev G : S384.Idx → EReal := (m ((c.tc : Thread nD τ).loc main_arg3) : S384.Idx → EReal)

/-! ## The blocks -/

theorem idx : ∀ t : Fin cfg0.N, win0_0.index t = ![t.val / 8, 0] ∧ win0_1.index t = ![t.val % 8, 0] ∧ win0_2.index t = ![t.val % 8, 15]
    ∧ win0_3.index t = ![0, 0] ∧ win0_4.index t = ![t.val / 8, 0] ∧ win0_5.index t = ![t.val / 8, 0] ∧ win0_6.index t = ![0, 0, t.val / 8] :=
  (by decide +kernel : ∀ t : Fin grid0.N, _)

theorem rown_val (n : Fin cfg0.N) (r : Fin 1024) : (rown (n.val / 8) r).val = n.val / 8 * 1024 + r.val := by
  have := lt_of_lt_of_eq n.isLt N_0
  exact Nat.mod_eq_of_lt (by omega)
theorem key_val (n : Fin cfg0.N) (e : Fin 2048) : (key (n.val % 8) e).val = n.val % 8 * 2048 + e.val :=
  Nat.mod_eq_of_lt (by omega)

theorem emb0 (n : Fin cfg0.N) (r : Fin 1024) (d : Fin 384) : (win0_0.blk n).view.emb (ix2 r d) = ix2 (rown (n.val / 8) r) d := by
  have e := rown_val n r
  blk_ext [idx n, e]
theorem emb1 (n : Fin cfg0.N) (e : Fin 2048) (d : Fin 128) : (win0_1.blk n).view.emb (ix2 e d) = ix2 (key (n.val % 8) e) d := by
  have e := key_val n e
  blk_ext [idx n, e]
theorem emb2 (n : Fin cfg0.N) (e : Fin 2048) (d : Fin 128) : (win0_2.blk n).view.emb (ix2 e d) = ix2 (key (n.val % 8) e) (⟨1920 + d.val, by omega⟩ : Fin 2048) := by
  have e := key_val n e
  blk_ext [idx n, e]
theorem emb3 (n : Fin cfg0.N) (z : Fin 1) (d : Fin 384) : (win0_3.blk n).view.emb (ix2 z d) = ix2 z d := by
  blk_ext [idx n]
theorem emb4 (n : Fin cfg0.N) (r : Fin 1024) (d : Fin 384) : (win0_4.blk n).view.emb (ix2 r d) = ix2 (rown (n.val / 8) r) d := by
  have e := rown_val n r
  blk_ext [idx n, e]
theorem emb5 (n : Fin cfg0.N) (r : Fin 1024) (d : Fin 384) : (win0_5.blk n).view.emb (ix2 r d) = ix2 (rown (n.val / 8) r) d := by
  have e := rown_val n r
  blk_ext [idx n, e]
theorem emb6 (n : Fin cfg0.N) (h : Fin 6) (z : Fin 1) (r : Fin 1024) : (win0_6.blk n).view.emb (ix3 h z r) = ix3 h z (rown (n.val / 8) r) := by
  have e := rown_val n r
  blk_ext [idx n, e]

theorem read0 (f : (b : Ref sig .tc) → Buf (Elt Ideal) ((c : Thread nD τ).loc b)) (t : Fin cfg0.N) (z : S1024x384.Idx) :
    (((cfg0.win 0).blk t).view.read (Elt Ideal) (f (Pipeline.arrRef spec0 0)) : S1024x384.Idx → EReal) z = (f main_v5 : S16384x384.Idx → EReal) ((win0_0.blk t).view.emb z) := rfl
theorem read1 (f : (b : Ref sig .tc) → Buf (Elt Ideal) ((c : Thread nD τ).loc b)) (t : Fin cfg0.N) (z : S2048x128.Idx) :
    (((cfg0.win 1).blk t).view.read (Elt Ideal) (f (Pipeline.arrRef spec0 1)) : S2048x128.Idx → EReal) z = (f main_v6 : S16384x128.Idx → EReal) ((win0_1.blk t).view.emb z) := rfl
theorem read2 (f : (b : Ref sig .tc) → Buf (Elt Ideal) ((c : Thread nD τ).loc b)) (t : Fin cfg0.N) (z : S2048x128.Idx) :
    (((cfg0.win 2).blk t).view.read (Elt Ideal) (f (Pipeline.arrRef spec0 2)) : S2048x128.Idx → EReal) z = (f main_v2 : S16384x2048.Idx → EReal) ((win0_2.blk t).view.emb z) := rfl
theorem read3 (f : (b : Ref sig .tc) → Buf (Elt Ideal) ((c : Thread nD τ).loc b)) (t : Fin cfg0.N) (z : S1x384.Idx) :
    (((cfg0.win 3).blk t).view.read (Elt Ideal) (f (Pipeline.arrRef spec0 3)) : S1x384.Idx → EReal) z = (f main_v7 : S1x384.Idx → EReal) ((win0_3.blk t).view.emb z) := rfl

/-- The arrays the host lines prepare: the scaled queries, the keys, the projection with the values in its last columns, the gains. -/
def scaled (q : FVec Ideal S16384x384 .f32) : FVec Ideal S16384x384 .bf16 :=
  truncf .bf16 (mulf q (broadcastInDim S16384x384 ![] bcast_S_S16384x384 (constant (F := Ideal) S_ .f32 0x3E000000#32))) bitsLt_bf16_f32
@[inherit_doc scaled] def projV (v : FVec Ideal S16384x128 .f32) : FVec Ideal S16384x2048 .bf16 :=
  truncf .bf16 (concatenate S16384x2048 1 [⟨S16384x1920, broadcastInDim S16384x1920 ![] bcast_S_S16384x1920 (constant (F := Ideal) S_ .f32 0x00000000#32)⟩, ⟨S16384x128, v⟩]
    concatenates_S16384x1920_S16384x128_S16384x2048_d1 : FVec Ideal S16384x2048 .f32) bitsLt_bf16_f32

theorem V_5 : (V m c main_v5 : S16384x384.Idx → EReal) = scaled (m ((c.tc : Thread nD τ).loc main_arg0)) := by
  after_reads_simp
  rfl
theorem V_6 : (V m c main_v6 : S16384x128.Idx → EReal) = (m ((c.tc : Thread nD τ).loc main_arg1) : S16384x128.Idx → EReal) := by
  after_reads_simp
  rfl
theorem V_2 : (V m c main_v2 : S16384x2048.Idx → EReal) = projV (m ((c.tc : Thread nD τ).loc main_arg2)) := by
  after_reads_simp
  rfl
theorem V_7 : (V m c main_v7 : S1x384.Idx → EReal) = broadcastInDim S1x384 ![1] bcast_S384_S1x384_1 (G m c) := by
  after_reads_simp

theorem scaled_up (q : S16384x384.Idx → ℝ) (i : S16384x384.Idx) : scaled (up q) i = ((q i * (1 / 8) : ℝ) : EReal) := by
  have h : Ideal.ofBits .f32 0x3E000000#32 = ((1 / 8 : ℝ) : EReal) := by
    simp [Ideal.ofBits, Ideal.ieee, -EReal.coe_mul]; norm_num
  idx_vars i
  unfold scaled
  pointwise
  rw [h]
  exact (EReal.coe_mul _ _).symm
theorem projV_at (v : FVec Ideal S16384x128 .f32) (a : Fin 16384) (d : Fin 128) : (projV v : S16384x2048.Idx → EReal) (ix2 a (⟨1920 + d.val, by omega⟩ : Fin 2048)) = v (ix2 a d) := by
  unfold projV
  pointwise

theorem block3 (n : Fin cfg0.N) : iblk m c 3 n = fun y : S1x384.Idx => G m c (ix1 (y 1)) := by
  change (_ : S1x384.Idx → EReal) = _
  funext y
  idx_vars y
  refine (read3 c (V m c) n _).trans ?_
  rw [emb3, V_7]
  pointwise

variable {m c} (H : Inputs m c)
include H

theorem block0 (n : Fin cfg0.N) : iblk m c 0 n = up (s := S1024x384) (mat (Qb H.q (n.val / 8))) := by
  change (_ : S1024x384.Idx → EReal) = _
  funext y
  idx_vars y
  refine (read0 c (V m c) n _).trans ?_
  rw [emb0, V_5, H.hq]
  exact scaled_up H.q _
theorem block1 (n : Fin cfg0.N) : iblk m c 1 n = up (s := S2048x128) (mat (Kb H.k (n.val % 8))) := by
  change (_ : S2048x128.Idx → EReal) = _
  funext y
  idx_vars y
  refine (read1 c (V m c) n _).trans ?_
  rw [emb1, V_6, H.hk]
  rfl
theorem block2 (n : Fin cfg0.N) : iblk m c 2 n = up (s := S2048x128) (mat (Kb H.v (n.val % 8))) := by
  change (_ : S2048x128.Idx → EReal) = _
  funext y
  idx_vars y
  refine (read2 c (V m c) n _).trans ?_
  rw [emb2, V_2, projV_at, H.hv]
  rfl

/-! ## What is carried along a row of the grid -/

omit H in
theorem up3_up (N : Fin 1024 → ℝ) : up3 (up fun i => N (i 0)) = up fun i => N (i 1) := by
  change (_ : S1x1024x128.Idx → EReal) = _
  funext i
  idx_vars i
  pointwise [up3]
  rfl

omit H in
/-- One step of all heads, from what the scratch holds. -/
theorem step_all (Q : Fin 1024 → Fin 384 → ℝ) (K W : Fin 2048 → Fin 128 → ℝ) (M : Fin 6 → Fin 1024 → ℝ) (A : Fin 6 → Fin 1024 → Fin 128 → ℝ) :
    ∃ N : Fin 6 → Fin 1024 → ℝ, ∀ h, hS (up (s := S1024x384) (mat Q)) (up (mat K)) (up (s := S6x1024x128) fun i => M (i 0) (i 1)) h = up (fun i => N h (i 1))
      ∧ hT (up (s := S1024x384) (mat Q)) (up (mat K)) (up (mat W)) (up (s := S6x1024x128) fun i => M (i 0) (i 1)) (up (s := S6x1024x128) fun i => A (i 0) (i 1) (i 2)) h
        = up fun i => Real.exp (M h (i 1) - N h (i 1)) * A h (i 1) (i 2) + ∑ e, Real.exp (dotq Q K h (i 1) e - N h (i 1)) * VZ h W e (i 2) := by
  obtain ⟨N, hN⟩ := heads_real Q K W M A
  exact ⟨N, fun h => ⟨(congrArg up3 (hN h).1).trans (up3_up (N h)), (hN h).2⟩⟩

/-- The scratch after point `n`: the rows' shifts, and the sums over the key blocks so far at these shifts. -/
def Good (n : Fin cfg0.N) : Prop := ∃ M : Fin 6 → Fin 1024 → ℝ,
  (outsAt0 m c n n.isLt).2.2.2.1 = up (s := S6x1024x128) (fun i => M (i 0) (i 1))
    ∧ (outsAt0 m c n n.isLt).2.2.2.2 = up (s := S6x1024x128) fun i => ∑ j ∈ Finset.range (n.val % 8 + 1), part H.q H.k H.v (n.val / 8) j (M (i 0) (i 1)) (i 0) (i 1) (i 2)

/-- The point before, which is not the last of a row's. -/
abbrev prev (n : Fin cfg0.N) : Fin cfg0.N := ⟨n.val - 1, Nat.lt_of_le_of_lt (Nat.sub_le _ _) n.isLt⟩

theorem heads (n : Fin cfg0.N) (h0 : ¬n.val % 8 = 0) (hp : Good H (prev n)) : ∃ N : Fin 6 → Fin 1024 → ℝ, ∀ h, SS m c n h = up (fun i => N h (i 1))
    ∧ TT m c n h = up fun i => ∑ j ∈ Finset.range (n.val % 8 + 1), part H.q H.k H.v (n.val / 8) j (N h (i 1)) h (i 1) (i 2) := by
  obtain ⟨M, h1, h2⟩ := hp
  have e1 : (n.val - 1) / 8 = n.val / 8 := by omega
  have e2 : (n.val - 1) % 8 + 1 = n.val % 8 := by omega
  have h2' : oldT m c n = up (s := S6x1024x128) fun i => ∑ j ∈ Finset.range (n.val % 8), part H.q H.k H.v (n.val / 8) j (M (i 0) (i 1)) (i 0) (i 1) (i 2) := by
    refine h2.trans ?_
    show (up (s := S6x1024x128) fun i => ∑ j ∈ Finset.range ((n.val - 1) % 8 + 1), part H.q H.k H.v ((n.val - 1) / 8) j (M (i 0) (i 1)) (i 0) (i 1) (i 2)) = _
    rw [e1, e2]
  have h1' : oldS m c n = up (s := S6x1024x128) (fun i => M (i 0) (i 1)) := h1
  obtain ⟨N, hN⟩ := step_all (Qb H.q (n.val / 8)) (Kb H.k (n.val % 8)) (Kb H.v (n.val % 8)) M
    (fun h r l => ∑ j ∈ Finset.range (n.val % 8), part H.q H.k H.v (n.val / 8) j (M h r) h r l)
  refine ⟨N, fun h => ?_⟩
  unfold SS TT
  rw [block0 H, block1 H, block2 H, h1', h2']
  refine ⟨(hN h).1, (hN h).2.trans (congrArg up (funext fun i => ?_))⟩
  exact part_next H.q H.k H.v (n.val / 8) (n.val % 8) (M h (i 1)) (N h (i 1)) h (i 1) (i 2)

omit H in
theorem floor_real : ∃ r : ℝ, (k0_pay40 (F := Ideal) : S6x1024x128.Idx → EReal) = fun _ => (r : EReal) := by
  have h : Ideal.ofBits .f32 0xF149F2CA#32 = ((-(13234890 * 2 ^ 76) : ℝ) : EReal) := by
    simp [Ideal.ofBits, Ideal.ieee, -EReal.coe_mul]
  refine ⟨-(13234890 * 2 ^ 76), funext fun i => ?_⟩
  unfold k0_pay40
  rw [shapeCast_self]
  exact h
omit H in
theorem zero_real : (k0_pay41 (F := Ideal) : S6x1024x128.Idx → EReal) = fun _ => ((0 : ℝ) : EReal) := by
  funext i
  unfold k0_pay41
  rw [shapeCast_self]
  exact ofBits_zero

theorem good_first (n : Fin cfg0.N) (h0 : n.val % 8 = 0) : Good H n := by
  obtain ⟨r, hr⟩ := floor_real
  obtain ⟨N, hN⟩ := step_all (Qb H.q (n.val / 8)) (Kb H.k (n.val % 8)) (Kb H.v (n.val % 8)) (fun _ _ => r) (fun _ _ _ => 0)
  have hS' := fun h => (hN h).1
  have hT' := fun h => (hN h).2
  refine ⟨N, ?_, ?_⟩
  · rw [shift_A m c n h0 (by omega), block0 H, block1 H, hr]
    exact congrArg stack (funext hS')
  · rw [sum_A m c n h0 (by omega), block0 H, block1 H, block2 H, hr, zero_real]
    refine (congrArg stack (funext hT')).trans (congrArg up (funext fun i => ?_))
    rw [h0, zero_add, Finset.sum_range_one]
    show Real.exp (r - N (i 0) (i 1)) * 0 + _ = _
    rw [mul_zero, zero_add]
    rfl

theorem good_next (n : Fin cfg0.N) (h0 : ¬n.val % 8 = 0) (h1 : ¬n.val % 8 = 7) (hp : Good H (prev n)) : Good H n := by
  obtain ⟨N, hN⟩ := heads H n h0 hp
  refine ⟨N, ?_, ?_⟩
  · rw [shift_B m c n h0 h1]
    exact congrArg stack (funext fun h => (hN h).1)
  · rw [sum_B m c n h0 h1]
    exact congrArg stack (funext fun h => (hN h).2)

/-- The scratch after every point but the last of a row's. -/
theorem good : ∀ (j : ℕ) (n : Fin cfg0.N), n.val % 8 = j → j < 7 → Good H n := by
  intro j
  induction j with
  | zero => exact fun n hn _ => good_first H n hn
  | succ j ih => exact fun n hn hj => good_next H n (by omega) (by omega) (ih (prev n) (by show (n.val - 1) % 8 = j; omega) (by omega))

/-- After the last block of keys: every head's shift, and its sums over all the keys. -/
theorem last_heads (n : Fin cfg0.N) (h1 : n.val % 8 = 7) : ∃ N : Fin 6 → Fin 1024 → ℝ, ∀ h, SS m c n h = up (fun i => N h (i 1))
    ∧ TT m c n h = tots H.q H.k H.v (n.val / 8) N h := by
  obtain ⟨N, hN⟩ := heads H n (by omega) (good H 6 (prev n) (by show (n.val - 1) % 8 = 6; omega) (by decide))
  refine ⟨N, fun h => ⟨(hN h).1, (hN h).2.trans (congrArg up (funext fun i => ?_))⟩⟩
  rw [h1]
  exact part_all H.q H.k H.v (n.val / 8) (N h (i 1)) h (i 1) (i 2)

/-! ## The outputs -/

/-- The rows of the attention's output that point `n` writes. -/
abbrev aoB (n : Fin cfg0.N) : Fin 1024 → Fin 384 → ℝ := fun r c => ao (rw2 H.q) (rw2 H.k) (rw2 H.v) (rown (n.val / 8) r) c

theorem OO_real (n : Fin cfg0.N) (h1 : n.val % 8 = 7) (p : Fin 3) : OO m c n p = up (mat (qpair (aoB H n) p)) := by
  obtain ⟨N, hN⟩ := last_heads H n h1
  unfold OO
  rw [(hN _).2, (hN _).2]
  exact oB_tot H.q H.k H.v (n.val / 8) N p _ _ rfl rfl

theorem RN_real (n : Fin cfg0.N) (h1 : n.val % 8 = 7) : RN m c n = up (s := S1024x1) fun i => rms 384 (aoB H n (i 0)) := by
  unfold RN
  rw [OO_real H n h1, OO_real H n h1, OO_real H n h1]
  exact rB_real (aoB H n)

omit H in
/-- A column as a pair of heads and a lane. -/
theorem col_split (j : Fin 384) : ∃ (p : Fin 3) (l : Fin 128), j = ⟨l.val + 128 * p.val, by omega⟩ :=
  ⟨⟨j.val / 128, by omega⟩, ⟨j.val % 128, Nat.mod_lt _ (by decide)⟩, Fin.ext (Nat.mod_add_div j.val 128).symm⟩

theorem out4_at (n : Fin cfg0.N) (h1 : n.val % 8 = 7) (r : Fin 1024) (j : Fin 384) :
    ((outsAt0 m c n n.isLt).1 : S1024x384.Idx → EReal) (ix2 r j) = ((aoB H n r j : ℝ) : EReal) := by
  obtain ⟨p, l, rfl⟩ := col_split j
  rw [out4_C m c n (by omega) h1]
  refine (canon_cols _ _ _ _ _ _ r p l).trans ?_
  have e : (![yB (OO m c n 0), yB (OO m c n 1), yB (OO m c n 2)] : Fin 3 → S1024x128.Idx → Elt Ideal .bf16) p = yB (OO m c n p) := by
    fin_cases p <;> rfl
  rw [e, OO_real H n h1]
  exact congrFun (yB_eq _) _

omit H in
theorem gB_at (n : Fin cfg0.N) (p : Fin 3) (b : ℕ) (hb : b = 128 * p.val) (inb) (l : Fin 128) :
    gB m c n b inb (ix2 0 l) = G m c (ix1 (⟨l.val + 128 * p.val, by omega⟩ : Fin 384)) := by
  subst hb
  unfold gB
  rw [block3]
  refine congrArg (G m c) (congrArg ix1 (Fin.ext ?_))
  show 128 * p.val + 1 * l.val = l.val + 128 * p.val
  omega

theorem nB_at (n : Fin cfg0.N) (h1 : n.val % 8 = 7) (p : Fin 3) (b : ℕ) (hb : b = 128 * p.val) (inb) (r : Fin 1024) (l : Fin 128) :
    (nB (OO m c n p) (RN m c n) (gB m c n b inb) : S1024x128.Idx → EReal) (ix2 r l)
      = ((aoB H n r ⟨l.val + 128 * p.val, by omega⟩ * rms 384 (aoB H n r) : ℝ) : EReal) * G m c (ix1 (⟨l.val + 128 * p.val, by omega⟩ : Fin 384)) := by
  rw [OO_real H n h1, RN_real H n h1]
  refine (congrFun (nB_real (qpair (aoB H n) p) (fun r => rms 384 (aoB H n r)) _) _).trans ?_
  exact congrArg (((aoB H n r ⟨l.val + 128 * p.val, by omega⟩ * rms 384 (aoB H n r) : ℝ) : EReal) * ·) (gB_at n p b hb inb l)

theorem out5_at (n : Fin cfg0.N) (h1 : n.val % 8 = 7) (r : Fin 1024) (j : Fin 384) :
    ((outsAt0 m c n n.isLt).2.1 : S1024x384.Idx → EReal) (ix2 r j) = ((aoB H n r j * rms 384 (aoB H n r) : ℝ) : EReal) * G m c (ix1 j) := by
  obtain ⟨p, l, rfl⟩ := col_split j
  rw [out5_C m c n (by omega) h1]
  refine (canon_cols _ _ _ _ _ _ r p l).trans ?_
  fin_cases p
  · exact nB_at H n h1 0 0 rfl _ r l
  · exact nB_at H n h1 1 128 rfl _ r l
  · exact nB_at H n h1 2 256 rfl _ r l

theorem out6_at (n : Fin cfg0.N) (h1 : n.val % 8 = 7) (h : Fin 6) (z : Fin 1) (r : Fin 1024) :
    ((outsAt0 m c n n.isLt).2.2.1 : S6x1x1024.Idx → EReal) (ix3 h z r) = ((Real.log (den (rw2 H.q) (rw2 H.k) (hg h) (hr h) (rown (n.val / 8) r)) : ℝ) : EReal) := by
  obtain ⟨N, hN⟩ := last_heads H n h1
  rw [out6_C m c n (by omega) h1]
  refine (canon_rows _ _ _ _ _ _ _ _ _ _ _ _ h z r).trans ?_
  rw [(hN 0).1, (hN 1).1, (hN 2).1, (hN 3).1, (hN 4).1, (hN 5).1, (hN 0).2, (hN 1).2, (hN 2).2, (hN 3).2, (hN 4).2, (hN 5).2]
  fin_cases h
  · exact congrFun (lB0_tot H.q H.k H.v (n.val / 8) N 0 rfl) _
  · exact congrFun (lB1_tot H.q H.k H.v (n.val / 8) N 1 rfl) _
  · exact congrFun (lB0_tot H.q H.k H.v (n.val / 8) N 2 rfl) _
  · exact congrFun (lB1_tot H.q H.k H.v (n.val / 8) N 3 rfl) _
  · exact congrFun (lB0_tot H.q H.k H.v (n.val / 8) N 4 rfl) _
  · exact congrFun (lB1_tot H.q H.k H.v (n.val / 8) N 5 rfl) _

end Cert.AxfIdeal.Value
end
-- ==== Proof.AxfRun.lean ====
module
public import proofs.«01_k».proof.Proof.AxfKer

/-! The three arrays the attention's forward kernel leaves, and its run on finite inputs. -/

@[expose] public section

set_option maxRecDepth 16384

noncomputable section

namespace Cert.AxfIdeal.Value
open Cert.AxfIdeal Cert.AxfIdeal.Gen Idealize.ShloMosaic Idealize.ShloMosaic.TcCoe Idealize.SL.Sem Cert.Finite
open Idealize.ShloMosaic.StableHlo
open Cert.AxbRun (up mat hg hr)
open Cert.AxbRef (rw2)
open Cert.AxfRef (ao outY outN outL)
open Cert.GroupSpec (rms)
open AxbSpec

variable {m : (ℓ : Loc nD τ sig) → Buf (Elt Ideal) ℓ} {c : Dev nD} (H : Inputs m c)
include H

/-- The array of the attention's output after the run. -/
theorem y_eq : (dats m 0 c).arrAt 4 cfg0.N = outY H.q H.k H.v := by
  refine (dats m 0 c).arrAt_eq_of_covers 4 _ (by decide +kernel) fun t hf y => ?_
  have ht := (flush0_4 t).mp hf
  blk_simp
  rw [after0_4]
  revert y
  change ∀ y : S1024x384.Idx, _
  intro y
  idx_vars y
  refine (out4_at H t ht y0 y1).trans ?_
  refine Eq.trans (b := (outY H.q H.k H.v) (ix2 (rown (t.val / 8) y0) y1 : S16384x384.Idx)) rfl ?_
  exact congrArg (outY H.q H.k H.v) (emb4 t y0 y1).symm

/-- The array of the normed output after the run. -/
theorem n_eq : (dats m 0 c).arrAt 5 cfg0.N = outN H.q H.k H.v (G m c) := by
  refine (dats m 0 c).arrAt_eq_of_covers 5 _ (by decide +kernel) fun t hf y => ?_
  have ht := (flush0_5 t).mp hf
  blk_simp
  rw [after0_5]
  revert y
  change ∀ y : S1024x384.Idx, _
  intro y
  idx_vars y
  refine (out5_at H t ht y0 y1).trans ?_
  refine Eq.trans (b := (outN H.q H.k H.v (G m c)) (ix2 (rown (t.val / 8) y0) y1 : S16384x384.Idx)) rfl ?_
  exact congrArg (outN H.q H.k H.v (G m c)) (emb5 t y0 y1).symm

/-- The array of the rows' statistics after the run. -/
theorem l_eq : (dats m 0 c).arrAt 6 cfg0.N = outL H.q H.k := by
  refine (dats m 0 c).arrAt_eq_of_covers 6 _ (by decide +kernel) fun t hf y => ?_
  have ht := (flush0_6 t).mp hf
  blk_simp
  rw [after0_6]
  revert y
  change ∀ y : S6x1x1024.Idx, _
  intro y
  idx_vars y
  refine (out6_at H t ht y0 y1 y2).trans ?_
  refine Eq.trans (b := (outL H.q H.k) (ix3 y0 y1 (rown (t.val / 8) y2) : S6x1x16384.Idx)) rfl ?_
  exact congrArg (outL H.q H.k) (emb6 t y0 y1 y2).symm

omit H in
/-- The kernel's run on finite inputs: the three results and the unchanged arguments. -/
theorem run_real (ρ : Dev nD → PrngReg) (H : ∀ c : Dev nD, Inputs m c) :
    θ_run (defs (F := Ideal)) (onTc (τ := τ) (main (F := Ideal))) ⟨m, fun _ => 0, ρ⟩ fun r => ∀ c : Dev nD,
      r.2.mem ((c.tc : Thread nD τ).loc main_v8_0) = outY (H c).q (H c).k (H c).v
      ∧ r.2.mem ((c.tc : Thread nD τ).loc main_v8_1) = outN (H c).q (H c).k (H c).v (G m c)
      ∧ r.2.mem ((c.tc : Thread nD τ).loc main_v8_2) = outL (H c).q (H c).k
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (run_blocks m ρ)
  obtain ⟨h0, h1, h2, ha⟩ := h c
  exact ⟨h0.trans (y_eq (H c)), h1.trans (n_eq (H c)), h2.trans (l_eq (H c)), ha⟩

end Cert.AxfIdeal.Value
end
-- ==== Proof.AxfPair.lean ====
module
public import proofs.«01_k».proof.Defs
public import proofs.«01_k».proof.Proof.Gen.Pre_axf_pre
public import proofs.«01_k».proof.Proof.AxfRef
public import proofs.«01_k».proof.Proof.AxfRun

/-! The attention's forward pass: the reference's frame, and kernel and reference computing the same three arrays. -/

@[expose] public section

set_option maxRecDepth 16384

noncomputable section

namespace Cert.AxfPair
open Idealize.ShloMosaic Idealize.ShloMosaic.TcCoe Idealize.SL.Sem Cert.Finite
open Cert.AxfRef (outY outN outL ref_y ref_n ref_l)

/-- The reference runs to its end, leaves its arguments as they were and every semaphore at zero. -/
theorem frame_ref : Cert.quiescent_AxfRefIdeal := fun m ρ _ =>
  (θ_run Cert.AxfRefIdeal.defs _ _).mono (fun r h => ⟨fun c => (h c).2.2.2, sem_eq_zero_of_no_sems (by decide) r.2⟩)
    (Cert.AxfRefIdeal.Value.run m ρ)

section ref
open Cert.AxfRefIdeal Cert.AxfRefIdeal.Gen

/-- The reference's run on finite inputs: the three results and the unchanged arguments. -/
theorem ref_run (m : (ℓ : Loc nD τ sig) → Buf (Elt Ideal) ℓ) (ρ : Dev nD → PrngReg) (q : Dev nD → S16384x384.Idx → ℝ) (k v : Dev nD → S16384x128.Idx → ℝ)
    (g : Dev nD → S384.Idx → EReal)
    (hq : ∀ c : Dev nD, m ((c.tc : Thread nD τ).loc main_arg0) = fun i => (q c i : EReal)) (hk : ∀ c : Dev nD, m ((c.tc : Thread nD τ).loc main_arg1) = fun i => (k c i : EReal))
    (hv : ∀ c : Dev nD, m ((c.tc : Thread nD τ).loc main_arg2) = fun i => (v c i : EReal)) (hg : ∀ c : Dev nD, m ((c.tc : Thread nD τ).loc main_arg3) = g c) :
    θ_run (defs (F := Ideal)) (onTc (τ := τ) (main (F := Ideal))) ⟨m, fun _ => 0, ρ⟩ fun r => ∀ c : Dev nD,
      r.2.mem ((c.tc : Thread nD τ).loc main_v35) = outY (q c) (k c) (v c)
      ∧ r.2.mem ((c.tc : Thread nD τ).loc main_v49) = outN (q c) (k c) (v c) (g c)
      ∧ r.2.mem ((c.tc : Thread nD τ).loc main_v50) = outL (q c) (k c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Value.run m ρ)
  obtain ⟨h0, h1, h2, ha⟩ := h c
  refine ⟨h0.trans ?_, h1.trans ((ref_n m c (q c) (k c) (v c) (hq c) (hk c) (hv c)).trans (congrArg _ (hg c))), h2.trans ?_, ha⟩
  · exact ref_y m c (q c) (k c) (v c) (hq c) (hk c) (hv c)
  · exact ref_l m c (q c) (k c) (hq c) (hk c)
end ref

/-- The attention's forward pass with its norm and its row statistics: kernel and reference compute the same three arrays. -/
theorem algebraic : Cert.algebraic_AxfIdeal_AxfRefIdeal_pre_axf_pre := by
  intro m ρ m' ρ' hp ha
  choose q hq using fun c => reals_of_mask _ _ (fun _ => ofBits_inf) (hp c).1
  choose k hk using fun c => reals_of_mask _ _ (fun _ => ofBits_inf) (hp c).2.1
  choose v hv using fun c => reals_of_mask _ _ (fun _ => ofBits_inf) (hp c).2.2
  exact ⟨_, _, _, Cert.AxfIdeal.Value.run_real ρ fun c => ⟨q c, k c, v c, hq c, hk c, hv c⟩,
    ref_run m' ρ' q k v _ (fun c => (ha c).1.trans (hq c)) (fun c => (ha c).2.1.trans (hk c)) (fun c => (ha c).2.2.1.trans (hv c)) (fun c => (ha c).2.2.2)⟩

end Cert.AxfPair
end
-- ==== Proof.DprojRef.lean ====
module
public import proofs.«01_k».proof.Proof.DprojSpec
public import proofs.«01_k».proof.Proof.NormSpec
public import proofs.«01_k».proof.Proof.OprojRef
public import proofs.«01_k».proof.Proof.Gen.DprojRefIdeal.Run
public import proofs.«01_k».proof.Proof.Gen.DprojIdeal.Launch
public import Idealize.ShloMosaic.Lib.Pipeline.ValueKit

/-! The reference of the rotary positions and norms of queries and keys, read on real numbers. -/

@[expose] public section

set_option maxRecDepth 16384

noncomputable section

namespace Cert.DprojRefIdeal.Value
open Cert.DprojRefIdeal Cert.DprojRefIdeal.Gen Idealize.ShloMosaic Idealize.ShloMosaic.TcCoe Idealize.SL.Sem Idealize.ShloMosaic.StableHlo
open Cert.Finite Cert.GroupSpec Cert.DprojSpec
open NormSpec (up)

/-! ## Sums along two axes -/

/-- The sum along the first two of four axes. -/
theorem reduce01 {n0 n1 n2 n3 : Nat} (h : (⟨4, ![n0, n1, n2, n3]⟩ : Shape).ReducesTo [0, 1] ⟨2, ![n2, n3]⟩)
    (v : Shape.Idx ⟨4, ![n0, n1, n2, n3]⟩ → EReal) (init : EReal) (a : Fin n2) (b : Fin n3) :
    Ideal.hostReduceAdd h v init (ix2 a b) = init + ∑ r : Fin n0, ∑ p : Fin n1, v (ix4 r p a b) := by
  refine congrArg (init + ·) ?_
  refine Eq.trans ?_ (Fintype.sum_prod_type fun k : Fin n0 × Fin n1 => v (ix4 k.1 k.2 a b))
  refine Finset.sum_filter_eq_sum_of_fiber _ (fun k : Fin n0 × Fin n1 => ix4 k.1 k.2 a b)
    (fun _ _ e => Prod.ext (congrFun e 0) (congrFun e 1)) (fun i => ⟨fun e => ⟨(i 0, i 1), ?_⟩, ?_⟩) v
  · funext c
    apply Fin.ext
    match c with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext c
    apply Fin.ext
    match c with
    | ⟨0, _⟩ => rfl
    | ⟨1, _⟩ => rfl

/-- The sum along the second and the last of four axes. -/
theorem reduce13 {n0 n1 n2 n3 : Nat} (h : (⟨4, ![n0, n1, n2, n3]⟩ : Shape).ReducesTo [1, 3] ⟨2, ![n0, n2]⟩)
    (v : Shape.Idx ⟨4, ![n0, n1, n2, n3]⟩ → EReal) (init : EReal) (a : Fin n0) (b : Fin n2) :
    Ideal.hostReduceAdd h v init (ix2 a b) = init + ∑ r : Fin n1, ∑ p : Fin n3, v (ix4 a r b p) := by
  refine congrArg (init + ·) ?_
  refine Eq.trans ?_ (Fintype.sum_prod_type fun k : Fin n1 × Fin n3 => v (ix4 a k.1 b k.2))
  refine Finset.sum_filter_eq_sum_of_fiber _ (fun k : Fin n1 × Fin n3 => ix4 a k.1 b k.2)
    (fun _ _ e => Prod.ext (congrFun e 1) (congrFun e 3)) (fun i => ⟨fun e => ⟨(i 1, i 3), ?_⟩, ?_⟩) v
  · funext c
    apply Fin.ext
    match c with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext c
    apply Fin.ext
    match c with
    | ⟨0, _⟩ => rfl
    | ⟨1, _⟩ => rfl

/-! ## The angles -/

/-- A small number's word, read as an integer. -/
theorem toInt_small (n : ℕ) (h : n < 16384) : (BitVec.ofNat 32 n).toInt = (n : ℤ) := by
  rw [BitVec.toInt_eq_toNat_of_lt (by rw [BitVec.toNat_ofNat]; omega), BitVec.toNat_ofNat]
  omega

/-- A small number's word, read as a real. -/
theorem real_small (n : ℕ) (h : n < 16384) : (FloatOps.sitofp .f32 (BitVec.ofNat 32 n) : Ideal .f32) = ((n : ℝ) : EReal) := by
  show ((((BitVec.ofNat 32 n).toInt : ℤ) : ℝ) : EReal) = _
  rw [toInt_small n h]
  norm_cast

/-- The literal `10000`. -/
theorem ofBits_theta : Ideal.ofBits .f32 0x461C4000#32 = ((10000 : ℝ) : EReal) := by
  simp [Ideal.ofBits, Ideal.ieee, -EReal.coe_mul]; norm_num
/-- The literal `32`. -/
theorem ofBits_32 : Ideal.ofBits .f32 0x42000000#32 = ((32 : ℝ) : EReal) := by
  simp [Ideal.ofBits, Ideal.ieee, -EReal.coe_mul]; norm_num
/-- The literal `2`. -/
theorem ofBits_2 : Ideal.ofBits .f32 0x40000000#32 = ((2 : ℝ) : EReal) := by
  simp [Ideal.ofBits, Ideal.ieee, -EReal.coe_mul]; norm_num

/-- The tokens' numbers. -/
def tokI : IVec S16384 32 := iotaInDim S16384 32 0
/-- The tokens of a row of the grid. -/
def n64 : IVec S_ 32 := id (constantI S_ 32 64#32)
/-- The quotients, rounded towards zero. -/
def quo : IVec S16384 32 := Host.divsi tokI (broadcastInDim S16384 ![] bcast_S_S16384 n64)
/-- The tokens' rows. -/
def rowI : IVec S16384 32 :=
  select (andi (cmpi .ne (signi tokI) (broadcastInDim S16384 ![] bcast_S_S16384 (signi n64)))
      (cmpi .ne (Host.remsi tokI (broadcastInDim S16384 ![] bcast_S_S16384 n64)) (broadcastInDim S16384 ![] bcast_S_S16384 (constantI S_ 32 0#32))))
    (subi quo (broadcastInDim S16384 ![] bcast_S_S16384 (constantI S_ 32 1#32))) quo
/-- The divisor of the remainder, never zero. -/
def n64' : IVec S_ 32 := select (cmpi .eq n64 (constantI S_ 32 0#32)) (constantI S_ 32 1#32) n64
/-- The remainders, with the dividend's sign. -/
def rem : IVec S16384 32 := Host.remsi tokI (broadcastInDim S16384 ![] bcast_S_S16384 n64')
/-- The tokens' columns. -/
def colI : IVec S16384 32 :=
  select (andi (cmpi .ne (cmpi .slt rem (broadcastInDim S16384 ![] bcast_S_S16384 (constantI S_ 32 0#32)))
        (broadcastInDim S16384 ![] bcast_S_S16384 (cmpi .slt n64' (constantI S_ 32 0#32))))
      (cmpi .ne rem (broadcastInDim S16384 ![] bcast_S_S16384 (constantI S_ 32 0#32))))
    (addi rem (broadcastInDim S16384 ![] bcast_S_S16384 n64')) rem

/-- The row of a token, as words compute it. -/
def rowW (s : BitVec 32) : BitVec 32 :=
  Scalar.select (IntOp.andi (IntOp.cmpi .ne (if s = 0 then (0 : BitVec 32) else if s.msb = true then -1 else 1) (if 64#32 = 0 then (0 : BitVec 32) else if (64#32).msb = true then -1 else 1))
      (IntOp.cmpi .ne (IntOp.remsi .host s 64#32) 0#32))
    (IntOp.subi (IntOp.divsi .host s 64#32) 1#32) (IntOp.divsi .host s 64#32)
/-- The column of a token, as words compute it. -/
def colW (s : BitVec 32) : BitVec 32 :=
  Scalar.select (IntOp.andi (IntOp.cmpi .ne (IntOp.cmpi .slt (IntOp.remsi .host s 64#32) 0#32) (IntOp.cmpi .slt 64#32 0#32))
      (IntOp.cmpi .ne (IntOp.remsi .host s 64#32) 0#32))
    (IntOp.addi (IntOp.remsi .host s 64#32) 64#32) (IntOp.remsi .host s 64#32)

theorem rowI_apply (s : Fin 16384) : rowI (ix1 s) = BitVec.ofNat 32 (s.val / 64) := by
  unfold rowI quo n64 tokI
  pointwise
  exact (by decide +kernel : ∀ s : Fin 16384, rowW (BitVec.ofNat 32 s.val) = BitVec.ofNat 32 (s.val / 64)) s

theorem n64'_apply : n64' ix0 = 64#32 := by
  decide +kernel

theorem colI_apply (s : Fin 16384) : colI (ix1 s) = BitVec.ofNat 32 (s.val % 64) := by
  unfold colI rem tokI
  pointwise
  rw [n64'_apply]
  exact (by decide +kernel : ∀ s : Fin 16384, colW (BitVec.ofNat 32 s.val) = BitVec.ofNat 32 (s.val % 64)) s

/-- The frequencies. -/
def freqV : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

theorem freqV_up : freqV = up (S := S16) fun i => freq (i 0) := by
  change (_ : S16.Idx → EReal) = _
  funext i
  idx_vars i
  unfold freqV
  pointwise
  rw [real_small _ (by omega), ofBits_theta, ofBits_32, ofBits_2, ← EReal.coe_mul, ← EReal.coe_neg, div_real _ (by norm_num)]
  rfl

/-- The angles by the tokens' rows and columns. -/
def angV (R C : FVec Ideal S16384 .f32) (f : FVec Ideal S16 .f32) : FVec Ideal S16384x2x16 .f32 :=
  concatenate S16384x2x16 1
   [⟨S16384x1x16, (broadcastInDim S16384x1x16 ![0, 2] bcast_S16384x16_S16384x1x16_0_2
      (mulf (broadcastInDim S16384x16 ![0, 1] bcast_S16384x1_S16384x16_0_1 (broadcastInDim S16384x1 ![0] bcast_S16384_S16384x1_0 R))
        (broadcastInDim S16384x16 ![0, 1] bcast_S1x16_S16384x16_0_1 (broadcastInDim S1x16 ![1] bcast_S16_S1x16_1 f))))⟩,
    ⟨S16384x1x16, (broadcastInDim S16384x1x16 ![0, 2] bcast_S16384x16_S16384x1x16_0_2
      (mulf (broadcastInDim S16384x16 ![0, 1] bcast_S16384x1_S16384x16_0_1 (broadcastInDim S16384x1 ![0] bcast_S16384_S16384x1_0 C))
        (broadcastInDim S16384x16 ![0, 1] bcast_S1x16_S16384x16_0_1 (broadcastInDim S1x16 ![1] bcast_S16_S1x16_1 f))))⟩]
   concatenates_S16384x1x16_S16384x1x16_S16384x2x16_d1

/-- The angles. -/
def ang : FVec Ideal S16384x2x16 .f32 := angV (sitofp .f32 rowI) (sitofp .f32 colI) freqV

theorem ang_up : ang = up (S := S16384x2x16) fun i => pos (i 0) (i 1) * freq (i 2) := by
  unfold ang
  rw [freqV_up]
  change (_ : S16384x2x16.Idx → EReal) = _
  funext i
  idx_vars i
  unfold angV
  pointwise
  rw [rowI_apply, colI_apply, real_small _ (by omega), real_small _ (by omega)]
  simp only [up, ← EReal.coe_mul]
  split_ifs with h
  · refine congrArg (fun r : ℝ => (r : EReal)) (congrArg (· * freq i2) (if_pos ?_).symm)
    show i1.val = 0
    omega
  · refine congrArg (fun r : ℝ => (r : EReal)) (congrArg (· * freq i2) (if_neg ?_).symm)
    show ¬i1.val = 0
    omega

theorem cos_up : (Host.cos ang : FVec Ideal S16384x2x16 .f32) = up (S := S16384x2x16) fun i => cosT (i 0) (i 1) (i 2) := by
  rw [ang_up]
  rfl
theorem sin_up : (Host.sin ang : FVec Ideal S16384x2x16 .f32) = up (S := S16384x2x16) fun i => sinT (i 0) (i 1) (i 2) := by
  rw [ang_up]
  rfl

/-- A table's entries for the rows, -/
def tab0 (t : FVec Ideal S16384x2x16 .f32) : FVec Ideal S16384x1x1x16 .f32 :=
  broadcastInDim S16384x1x1x16 ![0, 3] bcast_S16384x16_S16384x1x1x16_0_3
    (shapeCast S16384x16 (extractStridedSlice S16384x1x16 ![0, 0, 0] t slices_S16384x2x16_S16384x1x16_0_0_0) shapeCasts_S16384x1x16_S16384x16)
/-- and for the columns. -/
def tab1 (t : FVec Ideal S16384x2x16 .f32) : FVec Ideal S16384x1x1x16 .f32 :=
  broadcastInDim S16384x1x1x16 ![0, 3] bcast_S16384x16_S16384x1x1x16_0_3
    (shapeCast S16384x16 (extractStridedSlice S16384x1x16 ![0, 1, 0] t slices_S16384x2x16_S16384x1x16_0_1_0) shapeCasts_S16384x1x16_S16384x16)

theorem tab0_up (t : S16384x2x16.Idx → ℝ) : tab0 (up t) = up (S := S16384x1x1x16) fun i => t (ix3 (i 0) 0 (i 3)) := by
  change (_ : S16384x1x1x16.Idx → EReal) = _
  funext i
  idx_vars i
  unfold tab0
  pointwise
  rfl
theorem tab1_up (t : S16384x2x16.Idx → ℝ) : tab1 (up t) = up (S := S16384x1x1x16) fun i => t (ix3 (i 0) 1 (i 3)) := by
  change (_ : S16384x1x1x16.Idx → EReal) = _
  funext i
  idx_vars i
  unfold tab1
  pointwise
  rfl

/-- The rotation in the first half of an axis, -/
theorem rot_lo (s : Fin 16384) (δ : Fin 64 → ℝ) (k k' m : Fin 64) (a : Fin 2) (b : Fin 16) (hk : k'.val = k.val) (h : k.val % 32 < 16)
    (ha : a.val = k.val / 32) (hb : b.val = k.val % 16) (hm : m.val = k.val + 16) : rot s δ k = δ m * sinT s a b + δ k' * cosT s a b := by
  obtain rfl : k' = k := Fin.ext hk
  obtain rfl : a = ax k' := Fin.ext ha
  obtain rfl : b = fr k' := Fin.ext hb
  have e : m = ⟨k'.val + 16, by omega⟩ := Fin.ext hm
  rw [e, add_comm]
  exact dif_pos h
/-- and in the second. -/
theorem rot_hi (s : Fin 16384) (δ : Fin 64 → ℝ) (k k' m : Fin 64) (a : Fin 2) (b : Fin 16) (hk : k'.val = k.val) (h : ¬k.val % 32 < 16)
    (ha : a.val = k.val / 32) (hb : b.val = k.val % 16) (hm : m.val = k.val - 16) : rot s δ k = δ k' * cosT s a b + -δ m * sinT s a b := by
  obtain rfl : k' = k := Fin.ext hk
  obtain rfl : a = ax k' := Fin.ext ha
  obtain rfl : b = fr k' := Fin.ext hb
  have e : m = ⟨k'.val - 16, by omega⟩ := Fin.ext hm
  rw [e, neg_mul, ← sub_eq_add_neg]
  exact dif_neg h

/-- A sum of one term of one term. -/
theorem sum11 (f : Fin 1 → Fin 1 → EReal) : ∑ r, ∑ p, f r p = f 0 0 := by
  rw [Fin.sum_univ_one, Fin.sum_univ_one]

/-- The head of a lane. -/
def hd (l : Fin 128) : Fin 2 := ⟨l.val / 64, by omega⟩

/-- A gain for two heads. -/
def gainV (g : FVec Ideal S64 .f32) : FVec Ideal S1x1x2x64 .f32 :=
  broadcastInDim S1x1x2x64 ![2, 3] bcast_S2x64_S1x1x2x64_2_3
    (concatenate S2x64 0 [⟨S1x64, (broadcastInDim S1x64 ![1] bcast_S64_S1x64_1 g)⟩, ⟨S1x64, (broadcastInDim S1x64 ![1] bcast_S64_S1x64_1 g)⟩]
      concatenates_S1x64_S1x64_S2x64_d0)

theorem gainV_up (g : S64.Idx → ℝ) : gainV (up g) = up (S := S1x1x2x64) fun i => g (ix1 (i 3)) := by
  change (_ : S1x1x2x64.Idx → EReal) = _
  funext i
  idx_vars i
  unfold gainV
  pointwise
  split_ifs <;> rfl

/-! ## The queries: three pairs of heads -/

section Q
variable (u δ : FVec Ideal S16384x3x2x64 .f32) (γ : FVec Ideal S1x1x2x64 .f32) (c s : FVec Ideal S16384x2x16 .f32)

/-- The mean squares. -/
def msQ : FVec Ideal S16384x3x2x1 .f32 :=
  addf (Host.divf (broadcastInDim S16384x3x2x1 ![0, 1, 2] bcast_S16384x3x2_S16384x3x2x1_0_1_2
      (Host.reduceAdd (mulf u u) (constant S_ .f32 0x00000000#32) reducesTo_S16384x3x2x64_S16384x3x2_d3 h_S_))
    (broadcastInDim S16384x3x2x1 ![] bcast_S_S16384x3x2x1 (constant S_ .f32 0x42800000#32)))
    (broadcastInDim S16384x3x2x1 ![] bcast_S_S16384x3x2x1 (constant S_ .f32 0x358637BD#32))
/-- The derivative of the root's reciprocal by the mean square. -/
def facQ : FVec Ideal S16384x3x2x1 .f32 :=
  mulf (broadcastInDim S16384x3x2x1 ![] bcast_S_S16384x3x2x1 (constant S_ .f32 0xBF000000#32)) (Host.divf (Host.rsqrt (msQ u)) (msQ u))
/-- The normalised heads. -/
def hatQ : FVec Ideal S16384x3x2x64 .f32 := mulf u (broadcastInDim S16384x3x2x64 ![0, 1, 2, 3] bcast_S16384x3x2x1_S16384x3x2x64_0_1_2_3 (Host.rsqrt (msQ u)))
/-- The rotation undone. -/
def rotQ : FVec Ideal S16384x3x2x64 .f32 :=
  concatenate S16384x3x2x64 3
   [⟨S16384x3x2x16, addf (mulf (extractStridedSlice S16384x3x2x16 ![0, 0, 0, 16] δ slices_S16384x3x2x64_S16384x3x2x16_0_0_0_16) (broadcastInDim S16384x3x2x16 ![0, 1, 2, 3] bcast_S16384x1x1x16_S16384x3x2x16_0_1_2_3 (tab0 s)))
       (mulf (extractStridedSlice S16384x3x2x16 ![0, 0, 0, 0] δ slices_S16384x3x2x64_S16384x3x2x16_0_0_0_0) (broadcastInDim S16384x3x2x16 ![0, 1, 2, 3] bcast_S16384x1x1x16_S16384x3x2x16_0_1_2_3 (tab0 c)))⟩,
    ⟨S16384x3x2x16, addf (mulf (extractStridedSlice S16384x3x2x16 ![0, 0, 0, 16] δ slices_S16384x3x2x64_S16384x3x2x16_0_0_0_16) (broadcastInDim S16384x3x2x16 ![0, 1, 2, 3] bcast_S16384x1x1x16_S16384x3x2x16_0_1_2_3 (tab0 c)))
       (mulf (Host.negf (extractStridedSlice S16384x3x2x16 ![0, 0, 0, 0] δ slices_S16384x3x2x64_S16384x3x2x16_0_0_0_0)) (broadcastInDim S16384x3x2x16 ![0, 1, 2, 3] bcast_S16384x1x1x16_S16384x3x2x16_0_1_2_3 (tab0 s)))⟩,
    ⟨S16384x3x2x16, addf (mulf (extractStridedSlice S16384x3x2x16 ![0, 0, 0, 48] δ slices_S16384x3x2x64_S16384x3x2x16_0_0_0_48) (broadcastInDim S16384x3x2x16 ![0, 1, 2, 3] bcast_S16384x1x1x16_S16384x3x2x16_0_1_2_3 (tab1 s)))
       (mulf (extractStridedSlice S16384x3x2x16 ![0, 0, 0, 32] δ slices_S16384x3x2x64_S16384x3x2x16_0_0_0_32) (broadcastInDim S16384x3x2x16 ![0, 1, 2, 3] bcast_S16384x1x1x16_S16384x3x2x16_0_1_2_3 (tab1 c)))⟩,
    ⟨S16384x3x2x16, addf (mulf (extractStridedSlice S16384x3x2x16 ![0, 0, 0, 48] δ slices_S16384x3x2x64_S16384x3x2x16_0_0_0_48) (broadcastInDim S16384x3x2x16 ![0, 1, 2, 3] bcast_S16384x1x1x16_S16384x3x2x16_0_1_2_3 (tab1 c)))
       (mulf (Host.negf (extractStridedSlice S16384x3x2x16 ![0, 0, 0, 32] δ slices_S16384x3x2x64_S16384x3x2x16_0_0_0_32)) (broadcastInDim S16384x3x2x16 ![0, 1, 2, 3] bcast_S16384x1x1x16_S16384x3x2x16_0_1_2_3 (tab1 s)))⟩]
   concatenates_S16384x3x2x16_S16384x3x2x16_S16384x3x2x16_S16384x3x2x16_S16384x3x2x64_d3
/-- The cotangent of the normalised heads, from that of the scaled ones. -/
def dhatQ : FVec Ideal S16384x3x2x64 .f32 := mulf δ (broadcastInDim S16384x3x2x64 ![0, 1, 2, 3] bcast_S1x1x2x64_S16384x3x2x64_0_1_2_3 γ)
/-- The cotangent of the mean square's sum. -/
def coQ : FVec Ideal S16384x3x2x1 .f32 :=
  Host.divf (mulf (shapeCast S16384x3x2x1 (Host.reduceAdd (mulf u (dhatQ δ γ)) (constant S_ .f32 0x00000000#32) reducesTo_S16384x3x2x64_S16384x3x2_d3 h_S_)
    shapeCasts_S16384x3x2_S16384x3x2x1) (facQ u)) (broadcastInDim S16384x3x2x1 ![] bcast_S_S16384x3x2x1 (constant S_ .f32 0x42800000#32))
/-- The same on every column. -/
def co1Q : FVec Ideal S16384x3x2x64 .f32 := broadcastInDim S16384x3x2x64 ![0, 1, 2] bcast_S16384x3x2_S16384x3x2x64_0_1_2 (Host.reduceAdd (coQ u δ γ) (constant S_ .f32 0x00000000#32) reducesTo_S16384x3x2x1_S16384x3x2_d3 h_S_)
/-- The gradient of the heads. -/
def dyQ : FVec Ideal S16384x3x2x64 .f32 :=
  addf (addf (mulf (dhatQ δ γ) (broadcastInDim S16384x3x2x64 ![0, 1, 2, 3] bcast_S16384x3x2x1_S16384x3x2x64_0_1_2_3 (Host.rsqrt (msQ u))))
    (mulf u (co1Q u δ γ))) (mulf (co1Q u δ γ) u)
/-- The gradient of the heads, a row of columns again. -/
def dy1Q : FVec Ideal S16384x384 .f32 := shapeCast S16384x384 (dyQ u δ γ) shapeCasts_S16384x3x2x64_S16384x384
/-- The gradient of the gains, summed over the tokens. -/
def dgQ : FVec Ideal S2x64 .f32 := Host.reduceAdd (mulf (hatQ u) δ) (constant S_ .f32 0x00000000#32) reducesTo_S16384x3x2x64_S2x64_d0_1 h_S_
/-- The gradient of the gains in a row of lanes. -/
def dg1Q : FVec Ideal S1x128 .f32 :=
  shapeCast S1x128 (Host.reduceAdd (shapeCast S1x1x2x64 (dgQ u δ) shapeCasts_S2x64_S1x1x2x64) (constant S_ .f32 0x00000000#32)
    reducesTo_S1x1x2x64_S2x64_d0_1 h_S_) shapeCasts_S2x64_S1x128

variable (U Δ : S16384x3x2x64.Idx → ℝ) (Γ : S1x1x2x64.Idx → ℝ)

theorem msQ_up : msQ (up U) = up (S := S16384x3x2x1) fun i => ms 64 fun k => U (ix4 (i 0) (i 1) (i 2) k) := by
  change (_ : S16384x3x2x1.Idx → EReal) = _
  funext i
  idx_vars i
  unfold msQ
  pointwise
  simp only [up, ofBits_64, ofBits_eps.1, ← EReal.coe_mul, ← EReal.coe_add, sum_coe, div_64]
  rfl

theorem rsQ_up : (Host.rsqrt (msQ (up U)) : FVec Ideal S16384x3x2x1 .f32) = up (S := S16384x3x2x1) fun i => rms 64 fun k => U (ix4 (i 0) (i 1) (i 2) k) := by
  rw [msQ_up]
  change (_ : S16384x3x2x1.Idx → EReal) = _
  funext i
  idx_vars i
  pointwise
  simp only [up]
  exact rsqrt_ms (c := 64) _ (by norm_num)

theorem facQ_up : facQ (up U) = up (S := S16384x3x2x1) fun i =>
    -(1 / 2) * (rms 64 (fun k => U (ix4 (i 0) (i 1) (i 2) k)) * rms 64 (fun k => U (ix4 (i 0) (i 1) (i 2) k)) * rms 64 (fun k => U (ix4 (i 0) (i 1) (i 2) k))) := by
  unfold facQ
  rw [rsQ_up, msQ_up]
  change (_ : S16384x3x2x1.Idx → EReal) = _
  funext i
  idx_vars i
  pointwise
  simp only [up, OprojRefIdeal.Value.ofBits_nhalf]
  rw [div_real _ (ms_pos (c := 64) _ (by norm_num)).ne', rms_div_ms _ (by norm_num), ← EReal.coe_mul]

theorem hatQ_up : hatQ (up U) = up (S := S16384x3x2x64) fun i => U i * rms 64 fun k => U (ix4 (i 0) (i 1) (i 2) k) := by
  unfold hatQ
  rw [rsQ_up]
  change (_ : S16384x3x2x64.Idx → EReal) = _
  funext i
  idx_vars i
  pointwise
  simp only [up, ← EReal.coe_mul]
  rfl

theorem rotQ_up : rotQ (up Δ) (Host.cos ang) (Host.sin ang)
    = up (S := S16384x3x2x64) fun i => rot (i 0) (fun k => Δ (ix4 (i 0) (i 1) (i 2) k)) (i 3) := by
  unfold rotQ
  rw [cos_up, sin_up, tab0_up, tab0_up, tab1_up, tab1_up]
  change (_ : S16384x3x2x64.Idx → EReal) = _
  funext i
  idx_vars i
  pointwise
  simp only [up, ← EReal.coe_mul, ← EReal.coe_add, ← EReal.coe_neg]
  show _ = ((rot i0 (fun k => Δ (ix4 i0 i1 i2 k)) i3 : ℝ) : EReal)
  split_ifs <;> first | contradiction | skip
  · refine congrArg (fun r : ℝ => (r : EReal)) (rot_lo i0 (fun k => Δ (ix4 i0 i1 i2 k)) i3 _ _ 0 _ ?_ ?_ ?_ ?_ ?_).symm
    · rfl
    · omega
    · show 0 = _; omega
    · show i3.val = _; omega
    · show 16 + i3.val = _; omega
  · refine congrArg (fun r : ℝ => (r : EReal)) (rot_hi i0 (fun k => Δ (ix4 i0 i1 i2 k)) i3 _ _ 0 _ ?_ ?_ ?_ ?_ ?_).symm
    · show 16 + (i3.val - 16) = _; omega
    · omega
    · show 0 = _; omega
    · show i3.val - 16 = _; omega
    · show i3.val - 16 = _; omega
  · refine congrArg (fun r : ℝ => (r : EReal)) (rot_lo i0 (fun k => Δ (ix4 i0 i1 i2 k)) i3 _ _ 1 _ ?_ ?_ ?_ ?_ ?_).symm
    · show 32 + (i3.val - 16 - 16) = _; omega
    · omega
    · show 1 = _; omega
    · show i3.val - 16 - 16 = _; omega
    · show 48 + (i3.val - 16 - 16) = _; omega
  · refine congrArg (fun r : ℝ => (r : EReal)) (rot_hi i0 (fun k => Δ (ix4 i0 i1 i2 k)) i3 _ _ 1 _ ?_ ?_ ?_ ?_ ?_).symm
    · show 48 + (i3.val - 16 - 16 - 16) = _; omega
    · omega
    · show 1 = _; omega
    · show i3.val - 16 - 16 - 16 = _; omega
    · show 32 + (i3.val - 16 - 16 - 16) = _; omega

theorem dhatQ_up : dhatQ (up Δ) (up Γ) = up (S := S16384x3x2x64) fun i => Δ i * Γ (ix4 0 0 (i 2) (i 3)) := by
  change (_ : S16384x3x2x64.Idx → EReal) = _
  funext i
  idx_vars i
  unfold dhatQ
  pointwise
  simp only [up, ← EReal.coe_mul]
  rfl

theorem coQ_up : coQ (up U) (up Δ) (up Γ)
    = up (S := S16384x3x2x1) fun i => co 64 (fun k => U (ix4 (i 0) (i 1) (i 2) k)) (fun k => Γ (ix4 0 0 (i 2) k)) (fun k => Δ (ix4 (i 0) (i 1) (i 2) k)) := by
  unfold coQ
  rw [facQ_up, dhatQ_up]
  change (_ : S16384x3x2x1.Idx → EReal) = _
  funext i
  idx_vars i
  pointwise
  simp only [up, ofBits_64, ← EReal.coe_mul, sum_coe, div_64]
  rfl

theorem co1Q_up : co1Q (up U) (up Δ) (up Γ)
    = up (S := S16384x3x2x64) fun i => co 64 (fun k => U (ix4 (i 0) (i 1) (i 2) k)) (fun k => Γ (ix4 0 0 (i 2) k)) (fun k => Δ (ix4 (i 0) (i 1) (i 2) k)) := by
  unfold co1Q
  rw [coQ_up]
  change (_ : S16384x3x2x64.Idx → EReal) = _
  funext i
  idx_vars i
  pointwise
  exact Fin.sum_univ_one _

theorem dyQ_up : dyQ (up U) (up Δ) (up Γ)
    = up (S := S16384x3x2x64) fun i => dy 64 (fun k => U (ix4 (i 0) (i 1) (i 2) k)) (fun k => Γ (ix4 0 0 (i 2) k)) (fun k => Δ (ix4 (i 0) (i 1) (i 2) k)) (i 3) := by
  unfold dyQ
  rw [co1Q_up, rsQ_up, dhatQ_up]
  change (_ : S16384x3x2x64.Idx → EReal) = _
  funext i
  idx_vars i
  pointwise
  refine Eq.trans ?_ (congrArg (fun r : ℝ => (r : EReal))
    (dy_split (c := 64) (fun k => U (ix4 i0 i1 i2 k)) (fun k => Γ (ix4 0 0 i2 k)) (fun k => Δ (ix4 i0 i1 i2 k)) i3))
  simp only [up, EReal.coe_add, EReal.coe_mul, add_assoc]
  rfl

/-- The gradient of the gains before the last sums. -/
theorem dgQ_up : dgQ (up U) (up Δ) = up (S := S2x64) fun i => ∑ r : Fin 16384, ∑ p : Fin 3, dg 64 (fun k => U (ix4 r p (i 0) k)) (fun k => Δ (ix4 r p (i 0) k)) (i 1) := by
  unfold dgQ
  rw [hatQ_up]
  change (_ : S2x64.Idx → EReal) = _
  funext i
  idx_vars i
  pointwise
  refine (reduce01 _ _ _ _ _).trans ?_
  rw [zero_add]
  simp only [mulf_apply, up, FloatOps.mulf, ← EReal.coe_mul, sum_coe]
  refine congrArg (fun r : ℝ => (r : EReal)) (Finset.sum_congr rfl fun r _ => Finset.sum_congr rfl fun p _ => ?_)
  exact mul_comm _ _

theorem dg1Q_up : dg1Q (up U) (up Δ) = up (S := S1x128) fun i => ∑ r : Fin 16384, ∑ p : Fin 3, dg 64 (fun k => U (ix4 r p (hd (i 1)) k)) (fun k => Δ (ix4 r p (hd (i 1)) k)) (pl (i 1)) := by
  unfold dg1Q
  rw [dgQ_up]
  change (_ : S1x128.Idx → EReal) = _
  funext i
  idx_vars i
  pointwise
  refine (reduce01 _ _ _ _ _).trans ?_
  rw [zero_add]
  refine (sum11 _).trans ?_
  pointwise
  rfl

end Q

/-! ## The keys: one pair of heads -/

section K
variable (u δ : FVec Ideal S16384x1x2x64 .f32) (γ : FVec Ideal S1x1x2x64 .f32) (c s : FVec Ideal S16384x2x16 .f32)

/-- The mean squares. -/
def msK : FVec Ideal S16384x1x2x1 .f32 :=
  addf (Host.divf (broadcastInDim S16384x1x2x1 ![0, 1, 2] bcast_S16384x1x2_S16384x1x2x1_0_1_2
      (Host.reduceAdd (mulf u u) (constant S_ .f32 0x00000000#32) reducesTo_S16384x1x2x64_S16384x1x2_d3 h_S_))
    (broadcastInDim S16384x1x2x1 ![] bcast_S_S16384x1x2x1 (constant S_ .f32 0x42800000#32)))
    (broadcastInDim S16384x1x2x1 ![] bcast_S_S16384x1x2x1 (constant S_ .f32 0x358637BD#32))
/-- The derivative of the root's reciprocal by the mean square. -/
def facK : FVec Ideal S16384x1x2x1 .f32 :=
  mulf (broadcastInDim S16384x1x2x1 ![] bcast_S_S16384x1x2x1 (constant S_ .f32 0xBF000000#32)) (Host.divf (Host.rsqrt (msK u)) (msK u))
/-- The normalised heads. -/
def hatK : FVec Ideal S16384x1x2x64 .f32 := mulf u (broadcastInDim S16384x1x2x64 ![0, 1, 2, 3] bcast_S16384x1x2x1_S16384x1x2x64_0_1_2_3 (Host.rsqrt (msK u)))
/-- The rotation undone. -/
def rotK : FVec Ideal S16384x1x2x64 .f32 :=
  concatenate S16384x1x2x64 3
   [⟨S16384x1x2x16, addf (mulf (extractStridedSlice S16384x1x2x16 ![0, 0, 0, 16] δ slices_S16384x1x2x64_S16384x1x2x16_0_0_0_16) (broadcastInDim S16384x1x2x16 ![0, 1, 2, 3] bcast_S16384x1x1x16_S16384x1x2x16_0_1_2_3 (tab0 s)))
       (mulf (extractStridedSlice S16384x1x2x16 ![0, 0, 0, 0] δ slices_S16384x1x2x64_S16384x1x2x16_0_0_0_0) (broadcastInDim S16384x1x2x16 ![0, 1, 2, 3] bcast_S16384x1x1x16_S16384x1x2x16_0_1_2_3 (tab0 c)))⟩,
    ⟨S16384x1x2x16, addf (mulf (extractStridedSlice S16384x1x2x16 ![0, 0, 0, 16] δ slices_S16384x1x2x64_S16384x1x2x16_0_0_0_16) (broadcastInDim S16384x1x2x16 ![0, 1, 2, 3] bcast_S16384x1x1x16_S16384x1x2x16_0_1_2_3 (tab0 c)))
       (mulf (Host.negf (extractStridedSlice S16384x1x2x16 ![0, 0, 0, 0] δ slices_S16384x1x2x64_S16384x1x2x16_0_0_0_0)) (broadcastInDim S16384x1x2x16 ![0, 1, 2, 3] bcast_S16384x1x1x16_S16384x1x2x16_0_1_2_3 (tab0 s)))⟩,
    ⟨S16384x1x2x16, addf (mulf (extractStridedSlice S16384x1x2x16 ![0, 0, 0, 48] δ slices_S16384x1x2x64_S16384x1x2x16_0_0_0_48) (broadcastInDim S16384x1x2x16 ![0, 1, 2, 3] bcast_S16384x1x1x16_S16384x1x2x16_0_1_2_3 (tab1 s)))
       (mulf (extractStridedSlice S16384x1x2x16 ![0, 0, 0, 32] δ slices_S16384x1x2x64_S16384x1x2x16_0_0_0_32) (broadcastInDim S16384x1x2x16 ![0, 1, 2, 3] bcast_S16384x1x1x16_S16384x1x2x16_0_1_2_3 (tab1 c)))⟩,
    ⟨S16384x1x2x16, addf (mulf (extractStridedSlice S16384x1x2x16 ![0, 0, 0, 48] δ slices_S16384x1x2x64_S16384x1x2x16_0_0_0_48) (broadcastInDim S16384x1x2x16 ![0, 1, 2, 3] bcast_S16384x1x1x16_S16384x1x2x16_0_1_2_3 (tab1 c)))
       (mulf (Host.negf (extractStridedSlice S16384x1x2x16 ![0, 0, 0, 32] δ slices_S16384x1x2x64_S16384x1x2x16_0_0_0_32)) (broadcastInDim S16384x1x2x16 ![0, 1, 2, 3] bcast_S16384x1x1x16_S16384x1x2x16_0_1_2_3 (tab1 s)))⟩]
   concatenates_S16384x1x2x16_S16384x1x2x16_S16384x1x2x16_S16384x1x2x16_S16384x1x2x64_d3
/-- The cotangent of the normalised heads, from that of the scaled ones. -/
def dhatK : FVec Ideal S16384x1x2x64 .f32 := mulf δ (broadcastInDim S16384x1x2x64 ![0, 1, 2, 3] bcast_S1x1x2x64_S16384x1x2x64_0_1_2_3 γ)
/-- The cotangent of the mean square's sum. -/
def coK : FVec Ideal S16384x1x2x1 .f32 :=
  Host.divf (mulf (shapeCast S16384x1x2x1 (Host.reduceAdd (mulf u (dhatK δ γ)) (constant S_ .f32 0x00000000#32) reducesTo_S16384x1x2x64_S16384x1x2_d3 h_S_)
    shapeCasts_S16384x1x2_S16384x1x2x1) (facK u)) (broadcastInDim S16384x1x2x1 ![] bcast_S_S16384x1x2x1 (constant S_ .f32 0x42800000#32))
/-- The same on every column. -/
def co1K : FVec Ideal S16384x1x2x64 .f32 := broadcastInDim S16384x1x2x64 ![0, 1, 2] bcast_S16384x1x2_S16384x1x2x64_0_1_2 (broadcastInDim S16384x1x2 ![0, 2] bcast_S16384x2_S16384x1x2_0_2 (Host.reduceAdd (coK u δ γ) (constant S_ .f32 0x00000000#32) reducesTo_S16384x1x2x1_S16384x2_d1_3 h_S_))
/-- The gradient of the heads. -/
def dyK : FVec Ideal S16384x1x2x64 .f32 :=
  addf (addf (mulf (dhatK δ γ) (broadcastInDim S16384x1x2x64 ![0, 1, 2, 3] bcast_S16384x1x2x1_S16384x1x2x64_0_1_2_3 (Host.rsqrt (msK u))))
    (mulf u (co1K u δ γ))) (mulf (co1K u δ γ) u)
/-- The gradient of the heads, a row of columns again. -/
def dy1K : FVec Ideal S16384x128 .f32 := shapeCast S16384x128 (dyK u δ γ) shapeCasts_S16384x1x2x64_S16384x128
/-- The gradient of the gains, summed over the tokens. -/
def dgK : FVec Ideal S1x2x64 .f32 := Host.reduceAdd (mulf (hatK u) δ) (constant S_ .f32 0x00000000#32) reducesTo_S16384x1x2x64_S1x2x64_d0 h_S_
/-- The gradient of the gains in a row of lanes. -/
def dg1K : FVec Ideal S1x128 .f32 :=
  shapeCast S1x128 (Host.reduceAdd (shapeCast S1x1x2x64 (dgK u δ) shapeCasts_S1x2x64_S1x1x2x64) (constant S_ .f32 0x00000000#32)
    reducesTo_S1x1x2x64_S2x64_d0_1 h_S_) shapeCasts_S2x64_S1x128

variable (U Δ : S16384x1x2x64.Idx → ℝ) (Γ : S1x1x2x64.Idx → ℝ)

theorem msK_up : msK (up U) = up (S := S16384x1x2x1) fun i => ms 64 fun k => U (ix4 (i 0) (i 1) (i 2) k) := by
  change (_ : S16384x1x2x1.Idx → EReal) = _
  funext i
  idx_vars i
  obtain rfl : i1 = 0 := Subsingleton.elim _ _
  unfold msK
  pointwise
  simp only [up, ofBits_64, ofBits_eps.1, ← EReal.coe_mul, ← EReal.coe_add, sum_coe, div_64]
  rfl

theorem rsK_up : (Host.rsqrt (msK (up U)) : FVec Ideal S16384x1x2x1 .f32) = up (S := S16384x1x2x1) fun i => rms 64 fun k => U (ix4 (i 0) (i 1) (i 2) k) := by
  rw [msK_up]
  change (_ : S16384x1x2x1.Idx → EReal) = _
  funext i
  idx_vars i
  obtain rfl : i1 = 0 := Subsingleton.elim _ _
  pointwise
  simp only [up]
  exact rsqrt_ms (c := 64) _ (by norm_num)

theorem facK_up : facK (up U) = up (S := S16384x1x2x1) fun i =>
    -(1 / 2) * (rms 64 (fun k => U (ix4 (i 0) (i 1) (i 2) k)) * rms 64 (fun k => U (ix4 (i 0) (i 1) (i 2) k)) * rms 64 (fun k => U (ix4 (i 0) (i 1) (i 2) k))) := by
  unfold facK
  rw [rsK_up, msK_up]
  change (_ : S16384x1x2x1.Idx → EReal) = _
  funext i
  idx_vars i
  obtain rfl : i1 = 0 := Subsingleton.elim _ _
  pointwise
  simp only [up, OprojRefIdeal.Value.ofBits_nhalf]
  rw [div_real _ (ms_pos (c := 64) _ (by norm_num)).ne', rms_div_ms _ (by norm_num), ← EReal.coe_mul]

theorem hatK_up : hatK (up U) = up (S := S16384x1x2x64) fun i => U i * rms 64 fun k => U (ix4 (i 0) (i 1) (i 2) k) := by
  unfold hatK
  rw [rsK_up]
  change (_ : S16384x1x2x64.Idx → EReal) = _
  funext i
  idx_vars i
  obtain rfl : i1 = 0 := Subsingleton.elim _ _
  pointwise
  simp only [up, ← EReal.coe_mul]
  rfl

theorem rotK_up : rotK (up Δ) (Host.cos ang) (Host.sin ang)
    = up (S := S16384x1x2x64) fun i => rot (i 0) (fun k => Δ (ix4 (i 0) (i 1) (i 2) k)) (i 3) := by
  unfold rotK
  rw [cos_up, sin_up, tab0_up, tab0_up, tab1_up, tab1_up]
  change (_ : S16384x1x2x64.Idx → EReal) = _
  funext i
  idx_vars i
  obtain rfl : i1 = 0 := Subsingleton.elim _ _
  pointwise
  simp only [up, ← EReal.coe_mul, ← EReal.coe_add, ← EReal.coe_neg]
  show _ = ((rot i0 (fun k => Δ (ix4 i0 0 i2 k)) i3 : ℝ) : EReal)
  split_ifs <;> first | contradiction | skip
  · refine congrArg (fun r : ℝ => (r : EReal)) (rot_lo i0 (fun k => Δ (ix4 i0 0 i2 k)) i3 _ _ 0 _ ?_ ?_ ?_ ?_ ?_).symm
    · rfl
    · omega
    · show 0 = _; omega
    · show i3.val = _; omega
    · show 16 + i3.val = _; omega
  · refine congrArg (fun r : ℝ => (r : EReal)) (rot_hi i0 (fun k => Δ (ix4 i0 0 i2 k)) i3 _ _ 0 _ ?_ ?_ ?_ ?_ ?_).symm
    · show 16 + (i3.val - 16) = _; omega
    · omega
    · show 0 = _; omega
    · show i3.val - 16 = _; omega
    · show i3.val - 16 = _; omega
  · refine congrArg (fun r : ℝ => (r : EReal)) (rot_lo i0 (fun k => Δ (ix4 i0 0 i2 k)) i3 _ _ 1 _ ?_ ?_ ?_ ?_ ?_).symm
    · show 32 + (i3.val - 16 - 16) = _; omega
    · omega
    · show 1 = _; omega
    · show i3.val - 16 - 16 = _; omega
    · show 48 + (i3.val - 16 - 16) = _; omega
  · refine congrArg (fun r : ℝ => (r : EReal)) (rot_hi i0 (fun k => Δ (ix4 i0 0 i2 k)) i3 _ _ 1 _ ?_ ?_ ?_ ?_ ?_).symm
    · show 48 + (i3.val - 16 - 16 - 16) = _; omega
    · omega
    · show 1 = _; omega
    · show i3.val - 16 - 16 - 16 = _; omega
    · show 32 + (i3.val - 16 - 16 - 16) = _; omega

theorem dhatK_up : dhatK (up Δ) (up Γ) = up (S := S16384x1x2x64) fun i => Δ i * Γ (ix4 0 0 (i 2) (i 3)) := by
  change (_ : S16384x1x2x64.Idx → EReal) = _
  funext i
  idx_vars i
  obtain rfl : i1 = 0 := Subsingleton.elim _ _
  unfold dhatK
  pointwise
  simp only [up, ← EReal.coe_mul]
  rfl

theorem coK_up : coK (up U) (up Δ) (up Γ)
    = up (S := S16384x1x2x1) fun i => co 64 (fun k => U (ix4 (i 0) (i 1) (i 2) k)) (fun k => Γ (ix4 0 0 (i 2) k)) (fun k => Δ (ix4 (i 0) (i 1) (i 2) k)) := by
  unfold coK
  rw [facK_up, dhatK_up]
  change (_ : S16384x1x2x1.Idx → EReal) = _
  funext i
  idx_vars i
  obtain rfl : i1 = 0 := Subsingleton.elim _ _
  pointwise
  simp only [up, ofBits_64, ← EReal.coe_mul, sum_coe, div_64]
  rfl

theorem co1K_up : co1K (up U) (up Δ) (up Γ)
    = up (S := S16384x1x2x64) fun i => co 64 (fun k => U (ix4 (i 0) (i 1) (i 2) k)) (fun k => Γ (ix4 0 0 (i 2) k)) (fun k => Δ (ix4 (i 0) (i 1) (i 2) k)) := by
  unfold co1K
  rw [coK_up]
  change (_ : S16384x1x2x64.Idx → EReal) = _
  funext i
  idx_vars i
  obtain rfl : i1 = 0 := Subsingleton.elim _ _
  pointwise
  refine (reduce13 _ _ _ _ _).trans ?_
  rw [zero_add]
  exact (Fin.sum_univ_one _).trans (Fin.sum_univ_one _)

theorem dyK_up : dyK (up U) (up Δ) (up Γ)
    = up (S := S16384x1x2x64) fun i => dy 64 (fun k => U (ix4 (i 0) (i 1) (i 2) k)) (fun k => Γ (ix4 0 0 (i 2) k)) (fun k => Δ (ix4 (i 0) (i 1) (i 2) k)) (i 3) := by
  unfold dyK
  rw [co1K_up, rsK_up, dhatK_up]
  change (_ : S16384x1x2x64.Idx → EReal) = _
  funext i
  idx_vars i
  obtain rfl : i1 = 0 := Subsingleton.elim _ _
  pointwise
  refine Eq.trans ?_ (congrArg (fun r : ℝ => (r : EReal))
    (dy_split (c := 64) (fun k => U (ix4 i0 0 i2 k)) (fun k => Γ (ix4 0 0 i2 k)) (fun k => Δ (ix4 i0 0 i2 k)) i3))
  simp only [up, EReal.coe_add, EReal.coe_mul, add_assoc]
  rfl

/-- The gradient of the gains before the last sums. -/
theorem dgK_up : dgK (up U) (up Δ) = up (S := S1x2x64) fun i => ∑ r : Fin 16384, dg 64 (fun k => U (ix4 r (i 0) (i 1) k)) (fun k => Δ (ix4 r (i 0) (i 1) k)) (i 2) := by
  unfold dgK
  rw [hatK_up]
  change (_ : S1x2x64.Idx → EReal) = _
  funext i
  idx_vars i
  obtain rfl : i0 = 0 := Subsingleton.elim _ _
  pointwise
  simp only [up, ← EReal.coe_mul, sum_coe]
  refine congrArg (fun r : ℝ => (r : EReal)) (Finset.sum_congr rfl fun r _ => ?_)
  exact mul_comm _ _

theorem dg1K_up : dg1K (up U) (up Δ) = up (S := S1x128) fun i => ∑ r : Fin 16384, dg 64 (fun k => U (ix4 r 0 (hd (i 1)) k)) (fun k => Δ (ix4 r 0 (hd (i 1)) k)) (pl (i 1)) := by
  unfold dg1K
  rw [dgK_up]
  change (_ : S1x128.Idx → EReal) = _
  funext i
  idx_vars i
  pointwise
  refine (reduce01 _ _ _ _ _).trans ?_
  rw [zero_add]
  refine (sum11 _).trans ?_
  pointwise
  rfl

end K

end Cert.DprojRefIdeal.Value
end
-- ==== Proof.DprojSum.lean ====
module
public import proofs.«01_k».proof.Proof.DprojRef

/-! The results of the reference of the rotary positions and norms of queries and keys. -/

@[expose] public section

set_option maxRecDepth 16384

noncomputable section

namespace Cert.DprojRefIdeal.Value
open Cert.DprojRefIdeal Cert.DprojRefIdeal.Gen Idealize.ShloMosaic Idealize.ShloMosaic.TcCoe Idealize.SL.Sem Idealize.ShloMosaic.StableHlo
open Cert.Finite Cert.GroupSpec Cert.DprojSpec
open NormSpec (up)

/-- The lane of a head's column. -/
def lane (h : Fin 2) (k : Fin 64) : Fin 128 := ⟨64 * h.val + k.val, by omega⟩

section results
variable (P : S16384x2048.Idx → ℝ) (g gk : S64.Idx → ℝ) (dq : S16384x384.Idx → ℝ) (dk : S16384x128.Idx → ℝ)

/-- The heads of the queries, -/
def headQ (x : FVec Ideal S16384x2048 .f32) : FVec Ideal S16384x3x2x64 .f32 :=
  shapeCast S16384x3x2x64 (extractStridedSlice S16384x384 ![0, 1408] x slices_S16384x2048_S16384x384_0_1408) shapeCasts_S16384x384_S16384x3x2x64
/-- of the keys, -/
def headK (x : FVec Ideal S16384x2048 .f32) : FVec Ideal S16384x1x2x64 .f32 :=
  shapeCast S16384x1x2x64 (extractStridedSlice S16384x128 ![0, 1792] x slices_S16384x2048_S16384x128_0_1792) shapeCasts_S16384x128_S16384x1x2x64
/-- of the queries' cotangent -/
def cotQ (x : FVec Ideal S16384x384 .f32) : FVec Ideal S16384x3x2x64 .f32 := shapeCast S16384x3x2x64 x shapeCasts_S16384x384_S16384x3x2x64
/-- and of the keys'. -/
def cotK (x : FVec Ideal S16384x128 .f32) : FVec Ideal S16384x1x2x64 .f32 := shapeCast S16384x1x2x64 x shapeCasts_S16384x128_S16384x1x2x64

theorem headQ_up : headQ (up P) = up (S := S16384x3x2x64) fun i => uq P (i 1) (i 0) (lane (i 2) (i 3)) := by
  change (_ : S16384x3x2x64.Idx → EReal) = _
  funext i
  idx_vars i
  unfold headQ
  pointwise
  refine congrArg (fun r : ℝ => (r : EReal)) (congrArg P (congrArg (ix2 i0) (Fin.ext ?_)))
  show 1408 + (i1.val * 128 + i2.val * 64 + i3.val) = 1408 + (128 * i1.val + (64 * i2.val + i3.val))
  omega

theorem headK_up : headK (up P) = up (S := S16384x1x2x64) fun i => uk P (i 0) (lane (i 2) (i 3)) := by
  change (_ : S16384x1x2x64.Idx → EReal) = _
  funext i
  idx_vars i
  unfold headK
  pointwise
  refine congrArg (fun r : ℝ => (r : EReal)) (congrArg P (congrArg (ix2 i0) (Fin.ext ?_)))
  first
  | (show 1792 + (i2.val * 64 + i3.val) = 1792 + (64 * i2.val + i3.val); omega)
  | (show 1792 + (i1.val * 128 + i2.val * 64 + i3.val) = 1792 + (64 * i2.val + i3.val); omega)

theorem cotQ_up : cotQ (up dq) = up (S := S16384x3x2x64) fun i => δq dq (i 1) (i 0) (lane (i 2) (i 3)) := by
  change (_ : S16384x3x2x64.Idx → EReal) = _
  funext i
  idx_vars i
  unfold cotQ
  pointwise
  refine congrArg (fun r : ℝ => (r : EReal)) (congrArg dq (congrArg (ix2 i0) (Fin.ext ?_)))
  show i1.val * 128 + i2.val * 64 + i3.val = 128 * i1.val + (64 * i2.val + i3.val)
  omega

theorem cotK_up : cotK (up dk) = up (S := S16384x1x2x64) fun i => δk dk (i 0) (lane (i 2) (i 3)) := by
  change (_ : S16384x1x2x64.Idx → EReal) = _
  funext i
  idx_vars i
  unfold cotK
  pointwise
  refine congrArg (fun r : ℝ => (r : EReal)) (congrArg dk (congrArg (ix2 i0) (Fin.ext ?_)))
  first
  | (show i2.val * 64 + i3.val = 64 * i2.val + i3.val; omega)
  | (show i1.val * 128 + i2.val * 64 + i3.val = 64 * i2.val + i3.val; omega)

/-- The gradient of the queries. -/
theorem dQ_up : dy1Q (headQ (up P)) (rotQ (cotQ (up dq)) (Host.cos ang) (Host.sin ang)) (gainV (up g))
    = up (S := S16384x384) fun i => dQ P g dq (i 0) (i 1) := by
  unfold dy1Q
  rw [headQ_up, cotQ_up, rotQ_up, gainV_up, dyQ_up]
  change (_ : S16384x384.Idx → EReal) = _
  funext i
  idx_vars i
  pointwise
  refine congrArg (fun r : ℝ => (r : EReal)) ?_
  have e1 : (⟨i1.val / 64 % 2, by omega⟩ : Fin 2) = hd ⟨i1.val % 128, by omega⟩ := Fin.ext (by show i1.val / 64 % 2 = i1.val % 128 / 64; omega)
  have e2 : (⟨i1.val % 64, by omega⟩ : Fin 64) = pl ⟨i1.val % 128, by omega⟩ := Fin.ext (by show i1.val % 64 = i1.val % 128 % 64; omega)
  have eg : ∀ k : Fin 64, pl (lane (hd ⟨i1.val % 128, by omega⟩) k) = k := fun k => Fin.ext (by show (64 * (i1.val % 128 / 64) + k.val) % 64 = k.val; omega)
  show dy 64 (fun k => uq P ⟨i1.val / 128, _⟩ i0 (lane ⟨i1.val / 64 % 2, _⟩ k)) (fun k => g (ix1 k))
    (rot i0 fun k => δq dq ⟨i1.val / 128, _⟩ i0 (lane ⟨i1.val / 64 % 2, _⟩ k)) ⟨i1.val % 64, _⟩ = _
  rw [e1, e2]
  refine congrArg (fun γ => dy 64 _ γ _ _) (funext fun k => ?_)
  exact (congrArg (fun k => g (ix1 k)) (eg k)).symm

/-- The gradient of the keys. -/
theorem dK_up : dy1K (headK (up P)) (rotK (cotK (up dk)) (Host.cos ang) (Host.sin ang)) (gainV (up gk))
    = up (S := S16384x128) fun i => dK P gk dk (i 0) (i 1) := by
  unfold dy1K
  rw [headK_up, cotK_up, rotK_up, gainV_up, dyK_up]
  change (_ : S16384x128.Idx → EReal) = _
  funext i
  idx_vars i
  pointwise
  refine congrArg (fun r : ℝ => (r : EReal)) ?_
  have eg : ∀ k : Fin 64, pl (lane (hd i1) k) = k := fun k => Fin.ext (by show (64 * (i1.val / 64) + k.val) % 64 = k.val; omega)
  show dy 64 (fun k => uk P i0 (lane (hd i1) k)) (fun k => gk (ix1 k)) (rot i0 fun k => δk dk i0 (lane (hd i1) k)) (pl i1) = _
  refine congrArg (fun γ => dy 64 _ γ _ _) (funext fun k => ?_)
  exact (congrArg (fun k => gk (ix1 k)) (eg k)).symm

/-- The gradient of the queries' gains. -/
theorem dGq_up : dg1Q (headQ (up P)) (rotQ (cotQ (up dq)) (Host.cos ang) (Host.sin ang)) = up (S := S1x128) (dGq P dq) := by
  rw [headQ_up, cotQ_up, rotQ_up, dg1Q_up]
  rfl

/-- The gradient of the keys' gains. -/
theorem dGk_up : dg1K (headK (up P)) (rotK (cotK (up dk)) (Host.cos ang) (Host.sin ang)) = up (S := S1x128) (dGk P dk) := by
  rw [headK_up, cotK_up, rotK_up, dg1K_up]
  rfl

end results

/-- All the parts in their columns, added up. -/
def dpV (a b b' c c' : FVec Ideal S16384x256 .f32) (e : FVec Ideal S16384x384 .f32) (f f' g g' : FVec Ideal S16384x128 .f32)
    (q : FVec Ideal S16384x384 .f32) (k v : FVec Ideal S16384x128 .f32) : FVec Ideal S16384x2048 .bf16 :=
  truncf .bf16 (addf (addf (addf (addf (addf (addf (addf (addf
    (pad S16384x2048 ![0, 1920] ![0, 0] ![0, 0] v (constant S_ .f32 0x00000000#32) pads_S16384x128_S16384x2048_000_192000 h_S_)
    (pad S16384x2048 ![0, 1792] ![0, 128] ![0, 0] k (constant S_ .f32 0x00000000#32) pads_S16384x128_S16384x2048_000_17921280 h_S_))
    (pad S16384x2048 ![0, 1408] ![0, 256] ![0, 0] q (constant S_ .f32 0x00000000#32) pads_S16384x384_S16384x2048_000_14082560 h_S_))
    (pad S16384x2048 ![0, 1280] ![0, 640] ![0, 0] (addf g g') (constant S_ .f32 0x00000000#32) pads_S16384x128_S16384x2048_000_12806400 h_S_))
    (pad S16384x2048 ![0, 1152] ![0, 768] ![0, 0] (addf f f') (constant S_ .f32 0x00000000#32) pads_S16384x128_S16384x2048_000_11527680 h_S_))
    (pad S16384x2048 ![0, 768] ![0, 896] ![0, 0] e (constant S_ .f32 0x00000000#32) pads_S16384x384_S16384x2048_000_7688960 h_S_))
    (pad S16384x2048 ![0, 512] ![0, 1280] ![0, 0] (addf c c') (constant S_ .f32 0x00000000#32) pads_S16384x256_S16384x2048_000_51212800 h_S_))
    (pad S16384x2048 ![0, 256] ![0, 1536] ![0, 0] (addf b b') (constant S_ .f32 0x00000000#32) pads_S16384x256_S16384x2048_000_25615360 h_S_))
    (pad S16384x2048 ![0, 0] ![0, 1792] ![0, 0] a (constant S_ .f32 0x00000000#32) pads_S16384x256_S16384x2048_000_017920 h_S_)) bitsLt_bf16_f32

theorem dpV_apply (a b b' c c' : FVec Ideal S16384x256 .f32) (e : FVec Ideal S16384x384 .f32) (f f' g g' : FVec Ideal S16384x128 .f32)
    (q : S16384x384.Idx → ℝ) (k : S16384x128.Idx → ℝ) (v : FVec Ideal S16384x128 .f32) :
    (dpV a b b' c c' e f f' g g' (up q) (up k) v : S16384x2048.Idx → EReal)
      = dP (fun s j => a (ix2 s j)) (fun s j => addf b b' (ix2 s j)) (fun s j => addf c c' (ix2 s j)) (fun s j => e (ix2 s j))
        (fun s j => addf f f' (ix2 s j)) (fun s j => addf g g' (ix2 s j)) (fun s j => q (ix2 s j)) (fun s j => k (ix2 s j)) (fun s j => v (ix2 s j)) := by
  funext i
  idx_vars i
  unfold dpV
  pointwise
  unfold dP
  refine congrArg₂ (· + ·) rfl ?_
  show _ = Cert.DprojSpec.piece 0 256 (fun j => a (ix2 i0 j)) i1
  unfold Cert.DprojSpec.piece
  by_cases h : i1.val < 256
  · rw [dif_pos h, dif_pos ⟨Nat.zero_le _, h⟩]
    rfl
  · rw [dif_neg h, dif_neg fun h' => h h'.2]

set_option maxHeartbeats 4000000 in
/-- The reference's run on finite inputs: the three results and the unchanged arguments. -/
theorem run_real (m : (ℓ : Loc nD τ sig) → Buf (Elt Ideal) ℓ) (ρ : Dev nD → PrngReg) (P : Dev nD → S16384x2048.Idx → ℝ)
  (g gk : Dev nD → S64.Idx → ℝ) (dq : Dev nD → S16384x384.Idx → ℝ) (dk : Dev nD → S16384x128.Idx → ℝ)
  (hP : ∀ c : Dev nD, m ((c.tc : Thread nD τ).loc main_arg0) = up (S := S16384x2048) (P c))
  (hg : ∀ c : Dev nD, m ((c.tc : Thread nD τ).loc main_arg1) = up (S := S64) (g c))
  (hk : ∀ c : Dev nD, m ((c.tc : Thread nD τ).loc main_arg2) = up (S := S64) (gk c))
  (hq : ∀ c : Dev nD, m ((c.tc : Thread nD τ).loc main_arg13) = up (S := S16384x384) (dq c))
  (hd : ∀ c : Dev nD, m ((c.tc : Thread nD τ).loc main_arg14) = up (S := S16384x128) (dk c)) :
  θ_run (defs (F := Ideal)) (onTc (τ := τ) (main (F := Ideal))) ⟨m, fun _ => 0, ρ⟩ fun r => ∀ c : Dev nD,
    r.2.mem ((c.tc : Thread nD τ).loc main_v275) = dpV (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12))
      (up (S := S16384x384) fun i => dQ (P c) (g c) (dq c) (i 0) (i 1)) (up (S := S16384x128) fun i => dK (P c) (gk c) (dk c) (i 0) (i 1))
      (m ((c.tc : Thread nD τ).loc main_arg15))
    ∧ r.2.mem ((c.tc : Thread nD τ).loc main_v276) = up (S := S1x128) (dGq (P c) (dq c))
    ∧ r.2.mem ((c.tc : Thread nD τ).loc main_v277) = up (S := S1x128) (dGk (P c) (dk c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15) := by
  refine (θ_run (defs (F := Ideal)) _ _).mono (fun r h c => ?_) (run m ρ)
  obtain ⟨h0, h1, h2, hA⟩ := h c
  refine ⟨h0.trans ?_, h1.trans ?_, h2.trans ?_, hA⟩
  · rw [← dQ_up, ← dK_up, ← hP c, ← hg c, ← hk c, ← hq c, ← hd c]
    rfl
  · rw [← dGq_up, ← hP c, ← hq c]
    rfl
  · rw [← dGk_up, ← hP c, ← hd c]
    rfl

end Cert.DprojRefIdeal.Value
end
-- ==== Proof.DprojTab.lean ====
module
public import proofs.«01_k».proof.Proof.DprojRef
public import proofs.«01_k».proof.Proof.Gen.DprojIdeal.Value
public import Idealize.ShloMosaic.Lib.Pipeline.ValueKit
public import Idealize.ShloMosaic.Lib.StableHlo.RunRead

/-! The tables of cosines and sines that the host prepares for the kernel: their entries are the lanes' tables. -/

@[expose] public section

set_option maxRecDepth 16384

noncomputable section

namespace Cert.DprojIdeal.Value
open Cert.DprojIdeal Cert.DprojIdeal.Gen Idealize.ShloMosaic Idealize.ShloMosaic.TcCoe Idealize.SL.Sem Cert.Finite Cert.DprojSpec
open NormSpec (up)
open Cert.DprojRefIdeal.Value (real_small ofBits_theta ofBits_32)

section lanes

/-- The literal `0`. -/
theorem ofBits_zero : Ideal.ofBits .f32 0x00000000#32 = ((0 : ℝ) : EReal) := by
  simp [Ideal.ofBits, Ideal.ieee]

/-- The lanes' numbers. -/
def lanesI : IVec S128 32 := iotaInDim S128 32 0
/-- A divisor, one in place of zero. -/
def nz (n : BitVec 32) : IVec S_ 32 := select (cmpi .eq (id (constantI S_ 32 n)) (constantI S_ 32 0#32)) (constantI S_ 32 1#32) (id (constantI S_ 32 n))
/-- The lanes' remainders, with the dividend's sign. -/
def remR (n : BitVec 32) : IVec S128 32 := Host.remsi lanesI (broadcastInDim S128 ![] bcast_S_S128 (nz n))
/-- The lanes' remainders. -/
def remN (n : BitVec 32) : IVec S128 32 :=
  select (andi (cmpi .ne (cmpi .slt (remR n) (broadcastInDim S128 ![] bcast_S_S128 (constantI S_ 32 0#32)))
        (broadcastInDim S128 ![] bcast_S_S128 (cmpi .slt (nz n) (constantI S_ 32 0#32))))
      (cmpi .ne (remR n) (broadcastInDim S128 ![] bcast_S_S128 (constantI S_ 32 0#32))))
    (addi (remR n) (broadcastInDim S128 ![] bcast_S_S128 (nz n))) (remR n)

/-- A remainder, as words compute it. -/
def remW (n s : BitVec 32) : BitVec 32 :=
  Scalar.select (IntOp.andi (IntOp.cmpi .ne (IntOp.cmpi .slt (IntOp.remsi .host s n) 0#32) (IntOp.cmpi .slt n 0#32))
      (IntOp.cmpi .ne (IntOp.remsi .host s n) 0#32))
    (IntOp.addi (IntOp.remsi .host s n) n) (IntOp.remsi .host s n)

theorem remN_word (n : BitVec 32) (hn : nz n ix0 = n) (l : Fin 128) : remN n (ix1 l) = remW n (BitVec.ofNat 32 l.val) := by
  unfold remN remR lanesI
  pointwise
  rw [hn]
  rfl

theorem rem16 (l : Fin 128) : remN 16#32 (ix1 l) = BitVec.ofNat 32 (l.val % 16) :=
  (remN_word _ (by decide +kernel) l).trans ((by decide +kernel : ∀ l : Fin 128, remW 16#32 (BitVec.ofNat 32 l.val) = BitVec.ofNat 32 (l.val % 16)) l)
theorem rem32 (l : Fin 128) : remN 32#32 (ix1 l) = BitVec.ofNat 32 (l.val % 32) :=
  (remN_word _ (by decide +kernel) l).trans ((by decide +kernel : ∀ l : Fin 128, remW 32#32 (BitVec.ofNat 32 l.val) = BitVec.ofNat 32 (l.val % 32)) l)
theorem rem64 (l : Fin 128) : remN 64#32 (ix1 l) = BitVec.ofNat 32 (l.val % 64) :=
  (remN_word _ (by decide +kernel) l).trans ((by decide +kernel : ∀ l : Fin 128, remW 64#32 (BitVec.ofNat 32 l.val) = BitVec.ofNat 32 (l.val % 64)) l)

/-- The lanes' frequencies. -/
def freqL : FVec Ideal S128 .f32 :=
  Host.powf (broadcastInDim S128 ![] bcast_S_S128 (constant S_ .f32 0x461C4000#32))
    (Host.divf (Host.negf (sitofp .f32 (muli (broadcastInDim S128 ![] bcast_S_S128 (constantI S_ 32 2#32)) (remN 16#32))))
      (broadcastInDim S128 ![] bcast_S_S128 (constant S_ .f32 0x42000000#32)))

theorem freqL_up : freqL = up (S := S128) fun i => freq (fr (pl (i 0))) := by
  change (_ : S128.Idx → EReal) = _
  funext i
  idx_vars i
  unfold freqL
  pointwise
  rw [rem16, (by decide +kernel : ∀ l : Fin 128, IntOp.muli 2#32 (BitVec.ofNat 32 (l.val % 16)) = BitVec.ofNat 32 (2 * (l.val % 16))) i0,
    real_small _ (by omega), ofBits_theta, ofBits_32, ← EReal.coe_neg, div_real _ (by norm_num)]
  refine congrArg (fun r : ℝ => (r : EReal)) (congrArg (Real.rpow 10000) ?_)
  have e : i0.val % 16 = i0.val % 64 % 16 := by omega
  show -(((2 * (i0.val % 16) : ℕ) : ℝ)) / 32 = -(2 * ((i0.val % 64 % 16 : ℕ) : ℝ)) / 32
  rw [e]
  push_cast
  rfl

/-- The lanes of the row's axis. -/
def byRow : IVec S1x1x128 1 := broadcastInDim S1x1x128 ![2] bcast_S128_S1x1x128_2 (cmpi .slt (remN 64#32) (broadcastInDim S128 ![] bcast_S_S128 (constantI S_ 32 32#32)))
/-- The lanes of the first half of an axis. -/
def first : IVec S1x128 1 := broadcastInDim S1x128 ![1] bcast_S128_S1x128_1 (cmpi .slt (remN 32#32) (broadcastInDim S128 ![] bcast_S_S128 (constantI S_ 32 16#32)))

theorem byRow_apply (x y : Fin 1) (l : Fin 128) (a b : EReal) : Scalar.select (byRow (ix3 x y l)) a b = if l.val % 64 < 32 then a else b := by
  have e : byRow (ix3 x y l) = IntOp.cmpi .slt (BitVec.ofNat 32 (l.val % 64)) 32#32 := by
    unfold byRow
    pointwise
    rw [rem64]
  rw [e, (by decide +kernel : ∀ l : Fin 128, IntOp.cmpi .slt (BitVec.ofNat 32 (l.val % 64)) 32#32 = if l.val % 64 < 32 then 1#1 else 0#1) l]
  split_ifs <;> rfl
theorem first_apply (x : Fin 1) (l : Fin 128) (a b : EReal) : Scalar.select (first (ix2 x l)) a b = if l.val % 32 < 16 then a else b := by
  have e : first (ix2 x l) = IntOp.cmpi .slt (BitVec.ofNat 32 (l.val % 32)) 16#32 := by
    unfold first
    pointwise
    rw [rem32]
  rw [e, (by decide +kernel : ∀ l : Fin 128, IntOp.cmpi .slt (BitVec.ofNat 32 (l.val % 32)) 16#32 = if l.val % 32 < 16 then 1#1 else 0#1) l]
  split_ifs <;> rfl

/-- The angles of the grid's rows, -/
def angR (f : FVec Ideal S128 .f32) : FVec Ideal S256x128 .f32 :=
  mulf (broadcastInDim S256x128 ![0, 1] bcast_S256x1_S256x128_0_1 (broadcastInDim S256x1 ![0] bcast_S256_S256x1_0 (sitofp .f32 (iotaInDim S256 32 0))))
    (broadcastInDim S256x128 ![0, 1] bcast_S1x128_S256x128_0_1 (broadcastInDim S1x128 ![1] bcast_S128_S1x128_1 f))
/-- and of its columns. -/
def angC (f : FVec Ideal S128 .f32) : FVec Ideal S64x128 .f32 :=
  mulf (broadcastInDim S64x128 ![0, 1] bcast_S64x1_S64x128_0_1 (broadcastInDim S64x1 ![0] bcast_S64_S64x1_0 (sitofp .f32 (iotaInDim S64 32 0))))
    (broadcastInDim S64x128 ![0, 1] bcast_S1x128_S64x128_0_1 (broadcastInDim S1x128 ![1] bcast_S128_S1x128_1 f))

theorem angR_up (f : S128.Idx → ℝ) : angR (up f) = up (S := S256x128) fun i => ((i 0).val : ℝ) * f (ix1 (i 1)) := by
  change (_ : S256x128.Idx → EReal) = _
  funext i
  idx_vars i
  unfold angR
  pointwise
  rw [real_small _ (by omega)]
  exact (EReal.coe_mul _ _).symm
theorem angC_up (f : S128.Idx → ℝ) : angC (up f) = up (S := S64x128) fun i => ((i 0).val : ℝ) * f (ix1 (i 1)) := by
  change (_ : S64x128.Idx → EReal) = _
  funext i
  idx_vars i
  unfold angC
  pointwise
  rw [real_small _ (by omega)]
  exact (EReal.coe_mul _ _).symm

/-- A table of all tokens from one of the rows and one of the columns. -/
def tabV (p : FVec Ideal S256x128 .f32) (q : FVec Ideal S64x128 .f32) : FVec Ideal S16384x128 .f32 :=
  shapeCast S16384x128 (select (broadcastInDim S256x64x128 ![0, 1, 2] bcast_S1x1x128_S256x64x128_0_1_2 byRow)
    (broadcastInDim S256x64x128 ![0, 1, 2] bcast_S256x1x128_S256x64x128_0_1_2 (broadcastInDim S256x1x128 ![0, 2] bcast_S256x128_S256x1x128_0_2 p))
    (broadcastInDim S256x64x128 ![0, 1, 2] bcast_S1x64x128_S256x64x128_0_1_2 (broadcastInDim S1x64x128 ![1, 2] bcast_S64x128_S1x64x128_1_2 q)))
    shapeCasts_S256x64x128_S16384x128

theorem tabV_up (p : S256x128.Idx → ℝ) (q : S64x128.Idx → ℝ) : tabV (up p) (up q)
    = up (S := S16384x128) fun i => if (i 1).val % 64 < 32 then p (ix2 ⟨(i 0).val / 64, by have := (i 0).isLt; show _ < 256; change _ < 16384 at this; omega⟩ (i 1))
        else q (ix2 ⟨(i 0).val % 64, by show _ < 64; omega⟩ (i 1)) := by
  change (_ : S16384x128.Idx → EReal) = _
  funext i
  idx_vars i
  unfold tabV
  pointwise
  rw [byRow_apply]
  show _ = (((if i1.val % 64 < 32 then _ else _ : ℝ)) : EReal)
  split_ifs
  · rfl
  · rfl

/-- The rows' values in the first half of each axis, zero in the second; -/
def keepR (p q : FVec Ideal S256x128 .f32) : FVec Ideal S256x128 .f32 := select (broadcastInDim S256x128 ![0, 1] bcast_S1x128_S256x128_0_1 first) p q
/-- and the columns'. -/
def keepC (p q : FVec Ideal S64x128 .f32) : FVec Ideal S64x128 .f32 := select (broadcastInDim S64x128 ![0, 1] bcast_S1x128_S64x128_0_1 first) p q
/-- Zeros, -/
def zeroR : FVec Ideal S256x128 .f32 := broadcastInDim S256x128 ![] bcast_S_S256x128 (id (constant S_ .f32 0x00000000#32))
/-- and zeros. -/
def zeroC : FVec Ideal S64x128 .f32 := broadcastInDim S64x128 ![] bcast_S_S64x128 (id (constant S_ .f32 0x00000000#32))

theorem zeroR_up : zeroR = up (S := S256x128) fun _ => 0 := by
  change (_ : S256x128.Idx → EReal) = _
  funext i
  idx_vars i
  unfold zeroR
  pointwise
  exact ofBits_zero
theorem zeroC_up : zeroC = up (S := S64x128) fun _ => 0 := by
  change (_ : S64x128.Idx → EReal) = _
  funext i
  idx_vars i
  unfold zeroC
  pointwise
  exact ofBits_zero
theorem keepR_up (p q : S256x128.Idx → ℝ) : keepR (up p) (up q) = up (S := S256x128) fun i => if (i 1).val % 32 < 16 then p i else q i := by
  change (_ : S256x128.Idx → EReal) = _
  funext i
  idx_vars i
  unfold keepR
  pointwise
  rw [first_apply]
  show _ = (((if i1.val % 32 < 16 then _ else _ : ℝ)) : EReal)
  split_ifs
  · rfl
  · rfl
theorem keepC_up (p q : S64x128.Idx → ℝ) : keepC (up p) (up q) = up (S := S64x128) fun i => if (i 1).val % 32 < 16 then p i else q i := by
  change (_ : S64x128.Idx → EReal) = _
  funext i
  idx_vars i
  unfold keepC
  pointwise
  rw [first_apply]
  show _ = (((if i1.val % 32 < 16 then _ else _ : ℝ)) : EReal)
  split_ifs
  · rfl
  · rfl

/-- The table of cosines, -/
def cosV : FVec Ideal S16384x128 .f32 := tabV (Host.cos (angR freqL)) (Host.cos (angC freqL))
/-- of the sines negated, -/
def saV : FVec Ideal S16384x128 .f32 := tabV (keepR (Host.negf (Host.sin (angR freqL))) zeroR) (keepC (Host.negf (Host.sin (angC freqL))) zeroC)
/-- and of the sines. -/
def sbV : FVec Ideal S16384x128 .f32 := tabV (keepR zeroR (Host.sin (angR freqL))) (keepC zeroC (Host.sin (angC freqL)))

/-- The angles by tokens. -/
theorem pos_row (s : Fin 16384) (l : Fin 128) (h : l.val % 64 < 32) : pos s (ax (pl l)) = ((s.val / 64 : ℕ) : ℝ) :=
  if_pos (by show l.val % 64 / 32 = 0; omega)
theorem pos_col (s : Fin 16384) (l : Fin 128) (h : ¬l.val % 64 < 32) : pos s (ax (pl l)) = ((s.val % 64 : ℕ) : ℝ) :=
  if_neg (by show ¬l.val % 64 / 32 = 0; omega)

theorem cos_R : (Host.cos (angR freqL) : FVec Ideal S256x128 .f32) = up (S := S256x128) fun i => Real.cos (((i 0).val : ℝ) * freq (fr (pl (i 1)))) := by
  rw [freqL_up, angR_up]
  rfl
theorem cos_C : (Host.cos (angC freqL) : FVec Ideal S64x128 .f32) = up (S := S64x128) fun i => Real.cos (((i 0).val : ℝ) * freq (fr (pl (i 1)))) := by
  rw [freqL_up, angC_up]
  rfl
theorem sin_R : (Host.sin (angR freqL) : FVec Ideal S256x128 .f32) = up (S := S256x128) fun i => Real.sin (((i 0).val : ℝ) * freq (fr (pl (i 1)))) := by
  rw [freqL_up, angR_up]
  rfl
theorem sin_C : (Host.sin (angC freqL) : FVec Ideal S64x128 .f32) = up (S := S64x128) fun i => Real.sin (((i 0).val : ℝ) * freq (fr (pl (i 1)))) := by
  rw [freqL_up, angC_up]
  rfl
theorem neg_R (p : S256x128.Idx → ℝ) : (Host.negf (up p) : FVec Ideal S256x128 .f32) = up fun i => -p i := rfl
theorem neg_C (p : S64x128.Idx → ℝ) : (Host.negf (up p) : FVec Ideal S64x128 .f32) = up fun i => -p i := rfl

/-- The table of cosines holds the lanes' cosines; -/
theorem cosV_up : cosV = up (S := S16384x128) fun i => cosL (i 0) (i 1) := by
  unfold cosV
  rw [cos_R, cos_C, tabV_up]
  refine congrArg (up (S := S16384x128)) ?_
  funext i
  idx_vars i
  show (if i1.val % 64 < 32 then Real.cos (((i0.val / 64 : ℕ) : ℝ) * freq (fr (pl i1))) else Real.cos (((i0.val % 64 : ℕ) : ℝ) * freq (fr (pl i1)))) = cosT i0 (ax (pl i1)) (fr (pl i1))
  unfold cosT
  split_ifs with h
  · rw [pos_row _ _ h]
  · rw [pos_col _ _ h]

/-- the second table the negated sines; -/
theorem saV_up : saV = up (S := S16384x128) fun i => sinA (i 0) (i 1) := by
  unfold saV
  rw [sin_R, sin_C, neg_R, neg_C, zeroR_up, zeroC_up, keepR_up, keepC_up, tabV_up]
  refine congrArg (up (S := S16384x128)) ?_
  funext i
  idx_vars i
  show (if i1.val % 64 < 32 then (if i1.val % 32 < 16 then -Real.sin (((i0.val / 64 : ℕ) : ℝ) * freq (fr (pl i1))) else 0)
    else (if i1.val % 32 < 16 then -Real.sin (((i0.val % 64 : ℕ) : ℝ) * freq (fr (pl i1))) else 0)) = if i1.val % 32 < 16 then -sinT i0 (ax (pl i1)) (fr (pl i1)) else 0
  unfold sinT
  by_cases h : i1.val % 64 < 32
  · rw [if_pos h, pos_row _ _ h]
  · rw [if_neg h, pos_col _ _ h]

/-- and the third the sines. -/
theorem sbV_up : sbV = up (S := S16384x128) fun i => sinB (i 0) (i 1) := by
  unfold sbV
  rw [sin_R, sin_C, zeroR_up, zeroC_up, keepR_up, keepC_up, tabV_up]
  refine congrArg (up (S := S16384x128)) ?_
  funext i
  idx_vars i
  show (if i1.val % 64 < 32 then (if i1.val % 32 < 16 then 0 else Real.sin (((i0.val / 64 : ℕ) : ℝ) * freq (fr (pl i1))))
    else (if i1.val % 32 < 16 then 0 else Real.sin (((i0.val % 64 : ℕ) : ℝ) * freq (fr (pl i1))))) = if i1.val % 32 < 16 then 0 else sinT i0 (ax (pl i1)) (fr (pl i1))
  unfold sinT
  by_cases h : i1.val % 64 < 32
  · rw [if_pos h, pos_row _ _ h]
  · rw [if_neg h, pos_col _ _ h]

end lanes

/-! ## What the host leaves -/

section host
variable (m : (ℓ : Loc nD τ sig) → Buf (Elt Ideal) ℓ) (c : Dev nD)

/-- The rows' and the columns' values joined by the lanes' axes. -/
def tab3 (b : IVec S1x1x128 1) (p : FVec Ideal S256x128 .f32) (q : FVec Ideal S64x128 .f32) : FVec Ideal S256x64x128 .f32 :=
  select (broadcastInDim S256x64x128 ![0, 1, 2] bcast_S1x1x128_S256x64x128_0_1_2 b)
    (broadcastInDim S256x64x128 ![0, 1, 2] bcast_S256x1x128_S256x64x128_0_1_2 (broadcastInDim S256x1x128 ![0, 2] bcast_S256x128_S256x1x128_0_2 p))
    (broadcastInDim S256x64x128 ![0, 1, 2] bcast_S1x64x128_S256x64x128_0_1_2 (broadcastInDim S1x64x128 ![1, 2] bcast_S64x128_S1x64x128_1_2 q))
/-- The rows' values kept by a mask of lanes. -/
def maskR (b : IVec S1x128 1) (p q : FVec Ideal S256x128 .f32) : FVec Ideal S256x128 .f32 := select (broadcastInDim S256x128 ![0, 1] bcast_S1x128_S256x128_0_1 b) p q
/-- The columns' values kept by a mask of lanes. -/
def maskC (b : IVec S1x128 1) (p q : FVec Ideal S64x128 .f32) : FVec Ideal S64x128 .f32 := select (broadcastInDim S64x128 ![0, 1] bcast_S1x128_S64x128_0_1 b) p q

theorem V_first : (V m c main_v23 : S1x128.Idx → BitVec 1) = first := by
  after_reads_simp
  rfl
theorem V_byRow : (V m c main_v19 : S1x1x128.Idx → BitVec 1) = byRow := by
  after_reads_simp
  rfl
theorem V_sinR : (V m c main_v34 : S256x128.Idx → EReal) = Host.sin (F := Ideal) (angR freqL) := by
  after_reads_simp
  rfl
theorem V_sinC : (V m c main_v35 : S64x128.Idx → EReal) = Host.sin (F := Ideal) (angC freqL) := by
  after_reads_simp
  rfl
theorem V_cosR : (V m c main_v36 : S256x128.Idx → EReal) = Host.cos (F := Ideal) (angR freqL) := by
  after_reads_simp
  rfl
theorem V_cosC : (V m c main_v37 : S64x128.Idx → EReal) = Host.cos (F := Ideal) (angC freqL) := by
  after_reads_simp
  rfl
theorem V_40 : (V m c main_v40 : S256x64x128.Idx → EReal) = tab3 (V m c main_v19) (V m c main_v36) (V m c main_v37) := by
  after_reads_simp
  rfl
theorem V_41 : (V m c main_v41 : S16384x128.Idx → EReal) = shapeCast S16384x128 (V m c main_v40 : S256x64x128.Idx → EReal) shapeCasts_S256x64x128_S16384x128 := by
  after_reads_simp
  rfl
theorem V_43 : (V m c main_v43 : S256x128.Idx → EReal) = maskR (V m c main_v23) (Host.negf (F := Ideal) (φ := .f32) (V m c main_v34 : S256x128.Idx → EReal)) zeroR := by
  after_reads_simp
  rfl
theorem V_45 : (V m c main_v45 : S64x128.Idx → EReal) = maskC (V m c main_v23) (Host.negf (F := Ideal) (φ := .f32) (V m c main_v35 : S64x128.Idx → EReal)) zeroC := by
  after_reads_simp
  rfl
theorem V_48 : (V m c main_v48 : S256x64x128.Idx → EReal) = tab3 (V m c main_v19) (V m c main_v43) (V m c main_v45) := by
  after_reads_simp
  rfl
theorem V_49 : (V m c main_v49 : S16384x128.Idx → EReal) = shapeCast S16384x128 (V m c main_v48 : S256x64x128.Idx → EReal) shapeCasts_S256x64x128_S16384x128 := by
  after_reads_simp
  rfl
theorem V_50 : (V m c main_v50 : S256x128.Idx → EReal) = maskR (V m c main_v23) zeroR (V m c main_v34) := by
  after_reads_simp
  rfl
theorem V_51 : (V m c main_v51 : S64x128.Idx → EReal) = maskC (V m c main_v23) zeroC (V m c main_v35) := by
  after_reads_simp
  rfl
theorem V_54 : (V m c main_v54 : S256x64x128.Idx → EReal) = tab3 (V m c main_v19) (V m c main_v50) (V m c main_v51) := by
  after_reads_simp
  rfl
theorem V_55 : (V m c main_v55 : S16384x128.Idx → EReal) = shapeCast S16384x128 (V m c main_v54 : S256x64x128.Idx → EReal) shapeCasts_S256x64x128_S16384x128 := by
  after_reads_simp
  rfl

/-- The kernel's table of cosines, -/
theorem V_cos : (V m c main_v41 : S16384x128.Idx → EReal) = up (S := S16384x128) fun i => cosL (i 0) (i 1) :=
  (V_41 m c).trans ((by rw [V_40, V_byRow, V_cosR, V_cosC]; rfl : _ = cosV).trans cosV_up)
/-- of the sines negated, -/
theorem V_sa : (V m c main_v49 : S16384x128.Idx → EReal) = up (S := S16384x128) fun i => sinA (i 0) (i 1) :=
  (V_49 m c).trans ((by rw [V_48, V_byRow, V_43, V_45, V_first, V_sinR, V_sinC]; rfl : _ = saV).trans saV_up)
/-- and of the sines. -/
theorem V_sb : (V m c main_v55 : S16384x128.Idx → EReal) = up (S := S16384x128) fun i => sinB (i 0) (i 1) :=
  (V_55 m c).trans ((by rw [V_54, V_byRow, V_50, V_51, V_first, V_sinR, V_sinC]; rfl : _ = sbV).trans sbV_up)

/-- The gains on every lane, for the queries -/
theorem V_gq : (V m c main_v2 : S1x128.Idx → EReal) = broadcastInDim S1x128 ![1] bcast_S128_S1x128_1
    (concatenate S128 0 [⟨S64, (m ((c.tc : Thread nD τ).loc main_arg1) : S64.Idx → EReal)⟩, ⟨S64, m ((c.tc : Thread nD τ).loc main_arg1)⟩] concatenates_S64_S64_S128_d0) := by
  after_reads_simp
  rfl
/-- and for the keys. -/
theorem V_gk : (V m c main_v4 : S1x128.Idx → EReal) = broadcastInDim S1x128 ![1] bcast_S128_S1x128_1
    (concatenate S128 0 [⟨S64, (m ((c.tc : Thread nD τ).loc main_arg2) : S64.Idx → EReal)⟩, ⟨S64, m ((c.tc : Thread nD τ).loc main_arg2)⟩] concatenates_S64_S64_S128_d0) := by
  after_reads_simp
  rfl
/-- The projections as the kernel reads them. -/
theorem V_proj : (V m c main_v0 : S16384x2048.Idx → EReal) = m ((c.tc : Thread nD τ).loc main_arg0) := by
  after_reads_simp
  rfl

/-- A gain's two copies side by side. -/
theorem two_apply (g : S64.Idx → ℝ) : (broadcastInDim S1x128 ![1] bcast_S128_S1x128_1
    (concatenate S128 0 [⟨S64, (up g : S64.Idx → EReal)⟩, ⟨S64, (up g : S64.Idx → EReal)⟩] concatenates_S64_S64_S128_d0) : S1x128.Idx → EReal)
      = up (S := S1x128) fun i => two g (i 1) := by
  change (_ : S1x128.Idx → EReal) = _
  funext i
  idx_vars i
  pointwise
  split_ifs with h <;> first | contradiction | skip
  · refine congrArg (fun r : ℝ => (r : EReal)) (congrArg g (congrArg ix1 (Fin.ext ?_)))
    show i1.val = i1.val % 64
    omega
  · refine congrArg (fun r : ℝ => (r : EReal)) (congrArg g (congrArg ix1 (Fin.ext ?_)))
    show i1.val - 64 = i1.val % 64
    omega
end host

end Cert.DprojIdeal.Value
end
-- ==== Proof.DprojKer.lean ====
module
public import proofs.«01_k».proof.Proof.DprojBody
public import proofs.«01_k».proof.Proof.DprojTab

/-! The kernel that gathers the gradient of the projections and undoes the rotary positions and norms of queries and keys,
    read on real numbers. -/

@[expose] public section

set_option maxRecDepth 16384

noncomputable section

namespace Cert.DprojIdeal.Value
open Cert.DprojIdeal Cert.DprojIdeal.Gen Idealize.ShloMosaic Idealize.ShloMosaic.TcCoe Idealize.SL.Sem Cert.Finite Cert.DprojSpec
open NormSpec (up)

/-- Row `r` of the block that point `n` works on. -/
def row (n : Fin cfg0.N) (r : Fin 512) : Fin 16384 :=
  ⟨n.val * 512 + r.val, by have h : n.val < 32 := lt_of_lt_of_eq n.isLt N_0; omega⟩

/-! ## The body's stores in terms of the stages -/

section chunks
variable (x : FVec Ideal S512x128 .bf16) (d c a b : FVec Ideal S512x128 .f32) (g v : FVec Ideal S1x128 .f32)

theorem pay10 : k0_pay10 c = c := shapeCast_self _ _
theorem pay11 : k0_pay11 c = c := shapeCast_self _ _
theorem pay12 : k0_pay12 c = c := shapeCast_self _ _
theorem pay14 : k0_pay14 g = g := shapeCast_self _ _
theorem pay34 : k0_pay34 g = g := shapeCast_self _ _
theorem pay46 : k0_pay46 g = g := shapeCast_self _ _
theorem pay13 : k0_pay13 x = extf .f32 x bitsLt_bf16_f32 := congrArg (extf .f32 · bitsLt_bf16_f32) (shapeCast_self x _)
theorem pay24 : k0_pay24 x = extf .f32 x bitsLt_bf16_f32 := congrArg (extf .f32 · bitsLt_bf16_f32) (shapeCast_self x _)
theorem pay33 : k0_pay33 x = extf .f32 x bitsLt_bf16_f32 := congrArg (extf .f32 · bitsLt_bf16_f32) (shapeCast_self x _)
theorem pay45 : k0_pay45 x = extf .f32 x bitsLt_bf16_f32 := congrArg (extf .f32 · bitsLt_bf16_f32) (shapeCast_self x _)

/-- The first chunk of queries, -/
theorem chunk0 : k0_pay22 (k0_pay13 x) (k0_pay14 g) (k0_pay15 c a b d) k0_pay17 (k0_pay18 x) (k0_pay19 x)
    = dxV (extf .f32 x bitsLt_bf16_f32) d c a b g := by
  unfold k0_pay15 k0_pay18 k0_pay19 k0_pay16
  rw [pay13, pay14, pay10, pay11, pay12]
  rfl
/-- the second, -/
theorem chunk1 : k0_pay31 (k0_pay26 x) (k0_pay27 x) (k0_pay29 (k0_pay10 c) (k0_pay11 a) (k0_pay12 b) d g) (k0_pay30 (k0_pay10 c) (k0_pay11 a) (k0_pay12 b) x d g)
    = dxV (extf .f32 x bitsLt_bf16_f32) d c a b g := by
  unfold k0_pay30 k0_pay29 k0_pay27 k0_pay26
  rw [pay24, pay10, pay11, pay12]
  simp only [shapeCast_self g]
  rfl
/-- the third; -/
theorem chunk2 : k0_pay43 (k0_pay38 (k0_pay33 x)) (k0_pay39 (k0_pay33 x))
      (k0_pay41 (k0_pay34 g) (k0_pay35 (k0_pay10 c) (k0_pay11 a) d) (k0_pay36 (k0_pay12 b) d) 112#32)
      (k0_pay42 (k0_pay33 x) (k0_pay34 g) (k0_pay35 (k0_pay10 c) (k0_pay11 a) d) (k0_pay36 (k0_pay12 b) d) 112#32)
    = dxV (extf .f32 x bitsLt_bf16_f32) d c a b g := by
  rw [pay33, pay34, pay10, pay11, pay12]
  rfl
/-- the chunk of keys. -/
theorem chunk3 : k0_pay54 (k0_pay45 x) (k0_pay46 g) (k0_pay47 (k0_pay10 c) (k0_pay11 a) (k0_pay12 b) d) k0_pay49 (k0_pay50 x) (k0_pay51 x)
    = dxV (extf .f32 x bitsLt_bf16_f32) d c a b g := by
  unfold k0_pay50 k0_pay51 k0_pay48
  rw [pay45, pay46, pay10, pay11, pay12]
  rfl

/-- What the chunks add to the gradient of the gains. -/
theorem gain0 : k0_pay23 (k0_pay13 x) (k0_pay15 c a b d) k0_pay17 (k0_pay18 x) (k0_pay19 x) v = addf v (dgV (extf .f32 x bitsLt_bf16_f32) d c a b) := by
  unfold k0_pay23 k0_pay15 k0_pay18 k0_pay19 k0_pay16
  rw [pay13, pay10, pay11, pay12]
  simp only [shapeCast_self v]
  rfl
theorem gain1 : k0_pay32 (k0_pay28 (k0_pay10 c) (k0_pay11 a) (k0_pay12 b) x d) v = addf v (dgV (extf .f32 x bitsLt_bf16_f32) d c a b) := by
  unfold k0_pay32 k0_pay28 k0_pay27 k0_pay26
  rw [pay24, pay10, pay11, pay12]
  simp only [shapeCast_self v]
  rfl
theorem gain2 : k0_pay44 (k0_pay40 (k0_pay33 x) (k0_pay35 (k0_pay10 c) (k0_pay11 a) d) (k0_pay36 (k0_pay12 b) d) 112#32) v
    = addf v (dgV (extf .f32 x bitsLt_bf16_f32) d c a b) := by
  unfold k0_pay44
  rw [pay33, pay10, pay11, pay12]
  simp only [shapeCast_self v]
  rfl
theorem gain3 : k0_pay55 (k0_pay45 x) (k0_pay47 (k0_pay10 c) (k0_pay11 a) (k0_pay12 b) d) k0_pay49 (k0_pay50 x) (k0_pay51 x) v
    = addf v (dgV (extf .f32 x bitsLt_bf16_f32) d c a b) := by
  unfold k0_pay55 k0_pay50 k0_pay51 k0_pay48
  rw [pay45, pay10, pay11, pay12]
  simp only [shapeCast_self v]
  rfl

end chunks

/-! ## Columns of a block -/

section columns

/-- A block's columns from `lo` on. -/
theorem ld_cols {w : ℕ} (W lo : ℕ) (h : ∀ a, (![0, lo] : Fin 2 → ℕ) a + (![512, w] : Fin 2 → ℕ) a ≤ (⟨2, ![512, W]⟩ : Shape).size a) (hw : lo + w ≤ W) {e : EltTy}
    (f : Shape.Idx ⟨2, ![512, W]⟩ → Elt Ideal e) (i : Fin 512) (j : Fin w) :
    View.ld (Val := Elt Ideal) (e' := e) f (Rect.unit (s := ⟨2, ![512, W]⟩) ![0, lo] ![512, w] h) (ix2 i j) = f (ix2 i ⟨lo + j.val, by omega⟩) := by
  show f _ = _
  refine congrArg f ?_
  funext a; refine Fin.ext ?_; revert a
  refine Fin.forall_fin_two.2 ⟨?_, ?_⟩
  · show 0 + 1 * i.val = i.val; omega
  · show lo + 1 * j.val = lo + j.val; omega

variable (lo w : ℕ) (h : ∀ a, (![0, lo] : Fin 2 → ℕ) a + (![512, w] : Fin 2 → ℕ) a ≤ S512x2048.size a)
  (p : (Rect.unit (s := S512x2048) ![0, lo] ![512, w] h).shape.Idx → Elt Ideal .bf16) (L : List (View.Piece (Elt Ideal) S512x2048 .bf16))

/-- A column that the last store left alone, -/
theorem canon_off (i : Fin 512) (j : Fin 2048) (hj : ¬(lo ≤ j.val ∧ j.val < lo + w)) :
    View.canon (⟨Rect.unit (s := S512x2048) ![0, lo] ![512, w] h, p⟩ :: L) (ix2 i j) = View.canon L (ix2 i j) := by
  refine View.canon_cons_of_not_mem ⟨Rect.unit (s := S512x2048) ![0, lo] ![512, w] h, p⟩ L ?_
  rw [Rect.mem_set_unit]
  intro q
  exact hj (q 1)

/-- and one that it wrote. -/
theorem canon_on (i : Fin 512) (j : Fin 2048) (k : Fin w) (hk : j.val = lo + k.val) :
    View.canon (⟨Rect.unit (s := S512x2048) ![0, lo] ![512, w] h, p⟩ :: L) (ix2 i j) = p (ix2 i k) := by
  have e : (ix2 i j : S512x2048.Idx) = (Rect.unit (s := S512x2048) ![0, lo] ![512, w] h).emb (ix2 i k) := by
    funext a; refine Fin.ext ?_; revert a
    refine Fin.forall_fin_two.2 ⟨?_, ?_⟩
    · show i.val = 0 + 1 * i.val; omega
    · show j.val = lo + 1 * k.val; omega
  rw [e]
  exact View.canon_cons_emb _ _ _ _
end columns

/-! ## The blocks -/

section blocks
variable (m : (ℓ : Loc nD τ sig) → Buf (Elt Ideal) ℓ) (c : Dev nD)

/-- The inputs of the run as arrays of real numbers; the cotangents that are only gathered stay as they are. -/
structure Inputs where
  P : S16384x2048.Idx → ℝ
  g : S64.Idx → ℝ
  gk : S64.Idx → ℝ
  dq : S16384x384.Idx → ℝ
  dk : S16384x128.Idx → ℝ
  hP : m ((c.tc : Thread nD τ).loc main_arg0) = up (S := S16384x2048) P
  hg : m ((c.tc : Thread nD τ).loc main_arg1) = up (S := S64) g
  hgk : m ((c.tc : Thread nD τ).loc main_arg2) = up (S := S64) gk
  hdq : m ((c.tc : Thread nD τ).loc main_arg13) = up (S := S16384x384) dq
  hdk : m ((c.tc : Thread nD τ).loc main_arg14) = up (S := S16384x128) dk

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] ∧ win0_16.index t = ![t.val, 0] ∧ win0_17.index t = ![t.val, 0] ∧ win0_18.index t = ![t.val, 0]
    ∧ win0_19.index t = ![t.val, 0] :=
  (by decide +kernel : ∀ t : Fin grid0.N, _)

theorem emb0 (n : Fin cfg0.N) (i : Fin 512) (j : Fin 2048) : (win0_0.blk n).view.emb (ix2 i j) = ix2 (row n i) j := by
  unfold row
  blk_ext [idx n]
theorem emb19 (n : Fin cfg0.N) (i : Fin 512) (j : Fin 2048) : (win0_19.blk n).view.emb (ix2 i j) = ix2 (row n i) j := by
  unfold row
  blk_ext [idx n]
theorem emb14 (n : Fin cfg0.N) (i : Fin 1) (j : Fin 128) : (win0_14.blk n).view.emb (ix2 i j) = ix2 i j := by
  blk_ext [idx n]
theorem emb15 (n : Fin cfg0.N) (i : Fin 1) (j : Fin 128) : (win0_15.blk n).view.emb (ix2 i j) = ix2 i j := by
  blk_ext [idx n]
theorem emb16 (n : Fin cfg0.N) (i : Fin 512) (j : Fin 128) : (win0_16.blk n).view.emb (ix2 i j) = ix2 (row n i) j := by
  unfold row
  blk_ext [idx n]
theorem emb17 (n : Fin cfg0.N) (i : Fin 512) (j : Fin 128) : (win0_17.blk n).view.emb (ix2 i j) = ix2 (row n i) j := by
  unfold row
  blk_ext [idx n]
theorem emb18 (n : Fin cfg0.N) (i : Fin 512) (j : Fin 128) : (win0_18.blk n).view.emb (ix2 i j) = ix2 (row n i) j := by
  unfold row
  blk_ext [idx n]

/-- The windows on what the host prepared read their arrays at the blocks' places. -/
theorem read0 (f : (b : Ref sig .tc) → Buf (Elt Ideal) ((c : Thread nD τ).loc b)) (t : Fin cfg0.N) (z : S512x2048.Idx) :
    (((cfg0.win 0).blk t).view.read (Elt Ideal) (f (Pipeline.arrRef spec0 0)) : S512x2048.Idx → EReal) z = (f main_v0 : S16384x2048.Idx → EReal) ((win0_0.blk t).view.emb z) := rfl
theorem read14 (f : (b : Ref sig .tc) → Buf (Elt Ideal) ((c : Thread nD τ).loc b)) (t : Fin cfg0.N) (z : S1x128.Idx) :
    (((cfg0.win 14).blk t).view.read (Elt Ideal) (f (Pipeline.arrRef spec0 14)) : S1x128.Idx → EReal) z = (f main_v2 : S1x128.Idx → EReal) ((win0_14.blk t).view.emb z) := rfl
theorem read15 (f : (b : Ref sig .tc) → Buf (Elt Ideal) ((c : Thread nD τ).loc b)) (t : Fin cfg0.N) (z : S1x128.Idx) :
    (((cfg0.win 15).blk t).view.read (Elt Ideal) (f (Pipeline.arrRef spec0 15)) : S1x128.Idx → EReal) z = (f main_v4 : S1x128.Idx → EReal) ((win0_15.blk t).view.emb z) := rfl
theorem read16 (f : (b : Ref sig .tc) → Buf (Elt Ideal) ((c : Thread nD τ).loc b)) (t : Fin cfg0.N) (z : S512x128.Idx) :
    (((cfg0.win 16).blk t).view.read (Elt Ideal) (f (Pipeline.arrRef spec0 16)) : S512x128.Idx → EReal) z = (f main_v41 : S16384x128.Idx → EReal) ((win0_16.blk t).view.emb z) := rfl
theorem read17 (f : (b : Ref sig .tc) → Buf (Elt Ideal) ((c : Thread nD τ).loc b)) (t : Fin cfg0.N) (z : S512x128.Idx) :
    (((cfg0.win 17).blk t).view.read (Elt Ideal) (f (Pipeline.arrRef spec0 17)) : S512x128.Idx → EReal) z = (f main_v49 : S16384x128.Idx → EReal) ((win0_17.blk t).view.emb z) := rfl
theorem read18 (f : (b : Ref sig .tc) → Buf (Elt Ideal) ((c : Thread nD τ).loc b)) (t : Fin cfg0.N) (z : S512x128.Idx) :
    (((cfg0.win 18).blk t).view.read (Elt Ideal) (f (Pipeline.arrRef spec0 18)) : S512x128.Idx → EReal) z = (f main_v55 : S16384x128.Idx → EReal) ((win0_18.blk t).view.emb z) := rfl

theorem block16 (n : Fin cfg0.N) : iblk m c 16 n = up (S := S512x128) fun i => cosL (row n (i 0)) (i 1) := by
  change (_ : S512x128.Idx → EReal) = _
  funext y
  idx_vars y
  refine (read16 c (V m c) n _).trans ?_
  rw [emb16]
  exact congrFun (V_cos m c) _
theorem block17 (n : Fin cfg0.N) : iblk m c 17 n = up (S := S512x128) fun i => sinA (row n (i 0)) (i 1) := by
  change (_ : S512x128.Idx → EReal) = _
  funext y
  idx_vars y
  refine (read17 c (V m c) n _).trans ?_
  rw [emb17]
  exact congrFun (V_sa m c) _
theorem block18 (n : Fin cfg0.N) : iblk m c 18 n = up (S := S512x128) fun i => sinB (row n (i 0)) (i 1) := by
  change (_ : S512x128.Idx → EReal) = _
  funext y
  idx_vars y
  refine (read18 c (V m c) n _).trans ?_
  rw [emb18]
  exact congrFun (V_sb m c) _

/-- The gathered cotangents' blocks. -/
theorem block1 (n : Fin cfg0.N) : iblk m c 1 n = fun y : S512x256.Idx => (m ((c.tc : Thread nD τ).loc main_arg3) : S16384x256.Idx → EReal) (ix2 (row n (y 0)) (y 1)) := by
  change (_ : S512x256.Idx → EReal) = _
  funext y
  idx_vars y
  unfold row
  blk_ext [iblk, V, idx n]
theorem block2 (n : Fin cfg0.N) : iblk m c 2 n = fun y : S512x256.Idx => (m ((c.tc : Thread nD τ).loc main_arg4) : S16384x256.Idx → EReal) (ix2 (row n (y 0)) (y 1)) := by
  change (_ : S512x256.Idx → EReal) = _
  funext y
  idx_vars y
  unfold row
  blk_ext [iblk, V, idx n]
theorem block3 (n : Fin cfg0.N) : iblk m c 3 n = fun y : S512x256.Idx => (m ((c.tc : Thread nD τ).loc main_arg5) : S16384x256.Idx → EReal) (ix2 (row n (y 0)) (y 1)) := by
  change (_ : S512x256.Idx → EReal) = _
  funext y
  idx_vars y
  unfold row
  blk_ext [iblk, V, idx n]
theorem block4 (n : Fin cfg0.N) : iblk m c 4 n = fun y : S512x256.Idx => (m ((c.tc : Thread nD τ).loc main_arg6) : S16384x256.Idx → EReal) (ix2 (row n (y 0)) (y 1)) := by
  change (_ : S512x256.Idx → EReal) = _
  funext y
  idx_vars y
  unfold row
  blk_ext [iblk, V, idx n]
theorem block5 (n : Fin cfg0.N) : iblk m c 5 n = fun y : S512x256.Idx => (m ((c.tc : Thread nD τ).loc main_arg7) : S16384x256.Idx → EReal) (ix2 (row n (y 0)) (y 1)) := by
  change (_ : S512x256.Idx → EReal) = _
  funext y
  idx_vars y
  unfold row
  blk_ext [iblk, V, idx n]
theorem block6 (n : Fin cfg0.N) : iblk m c 6 n = fun y : S512x384.Idx => (m ((c.tc : Thread nD τ).loc main_arg8) : S16384x384.Idx → EReal) (ix2 (row n (y 0)) (y 1)) := by
  change (_ : S512x384.Idx → EReal) = _
  funext y
  idx_vars y
  unfold row
  blk_ext [iblk, V, idx n]
theorem block7 (n : Fin cfg0.N) : iblk m c 7 n = fun y : S512x128.Idx => (m ((c.tc : Thread nD τ).loc main_arg9) : S16384x128.Idx → EReal) (ix2 (row n (y 0)) (y 1)) := by
  change (_ : S512x128.Idx → EReal) = _
  funext y
  idx_vars y
  unfold row
  blk_ext [iblk, V, idx n]
theorem block8 (n : Fin cfg0.N) : iblk m c 8 n = fun y : S512x128.Idx => (m ((c.tc : Thread nD τ).loc main_arg10) : S16384x128.Idx → EReal) (ix2 (row n (y 0)) (y 1)) := by
  change (_ : S512x128.Idx → EReal) = _
  funext y
  idx_vars y
  unfold row
  blk_ext [iblk, V, idx n]
theorem block9 (n : Fin cfg0.N) : iblk m c 9 n = fun y : S512x128.Idx => (m ((c.tc : Thread nD τ).loc main_arg11) : S16384x128.Idx → EReal) (ix2 (row n (y 0)) (y 1)) := by
  change (_ : S512x128.Idx → EReal) = _
  funext y
  idx_vars y
  unfold row
  blk_ext [iblk, V, idx n]
theorem block10 (n : Fin cfg0.N) : iblk m c 10 n = fun y : S512x128.Idx => (m ((c.tc : Thread nD τ).loc main_arg12) : S16384x128.Idx → EReal) (ix2 (row n (y 0)) (y 1)) := by
  change (_ : S512x128.Idx → EReal) = _
  funext y
  idx_vars y
  unfold row
  blk_ext [iblk, V, idx n]
theorem block13 (n : Fin cfg0.N) : iblk m c 13 n = fun y : S512x128.Idx => (m ((c.tc : Thread nD τ).loc main_arg15) : S16384x128.Idx → EReal) (ix2 (row n (y 0)) (y 1)) := by
  change (_ : S512x128.Idx → EReal) = _
  funext y
  idx_vars y
  unfold row
  blk_ext [iblk, V, idx n]

variable {m c} (H : Inputs m c)
include H

theorem block0 (n : Fin cfg0.N) : iblk m c 0 n = up (S := S512x2048) fun y => H.P (ix2 (row n (y 0)) (y 1)) := by
  change (_ : S512x2048.Idx → EReal) = _
  funext y
  idx_vars y
  refine (read0 c (V m c) n _).trans ?_
  rw [emb0]
  exact (congrFun (V_proj m c) _).trans (congrFun H.hP _)
theorem block14 (n : Fin cfg0.N) : iblk m c 14 n = up (S := S1x128) fun y => two H.g (y 1) := by
  change (_ : S1x128.Idx → EReal) = _
  funext y
  idx_vars y
  refine (read14 c (V m c) n _).trans ?_
  rw [emb14, V_gq, H.hg]
  exact congrFun (two_apply H.g) _
theorem block15 (n : Fin cfg0.N) : iblk m c 15 n = up (S := S1x128) fun y => two H.gk (y 1) := by
  change (_ : S1x128.Idx → EReal) = _
  funext y
  idx_vars y
  refine (read15 c (V m c) n _).trans ?_
  rw [emb15, V_gk, H.hgk]
  exact congrFun (two_apply H.gk) _
theorem block11 (n : Fin cfg0.N) : iblk m c 11 n = up (S := S512x384) fun y => H.dq (ix2 (row n (y 0)) (y 1)) := by
  change (_ : S512x384.Idx → EReal) = _
  funext y
  idx_vars y
  have e := congrFun H.hdq
  refine Eq.trans ?_ (e _)
  unfold row
  blk_ext [iblk, V, idx n]
theorem block12 (n : Fin cfg0.N) : iblk m c 12 n = up (S := S512x128) fun y => H.dk (ix2 (row n (y 0)) (y 1)) := by
  change (_ : S512x128.Idx → EReal) = _
  funext y
  idx_vars y
  have e := congrFun H.hdk
  refine Eq.trans ?_ (e _)
  unfold row
  blk_ext [iblk, V, idx n]

end blocks

end Cert.DprojIdeal.Value
end
-- ==== Proof.DprojRow.lean ====
module
public import proofs.«01_k».proof.Proof.DprojKer

@[expose] public section

set_option maxRecDepth 16384

noncomputable section

namespace Cert.DprojIdeal.Value
open Cert.DprojIdeal Cert.DprojIdeal.Gen Idealize.ShloMosaic Idealize.ShloMosaic.TcCoe Idealize.SL.Sem Cert.Finite Cert.DprojSpec
open NormSpec (up)

/-! ## The gathered rows -/

theorem piece_in (lo w : ℕ) (v : Fin w → EReal) (j : Fin 2048) (k : Fin w) (hk : j.val = lo + k.val) : Cert.DprojSpec.piece lo w v j = v k := by
  have h : lo ≤ j.val ∧ j.val - lo < w := by have := k.isLt; omega
  refine (dif_pos h).trans (congrArg v (Fin.ext ?_))
  show j.val - lo = k.val; omega

section rows
variable (pv pk p2 p1 p0 pg pf : S512x128.Idx → Elt Ideal .bf16) (pe : S512x384.Idx → Elt Ideal .bf16) (pc pb pa : S512x256.Idx → Elt Ideal .bf16)

/-- The stores of one block: every part in its columns. -/
def stores : List (View.Piece (Elt Ideal) S512x2048 .bf16) :=
  [⟨Rect.unit ![0, 1920] ![512, 128] inb_S512x2048_S512x128_0_1920, pv⟩, ⟨Rect.unit ![0, 1792] ![512, 128] inb_S512x2048_S512x128_0_1792, pk⟩,
   ⟨Rect.unit ![0, 1664] ![512, 128] inb_S512x2048_S512x128_0_1664, p2⟩, ⟨Rect.unit ![0, 1536] ![512, 128] inb_S512x2048_S512x128_0_1536, p1⟩,
   ⟨Rect.unit ![0, 1408] ![512, 128] inb_S512x2048_S512x128_0_1408, p0⟩, ⟨Rect.unit ![0, 1280] ![512, 128] inb_S512x2048_S512x128_0_1280, pg⟩,
   ⟨Rect.unit ![0, 1152] ![512, 128] inb_S512x2048_S512x128_0_1152, pf⟩, ⟨Rect.unit ![0, 768] ![512, 384] inb_S512x2048_S512x384_0_768, pe⟩,
   ⟨Rect.unit ![0, 512] ![512, 256] inb_S512x2048_S512x256_0_512, pc⟩, ⟨Rect.unit ![0, 256] ![512, 256] inb_S512x2048_S512x256_0_256, pb⟩,
   ⟨Rect.unit ![0, 0] ![512, 256] inb_S512x2048_S512x256_0_0, pa⟩]

variable (vv vk vg vf : Fin 128 → EReal) (vq ve : Fin 384 → EReal) (vc vb va : Fin 256 → EReal)

theorem canon_row (i : Fin 512) (j : Fin 2048) (hv : ∀ k, (pv (ix2 i k) : EReal) = vv k) (hk : ∀ k, (pk (ix2 i k) : EReal) = vk k)
    (h2 : ∀ k : Fin 128, (p2 (ix2 i k) : EReal) = vq ⟨256 + k.val, by omega⟩) (h1 : ∀ k : Fin 128, (p1 (ix2 i k) : EReal) = vq ⟨128 + k.val, by omega⟩)
    (h0 : ∀ k : Fin 128, (p0 (ix2 i k) : EReal) = vq ⟨k.val, by omega⟩) (hg : ∀ k, (pg (ix2 i k) : EReal) = vg k) (hf : ∀ k, (pf (ix2 i k) : EReal) = vf k)
    (he : ∀ k, (pe (ix2 i k) : EReal) = ve k) (hc : ∀ k, (pc (ix2 i k) : EReal) = vc k) (hb : ∀ k, (pb (ix2 i k) : EReal) = vb k)
    (ha : ∀ k, (pa (ix2 i k) : EReal) = va k) :
    (View.canon (stores pv pk p2 p1 p0 pg pf pe pc pb pa) (ix2 i j) : EReal)
      = Cert.DprojSpec.piece 1920 128 vv j + Cert.DprojSpec.piece 1792 128 vk j + Cert.DprojSpec.piece 1408 384 vq j + Cert.DprojSpec.piece 1280 128 vg j
        + Cert.DprojSpec.piece 1152 128 vf j + Cert.DprojSpec.piece 768 384 ve j + Cert.DprojSpec.piece 512 256 vc j + Cert.DprojSpec.piece 256 256 vb j
        + Cert.DprojSpec.piece 0 256 va j := by
  have hj := j.isLt
  obtain h | h | h | h | h | h | h | h | h | h | h : j.val < 256 ∨ (256 ≤ j.val ∧ j.val < 512) ∨ (512 ≤ j.val ∧ j.val < 768)
      ∨ (768 ≤ j.val ∧ j.val < 1152) ∨ (1152 ≤ j.val ∧ j.val < 1280) ∨ (1280 ≤ j.val ∧ j.val < 1408) ∨ (1408 ≤ j.val ∧ j.val < 1536)
      ∨ (1536 ≤ j.val ∧ j.val < 1664) ∨ (1664 ≤ j.val ∧ j.val < 1792) ∨ (1792 ≤ j.val ∧ j.val < 1920) ∨ (1920 ≤ j.val) := by omega
  all_goals
    unfold stores
    simp (disch := omega) only [canon_off, piece_out, zero_add, add_zero]
  · have e : j.val = 0 + (⟨j.val, by omega⟩ : Fin 256).val := by show j.val = 0 + (j.val); omega
    exact (canon_on 0 256 _ _ _ i j _ e).trans ((ha _).trans (piece_in 0 256 _ j _ e).symm)
  · have e : j.val = 256 + (⟨j.val - 256, by omega⟩ : Fin 256).val := by show j.val = 256 + (j.val - 256); omega
    exact (canon_on 256 256 _ _ _ i j _ e).trans ((hb _).trans (piece_in 256 256 _ j _ e).symm)
  · have e : j.val = 512 + (⟨j.val - 512, by omega⟩ : Fin 256).val := by show j.val = 512 + (j.val - 512); omega
    exact (canon_on 512 256 _ _ _ i j _ e).trans ((hc _).trans (piece_in 512 256 _ j _ e).symm)
  · have e : j.val = 768 + (⟨j.val - 768, by omega⟩ : Fin 384).val := by show j.val = 768 + (j.val - 768); omega
    exact (canon_on 768 384 _ _ _ i j _ e).trans ((he _).trans (piece_in 768 384 _ j _ e).symm)
  · have e : j.val = 1152 + (⟨j.val - 1152, by omega⟩ : Fin 128).val := by show j.val = 1152 + (j.val - 1152); omega
    exact (canon_on 1152 128 _ _ _ i j _ e).trans ((hf _).trans (piece_in 1152 128 _ j _ e).symm)
  · have e : j.val = 1280 + (⟨j.val - 1280, by omega⟩ : Fin 128).val := by show j.val = 1280 + (j.val - 1280); omega
    exact (canon_on 1280 128 _ _ _ i j _ e).trans ((hg _).trans (piece_in 1280 128 _ j _ e).symm)
  · have e : j.val = 1408 + (⟨j.val - 1408, by omega⟩ : Fin 128).val := by show j.val = 1408 + (j.val - 1408); omega
    exact (canon_on 1408 128 _ _ _ i j _ e).trans ((h0 _).trans (piece_in 1408 384 vq j _ e).symm)
  · have e : j.val = 1536 + (⟨j.val - 1536, by omega⟩ : Fin 128).val := by show j.val = 1536 + (j.val - 1536); omega
    refine (canon_on 1536 128 _ _ _ i j _ e).trans ((h1 _).trans (piece_in 1408 384 vq j _ ?_).symm)
    show j.val = 1408 + (128 + (j.val - 1536)); omega
  · have e : j.val = 1664 + (⟨j.val - 1664, by omega⟩ : Fin 128).val := by show j.val = 1664 + (j.val - 1664); omega
    refine (canon_on 1664 128 _ _ _ i j _ e).trans ((h2 _).trans (piece_in 1408 384 vq j _ ?_).symm)
    show j.val = 1408 + (256 + (j.val - 1664)); omega
  · have e : j.val = 1792 + (⟨j.val - 1792, by omega⟩ : Fin 128).val := by show j.val = 1792 + (j.val - 1792); omega
    exact (canon_on 1792 128 _ _ _ i j _ e).trans ((hk _).trans (piece_in 1792 128 _ j _ e).symm)
  · have e : j.val = 1920 + (⟨j.val - 1920, by omega⟩ : Fin 128).val := by show j.val = 1920 + (j.val - 1920); omega
    exact (canon_on 1920 128 _ _ _ i j _ e).trans ((hv _).trans (piece_in 1920 128 _ j _ e).symm)
end rows

section columns
variable {m : (ℓ : Loc nD τ sig) → Buf (Elt Ideal) ℓ} {c : Dev nD} (H : Inputs m c) (n : Fin cfg0.N)
include H

/-- Chunk `p` of the queries of a block of projections, -/
theorem xq0 : (extf .f32 (View.ld (iblk m c 0 n) (Rect.unit ![0, 1408] ![512, 128] inb_S512x2048_S512x128_0_1408)) bitsLt_bf16_f32 : FVec Ideal S512x128 .f32)
    = up (S := S512x128) fun y => uq H.P 0 (row n (y 0)) (y 1) := by
  change (_ : S512x128.Idx → EReal) = _
  funext y; idx_vars y
  refine (ld_cols 2048 1408 inb_S512x2048_S512x128_0_1408 (by omega) (iblk m c 0 n) y0 y1).trans ?_
  rw [block0 H]
  show ((H.P (ix2 (row n y0) ⟨1408 + y1.val, _⟩) : ℝ) : EReal) = (H.P (ix2 (row n y0) ⟨1408 + (128 * 0 + y1.val), _⟩) : ℝ)
  simp only [Nat.mul_zero, Nat.zero_add]
theorem xq1 : (extf .f32 (View.ld (iblk m c 0 n) (Rect.unit ![0, 1536] ![512, 128] inb_S512x2048_S512x128_0_1536)) bitsLt_bf16_f32 : FVec Ideal S512x128 .f32)
    = up (S := S512x128) fun y => uq H.P 1 (row n (y 0)) (y 1) := by
  change (_ : S512x128.Idx → EReal) = _
  funext y; idx_vars y
  refine (ld_cols 2048 1536 inb_S512x2048_S512x128_0_1536 (by omega) (iblk m c 0 n) y0 y1).trans ?_
  rw [block0 H]
  show ((H.P (ix2 (row n y0) ⟨1536 + y1.val, _⟩) : ℝ) : EReal) = (H.P (ix2 (row n y0) ⟨1408 + (128 * 1 + y1.val), _⟩) : ℝ)
  simp only [Nat.mul_one, ← Nat.add_assoc]
theorem xq2 : (extf .f32 (View.ld (iblk m c 0 n) (Rect.unit ![0, 1664] ![512, 128] inb_S512x2048_S512x128_0_1664)) bitsLt_bf16_f32 : FVec Ideal S512x128 .f32)
    = up (S := S512x128) fun y => uq H.P 2 (row n (y 0)) (y 1) := by
  change (_ : S512x128.Idx → EReal) = _
  funext y; idx_vars y
  refine (ld_cols 2048 1664 inb_S512x2048_S512x128_0_1664 (by omega) (iblk m c 0 n) y0 y1).trans ?_
  rw [block0 H]
  show ((H.P (ix2 (row n y0) ⟨1664 + y1.val, _⟩) : ℝ) : EReal) = (H.P (ix2 (row n y0) ⟨1408 + (128 * 2 + y1.val), _⟩) : ℝ)
  simp only [← Nat.add_assoc]
/-- its keys, -/
theorem xk : (extf .f32 (View.ld (iblk m c 0 n) (Rect.unit ![0, 1792] ![512, 128] inb_S512x2048_S512x128_0_1792)) bitsLt_bf16_f32 : FVec Ideal S512x128 .f32)
    = up (S := S512x128) fun y => uk H.P (row n (y 0)) (y 1) := by
  change (_ : S512x128.Idx → EReal) = _
  funext y; idx_vars y
  refine (ld_cols 2048 1792 inb_S512x2048_S512x128_0_1792 (by omega) (iblk m c 0 n) y0 y1).trans ?_
  rw [block0 H]
  rfl
/-- and the chunks of the queries' cotangent. -/
theorem cq0 : (View.ld (iblk m c 11 n) (Rect.unit ![0, 0] ![512, 128] inb_S512x384_S512x128_0_0) : FVec Ideal S512x128 .f32)
    = up (S := S512x128) fun y => δq H.dq 0 (row n (y 0)) (y 1) := by
  change (_ : S512x128.Idx → EReal) = _
  funext y; idx_vars y
  refine (ld_cols 384 0 inb_S512x384_S512x128_0_0 (by omega) (iblk m c 11 n) y0 y1).trans ?_
  rw [block11 H]
  show ((H.dq (ix2 (row n y0) ⟨0 + y1.val, _⟩) : ℝ) : EReal) = (H.dq (ix2 (row n y0) ⟨128 * 0 + y1.val, _⟩) : ℝ)
  simp only [Nat.mul_zero]
theorem cq1 : (View.ld (iblk m c 11 n) (Rect.unit ![0, 128] ![512, 128] inb_S512x384_S512x128_0_128) : FVec Ideal S512x128 .f32)
    = up (S := S512x128) fun y => δq H.dq 1 (row n (y 0)) (y 1) := by
  change (_ : S512x128.Idx → EReal) = _
  funext y; idx_vars y
  refine (ld_cols 384 128 inb_S512x384_S512x128_0_128 (by omega) (iblk m c 11 n) y0 y1).trans ?_
  rw [block11 H]
  rfl
theorem cq2 : (View.ld (iblk m c 11 n) (Rect.unit ![0, 256] ![512, 128] inb_S512x384_S512x128_0_256) : FVec Ideal S512x128 .f32)
    = up (S := S512x128) fun y => δq H.dq 2 (row n (y 0)) (y 1) := by
  change (_ : S512x128.Idx → EReal) = _
  funext y; idx_vars y
  refine (ld_cols 384 256 inb_S512x384_S512x128_0_256 (by omega) (iblk m c 11 n) y0 y1).trans ?_
  rw [block11 H]
  rfl
end columns

end Cert.DprojIdeal.Value
end
-- ==== Proof.DprojRun.lean ====
module
public import proofs.«01_k».proof.Proof.DprojRow

/-! The run of the kernel that gathers the gradient of the projections: its three results on finite inputs. -/

@[expose] public section

set_option maxRecDepth 16384

noncomputable section

namespace Cert.DprojIdeal.Value
open Cert.DprojIdeal Cert.DprojIdeal.Gen Idealize.ShloMosaic Idealize.ShloMosaic.TcCoe Idealize.SL.Sem Cert.Finite Cert.DprojSpec
open NormSpec (up)

section results
variable {m : (ℓ : Loc nD τ sig) → Buf (Elt Ideal) ℓ} {c : Dev nD} (H : Inputs m c)

/-- The gradient of the projections. -/
def Inputs.out : S16384x2048.Idx → EReal :=
  dP (fun s j => (m ((c.tc : Thread nD τ).loc main_arg3) : FVec Ideal S16384x256 .f32) (ix2 s j))
    (fun s j => (addf (m ((c.tc : Thread nD τ).loc main_arg4) : FVec Ideal S16384x256 .f32) (m ((c.tc : Thread nD τ).loc main_arg5)) : FVec Ideal S16384x256 .f32) (ix2 s j))
    (fun s j => (addf (m ((c.tc : Thread nD τ).loc main_arg6) : FVec Ideal S16384x256 .f32) (m ((c.tc : Thread nD τ).loc main_arg7)) : FVec Ideal S16384x256 .f32) (ix2 s j))
    (fun s j => (m ((c.tc : Thread nD τ).loc main_arg8) : FVec Ideal S16384x384 .f32) (ix2 s j))
    (fun s j => (addf (m ((c.tc : Thread nD τ).loc main_arg9) : FVec Ideal S16384x128 .f32) (m ((c.tc : Thread nD τ).loc main_arg10)) : FVec Ideal S16384x128 .f32) (ix2 s j))
    (fun s j => (addf (m ((c.tc : Thread nD τ).loc main_arg11) : FVec Ideal S16384x128 .f32) (m ((c.tc : Thread nD τ).loc main_arg12)) : FVec Ideal S16384x128 .f32) (ix2 s j))
    (fun s j => dQ H.P H.g H.dq s j) (fun s j => dK H.P H.gk H.dk s j)
    (fun s j => (m ((c.tc : Thread nD τ).loc main_arg15) : FVec Ideal S16384x128 .f32) (ix2 s j))

/-- A block's part of the gradient of the queries' gains, -/
def Inputs.dgqAt (n : Fin cfg0.N) (l : Fin 128) : ℝ := ∑ r : Fin 512, ∑ p : Fin 3, gLane (row n r) (uq H.P p (row n r)) (δq H.dq p (row n r)) l
/-- and of the keys' gains. -/
def Inputs.dgkAt (n : Fin cfg0.N) (l : Fin 128) : ℝ := ∑ r : Fin 512, gLane (row n r) (uk H.P (row n r)) (δk H.dk (row n r)) l

variable (n : Fin cfg0.N)
include H

/-- The query chunks of a block, -/
theorem dx0 (i : Fin 512) (k : Fin 128) :
    (dxV (extf .f32 (View.ld (iblk m c 0 n) (Rect.unit ![0, 1408] ![512, 128] inb_S512x2048_S512x128_0_1408)) bitsLt_bf16_f32)
        (View.ld (iblk m c 11 n) (Rect.unit ![0, 0] ![512, 128] inb_S512x384_S512x128_0_0)) (iblk m c 16 n) (iblk m c 17 n) (iblk m c 18 n) (iblk m c 14 n) (ix2 i k) : EReal)
      = (dQ H.P H.g H.dq (row n i) ⟨k.val, by omega⟩ : ℝ) := by
  rw [xq0 H, cq0 H, block14 H, block16, block17, block18]
  refine (congrFun (dxV_up _ _ _ (row n)) _).trans (congrArg (fun r : ℝ => (r : EReal)) ?_)
  unfold dQ
  have e : (⟨k.val / 128, by omega⟩ : Fin 3) = 0 := Fin.ext (show k.val / 128 = 0 by omega)
  have e' : (⟨k.val % 128, by omega⟩ : Fin 128) = k := Fin.ext (show k.val % 128 = k.val by omega)
  show dLane (row n i) (uq H.P 0 (row n i)) (two H.g) (δq H.dq 0 (row n i)) k = dLane (row n i) (uq H.P ⟨k.val / 128, _⟩ (row n i)) (two H.g) (δq H.dq ⟨k.val / 128, _⟩ (row n i)) ⟨k.val % 128, _⟩
  rw [e, e']
theorem dx1 (i : Fin 512) (k : Fin 128) :
    (dxV (extf .f32 (View.ld (iblk m c 0 n) (Rect.unit ![0, 1536] ![512, 128] inb_S512x2048_S512x128_0_1536)) bitsLt_bf16_f32)
        (View.ld (iblk m c 11 n) (Rect.unit ![0, 128] ![512, 128] inb_S512x384_S512x128_0_128)) (iblk m c 16 n) (iblk m c 17 n) (iblk m c 18 n) (iblk m c 14 n) (ix2 i k) : EReal)
      = (dQ H.P H.g H.dq (row n i) ⟨128 + k.val, by omega⟩ : ℝ) := by
  rw [xq1 H, cq1 H, block14 H, block16, block17, block18]
  refine (congrFun (dxV_up _ _ _ (row n)) _).trans (congrArg (fun r : ℝ => (r : EReal)) ?_)
  unfold dQ
  have e : (⟨(128 + k.val) / 128, by omega⟩ : Fin 3) = 1 := Fin.ext (show (128 + k.val) / 128 = 1 by omega)
  have e' : (⟨(128 + k.val) % 128, by omega⟩ : Fin 128) = k := Fin.ext (show (128 + k.val) % 128 = k.val by omega)
  show dLane (row n i) (uq H.P 1 (row n i)) (two H.g) (δq H.dq 1 (row n i)) k = dLane (row n i) (uq H.P ⟨(128 + k.val) / 128, _⟩ (row n i)) (two H.g) (δq H.dq ⟨(128 + k.val) / 128, _⟩ (row n i)) ⟨(128 + k.val) % 128, _⟩
  rw [e, e']
theorem dx2 (i : Fin 512) (k : Fin 128) :
    (dxV (extf .f32 (View.ld (iblk m c 0 n) (Rect.unit ![0, 1664] ![512, 128] inb_S512x2048_S512x128_0_1664)) bitsLt_bf16_f32)
        (View.ld (iblk m c 11 n) (Rect.unit ![0, 256] ![512, 128] inb_S512x384_S512x128_0_256)) (iblk m c 16 n) (iblk m c 17 n) (iblk m c 18 n) (iblk m c 14 n) (ix2 i k) : EReal)
      = (dQ H.P H.g H.dq (row n i) ⟨256 + k.val, by omega⟩ : ℝ) := by
  rw [xq2 H, cq2 H, block14 H, block16, block17, block18]
  refine (congrFun (dxV_up _ _ _ (row n)) _).trans (congrArg (fun r : ℝ => (r : EReal)) ?_)
  unfold dQ
  have e : (⟨(256 + k.val) / 128, by omega⟩ : Fin 3) = 2 := Fin.ext (show (256 + k.val) / 128 = 2 by omega)
  have e' : (⟨(256 + k.val) % 128, by omega⟩ : Fin 128) = k := Fin.ext (show (256 + k.val) % 128 = k.val by omega)
  show dLane (row n i) (uq H.P 2 (row n i)) (two H.g) (δq H.dq 2 (row n i)) k = dLane (row n i) (uq H.P ⟨(256 + k.val) / 128, _⟩ (row n i)) (two H.g) (δq H.dq ⟨(256 + k.val) / 128, _⟩ (row n i)) ⟨(256 + k.val) % 128, _⟩
  rw [e, e']
/-- and its chunk of keys. -/
theorem dx3 (i : Fin 512) (k : Fin 128) :
    (dxV (extf .f32 (View.ld (iblk m c 0 n) (Rect.unit ![0, 1792] ![512, 128] inb_S512x2048_S512x128_0_1792)) bitsLt_bf16_f32)
        (iblk m c 12 n) (iblk m c 16 n) (iblk m c 17 n) (iblk m c 18 n) (iblk m c 15 n) (ix2 i k) : EReal)
      = (dK H.P H.gk H.dk (row n i) k : ℝ) := by
  rw [xk H, block12 H, block15 H, block16, block17, block18]
  exact congrFun (dxV_up _ _ _ (row n)) _

/-- The stores of a block are the gathered rows. -/
theorem stored (i : Fin 512) (j : Fin 2048) :
    (View.canon (stores (k0_pay1 (iblk m c 13 n))
      (dxV (extf .f32 (View.ld (iblk m c 0 n) (Rect.unit ![0, 1792] ![512, 128] inb_S512x2048_S512x128_0_1792)) bitsLt_bf16_f32)
        (iblk m c 12 n) (iblk m c 16 n) (iblk m c 17 n) (iblk m c 18 n) (iblk m c 15 n))
      (dxV (extf .f32 (View.ld (iblk m c 0 n) (Rect.unit ![0, 1664] ![512, 128] inb_S512x2048_S512x128_0_1664)) bitsLt_bf16_f32)
        (View.ld (iblk m c 11 n) (Rect.unit ![0, 256] ![512, 128] inb_S512x384_S512x128_0_256)) (iblk m c 16 n) (iblk m c 17 n) (iblk m c 18 n) (iblk m c 14 n))
      (dxV (extf .f32 (View.ld (iblk m c 0 n) (Rect.unit ![0, 1536] ![512, 128] inb_S512x2048_S512x128_0_1536)) bitsLt_bf16_f32)
        (View.ld (iblk m c 11 n) (Rect.unit ![0, 128] ![512, 128] inb_S512x384_S512x128_0_128)) (iblk m c 16 n) (iblk m c 17 n) (iblk m c 18 n) (iblk m c 14 n))
      (dxV (extf .f32 (View.ld (iblk m c 0 n) (Rect.unit ![0, 1408] ![512, 128] inb_S512x2048_S512x128_0_1408)) bitsLt_bf16_f32)
        (View.ld (iblk m c 11 n) (Rect.unit ![0, 0] ![512, 128] inb_S512x384_S512x128_0_0)) (iblk m c 16 n) (iblk m c 17 n) (iblk m c 18 n) (iblk m c 14 n))
      (k0_pay9 (iblk m c 9 n) (iblk m c 10 n)) (k0_pay8 (iblk m c 7 n) (iblk m c 8 n)) (k0_pay7 (iblk m c 6 n))
      (k0_pay6 (iblk m c 4 n) (iblk m c 5 n)) (k0_pay5 (iblk m c 2 n) (iblk m c 3 n)) (k0_pay4 (iblk m c 1 n))) (ix2 i j) : EReal)
      = H.out (ix2 (row n i) j) := by
  refine canon_row _ _ _ _ _ _ _ _ _ _ _ (fun j => (m ((c.tc : Thread nD τ).loc main_arg15) : FVec Ideal S16384x128 .f32) (ix2 (row n i) j))
    (fun j => (dK H.P H.gk H.dk (row n i) j : ℝ))
    (fun j => (addf (m ((c.tc : Thread nD τ).loc main_arg11) : FVec Ideal S16384x128 .f32) (m ((c.tc : Thread nD τ).loc main_arg12)) : FVec Ideal S16384x128 .f32) (ix2 (row n i) j))
    (fun j => (addf (m ((c.tc : Thread nD τ).loc main_arg9) : FVec Ideal S16384x128 .f32) (m ((c.tc : Thread nD τ).loc main_arg10)) : FVec Ideal S16384x128 .f32) (ix2 (row n i) j))
    (fun j => (dQ H.P H.g H.dq (row n i) j : ℝ))
    (fun j => (m ((c.tc : Thread nD τ).loc main_arg8) : FVec Ideal S16384x384 .f32) (ix2 (row n i) j))
    (fun j => (addf (m ((c.tc : Thread nD τ).loc main_arg6) : FVec Ideal S16384x256 .f32) (m ((c.tc : Thread nD τ).loc main_arg7)) : FVec Ideal S16384x256 .f32) (ix2 (row n i) j))
    (fun j => (addf (m ((c.tc : Thread nD τ).loc main_arg4) : FVec Ideal S16384x256 .f32) (m ((c.tc : Thread nD τ).loc main_arg5)) : FVec Ideal S16384x256 .f32) (ix2 (row n i) j))
    (fun j => (m ((c.tc : Thread nD τ).loc main_arg3) : FVec Ideal S16384x256 .f32) (ix2 (row n i) j))
    i j (fun k => ?_) (fun k => dx3 H n i k) (fun k => dx2 H n i k) (fun k => dx1 H n i k) (fun k => dx0 H n i k)
    (fun k => ?_) (fun k => ?_) (fun k => ?_) (fun k => ?_) (fun k => ?_) (fun k => ?_)
  · rw [block13]; rfl
  · rw [block9, block10]; rfl
  · rw [block7, block8]; rfl
  · rw [block6]; rfl
  · rw [block4, block5]; rfl
  · rw [block2, block3]; rfl
  · rw [block1]; rfl

/-- The block of the gathered gradient that a point leaves. -/
theorem out19 (i : Fin 512) (j : Fin 2048) : ((outsAt0 m c n.val n.isLt).1 (ix2 i j) : EReal) = H.out (ix2 (row n i) j) := by
  by_cases h0 : n.val % 32 = 0
  · rw [outsAt0_A m c n h0]
    frame_out
    rw [chunk0, chunk1, chunk2, chunk3]
    exact stored H n i j
  · rw [outsAt0_B m c n h0]
    frame_out
    rw [chunk0, chunk1, chunk2, chunk3]
    exact stored H n i j

/-- The array of the gathered gradient after the run. -/
theorem out_eq : (dats m 0 c).arrAt 19 cfg0.N = H.out := by
  refine (dats m 0 c).arrAt_eq_of_covers 19 _ (by decide +kernel) fun n hf y => ?_
  blk_simp
  rw [after0_19]
  revert y
  change ∀ y : S512x2048.Idx, _
  intro y
  idx_vars y
  rw [emb19]
  exact out19 H n y0 y1

/-- What a block adds to the gains' gradients. -/
theorem gq (v : FVec Ideal S1x128 .f32) (z : Fin 1) (l : Fin 128) :
    (addf (addf (addf v
        (dgV (extf .f32 (View.ld (iblk m c 0 n) (Rect.unit ![0, 1408] ![512, 128] inb_S512x2048_S512x128_0_1408)) bitsLt_bf16_f32)
          (View.ld (iblk m c 11 n) (Rect.unit ![0, 0] ![512, 128] inb_S512x384_S512x128_0_0)) (iblk m c 16 n) (iblk m c 17 n) (iblk m c 18 n)))
        (dgV (extf .f32 (View.ld (iblk m c 0 n) (Rect.unit ![0, 1536] ![512, 128] inb_S512x2048_S512x128_0_1536)) bitsLt_bf16_f32)
          (View.ld (iblk m c 11 n) (Rect.unit ![0, 128] ![512, 128] inb_S512x384_S512x128_0_128)) (iblk m c 16 n) (iblk m c 17 n) (iblk m c 18 n)))
        (dgV (extf .f32 (View.ld (iblk m c 0 n) (Rect.unit ![0, 1664] ![512, 128] inb_S512x2048_S512x128_0_1664)) bitsLt_bf16_f32)
          (View.ld (iblk m c 11 n) (Rect.unit ![0, 256] ![512, 128] inb_S512x384_S512x128_0_256)) (iblk m c 16 n) (iblk m c 17 n) (iblk m c 18 n)) (ix2 z l) : EReal)
      = (v (ix2 z l) : EReal) + (H.dgqAt n l : ℝ) := by
  rw [xq0 H, cq0 H, xq1 H, cq1 H, xq2 H, cq2 H, block16, block17, block18]
  refine (congrArg₂ (· + ·) (congrArg₂ (· + ·) (congrArg (_ + ·) (dgV_apply _ _ (row n) z l)) (dgV_apply _ _ (row n) z l)) (dgV_apply _ _ (row n) z l)).trans ?_
  have e : H.dgqAt n l = (∑ r : Fin 512, gLane (row n r) (uq H.P 0 (row n r)) (δq H.dq 0 (row n r)) l)
      + ((∑ r : Fin 512, gLane (row n r) (uq H.P 1 (row n r)) (δq H.dq 1 (row n r)) l)
        + ∑ r : Fin 512, gLane (row n r) (uq H.P 2 (row n r)) (δq H.dq 2 (row n r)) l) := by
    unfold Inputs.dgqAt
    simp only [Fin.sum_univ_three, Finset.sum_add_distrib, add_assoc]
  rw [e, EReal.coe_add, EReal.coe_add, ← add_assoc, ← add_assoc]
  rfl
theorem gk (v : FVec Ideal S1x128 .f32) (z : Fin 1) (l : Fin 128) :
    (addf v (dgV (extf .f32 (View.ld (iblk m c 0 n) (Rect.unit ![0, 1792] ![512, 128] inb_S512x2048_S512x128_0_1792)) bitsLt_bf16_f32)
        (iblk m c 12 n) (iblk m c 16 n) (iblk m c 17 n) (iblk m c 18 n)) (ix2 z l) : EReal)
      = (v (ix2 z l) : EReal) + (H.dgkAt n l : ℝ) := by
  rw [xk H, block12 H, block16, block17, block18]
  exact congrArg (_ + ·) (dgV_apply _ _ (row n) z l)

omit H in
theorem zero2 (z : Fin 1) (l : Fin 128) : (k0_pay2 (F := Ideal) (ix2 z l) : EReal) = 0 := by
  pointwise [k0_pay2]
omit H in
theorem zero3 (z : Fin 1) (l : Fin 128) : (k0_pay3 (F := Ideal) (ix2 z l) : EReal) = 0 := by
  pointwise [k0_pay3]

theorem dgq_first (h : n.val % 32 = 0) (j : S1x128.Idx) : (outsAt0 m c n.val n.isLt).2.1 j = 0 + (H.dgqAt n (j 1) : EReal) := by
  rw [outsAt0_A m c n h]
  frame_out
  rw [gain0, gain1, gain2]
  idx_vars j
  exact (gq H n _ j0 j1).trans (congrArg (· + _) (zero2 j0 j1))
theorem dgq_next (h : ¬n.val % 32 = 0) (j : S1x128.Idx) : (outsAt0 m c n.val n.isLt).2.1 j
    = (outsAt0 m c (n.val - 1) (Nat.lt_of_le_of_lt (Nat.sub_le _ _) n.isLt)).2.1 j + (H.dgqAt n (j 1) : EReal) := by
  rw [outsAt0_B m c n h]
  frame_out
  rw [gain0, gain1, gain2]
  idx_vars j
  exact gq H n _ j0 j1
theorem dgk_first (h : n.val % 32 = 0) (j : S1x128.Idx) : (outsAt0 m c n.val n.isLt).2.2 j = 0 + (H.dgkAt n (j 1) : EReal) := by
  rw [outsAt0_A m c n h]
  frame_out
  rw [gain3]
  idx_vars j
  exact (gk H n _ j0 j1).trans (congrArg (· + _) (zero3 j0 j1))
theorem dgk_next (h : ¬n.val % 32 = 0) (j : S1x128.Idx) : (outsAt0 m c n.val n.isLt).2.2 j
    = (outsAt0 m c (n.val - 1) (Nat.lt_of_le_of_lt (Nat.sub_le _ _) n.isLt)).2.2 j + (H.dgkAt n (j 1) : EReal) := by
  rw [outsAt0_B m c n h]
  frame_out
  rw [gain3]
  idx_vars j
  exact gk H n _ j0 j1

omit H in
/-- The last point of the grid. -/
def last : Fin cfg0.N := ⟨31, lt_of_lt_of_eq (by decide) N_0.symm⟩

/-- The gains' gradients after the run: the blocks' parts summed over the grid. -/
theorem dgq_eq : (dats m 0 c).arrAt 20 (cfgs 0).N = up (S := S1x128) (dGq H.P H.dq) := by
  refine (dats m 0 c).arrAt_eq_of_after_last 20 last (by decide +kernel) _ fun j => ?_
  blk_simp
  revert j
  change ∀ j : S1x128.Idx, _
  intro j
  rw [after0_20, Pipeline.eq_sum_fin_of_reset_step_apply_last (fun n h => (outsAt0 m c n h).2.1) 32 (fun _ => 0)
    (fun n j => (H.dgqAt n (j 1) : EReal)) (dgq_first H) (dgq_next H) (le_of_eq N_0) last N_0.symm j, zero_add, sum_coe]
  refine congrArg _ ?_
  unfold Inputs.dgqAt
  exact Fin.sum_mul_add_congr fun n r hl => rfl
theorem dgk_eq : (dats m 0 c).arrAt 21 (cfgs 0).N = up (S := S1x128) (dGk H.P H.dk) := by
  refine (dats m 0 c).arrAt_eq_of_after_last 21 last (by decide +kernel) _ fun j => ?_
  blk_simp
  revert j
  change ∀ j : S1x128.Idx, _
  intro j
  rw [after0_21, Pipeline.eq_sum_fin_of_reset_step_apply_last (fun n h => (outsAt0 m c n h).2.2) 32 (fun _ => 0)
    (fun n j => (H.dgkAt n (j 1) : EReal)) (dgk_first H) (dgk_next H) (le_of_eq N_0) last N_0.symm j, zero_add, sum_coe]
  refine congrArg _ ?_
  unfold Inputs.dgkAt
  exact Fin.sum_mul_add_congr fun n r hl => rfl

end results

variable (m : (ℓ : Loc nD τ sig) → Buf (Elt Ideal) ℓ)

/-- The kernel's run on finite inputs: the three results and the unchanged arguments. -/
theorem run_real (ρ : Dev nD → PrngReg) (H : ∀ c : Dev nD, Inputs m c) :
    θ_run (defs (F := Ideal)) (onTc (τ := τ) (main (F := Ideal))) ⟨m, fun _ => 0, ρ⟩ fun r => ∀ c : Dev nD,
      r.2.mem ((c.tc : Thread nD τ).loc main_v56_0) = (H c).out
      ∧ r.2.mem ((c.tc : Thread nD τ).loc main_v56_1) = up (S := S1x128) (dGq (H c).P (H c).dq)
      ∧ r.2.mem ((c.tc : Thread nD τ).loc main_v56_2) = up (S := S1x128) (dGk (H c).P (H c).dk)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run (defs (F := Ideal)) _ _).mono (fun r h c => ?_) (run_blocks m ρ)
  obtain ⟨h0, h1, h2, ha⟩ := h c
  exact ⟨h0.trans (out_eq (H c)), h1.trans (dgq_eq (H c)), h2.trans (dgk_eq (H c)), ha⟩

end Cert.DprojIdeal.Value
end
-- ==== Proof.DprojPair.lean ====
module
public import proofs.«01_k».proof.Defs
public import proofs.«01_k».proof.Proof.Gen.Pre_dproj_pre
public import proofs.«01_k».proof.Proof.DprojSum
public import proofs.«01_k».proof.Proof.DprojRun

/-! The claims on the kernel that gathers the gradient of the projections. -/

@[expose] public section

set_option maxRecDepth 16384

noncomputable section

namespace Cert.DprojPair
open Idealize.ShloMosaic Idealize.ShloMosaic.TcCoe Idealize.SL.Sem Cert.Finite Cert.DprojSpec

/-- The reference runs to its end, leaves its arguments as they were and every semaphore at zero. -/
theorem frame_ref : Cert.quiescent_DprojRefIdeal := fun m ρ _ =>
  (θ_run Cert.DprojRefIdeal.defs _ _).mono (fun r h => ⟨fun c => (h c).2.2.2, sem_eq_zero_of_no_sems (by decide) r.2⟩)
    (Cert.DprojRefIdeal.Value.run m ρ)

/-- The gathered gradient of the projections and the gains of the axial norms: kernel and reference compute the same three arrays. -/
theorem algebraic : Cert.algebraic_DprojIdeal_DprojRefIdeal_pre_dproj_pre := by
  intro m ρ m' ρ' hp ha
  choose P h1 using fun c => reals_of_mask _ _ (fun _ => ofBits_inf) (hp c).1
  choose g h2 using fun c => reals_of_mask _ _ (fun _ => ofBits_inf) (hp c).2.1
  choose k h3 using fun c => reals_of_mask _ _ (fun _ => ofBits_inf) (hp c).2.2.1
  choose q h4 using fun c => reals_of_mask _ _ (fun _ => ofBits_inf) (hp c).2.2.2.1
  choose d h5 using fun c => reals_of_mask _ _ (fun _ => ofBits_inf) (hp c).2.2.2.2
  let H : ∀ c, Cert.DprojIdeal.Value.Inputs m c := fun c => ⟨P c, g c, k c, q c, d c, h1 c, h2 c, h3 c, h4 c, h5 c⟩
  have hr := Cert.DprojRefIdeal.Value.run_real m' ρ' P g k q d (fun c => (ha c).1.trans (h1 c)) (fun c => (ha c).2.1.trans (h2 c))
    (fun c => (ha c).2.2.1.trans (h3 c)) (fun c => (ha c).2.2.2.2.2.2.2.2.2.2.2.2.2.1.trans (h4 c)) (fun c => (ha c).2.2.2.2.2.2.2.2.2.2.2.2.2.2.1.trans (h5 c))
  refine ⟨_, _, _, Cert.DprojIdeal.Value.run_real m ρ H, (θ_run Cert.DprojRefIdeal.defs _ _).mono (fun r h c => ?_) hr⟩
  refine ⟨(h c).1.trans ?_, (h c).2⟩
  rw [(ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2.1, (ha c).2.2.2.2.2.2.2.2.2.2.2.1, (ha c).2.2.2.2.2.2.2.2.2.2.2.2.1, (ha c).2.2.2.2.2.2.2.2.2.2.2.2.2.2.2]
  exact Cert.DprojRefIdeal.Value.dpV_apply _ _ _ _ _ _ _ _ _ _ _ _ _

end Cert.DprojPair
end
-- ==== Proof.OprojKer.lean ====
module
public import proofs.«01_k».proof.Proof.GroupSpec
public import proofs.«01_k».proof.Proof.Gen.OprojIdeal.Value
public import Idealize.ShloMosaic.Lib.Pipeline.ValueKit

/-! The kernel of the output product, the residual's gate and the three group norms, read on real numbers. -/

@[expose] public section

set_option maxRecDepth 16384

noncomputable section

namespace Cert.OprojIdeal.Value
open Cert.OprojIdeal Cert.OprojIdeal.Gen Idealize.ShloMosaic Idealize.ShloMosaic.TcCoe Idealize.SL.Sem Cert.Finite Cert.GroupSpec
open NormSpec (up)

/-- Row `r` of the block that point `n` works on. -/
def row (n : Fin cfg0.N) (r : Fin 512) : Fin 16384 :=
  ⟨n.val * 512 + r.val, by have h : n.val < 32 := lt_of_lt_of_eq n.isLt N_0; omega⟩

/-! ## The body on real blocks -/

section payloads
variable (X Δ : S512x1024.Idx → ℝ) (τt : S1x1024.Idx → ℝ) (W : S1024x1024.Idx → ℝ) (U : S512x256.Idx → ℝ) (V : S512x384.Idx → ℝ)
  (γ : S1x256.Idx → ℝ) (η : S1x384.Idx → ℝ)

/-- The cotangent times the gate, on one block. -/
def daoB : S512x1024.Idx → ℝ := fun i => X i * τt (ix2 0 (i 1))
/-- The gradient of the joined groups, on one block. -/
def dnB : S512x1024.Idx → ℝ := fun i => ∑ k : Fin 1024, daoB X τt (ix2 (i 0) k) * W (ix2 (i 1) k)

/-- The block of the first result. -/
theorem pay_dao : k0_pay5 (F := Ideal) (up (S := S512x1024) X) (up (S := S1x1024) τt) = up (S := S512x1024) (daoB X τt) := by
  change (_ : S512x1024.Idx → EReal) = _
  funext i
  idx_vars i
  pointwise [k0_pay5]
  simp only [up, ← EReal.coe_mul]
  rfl

/-- The product with the weight. -/
theorem pay_dn : k0_pay7 (F := Ideal) (up (S := S512x1024) X) (up (S := S1x1024) τt) (up (S := S1024x1024) W) = up (S := S512x1024) (dnB X τt W) := by
  change (_ : S512x1024.Idx → EReal) = _
  funext i
  idx_vars i
  unfold k0_pay7
  rw [pay_dao]
  pointwise
  simp only [up, ← EReal.coe_mul, sum_coe]
  rfl

/-- The gate's gradient, to which a block adds its rows. -/
theorem pay_dgt (B : S512x1024.Idx → EReal) (v : Vec Ideal S1x1024 .f32) (z : Fin 1) (i : Fin 1024) :
    k0_pay6 (F := Ideal) (up (S := S512x1024) X) v B (ix2 z i) = v (ix2 z i) + ∑ r : Fin 512, (X (ix2 r i) : EReal) * B (ix2 r i) := by
  pointwise [k0_pay6]
  rfl

theorem pay_dA : k0_pay9 (F := Ideal) (up (S := S512x1024) X) (up (S := S1x1024) τt) (up (S := S1024x1024) W)
    = up (S := S512x256) fun i => dnB X τt W (ix2 (i 0) (colA (i 1))) := by
  unfold k0_pay9
  rw [pay_dn]
  change (_ : S512x256.Idx → EReal) = _
  funext i
  idx_vars i
  pointwise
  rfl

theorem pay_dB : k0_pay17 (F := Ideal) (up (S := S512x1024) Δ) = up (S := S512x384) fun i => Δ (ix2 (i 0) (colB (i 1))) := by
  change (_ : S512x384.Idx → EReal) = _
  funext i
  idx_vars i
  pointwise [k0_pay17]
  rfl

theorem pay_dC : k0_pay23 (F := Ideal) (up (S := S512x1024) Δ) = up (S := S512x384) fun i => Δ (ix2 (i 0) (colC (i 1))) := by
  change (_ : S512x384.Idx → EReal) = _
  funext i
  idx_vars i
  pointwise [k0_pay23]
  rfl

theorem pay_uA : k0_pay8 (F := Ideal) (up (S := S512x256) U) = up (S := S512x256) U := by
  change (_ : S512x256.Idx → EReal) = _
  funext i
  idx_vars i
  pointwise [k0_pay8]

theorem pay_uB : k0_pay16 (F := Ideal) (up (S := S512x384) V) = up (S := S512x384) V := by
  change (_ : S512x384.Idx → EReal) = _
  funext i
  idx_vars i
  pointwise [k0_pay16]

theorem pay_rmsA : k0_pay12 (F := Ideal) (k0_pay10 (up (S := S512x256) U)) k0_pay11 = up (S := S512x1) fun i => rms 256 fun k => U (ix2 (i 0) k) := by
  change (_ : S512x1.Idx → EReal) = _
  funext i
  idx_vars i
  unfold k0_pay12 k0_pay10
  rw [pay_uA]
  pointwise [k0_pay11]
  simp only [up, ofBits_256, ofBits_eps.1, ← EReal.coe_mul, ← EReal.coe_add, sum_coe, div_256, rsqrt_ms (c := 256) _ (by norm_num)]
  rfl

theorem pay_rmsB : k0_pay18 (F := Ideal) (up (S := S512x384) V) = up (S := S512x1) fun i => rms 384 fun k => V (ix2 (i 0) k) := by
  change (_ : S512x1.Idx → EReal) = _
  funext i
  idx_vars i
  unfold k0_pay18
  rw [pay_uB]
  pointwise
  simp only [up, ofBits_384, ofBits_eps.1, ← EReal.coe_mul, ← EReal.coe_add, sum_coe, div_384, rsqrt_ms (c := 384) _ (by norm_num)]
  rfl

theorem pay_xhatA : k0_pay13 (F := Ideal) (k0_pay8 (up (S := S512x256) U)) (k0_pay10 (up (S := S512x256) U)) k0_pay11
    = up (S := S512x256) fun i => U i * rms 256 fun k => U (ix2 (i 0) k) := by
  change (_ : S512x256.Idx → EReal) = _
  funext i
  idx_vars i
  unfold k0_pay13
  rw [pay_uA, pay_rmsA]
  pointwise
  simp only [up, ← EReal.coe_mul]
  rfl

theorem pay_xhatB : k0_pay19 (F := Ideal) (up (S := S512x384) V) = up (S := S512x384) fun i => V i * rms 384 fun k => V (ix2 (i 0) k) := by
  change (_ : S512x384.Idx → EReal) = _
  funext i
  idx_vars i
  unfold k0_pay19
  rw [pay_uB, pay_rmsB]
  pointwise
  simp only [up, ← EReal.coe_mul]
  rfl

/-- The gradient of the first group, on one block. -/
theorem pay_dyA (D : S512x256.Idx → ℝ) : k0_pay15 (F := Ideal) (k0_pay8 (up (S := S512x256) U)) (up (S := S512x256) D)
      (k0_pay10 (up (S := S512x256) U)) k0_pay11 (up (S := S1x256) γ)
    = up (S := S512x256) fun i => dy 256 (fun k => U (ix2 (i 0) k)) (fun k => γ (ix2 0 k)) (fun k => D (ix2 (i 0) k)) (i 1) := by
  change (_ : S512x256.Idx → EReal) = _
  funext i
  idx_vars i
  unfold k0_pay15
  rw [pay_xhatA, pay_rmsA]
  pointwise
  simp only [up, ofBits_256, ← EReal.coe_mul, ← EReal.coe_add, ← EReal.coe_sub, sum_coe, div_256]
  rfl

/-- The gradient of the second group, on one block. -/
theorem pay_dyB (D : S512x384.Idx → ℝ) : k0_pay21 (F := Ideal) (up (S := S512x384) D) (k0_pay18 (up (S := S512x384) V))
      (k0_pay19 (up (S := S512x384) V)) (up (S := S1x384) η)
    = up (S := S512x384) fun i => dy 384 (fun k => V (ix2 (i 0) k)) (fun k => η (ix2 0 k)) (fun k => D (ix2 (i 0) k)) (i 1) := by
  change (_ : S512x384.Idx → EReal) = _
  funext i
  idx_vars i
  unfold k0_pay21
  rw [pay_xhatB, pay_rmsB]
  pointwise
  simp only [up, ofBits_384, ← EReal.coe_mul, ← EReal.coe_add, ← EReal.coe_sub, sum_coe, div_384]
  rfl

/-- The gradient of the third group, on one block: the same operations. -/
theorem pay_dyC (D : S512x384.Idx → ℝ) : k0_pay2 (F := Ideal) (up (S := S512x384) D) (k0_pay24 (up (S := S512x384) V))
      (k0_pay25 (up (S := S512x384) V)) (up (S := S1x384) η)
    = up (S := S512x384) fun i => dy 384 (fun k => V (ix2 (i 0) k)) (fun k => η (ix2 0 k)) (fun k => D (ix2 (i 0) k)) (i 1) :=
  pay_dyB V η D

/-- What a block adds to the gains of the first group. -/
theorem pay_dgA (D : S512x256.Idx → ℝ) (v : Vec Ideal S1x256 .f32) (z : Fin 1) (j : Fin 256) :
    k0_pay14 (F := Ideal) (k0_pay8 (up (S := S512x256) U)) (up (S := S512x256) D) (k0_pay10 (up (S := S512x256) U)) k0_pay11 v (ix2 z j)
    = v (ix2 z j) + (∑ r : Fin 512, dg 256 (fun k => U (ix2 r k)) (fun k => D (ix2 r k)) j : ℝ) := by
  unfold k0_pay14
  rw [pay_xhatA]
  pointwise
  simp only [up, ← EReal.coe_mul, sum_coe]
  rfl

/-- What a block adds to the gains of the second group. -/
theorem pay_dgB (D : S512x384.Idx → ℝ) (v : Vec Ideal S1x384 .f32) (z : Fin 1) (j : Fin 384) :
    k0_pay20 (F := Ideal) (up (S := S512x384) D) (k0_pay19 (up (S := S512x384) V)) v (ix2 z j)
    = v (ix2 z j) + (∑ r : Fin 512, dg 384 (fun k => V (ix2 r k)) (fun k => D (ix2 r k)) j : ℝ) := by
  unfold k0_pay20
  rw [pay_xhatB]
  pointwise
  simp only [up, ← EReal.coe_mul, sum_coe]
  rfl

/-- What a block adds to the gains of the third group: the same operations. -/
theorem pay_dgC (v : Vec Ideal S1x384 .f32) (z : Fin 1) (j : Fin 384) :
    k0_pay1 (F := Ideal) (k0_pay26 v) (k0_pay27 (up (S := S512x1024) Δ) (up (S := S512x384) V)) (ix2 z j)
    = v (ix2 z j) + (∑ r : Fin 512, dg 384 (fun k => V (ix2 r k)) (fun k => Δ (ix2 r (colC k))) j : ℝ) := by
  refine Eq.trans ?_ (pay_dgB V (fun i => Δ (ix2 (i 0) (colC (i 1)))) v z j)
  rw [← pay_dC]
  rfl

end payloads

/-! ## The three pieces of the row of gains -/

/-- The places of the first group's gains. -/
abbrev RA : Rect S1x1024 := Rect.unit ![0, 0] ![1, 256] inb_S1x1024_S1x256_0_0
/-- The places of the second group's gains. -/
abbrev RB : Rect S1x1024 := Rect.unit ![0, 256] ![1, 384] inb_S1x1024_S1x384_0_256
/-- The places of the third group's gains. -/
abbrev RC : Rect S1x1024 := Rect.unit ![0, 640] ![1, 384] inb_S1x1024_S1x384_0_640
/-- The whole row. -/
abbrev RW : Rect S1x1024 := Rect.unit ![0, 0] ![1, 1024] inb_S1x1024_S1x1024_0_0

theorem embA (z : Fin 1) (k : Fin 256) : (RA.emb (ix2 z k) : S1x1024.Idx) = ix2 z (colA k) := by
  funext a; refine Fin.ext ?_; revert a
  refine Fin.forall_fin_two.2 ⟨?_, ?_⟩
  · show 0 + 1 * z.val = z.val; omega
  · show 0 + 1 * k.val = k.val; omega

theorem embB (z : Fin 1) (k : Fin 384) : (RB.emb (ix2 z k) : S1x1024.Idx) = ix2 z (colB k) := by
  funext a; refine Fin.ext ?_; revert a
  refine Fin.forall_fin_two.2 ⟨?_, ?_⟩
  · show 0 + 1 * z.val = z.val; omega
  · show 256 + 1 * k.val = 256 + k.val; omega

theorem embC (z : Fin 1) (k : Fin 384) : (RC.emb (ix2 z k) : S1x1024.Idx) = ix2 z (colC k) := by
  funext a; refine Fin.ext ?_; revert a
  refine Fin.forall_fin_two.2 ⟨?_, ?_⟩
  · show 0 + 1 * z.val = z.val; omega
  · show 640 + 1 * k.val = 640 + k.val; omega

theorem embW (z : Fin 1) (k : Fin 1024) : (RW.emb (ix2 z k) : S1x1024.Idx) = ix2 z k := by
  funext a; refine Fin.ext ?_; revert a
  refine Fin.forall_fin_two.2 ⟨?_, ?_⟩
  · show 0 + 1 * z.val = z.val; omega
  · show 0 + 1 * k.val = k.val; omega

theorem not_memA (z : Fin 1) (j : Fin 1024) (h : ¬j.val < 256) : (ix2 z j : S1x1024.Idx) ∉ RA.set := by
  rw [Rect.mem_set_unit]
  intro q
  have q1 : j.val < 0 + 256 := (q 1).2
  omega

theorem not_memB (z : Fin 1) (j : Fin 1024) (h : ¬(256 ≤ j.val ∧ j.val < 640)) : (ix2 z j : S1x1024.Idx) ∉ RB.set := by
  rw [Rect.mem_set_unit]
  intro q
  have q1 : 256 ≤ j.val ∧ j.val < 256 + 384 := q 1
  omega

theorem not_memC (z : Fin 1) (j : Fin 1024) (h : j.val < 640) : (ix2 z j : S1x1024.Idx) ∉ RC.set := by
  rw [Rect.mem_set_unit]
  intro q
  have q1 : 640 ≤ j.val := (q 1).1
  omega

theorem not_memAB (z : Fin 1) (k : Fin 384) : (ix2 z (colB k) : S1x1024.Idx) ∉ RA.set :=
  not_memA z _ (by unfold colB; dsimp only; omega)
theorem not_memAC (z : Fin 1) (k : Fin 384) : (ix2 z (colC k) : S1x1024.Idx) ∉ RA.set :=
  not_memA z _ (by unfold colC; dsimp only; omega)
theorem not_memBC (z : Fin 1) (k : Fin 384) : (ix2 z (colC k) : S1x1024.Idx) ∉ RB.set :=
  not_memB z _ (by unfold colC; dsimp only; omega)

section pieces
variable (p q : S1x384.Idx → Elt Ideal .f32) (s : S1x256.Idx → Elt Ideal .f32)
  (o : S1x1024.Idx → Elt Ideal .f32) (L : List (View.Piece (Elt Ideal) S1x1024 .f32))

theorem offA (z : Fin 1) (j : Fin 1024) (h : (ix2 z j : S1x1024.Idx) ∉ RA.set) :
    View.canon (⟨RA, s⟩ :: L) (ix2 z j : S1x1024.Idx) = View.canon L (ix2 z j) := View.canon_cons_of_not_mem ⟨RA, s⟩ L h
theorem offB (z : Fin 1) (j : Fin 1024) (h : (ix2 z j : S1x1024.Idx) ∉ RB.set) :
    View.canon (⟨RB, q⟩ :: L) (ix2 z j : S1x1024.Idx) = View.canon L (ix2 z j) := View.canon_cons_of_not_mem ⟨RB, q⟩ L h
theorem offC (z : Fin 1) (j : Fin 1024) (h : (ix2 z j : S1x1024.Idx) ∉ RC.set) :
    View.canon (⟨RC, p⟩ :: L) (ix2 z j : S1x1024.Idx) = View.canon L (ix2 z j) := View.canon_cons_of_not_mem ⟨RC, p⟩ L h

/-- A row written in three pieces. -/
theorem canon3 (z : Fin 1) (j : Fin 1024) : (View.canon (⟨RC, p⟩ :: ⟨RB, q⟩ :: ⟨RA, s⟩ :: L) (ix2 z j) : EReal)
    = join (fun k => (s (ix2 z k) : EReal)) (fun k => q (ix2 z k)) (fun k => p (ix2 z k)) j := by
  unfold join
  split_ifs with h h'
  · rw [offC _ _ z j (not_memC z j (by omega)), offB _ _ z j (not_memB z j (by omega))]
    have e : (ix2 z j : S1x1024.Idx) = RA.emb (ix2 z ⟨j.val, h⟩) := (embA z ⟨j.val, h⟩).symm
    rw [e]
    exact View.canon_cons_emb _ _ _ _
  · rw [offC _ _ z j (not_memC z j (by omega))]
    have e : (ix2 z j : S1x1024.Idx) = RB.emb (ix2 z ⟨j.val - 256, by omega⟩) := by
      rw [embB]
      exact congrArg (ix2 z) (Fin.ext (by show j.val = 256 + (j.val - 256); omega))
    rw [e]
    exact View.canon_cons_emb _ _ _ _
  · have e : (ix2 z j : S1x1024.Idx) = RC.emb (ix2 z ⟨j.val - 640, by omega⟩) := by
      rw [embC]
      exact congrArg (ix2 z) (Fin.ext (by show j.val = 640 + (j.val - 640); omega))
    rw [e]
    exact View.canon_cons_emb _ _ _ _

/-- The same, where each piece adds to what the row held. -/
theorem canon3_add (z : Fin 1) (j : Fin 1024) (v : Fin 1024 → EReal) (a : Fin 256 → ℝ) (b e : Fin 384 → ℝ)
    (hs : ∀ k, (s (ix2 z k) : EReal) = v (colA k) + (a k : EReal)) (hq : ∀ k, (q (ix2 z k) : EReal) = v (colB k) + (b k : EReal))
    (hp : ∀ k, (p (ix2 z k) : EReal) = v (colC k) + (e k : EReal)) :
    (View.canon (⟨RC, p⟩ :: ⟨RB, q⟩ :: ⟨RA, s⟩ :: L) (ix2 z j) : EReal) = v j + ((join a b e j : ℝ) : EReal) := by
  rw [canon3, funext hs, funext hq, funext hp, join_add]

variable (ho : ∀ z k, o (ix2 z k) = (0 : EReal)) (v : View sig .tc .vmem S1x1024 .f32)
include ho

theorem canonW (z : Fin 1) (j : Fin 1024) : (View.canon [⟨RW, o⟩] (ix2 z j) : EReal) = 0 := by
  have e : (ix2 z j : S1x1024.Idx) = RW.emb (ix2 z j) := (embW z j).symm
  rw [e]
  exact (View.canon_cons_emb _ _ _ _).trans (ho z j)

/-- Before the first piece is written, its places read as zero; -/
theorem readA (z : Fin 1) (k : Fin 256) : (v.readCov [⟨RW, o⟩] RA.toLoadRect (ix2 z k) : EReal) = 0 := by
  rw [View.readCov_eq_canon']
  show (View.canon [⟨RW, o⟩] (RA.emb (ix2 z k)) : EReal) = 0
  rw [embA]
  exact canonW o ho z _

/-- so do the second piece's after the first is written, -/
theorem readB (z : Fin 1) (k : Fin 384) : (v.readCov [⟨RA, s⟩, ⟨RW, o⟩] RB.toLoadRect (ix2 z k) : EReal) = 0 := by
  rw [View.readCov_eq_canon']
  show (View.canon [⟨RA, s⟩, ⟨RW, o⟩] (RB.emb (ix2 z k)) : EReal) = 0
  rw [embB, offA _ _ z _ (not_memAB z k)]
  exact canonW o ho z _

/-- and the third piece's after the first two are. -/
theorem readC (z : Fin 1) (k : Fin 384) : (v.readCov [⟨RB, q⟩, ⟨RA, s⟩, ⟨RW, o⟩] RC.toLoadRect (ix2 z k) : EReal) = 0 := by
  rw [View.readCov_eq_canon']
  show (View.canon [⟨RB, q⟩, ⟨RA, s⟩, ⟨RW, o⟩] (RC.emb (ix2 z k)) : EReal) = 0
  rw [embC, offB _ _ z _ (not_memBC z k),
    offA _ _ z _ (not_memAC z k)]
  exact canonW o ho z _

end pieces

theorem ldA (f : S1x1024.Idx → EReal) : (View.ld (Val := Elt Ideal) (e' := .f32) f RA : S1x256.Idx → EReal) = fun i => f (ix2 (i 0) (colA (i 1))) := by
  funext i
  idx_vars i
  show f (RA.emb _) = _
  rw [embA]

theorem ldB (f : S1x1024.Idx → EReal) : (View.ld (Val := Elt Ideal) (e' := .f32) f RB : S1x384.Idx → EReal) = fun i => f (ix2 (i 0) (colB (i 1))) := by
  funext i
  idx_vars i
  show f (RB.emb _) = _
  rw [embB]

theorem ldC (f : S1x1024.Idx → EReal) : (View.ld (Val := Elt Ideal) (e' := .f32) f RC : S1x384.Idx → EReal) = fun i => f (ix2 (i 0) (colC (i 1))) := by
  funext i
  idx_vars i
  show f (RC.emb _) = _
  rw [embC]

/-! ## The blocks of the inputs -/

variable (m : (ℓ : Loc nD τ sig) → Buf (Elt Ideal) ℓ) (c : Dev nD)

/-- The inputs of the run as arrays of real numbers. -/
structure Inputs where
  a : S16384x256.Idx → ℝ
  b : S16384x384.Idx → ℝ
  e : S16384x384.Idx → ℝ
  g : S1024.Idx → ℝ
  w : S1024x1024.Idx → ℝ
  t : S1024.Idx → ℝ
  d : S16384x1024.Idx → ℝ
  ha : m ((c.tc : Thread nD τ).loc main_arg1) = up (S := S16384x256) a
  hb : m ((c.tc : Thread nD τ).loc main_arg2) = up (S := S16384x384) b
  he : m ((c.tc : Thread nD τ).loc main_arg3) = up (S := S16384x384) e
  hg : m ((c.tc : Thread nD τ).loc main_arg4) = up (S := S1024) g
  hw : m ((c.tc : Thread nD τ).loc main_arg5) = up (S := S1024x1024) w
  ht : m ((c.tc : Thread nD τ).loc main_arg6) = up (S := S1024) t
  hd : m ((c.tc : Thread nD τ).loc main_arg7) = up (S := S16384x1024) d

/-- The saved output product, as the host lines leave it. -/
def A : S16384x1024.Idx → EReal := (V m c main_v44 : S16384x1024.Idx → EReal)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The place in the array of each index of the block of point `n`, for the saved product and the four blocked results. -/
theorem emb1 (n : Fin cfg0.N) (i : Fin 512) (j : Fin 1024) : (win0_1.blk n).view.emb (ix2 i j) = ix2 (row n i) j := by
  unfold row
  blk_ext [idx n]
theorem emb8 (n : Fin cfg0.N) (i : Fin 512) (j : Fin 1024) : (win0_8.blk n).view.emb (ix2 i j) = ix2 (row n i) j := by
  unfold row
  blk_ext [idx n]
theorem emb9 (n : Fin cfg0.N) (i : Fin 512) (j : Fin 256) : (win0_9.blk n).view.emb (ix2 i j) = ix2 (row n i) j := by
  unfold row
  blk_ext [idx n]
theorem emb10 (n : Fin cfg0.N) (i : Fin 512) (j : Fin 384) : (win0_10.blk n).view.emb (ix2 i j) = ix2 (row n i) j := by
  unfold row
  blk_ext [idx n]
theorem emb11 (n : Fin cfg0.N) (i : Fin 512) (j : Fin 384) : (win0_11.blk n).view.emb (ix2 i j) = ix2 (row n i) j := by
  unfold row
  blk_ext [idx n]

/-- The last point of the grid. -/
def last : Fin cfg0.N := ⟨31, lt_of_lt_of_eq (by decide) N_0.symm⟩

/-- Window 1 reads its array at the block's place, whatever the array. -/
theorem read1 (f : (b : Ref sig .tc) → Buf (Elt Ideal) ((c : Thread nD τ).loc b)) (t : Fin cfg0.N) (z : S512x1024.Idx) :
    (((cfg0.win 1).blk t).view.read (Elt Ideal) (f (Pipeline.arrRef spec0 1)) : S512x1024.Idx → EReal) z
      = (f main_v44 : S16384x1024.Idx → EReal) ((win0_1.blk t).view.emb z) := rfl

theorem block1 (n : Fin cfg0.N) : iblk m c 1 n = fun y : S512x1024.Idx => A m c (ix2 (row n (y 0)) (y 1)) := by
  change (_ : S512x1024.Idx → EReal) = _
  funext y
  idx_vars y
  refine (read1 c (V m c) n _).trans ?_
  rw [emb1]
  rfl

variable {m c} (H : Inputs m c)
include H

theorem block0 (n : Fin cfg0.N) : iblk m c 0 n = up (S := S512x1024) fun y => H.d (ix2 (row n (y 0)) (y 1)) := by
  change (_ : S512x1024.Idx → EReal) = _
  funext y
  idx_vars y
  have e := congrFun H.hd
  refine Eq.trans ?_ (e _)
  unfold row
  blk_ext [iblk, V, idx n]

theorem block2 (n : Fin cfg0.N) : iblk m c 2 n = up (S := S1x1024) fun y => H.t (ix1 (y 1)) := by
  change (_ : S1x1024.Idx → EReal) = _
  funext y
  idx_vars y
  refine Eq.trans ?_ (congrFun H.ht _)
  unfold iblk
  entry_read
  blk_simp [idx n]
  pointwise
  blk_ext! [iblk, V, idx n]

theorem block3 (n : Fin cfg0.N) : iblk m c 3 n = up (S := S1024x1024) H.w := by
  change (_ : S1024x1024.Idx → EReal) = _
  funext y
  idx_vars y
  unfold iblk
  entry_read
  blk_simp [idx n]
  pointwise
  rw [H.hw]
  refine congrArg (fun r : ℝ => (r : EReal)) ?_
  blk_ext [idx n]

theorem block4 (n : Fin cfg0.N) : iblk m c 4 n = up (S := S512x256) fun y => H.a (ix2 (row n (y 0)) (y 1)) := by
  change (_ : S512x256.Idx → EReal) = _
  funext y
  idx_vars y
  unfold iblk
  entry_read
  blk_simp [idx n]
  pointwise
  rw [H.ha]
  refine congrArg (fun r : ℝ => (r : EReal)) ?_
  unfold row
  blk_ext [idx n]

theorem block5 (n : Fin cfg0.N) : iblk m c 5 n = up (S := S512x384) fun y => H.b (ix2 (row n (y 0)) (y 1)) := by
  change (_ : S512x384.Idx → EReal) = _
  funext y
  idx_vars y
  unfold iblk
  entry_read
  blk_simp [idx n]
  pointwise
  rw [H.hb]
  refine congrArg (fun r : ℝ => (r : EReal)) ?_
  unfold row
  blk_ext [idx n]

theorem block6 (n : Fin cfg0.N) : iblk m c 6 n = up (S := S512x384) fun y => H.e (ix2 (row n (y 0)) (y 1)) := by
  change (_ : S512x384.Idx → EReal) = _
  funext y
  idx_vars y
  unfold iblk
  entry_read
  blk_simp [idx n]
  pointwise
  rw [H.he]
  refine congrArg (fun r : ℝ => (r : EReal)) ?_
  unfold row
  blk_ext [idx n]

theorem block7 (n : Fin cfg0.N) : iblk m c 7 n = up (S := S1x1024) fun y => H.g (ix1 (y 1)) := by
  change (_ : S1x1024.Idx → EReal) = _
  funext y
  idx_vars y
  refine Eq.trans ?_ (congrFun H.hg _)
  unfold iblk
  entry_read
  blk_simp [idx n]
  pointwise
  blk_ext! [iblk, V, idx n]

theorem gainA (n : Fin cfg0.N) : (View.ld (Val := Elt Ideal) (e' := .f32) (iblk m c 7 n) RA : S1x256.Idx → EReal)
    = up (S := S1x256) fun y => H.g (ix1 (colA (y 1))) := by
  rw [block7 H, ldA]
  rfl
theorem gainB (n : Fin cfg0.N) : (View.ld (Val := Elt Ideal) (e' := .f32) (iblk m c 7 n) RB : S1x384.Idx → EReal)
    = up (S := S1x384) fun y => H.g (ix1 (colB (y 1))) := by
  rw [block7 H, ldB]
  rfl
theorem gainC (n : Fin cfg0.N) : (View.ld (Val := Elt Ideal) (e' := .f32) (iblk m c 7 n) RC : S1x384.Idx → EReal)
    = up (S := S1x384) fun y => H.g (ix1 (colC (y 1))) := by
  rw [block7 H, ldC]
  rfl

/-! ## The six results -/

/-- The gradient of the joined groups. -/
def Inputs.dn : S16384x1024.Idx → ℝ := GroupSpec.dn H.t H.w H.d

/-- The array of the cotangent of the output product after the run. -/
theorem dao_eq : (dats m 0 c).arrAt 8 (cfgs 0).N = up (S := S16384x1024) (GroupSpec.dao H.t H.d) := by
  refine (dats m 0 c).arrAt_eq_of_covers 8 _ (by decide +kernel) fun n hf y => ?_
  blk_simp
  rw [after0_8]
  revert y
  change ∀ y : S512x1024.Idx, _
  intro y
  idx_vars y
  by_cases h0 : n.val % 32 = 0
  · rw [outsAt0_A m c n h0]
    frame_out
    rw [block0 H, block2 H, pay_dao, emb8]
    rfl
  · rw [outsAt0_B m c n h0]
    frame_out
    rw [block0 H, block2 H, pay_dao, emb8]
    rfl

/-- The array of the first group's gradient after the run. -/
theorem dya_eq : (dats m 0 c).arrAt 9 (cfgs 0).N = up (S := S16384x256) (GroupSpec.dya H.a H.g H.dn) := by
  refine (dats m 0 c).arrAt_eq_of_covers 9 _ (by decide +kernel) fun n hf y => ?_
  blk_simp
  rw [after0_9]
  revert y
  change ∀ y : S512x256.Idx, _
  intro y
  idx_vars y
  by_cases h0 : n.val % 32 = 0
  · rw [outsAt0_A m c n h0]
    frame_out
    rw [gainA H, block0 H, block2 H, block3 H, block4 H, pay_dA, pay_dyA, emb9]
    rfl
  · rw [outsAt0_B m c n h0]
    frame_out
    rw [gainA H, block0 H, block2 H, block3 H, block4 H, pay_dA, pay_dyA, emb9]
    rfl

set_option maxHeartbeats 1000000 in
/-- The array of the second group's gradient after the run. -/
theorem dyb_eq : (dats m 0 c).arrAt 10 (cfgs 0).N = up (S := S16384x384) (GroupSpec.dyb H.b H.g H.dn) := by
  refine (dats m 0 c).arrAt_eq_of_covers 10 _ (by decide +kernel) fun n hf y => ?_
  blk_simp
  rw [after0_10]
  revert y
  change ∀ y : S512x384.Idx, _
  intro y
  idx_vars y
  by_cases h0 : n.val % 32 = 0
  · rw [outsAt0_A m c n h0]
    frame_out
    rw [gainB H, block0 H, block2 H, block3 H, block5 H, pay_dn, pay_dB, pay_dyB, emb10]
    rfl
  · rw [outsAt0_B m c n h0]
    frame_out
    rw [gainB H, block0 H, block2 H, block3 H, block5 H, pay_dn, pay_dB, pay_dyB, emb10]
    rfl

set_option maxHeartbeats 1000000 in
/-- The array of the third group's gradient after the run. -/
theorem dyc_eq : (dats m 0 c).arrAt 11 (cfgs 0).N = up (S := S16384x384) (GroupSpec.dyc H.e H.g H.dn) := by
  refine (dats m 0 c).arrAt_eq_of_covers 11 _ (by decide +kernel) fun n hf y => ?_
  blk_simp
  rw [after0_11]
  revert y
  change ∀ y : S512x384.Idx, _
  intro y
  idx_vars y
  by_cases h0 : n.val % 32 = 0
  · rw [outsAt0_A m c n h0]
    frame_out
    rw [gainC H, block0 H, block2 H, block3 H, block6 H, pay_dn, pay_dC, pay_dyC, emb11]
    rfl
  · rw [outsAt0_B m c n h0]
    frame_out
    rw [gainC H, block0 H, block2 H, block3 H, block6 H, pay_dn, pay_dC, pay_dyC, emb11]
    rfl

/-- What the block of point `n` adds to a lane of the gate's gradient. -/
def Inputs.dgtAt (n : Fin cfg0.N) (k : Fin 1024) : EReal := ∑ r : Fin 512, (H.d (ix2 (row n r) k) : EReal) * A m c (ix2 (row n r) k)
/-- What the block of point `n` adds to a lane of the gains' gradient. -/
def Inputs.dgAt (n : Fin cfg0.N) (k : Fin 1024) : ℝ := ∑ r : Fin 512, dgRow H.a H.b H.e H.dn (row n r) k

theorem dgt_first (n : Fin cfg0.N) (h : n.val % 32 = 0) (j : S1x1024.Idx) :
    (outsAt0 m c n.val n.isLt).2.2.2.2.1 j = 0 + H.dgtAt n (j 1) := by
  rw [outsAt0_A m c n h]
  frame_out
  rw [block0 H, block1]
  idx_vars j
  refine (pay_dgt _ _ _ _ _).trans ?_
  pointwise [k0_pay3]
  rfl

theorem dgt_next (n : Fin cfg0.N) (h : ¬n.val % 32 = 0) (j : S1x1024.Idx) :
    (outsAt0 m c n.val n.isLt).2.2.2.2.1 j
      = (outsAt0 m c (n.val - 1) (Nat.lt_of_le_of_lt (Nat.sub_le _ _) n.isLt)).2.2.2.2.1 j + H.dgtAt n (j 1) := by
  rw [outsAt0_B m c n h]
  frame_out
  rw [block0 H, block1]
  idx_vars j
  exact pay_dgt _ _ _ _ _

omit H in
theorem pay_zero (z : Fin 1) (k : Fin 1024) : (k0_pay4 (F := Ideal) (ix2 z k) : EReal) = 0 := by
  pointwise [k0_pay4]

set_option maxHeartbeats 1000000 in
theorem dg_first (n : Fin cfg0.N) (h : n.val % 32 = 0) (j : S1x1024.Idx) :
    (outsAt0 m c n.val n.isLt).2.2.2.2.2 j = 0 + (H.dgAt n (j 1) : EReal) := by
  rw [outsAt0_A m c n h]
  frame_out
  rw [block0 H, block2 H, block3 H, block4 H, block5 H, block6 H, pay_dn, pay_dB, pay_dA]
  idx_vars j
  refine (canon3_add _ _ _ _ j0 j1 (fun _ => 0) _ _ _ (fun k => ?_) (fun k => ?_) (fun k => ?_)).trans
    (congrArg (fun r : ℝ => (0 : EReal) + (r : EReal)) (join_sum Finset.univ _ _ _ j1).symm)
  · exact (pay_dgA _ _ _ _ _).trans (congrArg (· + _) (readA _ pay_zero _ _ _))
  · exact (pay_dgB _ _ _ _ _).trans (congrArg (· + _) (readB _ _ pay_zero _ _ _))
  · exact (pay_dgC _ _ _ _ _).trans (congrArg (· + _) (readC _ _ _ pay_zero _ _ _))

set_option maxHeartbeats 1000000 in
theorem dg_next (n : Fin cfg0.N) (h : ¬n.val % 32 = 0) (j : S1x1024.Idx) :
    (outsAt0 m c n.val n.isLt).2.2.2.2.2 j
      = (outsAt0 m c (n.val - 1) (Nat.lt_of_le_of_lt (Nat.sub_le _ _) n.isLt)).2.2.2.2.2 j + (H.dgAt n (j 1) : EReal) := by
  rw [outsAt0_B m c n h]
  frame_out
  rw [block0 H, block2 H, block3 H, block4 H, block5 H, block6 H, pay_dn, pay_dB, pay_dA]
  idx_vars j
  refine (canon3_add _ _ _ _ j0 j1
    (fun k => (outsAt0 m c (n.val - 1) (Nat.lt_of_le_of_lt (Nat.sub_le _ _) n.isLt)).2.2.2.2.2 (ix2 j0 k)) _ _ _
    (fun k => ?_) (fun k => ?_) (fun k => ?_)).trans (congrArg (fun r : ℝ => _ + (r : EReal)) (join_sum Finset.univ _ _ _ j1).symm)
  · exact (pay_dgA _ _ _ _ _).trans (congrArg (· + _) (congrFun (ldA _) _))
  · exact (pay_dgB _ _ _ _ _).trans (congrArg (· + _) (congrFun (ldB _) _))
  · exact (pay_dgC _ _ _ _ _).trans (congrArg (· + _) (congrFun (ldC _) _))

/-- The array of the gate's gradient after the run: the blocks' parts summed over the grid. -/
theorem dgt_eq : (dats m 0 c).arrAt 12 (cfgs 0).N = GroupSpec.dgt H.d (A m c) := by
  refine (dats m 0 c).arrAt_eq_of_after_last 12 last (by decide +kernel) _ fun j => ?_
  blk_simp
  revert j
  change ∀ j : S1x1024.Idx, _
  intro j
  rw [after0_12, Pipeline.eq_sum_fin_of_reset_step_apply_last (fun n h => (outsAt0 m c n h).2.2.2.2.1) 32 (fun _ => 0)
    (fun n j => H.dgtAt n (j 1)) (dgt_first H) (dgt_next H) (le_of_eq N_0) last N_0.symm j, zero_add]
  unfold Inputs.dgtAt
  exact Fin.sum_mul_add_congr fun n r hl => rfl

/-- The array of the gains' gradient after the run: the blocks' parts summed over the grid. -/
theorem dg_eq : (dats m 0 c).arrAt 13 (cfgs 0).N = up (S := S1x1024) (GroupSpec.dgg H.a H.b H.e H.dn) := by
  refine (dats m 0 c).arrAt_eq_of_after_last 13 last (by decide +kernel) _ fun j => ?_
  blk_simp
  revert j
  change ∀ j : S1x1024.Idx, _
  intro j
  rw [after0_13, Pipeline.eq_sum_fin_of_reset_step_apply_last (fun n h => (outsAt0 m c n h).2.2.2.2.2) 32 (fun _ => 0)
    (fun n j => (H.dgAt n (j 1) : EReal)) (dg_first H) (dg_next H) (le_of_eq N_0) last N_0.symm j, zero_add, sum_coe]
  refine congrArg _ ?_
  unfold Inputs.dgAt
  exact Fin.sum_mul_add_congr fun n r hl => rfl

omit H in
/-- The kernel's run on finite inputs: the six results and the unchanged arguments. -/
theorem run_real (ρ : Dev nD → PrngReg) (H : ∀ c : Dev nD, Inputs m c) :
    θ_run (defs (F := Ideal)) (onTc (τ := τ) (main (F := Ideal))) ⟨m, fun _ => 0, ρ⟩ fun r => ∀ c : Dev nD,
      r.2.mem ((c.tc : Thread nD τ).loc main_v51_0) = up (S := S16384x1024) (GroupSpec.dao (H c).t (H c).d)
      ∧ r.2.mem ((c.tc : Thread nD τ).loc main_v51_1) = up (S := S16384x256) (GroupSpec.dya (H c).a (H c).g (H c).dn)
      ∧ r.2.mem ((c.tc : Thread nD τ).loc main_v51_2) = up (S := S16384x384) (GroupSpec.dyb (H c).b (H c).g (H c).dn)
      ∧ r.2.mem ((c.tc : Thread nD τ).loc main_v51_3) = up (S := S16384x384) (GroupSpec.dyc (H c).e (H c).g (H c).dn)
      ∧ r.2.mem ((c.tc : Thread nD τ).loc main_v51_4) = GroupSpec.dgt (H c).d (A m c)
      ∧ r.2.mem ((c.tc : Thread nD τ).loc main_v51_5) = up (S := S1x1024) (GroupSpec.dgg (H c).a (H c).b (H c).e (H c).dn)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run (defs (F := Ideal)) _ _).mono (fun r h c => ?_) (run_blocks m ρ)
  obtain ⟨h0, h1, h2, h3, h4, h5, ha⟩ := h c
  exact ⟨h0.trans (dao_eq (H c)), h1.trans (dya_eq (H c)), h2.trans (dyb_eq (H c)), h3.trans (dyc_eq (H c)), h4.trans (dgt_eq (H c)),
    h5.trans (dg_eq (H c)), ha⟩

end Cert.OprojIdeal.Value
end
-- ==== Proof.OprojPair.lean ====
module
public import proofs.«01_k».proof.Defs
public import proofs.«01_k».proof.Proof.Gen.Pre_oproj_pre
public import proofs.«01_k».proof.Proof.OprojRef
public import proofs.«01_k».proof.Proof.OprojKer
public import Idealize.ShloMosaic.Lib.StableHlo.RunRead

@[expose] public section

set_option maxRecDepth 16384

noncomputable section

namespace Cert.OprojPair
open Idealize.ShloMosaic Idealize.ShloMosaic.TcCoe Idealize.SL.Sem Cert.Finite

/-- The reference runs to its end, leaves its arguments as they were and every semaphore at zero. -/
theorem frame_ref : Cert.quiescent_OprojRefIdeal := fun m ρ _ =>
  (θ_run Cert.OprojRefIdeal.defs _ _).mono (fun r h => ⟨fun c => (h c).2.2.2.2.2.2, sem_eq_zero_of_no_sems (by decide) r.2⟩)
    (Cert.OprojRefIdeal.Value.run m ρ)

section saved
open Cert.OprojIdeal Cert.OprojIdeal.Gen Cert.OprojRefIdeal.Value StableHlo
variable (m : (ℓ : Loc nD τ sig) → Buf (Elt Ideal) ℓ) (c : Dev nD)

/-- The contents after the host lines that normalise the three groups. -/
abbrev after51 (b : Ref sig .tc) : Buf (Elt Ideal) ((c : Thread nD τ).loc b) := upto (hostOps0 (F := Ideal)) (fun b => m (c, b)) 51 (Proc.devRef .tc b)

/-- The output product of three arrays joined. -/
def joined (a : FVec Ideal S16384x256 .f32) (b e : FVec Ideal S16384x384 .f32) (w : FVec Ideal S1024x1024 .f32) : FVec Ideal S16384x1024 .bf16 :=
  truncf .bf16 (Host.dotGeneral dot_S16384x1024_S1024x1024_S16384x1024_1_0_0_1_n_n none
    (concatenate S16384x1024 1 [⟨S16384x256, a⟩, ⟨S16384x384, b⟩, ⟨S16384x384, e⟩] concatenates_S16384x256_S16384x384_S16384x384_S16384x1024_d1) w : FVec Ideal S16384x1024 .f32) bitsLt_bf16_f32

theorem saved_joined : Cert.OprojIdeal.Value.A m c = joined (after51 m c main_v15) (after51 m c main_v28) (after51 m c main_v41) (m ((c.tc : Thread nD τ).loc main_arg5)) := by
  unfold Cert.OprojIdeal.Value.A
  after_reads_simp
  rfl

theorem saved_first : (after51 m c main_v15 : S16384x256.Idx → EReal)
    = mulf (hatA (m ((c.tc : Thread nD τ).loc main_arg1))) (broadcastInDim S16384x256 ![0, 1] Cert.OprojRefIdeal.Gen.bcast_S1x256_S16384x256_0_1 (broadcastInDim S1x256 ![1] Cert.OprojRefIdeal.Gen.bcast_S256_S1x256_1 (gA (m ((c.tc : Thread nD τ).loc main_arg4))))) := by
  after_reads_simp
  rfl

theorem saved_second : (after51 m c main_v28 : S16384x384.Idx → EReal)
    = mulf (hatB (m ((c.tc : Thread nD τ).loc main_arg2))) (broadcastInDim S16384x384 ![0, 1] Cert.OprojRefIdeal.Gen.bcast_S1x384_S16384x384_0_1 (broadcastInDim S1x384 ![1] Cert.OprojRefIdeal.Gen.bcast_S384_S1x384_1 (gB (m ((c.tc : Thread nD τ).loc main_arg4))))) := by
  after_reads_simp
  rfl

theorem saved_third : (after51 m c main_v41 : S16384x384.Idx → EReal)
    = mulf (hatB (m ((c.tc : Thread nD τ).loc main_arg3))) (broadcastInDim S16384x384 ![0, 1] Cert.OprojRefIdeal.Gen.bcast_S1x384_S16384x384_0_1 (broadcastInDim S1x384 ![1] Cert.OprojRefIdeal.Gen.bcast_S384_S1x384_1 (gC (m ((c.tc : Thread nD τ).loc main_arg4))))) := by
  after_reads_simp
  rfl

/-- The kernel's saved output product is the one of the reference. -/
theorem saved : Cert.OprojIdeal.Value.A m c
    = ao (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [saved_joined]
  have key : ∀ (a a' : FVec Ideal S16384x256 .f32) (b b' e e' : FVec Ideal S16384x384 .f32) (w : FVec Ideal S1024x1024 .f32),
      a = a' → b = b' → e = e' → joined a b e w = joined a' b' e' w := by
    intro a a' b b' e e' w h1 h2 h3
    rw [h1, h2, h3]
  exact (key _ _ _ _ _ _ _ (saved_first m c) (saved_second m c) (saved_third m c)).trans rfl
end saved

/-- The backward pass of the group norms, the output product and the gate: kernel and reference compute the same six arrays. -/
theorem algebraic : Cert.algebraic_OprojIdeal_OprojRefIdeal_pre_oproj_pre := by
  intro m ρ m' ρ' hp ha
  choose a h1 using fun c => reals_of_mask _ _ (fun _ => ofBits_inf) (hp c).1
  choose b h2 using fun c => reals_of_mask _ _ (fun _ => ofBits_inf) (hp c).2.1
  choose e h3 using fun c => reals_of_mask _ _ (fun _ => ofBits_inf) (hp c).2.2.1
  choose g h4 using fun c => reals_of_mask _ _ (fun _ => ofBits_inf) (hp c).2.2.2.1
  choose w h5 using fun c => reals_of_mask _ _ (fun _ => ofBits_inf) (hp c).2.2.2.2.1
  choose t h6 using fun c => reals_of_mask _ _ (fun _ => ofBits_inf) (hp c).2.2.2.2.2.1
  choose d h7 using fun c => reals_of_mask _ _ (fun _ => ofBits_inf) (hp c).2.2.2.2.2.2
  let H : ∀ c, Cert.OprojIdeal.Value.Inputs m c := fun c =>
    ⟨a c, b c, e c, g c, w c, t c, d c, h1 c, h2 c, h3 c, h4 c, h5 c, h6 c, h7 c⟩
  exact ⟨_, _, _, _, _, _, Cert.OprojIdeal.Value.run_real ρ H,
    Cert.OprojRefIdeal.Value.run_real m' ρ' a b e g t w d (Cert.OprojIdeal.Value.A m) (fun c => (ha c).2.1.trans (h1 c))
      (fun c => (ha c).2.2.1.trans (h2 c)) (fun c => (ha c).2.2.2.1.trans (h3 c)) (fun c => (ha c).2.2.2.2.1.trans (h4 c))
      (fun c => (ha c).2.2.2.2.2.1.trans (h5 c)) (fun c => (ha c).2.2.2.2.2.2.1.trans (h6 c)) (fun c => (ha c).2.2.2.2.2.2.2.trans (h7 c))
      (fun c => by rw [saved, h1 c, h2 c, h3 c, h4 c, h5 c]; rfl)⟩

end Cert.OprojPair
end
-- ==== Proof.FfnbRef.lean ====
module
public import proofs.«01_k».proof.Proof.InprojRef
public import proofs.«01_k».proof.Proof.Gen.FfnbRefIdeal.Run

/-! The reference of the feed-forward block's normalisation and projection, read on real numbers. Its normalisation is the
    attention block's; only the product differs. -/

@[expose] public section

set_option maxRecDepth 16384

noncomputable section

namespace Cert.FfnbRefIdeal.Value
open Cert.FfnbRefIdeal Cert.FfnbRefIdeal.Gen Idealize.ShloMosaic Idealize.ShloMosaic.TcCoe Idealize.SL.Sem Idealize.ShloMosaic.StableHlo Cert.Finite
open NormSpec (up)

/-- The product's gradient with respect to its left factor. -/
def dhV {F : FTy → Type} [FloatOps F] (P : FVec F S16384x5632 .f32) (W : FVec F S1024x5632 .f32) : FVec F S16384x1024 .f32 :=
  Host.dotGeneral dot_S16384x5632_S1024x5632_S16384x1024_1_1_0_0_n_n none P W

/-- On real numbers it is a real sum. -/
theorem dh_up (p : S16384x5632.Idx → ℝ) (w : S1024x5632.Idx → ℝ) :
    dhV (F := Ideal) (up (S := S16384x5632) p) (up (S := S1024x5632) w) = up (S := S16384x1024) (NormSpec.prod p w) := by
  change (_ : S16384x1024.Idx → EReal) = _
  funext i
  idx_vars i
  unfold dhV
  pointwise
  simp only [up, ← EReal.coe_mul, sum_coe]
  rfl

/-! ## The run -/

set_option maxHeartbeats 4000000 in
/-- The reference's run on finite inputs: the four results and the unchanged arguments. -/
theorem run_real (m : (ℓ : Loc nD τ sig) → Buf (Elt Ideal) ℓ) (ρ : Dev nD → PrngReg) (x : Dev nD → S16384x1024.Idx → ℝ)
  (g s : Dev nD → S1024.Idx → ℝ) (w : Dev nD → S1024x5632.Idx → ℝ) (p : Dev nD → S16384x5632.Idx → ℝ) (R : Dev nD → S16384x1024.Idx → EReal)
  (hx : ∀ c : Dev nD, m ((c.tc : Thread nD τ).loc main_arg0) = up (S := S16384x1024) (x c))
  (hg : ∀ c : Dev nD, m ((c.tc : Thread nD τ).loc main_arg1) = up (S := S1024) (g c))
  (hs : ∀ c : Dev nD, m ((c.tc : Thread nD τ).loc main_arg2) = up (S := S1024) (s c))
  (hw : ∀ c : Dev nD, m ((c.tc : Thread nD τ).loc main_arg4) = up (S := S1024x5632) (w c))
  (hR : ∀ c : Dev nD, m ((c.tc : Thread nD τ).loc main_arg5) = R c)
  (hp : ∀ c : Dev nD, m ((c.tc : Thread nD τ).loc main_arg6) = up (S := S16384x5632) (p c)) :
  θ_run (defs (F := Ideal)) (onTc (τ := τ) (main (F := Ideal))) ⟨m, fun _ => 0, ρ⟩ fun r => ∀ c : Dev nD,
    r.2.mem ((c.tc : Thread nD τ).loc main_v55) = NormSpec.outDx (x c) (NormSpec.prod (p c) (w c)) (g c) (s c) (R c)
    ∧ r.2.mem ((c.tc : Thread nD τ).loc main_v56) = NormSpec.outDg (x c) (NormSpec.prod (p c) (w c)) (s c)
    ∧ r.2.mem ((c.tc : Thread nD τ).loc main_v57) = NormSpec.outDsc (x c) (NormSpec.prod (p c) (w c)) (g c)
    ∧ r.2.mem ((c.tc : Thread nD τ).loc main_v58) = NormSpec.outDsh (NormSpec.prod (p c) (w c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run (defs (F := Ideal)) _ _).mono (fun r h c => ?_) (run m ρ)
  obtain ⟨h0, h1, h2, h3, ha⟩ := h c
  refine ⟨h0.trans ?_, h1.trans ?_, h2.trans ?_, h3.trans ?_, ha⟩
  · unfold res_main_v55
    rw [hx c, hg c, hs c, hw c, hp c, hR c]
    refine Eq.trans ?_ (Cert.InprojRefIdeal.Value.outDx_up (x c) (NormSpec.prod (p c) (w c)) (g c) (s c) (R c))
    rw [← dh_up]
    rfl
  · rw [hx c, hs c, hw c, hp c]
    refine Eq.trans ?_ (Cert.InprojRefIdeal.Value.outDg_up (x c) (NormSpec.prod (p c) (w c)) (s c))
    rw [← dh_up]
    rfl
  · rw [hx c, hg c, hw c, hp c]
    refine Eq.trans ?_ (Cert.InprojRefIdeal.Value.outDsc_up (x c) (NormSpec.prod (p c) (w c)) (g c))
    rw [← dh_up]
    rfl
  · rw [hw c, hp c]
    refine Eq.trans ?_ (Cert.InprojRefIdeal.Value.outDsh_up (NormSpec.prod (p c) (w c)))
    rw [← dh_up]
    rfl

end Cert.FfnbRefIdeal.Value
end
-- ==== Proof.FfnbKer.lean ====
module
public import proofs.«01_k».proof.Proof.NormSpec
public import proofs.«01_k».proof.Proof.Gen.FfnbIdeal.Value
public import Idealize.ShloMosaic.Lib.Pipeline.ValueKit

/-! The kernel of the feed-forward block's normalisation and gate-and-up projection, read on real numbers. -/

@[expose] public section

set_option maxRecDepth 16384

noncomputable section

namespace Cert.FfnbIdeal.Value
open Cert.FfnbIdeal Cert.FfnbIdeal.Gen Idealize.ShloMosaic Idealize.ShloMosaic.TcCoe Idealize.SL.Sem Cert.Finite
open NormSpec (up)

/-- Row `r` of the block that point `n` works on. -/
def row (n : Fin cfg0.N) (r : Fin 512) : Fin 16384 :=
  ⟨n.val * 512 + r.val, by have h : n.val < 32 := lt_of_lt_of_eq n.isLt N_0; omega⟩

/-- Where column `k` of tile `t` of the weight lies among the weight's own columns: a tile holds 1408 columns of the gate
    and the same 1408 columns of the up projection. -/
def col (t : Fin 2) (k : Fin 2816) : Fin 5632 := ⟨k.val / 1408 * 2816 + t.val * 1408 + k.val % 1408, by omega⟩

/-- The same for a column of the cotangent, whose tiles lie one after the other. -/
def colq (q : Fin 5632) : Fin 5632 := ⟨q.val % 2816 / 1408 * 2816 + q.val / 2816 * 1408 + q.val % 1408, by omega⟩

/-- A sum over the columns, taken tile by tile. -/
theorem sum_tiles (f : Fin 5632 → ℝ) :
    ∑ k : Fin 2816, f (col 0 k) + ∑ k : Fin 2816, f (col 1 k) = ∑ q, f q := by
  have e : ∑ q, f q = ∑ u : Fin 2 × Fin 2816, f (col u.1 u.2) := by
    refine (Finset.sum_nbij' (fun u : Fin 2 × Fin 2816 => col u.1 u.2)
      (fun q => ((⟨q.val % 2816 / 1408, by omega⟩, ⟨q.val / 2816 * 1408 + q.val % 1408, by omega⟩) : Fin 2 × Fin 2816))
      (by simp) (by simp) ?_ ?_ (by simp)).symm
    · rintro ⟨t, k⟩ -
      refine Prod.ext (Fin.ext ?_) (Fin.ext ?_)
      · show (k.val / 1408 * 2816 + t.val * 1408 + k.val % 1408) % 2816 / 1408 = t.val
        omega
      · show (k.val / 1408 * 2816 + t.val * 1408 + k.val % 1408) / 2816 * 1408 + (k.val / 1408 * 2816 + t.val * 1408 + k.val % 1408) % 1408 = k.val
        omega
    · rintro q -
      refine Fin.ext ?_
      show (q.val / 2816 * 1408 + q.val % 1408) / 1408 * 2816 + q.val % 2816 / 1408 * 1408 + (q.val / 2816 * 1408 + q.val % 1408) % 1408 = q.val
      omega
  rw [e, Fintype.sum_prod_type, Fin.sum_univ_two]

/-! ## The body on real blocks -/

section payloads
variable (X D : S512x1024.Idx → ℝ) (P : S512x5632.Idx → ℝ) (W : S2x1024x2816.Idx → ℝ) (γ σ : S1x1024.Idx → ℝ)

/-- The cotangent's tile as the body loads it. -/
abbrev ld0 (P : Vec Ideal S512x5632 .bf16) : Vec Ideal S512x2816 .bf16 := View.ld P (Rect.unit ![0, 0] ![512, 2816] inb_S512x5632_S512x2816_0_0)
/-- The cotangent's other tile. -/
abbrev ld1 (P : Vec Ideal S512x5632 .bf16) : Vec Ideal S512x2816 .bf16 := View.ld P (Rect.unit ![0, 2816] ![512, 2816] inb_S512x5632_S512x2816_0_2816)
/-- The weight's tile as the body loads it. -/
abbrev lw0 (W : Vec Ideal S2x1024x2816 .bf16) : Vec Ideal S1x1024x2816 .bf16 := View.ld W (Rect.unit ![0, 0, 0] ![1, 1024, 2816] inb_S2x1024x2816_S1x1024x2816_0_0_0)
/-- The weight's other tile. -/
abbrev lw1 (W : Vec Ideal S2x1024x2816 .bf16) : Vec Ideal S1x1024x2816 .bf16 := View.ld W (Rect.unit ![1, 0, 0] ![1, 1024, 2816] inb_S2x1024x2816_S1x1024x2816_1_0_0)

/-- The gradient of the product's left factor, on one block. -/
def dhB : S512x1024.Idx → ℝ := fun i =>
  ∑ k : Fin 2816, P (ix2 (i 0) ⟨k.val, by omega⟩) * W (ix3 0 (i 1) k) + ∑ k : Fin 2816, P (ix2 (i 0) ⟨2816 + k.val, by omega⟩) * W (ix3 1 (i 1) k)

theorem ld0_up : ld0 (up (S := S512x5632) P) = up (S := S512x2816) fun i => P (ix2 (i 0) ⟨(i 1).val, by have : (i 1).val < 2816 := (i 1).isLt; omega⟩) := by
  change (_ : S512x2816.Idx → EReal) = _
  funext i
  idx_vars i
  refine (View.ld_unit_apply_of _ _ _ _ _ (ix2 i0 ⟨i1.val, by omega⟩) fun a => ?_).trans rfl
  revert a
  exact Fin.forall_fin_two.2 ⟨(Nat.zero_add _).symm, (Nat.zero_add _).symm⟩

theorem ld1_up : ld1 (up (S := S512x5632) P) = up (S := S512x2816) fun i => P (ix2 (i 0) ⟨2816 + (i 1).val, by have : (i 1).val < 2816 := (i 1).isLt; omega⟩) := by
  change (_ : S512x2816.Idx → EReal) = _
  funext i
  idx_vars i
  refine (View.ld_unit_apply_of _ _ _ _ _ (ix2 i0 ⟨2816 + i1.val, by omega⟩) fun a => ?_).trans rfl
  revert a
  exact Fin.forall_fin_two.2 ⟨(Nat.zero_add _).symm, rfl⟩

theorem lw0_up : lw0 (up (S := S2x1024x2816) W) = up (S := S1x1024x2816) fun i => W (ix3 0 (i 1) (i 2)) := by
  change (_ : S1x1024x2816.Idx → EReal) = _
  funext i
  idx_vars i
  refine (View.ld_unit_apply_of _ _ _ _ _ (ix3 0 i1 i2) fun a => ?_).trans rfl
  match a with
  | 0 => show 0 = 0 + i0.val; omega
  | 1 => exact (Nat.zero_add _).symm
  | 2 => exact (Nat.zero_add _).symm

theorem lw1_up : lw1 (up (S := S2x1024x2816) W) = up (S := S1x1024x2816) fun i => W (ix3 1 (i 1) (i 2)) := by
  change (_ : S1x1024x2816.Idx → EReal) = _
  funext i
  idx_vars i
  refine (View.ld_unit_apply_of _ _ _ _ _ (ix3 1 i1 i2) fun a => ?_).trans rfl
  match a with
  | 0 => show 1 = 1 + i0.val; omega
  | 1 => exact (Nat.zero_add _).symm
  | 2 => exact (Nat.zero_add _).symm

/-- The gradient of the product's left factor, as the body computes it. -/
abbrev dhK (P : Vec Ideal S512x5632 .bf16) (W : Vec Ideal S2x1024x2816 .bf16) : FVec Ideal S512x1024 .f32 := k0_pay4 (ld0 P) (lw0 W) (ld1 P) (lw1 W)

theorem pay_dh : dhK (up (S := S512x5632) P) (up (S := S2x1024x2816) W) = up (S := S512x1024) (dhB P W) := by
  rw [dhK, ld0_up, ld1_up, lw0_up, lw1_up]
  change (_ : S512x1024.Idx → EReal) = _
  funext i
  idx_vars i
  pointwise [k0_pay4]
  simp only [up, ← EReal.coe_mul, sum_coe, zero_add, ← EReal.coe_add]
  rfl

theorem pay_rms : k0_pay5 (F := Ideal) (up (S := S512x1024) X) = up (S := S512x1) fun i => rms fun k => X (ix2 (i 0) k) := by
  change (_ : S512x1.Idx → EReal) = _
  funext i
  idx_vars i
  pointwise [k0_pay5]
  simp only [up, ofBits_1024, ofBits_eps.1, ← EReal.coe_mul, ← EReal.coe_add, sum_coe, div_1024, rsqrt_ms]
  rfl

theorem pay_xhat : k0_pay6 (F := Ideal) (up (S := S512x1024) X) = up (S := S512x1024) fun i => X i * rms fun k => X (ix2 (i 0) k) := by
  change (_ : S512x1024.Idx → EReal) = _
  funext i
  idx_vars i
  unfold k0_pay6
  rw [pay_rms]
  pointwise
  simp only [up, ← EReal.coe_mul]
  rfl

theorem pay_gain : k0_pay7 (F := Ideal) (up (S := S1x1024) γ) = up (S := S1x1024) γ := by
  change (_ : S1x1024.Idx → EReal) = _
  funext i
  idx_vars i
  pointwise [k0_pay7]

theorem pay_dn : k0_pay12 (F := Ideal) (up (S := S512x1024) D) (up (S := S1x1024) σ)
    = up (S := S512x1024) fun i => D i * (1 + σ (ix2 0 (i 1))) := by
  change (_ : S512x1024.Idx → EReal) = _
  funext i
  idx_vars i
  pointwise [k0_pay12]
  simp only [up, ofBits_one, ← EReal.coe_mul, ← EReal.coe_add]
  rfl

theorem pay_dx (R : S512x1024.Idx → EReal) (i : Fin 512) (j : Fin 1024) :
    k0_pay14 (F := Ideal) (dhK (up (S := S512x5632) P) (up (S := S2x1024x2816) W)) (k0_pay5 (up (S := S512x1024) X))
      (k0_pay6 (up (S := S512x1024) X)) (k0_pay7 (up (S := S1x1024) γ)) (up (S := S1x1024) σ) R (ix2 i j)
    = R (ix2 i j) + (NormSpec.dx (fun k => X (ix2 i k)) (fun k => γ (ix2 0 k)) (fun k => σ (ix2 0 k)) (fun k => dhB P W (ix2 i k)) j : ℝ) := by
  unfold k0_pay14
  rw [pay_gain, pay_dh, pay_rms, pay_xhat, pay_dn]
  pointwise
  simp only [up, ofBits_1024, ← EReal.coe_mul, ← EReal.coe_add, ← EReal.coe_sub, sum_coe, div_1024]
  rfl

theorem pay_dg (v : Vec Ideal S1x1024 .f32) (z : Fin 1) (i : Fin 1024) :
    k0_pay13 (F := Ideal) (dhK (up (S := S512x5632) P) (up (S := S2x1024x2816) W)) (k0_pay6 (up (S := S512x1024) X)) (up (S := S1x1024) σ) v (ix2 z i)
    = v (ix2 z i) + (∑ r : Fin 512, NormSpec.dg (fun k => X (ix2 r k)) (fun k => σ (ix2 0 k)) (fun k => dhB P W (ix2 r k)) i : ℝ) := by
  unfold k0_pay13
  rw [pay_dh, pay_xhat, pay_dn]
  pointwise
  simp only [up, ← EReal.coe_mul, sum_coe]
  rfl

theorem pay_dsc (v : Vec Ideal S1x1024 .f32) (z : Fin 1) (i : Fin 1024) :
    k0_pay11 (F := Ideal) (dhK (up (S := S512x5632) P) (up (S := S2x1024x2816) W)) (k0_pay6 (up (S := S512x1024) X)) (k0_pay7 (up (S := S1x1024) γ)) v (ix2 z i)
    = v (ix2 z i) + (∑ r : Fin 512, NormSpec.dsc (fun k => X (ix2 r k)) (fun k => γ (ix2 0 k)) (fun k => dhB P W (ix2 r k)) i : ℝ) := by
  unfold k0_pay11
  rw [pay_dh, pay_xhat, pay_gain]
  pointwise
  simp only [up, ← EReal.coe_mul, sum_coe]
  rfl

theorem pay_dsh (v : Vec Ideal S1x1024 .f32) (z : Fin 1) (i : Fin 1024) :
    k0_pay10 (F := Ideal) (k0_pay8 v) (k0_pay9 (ld0 (up (S := S512x5632) P)) (lw0 (up (S := S2x1024x2816) W)) (ld1 (up (S := S512x5632) P)) (lw1 (up (S := S2x1024x2816) W))) (ix2 z i)
    = v (ix2 z i) + (∑ r : Fin 512, dhB P W (ix2 r i) : ℝ) := by
  unfold k0_pay9
  rw [show k0_pay4 (ld0 (up (S := S512x5632) P)) (lw0 (up (S := S2x1024x2816) W)) (ld1 (up (S := S512x5632) P)) (lw1 (up (S := S2x1024x2816) W)) = _ from pay_dh P W]
  pointwise [k0_pay8, k0_pay10]
  simp only [up, sum_coe]

end payloads

/-! ## The blocks of the inputs -/

variable (m : (ℓ : Loc nD τ sig) → Buf (Elt Ideal) ℓ) (c : Dev nD)

/-- The inputs of the run as arrays of real numbers; what passes the block by may be infinite. -/
structure Inputs where
  x : S16384x1024.Idx → ℝ
  g : S1024.Idx → ℝ
  s : S1024.Idx → ℝ
  w : S1024x5632.Idx → ℝ
  R : S16384x1024.Idx → EReal
  p : S16384x5632.Idx → ℝ
  hx : m ((c.tc : Thread nD τ).loc main_arg0) = up (S := S16384x1024) x
  hg : m ((c.tc : Thread nD τ).loc main_arg1) = up (S := S1024) g
  hs : m ((c.tc : Thread nD τ).loc main_arg2) = up (S := S1024) s
  hw : m ((c.tc : Thread nD τ).loc main_arg4) = up (S := S1024x5632) w
  hR : m ((c.tc : Thread nD τ).loc main_arg5) = R
  hp : m ((c.tc : Thread nD τ).loc main_arg6) = up (S := S16384x5632) p

theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The gate and up gradients as the host cuts their columns into tiles. -/
def pT (u : Vec Ideal S16384x5632 .f32) : Vec Ideal S16384x5632 .bf16 :=
  shapeCast S16384x5632 (transpose S16384x2x2x1408 [0, 2, 1, 3] (shapeCast S16384x2x2x1408 (truncf .bf16 u bitsLt_bf16_f32 : FVec Ideal S16384x5632 .bf16) shapeCasts_S16384x5632_S16384x2x2x1408) transposes_S16384x2x2x1408_S16384x2x2x1408_0_2_1_3) shapeCasts_S16384x2x2x1408_S16384x5632

/-- The weight as the host cuts its columns into tiles. -/
def wT (u : Vec Ideal S1024x5632 .f32) : Vec Ideal S2x1024x2816 .bf16 :=
  shapeCast S2x1024x2816 (transpose S2x1024x2x1408 [2, 0, 1, 3] (shapeCast S1024x2x2x1408 (truncf .bf16 u bitsLt_bf16_f32 : FVec Ideal S1024x5632 .bf16) shapeCasts_S1024x5632_S1024x2x2x1408) transposes_S1024x2x2x1408_S2x1024x2x1408_2_0_1_3) shapeCasts_S2x1024x2x1408_S2x1024x2816

/-- A tiled gradient's element is one of the untiled gradient's. -/
theorem pT_apply (u : Vec Ideal S16384x5632 .f32) (i : Fin 16384) (j : Fin 5632) : pT u (ix2 i j) = u (ix2 i (colq j)) := by
  unfold pT colq
  pointwise
  refine congrArg (fun q => u (ix2 i q)) (Fin.ext ?_)
  show j.val / 1408 % 2 * 2816 + j.val / 2816 * 1408 + j.val % 1408 = j.val % 2816 / 1408 * 2816 + j.val / 2816 * 1408 + j.val % 1408
  omega

/-- A tiled weight's element is one of the untiled weight's. -/
theorem wT_apply (u : Vec Ideal S1024x5632 .f32) (t : Fin 2) (i : Fin 1024) (k : Fin 2816) : wT u (ix3 t i k) = u (ix2 i (col t k)) := by
  unfold wT col
  pointwise

/-- The index of the gradient that an index of the block of point `n` is written to. -/
theorem emb6 (n : Fin cfg0.N) (i : Fin 512) (j : Fin 1024) : (win0_6.blk n).view.emb (ix2 i j) = ix2 (row n i) j := by
  unfold row
  blk_ext [idx n]

/-- The last point of the grid. -/
def last : Fin cfg0.N := ⟨31, lt_of_lt_of_eq (by decide) N_0.symm⟩

variable {m c} (H : Inputs m c)
include H

theorem block0 (n : Fin cfg0.N) : iblk m c 0 n = up (S := S512x5632) fun y => H.p (ix2 (row n (y 0)) (colq (y 1))) := by
  change (_ : S512x5632.Idx → EReal) = _
  funext y
  idx_vars y
  unfold iblk
  entry_read
  blk_simp [idx n]
  have e : (win0_0.blk n).view.emb (ix2 y0 y1) = ix2 (row n y0) y1 := by
    unfold row
    blk_ext [idx n]
  show pT (m (c, Proc.tc.devRef main_arg6)) ((win0_0.blk n).view.emb (ix2 y0 y1)) = _
  rw [e, pT_apply, H.hp]
  rfl

theorem block1 (n : Fin cfg0.N) : iblk m c 1 n = up (S := S2x1024x2816) fun y => H.w (ix2 (y 1) (col (y 0) (y 2))) := by
  change (_ : S2x1024x2816.Idx → EReal) = _
  funext y
  idx_vars y
  unfold iblk
  entry_read
  blk_simp [idx n]
  have e : (win0_1.blk n).view.emb (ix3 y0 y1 y2) = ix3 y0 y1 y2 := by
    blk_ext [idx n]
  show wT (m (c, Proc.tc.devRef main_arg4)) ((win0_1.blk n).view.emb (ix3 y0 y1 y2)) = _
  rw [e, wT_apply, H.hw]
  rfl

theorem block2 (n : Fin cfg0.N) : iblk m c 2 n = up (S := S512x1024) fun y => H.x (ix2 (row n (y 0)) (y 1)) := by
  change (_ : S512x1024.Idx → EReal) = _
  funext y
  idx_vars y
  have e := congrFun H.hx
  refine Eq.trans ?_ (e _)
  unfold row
  blk_ext [iblk, V, idx n]

theorem block3 (n : Fin cfg0.N) : iblk m c 3 n = up (S := S1x1024) fun y => H.g (ix1 (y 1)) := by
  change (_ : S1x1024.Idx → EReal) = _
  funext y
  idx_vars y
  refine Eq.trans ?_ (congrFun H.hg _)
  unfold iblk
  entry_read
  blk_simp [idx n]
  pointwise
  blk_ext! [iblk, V, idx n]

theorem block4 (n : Fin cfg0.N) : iblk m c 4 n = up (S := S1x1024) fun y => H.s (ix1 (y 1)) := by
  change (_ : S1x1024.Idx → EReal) = _
  funext y
  idx_vars y
  refine Eq.trans ?_ (congrFun H.hs _)
  unfold iblk
  entry_read
  blk_simp [idx n]
  pointwise
  blk_ext! [iblk, V, idx n]

theorem block5 (n : Fin cfg0.N) : iblk m c 5 n = fun y : S512x1024.Idx => H.R (ix2 (row n (y 0)) (y 1)) := by
  change (_ : S512x1024.Idx → EReal) = _
  funext y
  idx_vars y
  have e := congrFun H.hR
  refine Eq.trans ?_ (e _)
  unfold row
  blk_ext [iblk, V, idx n]

/-! ## The four results -/

/-- The gradient of the product's left factor. -/
def Inputs.dh : S16384x1024.Idx → ℝ := NormSpec.prod H.p H.w

/-- A block's gradient of the product's left factor. -/
theorem dh_block (n : Fin cfg0.N) (i : Fin 512) (j : Fin 1024) :
    dhB (fun y => H.p (ix2 (row n (y 0)) (colq (y 1)))) (fun y => H.w (ix2 (y 1) (col (y 0) (y 2)))) (ix2 i j) = H.dh (ix2 (row n i) j) := by
  have e := sum_tiles fun q => H.p (ix2 (row n i) q) * H.w (ix2 j q)
  have c0 : ∀ k : Fin 2816, colq ⟨k.val, by omega⟩ = col 0 k := fun k => Fin.ext (by
    show k.val % 2816 / 1408 * 2816 + k.val / 2816 * 1408 + k.val % 1408 = k.val / 1408 * 2816 + 0 * 1408 + k.val % 1408
    omega)
  have c1 : ∀ k : Fin 2816, colq ⟨2816 + k.val, by omega⟩ = col 1 k := fun k => Fin.ext (by
    show (2816 + k.val) % 2816 / 1408 * 2816 + (2816 + k.val) / 2816 * 1408 + (2816 + k.val) % 1408 = k.val / 1408 * 2816 + 1 * 1408 + k.val % 1408
    omega)
  refine Eq.trans ?_ e
  refine congrArg₂ (· + ·) (Finset.sum_congr rfl fun k _ => ?_) (Finset.sum_congr rfl fun k _ => ?_)
  · exact congrArg (fun q => H.p (ix2 (row n i) q) * H.w (ix2 j (col 0 k))) (c0 k)
  · exact congrArg (fun q => H.p (ix2 (row n i) q) * H.w (ix2 j (col 1 k))) (c1 k)

/-- The array of the activations' gradient after the run. -/
theorem dx_eq : (dats m 0 c).arrAt 6 (cfgs 0).N = NormSpec.outDx H.x H.dh H.g H.s H.R := by
  refine (dats m 0 c).arrAt_eq_of_covers 6 _ (by decide +kernel) fun n hf y => ?_
  blk_simp
  rw [after0_6]
  revert y
  change ∀ y : S512x1024.Idx, _
  intro y
  idx_vars y
  by_cases h0 : n.val % 32 = 0
  · rw [outsAt0_A m c n h0]
    frame_out
    rw [block0 H, block1 H, block2 H, block3 H, block4 H, block5 H]
    refine (pay_dx _ _ _ _ _ _ _ _).trans ?_
    rw [emb6]
    simp only [dh_block]
    rfl
  · rw [outsAt0_B m c n h0]
    frame_out
    rw [block0 H, block1 H, block2 H, block3 H, block4 H, block5 H]
    refine (pay_dx _ _ _ _ _ _ _ _).trans ?_
    rw [emb6]
    simp only [dh_block]
    rfl

/-- What the block of point `n` adds to a lane of the shift's gradient. -/
def Inputs.dshAt (n : Fin cfg0.N) (k : Fin 1024) : ℝ := ∑ r : Fin 512, H.dh (ix2 (row n r) k)
/-- What the block of point `n` adds to a lane of the scale's gradient. -/
def Inputs.dscAt (n : Fin cfg0.N) (k : Fin 1024) : ℝ :=
  ∑ r : Fin 512, NormSpec.dsc (fun k => H.x (ix2 (row n r) k)) (fun k => H.g (ix1 k)) (fun k => H.dh (ix2 (row n r) k)) k
/-- What the block of point `n` adds to a lane of the gain's gradient. -/
def Inputs.dgAt (n : Fin cfg0.N) (k : Fin 1024) : ℝ :=
  ∑ r : Fin 512, NormSpec.dg (fun k => H.x (ix2 (row n r) k)) (fun k => H.s (ix1 k)) (fun k => H.dh (ix2 (row n r) k)) k

theorem dsh_first (n : Fin cfg0.N) (h : n.val % 32 = 0) (j : S1x1024.Idx) :
    (outsAt0 m c n.val n.isLt).2.1 j = 0 + (H.dshAt n (j 1) : EReal) := by
  rw [outsAt0_A m c n h]
  frame_out
  rw [block0 H, block1 H]
  idx_vars j
  refine (pay_dsh _ _ _ _ _).trans ?_
  pointwise [k0_pay1]
  simp only [dh_block]
  rfl

theorem dsh_next (n : Fin cfg0.N) (h : ¬n.val % 32 = 0) (j : S1x1024.Idx) :
    (outsAt0 m c n.val n.isLt).2.1 j
      = (outsAt0 m c (n.val - 1) (Nat.lt_of_le_of_lt (Nat.sub_le _ _) n.isLt)).2.1 j + (H.dshAt n (j 1) : EReal) := by
  rw [outsAt0_B m c n h]
  frame_out
  rw [block0 H, block1 H]
  idx_vars j
  refine (pay_dsh _ _ _ _ _).trans ?_
  simp only [dh_block]
  rfl

theorem dsc_first (n : Fin cfg0.N) (h : n.val % 32 = 0) (j : S1x1024.Idx) :
    (outsAt0 m c n.val n.isLt).2.2.1 j = 0 + (H.dscAt n (j 1) : EReal) := by
  rw [outsAt0_A m c n h]
  frame_out
  rw [block0 H, block1 H, block2 H, block3 H]
  idx_vars j
  refine (pay_dsc _ _ _ _ _ _ _).trans ?_
  pointwise [k0_pay2]
  simp only [dh_block]
  rfl

theorem dsc_next (n : Fin cfg0.N) (h : ¬n.val % 32 = 0) (j : S1x1024.Idx) :
    (outsAt0 m c n.val n.isLt).2.2.1 j
      = (outsAt0 m c (n.val - 1) (Nat.lt_of_le_of_lt (Nat.sub_le _ _) n.isLt)).2.2.1 j + (H.dscAt n (j 1) : EReal) := by
  rw [outsAt0_B m c n h]
  frame_out
  rw [block0 H, block1 H, block2 H, block3 H]
  idx_vars j
  refine (pay_dsc _ _ _ _ _ _ _).trans ?_
  simp only [dh_block]
  rfl

theorem dg_first (n : Fin cfg0.N) (h : n.val % 32 = 0) (j : S1x1024.Idx) :
    (outsAt0 m c n.val n.isLt).2.2.2 j = 0 + (H.dgAt n (j 1) : EReal) := by
  rw [outsAt0_A m c n h]
  frame_out
  rw [block0 H, block1 H, block2 H, block4 H]
  idx_vars j
  refine (pay_dg _ _ _ _ _ _ _).trans ?_
  pointwise [k0_pay3]
  simp only [dh_block]
  rfl

theorem dg_next (n : Fin cfg0.N) (h : ¬n.val % 32 = 0) (j : S1x1024.Idx) :
    (outsAt0 m c n.val n.isLt).2.2.2 j
      = (outsAt0 m c (n.val - 1) (Nat.lt_of_le_of_lt (Nat.sub_le _ _) n.isLt)).2.2.2 j + (H.dgAt n (j 1) : EReal) := by
  rw [outsAt0_B m c n h]
  frame_out
  rw [block0 H, block1 H, block2 H, block4 H]
  idx_vars j
  refine (pay_dg _ _ _ _ _ _ _).trans ?_
  simp only [dh_block]
  rfl

/-- The array of the shift's gradient after the run: the blocks' parts summed over the grid. -/
theorem dsh_eq : (dats m 0 c).arrAt 7 (cfgs 0).N = NormSpec.outDsh H.dh := by
  refine (dats m 0 c).arrAt_eq_of_after_last 7 last (by decide +kernel) _ fun j => ?_
  blk_simp
  revert j
  change ∀ j : S1x1024.Idx, _
  intro j
  rw [after0_7, Pipeline.eq_sum_fin_of_reset_step_apply_last (fun n h => (outsAt0 m c n h).2.1) 32 (fun _ => 0)
    (fun n j => (H.dshAt n (j 1) : EReal)) (dsh_first H) (dsh_next H) (le_of_eq N_0) last N_0.symm j, zero_add, sum_coe]
  refine congrArg _ ?_
  unfold Inputs.dshAt
  exact Fin.sum_mul_add_congr fun n r hl => rfl

/-- The array of the scale's gradient after the run: the blocks' parts summed over the grid. -/
theorem dsc_eq : (dats m 0 c).arrAt 8 (cfgs 0).N = NormSpec.outDsc H.x H.dh H.g := by
  refine (dats m 0 c).arrAt_eq_of_after_last 8 last (by decide +kernel) _ fun j => ?_
  blk_simp
  revert j
  change ∀ j : S1x1024.Idx, _
  intro j
  rw [after0_8, Pipeline.eq_sum_fin_of_reset_step_apply_last (fun n h => (outsAt0 m c n h).2.2.1) 32 (fun _ => 0)
    (fun n j => (H.dscAt n (j 1) : EReal)) (dsc_first H) (dsc_next H) (le_of_eq N_0) last N_0.symm j, zero_add, sum_coe]
  refine congrArg _ ?_
  unfold Inputs.dscAt
  exact Fin.sum_mul_add_congr fun n r hl => rfl

/-- The array of the gain's gradient after the run: the blocks' parts summed over the grid. -/
theorem dg_eq : (dats m 0 c).arrAt 9 (cfgs 0).N = NormSpec.outDg H.x H.dh H.s := by
  refine (dats m 0 c).arrAt_eq_of_after_last 9 last (by decide +kernel) _ fun j => ?_
  blk_simp
  revert j
  change ∀ j : S1x1024.Idx, _
  intro j
  rw [after0_9, Pipeline.eq_sum_fin_of_reset_step_apply_last (fun n h => (outsAt0 m c n h).2.2.2) 32 (fun _ => 0)
    (fun n j => (H.dgAt n (j 1) : EReal)) (dg_first H) (dg_next H) (le_of_eq N_0) last N_0.symm j, zero_add, sum_coe]
  refine congrArg _ ?_
  unfold Inputs.dgAt
  exact Fin.sum_mul_add_congr fun n r hl => rfl

omit H in
/-- The kernel's run on finite inputs: the four results and the unchanged arguments. -/
theorem run_real (ρ : Dev nD → PrngReg) (H : ∀ c : Dev nD, Inputs m c) :
    θ_run (defs (F := Ideal)) (onTc (τ := τ) (main (F := Ideal))) ⟨m, fun _ => 0, ρ⟩ fun r => ∀ c : Dev nD,
      r.2.mem ((c.tc : Thread nD τ).loc main_v10_0) = NormSpec.outDx (H c).x (H c).dh (H c).g (H c).s (H c).R
      ∧ r.2.mem ((c.tc : Thread nD τ).loc main_v10_3) = NormSpec.outDg (H c).x (H c).dh (H c).s
      ∧ r.2.mem ((c.tc : Thread nD τ).loc main_v10_2) = NormSpec.outDsc (H c).x (H c).dh (H c).g
      ∧ r.2.mem ((c.tc : Thread nD τ).loc main_v10_1) = NormSpec.outDsh (H c).dh
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun r h c => ?_) (run_blocks m ρ)
  obtain ⟨h0, h1, h2, h3, ha⟩ := h c
  exact ⟨h0.trans (dx_eq (H c)), h3.trans (dg_eq (H c)), h2.trans (dsc_eq (H c)), h1.trans (dsh_eq (H c)), ha⟩

end Cert.FfnbIdeal.Value
end
-- ==== Proof.FfnbPair.lean ====
module
public import proofs.«01_k».proof.Defs
public import proofs.«01_k».proof.Proof.Gen.Pre_ffnb_pre
public import proofs.«01_k».proof.Proof.FfnbRef
public import proofs.«01_k».proof.Proof.FfnbKer

@[expose] public section

noncomputable section

namespace Cert.FfnbPair
open Idealize.ShloMosaic Idealize.ShloMosaic.TcCoe Idealize.SL.Sem Cert.Finite

/-- The reference runs to its end, leaves its arguments as they were and every semaphore at zero. -/
theorem frame_ref : Cert.quiescent_FfnbRefIdeal := fun m ρ _ =>
  (θ_run Cert.FfnbRefIdeal.defs _ _).mono (fun r h => ⟨fun c => (h c).2.2.2.2, sem_eq_zero_of_no_sems (by decide) r.2⟩)
    (Cert.FfnbRefIdeal.Value.run m ρ)

/-- The backward pass of the feed-forward block's normalisation and gate and up projection: kernel and reference compute the same four arrays. -/
theorem algebraic : Cert.algebraic_FfnbIdeal_FfnbRefIdeal_pre_ffnb_pre := by
  intro m ρ m' ρ' hp ha
  choose x hx using fun c => reals_of_mask _ _ (fun _ => ofBits_inf) (hp c).1
  choose g hg using fun c => reals_of_mask _ _ (fun _ => ofBits_inf) (hp c).2.1
  choose s hs using fun c => reals_of_mask _ _ (fun _ => ofBits_inf) (hp c).2.2.1
  choose w hw using fun c => reals_of_mask _ _ (fun _ => ofBits_inf) (hp c).2.2.2.1
  choose p hd using fun c => reals_of_mask _ _ (fun _ => ofBits_inf) (hp c).2.2.2.2
  let H : ∀ c, Cert.FfnbIdeal.Value.Inputs m c := fun c => ⟨x c, g c, s c, w c, _, p c, hx c, hg c, hs c, hw c, rfl, hd c⟩
  exact ⟨_, _, _, _, Cert.FfnbIdeal.Value.run_real ρ H,
    Cert.FfnbRefIdeal.Value.run_real m' ρ' x g s w p (fun c => (H c).R) (fun c => (ha c).1.trans (hx c)) (fun c => (ha c).2.1.trans (hg c))
      (fun c => (ha c).2.2.1.trans (hs c)) (fun c => (ha c).2.2.2.2.1.trans (hw c)) (fun c => (ha c).2.2.2.2.2.1)
      (fun c => (ha c).2.2.2.2.2.2.trans (hd c))⟩

end Cert.FfnbPair
end
-- ==== Proof.InprojKer.lean ====
module
public import proofs.«01_k».proof.Proof.NormSpec
public import proofs.«01_k».proof.Proof.Gen.InprojIdeal.Value
public import Idealize.ShloMosaic.Lib.Pipeline.ValueKit

/-! The kernel of the attention block's first normalisation and projection, read on real numbers. -/

@[expose] public section

set_option maxRecDepth 16384

noncomputable section

namespace Cert.InprojIdeal.Value
open Cert.InprojIdeal Cert.InprojIdeal.Gen Idealize.ShloMosaic Idealize.ShloMosaic.TcCoe Idealize.SL.Sem Cert.Finite
open NormSpec (up)

/-- Row `r` of the block that point `n` works on. -/
def row (n : Fin cfg0.N) (r : Fin 512) : Fin 16384 :=
  ⟨n.val * 512 + r.val, by have h : n.val < 32 := lt_of_lt_of_eq n.isLt N_0; omega⟩

/-! ## The body on real blocks -/

section payloads
variable (X D : S512x1024.Idx → ℝ) (P : S512x2048.Idx → ℝ) (W : S1024x2048.Idx → ℝ) (γ σ : S1x1024.Idx → ℝ)

/-- The gradient of the product's left factor, on one block. -/
def dhB : S512x1024.Idx → ℝ := fun i => ∑ k : Fin 2048, P (ix2 (i 0) k) * W (ix2 (i 1) k)

theorem pay_dh : k0_pay7 (F := Ideal) (up (S := S512x2048) P) (up (S := S1024x2048) W) = up (S := S512x1024) (dhB P W) := by
  change (_ : S512x1024.Idx → EReal) = _
  funext i
  idx_vars i
  pointwise [k0_pay7]
  simp only [up, ← EReal.coe_mul, sum_coe]
  rfl

theorem pay_rms : k0_pay8 (F := Ideal) (up (S := S512x1024) X) = up (S := S512x1) fun i => rms fun k => X (ix2 (i 0) k) := by
  change (_ : S512x1.Idx → EReal) = _
  funext i
  idx_vars i
  pointwise [k0_pay8]
  simp only [up, ofBits_1024, ofBits_eps.1, ← EReal.coe_mul, ← EReal.coe_add, sum_coe, div_1024, rsqrt_ms]
  rfl

theorem pay_xhat : k0_pay9 (F := Ideal) (up (S := S512x1024) X) = up (S := S512x1024) fun i => X i * rms fun k => X (ix2 (i 0) k) := by
  change (_ : S512x1024.Idx → EReal) = _
  funext i
  idx_vars i
  unfold k0_pay9
  rw [pay_rms]
  pointwise
  simp only [up, ← EReal.coe_mul]
  rfl

theorem pay_gain : k0_pay10 (F := Ideal) (up (S := S1x1024) γ) = up (S := S1x1024) γ := by
  change (_ : S1x1024.Idx → EReal) = _
  funext i
  idx_vars i
  pointwise [k0_pay10]

theorem pay_dn : k0_pay1 (F := Ideal) (up (S := S512x1024) D) (up (S := S1x1024) σ)
    = up (S := S512x1024) fun i => D i * (1 + σ (ix2 0 (i 1))) := by
  change (_ : S512x1024.Idx → EReal) = _
  funext i
  idx_vars i
  pointwise [k0_pay1]
  simp only [up, ofBits_one, ← EReal.coe_mul, ← EReal.coe_add]
  rfl

theorem pay_dx (R : S512x1024.Idx → EReal) (i : Fin 512) (j : Fin 1024) :
    k0_pay3 (F := Ideal) (k0_pay7 (up (S := S512x2048) P) (up (S := S1024x2048) W)) (k0_pay8 (up (S := S512x1024) X))
      (k0_pay9 (up (S := S512x1024) X)) (k0_pay10 (up (S := S1x1024) γ)) (up (S := S1x1024) σ) R (ix2 i j)
    = R (ix2 i j) + (NormSpec.dx (fun k => X (ix2 i k)) (fun k => γ (ix2 0 k)) (fun k => σ (ix2 0 k)) (fun k => dhB P W (ix2 i k)) j : ℝ) := by
  unfold k0_pay3
  rw [pay_gain, pay_dh, pay_rms, pay_xhat, pay_dn]
  pointwise
  simp only [up, ofBits_1024, ← EReal.coe_mul, ← EReal.coe_add, ← EReal.coe_sub, sum_coe, div_1024]
  rfl

theorem pay_dg (v : Vec Ideal S1x1024 .f32) (z : Fin 1) (i : Fin 1024) :
    k0_pay2 (F := Ideal) (k0_pay7 (up (S := S512x2048) P) (up (S := S1024x2048) W)) (k0_pay9 (up (S := S512x1024) X)) (up (S := S1x1024) σ) v (ix2 z i)
    = v (ix2 z i) + (∑ r : Fin 512, NormSpec.dg (fun k => X (ix2 r k)) (fun k => σ (ix2 0 k)) (fun k => dhB P W (ix2 r k)) i : ℝ) := by
  unfold k0_pay2
  rw [pay_dh, pay_xhat, pay_dn]
  pointwise
  simp only [up, ← EReal.coe_mul, sum_coe]
  rfl

theorem pay_dsc (v : Vec Ideal S1x1024 .f32) (z : Fin 1) (i : Fin 1024) :
    k0_pay12 (F := Ideal) (up (S := S512x2048) P) (up (S := S1024x2048) W) (up (S := S512x1024) X) (up (S := S1x1024) γ) v (ix2 z i)
    = v (ix2 z i) + (∑ r : Fin 512, NormSpec.dsc (fun k => X (ix2 r k)) (fun k => γ (ix2 0 k)) (fun k => dhB P W (ix2 r k)) i : ℝ) := by
  unfold k0_pay12
  rw [pay_dh, pay_xhat, pay_gain]
  pointwise
  simp only [up, ← EReal.coe_mul, sum_coe]
  rfl

theorem pay_dsh (v : Vec Ideal S1x1024 .f32) (z : Fin 1) (i : Fin 1024) :
    k0_pay11 (F := Ideal) (up (S := S512x2048) P) (up (S := S1024x2048) W) v (ix2 z i)
    = v (ix2 z i) + (∑ r : Fin 512, dhB P W (ix2 r i) : ℝ) := by
  unfold k0_pay11
  rw [pay_dh]
  pointwise
  simp only [up, sum_coe]

end payloads

/-! ## The blocks of the inputs -/

variable (m : (ℓ : Loc nD τ sig) → Buf (Elt Ideal) ℓ) (c : Dev nD)

/-- The inputs of the run as arrays of real numbers; what passes the block by may be infinite. -/
structure Inputs where
  x : S16384x1024.Idx → ℝ
  g : S1024.Idx → ℝ
  s : S1024.Idx → ℝ
  w : S1024x2048.Idx → ℝ
  R : S16384x1024.Idx → EReal
  p : S16384x2048.Idx → ℝ
  hx : m ((c.tc : Thread nD τ).loc main_arg0) = up (S := S16384x1024) x
  hg : m ((c.tc : Thread nD τ).loc main_arg1) = up (S := S1024) g
  hs : m ((c.tc : Thread nD τ).loc main_arg2) = up (S := S1024) s
  hw : m ((c.tc : Thread nD τ).loc main_arg4) = up (S := S1024x2048) w
  hR : m ((c.tc : Thread nD τ).loc main_arg5) = R
  hp : m ((c.tc : Thread nD τ).loc main_arg6) = up (S := S16384x2048) p

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The index of the gradient that an index of the block of point `n` is written to. -/
theorem emb6 (n : Fin cfg0.N) (i : Fin 512) (j : Fin 1024) : (win0_6.blk n).view.emb (ix2 i j) = ix2 (row n i) j := by
  unfold row
  blk_ext [idx n]

/-- The last point of the grid. -/
def last : Fin cfg0.N := ⟨31, lt_of_lt_of_eq (by decide) N_0.symm⟩

variable {m c} (H : Inputs m c)
include H

theorem block0 (n : Fin cfg0.N) : iblk m c 0 n = up (S := S512x2048) fun y => H.p (ix2 (row n (y 0)) (y 1)) := by
  change (_ : S512x2048.Idx → EReal) = _
  funext y
  idx_vars y
  unfold iblk
  entry_read
  blk_simp [idx n]
  pointwise
  rw [H.hp]
  refine congrArg (fun r : ℝ => (r : EReal)) ?_
  unfold row
  blk_ext [idx n]

theorem block1 (n : Fin cfg0.N) : iblk m c 1 n = up (S := S1024x2048) H.w := by
  change (_ : S1024x2048.Idx → EReal) = _
  funext y
  idx_vars y
  unfold iblk
  entry_read
  blk_simp [idx n]
  pointwise
  rw [H.hw]
  refine congrArg (fun r : ℝ => (r : EReal)) ?_
  blk_ext [idx n]

theorem block2 (n : Fin cfg0.N) : iblk m c 2 n = up (S := S512x1024) fun y => H.x (ix2 (row n (y 0)) (y 1)) := by
  change (_ : S512x1024.Idx → EReal) = _
  funext y
  idx_vars y
  have e := congrFun H.hx
  refine Eq.trans ?_ (e _)
  unfold row
  blk_ext [iblk, V, idx n]

theorem block3 (n : Fin cfg0.N) : iblk m c 3 n = up (S := S1x1024) fun y => H.g (ix1 (y 1)) := by
  change (_ : S1x1024.Idx → EReal) = _
  funext y
  idx_vars y
  refine Eq.trans ?_ (congrFun H.hg _)
  unfold iblk
  entry_read
  blk_simp [idx n]
  pointwise
  blk_ext! [iblk, V, idx n]

theorem block4 (n : Fin cfg0.N) : iblk m c 4 n = up (S := S1x1024) fun y => H.s (ix1 (y 1)) := by
  change (_ : S1x1024.Idx → EReal) = _
  funext y
  idx_vars y
  refine Eq.trans ?_ (congrFun H.hs _)
  unfold iblk
  entry_read
  blk_simp [idx n]
  pointwise
  blk_ext! [iblk, V, idx n]

theorem block5 (n : Fin cfg0.N) : iblk m c 5 n = fun y : S512x1024.Idx => H.R (ix2 (row n (y 0)) (y 1)) := by
  change (_ : S512x1024.Idx → EReal) = _
  funext y
  idx_vars y
  have e := congrFun H.hR
  refine Eq.trans ?_ (e _)
  unfold row
  blk_ext [iblk, V, idx n]

/-! ## The four results -/

/-- The gradient of the product's left factor. -/
def Inputs.dh : S16384x1024.Idx → ℝ := NormSpec.prod H.p H.w

/-- The array of the activations' gradient after the run. -/
theorem dx_eq : (dats m 0 c).arrAt 6 (cfgs 0).N = NormSpec.outDx H.x H.dh H.g H.s H.R := by
  refine (dats m 0 c).arrAt_eq_of_covers 6 _ (by decide +kernel) fun n hf y => ?_
  blk_simp
  rw [after0_6]
  revert y
  change ∀ y : S512x1024.Idx, _
  intro y
  idx_vars y
  by_cases h0 : n.val % 32 = 0
  · rw [outsAt0_A m c n h0]
    frame_out
    rw [block0 H, block1 H, block2 H, block3 H, block4 H, block5 H]
    refine (pay_dx _ _ _ _ _ _ _ _).trans ?_
    rw [emb6]
    rfl
  · rw [outsAt0_B m c n h0]
    frame_out
    rw [block0 H, block1 H, block2 H, block3 H, block4 H, block5 H]
    refine (pay_dx _ _ _ _ _ _ _ _).trans ?_
    rw [emb6]
    rfl

/-- What the block of point `n` adds to a lane of the shift's gradient. -/
def Inputs.dshAt (n : Fin cfg0.N) (k : Fin 1024) : ℝ := ∑ r : Fin 512, H.dh (ix2 (row n r) k)
/-- What the block of point `n` adds to a lane of the scale's gradient. -/
def Inputs.dscAt (n : Fin cfg0.N) (k : Fin 1024) : ℝ :=
  ∑ r : Fin 512, NormSpec.dsc (fun k => H.x (ix2 (row n r) k)) (fun k => H.g (ix1 k)) (fun k => H.dh (ix2 (row n r) k)) k
/-- What the block of point `n` adds to a lane of the gain's gradient. -/
def Inputs.dgAt (n : Fin cfg0.N) (k : Fin 1024) : ℝ :=
  ∑ r : Fin 512, NormSpec.dg (fun k => H.x (ix2 (row n r) k)) (fun k => H.s (ix1 k)) (fun k => H.dh (ix2 (row n r) k)) k

theorem dsh_first (n : Fin cfg0.N) (h : n.val % 32 = 0) (j : S1x1024.Idx) :
    (outsAt0 m c n.val n.isLt).2.1 j = 0 + (H.dshAt n (j 1) : EReal) := by
  rw [outsAt0_A m c n h]
  frame_out
  rw [block0 H, block1 H]
  idx_vars j
  refine (pay_dsh _ _ _ _ _).trans ?_
  pointwise [k0_pay4]
  rfl

theorem dsh_next (n : Fin cfg0.N) (h : ¬n.val % 32 = 0) (j : S1x1024.Idx) :
    (outsAt0 m c n.val n.isLt).2.1 j
      = (outsAt0 m c (n.val - 1) (Nat.lt_of_le_of_lt (Nat.sub_le _ _) n.isLt)).2.1 j + (H.dshAt n (j 1) : EReal) := by
  rw [outsAt0_B m c n h]
  frame_out
  rw [block0 H, block1 H]
  idx_vars j
  exact pay_dsh _ _ _ _ _

theorem dsc_first (n : Fin cfg0.N) (h : n.val % 32 = 0) (j : S1x1024.Idx) :
    (outsAt0 m c n.val n.isLt).2.2.1 j = 0 + (H.dscAt n (j 1) : EReal) := by
  rw [outsAt0_A m c n h]
  frame_out
  rw [block0 H, block1 H, block2 H, block3 H]
  idx_vars j
  refine (pay_dsc _ _ _ _ _ _ _).trans ?_
  pointwise [k0_pay5]
  rfl

theorem dsc_next (n : Fin cfg0.N) (h : ¬n.val % 32 = 0) (j : S1x1024.Idx) :
    (outsAt0 m c n.val n.isLt).2.2.1 j
      = (outsAt0 m c (n.val - 1) (Nat.lt_of_le_of_lt (Nat.sub_le _ _) n.isLt)).2.2.1 j + (H.dscAt n (j 1) : EReal) := by
  rw [outsAt0_B m c n h]
  frame_out
  rw [block0 H, block1 H, block2 H, block3 H]
  idx_vars j
  exact pay_dsc _ _ _ _ _ _ _

theorem dg_first (n : Fin cfg0.N) (h : n.val % 32 = 0) (j : S1x1024.Idx) :
    (outsAt0 m c n.val n.isLt).2.2.2 j = 0 + (H.dgAt n (j 1) : EReal) := by
  rw [outsAt0_A m c n h]
  frame_out
  rw [block0 H, block1 H, block2 H, block4 H]
  idx_vars j
  refine (pay_dg _ _ _ _ _ _ _).trans ?_
  pointwise [k0_pay6]
  rfl

theorem dg_next (n : Fin cfg0.N) (h : ¬n.val % 32 = 0) (j : S1x1024.Idx) :
    (outsAt0 m c n.val n.isLt).2.2.2 j
      = (outsAt0 m c (n.val - 1) (Nat.lt_of_le_of_lt (Nat.sub_le _ _) n.isLt)).2.2.2 j + (H.dgAt n (j 1) : EReal) := by
  rw [outsAt0_B m c n h]
  frame_out
  rw [block0 H, block1 H, block2 H, block4 H]
  idx_vars j
  exact pay_dg _ _ _ _ _ _ _

/-- The array of the shift's gradient after the run: the blocks' parts summed over the grid. -/
theorem dsh_eq : (dats m 0 c).arrAt 7 (cfgs 0).N = NormSpec.outDsh H.dh := by
  refine (dats m 0 c).arrAt_eq_of_after_last 7 last (by decide +kernel) _ fun j => ?_
  blk_simp
  revert j
  change ∀ j : S1x1024.Idx, _
  intro j
  rw [after0_7, Pipeline.eq_sum_fin_of_reset_step_apply_last (fun n h => (outsAt0 m c n h).2.1) 32 (fun _ => 0)
    (fun n j => (H.dshAt n (j 1) : EReal)) (dsh_first H) (dsh_next H) (le_of_eq N_0) last N_0.symm j, zero_add, sum_coe]
  refine congrArg _ ?_
  unfold Inputs.dshAt
  exact Fin.sum_mul_add_congr fun n r hl => rfl

/-- The array of the scale's gradient after the run: the blocks' parts summed over the grid. -/
theorem dsc_eq : (dats m 0 c).arrAt 8 (cfgs 0).N = NormSpec.outDsc H.x H.dh H.g := by
  refine (dats m 0 c).arrAt_eq_of_after_last 8 last (by decide +kernel) _ fun j => ?_
  blk_simp
  revert j
  change ∀ j : S1x1024.Idx, _
  intro j
  rw [after0_8, Pipeline.eq_sum_fin_of_reset_step_apply_last (fun n h => (outsAt0 m c n h).2.2.1) 32 (fun _ => 0)
    (fun n j => (H.dscAt n (j 1) : EReal)) (dsc_first H) (dsc_next H) (le_of_eq N_0) last N_0.symm j, zero_add, sum_coe]
  refine congrArg _ ?_
  unfold Inputs.dscAt
  exact Fin.sum_mul_add_congr fun n r hl => rfl

/-- The array of the gain's gradient after the run: the blocks' parts summed over the grid. -/
theorem dg_eq : (dats m 0 c).arrAt 9 (cfgs 0).N = NormSpec.outDg H.x H.dh H.s := by
  refine (dats m 0 c).arrAt_eq_of_after_last 9 last (by decide +kernel) _ fun j => ?_
  blk_simp
  revert j
  change ∀ j : S1x1024.Idx, _
  intro j
  rw [after0_9, Pipeline.eq_sum_fin_of_reset_step_apply_last (fun n h => (outsAt0 m c n h).2.2.2) 32 (fun _ => 0)
    (fun n j => (H.dgAt n (j 1) : EReal)) (dg_first H) (dg_next H) (le_of_eq N_0) last N_0.symm j, zero_add, sum_coe]
  refine congrArg _ ?_
  unfold Inputs.dgAt
  exact Fin.sum_mul_add_congr fun n r hl => rfl

omit H in
/-- The kernel's run on finite inputs: the four results and the unchanged arguments. -/
theorem run_real (ρ : Dev nD → PrngReg) (H : ∀ c : Dev nD, Inputs m c) :
    θ_run (defs (F := Ideal)) (onTc (τ := τ) (main (F := Ideal))) ⟨m, fun _ => 0, ρ⟩ fun r => ∀ c : Dev nD,
      r.2.mem ((c.tc : Thread nD τ).loc main_v4_0) = NormSpec.outDx (H c).x (H c).dh (H c).g (H c).s (H c).R
      ∧ r.2.mem ((c.tc : Thread nD τ).loc main_v4_3) = NormSpec.outDg (H c).x (H c).dh (H c).s
      ∧ r.2.mem ((c.tc : Thread nD τ).loc main_v4_2) = NormSpec.outDsc (H c).x (H c).dh (H c).g
      ∧ r.2.mem ((c.tc : Thread nD τ).loc main_v4_1) = NormSpec.outDsh (H c).dh
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run (defs (F := Ideal)) _ _).mono (fun r h c => ?_) (run_blocks m ρ)
  obtain ⟨h0, h1, h2, h3, ha⟩ := h c
  exact ⟨h0.trans (dx_eq (H c)), h3.trans (dg_eq (H c)), h2.trans (dsc_eq (H c)), h1.trans (dsh_eq (H c)), ha⟩

end Cert.InprojIdeal.Value
end
-- ==== Proof.InprojPair.lean ====
module
public import proofs.«01_k».proof.Defs
public import proofs.«01_k».proof.Proof.Gen.Pre_inproj_pre
public import proofs.«01_k».proof.Proof.InprojRef
public import proofs.«01_k».proof.Proof.InprojKer

@[expose] public section

noncomputable section

namespace Cert.InprojPair
open Idealize.ShloMosaic Idealize.ShloMosaic.TcCoe Idealize.SL.Sem Cert.Finite

/-- The reference runs to its end, leaves its arguments as they were and every semaphore at zero. -/
theorem frame_ref : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run m ρ)

/-- The backward pass of the attention block's normalisation and first projection: kernel and reference compute the same four arrays. -/
theorem algebraic : Cert.algebraic_InprojIdeal_InprojRefIdeal_pre_inproj_pre := by
  intro m ρ m' ρ' hp ha
  choose x hx using fun c => reals_of_mask _ _ (fun _ => ofBits_inf) (hp c).1
  choose g hg using fun c => reals_of_mask _ _ (fun _ => ofBits_inf) (hp c).2.1
  choose s hs using fun c => reals_of_mask _ _ (fun _ => ofBits_inf) (hp c).2.2.1
  choose w hw using fun c => reals_of_mask _ _ (fun _ => ofBits_inf) (hp c).2.2.2.1
  choose p hd using fun c => reals_of_mask _ _ (fun _ => ofBits_inf) (hp c).2.2.2.2
  let H : ∀ c, Cert.InprojIdeal.Value.Inputs m c := fun c => ⟨x c, g c, s c, w c, _, p c, hx c, hg c, hs c, hw c, rfl, hd c⟩
  exact ⟨_, _, _, _, Cert.InprojIdeal.Value.run_real ρ H,
    Cert.InprojRefIdeal.Value.run_real m' ρ' x g s w p (fun c => (H c).R) (fun c => (ha c).1.trans (hx c)) (fun c => (ha c).2.1.trans (hg c))
      (fun c => (ha c).2.2.1.trans (hs c)) (fun c => (ha c).2.2.2.2.1.trans (hw c)) (fun c => (ha c).2.2.2.2.2.1)
      (fun c => (ha c).2.2.2.2.2.2.trans (hd c))⟩

end Cert.InprojPair
end
-- ==== Proof.AxbBits.lean ====
module

public import proofs.«01_k».proof.Proof.AxbFrame
public import proofs.«01_k».proof.Axb
public import proofs.«01_k».proof.Proof.Gen.Axb.Launch

@[expose] public section
set_option maxRecDepth 16384
noncomputable section
namespace Cert.AxbRun
open Idealize.ShloMosaic Idealize.ShloMosaic.TcCoe Idealize.ShloMosaic.Tactic
open Idealize.SL Idealize.SL.Sem

/-- The frame of the kernel at its own words. -/
theorem frame_bits (m : (ℓ : Loc Cert.Axb.nD Cert.Axb.τ Cert.Axb.sig) → Buf (Elt Bits) ℓ) (g : Dev Cert.Axb.nD → PrngReg) :
    θ_run (Cert.Axb.defs (F := Bits)) (onTc (τ := Cert.Axb.τ) (Cert.Axb.main (F := Bits))) ⟨m, fun _ => 0, g⟩ (fun r => (∀ c : Dev Cert.Axb.nD,
      r.2.mem ((c.tc : Thread Cert.Axb.nD Cert.Axb.τ).loc Cert.Axb.main_arg0) = m ((c.tc : Thread Cert.Axb.nD Cert.Axb.τ).loc Cert.Axb.main_arg0)
      ∧ r.2.mem ((c.tc : Thread Cert.Axb.nD Cert.Axb.τ).loc Cert.Axb.main_arg1) = m ((c.tc : Thread Cert.Axb.nD Cert.Axb.τ).loc Cert.Axb.main_arg1)
      ∧ r.2.mem ((c.tc : Thread Cert.Axb.nD Cert.Axb.τ).loc Cert.Axb.main_arg2) = m ((c.tc : Thread Cert.Axb.nD Cert.Axb.τ).loc Cert.Axb.main_arg2)
      ∧ r.2.mem ((c.tc : Thread Cert.Axb.nD Cert.Axb.τ).loc Cert.Axb.main_arg3) = m ((c.tc : Thread Cert.Axb.nD Cert.Axb.τ).loc Cert.Axb.main_arg3))
      ∧ r.2.sem = fun _ => 0) := by
  refine cast (Eq.symm ?_) (frame (F := Bits) m g)
  sl_kernel_rfl
end Cert.AxbRun
end
-- ==== Proof.AxbKer.lean ====
module

public import proofs.«01_k».proof.Proof.AxbHost

/-! The axial attention gradient's kernel on finite inputs: its blocks, its accumulated blocks and its three results. -/

@[expose] public section

set_option maxRecDepth 16384

noncomputable section

namespace Cert.AxbRun

open Cert.AxbIdeal Cert.AxbIdeal.Gen
open Idealize.ShloMosaic Idealize.ShloMosaic.TcCoe Idealize.ShloMosaic.Tactic
open Idealize.SL.Sem
open Cert.Finite AxbSpec
open Cert.AxbRef (rw2)

variable (m : (ℓ : Loc nD τ sig) → Buf (Elt Ideal) ℓ) (c : Dev nD) (q y : S16384x384.Idx → ℝ) (k v : S16384x128.Idx → ℝ)
  (L D : Fin 6 → Fin 16384 → ℝ)

/-- The query that row `n` of point `t`'s block is. -/
def qrow (t : Fin cfg0.N) (n : Fin 512) : Fin 16384 := ⟨t.val % 32 * 512 + n.val, by omega⟩
/-- The key that row `j` of point `t`'s block is. -/
def krow (t : Fin cfg0.N) (j : Fin 2048) : Fin 16384 :=
  ⟨t.val / 32 * 2048 + j.val, by have h : t.val < 256 := lt_of_lt_of_eq t.isLt N_0; omega⟩

/-- The windows' block indices over the grid. -/
theorem idx : ∀ t : Fin cfg0.N, win0_0.index t = ![t.val % 32, 0] ∧ win0_1.index t = ![t.val / 32, 0] ∧ win0_2.index t = ![t.val / 32, 15]
    ∧ win0_3.index t = ![t.val % 32, 0] ∧ win0_4.index t = ![0, 0, t.val % 32] ∧ win0_5.index t = ![0, 0, t.val % 32]
    ∧ win0_6.index t = ![t.val / 32, 0] ∧ win0_7.index t = ![t.val / 32, 0] :=
  (by decide +kernel : ∀ t : Fin grid0.N, _)

/-- Point `t`'s block of the scaled queries. -/
abbrev Qb (t : Fin cfg0.N) (n : Fin 512) (e : Fin 384) : ℝ := q (ix2 (qrow t n) e) * (1 / 8)
/-- Point `t`'s block of the output's gradient. -/
abbrev Yb (t : Fin cfg0.N) (n : Fin 512) (e : Fin 384) : ℝ := y (ix2 (qrow t n) e)
/-- Point `t`'s block of the keys, or of the values. -/
abbrev Kb (t : Fin cfg0.N) (j : Fin 2048) (e : Fin 128) : ℝ := k (ix2 (krow t j) e)
/-- Point `t`'s block of the rows' statistics. -/
abbrev Lb (t : Fin cfg0.N) (h : Fin 6) (n : Fin 512) : ℝ := L h (qrow t n)

section blocks
variable (hq : m ((c.tc : Thread nD τ).loc main_arg0) = fun i => (q i : EReal)) (hk : m ((c.tc : Thread nD τ).loc main_arg1) = fun i => (k i : EReal))
  (hv : m ((c.tc : Thread nD τ).loc main_arg2) = fun i => (v i : EReal)) (hy : m ((c.tc : Thread nD τ).loc main_arg3) = fun i => (y i : EReal))

include hq in
theorem block0 (t : Fin cfg0.N) : iblk m c 0 t = up (mat (Qb q t)) := by
  change (_ : S512x384.Idx → EReal) = _
  funext z
  idx_vars z
  have e := congrFun hq
  unfold iblk
  entry_read
  blk_simp [idx t]
  pointwise
  rw [hq, ofBits_eighth, ← EReal.coe_mul]
  refine congrArg (fun r : ℝ => (r : EReal)) (congrArg (· * _) ?_)
  unfold qrow
  blk_ext [idx t]

include hk in
theorem block1 (t : Fin cfg0.N) : iblk m c 1 t = up (mat (Kb k t)) := by
  change (_ : S2048x128.Idx → EReal) = _
  funext z
  idx_vars z
  unfold iblk
  entry_read
  blk_simp [idx t]
  pointwise
  rw [hk]
  refine congrArg (fun r : ℝ => (r : EReal)) ?_
  unfold Kb krow
  blk_ext [idx t]

include hv in
theorem block2 (t : Fin cfg0.N) : iblk m c 2 t = up (mat (Kb v t)) := by
  change (_ : S2048x128.Idx → EReal) = _
  funext z
  idx_vars z
  unfold iblk
  entry_read
  blk_simp [idx t]
  pointwise
  rw [dif_neg (by blk_simp [idx t]; omega), hv]
  refine congrArg (fun r : ℝ => (r : EReal)) ?_
  unfold Kb krow
  blk_ext [idx t]

include hy in
theorem block3 (t : Fin cfg0.N) : iblk m c 3 t = up (mat (Yb y t)) := by
  change (_ : S512x384.Idx → EReal) = _
  funext z
  idx_vars z
  unfold iblk
  entry_read
  blk_simp [idx t]
  pointwise
  rw [hy]
  refine congrArg (fun r : ℝ => (r : EReal)) ?_
  unfold Yb qrow
  blk_ext [idx t]

/-- Window 4's place of a row's statistic. -/
theorem emb4 (t : Fin cfg0.N) (h : Fin 6) (z : Fin 1) (n : Fin 512) : (win0_4.blk t).view.emb (ix3 h z n) = ix3 h 0 (qrow t n) := by
  unfold qrow
  blk_ext [idx t]

/-- Window 4 reads its array at that place, whatever the array. -/
theorem read4 (f : (b : Ref sig .tc) → Buf (Elt Ideal) ((c : Thread nD τ).loc b)) (t : Fin cfg0.N) (z : S6x1x512.Idx) :
    (((cfg0.win 4).blk t).view.read (Elt Ideal) (f (Pipeline.arrRef spec0 4)) : S6x1x512.Idx → EReal) z
      = (f main_v46 : S6x1x16384.Idx → EReal) ((win0_4.blk t).view.emb z) := rfl

theorem block4 (hL : (V m c main_v46 : S6x1x16384.Idx → EReal) = up (s := S6x1x16384) (fun i => L (i 0) (i 2))) (t : Fin cfg0.N) :
    iblk m c 4 t = up (s := S6x1x512) fun i => Lb L t (i 0) (i 2) := by
  change (_ : S6x1x512.Idx → EReal) = _
  funext z
  idx_vars z
  refine (read4 c (V m c) t _).trans ?_
  rw [hL, emb4]
  rfl

/-- Window 5's place of a row's statistic. -/
theorem emb5 (t : Fin cfg0.N) (h : Fin 6) (z : Fin 1) (n : Fin 512) : (win0_5.blk t).view.emb (ix3 h z n) = ix3 h 0 (qrow t n) := by
  unfold qrow
  blk_ext [idx t]

/-- Window 5 reads its array at that place, whatever the array. -/
theorem read5 (f : (b : Ref sig .tc) → Buf (Elt Ideal) ((c : Thread nD τ).loc b)) (t : Fin cfg0.N) (z : S6x1x512.Idx) :
    (((cfg0.win 5).blk t).view.read (Elt Ideal) (f (Pipeline.arrRef spec0 5)) : S6x1x512.Idx → EReal) z
      = (f main_v48 : S6x1x16384.Idx → EReal) ((win0_5.blk t).view.emb z) := rfl

theorem block5 (hD : (V m c main_v48 : S6x1x16384.Idx → EReal) = up (s := S6x1x16384) (fun i => D (i 0) (i 2))) (t : Fin cfg0.N) :
    iblk m c 5 t = up (s := S6x1x512) fun i => Lb D t (i 0) (i 2) := by
  change (_ : S6x1x512.Idx → EReal) = _
  funext z
  idx_vars z
  refine (read5 c (V m c) t _).trans ?_
  rw [hD, emb5]
  rfl

end blocks

/-! ## The accumulated blocks -/

/-- The inputs are finite, and the rows' statistics are those of the forward pass. -/
structure Inputs : Prop where
  hq : m ((c.tc : Thread nD τ).loc main_arg0) = fun i => (q i : EReal)
  hk : m ((c.tc : Thread nD τ).loc main_arg1) = fun i => (k i : EReal)
  hv : m ((c.tc : Thread nD τ).loc main_arg2) = fun i => (v i : EReal)
  hy : m ((c.tc : Thread nD τ).loc main_arg3) = fun i => (y i : EReal)
  hL : (V m c main_v46 : S6x1x16384.Idx → EReal) = up (s := S6x1x16384) (fun i => L (i 0) (i 2))
  hp : ∀ g r n j, Real.exp (sc (rw2 q) (rw2 k) g r n j - L (hd g r) n) = pr (rw2 q) (rw2 k) g r n j
  hD : (V m c main_v48 : S6x1x16384.Idx → EReal) = up (s := S6x1x16384) (fun i => D (i 0) (i 2))
  hd : ∀ g r n, D (hd g r) n = dl (rw2 q) (rw2 y) (rw2 k) (rw2 v) g r n

variable {m c q y k v L D}
variable (H : Inputs m c q y k v L D)

/-- A point's scores are the attention's. -/
theorem hsum_blk (t : Fin cfg0.N) (g : Fin 2) (r : Fin 3) (j : Fin 2048) (n : Fin 512) :
    hsum (Qb q t) (Kb k t) g r j n = sc (rw2 q) (rw2 k) g r (qrow t n) (krow t j) := by
  unfold hsum sc
  rw [Finset.sum_mul]
  exact Finset.sum_congr rfl fun d _ => (mul_assoc _ _ _).symm

include H in
/-- A point's probabilities are the attention's. -/
theorem prob_blk (t : Fin cfg0.N) (g : Fin 2) (r : Fin 3) (j : Fin 2048) (n : Fin 512) :
    prob (Qb q t) (Kb k t) (Lb L t) g r j n = pr (rw2 q) (rw2 k) g r (qrow t n) (krow t j) := by
  unfold prob
  rw [hsum_blk]
  exact H.hp g r _ _

include H in
/-- A point's gradients of the scores are the attention's. -/
theorem grad_blk (t : Fin cfg0.N) (g : Fin 2) (r : Fin 3) (j : Fin 2048) (n : Fin 512) :
    grad (Qb q t) (Yb y t) (Kb k t) (Kb v t) (Lb L t) (Lb D t) g r j n = ds (rw2 q) (rw2 y) (rw2 k) (rw2 v) g r (qrow t n) (krow t j) := by
  have e1 : hsum (Yb y t) (Kb v t) g r j n = dp (rw2 y) (rw2 v) g r (qrow t n) (krow t j) := by
    unfold hsum dp
    exact Finset.sum_congr rfl fun d _ => mul_comm _ _
  have e2 : Lb D t (hd g r) n = dl (rw2 q) (rw2 y) (rw2 k) (rw2 v) g r (qrow t n) := H.hd g r _
  unfold grad ds
  rw [prob_blk H, e1, e2]

/-- What point `t` adds to the gradient of a key. -/
def dkT (q y : S16384x384.Idx → ℝ) (k v : S16384x128.Idx → ℝ) (t : Fin cfg0.N) (j : Fin 2048) (e : Fin 128) : ℝ :=
  ∑ n, ∑ r, ds (rw2 q) (rw2 y) (rw2 k) (rw2 v) (kg e) r (qrow t n) (krow t j) * (1 / 8) * rw2 q (qrow t n) (hc (kg e) r (kd e))
/-- What point `t` adds to the gradient of a value. -/
def dvT (q y : S16384x384.Idx → ℝ) (k : S16384x128.Idx → ℝ) (t : Fin cfg0.N) (j : Fin 2048) (e : Fin 128) : ℝ :=
  ∑ n, ∑ r, pr (rw2 q) (rw2 k) (kg e) r (qrow t n) (krow t j) * rw2 y (qrow t n) (hc (kg e) r (kd e))
/-- What point `t` adds to the gradient of a query, before the last scaling. -/
def dqT (q y : S16384x384.Idx → ℝ) (k v : S16384x128.Idx → ℝ) (t : Fin cfg0.N) (n : Fin 512) (e : Fin 384) : ℝ :=
  ∑ j, ds (rw2 q) (rw2 y) (rw2 k) (rw2 v) (qg e) (qr e) (qrow t n) (krow t j) * rw2 k (krow t j) (gc (qg e) (qd e))

include H in
theorem dk_pt (t : Fin cfg0.N) (z : Vec Ideal S2048x128 .f32) (j : Fin 2048) (e : Fin 128) :
    dkPt m c t z (ix2 j e) = z (ix2 j e) + ((dkT q y k v t j e : ℝ) : EReal) := by
  unfold dkPt
  rw [block0 m c q H.hq, block1 m c k H.hk, block2 m c v H.hv, block3 m c y H.hy, block4 m c L H.hL, block5 m c D H.hD]
  refine (dkS_real _ _ _ _ _ _ _ _ _).trans (congrArg (fun r : ℝ => z (ix2 j e) + (r : EReal)) ?_)
  unfold toK dkT
  refine Finset.sum_congr rfl fun n _ => Finset.sum_congr rfl fun r _ => ?_
  rw [grad_blk H]
  show _ * (q (ix2 _ _) * (1 / 8)) = _ * (1 / 8) * q (ix2 _ _)
  ring

include H in
theorem dv_pt (t : Fin cfg0.N) (z : Vec Ideal S2048x128 .f32) (j : Fin 2048) (e : Fin 128) :
    dvPt m c t z (ix2 j e) = z (ix2 j e) + ((dvT q y k t j e : ℝ) : EReal) := by
  unfold dvPt
  rw [block0 m c q H.hq, block1 m c k H.hk, block3 m c y H.hy, block4 m c L H.hL]
  refine (dvS_real _ _ _ _ _ _ _).trans (congrArg (fun r : ℝ => z (ix2 j e) + (r : EReal)) ?_)
  unfold toK dvT
  refine Finset.sum_congr rfl fun n _ => Finset.sum_congr rfl fun r _ => ?_
  rw [prob_blk H]

include H in
theorem slab_pt (t : Fin cfg0.N) (z : Vec Ideal S512x384 .f32) (n : Fin 512) (e : Fin 384) :
    slabPt m c t z (ix2 n e) = z (ix2 n e) + ((dqT q y k v t n e : ℝ) : EReal) := by
  unfold slabPt
  rw [block0 m c q H.hq, block1 m c k H.hk, block2 m c v H.hv, block3 m c y H.hy, block4 m c L H.hL, block5 m c D H.hD]
  refine (slabS_real _ _ _ _ _ _ _ _ _).trans (congrArg (fun r : ℝ => z (ix2 n e) + (r : EReal)) ?_)
  unfold toQ dqT
  refine Finset.sum_congr rfl fun j _ => ?_
  rw [grad_blk H]

/-- A point of the grid from its key block and its query block. -/
theorem tp_at (b s : ℕ) (hb : b < 8) (hs : s < 32) : (tp (32 * b + s)).val = 32 * b + s := Nat.mod_eq_of_lt (by omega)

theorem krow_tp (b : Fin 8) (s : Fin 32) (j : Fin 2048) : krow (tp (32 * b.val + s.val)) j = ⟨b.val * 2048 + j.val, by omega⟩ :=
  Fin.ext (by
    show (tp _).val / 32 * 2048 + j.val = b.val * 2048 + j.val
    rw [tp_at _ _ b.isLt s.isLt]
    omega)
theorem qrow_tp (b : Fin 8) (s : Fin 32) (n : Fin 512) : qrow (tp (32 * b.val + s.val)) n = ⟨s.val * 512 + n.val, by omega⟩ :=
  Fin.ext (by
    show (tp _).val % 32 * 512 + n.val = s.val * 512 + n.val
    rw [tp_at _ _ b.isLt s.isLt]
    omega)

include H in
/-- The keys' block after the first query blocks of a run. -/
theorem dk_run (b : ℕ) (s : ℕ) (hs : s < 32) (j : Fin 2048) (e : Fin 128) :
    dkAt m c (32 * b + s) (ix2 j e) = ((∑ i ∈ Finset.range (s + 1), dkT q y k v (tp (32 * b + i)) j e : ℝ) : EReal) := by
  have z0 : (k0_pay2 (F := Ideal) : S2048x128.Idx → EReal) (ix2 j e) = 0 := by pointwise [k0_pay2]
  induction s with
  | zero =>
    have h0 : dkAt m c (32 * b + 0) = dkPt m c (tp (32 * b + 0)) (k0_pay2 (F := Ideal)) := by
      rcases b with _ | b
      · rfl
      · show dkPt m c (tp (32 * b + 31 + 1)) (if (32 * b + 31 + 1) % 32 = 0 then k0_pay2 (F := Ideal) else dkAt m c (32 * b + 31)) = _
        rw [if_pos (by omega)]
        rfl
    rw [h0, dk_pt H, z0, zero_add, Finset.sum_range_one]
  | succ s ih =>
    have h0 : dkAt m c (32 * b + (s + 1)) = dkPt m c (tp (32 * b + (s + 1))) (dkAt m c (32 * b + s)) := by
      show dkPt m c (tp (32 * b + s + 1)) (if (32 * b + s + 1) % 32 = 0 then k0_pay2 (F := Ideal) else dkAt m c (32 * b + s)) = _
      rw [if_neg (by omega)]
      rfl
    rw [h0, dk_pt H, ih (by omega), ← EReal.coe_add, Finset.sum_range_succ _ (s + 1)]

include H in
/-- The values' block after the first query blocks of a run. -/
theorem dv_run (b : ℕ) (s : ℕ) (hs : s < 32) (j : Fin 2048) (e : Fin 128) :
    dvAt m c (32 * b + s) (ix2 j e) = ((∑ i ∈ Finset.range (s + 1), dvT q y k (tp (32 * b + i)) j e : ℝ) : EReal) := by
  have z0 : (k0_pay3 (F := Ideal) : S2048x128.Idx → EReal) (ix2 j e) = 0 := by pointwise [k0_pay3]
  induction s with
  | zero =>
    have h0 : dvAt m c (32 * b + 0) = dvPt m c (tp (32 * b + 0)) (k0_pay3 (F := Ideal)) := by
      rcases b with _ | b
      · rfl
      · show dvPt m c (tp (32 * b + 31 + 1)) (if (32 * b + 31 + 1) % 32 = 0 then k0_pay3 (F := Ideal) else dvAt m c (32 * b + 31)) = _
        rw [if_pos (by omega)]
        rfl
    rw [h0, dv_pt H, z0, zero_add, Finset.sum_range_one]
  | succ s ih =>
    have h0 : dvAt m c (32 * b + (s + 1)) = dvPt m c (tp (32 * b + (s + 1))) (dvAt m c (32 * b + s)) := by
      show dvPt m c (tp (32 * b + s + 1)) (if (32 * b + s + 1) % 32 = 0 then k0_pay3 (F := Ideal) else dvAt m c (32 * b + s)) = _
      rw [if_neg (by omega)]
      rfl
    rw [h0, dv_pt H, ih (by omega), ← EReal.coe_add, Finset.sum_range_succ _ (s + 1)]

include H in
/-- A query block's slab after the first key blocks. -/
theorem slab_run (a b : ℕ) (n : Fin 512) (e : Fin 384) :
    slabAt m c a b (ix2 n e) = ((∑ i ∈ Finset.range (b + 1), dqT q y k v (tp (32 * i + a)) n e : ℝ) : EReal) := by
  have z0 : (drop1 (F := Ideal) (k0_pay4 (F := Ideal))) (ix2 n e) = (0 : EReal) := by unfold drop1; pointwise [k0_pay4]
  induction b with
  | zero =>
    have h0 : slabAt m c a 0 = slabPt m c (tp (32 * 0 + a)) (drop1 (k0_pay4 (F := Ideal))) := by
      rw [Nat.mul_zero, Nat.zero_add]
      rfl
    rw [h0, slab_pt H, z0, zero_add, Finset.sum_range_one]
  | succ b ih =>
    have h0 : slabAt m c a (b + 1) = slabPt m c (tp (32 * (b + 1) + a)) (slabAt m c a b) := rfl
    rw [h0, slab_pt H, ih, ← EReal.coe_add, Finset.sum_range_succ _ (b + 1)]

/-- A whole run of query blocks adds up to the gradient of a key. -/
theorem dk_sum (q y : S16384x384.Idx → ℝ) (k v : S16384x128.Idx → ℝ) (b : Fin 8) (j : Fin 2048) (e : Fin 128) :
    ∑ i ∈ Finset.range 32, dkT q y k v (tp (32 * b.val + i)) j e
      = dk (rw2 q) (rw2 y) (rw2 k) (rw2 v) (⟨b.val * 2048 + j.val, by omega⟩ : Fin 16384) e := by
  rw [Finset.sum_range]
  unfold dkT dk
  refine Fin.sum_mul_add_congr fun i n hl => Finset.sum_congr rfl fun r _ => ?_
  have e1 : krow (tp (32 * b.val + i.val)) j = (⟨b.val * 2048 + j.val, by omega⟩ : Fin 16384) :=
    krow_tp b i j
  have e2 : qrow (tp (32 * b.val + i.val)) n = (⟨i.val * 512 + n.val, hl⟩ : Fin 16384) :=
    qrow_tp b i n
  rw [e1, e2]

/-- A whole run of query blocks adds up to the gradient of a value. -/
theorem dv_sum (q y : S16384x384.Idx → ℝ) (k : S16384x128.Idx → ℝ) (b : Fin 8) (j : Fin 2048) (e : Fin 128) :
    ∑ i ∈ Finset.range 32, dvT q y k (tp (32 * b.val + i)) j e
      = dv (rw2 q) (rw2 y) (rw2 k) (⟨b.val * 2048 + j.val, by omega⟩ : Fin 16384) e := by
  rw [Finset.sum_range]
  unfold dvT dv
  refine Fin.sum_mul_add_congr fun i n hl => Finset.sum_congr rfl fun r _ => ?_
  have e1 : krow (tp (32 * b.val + i.val)) j = (⟨b.val * 2048 + j.val, by omega⟩ : Fin 16384) :=
    krow_tp b i j
  have e2 : qrow (tp (32 * b.val + i.val)) n = (⟨i.val * 512 + n.val, hl⟩ : Fin 16384) :=
    qrow_tp b i n
  rw [e1, e2]

/-- The key blocks add up to the gradient of a query. -/
theorem dq_sum (q y : S16384x384.Idx → ℝ) (k v : S16384x128.Idx → ℝ) (a : Fin 32) (n : Fin 512) (e : Fin 384) :
    (∑ i ∈ Finset.range 8, dqT q y k v (tp (32 * i + a.val)) n e) * (1 / 8)
      = dq (rw2 q) (rw2 y) (rw2 k) (rw2 v) (⟨a.val * 512 + n.val, by omega⟩ : Fin 16384) e := by
  rw [Finset.sum_range]
  unfold dqT dq
  refine congrArg (· * _) ?_
  refine Fin.sum_mul_add_congr fun i j hl => ?_
  have e1 : krow (tp (32 * i.val + a.val)) j = (⟨i.val * 2048 + j.val, hl⟩ : Fin 16384) :=
    krow_tp i a j
  have e2 : qrow (tp (32 * i.val + a.val)) n = (⟨a.val * 512 + n.val, by omega⟩ : Fin 16384) :=
    qrow_tp i a n
  rw [e1, e2]

/-! ## The results -/

theorem emb6 (t : Fin cfg0.N) (j : Fin 2048) (e : Fin 128) : (win0_6.blk t).view.emb (ix2 j e) = ix2 (krow t j) e := by
  unfold krow
  blk_ext [idx t]
theorem emb7 (t : Fin cfg0.N) (j : Fin 2048) (e : Fin 128) : (win0_7.blk t).view.emb (ix2 j e) = ix2 (krow t j) e := by
  unfold krow
  blk_ext [idx t]

/-- A point that ends a run, by its key block. -/
theorem end_run (t : Fin cfg0.N) (ht : t.val % 32 = 31) : ∃ b : Fin 8, t.val = 32 * b.val + 31 := by
  have h : t.val < 256 := lt_of_lt_of_eq t.isLt N_0
  exact ⟨⟨t.val / 32, by omega⟩, by show t.val = 32 * (t.val / 32) + 31; omega⟩

theorem krow_end (t : Fin cfg0.N) (b : Fin 8) (h : t.val = 32 * b.val + 31) (j : Fin 2048) : krow t j = ⟨b.val * 2048 + j.val, by omega⟩ :=
  Fin.ext (by show t.val / 32 * 2048 + j.val = b.val * 2048 + j.val; omega)

include H in
theorem dk_end (t : Fin cfg0.N) (ht : t.val % 32 = 31) (j : Fin 2048) (e : Fin 128) :
    dkAt m c t.val (ix2 j e) = Cert.AxbRef.outK q y k v (ix2 (krow t j) e) := by
  obtain ⟨b, hb⟩ := end_run t ht
  rw [krow_end t b hb, hb, dk_run H b.val 31 (by decide), dk_sum]
  rfl

include H in
theorem dv_end (t : Fin cfg0.N) (ht : t.val % 32 = 31) (j : Fin 2048) (e : Fin 128) :
    dvAt m c t.val (ix2 j e) = Cert.AxbRef.outV q y k (ix2 (krow t j) e) := by
  obtain ⟨b, hb⟩ := end_run t ht
  rw [krow_end t b hb, hb, dv_run H b.val 31 (by decide), dv_sum]
  rfl

include H in
/-- The array of the keys' gradient after the run. -/
theorem dk_eq : (dats m 0 c).arrAt 6 cfg0.N = Cert.AxbRef.outK q y k v := by
  refine (dats m 0 c).arrAt_eq_of_covers 6 _ (by decide +kernel) fun t hf y => ?_
  have ht := (flush0_6 t).mp hf
  rw [after6]
  revert y
  change ∀ y : S2048x128.Idx, _
  intro y
  idx_vars y
  refine (dk_end H t ht y0 y1).trans ?_
  exact congrArg _ (emb6 t y0 y1).symm

include H in
/-- The array of the values' gradient after the run. -/
theorem dv_eq : (dats m 0 c).arrAt 7 cfg0.N = Cert.AxbRef.outV q y k := by
  refine (dats m 0 c).arrAt_eq_of_covers 7 _ (by decide +kernel) fun t hf y => ?_
  have ht := (flush0_7 t).mp hf
  rw [after7]
  revert y
  change ∀ y : S2048x128.Idx, _
  intro y
  idx_vars y
  refine (dv_end H t ht y0 y1).trans ?_
  exact congrArg _ (emb7 t y0 y1).symm

/-- The last scaling of a slab. -/
theorem slabF_at (d : Vec Ideal S512x384 .f32) (n : Fin 512) (e : Fin 384) : slabF (F := Ideal) d (ix2 n e) = d (ix2 n e) * ((1 / 8 : ℝ) : EReal) := by
  unfold slabF drop1 lift1
  pointwise [k0_pay1]
  rw [ofBits_eighth]

include H in
/-- The queries' gradient after the run. -/
theorem dq_eq : dqAll m c = Cert.AxbRef.outQ q y k v := by
  change (_ : S16384x384.Idx → EReal) = _
  funext z
  idx_vars z
  show slabF (slabAt m c (z0.val / 512) 7) (ix2 (⟨z0.val % 512, _⟩ : Fin 512) z1) = _
  rw [slabF_at, slab_run H, ← EReal.coe_mul]
  have e := dq_sum q y k v (⟨z0.val / 512, by omega⟩ : Fin 32) (⟨z0.val % 512, Nat.mod_lt _ (by decide)⟩ : Fin 512) z1
  refine congrArg (fun r : ℝ => (r : EReal)) (e.trans ?_)
  exact congrArg (fun n => dq (rw2 q) (rw2 y) (rw2 k) (rw2 v) n z1) (Fin.ext (by show z0.val / 512 * 512 + z0.val % 512 = z0.val; omega))

/-- Finite inputs have the rows' statistics of the forward pass. -/
theorem inputs (m : (ℓ : Loc nD τ sig) → Buf (Elt Ideal) ℓ) (c : Dev nD) (q y : S16384x384.Idx → ℝ) (k v : S16384x128.Idx → ℝ)
    (hq : m ((c.tc : Thread nD τ).loc main_arg0) = fun i => (q i : EReal)) (hk : m ((c.tc : Thread nD τ).loc main_arg1) = fun i => (k i : EReal))
    (hv : m ((c.tc : Thread nD τ).loc main_arg2) = fun i => (v i : EReal)) (hy : m ((c.tc : Thread nD τ).loc main_arg3) = fun i => (y i : EReal)) :
    ∃ L D, Inputs m c q y k v L D := by
  obtain ⟨L, hL, hp⟩ := lse_host m c q k hq hk
  refine ⟨L, fun h n => dl (rw2 q) (rw2 y) (rw2 k) (rw2 v) (hg h) (hr h) n, hq, hk, hv, hy, hL, hp, del_host m c q y k v hq hk hv hy, ?_⟩
  intro g r n
  rw [hg_hd, hr_hd]

/-- The kernel's run on finite inputs: the three results and the unchanged arguments. -/
theorem run_real (m : (ℓ : Loc nD τ sig) → Buf (Elt Ideal) ℓ) (ρ : Dev nD → PrngReg) (q y : Dev nD → S16384x384.Idx → ℝ)
    (k v : Dev nD → S16384x128.Idx → ℝ)
    (hq : ∀ c : Dev nD, m ((c.tc : Thread nD τ).loc main_arg0) = fun i => (q c i : EReal))
    (hk : ∀ c : Dev nD, m ((c.tc : Thread nD τ).loc main_arg1) = fun i => (k c i : EReal))
    (hv : ∀ c : Dev nD, m ((c.tc : Thread nD τ).loc main_arg2) = fun i => (v c i : EReal))
    (hy : ∀ c : Dev nD, m ((c.tc : Thread nD τ).loc main_arg3) = fun i => (y c i : EReal)) :
    θ_run (defs (F := Ideal)) (onTc (τ := τ) (main (F := Ideal))) ⟨m, fun _ => 0, ρ⟩ fun r => ∀ c : Dev nD,
      r.2.mem ((c.tc : Thread nD τ).loc main_v49_2) = Cert.AxbRef.outQ (q c) (y c) (k c) (v c)
      ∧ r.2.mem ((c.tc : Thread nD τ).loc main_v49_0) = Cert.AxbRef.outK (q c) (y c) (k c) (v c)
      ∧ r.2.mem ((c.tc : Thread nD τ).loc main_v49_1) = Cert.AxbRef.outV (q c) (y c) (k c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (run_main m ρ)
  obtain ⟨L, D, H⟩ := inputs m c (q c) (y c) (k c) (v c) (hq c) (hk c) (hv c) (hy c)
  refine ⟨((h.1.written c (by decide) : r.2.mem ((c.tc : Thread nD τ).loc main_v49_2) = G m c main_v49_2).trans (G_dq m c)).trans (dq_eq H),
    ((h.1.toR c).1 6).trans (dk_eq H), ((h.1.toR c).1 7).trans (dv_eq H), ?_⟩
  exact ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩

end Cert.AxbRun
end
-- ==== Proof.AxbPair.lean ====
module

public import proofs.«01_k».proof.Defs
public import proofs.«01_k».proof.Proof.Gen.Pre_axb_pre
public import proofs.«01_k».proof.Proof.AxbRef
public import proofs.«01_k».proof.Proof.AxbKer

/-! The axial attention's gradient: kernel and reference compute the same three arrays of extended reals. -/

@[expose] public section

noncomputable section

namespace Cert.AxbPair
open Idealize.ShloMosaic Idealize.ShloMosaic.TcCoe Idealize.SL.Sem Cert.Finite

/-- Where the precondition holds, the four arguments are arrays of real numbers. -/
theorem reals (Q Y : FVec Ideal Cert.Pre_axb_pre.S16384x384 .f32) (K V : FVec Ideal Cert.Pre_axb_pre.S16384x128 .f32)
    (h : (Cert.Pre_axb_pre.fn (F := Ideal) Q K V Y).1 = (fun _ => 1#1) ∧ (Cert.Pre_axb_pre.fn (F := Ideal) Q K V Y).2.1 = (fun _ => 1#1)
      ∧ (Cert.Pre_axb_pre.fn (F := Ideal) Q K V Y).2.2.1 = (fun _ => 1#1) ∧ (Cert.Pre_axb_pre.fn (F := Ideal) Q K V Y).2.2.2 = (fun _ => 1#1)) :
    (∃ q : Cert.Pre_axb_pre.S16384x384.Idx → ℝ, Q = fun i => (q i : EReal))
    ∧ (∃ k : Cert.Pre_axb_pre.S16384x128.Idx → ℝ, K = fun i => (k i : EReal))
    ∧ (∃ v : Cert.Pre_axb_pre.S16384x128.Idx → ℝ, V = fun i => (v i : EReal))
    ∧ ∃ y : Cert.Pre_axb_pre.S16384x384.Idx → ℝ, Y = fun i => (y i : EReal) :=
  ⟨reals_of_mask Q _ (fun _ => ofBits_inf) h.1, reals_of_mask K _ (fun _ => ofBits_inf) h.2.1,
    reals_of_mask V _ (fun _ => ofBits_inf) h.2.2.1, reals_of_mask Y _ (fun _ => ofBits_inf) h.2.2.2⟩

/-- The reference runs to its end, leaves its arguments as they were and every semaphore at zero. -/
theorem frame_ref : Cert.quiescent_AxbRefIdeal := fun m ρ _ =>
  (θ_run Cert.AxbRefIdeal.defs _ _).mono (fun r h => ⟨fun c => (h c).2.2.2, sem_eq_zero_of_no_sems (by decide) r.2⟩)
    (Cert.AxbRefIdeal.Value.run m ρ)

/-- The axial attention's gradient: kernel and reference compute the same three arrays. -/
theorem algebraic : Cert.algebraic_AxbIdeal_AxbRefIdeal_pre_axb_pre := by
  intro m ρ m' ρ' hp ha
  choose hq hk hv hy using fun c => reals _ _ _ _ (hp c)
  choose q hq using hq
  choose k hk using hk
  choose v hv using hv
  choose y hy using hy
  exact ⟨fun c => Cert.AxbRef.outQ (q c) (y c) (k c) (v c), fun c => Cert.AxbRef.outK (q c) (y c) (k c) (v c), fun c => Cert.AxbRef.outV (q c) (y c) (k c),
    Cert.AxbRun.run_real m ρ q y k v hq hk hv hy,
    Cert.AxbRefIdeal.Value.run_real m' ρ' q y k v (fun c => (ha c).1.trans (hq c)) (fun c => (ha c).2.1.trans (hk c))
      (fun c => (ha c).2.2.1.trans (hv c)) (fun c => (ha c).2.2.2.trans (hy c))⟩

end Cert.AxbPair
end
-- ==== Proof.lean ====
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_loss_pre
public import proofs.«01_k».proof.Proof.Gen.LossIdeal.Value
public import proofs.«01_k».proof.Proof.Gen.LossRefIdeal.Run
public import proofs.«01_k».proof.Proof.LossPair
public import proofs.«01_k».proof.Proof.DwguPair
public import proofs.«01_k».proof.Proof.AxdPair
public import proofs.«01_k».proof.Proof.AxfPair
public import proofs.«01_k».proof.Proof.DprojPair
public import proofs.«01_k».proof.Proof.OprojPair
public import proofs.«01_k».proof.Proof.FfnbPair
public import proofs.«01_k».proof.Proof.InprojPair
public import proofs.«01_k».proof.Proof.AxbBits
public import proofs.«01_k».proof.Proof.AxbPair
public import proofs.«01_k».proof.Proof.Gen.Axb
public import proofs.«01_k».proof.Proof.Gen.AxbIdeal
public import proofs.«01_k».proof.Proof.Gen.AxbRefIdeal
public import proofs.«01_k».proof.Proof.Gen.Pre_axb_pre
public import proofs.«01_k».proof.Proof.Gen.Axb.Skeleton
public import proofs.«01_k».proof.Proof.Gen.Axb.Launch
public import proofs.«01_k».proof.Proof.Gen.Axb.Points
public import proofs.«01_k».proof.Proof.Gen.Axb.Frame
public import proofs.«01_k».proof.Proof.Gen.AxbIdeal.Skeleton
public import proofs.«01_k».proof.Proof.Gen.AxbIdeal.Launch
public import proofs.«01_k».proof.Proof.Gen.AxbIdeal.Points
public import proofs.«01_k».proof.Proof.Gen.AxbIdeal.Frame
public import proofs.«01_k».proof.Proof.Gen.AxbRefIdeal.Run
public import proofs.«01_k».proof.Proof.Gen.InprojIdeal.Value
public import proofs.«01_k».proof.Proof.Gen.Inproj
public import proofs.«01_k».proof.Proof.Gen.Inproj.Frame
public import proofs.«01_k».proof.Proof.Gen.InprojIdeal
public import proofs.«01_k».proof.Proof.Gen.InprojRefIdeal.Run
public import proofs.«01_k».proof.Proof.Gen.InprojRefIdeal
public import proofs.«01_k».proof.Proof.Gen.Pre_inproj_pre
public import proofs.«01_k».proof.Proof.Gen.FfnbIdeal.Value
public import proofs.«01_k».proof.Proof.Gen.Ffnb
public import proofs.«01_k».proof.Proof.Gen.Ffnb.Frame
public import proofs.«01_k».proof.Proof.Gen.FfnbIdeal
public import proofs.«01_k».proof.Proof.Gen.FfnbRefIdeal.Run
public import proofs.«01_k».proof.Proof.Gen.FfnbRefIdeal
public import proofs.«01_k».proof.Proof.Gen.Pre_ffnb_pre
public import proofs.«01_k».proof.Proof.Gen.OprojIdeal.Value
public import proofs.«01_k».proof.Proof.Gen.Oproj
public import proofs.«01_k».proof.Proof.Gen.OprojIdeal
public import proofs.«01_k».proof.Proof.Gen.Oproj.Frame
public import proofs.«01_k».proof.Proof.Gen.OprojRefIdeal.Run
public import proofs.«01_k».proof.Proof.Gen.OprojRefIdeal
public import proofs.«01_k».proof.Proof.Gen.Pre_oproj_pre
public import proofs.«01_k».proof.Proof.Gen.Dproj.Frame
public import proofs.«01_k».proof.Proof.Gen.Dproj
public import proofs.«01_k».proof.Proof.Gen.DprojIdeal.Frame
public import proofs.«01_k».proof.Proof.Gen.DprojIdeal.Value
public import proofs.«01_k».proof.Proof.Gen.DprojIdeal
public import proofs.«01_k».proof.Proof.Gen.DprojRefIdeal.Run
public import proofs.«01_k».proof.Proof.Gen.DprojRefIdeal
public import proofs.«01_k».proof.Proof.Gen.Pre_dproj_pre
public import proofs.«01_k».proof.Proof.Gen.Axf.Frame
public import proofs.«01_k».proof.Proof.Gen.Axf
public import proofs.«01_k».proof.Proof.Gen.AxfIdeal.Frame
public import proofs.«01_k».proof.Proof.Gen.AxfIdeal.Value
public import proofs.«01_k».proof.Proof.Gen.AxfIdeal
public import proofs.«01_k».proof.Proof.Gen.AxfRefIdeal.Run
public import proofs.«01_k».proof.Proof.Gen.AxfRefIdeal
public import proofs.«01_k».proof.Proof.Gen.Pre_axf_pre
public import proofs.«01_k».proof.Proof.Gen.Axd.Frame
public import proofs.«01_k».proof.Proof.Gen.Axd
public import proofs.«01_k».proof.Proof.Gen.AxdIdeal.Frame
public import proofs.«01_k».proof.Proof.Gen.AxdIdeal.Value
public import proofs.«01_k».proof.Proof.Gen.AxdIdeal
public import proofs.«01_k».proof.Proof.Gen.AxdRefIdeal.Run
public import proofs.«01_k».proof.Proof.Gen.AxdRefIdeal
public import proofs.«01_k».proof.Proof.Gen.Dwgu.Frame
public import proofs.«01_k».proof.Proof.Gen.Dwgu
public import proofs.«01_k».proof.Proof.Gen.DwguIdeal.Frame
public import proofs.«01_k».proof.Proof.Gen.DwguIdeal.Value
public import proofs.«01_k».proof.Proof.Gen.DwguIdeal
public import proofs.«01_k».proof.Proof.Gen.DwguRefIdeal.Run
public import proofs.«01_k».proof.Proof.Gen.DwguRefIdeal
public import Idealize.ShloMosaic.Adequacy
public import Idealize.ShloMosaic.Init

@[expose] public section

noncomputable section

-- The frames also say that every semaphore ends at zero.

namespace Cert.Proof

open Idealize.ShloMosaic Idealize.SL.Sem Cert.Loss

theorem claim : Cert.Claim := ⟨Cert.Loss.Gen.facts, Cert.LossIdeal.Gen.facts, Cert.LossRefIdeal.Gen.facts, Cert.Axb.Gen.facts, Cert.AxbIdeal.Gen.facts, Cert.AxbRefIdeal.Gen.facts, Cert.Inproj.Gen.facts, Cert.InprojIdeal.Gen.facts, Cert.InprojRefIdeal.Gen.facts, Cert.Ffnb.Gen.facts, Cert.FfnbIdeal.Gen.facts, Cert.FfnbRefIdeal.Gen.facts, Cert.Oproj.Gen.facts, Cert.OprojIdeal.Gen.facts, Cert.OprojRefIdeal.Gen.facts, Cert.Dproj.Gen.facts, Cert.DprojIdeal.Gen.facts, Cert.DprojRefIdeal.Gen.facts, Cert.Axf.Gen.facts, Cert.AxfIdeal.Gen.facts, Cert.AxfRefIdeal.Gen.facts, Cert.Axd.Gen.facts, Cert.AxdIdeal.Gen.facts, Cert.AxdRefIdeal.Gen.facts, Cert.Dwgu.Gen.facts, Cert.DwguIdeal.Gen.facts, Cert.DwguRefIdeal.Gen.facts, Cert.Pre_loss_pre.Gen.facts, Cert.Pre_axb_pre.Gen.facts, Cert.Pre_inproj_pre.Gen.facts, Cert.Pre_ffnb_pre.Gen.facts, Cert.Pre_oproj_pre.Gen.facts, Cert.Pre_dproj_pre.Gen.facts, Cert.Pre_axf_pre.Gen.facts,
  fun m ρ _ => Cert.Loss.Gen.frame m ρ,
  fun m ρ _ => Cert.LossIdeal.Gen.frame m ρ,
  fun m ρ _ => Cert.LossIdeal.Gen.frame m ρ,
  Cert.LossPair.frame_ref,
  fun m ρ _ => Cert.LossPair.frame_ref m ρ trivial,
  fun m g _ => Cert.AxbRun.frame_bits m g,
  fun m g _ => Cert.AxbRun.frame (F := Ideal) m g,
  fun m g _ => Cert.AxbRun.frame (F := Ideal) m g,
  Cert.AxbPair.frame_ref,
  fun m ρ _ => Cert.AxbPair.frame_ref m ρ trivial,
  fun m ρ _ => Cert.Inproj.Gen.frame m ρ,
  fun m ρ _ => Cert.InprojIdeal.Gen.frame m ρ,
  fun m ρ _ => Cert.InprojIdeal.Gen.frame m ρ,
  Cert.InprojPair.frame_ref,
  fun m ρ _ => Cert.InprojPair.frame_ref m ρ trivial,
  fun m ρ _ => Cert.Ffnb.Gen.frame m ρ,
  fun m ρ _ => Cert.FfnbIdeal.Gen.frame m ρ,
  fun m ρ _ => Cert.FfnbIdeal.Gen.frame m ρ,
  Cert.FfnbPair.frame_ref,
  fun m ρ _ => Cert.FfnbPair.frame_ref m ρ trivial,
  fun m ρ _ => Cert.Oproj.Gen.frame m ρ,
  fun m ρ _ => Cert.OprojIdeal.Gen.frame m ρ,
  fun m ρ _ => Cert.OprojIdeal.Gen.frame m ρ,
  Cert.OprojPair.frame_ref,
  fun m ρ _ => Cert.OprojPair.frame_ref m ρ trivial,
  fun m ρ _ => Cert.Dproj.Gen.frame m ρ,
  fun m ρ _ => Cert.DprojIdeal.Gen.frame m ρ,
  fun m ρ _ => Cert.DprojIdeal.Gen.frame m ρ,
  Cert.DprojPair.frame_ref,
  fun m ρ _ => Cert.DprojPair.frame_ref m ρ trivial,
  fun m ρ _ => Cert.Axf.Gen.frame m ρ,
  fun m ρ _ => Cert.AxfIdeal.Gen.frame m ρ,
  fun m ρ _ => Cert.AxfIdeal.Gen.frame m ρ,
  Cert.AxfPair.frame_ref,
  fun m ρ _ => Cert.AxfPair.frame_ref m ρ trivial,
  fun m ρ _ => Cert.Axd.Gen.frame m ρ,
  fun m ρ _ => Cert.AxdIdeal.Gen.frame m ρ,
  Cert.AxdPair.frame_ref,
  fun m ρ _ => Cert.Dwgu.Gen.frame m ρ,
  fun m ρ _ => Cert.DwguIdeal.Gen.frame m ρ,
  Cert.DwguPair.frame_ref,
  trivial, Cert.LossPair.algebraic,
  trivial, Cert.AxbPair.algebraic,
  trivial, Cert.InprojPair.algebraic,
  trivial, Cert.FfnbPair.algebraic,
  trivial, Cert.OprojPair.algebraic,
  trivial, Cert.DprojPair.algebraic,
  IdealRules.named_const.statement Cert.AxfIdeal.κ "inv_width" .f32 0x3B2AAAAB#32 _ rfl, Cert.AxfPair.algebraic,
  trivial, Cert.AxdPair.algebraic,
  trivial, Cert.DwguPair.algebraic⟩

end Cert.Proof

end
